-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v138) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v5_0)) (v1 : (c : Dev Cert.Kernel2Ideal.nD) → Buf (Elt Ideal) ((c.tc : Thread Cert.Kernel2Ideal.nD Cert.Kernel2Ideal.τ).loc Cert.Kernel2Ideal.main_v5_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5_0) = v0 c
          ∧ r.2.mem ((c.tc : Thread Cert.Kernel2Ideal.nD Cert.Kernel2Ideal.τ).loc Cert.Kernel2Ideal.main_v5_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v17) = v0 c
          ∧ r.2.mem ((c.tc : Thread Cert.Reference2Ideal.nD Cert.Reference2Ideal.τ).loc Cert.Reference2Ideal.main_v35) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v2_0)) (v1 : (c : Dev Cert.Kernel3Ideal.nD) → Buf (Elt Ideal) ((c.tc : Thread Cert.Kernel3Ideal.nD Cert.Kernel3Ideal.τ).loc Cert.Kernel3Ideal.main_v2_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2_0) = v0 c
          ∧ r.2.mem ((c.tc : Thread Cert.Kernel3Ideal.nD Cert.Kernel3Ideal.τ).loc Cert.Kernel3Ideal.main_v2_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_v5) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v7_0)) (v1 : (c : Dev Cert.Kernel4Ideal.nD) → Buf (Elt Ideal) ((c.tc : Thread Cert.Kernel4Ideal.nD Cert.Kernel4Ideal.τ).loc Cert.Kernel4Ideal.main_v7_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7_0) = v0 c
          ∧ r.2.mem ((c.tc : Thread Cert.Kernel4Ideal.nD Cert.Kernel4Ideal.τ).loc Cert.Kernel4Ideal.main_v7_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v25) = v0 c
          ∧ r.2.mem ((c.tc : Thread Cert.Reference4Ideal.nD Cert.Reference4Ideal.τ).loc Cert.Reference4Ideal.main_v51) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v3_0)) (v1 : (c : Dev Cert.Kernel5Ideal.nD) → Buf (Elt Ideal) ((c.tc : Thread Cert.Kernel5Ideal.nD Cert.Kernel5Ideal.τ).loc Cert.Kernel5Ideal.main_v3_1)) (v2 : (c : Dev Cert.Kernel5Ideal.nD) → Buf (Elt Ideal) ((c.tc : Thread Cert.Kernel5Ideal.nD Cert.Kernel5Ideal.τ).loc Cert.Kernel5Ideal.main_v3_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3_0) = v0 c
          ∧ r.2.mem ((c.tc : Thread Cert.Kernel5Ideal.nD Cert.Kernel5Ideal.τ).loc Cert.Kernel5Ideal.main_v3_1) = v1 c
          ∧ r.2.mem ((c.tc : Thread Cert.Kernel5Ideal.nD Cert.Kernel5Ideal.τ).loc Cert.Kernel5Ideal.main_v3_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v14) = v0 c
          ∧ r.2.mem ((c.tc : Thread Cert.Reference5Ideal.nD Cert.Reference5Ideal.τ).loc Cert.Reference5Ideal.main_v15) = v1 c
          ∧ r.2.mem ((c.tc : Thread Cert.Reference5Ideal.nD Cert.Reference5Ideal.τ).loc Cert.Reference5Ideal.main_v29) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v2_0)) (v1 : (c : Dev Cert.Kernel6Ideal.nD) → Buf (Elt Ideal) ((c.tc : Thread Cert.Kernel6Ideal.nD Cert.Kernel6Ideal.τ).loc Cert.Kernel6Ideal.main_v2_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2_0) = v0 c
          ∧ r.2.mem ((c.tc : Thread Cert.Kernel6Ideal.nD Cert.Kernel6Ideal.τ).loc Cert.Kernel6Ideal.main_v2_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_v5) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v3_0)) (v1 : (c : Dev Cert.Kernel7Ideal.nD) → Buf (Elt Ideal) ((c.tc : Thread Cert.Kernel7Ideal.nD Cert.Kernel7Ideal.τ).loc Cert.Kernel7Ideal.main_v3_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3_0) = v0 c
          ∧ r.2.mem ((c.tc : Thread Cert.Kernel7Ideal.nD Cert.Kernel7Ideal.τ).loc Cert.Kernel7Ideal.main_v3_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_v11) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v3_0)) (v1 : (c : Dev Cert.Kernel8Ideal.nD) → Buf (Elt Ideal) ((c.tc : Thread Cert.Kernel8Ideal.nD Cert.Kernel8Ideal.τ).loc Cert.Kernel8Ideal.main_v3_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3_0) = v0 c
          ∧ r.2.mem ((c.tc : Thread Cert.Kernel8Ideal.nD Cert.Kernel8Ideal.τ).loc Cert.Kernel8Ideal.main_v3_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v13) = v0 c
          ∧ r.2.mem ((c.tc : Thread Cert.Reference8Ideal.nD Cert.Reference8Ideal.τ).loc Cert.Reference8Ideal.main_v27) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v12) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v12) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)) →
    ∃ (v0 : (c : Dev Cert.Kernel11Ideal.nD) → Buf (Elt Ideal) ((c.tc : Thread Cert.Kernel11Ideal.nD Cert.Kernel11Ideal.τ).loc Cert.Kernel11Ideal.main_v3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v3) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v32) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Pre_finite.lean ====
abbrev S4x2048x16x128 : Shape := ⟨4, ![4, 2048, 16, 128]⟩
abbrev S32x16 : Shape := ⟨2, ![32, 16]⟩
abbrev S_ : Shape := ⟨0, ![]⟩

class Facts : Prop where
  bcast_S_S4x2048x16x128 : S_.BroadcastsInDim S4x2048x16x128 (![] : Fin 0 → Fin S4x2048x16x128.rank)
  reducesTo_S4x2048x16x128_S_d0_1_2_3 : S4x2048x16x128.ReducesTo [0, 1, 2, 3] S_
  h_S_ : 0 < S_.numel
  bcast_S_S32x16 : S_.BroadcastsInDim S32x16 (![] : Fin 0 → Fin S32x16.rank)
  reducesTo_S32x16_S_d0_1 : S32x16.ReducesTo [0, 1] S_

variable [Facts]

def fn {F : FTy → Type} [FloatOps F] (main_arg0 : FVec F S4x2048x16x128 .f32) (main_arg1 : FVec F S4x2048x16x128 .f32) (main_arg2 : FVec F S4x2048x16x128 .f32) (main_arg3 : FVec F S32x16 .f32) : IVec S_ 1 :=
  let main_v0 : FVec F S4x2048x16x128 .f32 := Host.absf main_arg0
  let main_cst : FVec F S_ .f32 := constant S_ .f32 0x7F800000#32
  let main_v1 : FVec F S4x2048x16x128 .f32 := broadcastInDim S4x2048x16x128 ![] bcast_S_S4x2048x16x128 main_cst
  let main_v2 : IVec S4x2048x16x128 1 := cmpf .olt main_v0 main_v1
  let main_c : IVec S_ 1 := constantI S_ 1 1#1
  let main_v3 : IVec S_ 1 := (fun x v => Host.reduce IntOp.andi x v reducesTo_S4x2048x16x128_S_d0_1_2_3 h_S_) main_v2 main_c
  let main_v4 : FVec F S4x2048x16x128 .f32 := Host.absf main_arg1
  let main_cst_0 : FVec F S_ .f32 := constant S_ .f32 0x7F800000#32
  let main_v5 : FVec F S4x2048x16x128 .f32 := broadcastInDim S4x2048x16x128 ![] bcast_S_S4x2048x16x128 main_cst_0
  let main_v6 : IVec S4x2048x16x128 1 := cmpf .olt main_v4 main_v5
  let main_c_1 : IVec S_ 1 := constantI S_ 1 1#1
  let main_v7 : IVec S_ 1 := (fun x v => Host.reduce IntOp.andi x v reducesTo_S4x2048x16x128_S_d0_1_2_3 h_S_) main_v6 main_c_1
  let main_v8 : IVec S_ 1 := andi main_v3 main_v7
  let main_v9 : FVec F S32x16 .f32 := Host.absf main_arg3
  let main_cst_2 : FVec F S_ .f32 := constant S_ .f32 0x7F800000#32
  let main_v10 : FVec F S32x16 .f32 := broadcastInDim S32x16 ![] bcast_S_S32x16 main_cst_2
  let main_v11 : IVec S32x16 1 := cmpf .olt main_v9 main_v10
  let main_c_3 : IVec S_ 1 := constantI S_ 1 1#1
  let main_v12 : IVec S_ 1 := (fun x v => Host.reduce IntOp.andi x v reducesTo_S32x16_S_d0_1 h_S_) main_v11 main_c_3
  let main_v13 : IVec S_ 1 := andi main_v8 main_v12
  main_v13
-- ==== Kernel.lean ====
abbrev S4x2048x16x128 : Shape := ⟨4, ![4, 2048, 16, 128]⟩
abbrev S32x16 : Shape := ⟨2, ![32, 16]⟩
abbrev S_ : Shape := ⟨0, ![]⟩
abbrev S8192x2048 : Shape := ⟨2, ![8192, 2048]⟩
abbrev S16x2x256x256 : Shape := ⟨4, ![16, 2, 256, 256]⟩
abbrev S1x2x256x256 : Shape := ⟨4, ![1, 2, 256, 256]⟩
abbrev S256x256 : Shape := ⟨2, ![256, 256]⟩
abbrev S1x1 : Shape := ⟨2, ![1, 1]⟩
abbrev S1x1x256x256 : Shape := ⟨4, ![1, 1, 256, 256]⟩
abbrev S2048x128 : Shape := ⟨2, ![2048, 128]⟩
abbrev S2048x256 : Shape := ⟨2, ![2048, 256]⟩
abbrev S2048x2048 : Shape := ⟨2, ![2048, 2048]⟩
abbrev S16x2048 : Shape := ⟨2, ![16, 2048]⟩
abbrev S16x128 : Shape := ⟨2, ![16, 128]⟩
abbrev S8x2048 : Shape := ⟨2, ![8, 2048]⟩
abbrev S1x2048 : Shape := ⟨2, ![1, 2048]⟩
abbrev S120x2048 : Shape := ⟨2, ![120, 2048]⟩
abbrev S128x2048 : Shape := ⟨2, ![128, 2048]⟩
abbrev S1792x256 : Shape := ⟨2, ![1792, 256]⟩
abbrev S1536x256 : Shape := ⟨2, ![1536, 256]⟩
abbrev S1280x256 : Shape := ⟨2, ![1280, 256]⟩
abbrev S1024x256 : Shape := ⟨2, ![1024, 256]⟩
abbrev S768x256 : Shape := ⟨2, ![768, 256]⟩
abbrev S512x256 : Shape := ⟨2, ![512, 256]⟩
abbrev S256 : Shape := ⟨1, ![256]⟩
abbrev S256x1 : Shape := ⟨2, ![256, 1]⟩
abbrev S256x512 : Shape := ⟨2, ![256, 512]⟩
abbrev S256x768 : Shape := ⟨2, ![256, 768]⟩
abbrev S256x1024 : Shape := ⟨2, ![256, 1024]⟩
abbrev S256x1280 : Shape := ⟨2, ![256, 1280]⟩
abbrev S256x1536 : Shape := ⟨2, ![256, 1536]⟩
abbrev S256x1792 : Shape := ⟨2, ![256, 1792]⟩
abbrev S256x2048 : Shape := ⟨2, ![256, 2048]⟩
abbrev S2048x1 : Shape := ⟨2, ![2048, 1]⟩

abbrev nBuf : Space → Nat
  | .hbm => 21
  | .vmem => 17
  | .smem => 1
  | _ => 0

abbrev bufTy : (tb : Table) → Fin (tcTables nBuf tb) → BufTy
  | .hbm, ⟨0, _⟩ => ⟨S4x2048x16x128, .f32⟩
  | .hbm, ⟨1, _⟩ => ⟨S4x2048x16x128, .f32⟩
  | .hbm, ⟨2, _⟩ => ⟨S4x2048x16x128, .f32⟩
  | .hbm, ⟨3, _⟩ => ⟨S32x16, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S8192x2048, .bf16⟩
  | .hbm, ⟨15, _⟩ => ⟨S8192x2048, .f32⟩
  | .hbm, ⟨16, _⟩ => ⟨S8192x2048, .bf16⟩
  | .hbm, ⟨17, _⟩ => ⟨S8192x2048, .f32⟩
  | .hbm, ⟨18, _⟩ => ⟨S8192x2048, .bf16⟩
  | .hbm, ⟨19, _⟩ => ⟨S16x2x256x256, .f32⟩
  | .hbm, ⟨20, _⟩ => ⟨S8192x2048, .bf16⟩
  | .local _ .vmem, ⟨0, _⟩ => ⟨S1x2x256x256, .f32⟩
  | .local _ .vmem, ⟨1, _⟩ => ⟨S1x2x256x256, .f32⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S1x2x256x256, .f32⟩
  | .local _ .vmem, ⟨9, _⟩ => ⟨S1x2x256x256, .f32⟩
  | .local _ .vmem, ⟨10, _⟩ => ⟨S2048x128, .bf16⟩
  | .local _ .vmem, ⟨11, _⟩ => ⟨S2048x128, .bf16⟩
  | .local _ .vmem, ⟨12, _⟩ => ⟨S2048x256, .bf16⟩
  | .local _ .vmem, ⟨13, _⟩ => ⟨S2048x256, .bf16⟩
  | .local _ .vmem, ⟨14, _⟩ => ⟨S2048x2048, .f32⟩
  | .local _ .vmem, ⟨15, _⟩ => ⟨S2048x2048, .bf16⟩
  | .local _ .vmem, ⟨16, _⟩ => ⟨S2048x256, .f32⟩
  | .local _ .smem, ⟨0, _⟩ => ⟨S32x16, .f32⟩
  | _, _ => ⟨S4x2048x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev cc0_stg1_0 : Ref sig .tc := ⟨.vmem, 0, rfl⟩
abbrev cc0_stg1_1 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg3_1 : Ref sig .tc := ⟨.vmem, 9, rfl⟩
abbrev cc1_stg4_0 : Ref sig .tc := ⟨.vmem, 10, rfl⟩
abbrev cc1_stg4_1 : Ref sig .tc := ⟨.vmem, 11, rfl⟩
abbrev cc1_scratch0 : Ref sig .tc := ⟨.vmem, 12, rfl⟩
abbrev cc1_scratch1 : Ref sig .tc := ⟨.vmem, 13, rfl⟩
abbrev cc1_scratch2 : Ref sig .tc := ⟨.vmem, 14, rfl⟩
abbrev cc1_scratch3 : Ref sig .tc := ⟨.vmem, 15, rfl⟩
abbrev cc1_scratch4 : Ref sig .tc := ⟨.vmem, 16, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem2_1 : DmaSem sig := 8
abbrev cc1_sem3_0 : DmaSem sig := 9
abbrev cc1_sem3_1 : DmaSem sig := 10
abbrev cc1_sem4_0 : DmaSem sig := 11
abbrev cc1_sem4_1 : DmaSem sig := 12

abbrev nD : Nat := 1
abbrev τ : Topo := Topo.v7x

variable {F : FTy → Type} [FloatOps F]

abbrev grid0 : Pipeline.Grid := ⟨1, ![16], ![false]⟩

def k0_off1 (i : grid0.Coords) : Fin 2 → Nat :=
  let c31 : Index := 31#32
  let arg0 : BitVec 32 := BitVec.ofNat 32 (i 0).val
  let v2 : Index := Scalar.indexCast arg0
  ![31, v2.toNat]
def k0_off2 (i : grid0.Coords) : Fin 2 → Nat :=
  let c0 : Index := 0#32
  let arg0 : BitVec 32 := BitVec.ofNat 32 (i 0).val
  let v5 : Index := Scalar.indexCast arg0
  ![0, v5.toNat]
def k0_off3 (i : grid0.Coords) : Fin 2 → Nat :=
  let c1 : Index := 1#32
  let arg0 : BitVec 32 := BitVec.ofNat 32 (i 0).val
  let v10 : Index := Scalar.indexCast arg0
  ![1, v10.toNat]
def k0_off4 (i : grid0.Coords) : Fin 2 → Nat :=
  let c2 : Index := 2#32
  let arg0 : BitVec 32 := BitVec.ofNat 32 (i 0).val
  let v16 : Index := Scalar.indexCast arg0
  ![2, v16.toNat]
def k0_off5 (i : grid0.Coords) : Fin 2 → Nat :=
  let c3 : Index := 3#32
  let arg0 : BitVec 32 := BitVec.ofNat 32 (i 0).val
  let v22 : Index := Scalar.indexCast arg0
  ![3, v22.toNat]
def k0_off6 (i : grid0.Coords) : Fin 2 → Nat :=
  let c4 : Index := 4#32
  let arg0 : BitVec 32 := BitVec.ofNat 32 (i 0).val
  let v28 : Index := Scalar.indexCast arg0
  ![4, v28.toNat]
def k0_off7 (i : grid0.Coords) : Fin 2 → Nat :=
  let c5 : Index := 5#32
  let arg0 : BitVec 32 := BitVec.ofNat 32 (i 0).val
  let v34 : Index := Scalar.indexCast arg0
  ![5, v34.toNat]
def k0_off8 (i : grid0.Coords) : Fin 2 → Nat :=
  let c6 : Index := 6#32
  let arg0 : BitVec 32 := BitVec.ofNat 32 (i 0).val
  let v40 : Index := Scalar.indexCast arg0
  ![6, v40.toNat]
def k0_off9 (i : grid0.Coords) : Fin 2 → Nat :=
  let c7 : Index := 7#32
  let arg0 : BitVec 32 := BitVec.ofNat 32 (i 0).val
  let v46 : Index := Scalar.indexCast arg0
  ![7, v46.toNat]
def k0_off10 (i : grid0.Coords) : Fin 2 → Nat :=
  let c8 : Index := 8#32
  let arg0 : BitVec 32 := BitVec.ofNat 32 (i 0).val
  let v52 : Index := Scalar.indexCast arg0
  ![8, v52.toNat]
def k0_off11 (i : grid0.Coords) : Fin 2 → Nat :=
  let c9 : Index := 9#32
  let arg0 : BitVec 32 := BitVec.ofNat 32 (i 0).val
  let v58 : Index := Scalar.indexCast arg0
  ![9, v58.toNat]
def k0_off12 (i : grid0.Coords) : Fin 2 → Nat :=
  let c10 : Index := 10#32
  let arg0 : BitVec 32 := BitVec.ofNat 32 (i 0).val
  let v64 : Index := Scalar.indexCast arg0
  ![10, v64.toNat]
def k0_off13 (i : grid0.Coords) : Fin 2 → Nat :=
  let c11 : Index := 11#32
  let arg0 : BitVec 32 := BitVec.ofNat 32 (i 0).val
  let v70 : Index := Scalar.indexCast arg0
  ![11, v70.toNat]
def k0_off14 (i : grid0.Coords) : Fin 2 → Nat :=
  let c12 : Index := 12#32
  let arg0 : BitVec 32 := BitVec.ofNat 32 (i 0).val
  let v76 : Index := Scalar.indexCast arg0
  ![12, v76.toNat]
def k0_off15 (i : grid0.Coords) : Fin 2 → Nat :=
  let c13 : Index := 13#32
  let arg0 : BitVec 32 := BitVec.ofNat 32 (i 0).val
  let v82 : Index := Scalar.indexCast arg0
  ![13, v82.toNat]
def k0_off16 (i : grid0.Coords) : Fin 2 → Nat :=
  let c14 : Index := 14#32
  let arg0 : BitVec 32 := BitVec.ofNat 32 (i 0).val
  let v88 : Index := Scalar.indexCast arg0
  ![14, v88.toNat]
def k0_off17 (i : grid0.Coords) : Fin 2 → Nat :=
  let c15 : Index := 15#32
  let arg0 : BitVec 32 := BitVec.ofNat 32 (i 0).val
  let v94 : Index := Scalar.indexCast arg0
  ![15, v94.toNat]
def k0_off18 (i : grid0.Coords) : Fin 2 → Nat :=
  let c16 : Index := 16#32
  let arg0 : BitVec 32 := BitVec.ofNat 32 (i 0).val
  let v100 : Index := Scalar.indexCast arg0
  ![16, v100.toNat]
def k0_off19 (i : grid0.Coords) : Fin 2 → Nat :=
  let c17 : Index := 17#32
  let arg0 : BitVec 32 := BitVec.ofNat 32 (i 0).val
  let v106 : Index := Scalar.indexCast arg0
  ![17, v106.toNat]
def k0_off20 (i : grid0.Coords) : Fin 2 → Nat :=
  let c18 : Index := 18#32
  let arg0 : BitVec 32 := BitVec.ofNat 32 (i 0).val
  let v112 : Index := Scalar.indexCast arg0
  ![18, v112.toNat]
def k0_off21 (i : grid0.Coords) : Fin 2 → Nat :=
  let c19 : Index := 19#32
  let arg0 : BitVec 32 := BitVec.ofNat 32 (i 0).val
  let v118 : Index := Scalar.indexCast arg0
  ![19, v118.toNat]
def k0_off22 (i : grid0.Coords) : Fin 2 → Nat :=
  let c20 : Index := 20#32
  let arg0 : BitVec 32 := BitVec.ofNat 32 (i 0).val
  let v124 : Index := Scalar.indexCast arg0
  ![20, v124.toNat]
def k0_off23 (i : grid0.Coords) : Fin 2 → Nat :=
  let c21 : Index := 21#32
  let arg0 : BitVec 32 := BitVec.ofNat 32 (i 0).val
  let v130 : Index := Scalar.indexCast arg0
  ![21, v130.toNat]
def k0_off24 (i : grid0.Coords) : Fin 2 → Nat :=
  let c22 : Index := 22#32
  let arg0 : BitVec 32 := BitVec.ofNat 32 (i 0).val
  let v136 : Index := Scalar.indexCast arg0
  ![22, v136.toNat]
def k0_off25 (i : grid0.Coords) : Fin 2 → Nat :=
  let c23 : Index := 23#32
  let arg0 : BitVec 32 := BitVec.ofNat 32 (i 0).val
  let v142 : Index := Scalar.indexCast arg0
  ![23, v142.toNat]
def k0_off26 (i : grid0.Coords) : Fin 2 → Nat :=
  let c24 : Index := 24#32
  let arg0 : BitVec 32 := BitVec.ofNat 32 (i 0).val
  let v148 : Index := Scalar.indexCast arg0
  ![24, v148.toNat]
def k0_off27 (i : grid0.Coords) : Fin 2 → Nat :=
  let c25 : Index := 25#32
  let arg0 : BitVec 32 := BitVec.ofNat 32 (i 0).val
  let v154 : Index := Scalar.indexCast arg0
  ![25, v154.toNat]
def k0_off28 (i : grid0.Coords) : Fin 2 → Nat :=
  let c26 : Index := 26#32
  let arg0 : BitVec 32 := BitVec.ofNat 32 (i 0).val
  let v160 : Index := Scalar.indexCast arg0
  ![26, v160.toNat]
def k0_off29 (i : grid0.Coords) : Fin 2 → Nat :=
  let c27 : Index := 27#32
  let arg0 : BitVec 32 := BitVec.ofNat 32 (i 0).val
  let v166 : Index := Scalar.indexCast arg0
  ![27, v166.toNat]
def k0_off30 (i : grid0.Coords) : Fin 2 → Nat :=
  let c28 : Index := 28#32
  let arg0 : BitVec 32 := BitVec.ofNat 32 (i 0).val
  let v172 : Index := Scalar.indexCast arg0
  ![28, v172.toNat]
def k0_off31 (i : grid0.Coords) : Fin 2 → Nat :=
  let c29 : Index := 29#32
  let arg0 : BitVec 32 := BitVec.ofNat 32 (i 0).val
  let v178 : Index := Scalar.indexCast arg0
  ![29, v178.toNat]
def k0_off32 (i : grid0.Coords) : Fin 2 → Nat :=
  let c30 : Index := 30#32
  let arg0 : BitVec 32 := BitVec.ofNat 32 (i 0).val
  let v184 : Index := Scalar.indexCast arg0
  ![30, v184.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .smem S32x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x2x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![4, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S2048x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x2x256x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S2048x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]
-- ==== KernelIdeal.lean ====
variable {F : FTy → Type} [FloatOps F] [Named F]
def κ : String → Option EReal := fun
  | "log2e" => some (((Real.log 2)⁻¹ : ℝ) : EReal)
  | "mask" => some ⊥
  | _ => none
-- ==== ReferenceIdeal.lean ====
abbrev S4x2048x16x128 : Shape := ⟨4, ![4, 2048, 16, 128]⟩
abbrev S32x16 : Shape := ⟨2, ![32, 16]⟩
abbrev S4x16x2048x128 : Shape := ⟨4, ![4, 16, 2048, 128]⟩
abbrev S4x16x8x256x128 : Shape := ⟨5, ![4, 16, 8, 256, 128]⟩
abbrev S_ : Shape := ⟨0, ![]⟩
abbrev S4x16x8x128 : Shape := ⟨4, ![4, 16, 8, 128]⟩
abbrev S16x32 : Shape := ⟨2, ![16, 32]⟩
abbrev S256 : Shape := ⟨1, ![256]⟩
abbrev S2048 : Shape := ⟨1, ![2048]⟩
abbrev S4x16x2048x8 : Shape := ⟨4, ![4, 16, 2048, 8]⟩
abbrev S8 : Shape := ⟨1, ![8]⟩
abbrev S2048x1 : Shape := ⟨2, ![2048, 1]⟩
abbrev S1x8 : Shape := ⟨2, ![1, 8]⟩
abbrev S2048x8 : Shape := ⟨2, ![2048, 8]⟩
abbrev S4x16x2048x3 : Shape := ⟨4, ![4, 16, 2048, 3]⟩
abbrev S4x16x2048x3x1 : Shape := ⟨5, ![4, 16, 2048, 3, 1]⟩
abbrev S1x1x1x1x256 : Shape := ⟨5, ![1, 1, 1, 1, 256]⟩
abbrev S4x16x2048x3x256 : Shape := ⟨5, ![4, 16, 2048, 3, 256]⟩
abbrev S4x16x2048x768 : Shape := ⟨4, ![4, 16, 2048, 768]⟩
abbrev S4x16x2048x768x1 : Shape := ⟨5, ![4, 16, 2048, 768, 1]⟩
abbrev S4x16x2048x768x128 : Shape := ⟨5, ![4, 16, 2048, 768, 128]⟩
abbrev S1x1x2048x1 : Shape := ⟨4, ![1, 1, 2048, 1]⟩
abbrev S16x4x2048x768 : Shape := ⟨4, ![16, 4, 2048, 768]⟩
abbrev S16x4x2048x768x1 : Shape := ⟨5, ![16, 4, 2048, 768, 1]⟩
abbrev S256x1 : Shape := ⟨2, ![256, 1]⟩
abbrev S1x256 : Shape := ⟨2, ![1, 256]⟩
abbrev S256x256 : Shape := ⟨2, ![256, 256]⟩
abbrev S256x256x1 : Shape := ⟨3, ![256, 256, 1]⟩
abbrev S16x256x256 : Shape := ⟨3, ![16, 256, 256]⟩
abbrev S4x16x8x256x256 : Shape := ⟨5, ![4, 16, 8, 256, 256]⟩
abbrev S16x1x256x256 : Shape := ⟨4, ![16, 1, 256, 256]⟩
abbrev S1x16x1x256x256 : Shape := ⟨5, ![1, 16, 1, 256, 256]⟩
abbrev S4x16x2048x256 : Shape := ⟨4, ![4, 16, 2048, 256]⟩
abbrev S4x16x2048 : Shape := ⟨3, ![4, 16, 2048]⟩
abbrev S4x16x2048x1 : Shape := ⟨4, ![4, 16, 2048, 1]⟩
abbrev S8192x2048 : Shape := ⟨2, ![8192, 2048]⟩

abbrev nBuf : Space → Nat
  | .hbm => 183
  | .vmem => 0
  | .smem => 0
  | _ => 0

abbrev hbmTy0_0 (i : Nat) : BufTy := match i % 128 with
  | 0 => ⟨S4x2048x16x128, .f32⟩
  | 1 => ⟨S4x2048x16x128, .f32⟩
  | 2 => ⟨S4x2048x16x128, .f32⟩
  | 3 => ⟨S32x16, .f32⟩
  | 4 => ⟨S4x16x2048x128, .f32⟩
  | 5 => ⟨S4x16x2048x128, .f32⟩
  | 6 => ⟨S4x16x2048x128, .f32⟩
  | 7 => ⟨S4x16x8x256x128, .f32⟩
  | 8 => ⟨S_, .f32⟩
  | 9 => ⟨S4x16x8x128, .f32⟩
  | 10 => ⟨S_, .f32⟩
  | 11 => ⟨S4x16x8x128, .f32⟩
  | 12 => ⟨S4x16x8x128, .f32⟩
  | 13 => ⟨S16x32, .f32⟩
  | 14 => ⟨S256, .i32⟩
  | 15 => ⟨S_, .f32⟩
  | 16 => ⟨S_, .f32⟩
  | 17 => ⟨S2048, .i32⟩
  | 18 => ⟨S_, .i32⟩
  | 19 => ⟨S2048, .i32⟩
  | 20 => ⟨S2048, .i32⟩
  | 21 => ⟨S4x16x2048x8, .f32⟩
  | 22 => ⟨S8, .i32⟩
  | 23 => ⟨S2048x1, .i32⟩
  | 24 => ⟨S1x8, .i32⟩
  | 25 => ⟨S2048x8, .i32⟩
  | 26 => ⟨S2048x8, .i32⟩
  | 27 => ⟨S2048x8, .i1⟩
  | 28 => ⟨S_, .f32⟩
  | 29 => ⟨S_, .f32⟩
  | 30 => ⟨S4x16x2048x8, .i1⟩
  | 31 => ⟨S4x16x2048x8, .f32⟩
  | 32 => ⟨S4x16x2048x8, .f32⟩
  | 33 => ⟨S4x16x2048x3, .f32⟩
  | 34 => ⟨S4x16x2048x3, .i32⟩
  | 35 => ⟨S4x16x2048x3x1, .i32⟩
  | 36 => ⟨S_, .i32⟩
  | 37 => ⟨S4x16x2048x3x1, .i32⟩
  | 38 => ⟨S4x16x2048x3x1, .i32⟩
  | 39 => ⟨S1x1x1x1x256, .i32⟩
  | 40 => ⟨S4x16x2048x3x256, .i32⟩
  | 41 => ⟨S4x16x2048x3x256, .i32⟩
  | 42 => ⟨S4x16x2048x3x256, .i32⟩
  | 43 => ⟨S4x16x2048x768, .i32⟩
  | 44 => ⟨S4x16x2048x768x1, .i32⟩
  | 45 => ⟨S4x16x2048x768x128, .f32⟩
  | 46 => ⟨S4x16x2048x768x1, .i32⟩
  | 47 => ⟨S4x16x2048x768x128, .f32⟩
  | 48 => ⟨S2048x1, .i32⟩
  | 49 => ⟨S1x1x2048x1, .i32⟩
  | 50 => ⟨S4x16x2048x768, .i32⟩
  | 51 => ⟨S4x16x2048x768, .i32⟩
  | 52 => ⟨S_, .i32⟩
  | 53 => ⟨S4x16x2048x768, .i32⟩
  | 54 => ⟨S4x16x2048x768, .i32⟩
  | 55 => ⟨S_, .i32⟩
  | 56 => ⟨S4x16x2048x768, .i32⟩
  | 57 => ⟨S4x16x2048x768, .i32⟩
  | 58 => ⟨S4x16x2048x768, .f32⟩
  | 59 => ⟨S_, .f32⟩
  | 60 => ⟨S4x16x2048x768, .f32⟩
  | 61 => ⟨S4x16x2048x768, .f32⟩
  | 62 => ⟨S4x16x2048x768, .f32⟩
  | 63 => ⟨S_, .f32⟩
  | 64 => ⟨S_, .f32⟩
  | 65 => ⟨S4x16x2048x768, .f32⟩
  | 66 => ⟨S4x16x2048x768, .f32⟩
  | 67 => ⟨S_, .f32⟩
  | 68 => ⟨S4x16x2048x768, .f32⟩
  | 69 => ⟨S4x16x2048x768, .f32⟩
  | 70 => ⟨S4x16x2048x768, .i32⟩
  | 71 => ⟨S_, .i32⟩
  | 72 => ⟨S4x16x2048x768, .i32⟩
  | 73 => ⟨S4x16x2048x768, .i32⟩
  | 74 => ⟨S_, .i32⟩
  | 75 => ⟨S4x16x2048x768, .i32⟩
  | 76 => ⟨S4x16x2048x768, .i32⟩
  | 77 => ⟨S_, .i32⟩
  | 78 => ⟨S4x16x2048x768, .i32⟩
  | 79 => ⟨S4x16x2048x768, .i1⟩
  | 80 => ⟨S4x16x2048x768, .i32⟩
  | 81 => ⟨S16x4x2048x768, .i32⟩
  | 82 => ⟨S16x4x2048x768x1, .i32⟩
  | 83 => ⟨S16x4x2048x768, .f32⟩
  | 84 => ⟨S4x16x2048x768, .f32⟩
  | 85 => ⟨S4x16x2048x768, .f32⟩
  | 86 => ⟨S4x16x2048x768, .f32⟩
  | 87 => ⟨S4x16x2048x768, .f32⟩
  | 88 => ⟨S4x16x2048x768, .f32⟩
  | 89 => ⟨S2048x1, .i32⟩
  | 90 => ⟨S_, .i32⟩
  | 91 => ⟨S2048x1, .i32⟩
  | 92 => ⟨S2048x1, .i32⟩
  | 93 => ⟨S1x1x2048x1, .i32⟩
  | 94 => ⟨S4x16x2048x768, .i32⟩
  | 95 => ⟨S4x16x2048x768, .i1⟩
  | 96 => ⟨S_, .f32⟩
  | 97 => ⟨S_, .f32⟩
  | 98 => ⟨S4x16x2048x768, .f32⟩
  | 99 => ⟨S4x16x2048x768, .f32⟩
  | 100 => ⟨S256x1, .i32⟩
  | 101 => ⟨S1x256, .i32⟩
  | 102 => ⟨S256x256, .i32⟩
  | 103 => ⟨S256x256, .i32⟩
  | 104 => ⟨S256x256, .i32⟩
  | 105 => ⟨S4x16x8x256x128, .f32⟩
  | 106 => ⟨S_, .i32⟩
  | 107 => ⟨S256x256, .i32⟩
  | 108 => ⟨S256x256, .i32⟩
  | 109 => ⟨S_, .i32⟩
  | 110 => ⟨S256x256, .i32⟩
  | 111 => ⟨S256x256, .i32⟩
  | 112 => ⟨S256x256, .f32⟩
  | 113 => ⟨S_, .f32⟩
  | 114 => ⟨S256x256, .f32⟩
  | 115 => ⟨S256x256, .f32⟩
  | 116 => ⟨S256x256, .f32⟩
  | 117 => ⟨S_, .f32⟩
  | 118 => ⟨S_, .f32⟩
  | 119 => ⟨S256x256, .f32⟩
  | 120 => ⟨S256x256, .f32⟩
  | 121 => ⟨S_, .f32⟩
  | 122 => ⟨S256x256, .f32⟩
  | 123 => ⟨S256x256, .f32⟩
  | 124 => ⟨S256x256, .i32⟩
  | 125 => ⟨S_, .i32⟩
  | 126 => ⟨S256x256, .i32⟩
  | 127 => ⟨S256x256, .i32⟩
  | _ => ⟨S4x2048x16x128, .f32⟩

abbrev hbmTy0_1 (i : Nat) : BufTy := match i % 128 with
  | 0 => ⟨S_, .i32⟩
  | 1 => ⟨S256x256, .i32⟩
  | 2 => ⟨S256x256, .i32⟩
  | 3 => ⟨S_, .i32⟩
  | 4 => ⟨S256x256, .i32⟩
  | 5 => ⟨S256x256, .i1⟩
  | 6 => ⟨S256x256, .i32⟩
  | 7 => ⟨S256x256x1, .i32⟩
  | 8 => ⟨S16x256x256, .f32⟩
  | 9 => ⟨S4x16x8x256x256, .f32⟩
  | 10 => ⟨S4x16x8x256x256, .f32⟩
  | 11 => ⟨S4x16x8x256x256, .f32⟩
  | 12 => ⟨S16x1x256x256, .f32⟩
  | 13 => ⟨S1x16x1x256x256, .f32⟩
  | 14 => ⟨S4x16x8x256x256, .f32⟩
  | 15 => ⟨S4x16x8x256x256, .f32⟩
  | 16 => ⟨S_, .i32⟩
  | 17 => ⟨S256x256, .i32⟩
  | 18 => ⟨S256x256, .i1⟩
  | 19 => ⟨S_, .f32⟩
  | 20 => ⟨S_, .f32⟩
  | 21 => ⟨S4x16x8x256x256, .i1⟩
  | 22 => ⟨S4x16x8x256x256, .f32⟩
  | 23 => ⟨S4x16x8x256x256, .f32⟩
  | 24 => ⟨S4x16x2048x256, .f32⟩
  | 25 => ⟨S_, .f32⟩
  | 26 => ⟨S4x16x2048, .f32⟩
  | 27 => ⟨S_, .f32⟩
  | 28 => ⟨S4x16x2048, .f32⟩
  | 29 => ⟨S4x16x2048, .f32⟩
  | 30 => ⟨S4x16x2048x1, .f32⟩
  | 31 => ⟨S4x16x2048x256, .f32⟩
  | 32 => ⟨S4x16x2048x256, .f32⟩
  | 33 => ⟨S4x16x2048x256, .f32⟩
  | 34 => ⟨S4x16x2048x1, .f32⟩
  | 35 => ⟨S4x16x2048x768, .f32⟩
  | 36 => ⟨S4x16x2048x768, .f32⟩
  | 37 => ⟨S4x16x2048x768, .f32⟩
  | 38 => ⟨S_, .f32⟩
  | 39 => ⟨S4x16x2048, .f32⟩
  | 40 => ⟨S_, .f32⟩
  | 41 => ⟨S4x16x2048, .f32⟩
  | 42 => ⟨S4x16x2048, .f32⟩
  | 43 => ⟨S4x16x8x256x256, .f32⟩
  | 44 => ⟨S4x16x8x256x128, .f32⟩
  | 45 => ⟨S4x16x8x256x128, .f32⟩
  | 46 => ⟨S4x16x2048x128, .f32⟩
  | 47 => ⟨S4x16x2048x128, .f32⟩
  | 48 => ⟨S4x16x2048x128, .f32⟩
  | 49 => ⟨S4x16x2048x1, .f32⟩
  | 50 => ⟨S4x16x2048x128, .f32⟩
  | 51 => ⟨S4x16x2048x128, .f32⟩
  | 52 => ⟨S4x2048x16x128, .f32⟩
  | 53 => ⟨S8192x2048, .f32⟩
  | 54 => ⟨S8192x2048, .bf16⟩
  | _ => ⟨S4x2048x16x128, .f32⟩

abbrev hbmTy (i : Nat) : BufTy := match i / 128 with
  | 0 => hbmTy0_0 i
  | 1 => hbmTy0_1 i
  | _ => ⟨S4x2048x16x128, .f32⟩

abbrev bufTy : (tb : Table) → Fin (tcTables nBuf tb) → BufTy
  | .hbm, ⟨i, _⟩ => hbmTy i
  | _, _ => ⟨S4x2048x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v20 : Ref sig .tc := ⟨.hbm, 32, rfl⟩
abbrev main_values : Ref sig .tc := ⟨.hbm, 33, rfl⟩
abbrev main_indices : Ref sig .tc := ⟨.hbm, 34, rfl⟩
abbrev main_v21 : Ref sig .tc := ⟨.hbm, 35, rfl⟩
abbrev main_c_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_c_4 : Ref sig .tc := ⟨.hbm, 52, rfl⟩
abbrev main_v37 : Ref sig .tc := ⟨.hbm, 53, rfl⟩
abbrev main_v38 : Ref sig .tc := ⟨.hbm, 54, rfl⟩
abbrev main_c_5 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_6 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_7 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_8 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_c_9 : Ref sig .tc := ⟨.hbm, 71, rfl⟩
abbrev main_v51 : Ref sig .tc := ⟨.hbm, 72, rfl⟩
abbrev main_v52 : Ref sig .tc := ⟨.hbm, 73, rfl⟩
abbrev main_c_10 : Ref sig .tc := ⟨.hbm, 74, rfl⟩
abbrev main_v53 : Ref sig .tc := ⟨.hbm, 75, rfl⟩
abbrev main_v54 : Ref sig .tc := ⟨.hbm, 76, rfl⟩
abbrev main_c_11 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_c_12 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_cst_13 : Ref sig .tc := ⟨.hbm, 96, rfl⟩
abbrev main_call2_v0 : Ref sig .tc := ⟨.hbm, 97, rfl⟩
abbrev main_call2_v1 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_c_14 : Ref sig .tc := ⟨.hbm, 106, rfl⟩
abbrev main_v79 : Ref sig .tc := ⟨.hbm, 107, rfl⟩
abbrev main_v80 : Ref sig .tc := ⟨.hbm, 108, rfl⟩
abbrev main_c_15 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_cst_16 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_cst_17 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_cst_18 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_c_19 : Ref sig .tc := ⟨.hbm, 125, rfl⟩
abbrev main_v93 : Ref sig .tc := ⟨.hbm, 126, rfl⟩
abbrev main_v94 : Ref sig .tc := ⟨.hbm, 127, rfl⟩
abbrev main_c_20 : Ref sig .tc := ⟨.hbm, 128, rfl⟩
abbrev main_v95 : Ref sig .tc := ⟨.hbm, 129, rfl⟩
abbrev main_v96 : Ref sig .tc := ⟨.hbm, 130, rfl⟩
abbrev main_c_21 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_c_22 : Ref sig .tc := ⟨.hbm, 144, rfl⟩
abbrev main_v109 : Ref sig .tc := ⟨.hbm, 145, rfl⟩
abbrev main_v110 : Ref sig .tc := ⟨.hbm, 146, rfl⟩
abbrev main_cst_23 : Ref sig .tc := ⟨.hbm, 147, rfl⟩
abbrev main_call4_v0 : Ref sig .tc := ⟨.hbm, 148, rfl⟩
abbrev main_call4_v1 : Ref sig .tc := ⟨.hbm, 149, rfl⟩
abbrev main_call4_v2 : Ref sig .tc := ⟨.hbm, 150, rfl⟩
abbrev main_v111 : Ref sig .tc := ⟨.hbm, 151, rfl⟩
abbrev main_v112 : Ref sig .tc := ⟨.hbm, 152, rfl⟩
abbrev main_cst_24 : Ref sig .tc := ⟨.hbm, 153, rfl⟩
abbrev main_v113 : Ref sig .tc := ⟨.hbm, 154, rfl⟩
abbrev main_cst_25 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_cst_26 : Ref sig .tc := ⟨.hbm, 166, rfl⟩
abbrev main_v124 : Ref sig .tc := ⟨.hbm, 167, rfl⟩
abbrev main_cst_27 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩

abbrev nD : Nat := 1
abbrev τ : Topo := Topo.v7x

variable {F : FTy → Type} [FloatOps F]
-- ==== Kernel2.lean ====
abbrev S8192x2048 : Shape := ⟨2, ![8192, 2048]⟩
abbrev S16x2048 : Shape := ⟨2, ![16, 2048]⟩
abbrev S2048 : Shape := ⟨1, ![2048]⟩
abbrev S2048x5632 : Shape := ⟨2, ![2048, 5632]⟩
abbrev S1x2048x5632 : Shape := ⟨3, ![1, 2048, 5632]⟩
abbrev S1x2048 : Shape := ⟨2, ![1, 2048]⟩
abbrev S8192x5632 : Shape := ⟨2, ![8192, 5632]⟩
abbrev S16x5632 : Shape := ⟨2, ![16, 5632]⟩
abbrev S1024x2048 : Shape := ⟨2, ![1024, 2048]⟩
abbrev S1x2048x512 : Shape := ⟨3, ![1, 2048, 512]⟩
abbrev S1024x512 : Shape := ⟨2, ![1024, 512]⟩
abbrev S16x512 : Shape := ⟨2, ![16, 512]⟩
abbrev S1024 : Shape := ⟨1, ![1024]⟩
abbrev S1024x1 : Shape := ⟨2, ![1024, 1]⟩
abbrev S16 : Shape := ⟨1, ![16]⟩
abbrev S16x1 : Shape := ⟨2, ![16, 1]⟩
abbrev S2048x512 : Shape := ⟨2, ![2048, 512]⟩

abbrev nBuf : Space → Nat
  | .hbm => 12
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S16x2048, .f32⟩
  | .hbm, ⟨2, _⟩ => ⟨S2048, .f32⟩
  | .hbm, ⟨3, _⟩ => ⟨S2048x5632, .f32⟩
  | .hbm, ⟨4, _⟩ => ⟨S2048x5632, .f32⟩
  | .hbm, ⟨5, _⟩ => ⟨S2048x5632, .bf16⟩
  | .hbm, ⟨6, _⟩ => ⟨S1x2048x5632, .bf16⟩
  | .hbm, ⟨7, _⟩ => ⟨S2048x5632, .bf16⟩
  | .hbm, ⟨8, _⟩ => ⟨S1x2048x5632, .bf16⟩
  | .hbm, ⟨9, _⟩ => ⟨S1x2048, .f32⟩
  | .hbm, ⟨10, _⟩ => ⟨S8192x5632, .bf16⟩
  | .hbm, ⟨11, _⟩ => ⟨S16x5632, .bf16⟩
  | .local _ .vmem, ⟨0, _⟩ => ⟨S1024x2048, .f32⟩
  | .local _ .vmem, ⟨1, _⟩ => ⟨S1024x2048, .f32⟩
  | .local _ .vmem, ⟨2, _⟩ => ⟨S16x2048, .f32⟩
  | .local _ .vmem, ⟨3, _⟩ => ⟨S1x2048, .f32⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x2048x512, .bf16⟩
  | .local _ .vmem, ⟨8, _⟩ => ⟨S1024x512, .bf16⟩
  | .local _ .vmem, ⟨9, _⟩ => ⟨S1024x512, .bf16⟩
  | .local _ .vmem, ⟨10, _⟩ => ⟨S16x512, .bf16⟩
  | .local _ .vmem, ⟨11, _⟩ => ⟨S16x512, .bf16⟩
  | .local _ .vmem, ⟨12, _⟩ => ⟨S1024x2048, .bf16⟩
  | .local _ .vmem, ⟨13, _⟩ => ⟨S16x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 11], ![false, false]⟩

def k0_cond2 (i : grid0.Coords) : BitVec 1 :=
  let arg0 : BitVec 32 := BitVec.ofNat 32 (i 0).val
  let c0_i32_11 : BitVec 32 := 0#32
  let v15 : BitVec 1 := Scalar.cmpi .eq arg0 c0_i32_11
  let v16 : BitVec 32 := Scalar.extui v15
  let c0_i32_12 : BitVec 32 := 0#32
  let v17 : BitVec 1 := Scalar.cmpi .ne v16 c0_i32_12
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![c0_i32_0.toNat, c0_i32_1.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![c0_i32_0.toNat, c0_i32_1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c10_i32 : BitVec 32 := 10#32
  let v1 : BitVec 32 := Scalar.select v0 arg1 c10_i32
  let c0_i32_0 : BitVec 32 := 0#32
  let c0_i32_1 : BitVec 32 := 0#32
  ![c0_i32_0.toNat, v1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S16x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S16x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference2Ideal.lean ====
abbrev S8192x2048 : Shape := ⟨2, ![8192, 2048]⟩
abbrev S16x2048 : Shape := ⟨2, ![16, 2048]⟩
abbrev S2048 : Shape := ⟨1, ![2048]⟩
abbrev S2048x5632 : Shape := ⟨2, ![2048, 5632]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x5632 : Shape := ⟨2, ![8192, 5632]⟩
abbrev S16 : Shape := ⟨1, ![16]⟩
abbrev S16x1 : Shape := ⟨2, ![16, 1]⟩
abbrev S16x5632 : Shape := ⟨2, ![16, 5632]⟩

abbrev nBuf : Space → Nat
  | .hbm => 63
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S16x2048, .f32⟩
  | .hbm, ⟨2, _⟩ => ⟨S2048, .f32⟩
  | .hbm, ⟨3, _⟩ => ⟨S2048x5632, .f32⟩
  | .hbm, ⟨4, _⟩ => ⟨S2048x5632, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S8192x5632, .f32⟩
  | .hbm, ⟨22, _⟩ => ⟨S8192x5632, .f32⟩
  | .hbm, ⟨23, _⟩ => ⟨S8192x5632, .f32⟩
  | .hbm, ⟨24, _⟩ => ⟨S_, .f32⟩
  | .hbm, ⟨25, _⟩ => ⟨S8192x5632, .f32⟩
  | .hbm, ⟨26, _⟩ => ⟨S8192x5632, .f32⟩
  | .hbm, ⟨27, _⟩ => ⟨S_, .f32⟩
  | .hbm, ⟨28, _⟩ => ⟨S8192x5632, .f32⟩
  | .hbm, ⟨29, _⟩ => ⟨S8192x5632, .f32⟩
  | .hbm, ⟨30, _⟩ => ⟨S8192x5632, .f32⟩
  | .hbm, ⟨31, _⟩ => ⟨S8192x5632, .f32⟩
  | .hbm, ⟨32, _⟩ => ⟨S8192x5632, .f32⟩
  | .hbm, ⟨33, _⟩ => ⟨S8192x5632, .bf16⟩
  | .hbm, ⟨34, _⟩ => ⟨S16x2048, .f32⟩
  | .hbm, ⟨35, _⟩ => ⟨S_, .f32⟩
  | .hbm, ⟨36, _⟩ => ⟨S16, .f32⟩
  | .hbm, ⟨37, _⟩ => ⟨S16x1, .f32⟩
  | .hbm, ⟨38, _⟩ => ⟨S_, .f32⟩
  | .hbm, ⟨39, _⟩ => ⟨S16x1, .f32⟩
  | .hbm, ⟨40, _⟩ => ⟨S16x1, .f32⟩
  | .hbm, ⟨41, _⟩ => ⟨S_, .f32⟩
  | .hbm, ⟨42, _⟩ => ⟨S16x1, .f32⟩
  | .hbm, ⟨43, _⟩ => ⟨S16x1, .f32⟩
  | .hbm, ⟨44, _⟩ => ⟨S16x1, .f32⟩
  | .hbm, ⟨45, _⟩ => ⟨S16x2048, .f32⟩
  | .hbm, ⟨46, _⟩ => ⟨S16x2048, .f32⟩
  | .hbm, ⟨47, _⟩ => ⟨S1x2048, .f32⟩
  | .hbm, ⟨48, _⟩ => ⟨S16x2048, .f32⟩
  | .hbm, ⟨49, _⟩ => ⟨S16x2048, .f32⟩
  | .hbm, ⟨50, _⟩ => ⟨S16x5632, .f32⟩
  | .hbm, ⟨51, _⟩ => ⟨S16x5632, .f32⟩
  | .hbm, ⟨52, _⟩ => ⟨S16x5632, .f32⟩
  | .hbm, ⟨53, _⟩ => ⟨S_, .f32⟩
  | .hbm, ⟨54, _⟩ => ⟨S16x5632, .f32⟩
  | .hbm, ⟨55, _⟩ => ⟨S16x5632, .f32⟩
  | .hbm, ⟨56, _⟩ => ⟨S_, .f32⟩
  | .hbm, ⟨57, _⟩ => ⟨S16x5632, .f32⟩
  | .hbm, ⟨58, _⟩ => ⟨S16x5632, .f32⟩
  | .hbm, ⟨59, _⟩ => ⟨S16x5632, .f32⟩
  | .hbm, ⟨60, _⟩ => ⟨S16x5632, .f32⟩
  | .hbm, ⟨61, _⟩ => ⟨S16x5632, .f32⟩
  | .hbm, ⟨62, _⟩ => ⟨S16x5632, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_2 : Ref sig .tc := ⟨.hbm, 35, rfl⟩
abbrev main_v19 : Ref sig .tc := ⟨.hbm, 36, rfl⟩
abbrev main_v20 : Ref sig .tc := ⟨.hbm, 37, rfl⟩
abbrev main_cst_3 : Ref sig .tc := ⟨.hbm, 38, rfl⟩
abbrev main_v21 : Ref sig .tc := ⟨.hbm, 39, rfl⟩
abbrev main_v22 : Ref sig .tc := ⟨.hbm, 40, rfl⟩
abbrev main_cst_4 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_call1_v0 : Ref sig .tc := ⟨.hbm, 51, rfl⟩
abbrev main_call1_v1 : Ref sig .tc := ⟨.hbm, 52, rfl⟩
abbrev main_call1_cst : Ref sig .tc := ⟨.hbm, 53, rfl⟩
abbrev main_call1_v2 : Ref sig .tc := ⟨.hbm, 54, rfl⟩
abbrev main_call1_v3 : Ref sig .tc := ⟨.hbm, 55, rfl⟩
abbrev main_call1_cst_0 : Ref sig .tc := ⟨.hbm, 56, rfl⟩
abbrev main_call1_v4 : Ref sig .tc := ⟨.hbm, 57, rfl⟩
abbrev main_call1_v5 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩

abbrev nD : Nat := 1
abbrev τ : Topo := Topo.v7x

variable {F : FTy → Type} [FloatOps F]
-- ==== Kernel3.lean ====
abbrev S8192x5632 : Shape := ⟨2, ![8192, 5632]⟩
abbrev S16x5632 : Shape := ⟨2, ![16, 5632]⟩
abbrev S8192x2048 : Shape := ⟨2, ![8192, 2048]⟩
abbrev S16x2048 : Shape := ⟨2, ![16, 2048]⟩
abbrev S5632x2048 : Shape := ⟨2, ![5632, 2048]⟩
abbrev S1x5632x2048 : Shape := ⟨3, ![1, 5632, 2048]⟩
abbrev S1024x5632 : Shape := ⟨2, ![1024, 5632]⟩
abbrev S1x5632x512 : Shape := ⟨3, ![1, 5632, 512]⟩
abbrev S1024x512 : Shape := ⟨2, ![1024, 512]⟩
abbrev S16x512 : Shape := ⟨2, ![16, 512]⟩
abbrev S5632x512 : Shape := ⟨2, ![5632, 512]⟩

abbrev nBuf : Space → Nat
  | .hbm => 9
  | .vmem => 13
  | .smem => 0
  | _ => 0

abbrev bufTy : (tb : Table) → Fin (tcTables nBuf tb) → BufTy
  | .hbm, ⟨0, _⟩ => ⟨S8192x5632, .bf16⟩
  | .hbm, ⟨1, _⟩ => ⟨S16x5632, .bf16⟩
  | .hbm, ⟨2, _⟩ => ⟨S8192x2048, .f32⟩
  | .hbm, ⟨3, _⟩ => ⟨S16x2048, .f32⟩
  | .hbm, ⟨4, _⟩ => ⟨S5632x2048, .f32⟩
  | .hbm, ⟨5, _⟩ => ⟨S5632x2048, .bf16⟩
  | .hbm, ⟨6, _⟩ => ⟨S1x5632x2048, .bf16⟩
  | .hbm, ⟨7, _⟩ => ⟨S8192x2048, .f32⟩
  | .hbm, ⟨8, _⟩ => ⟨S16x2048, .f32⟩
  | .local _ .vmem, ⟨0, _⟩ => ⟨S1024x5632, .bf16⟩
  | .local _ .vmem, ⟨1, _⟩ => ⟨S1024x5632, .bf16⟩
  | .local _ .vmem, ⟨2, _⟩ => ⟨S16x5632, .bf16⟩
  | .local _ .vmem, ⟨3, _⟩ => ⟨S1x5632x512, .bf16⟩
  | .local _ .vmem, ⟨4, _⟩ => ⟨S1x5632x512, .bf16⟩
  | .local _ .vmem, ⟨5, _⟩ => ⟨S1024x512, .f32⟩
  | .local _ .vmem, ⟨6, _⟩ => ⟨S1024x512, .f32⟩
  | .local _ .vmem, ⟨7, _⟩ => ⟨S16x512, .f32⟩
  | .local _ .vmem, ⟨8, _⟩ => ⟨S16x512, .f32⟩
  | .local _ .vmem, ⟨9, _⟩ => ⟨S1024x512, .f32⟩
  | .local _ .vmem, ⟨10, _⟩ => ⟨S1024x512, .f32⟩
  | .local _ .vmem, ⟨11, _⟩ => ⟨S16x512, .f32⟩
  | .local _ .vmem, ⟨12, _⟩ => ⟨S16x512, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg0 : BitVec 32 := BitVec.ofNat 32 (i 0).val
  let c0_i32 : BitVec 32 := 0#32
  let v7 : BitVec 1 := Scalar.cmpi .eq arg0 c0_i32
  let v8 : BitVec 32 := Scalar.extui v7
  let c0_i32_8 : BitVec 32 := 0#32
  let v9 : BitVec 1 := Scalar.cmpi .ne v8 c0_i32_8
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![c0_i32_0.toNat, c0_i32_1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c3_i32 : BitVec 32 := 3#32
  let v1 : BitVec 32 := Scalar.select v0 arg1 c3_i32
  let c0_i32_0 : BitVec 32 := 0#32
  let c0_i32_1 : BitVec 32 := 0#32
  ![c0_i32_0.toNat, v1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c3_i32 : BitVec 32 := 3#32
  let v1 : BitVec 32 := Scalar.select v0 arg1 c3_i32
  let c0_i32_0 : BitVec 32 := 0#32
  let c0_i32_1 : BitVec 32 := 0#32
  ![c0_i32_0.toNat, v1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S16x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x5632x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S16x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference3Ideal.lean ====
abbrev S8192x5632 : Shape := ⟨2, ![8192, 5632]⟩
abbrev S16x5632 : Shape := ⟨2, ![16, 5632]⟩
abbrev S8192x2048 : Shape := ⟨2, ![8192, 2048]⟩
abbrev S16x2048 : Shape := ⟨2, ![16, 2048]⟩
abbrev S5632x2048 : Shape := ⟨2, ![5632, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S16x5632, .bf16⟩
  | .hbm, ⟨2, _⟩ => ⟨S8192x2048, .f32⟩
  | .hbm, ⟨3, _⟩ => ⟨S16x2048, .f32⟩
  | .hbm, ⟨4, _⟩ => ⟨S5632x2048, .f32⟩
  | .hbm, ⟨5, _⟩ => ⟨S8192x5632, .f32⟩
  | .hbm, ⟨6, _⟩ => ⟨S8192x2048, .f32⟩
  | .hbm, ⟨7, _⟩ => ⟨S8192x2048, .f32⟩
  | .hbm, ⟨8, _⟩ => ⟨S16x5632, .f32⟩
  | .hbm, ⟨9, _⟩ => ⟨S16x2048, .f32⟩
  | .hbm, ⟨10, _⟩ => ⟨S16x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Kernel4.lean ====
abbrev S8192x2048 : Shape := ⟨2, ![8192, 2048]⟩
abbrev S16x2048 : Shape := ⟨2, ![16, 2048]⟩
abbrev S2048 : Shape := ⟨1, ![2048]⟩
abbrev S2048x4096 : Shape := ⟨2, ![2048, 4096]⟩
abbrev S4096 : Shape := ⟨1, ![4096]⟩
abbrev S1x2048x4096 : Shape := ⟨3, ![1, 2048, 4096]⟩
abbrev S1x4096 : Shape := ⟨2, ![1, 4096]⟩
abbrev S1x2048 : Shape := ⟨2, ![1, 2048]⟩
abbrev S1024x2048 : Shape := ⟨2, ![1024, 2048]⟩
abbrev S1x2048x512 : Shape := ⟨3, ![1, 2048, 512]⟩
abbrev S1x512 : Shape := ⟨2, ![1, 512]⟩
abbrev S1024x512 : Shape := ⟨2, ![1024, 512]⟩
abbrev S16x512 : Shape := ⟨2, ![16, 512]⟩
abbrev S1024 : Shape := ⟨1, ![1024]⟩
abbrev S1024x1 : Shape := ⟨2, ![1024, 1]⟩
abbrev S16 : Shape := ⟨1, ![16]⟩
abbrev S16x1 : Shape := ⟨2, ![16, 1]⟩
abbrev S2048x512 : Shape := ⟨2, ![2048, 512]⟩

abbrev nBuf : Space → Nat
  | .hbm => 14
  | .vmem => 18
  | .smem => 0
  | _ => 0

abbrev bufTy : (tb : Table) → Fin (tcTables nBuf tb) → BufTy
  | .hbm, ⟨0, _⟩ => ⟨S8192x2048, .f32⟩
  | .hbm, ⟨1, _⟩ => ⟨S16x2048, .f32⟩
  | .hbm, ⟨2, _⟩ => ⟨S2048, .f32⟩
  | .hbm, ⟨3, _⟩ => ⟨S2048x4096, .f32⟩
  | .hbm, ⟨4, _⟩ => ⟨S4096, .f32⟩
  | .hbm, ⟨5, _⟩ => ⟨S2048x4096, .bf16⟩
  | .hbm, ⟨6, _⟩ => ⟨S1x2048x4096, .bf16⟩
  | .hbm, ⟨7, _⟩ => ⟨S2048x4096, .bf16⟩
  | .hbm, ⟨8, _⟩ => ⟨S1x2048x4096, .bf16⟩
  | .hbm, ⟨9, _⟩ => ⟨S1x4096, .f32⟩
  | .hbm, ⟨10, _⟩ => ⟨S1x4096, .f32⟩
  | .hbm, ⟨11, _⟩ => ⟨S1x2048, .f32⟩
  | .hbm, ⟨12, _⟩ => ⟨S8192x2048, .f32⟩
  | .hbm, ⟨13, _⟩ => ⟨S16x2048, .f32⟩
  | .local _ .vmem, ⟨0, _⟩ => ⟨S1024x2048, .f32⟩
  | .local _ .vmem, ⟨1, _⟩ => ⟨S1024x2048, .f32⟩
  | .local _ .vmem, ⟨2, _⟩ => ⟨S16x2048, .f32⟩
  | .local _ .vmem, ⟨3, _⟩ => ⟨S1x2048, .f32⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x2048x512, .bf16⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1024x512, .f32⟩
  | .local _ .vmem, ⟨13, _⟩ => ⟨S1024x512, .f32⟩
  | .local _ .vmem, ⟨14, _⟩ => ⟨S16x512, .f32⟩
  | .local _ .vmem, ⟨15, _⟩ => ⟨S16x512, .f32⟩
  | .local _ .vmem, ⟨16, _⟩ => ⟨S1024x2048, .bf16⟩
  | .local _ .vmem, ⟨17, _⟩ => ⟨S16x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg0 : BitVec 32 := BitVec.ofNat 32 (i 0).val
  let c0_i32_15 : BitVec 32 := 0#32
  let v21 : BitVec 1 := Scalar.cmpi .eq arg0 c0_i32_15
  let v22 : BitVec 32 := Scalar.extui v21
  let c0_i32_16 : BitVec 32 := 0#32
  let v23 : BitVec 1 := Scalar.cmpi .ne v22 c0_i32_16
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![c0_i32_0.toNat, c0_i32_1.toNat, v0.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  let c0_i32_1 : BitVec 32 := 0#32
  ![c0_i32.toNat, c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c3_i32 : BitVec 32 := 3#32
  let v1 : BitVec 32 := Scalar.select v0 arg1 c3_i32
  let c0_i32_0 : BitVec 32 := 0#32
  let c0_i32_1 : BitVec 32 := 0#32
  ![c0_i32_0.toNat, v1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S16x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S16x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference4Ideal.lean ====
abbrev S8192x2048 : Shape := ⟨2, ![8192, 2048]⟩
abbrev S16x2048 : Shape := ⟨2, ![16, 2048]⟩
abbrev S2048 : Shape := ⟨1, ![2048]⟩
abbrev S2048x4096 : Shape := ⟨2, ![2048, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x4096 : Shape := ⟨2, ![8192, 4096]⟩
abbrev S1x4096 : Shape := ⟨2, ![1, 4096]⟩
abbrev S16 : Shape := ⟨1, ![16]⟩
abbrev S16x1 : Shape := ⟨2, ![16, 1]⟩
abbrev S16x4096 : Shape := ⟨2, ![16, 4096]⟩

abbrev nBuf : Space → Nat
  | .hbm => 67
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S16x2048, .f32⟩
  | .hbm, ⟨2, _⟩ => ⟨S2048, .f32⟩
  | .hbm, ⟨3, _⟩ => ⟨S2048x4096, .f32⟩
  | .hbm, ⟨4, _⟩ => ⟨S4096, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S8192x4096, .f32⟩
  | .hbm, ⟨22, _⟩ => ⟨S1x4096, .f32⟩
  | .hbm, ⟨23, _⟩ => ⟨S8192x4096, .f32⟩
  | .hbm, ⟨24, _⟩ => ⟨S8192x4096, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S_, .f32⟩
  | .hbm, ⟨30, _⟩ => ⟨S8192x2048, .f32⟩
  | .hbm, ⟨31, _⟩ => ⟨S8192x2048, .f32⟩
  | .hbm, ⟨32, _⟩ => ⟨S_, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S16x2048, .f32⟩
  | .hbm, ⟨37, _⟩ => ⟨S_, .f32⟩
  | .hbm, ⟨38, _⟩ => ⟨S16, .f32⟩
  | .hbm, ⟨39, _⟩ => ⟨S16x1, .f32⟩
  | .hbm, ⟨40, _⟩ => ⟨S_, .f32⟩
  | .hbm, ⟨41, _⟩ => ⟨S16x1, .f32⟩
  | .hbm, ⟨42, _⟩ => ⟨S16x1, .f32⟩
  | .hbm, ⟨43, _⟩ => ⟨S_, .f32⟩
  | .hbm, ⟨44, _⟩ => ⟨S16x1, .f32⟩
  | .hbm, ⟨45, _⟩ => ⟨S16x1, .f32⟩
  | .hbm, ⟨46, _⟩ => ⟨S16x1, .f32⟩
  | .hbm, ⟨47, _⟩ => ⟨S16x2048, .f32⟩
  | .hbm, ⟨48, _⟩ => ⟨S16x2048, .f32⟩
  | .hbm, ⟨49, _⟩ => ⟨S1x2048, .f32⟩
  | .hbm, ⟨50, _⟩ => ⟨S16x2048, .f32⟩
  | .hbm, ⟨51, _⟩ => ⟨S16x2048, .f32⟩
  | .hbm, ⟨52, _⟩ => ⟨S16x4096, .f32⟩
  | .hbm, ⟨53, _⟩ => ⟨S1x4096, .f32⟩
  | .hbm, ⟨54, _⟩ => ⟨S16x4096, .f32⟩
  | .hbm, ⟨55, _⟩ => ⟨S16x4096, .f32⟩
  | .hbm, ⟨56, _⟩ => ⟨S16x2048, .f32⟩
  | .hbm, ⟨57, _⟩ => ⟨S16x2048, .f32⟩
  | .hbm, ⟨58, _⟩ => ⟨S16x2048, .f32⟩
  | .hbm, ⟨59, _⟩ => ⟨S16x2048, .f32⟩
  | .hbm, ⟨60, _⟩ => ⟨S_, .f32⟩
  | .hbm, ⟨61, _⟩ => ⟨S16x2048, .f32⟩
  | .hbm, ⟨62, _⟩ => ⟨S16x2048, .f32⟩
  | .hbm, ⟨63, _⟩ => ⟨S_, .f32⟩
  | .hbm, ⟨64, _⟩ => ⟨S16x2048, .f32⟩
  | .hbm, ⟨65, _⟩ => ⟨S16x2048, .f32⟩
  | .hbm, ⟨66, _⟩ => ⟨S16x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_7 : Ref sig .tc := ⟨.hbm, 60, rfl⟩
abbrev main_v47 : Ref sig .tc := ⟨.hbm, 61, rfl⟩
abbrev main_v48 : Ref sig .tc := ⟨.hbm, 62, rfl⟩
abbrev main_cst_8 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩

abbrev nD : Nat := 1
abbrev τ : Topo := Topo.v7x

variable {F : FTy → Type} [FloatOps F]
-- ==== Kernel5.lean ====
abbrev S8192x2048 : Shape := ⟨2, ![8192, 2048]⟩
abbrev S16x2048 : Shape := ⟨2, ![16, 2048]⟩
abbrev S2048 : Shape := ⟨1, ![2048]⟩
abbrev S2048x2048 : Shape := ⟨2, ![2048, 2048]⟩
abbrev S1x2048x2048 : Shape := ⟨3, ![1, 2048, 2048]⟩
abbrev S1x2048 : Shape := ⟨2, ![1, 2048]⟩
abbrev S8192x16x128 : Shape := ⟨3, ![8192, 16, 128]⟩
abbrev S1024x2048 : Shape := ⟨2, ![1024, 2048]⟩
abbrev S1x2048x1024 : Shape := ⟨3, ![1, 2048, 1024]⟩
abbrev S1024x8x128 : Shape := ⟨3, ![1024, 8, 128]⟩
abbrev S1024x1024 : Shape := ⟨2, ![1024, 1024]⟩
abbrev S16x1024 : Shape := ⟨2, ![16, 1024]⟩
abbrev S1024 : Shape := ⟨1, ![1024]⟩
abbrev S1024x1 : Shape := ⟨2, ![1024, 1]⟩
abbrev S16 : Shape := ⟨1, ![16]⟩
abbrev S16x1 : Shape := ⟨2, ![16, 1]⟩
abbrev S2048x1024 : Shape := ⟨2, ![2048, 1024]⟩
abbrev S1024x128 : Shape := ⟨2, ![1024, 128]⟩
abbrev S1024x1x128 : Shape := ⟨3, ![1024, 1, 128]⟩

abbrev nBuf : Space → Nat
  | .hbm => 10
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S16x2048, .f32⟩
  | .hbm, ⟨2, _⟩ => ⟨S2048, .f32⟩
  | .hbm, ⟨3, _⟩ => ⟨S2048x2048, .f32⟩
  | .hbm, ⟨4, _⟩ => ⟨S2048x2048, .bf16⟩
  | .hbm, ⟨5, _⟩ => ⟨S1x2048x2048, .bf16⟩
  | .hbm, ⟨6, _⟩ => ⟨S1x2048, .f32⟩
  | .hbm, ⟨7, _⟩ => ⟨S8192x16x128, .f32⟩
  | .hbm, ⟨8, _⟩ => ⟨S8192x2048, .bf16⟩
  | .hbm, ⟨9, _⟩ => ⟨S16x2048, .f32⟩
  | .local _ .vmem, ⟨0, _⟩ => ⟨S1024x2048, .f32⟩
  | .local _ .vmem, ⟨1, _⟩ => ⟨S1024x2048, .f32⟩
  | .local _ .vmem, ⟨2, _⟩ => ⟨S16x2048, .f32⟩
  | .local _ .vmem, ⟨3, _⟩ => ⟨S1x2048, .f32⟩
  | .local _ .vmem, ⟨4, _⟩ => ⟨S1x2048x1024, .bf16⟩
  | .local _ .vmem, ⟨5, _⟩ => ⟨S1x2048x1024, .bf16⟩
  | .local _ .vmem, ⟨6, _⟩ => ⟨S1024x8x128, .f32⟩
  | .local _ .vmem, ⟨7, _⟩ => ⟨S1024x8x128, .f32⟩
  | .local _ .vmem, ⟨8, _⟩ => ⟨S1024x1024, .bf16⟩
  | .local _ .vmem, ⟨9, _⟩ => ⟨S1024x1024, .bf16⟩
  | .local _ .vmem, ⟨10, _⟩ => ⟨S16x1024, .f32⟩
  | .local _ .vmem, ⟨11, _⟩ => ⟨S16x1024, .f32⟩
  | .local _ .vmem, ⟨12, _⟩ => ⟨S1024x2048, .bf16⟩
  | .local _ .vmem, ⟨13, _⟩ => ⟨S16x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg0 : BitVec 32 := BitVec.ofNat 32 (i 0).val
  let c0_i32_24 : BitVec 32 := 0#32
  let v41 : BitVec 1 := Scalar.cmpi .eq arg0 c0_i32_24
  let v42 : BitVec 32 := Scalar.extui v41
  let c0_i32_25 : BitVec 32 := 0#32
  let v43 : BitVec 1 := Scalar.cmpi .ne v42 c0_i32_25
  v43

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![c0_i32_0.toNat, c0_i32_1.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 32 := Scalar.select v0 arg1 c1_i32
  let c0_i32_0 : BitVec 32 := 0#32
  let c0_i32_1 : BitVec 32 := 0#32
  ![c0_i32_0.toNat, v1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S16x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S16x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference5Ideal.lean ====
abbrev S8192x2048 : Shape := ⟨2, ![8192, 2048]⟩
abbrev S16x2048 : Shape := ⟨2, ![16, 2048]⟩
abbrev S2048 : Shape := ⟨1, ![2048]⟩
abbrev S2048x2048 : Shape := ⟨2, ![2048, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x16x128 : Shape := ⟨3, ![8192, 16, 128]⟩
abbrev S16 : Shape := ⟨1, ![16]⟩
abbrev S16x1 : Shape := ⟨2, ![16, 1]⟩

abbrev nBuf : Space → Nat
  | .hbm => 40
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S16x2048, .f32⟩
  | .hbm, ⟨2, _⟩ => ⟨S2048, .f32⟩
  | .hbm, ⟨3, _⟩ => ⟨S2048x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S1x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x16x128, .f32⟩
  | .hbm, ⟨22, _⟩ => ⟨S8192x2048, .bf16⟩
  | .hbm, ⟨23, _⟩ => ⟨S16x2048, .f32⟩
  | .hbm, ⟨24, _⟩ => ⟨S_, .f32⟩
  | .hbm, ⟨25, _⟩ => ⟨S16, .f32⟩
  | .hbm, ⟨26, _⟩ => ⟨S16x1, .f32⟩
  | .hbm, ⟨27, _⟩ => ⟨S_, .f32⟩
  | .hbm, ⟨28, _⟩ => ⟨S16x1, .f32⟩
  | .hbm, ⟨29, _⟩ => ⟨S16x1, .f32⟩
  | .hbm, ⟨30, _⟩ => ⟨S_, .f32⟩
  | .hbm, ⟨31, _⟩ => ⟨S16x1, .f32⟩
  | .hbm, ⟨32, _⟩ => ⟨S16x1, .f32⟩
  | .hbm, ⟨33, _⟩ => ⟨S16x1, .f32⟩
  | .hbm, ⟨34, _⟩ => ⟨S16x2048, .f32⟩
  | .hbm, ⟨35, _⟩ => ⟨S16x2048, .f32⟩
  | .hbm, ⟨36, _⟩ => ⟨S1x2048, .f32⟩
  | .hbm, ⟨37, _⟩ => ⟨S16x2048, .f32⟩
  | .hbm, ⟨38, _⟩ => ⟨S16x2048, .f32⟩
  | .hbm, ⟨39, _⟩ => ⟨S16x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== Kernel6.lean ====
abbrev S8192x2048 : Shape := ⟨2, ![8192, 2048]⟩
abbrev S16x2048 : Shape := ⟨2, ![16, 2048]⟩
abbrev S2048x2048 : Shape := ⟨2, ![2048, 2048]⟩
abbrev S1x2048x2048 : Shape := ⟨3, ![1, 2048, 2048]⟩
abbrev S1024x2048 : Shape := ⟨2, ![1024, 2048]⟩
abbrev S1x2048x1024 : Shape := ⟨3, ![1, 2048, 1024]⟩
abbrev S1024x1024 : Shape := ⟨2, ![1024, 1024]⟩
abbrev S16x1024 : Shape := ⟨2, ![16, 1024]⟩
abbrev S2048x1024 : Shape := ⟨2, ![2048, 1024]⟩

abbrev nBuf : Space → Nat
  | .hbm => 9
  | .vmem => 13
  | .smem => 0
  | _ => 0

abbrev bufTy : (tb : Table) → Fin (tcTables nBuf tb) → BufTy
  | .hbm, ⟨0, _⟩ => ⟨S8192x2048, .bf16⟩
  | .hbm, ⟨1, _⟩ => ⟨S16x2048, .bf16⟩
  | .hbm, ⟨2, _⟩ => ⟨S8192x2048, .f32⟩
  | .hbm, ⟨3, _⟩ => ⟨S16x2048, .f32⟩
  | .hbm, ⟨4, _⟩ => ⟨S2048x2048, .f32⟩
  | .hbm, ⟨5, _⟩ => ⟨S2048x2048, .bf16⟩
  | .hbm, ⟨6, _⟩ => ⟨S1x2048x2048, .bf16⟩
  | .hbm, ⟨7, _⟩ => ⟨S8192x2048, .f32⟩
  | .hbm, ⟨8, _⟩ => ⟨S16x2048, .f32⟩
  | .local _ .vmem, ⟨0, _⟩ => ⟨S1024x2048, .bf16⟩
  | .local _ .vmem, ⟨1, _⟩ => ⟨S1024x2048, .bf16⟩
  | .local _ .vmem, ⟨2, _⟩ => ⟨S16x2048, .bf16⟩
  | .local _ .vmem, ⟨3, _⟩ => ⟨S1x2048x1024, .bf16⟩
  | .local _ .vmem, ⟨4, _⟩ => ⟨S1x2048x1024, .bf16⟩
  | .local _ .vmem, ⟨5, _⟩ => ⟨S1024x1024, .f32⟩
  | .local _ .vmem, ⟨6, _⟩ => ⟨S1024x1024, .f32⟩
  | .local _ .vmem, ⟨7, _⟩ => ⟨S16x1024, .f32⟩
  | .local _ .vmem, ⟨8, _⟩ => ⟨S16x1024, .f32⟩
  | .local _ .vmem, ⟨9, _⟩ => ⟨S1024x1024, .f32⟩
  | .local _ .vmem, ⟨10, _⟩ => ⟨S1024x1024, .f32⟩
  | .local _ .vmem, ⟨11, _⟩ => ⟨S16x1024, .f32⟩
  | .local _ .vmem, ⟨12, _⟩ => ⟨S16x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 2], ![false, false]⟩

def k0_cond1 (i : grid0.Coords) : BitVec 1 :=
  let arg0 : BitVec 32 := BitVec.ofNat 32 (i 0).val
  let c0_i32 : BitVec 32 := 0#32
  let v7 : BitVec 1 := Scalar.cmpi .eq arg0 c0_i32
  let v8 : BitVec 32 := Scalar.extui v7
  let c0_i32_8 : BitVec 32 := 0#32
  let v9 : BitVec 1 := Scalar.cmpi .ne v8 c0_i32_8
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![c0_i32_0.toNat, c0_i32_1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 32 := Scalar.select v0 arg1 c1_i32
  let c0_i32_0 : BitVec 32 := 0#32
  let c0_i32_1 : BitVec 32 := 0#32
  ![c0_i32_0.toNat, v1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 32 := Scalar.select v0 arg1 c1_i32
  let c0_i32_0 : BitVec 32 := 0#32
  let c0_i32_1 : BitVec 32 := 0#32
  ![c0_i32_0.toNat, v1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S16x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S16x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference6Ideal.lean ====
abbrev S8192x2048 : Shape := ⟨2, ![8192, 2048]⟩
abbrev S16x2048 : Shape := ⟨2, ![16, 2048]⟩
abbrev S2048x2048 : Shape := ⟨2, ![2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S16x2048, .bf16⟩
  | .hbm, ⟨2, _⟩ => ⟨S8192x2048, .f32⟩
  | .hbm, ⟨3, _⟩ => ⟨S16x2048, .f32⟩
  | .hbm, ⟨4, _⟩ => ⟨S2048x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S16x2048, .f32⟩
  | .hbm, ⟨9, _⟩ => ⟨S16x2048, .f32⟩
  | .hbm, ⟨10, _⟩ => ⟨S16x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Kernel7.lean ====
abbrev S8192x2048 : Shape := ⟨2, ![8192, 2048]⟩
abbrev S16x2048 : Shape := ⟨2, ![16, 2048]⟩
abbrev S2048x2048 : Shape := ⟨2, ![2048, 2048]⟩
abbrev S2048 : Shape := ⟨1, ![2048]⟩
abbrev S1x2048x2048 : Shape := ⟨3, ![1, 2048, 2048]⟩
abbrev S1x2048 : Shape := ⟨2, ![1, 2048]⟩
abbrev S1024x2048 : Shape := ⟨2, ![1024, 2048]⟩
abbrev S1x2048x1024 : Shape := ⟨3, ![1, 2048, 1024]⟩
abbrev S1x1024 : Shape := ⟨2, ![1, 1024]⟩
abbrev S1024x1024 : Shape := ⟨2, ![1024, 1024]⟩
abbrev S16x1024 : Shape := ⟨2, ![16, 1024]⟩
abbrev S2048x1024 : Shape := ⟨2, ![2048, 1024]⟩

abbrev nBuf : Space → Nat
  | .hbm => 11
  | .vmem => 15
  | .smem => 0
  | _ => 0

abbrev bufTy : (tb : Table) → Fin (tcTables nBuf tb) → BufTy
  | .hbm, ⟨0, _⟩ => ⟨S8192x2048, .bf16⟩
  | .hbm, ⟨1, _⟩ => ⟨S16x2048, .bf16⟩
  | .hbm, ⟨2, _⟩ => ⟨S8192x2048, .f32⟩
  | .hbm, ⟨3, _⟩ => ⟨S16x2048, .f32⟩
  | .hbm, ⟨4, _⟩ => ⟨S2048x2048, .f32⟩
  | .hbm, ⟨5, _⟩ => ⟨S2048, .f32⟩
  | .hbm, ⟨6, _⟩ => ⟨S2048x2048, .bf16⟩
  | .hbm, ⟨7, _⟩ => ⟨S1x2048x2048, .bf16⟩
  | .hbm, ⟨8, _⟩ => ⟨S1x2048, .f32⟩
  | .hbm, ⟨9, _⟩ => ⟨S8192x2048, .f32⟩
  | .hbm, ⟨10, _⟩ => ⟨S16x2048, .f32⟩
  | .local _ .vmem, ⟨0, _⟩ => ⟨S1024x2048, .bf16⟩
  | .local _ .vmem, ⟨1, _⟩ => ⟨S1024x2048, .bf16⟩
  | .local _ .vmem, ⟨2, _⟩ => ⟨S16x2048, .bf16⟩
  | .local _ .vmem, ⟨3, _⟩ => ⟨S1x2048x1024, .bf16⟩
  | .local _ .vmem, ⟨4, _⟩ => ⟨S1x2048x1024, .bf16⟩
  | .local _ .vmem, ⟨5, _⟩ => ⟨S1x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S16x1024, .f32⟩
  | .local _ .vmem, ⟨10, _⟩ => ⟨S16x1024, .f32⟩
  | .local _ .vmem, ⟨11, _⟩ => ⟨S1024x1024, .f32⟩
  | .local _ .vmem, ⟨12, _⟩ => ⟨S1024x1024, .f32⟩
  | .local _ .vmem, ⟨13, _⟩ => ⟨S16x1024, .f32⟩
  | .local _ .vmem, ⟨14, _⟩ => ⟨S16x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![8, 2], ![false, false]⟩

def k0_cond1 (i : grid0.Coords) : BitVec 1 :=
  let arg0 : BitVec 32 := BitVec.ofNat 32 (i 0).val
  let c0_i32 : BitVec 32 := 0#32
  let v11 : BitVec 1 := Scalar.cmpi .eq arg0 c0_i32
  let v12 : BitVec 32 := Scalar.extui v11
  let c0_i32_10 : BitVec 32 := 0#32
  let v13 : BitVec 1 := Scalar.cmpi .ne v12 c0_i32_10
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![c0_i32_0.toNat, c0_i32_1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 32 := Scalar.select v0 arg1 c1_i32
  let c0_i32_0 : BitVec 32 := 0#32
  let c0_i32_1 : BitVec 32 := 0#32
  ![c0_i32_0.toNat, v1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 32 := Scalar.select v0 arg1 c1_i32
  let c0_i32_0 : BitVec 32 := 0#32
  let c0_i32_1 : BitVec 32 := 0#32
  ![c0_i32_0.toNat, v1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S16x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S16x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference7Ideal.lean ====
abbrev S8192x2048 : Shape := ⟨2, ![8192, 2048]⟩
abbrev S16x2048 : Shape := ⟨2, ![16, 2048]⟩
abbrev S2048x2048 : Shape := ⟨2, ![2048, 2048]⟩
abbrev S2048 : Shape := ⟨1, ![2048]⟩
abbrev S1x2048 : Shape := ⟨2, ![1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S16x2048, .bf16⟩
  | .hbm, ⟨2, _⟩ => ⟨S8192x2048, .f32⟩
  | .hbm, ⟨3, _⟩ => ⟨S16x2048, .f32⟩
  | .hbm, ⟨4, _⟩ => ⟨S2048x2048, .f32⟩
  | .hbm, ⟨5, _⟩ => ⟨S2048, .f32⟩
  | .hbm, ⟨6, _⟩ => ⟨S8192x2048, .f32⟩
  | .hbm, ⟨7, _⟩ => ⟨S8192x2048, .f32⟩
  | .hbm, ⟨8, _⟩ => ⟨S1x2048, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S16x2048, .f32⟩
  | .hbm, ⟨13, _⟩ => ⟨S16x2048, .f32⟩
  | .hbm, ⟨14, _⟩ => ⟨S1x2048, .f32⟩
  | .hbm, ⟨15, _⟩ => ⟨S16x2048, .f32⟩
  | .hbm, ⟨16, _⟩ => ⟨S16x2048, .f32⟩
  | .hbm, ⟨17, _⟩ => ⟨S16x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== Kernel8.lean ====
abbrev S8192x2048 : Shape := ⟨2, ![8192, 2048]⟩
abbrev S16x2048 : Shape := ⟨2, ![16, 2048]⟩
abbrev S2048 : Shape := ⟨1, ![2048]⟩
abbrev S2048x2048 : Shape := ⟨2, ![2048, 2048]⟩
abbrev S1x2048x2048 : Shape := ⟨3, ![1, 2048, 2048]⟩
abbrev S1x2048 : Shape := ⟨2, ![1, 2048]⟩
abbrev S1024x2048 : Shape := ⟨2, ![1024, 2048]⟩
abbrev S1x2048x1024 : Shape := ⟨3, ![1, 2048, 1024]⟩
abbrev S1024x1024 : Shape := ⟨2, ![1024, 1024]⟩
abbrev S16x1024 : Shape := ⟨2, ![16, 1024]⟩
abbrev S1024 : Shape := ⟨1, ![1024]⟩
abbrev S1024x1 : Shape := ⟨2, ![1024, 1]⟩
abbrev S16 : Shape := ⟨1, ![16]⟩
abbrev S16x1 : Shape := ⟨2, ![16, 1]⟩
abbrev S2048x1024 : Shape := ⟨2, ![2048, 1024]⟩

abbrev nBuf : Space → Nat
  | .hbm => 9
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S16x2048, .f32⟩
  | .hbm, ⟨2, _⟩ => ⟨S2048, .f32⟩
  | .hbm, ⟨3, _⟩ => ⟨S2048x2048, .f32⟩
  | .hbm, ⟨4, _⟩ => ⟨S2048x2048, .bf16⟩
  | .hbm, ⟨5, _⟩ => ⟨S1x2048x2048, .bf16⟩
  | .hbm, ⟨6, _⟩ => ⟨S1x2048, .f32⟩
  | .hbm, ⟨7, _⟩ => ⟨S8192x2048, .f32⟩
  | .hbm, ⟨8, _⟩ => ⟨S16x2048, .f32⟩
  | .local _ .vmem, ⟨0, _⟩ => ⟨S1024x2048, .f32⟩
  | .local _ .vmem, ⟨1, _⟩ => ⟨S1024x2048, .f32⟩
  | .local _ .vmem, ⟨2, _⟩ => ⟨S16x2048, .f32⟩
  | .local _ .vmem, ⟨3, _⟩ => ⟨S1x2048, .f32⟩
  | .local _ .vmem, ⟨4, _⟩ => ⟨S1x2048x1024, .bf16⟩
  | .local _ .vmem, ⟨5, _⟩ => ⟨S1x2048x1024, .bf16⟩
  | .local _ .vmem, ⟨6, _⟩ => ⟨S1024x1024, .f32⟩
  | .local _ .vmem, ⟨7, _⟩ => ⟨S1024x1024, .f32⟩
  | .local _ .vmem, ⟨8, _⟩ => ⟨S16x1024, .f32⟩
  | .local _ .vmem, ⟨9, _⟩ => ⟨S16x1024, .f32⟩
  | .local _ .vmem, ⟨10, _⟩ => ⟨S1024x2048, .bf16⟩
  | .local _ .vmem, ⟨11, _⟩ => ⟨S16x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg0 : BitVec 32 := BitVec.ofNat 32 (i 0).val
  let c0_i32_7 : BitVec 32 := 0#32
  let v8 : BitVec 1 := Scalar.cmpi .eq arg0 c0_i32_7
  let v9 : BitVec 32 := Scalar.extui v8
  let c0_i32_8 : BitVec 32 := 0#32
  let v10 : BitVec 1 := Scalar.cmpi .ne v9 c0_i32_8
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![c0_i32_0.toNat, c0_i32_1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 32 := Scalar.select v0 arg1 c1_i32
  let c0_i32_0 : BitVec 32 := 0#32
  let c0_i32_1 : BitVec 32 := 0#32
  ![c0_i32_0.toNat, v1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S16x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference8Ideal.lean ====
abbrev S8192x2048 : Shape := ⟨2, ![8192, 2048]⟩
abbrev S16x2048 : Shape := ⟨2, ![16, 2048]⟩
abbrev S2048 : Shape := ⟨1, ![2048]⟩
abbrev S2048x2048 : Shape := ⟨2, ![2048, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S16 : Shape := ⟨1, ![16]⟩
abbrev S16x1 : Shape := ⟨2, ![16, 1]⟩

abbrev nBuf : Space → Nat
  | .hbm => 38
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S16x2048, .f32⟩
  | .hbm, ⟨2, _⟩ => ⟨S2048, .f32⟩
  | .hbm, ⟨3, _⟩ => ⟨S2048x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S1x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S16x2048, .f32⟩
  | .hbm, ⟨22, _⟩ => ⟨S_, .f32⟩
  | .hbm, ⟨23, _⟩ => ⟨S16, .f32⟩
  | .hbm, ⟨24, _⟩ => ⟨S16x1, .f32⟩
  | .hbm, ⟨25, _⟩ => ⟨S_, .f32⟩
  | .hbm, ⟨26, _⟩ => ⟨S16x1, .f32⟩
  | .hbm, ⟨27, _⟩ => ⟨S16x1, .f32⟩
  | .hbm, ⟨28, _⟩ => ⟨S_, .f32⟩
  | .hbm, ⟨29, _⟩ => ⟨S16x1, .f32⟩
  | .hbm, ⟨30, _⟩ => ⟨S16x1, .f32⟩
  | .hbm, ⟨31, _⟩ => ⟨S16x1, .f32⟩
  | .hbm, ⟨32, _⟩ => ⟨S16x2048, .f32⟩
  | .hbm, ⟨33, _⟩ => ⟨S16x2048, .f32⟩
  | .hbm, ⟨34, _⟩ => ⟨S1x2048, .f32⟩
  | .hbm, ⟨35, _⟩ => ⟨S16x2048, .f32⟩
  | .hbm, ⟨36, _⟩ => ⟨S16x2048, .f32⟩
  | .hbm, ⟨37, _⟩ => ⟨S16x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== Kernel9.lean ====
abbrev S8192x2048 : Shape := ⟨2, ![8192, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048, .f32⟩
  | .hbm, ⟨3, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference9Ideal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S1x2048, .f32⟩
  | .hbm, ⟨16, _⟩ => ⟨S8192x2048, .f32⟩
  | .hbm, ⟨17, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel10.lean ====
abbrev S16x2048 : Shape := ⟨2, ![16, 2048]⟩
abbrev S2048 : Shape := ⟨1, ![2048]⟩
abbrev S1x2048 : Shape := ⟨2, ![1, 2048]⟩
abbrev S16 : Shape := ⟨1, ![16]⟩
abbrev S16x1 : Shape := ⟨2, ![16, 1]⟩

abbrev nBuf : Space → Nat
  | .hbm => 4
  | .vmem => 3
  | .smem => 0
  | _ => 0

abbrev bufTy : (tb : Table) → Fin (tcTables nBuf tb) → BufTy
  | .hbm, ⟨0, _⟩ => ⟨S16x2048, .f32⟩
  | .hbm, ⟨1, _⟩ => ⟨S2048, .f32⟩
  | .hbm, ⟨2, _⟩ => ⟨S1x2048, .f32⟩
  | .hbm, ⟨3, _⟩ => ⟨S16x2048, .f32⟩
  | .local _ .vmem, ⟨0, _⟩ => ⟨S16x2048, .f32⟩
  | .local _ .vmem, ⟨1, _⟩ => ⟨S1x2048, .f32⟩
  | .local _ .vmem, ⟨2, _⟩ => ⟨S16x2048, .f32⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Reference10Ideal.lean ====
abbrev S16x2048 : Shape := ⟨2, ![16, 2048]⟩
abbrev S2048 : Shape := ⟨1, ![2048]⟩
abbrev S_ : Shape := ⟨0, ![]⟩
abbrev S16 : Shape := ⟨1, ![16]⟩
abbrev S16x1 : Shape := ⟨2, ![16, 1]⟩
abbrev S1x2048 : Shape := ⟨2, ![1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S2048, .f32⟩
  | .hbm, ⟨2, _⟩ => ⟨S16x2048, .f32⟩
  | .hbm, ⟨3, _⟩ => ⟨S_, .f32⟩
  | .hbm, ⟨4, _⟩ => ⟨S16, .f32⟩
  | .hbm, ⟨5, _⟩ => ⟨S16x1, .f32⟩
  | .hbm, ⟨6, _⟩ => ⟨S_, .f32⟩
  | .hbm, ⟨7, _⟩ => ⟨S16x1, .f32⟩
  | .hbm, ⟨8, _⟩ => ⟨S16x1, .f32⟩
  | .hbm, ⟨9, _⟩ => ⟨S_, .f32⟩
  | .hbm, ⟨10, _⟩ => ⟨S16x1, .f32⟩
  | .hbm, ⟨11, _⟩ => ⟨S16x1, .f32⟩
  | .hbm, ⟨12, _⟩ => ⟨S16x1, .f32⟩
  | .hbm, ⟨13, _⟩ => ⟨S16x2048, .f32⟩
  | .hbm, ⟨14, _⟩ => ⟨S16x2048, .f32⟩
  | .hbm, ⟨15, _⟩ => ⟨S1x2048, .f32⟩
  | .hbm, ⟨16, _⟩ => ⟨S16x2048, .f32⟩
  | .hbm, ⟨17, _⟩ => ⟨S16x2048, .f32⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel11.lean ====
abbrev S8x30x2048 : Shape := ⟨3, ![8, 30, 2048]⟩
abbrev S8x2048 : Shape := ⟨2, ![8, 2048]⟩
abbrev S31x2048 : Shape := ⟨2, ![31, 2048]⟩
abbrev S2048 : Shape := ⟨1, ![2048]⟩
abbrev S1x2048 : Shape := ⟨2, ![1, 2048]⟩
abbrev S8x1x2048 : Shape := ⟨3, ![8, 1, 2048]⟩
abbrev S8 : Shape := ⟨1, ![8]⟩
abbrev S8x1 : Shape := ⟨2, ![8, 1]⟩

abbrev nBuf : Space → Nat
  | .hbm => 10
  | .vmem => 7
  | .smem => 0
  | _ => 0

abbrev bufTy : (tb : Table) → Fin (tcTables nBuf tb) → BufTy
  | .hbm, ⟨0, _⟩ => ⟨S8x30x2048, .f32⟩
  | .hbm, ⟨1, _⟩ => ⟨S8x2048, .f32⟩
  | .hbm, ⟨2, _⟩ => ⟨S31x2048, .f32⟩
  | .hbm, ⟨3, _⟩ => ⟨S2048, .f32⟩
  | .hbm, ⟨4, _⟩ => ⟨S2048, .f32⟩
  | .hbm, ⟨5, _⟩ => ⟨S2048, .f32⟩
  | .hbm, ⟨6, _⟩ => ⟨S1x2048, .f32⟩
  | .hbm, ⟨7, _⟩ => ⟨S1x2048, .f32⟩
  | .hbm, ⟨8, _⟩ => ⟨S1x2048, .f32⟩
  | .hbm, ⟨9, _⟩ => ⟨S8x2048, .bf16⟩
  | .local _ .vmem, ⟨0, _⟩ => ⟨S8x30x2048, .f32⟩
  | .local _ .vmem, ⟨1, _⟩ => ⟨S8x2048, .f32⟩
  | .local _ .vmem, ⟨2, _⟩ => ⟨S31x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S8x2048, .bf16⟩
  | _, _ => ⟨S8x30x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S8x30x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S31x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Reference11Ideal.lean ====
abbrev S8x30x2048 : Shape := ⟨3, ![8, 30, 2048]⟩
abbrev S8x2048 : Shape := ⟨2, ![8, 2048]⟩
abbrev S31x2048 : Shape := ⟨2, ![31, 2048]⟩
abbrev S2048 : Shape := ⟨1, ![2048]⟩
abbrev S8x1x2048 : Shape := ⟨3, ![8, 1, 2048]⟩
abbrev S8x31x2048 : Shape := ⟨3, ![8, 31, 2048]⟩
abbrev S1x31x2048 : Shape := ⟨3, ![1, 31, 2048]⟩
abbrev S_ : Shape := ⟨0, ![]⟩
abbrev S1x2048 : Shape := ⟨2, ![1, 2048]⟩
abbrev S8 : Shape := ⟨1, ![8]⟩
abbrev S8x1 : Shape := ⟨2, ![8, 1]⟩

abbrev nBuf : Space → Nat
  | .hbm => 53
  | .vmem => 0
  | .smem => 0
  | _ => 0

abbrev bufTy : (tb : Table) → Fin (tcTables nBuf tb) → BufTy
  | .hbm, ⟨0, _⟩ => ⟨S8x30x2048, .f32⟩
  | .hbm, ⟨1, _⟩ => ⟨S8x2048, .f32⟩
  | .hbm, ⟨2, _⟩ => ⟨S31x2048, .f32⟩
  | .hbm, ⟨3, _⟩ => ⟨S2048, .f32⟩
  | .hbm, ⟨4, _⟩ => ⟨S2048, .f32⟩
  | .hbm, ⟨5, _⟩ => ⟨S2048, .f32⟩
  | .hbm, ⟨6, _⟩ => ⟨S8x1x2048, .f32⟩
  | .hbm, ⟨7, _⟩ => ⟨S8x31x2048, .f32⟩
  | .hbm, ⟨8, _⟩ => ⟨S1x31x2048, .f32⟩
  | .hbm, ⟨9, _⟩ => ⟨S8x31x2048, .f32⟩
  | .hbm, ⟨10, _⟩ => ⟨S8x31x2048, .f32⟩
  | .hbm, ⟨11, _⟩ => ⟨S_, .f32⟩
  | .hbm, ⟨12, _⟩ => ⟨S8x2048, .f32⟩
  | .hbm, ⟨13, _⟩ => ⟨S1x2048, .f32⟩
  | .hbm, ⟨14, _⟩ => ⟨S8x2048, .f32⟩
  | .hbm, ⟨15, _⟩ => ⟨S8x2048, .f32⟩
  | .hbm, ⟨16, _⟩ => ⟨S_, .f32⟩
  | .hbm, ⟨17, _⟩ => ⟨S8, .f32⟩
  | .hbm, ⟨18, _⟩ => ⟨S8x1, .f32⟩
  | .hbm, ⟨19, _⟩ => ⟨S_, .f32⟩
  | .hbm, ⟨20, _⟩ => ⟨S8x1, .f32⟩
  | .hbm, ⟨21, _⟩ => ⟨S8x1, .f32⟩
  | .hbm, ⟨22, _⟩ => ⟨S8x2048, .f32⟩
  | .hbm, ⟨23, _⟩ => ⟨S8x2048, .f32⟩
  | .hbm, ⟨24, _⟩ => ⟨S8x2048, .f32⟩
  | .hbm, ⟨25, _⟩ => ⟨S_, .f32⟩
  | .hbm, ⟨26, _⟩ => ⟨S8, .f32⟩
  | .hbm, ⟨27, _⟩ => ⟨S8x1, .f32⟩
  | .hbm, ⟨28, _⟩ => ⟨S_, .f32⟩
  | .hbm, ⟨29, _⟩ => ⟨S8x1, .f32⟩
  | .hbm, ⟨30, _⟩ => ⟨S8x1, .f32⟩
  | .hbm, ⟨31, _⟩ => ⟨S_, .f32⟩
  | .hbm, ⟨32, _⟩ => ⟨S8x1, .f32⟩
  | .hbm, ⟨33, _⟩ => ⟨S8x1, .f32⟩
  | .hbm, ⟨34, _⟩ => ⟨S8x1, .f32⟩
  | .hbm, ⟨35, _⟩ => ⟨S8x2048, .f32⟩
  | .hbm, ⟨36, _⟩ => ⟨S8x2048, .f32⟩
  | .hbm, ⟨37, _⟩ => ⟨S1x2048, .f32⟩
  | .hbm, ⟨38, _⟩ => ⟨S8x2048, .f32⟩
  | .hbm, ⟨39, _⟩ => ⟨S8x2048, .f32⟩
  | .hbm, ⟨40, _⟩ => ⟨S1x2048, .f32⟩
  | .hbm, ⟨41, _⟩ => ⟨S8x2048, .f32⟩
  | .hbm, ⟨42, _⟩ => ⟨S8x2048, .f32⟩
  | .hbm, ⟨43, _⟩ => ⟨S8x2048, .f32⟩
  | .hbm, ⟨44, _⟩ => ⟨S8x2048, .f32⟩
  | .hbm, ⟨45, _⟩ => ⟨S_, .f32⟩
  | .hbm, ⟨46, _⟩ => ⟨S8x2048, .f32⟩
  | .hbm, ⟨47, _⟩ => ⟨S8x2048, .f32⟩
  | .hbm, ⟨48, _⟩ => ⟨S_, .f32⟩
  | .hbm, ⟨49, _⟩ => ⟨S8x2048, .f32⟩
  | .hbm, ⟨50, _⟩ => ⟨S8x2048, .f32⟩
  | .hbm, ⟨51, _⟩ => ⟨S8x2048, .f32⟩
  | .hbm, ⟨52, _⟩ => ⟨S8x2048, .bf16⟩
  | _, _ => ⟨S8x30x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_call0_v5 : Ref sig .tc := ⟨.hbm, 50, rfl⟩
abbrev main_v31 : Ref sig .tc := ⟨.hbm, 51, rfl⟩
abbrev main_v32 : Ref sig .tc := ⟨.hbm, 52, rfl⟩

abbrev nD : Nat := 1
abbrev τ : Topo := Topo.v7x

variable {F : FTy → Type} [FloatOps F]
-- ==== Proof.Fin.lean ====
/- What the precondition says: no query, key or bias is infinite. -/
module

public import proofs.«01_k».proof.Defs
public import Idealize.ShloMosaic.Lib.ReduceAll
public import Idealize.ShloMosaic.Lib.Affine

@[expose] public section

noncomputable section

namespace Cert.Pre_finite

open Idealize.ShloMosaic

theorem inf_top : (Ideal.ofBits .f32 0x7F800000#32 : EReal) = ⊤ := by simp [Ideal.ofBits, Ideal.ieee]

/-- An extended real of finite absolute value is real. -/
theorem real_of (x : EReal) (h : Ideal.cmp .olt (max x (-x)) (Ideal.ofBits .f32 0x7F800000#32) = 1#1) : x = ((x.toReal : ℝ) : EReal) := by
  rw [inf_top] at h
  have hlt : max x (-x) < ⊤ := by
    by_contra hn
    have : Ideal.cmp .olt (max x (-x)) ⊤ = 0#1 := by
      show BitVec.ofBool (decide (max x (-x) < ⊤)) = 0#1
      rw [decide_eq_false hn]; rfl
    rw [this] at h
    exact absurd h (by decide)
  rw [max_lt_iff] at hlt
  refine (EReal.coe_toReal hlt.1.ne fun hb => ?_).symm
  rw [hb] at hlt
  simp at hlt

instance : Subsingleton S_.Idx := ⟨fun a b => funext fun i => i.elim0⟩

variable [Facts]

theorem fn_real (x0 x1 x2 : FVec Ideal S4x2048x16x128 .f32) (x3 : FVec Ideal S32x16 .f32) (h : fn (F := Ideal) x0 x1 x2 x3 = fun _ => 1#1) :
    (∀ i, (x0 i : EReal) = (((x0 i : EReal).toReal : ℝ) : EReal)) ∧ (∀ i, (x1 i : EReal) = (((x1 i : EReal).toReal : ℝ) : EReal))
      ∧ (∀ i, (x3 i : EReal) = (((x3 i : EReal).toReal : ℝ) : EReal)) := by
  have h' := congrFun h (fun i => i.elim0)
  unfold fn at h'
  dsimp only at h'
  obtain ⟨h01, h3⟩ := IntOp.andi_eq_one.mp h'
  obtain ⟨h0, h1⟩ := IntOp.andi_eq_one.mp h01
  exact ⟨fun i => real_of _ (Host.reduce_andi_all _ _ _ _ _ h0 i), fun i => real_of _ (Host.reduce_andi_all _ _ _ _ _ h1 i),
    fun i => real_of _ (Host.reduce_andi_all _ _ _ _ _ h3 i)⟩

end Cert.Pre_finite

end
-- ==== Proof.KRun.lean ====
/- The kernel's run read at its result: the launch over the two calls' segments, with the result's buffer at the contents the last call
   leaves. -/
module

public import proofs.«01_k».proof.Proof.Gen.KernelIdeal.Frame

@[expose] public section

set_option maxRecDepth 16384

noncomputable section

namespace Cert.KernelIdeal.KV

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Every run ends with the result at the last call's contents and the arguments unchanged. -/
theorem run : θ_run defs (onTc (τ := τ) (main (F := F))) ⟨m, fun _ => 0, ρ⟩ (fun r => ∀ c : Dev nD,
      r.2.mem ((c.tc : Thread nD τ).loc main_v13) = W3 m ρ c (Proc.devRef .tc main_v13)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => fun c =>
      ⟨h c _ (mem_uc main_v13 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c)⟩)

end Cert.KernelIdeal.KV

end
-- ==== Proof.KHelp.lean ====
/- Helpers for reading the attention's block: the two matrix products at any row count, a row's softmax numerator over a concatenation of
   score blocks, and one store's place in a buffer. -/
module

public import Idealize.ShloMosaic.Lib.Pipeline.Value
public import Idealize.ShloMosaic.Lib.ValueIdx
public import Idealize.ShloMosaic.PureOps.Ideal.Laws

@[expose] public section

set_option maxRecDepth 16384

noncomputable section

namespace Cert.KHelp

open Idealize.ShloMosaic Idealize.ShloMosaic.ValueIdx

/-- A rank-2 shape. -/
abbrev Sh (m n : Nat) : Shape := ⟨2, ![m, n]⟩

/-- A product of rows with rows. -/
theorem nt_apply {R K N : Nat} {φ₁ φ₂ : FTy} (wf) (l : FVec Ideal (Sh R K) φ₁) (r : FVec Ideal (Sh N K) φ₂) (j : (Sh R N).Idx) :
    FloatOps.matmul (F := Ideal) (⟨[1], [1], [0], [0], [], [], wf⟩ : DotDims (Sh R K) (Sh N K) (Sh R N)) none l r
      (constant (Sh R N) .f32 0x00000000#32) j = ∑ k : Fin K, l (ix2 (j 0) k) * r (ix2 (j 1) k) := by
  rw [Ideal.matmul_constant_zero_apply, ← Equiv.sum_comp (contrEquiv1 (⟨[1], [1], [0], [0], [], [], wf⟩ : DotDims (Sh R K) (Sh N K) (Sh R N)) K rfl rfl).symm]
  refine Finset.sum_congr rfl fun k _ => ?_
  congr 1
  · refine congrArg l (funext fun a => Fin.ext ?_)
    match a with
    | ⟨0, _⟩ => rfl
    | ⟨1, _⟩ => exact (DotDims.lhsIdx_val_of_single _ rfl _ _).trans (contrEquiv1_symm_val _ K rfl rfl k)
  · refine congrArg r (funext fun a => Fin.ext ?_)
    match a with
    | ⟨0, _⟩ => rfl
    | ⟨1, _⟩ => exact (DotDims.rhsIdx_val_of_single _ rfl _ _).trans (contrEquiv1_symm_val _ K rfl rfl k)

/-- A product of rows with columns. -/
theorem nn_apply {R K N : Nat} {φ₁ φ₂ : FTy} (wf) (l : FVec Ideal (Sh R K) φ₁) (r : FVec Ideal (Sh K N) φ₂) (j : (Sh R N).Idx) :
    FloatOps.matmul (F := Ideal) (⟨[1], [0], [0], [1], [], [], wf⟩ : DotDims (Sh R K) (Sh K N) (Sh R N)) none l r
      (constant (Sh R N) .f32 0x00000000#32) j = ∑ k : Fin K, l (ix2 (j 0) k) * r (ix2 k (j 1)) := by
  rw [Ideal.matmul_constant_zero_apply, ← Equiv.sum_comp (contrEquiv1 (⟨[1], [0], [0], [1], [], [], wf⟩ : DotDims (Sh R K) (Sh K N) (Sh R N)) K rfl rfl).symm]
  refine Finset.sum_congr rfl fun k _ => ?_
  congr 1
  · refine congrArg l (funext fun a => Fin.ext ?_)
    match a with
    | ⟨0, _⟩ => rfl
    | ⟨1, _⟩ => exact (DotDims.lhsIdx_val_of_single _ rfl _ _).trans (contrEquiv1_symm_val _ K rfl rfl k)
  · refine congrArg r (funext fun a => Fin.ext ?_)
    match a with
    | ⟨0, _⟩ => exact (DotDims.rhsIdx_val_of_single _ rfl _ _).trans (contrEquiv1_symm_val _ K rfl rfl k)
    | ⟨1, _⟩ => rfl

/-- The numerator's payload: each row's powers of two of its distances from its maximum. -/
theorem prow_apply {C : Nat} (x : FVec Ideal (Sh 256 C) .f32) (hr : (Sh 256 C).Reduces [1] ⟨1, ![256]⟩) (hφ) (hacc)
    (hs : (⟨1, ![256]⟩ : Shape).ShapeCasts (Sh 256 1)) (hb : (Sh 256 1).Broadcasts (Sh 256 C)) (i : Fin 256) (c : Fin C) :
    exp2 (F := Ideal) (subf x (broadcastTo (Sh 256 C) (shapeCast (Sh 256 1)
      (multiReduction (F := Ideal) .maximumf [1] ⟨1, ![256]⟩ x 0xFF800000#32 hr hφ hacc) hs) hb)) (ix2 i c)
      = Ideal.exp2 (x (ix2 i c) - Finset.univ.sup fun c' : Fin C => x (ix2 i c')) := by
  show Ideal.exp2 (x (ix2 i c) - broadcastTo (Sh 256 C) _ hb (ix2 i c)) = _
  congr 2
  rw [broadcastTo_apply _ hb (ix2 i c) (ix2 i (0 : Fin 1)) (fun a => by
    match a with
    | ⟨0, _⟩ => rfl
    | ⟨1, _⟩ => rfl)]
  rw [shapeCast_apply _ hs (ix2 i (0 : Fin 1)) (ix1 i) (by
    rw [Shape.rowMajor_val_one, Shape.rowMajor_val_two]; simp)]
  rw [Ideal.multiReduction_maximumf_single]
  show Finset.univ.fold max (Ideal.ofBits .f32 0xFF800000#32) _ = _
  have h0 : Ideal.ofBits .f32 0xFF800000#32 = ⊥ := by simp [Ideal.ofBits, Ideal.ieee]
  rw [h0]
  have : (x ∘ hr.lift (ix1 i)) = fun c' : Fin C => x (ix2 i c') := by
    funext c'
    refine congrArg x (funext fun a => Fin.ext ?_)
    match a with
    | ⟨0, _⟩ => rfl
    | ⟨1, _⟩ => rfl
  rw [this]
  rfl

/-- A maximum over the first columns. -/
theorem sup_castLE {N M : Nat} (h : N ≤ M) (f : Fin M → EReal) :
    (Finset.univ.sup fun c : Fin N => f (c.castLE h)) = (Finset.univ.filter fun c : Fin M => c.val < N).sup f := by
  apply le_antisymm
  · exact Finset.sup_le fun c _ => Finset.le_sup (f := f) (Finset.mem_filter.mpr ⟨Finset.mem_univ _, c.isLt⟩)
  · refine Finset.sup_le fun c hc => ?_
    have hc' := (Finset.mem_filter.mp hc).2
    exact Finset.le_sup (f := fun c : Fin N => f (c.castLE h)) (Finset.mem_univ (⟨c.val, hc'⟩ : Fin N))

/-- Three score blocks side by side. -/
theorem cat3_apply {W C : Nat} (a : FVec Ideal (Sh 256 W) .f32) (b c : FVec Ideal (Sh 256 256) .f32)
    (h : Shape.Concatenates [Sh 256 W, Sh 256 256, Sh 256 256] (Sh 256 C) 1) (hC : C = W + 512) (i : Fin 256) (k : Fin C) :
    concatenate (Sh 256 C) 1 [⟨Sh 256 W, a⟩, ⟨Sh 256 256, b⟩, ⟨Sh 256 256, c⟩] h (ix2 i k)
      = if h1 : k.val < W then a (ix2 i ⟨k.val, h1⟩) else if h2 : k.val < W + 256 then b (ix2 i ⟨k.val - W, by omega⟩)
        else c (ix2 i ⟨k.val - W - 256, by have := k.isLt; omega⟩) := by
  split_ifs with h1 h2
  · refine concatenate_apply_piece (α := EReal) (t := Sh 256 C) 1 ([⟨Sh 256 W, a⟩, ⟨Sh 256 256, b⟩, ⟨Sh 256 256, c⟩] : List ((s : Shape) × (s.Idx → EReal))) h (ix2 i k) 0 (by simp) (Sh 256 W) a rfl rfl 0 rfl _ (fun b hb => ?_) ?_
    · match b, hb with
      | ⟨0, _⟩, _ => rfl
      | ⟨1, _⟩, hb => exact absurd rfl hb
    · exact Nat.zero_add _
  · refine concatenate_apply_piece (α := EReal) (t := Sh 256 C) 1 ([⟨Sh 256 W, a⟩, ⟨Sh 256 256, b⟩, ⟨Sh 256 256, c⟩] : List ((s : Shape) × (s.Idx → EReal))) h (ix2 i k) 1 (by simp) (Sh 256 256) b rfl rfl W ?_ _ (fun b hb => ?_) ?_
    · simp
    · match b, hb with
      | ⟨0, _⟩, _ => rfl
      | ⟨1, _⟩, hb => exact absurd rfl hb
    · show W + (k.val - W) = k.val
      omega
  · refine concatenate_apply_piece (α := EReal) (t := Sh 256 C) 1 ([⟨Sh 256 W, a⟩, ⟨Sh 256 256, b⟩, ⟨Sh 256 256, c⟩] : List ((s : Shape) × (s.Idx → EReal))) h (ix2 i k) 2 (by simp) (Sh 256 256) c rfl rfl (W + 256) ?_ _ (fun b hb => ?_) ?_
    · simp
    · match b, hb with
      | ⟨0, _⟩, _ => rfl
      | ⟨1, _⟩, hb => exact absurd rfl hb
    · show W + 256 + (k.val - W - 256) = k.val
      have := k.isLt; omega

/-- Two score blocks side by side. -/
theorem cat2_apply (b c : FVec Ideal (Sh 256 256) .f32)
    (h : Shape.Concatenates [Sh 256 256, Sh 256 256] (Sh 256 512) 1) (i : Fin 256) (k : Fin 512) :
    concatenate (Sh 256 512) 1 [⟨Sh 256 256, b⟩, ⟨Sh 256 256, c⟩] h (ix2 i k)
      = if h2 : k.val < 256 then b (ix2 i ⟨k.val, h2⟩) else c (ix2 i ⟨k.val - 256, by have := k.isLt; omega⟩) := by
  split_ifs with h2
  · refine concatenate_apply_piece (α := EReal) (t := Sh 256 512) 1 ([⟨Sh 256 256, b⟩, ⟨Sh 256 256, c⟩] : List ((s : Shape) × (s.Idx → EReal))) h (ix2 i k) 0 (by simp) (Sh 256 256) b rfl rfl 0 rfl _ (fun b hb => ?_) ?_
    · match b, hb with
      | ⟨0, _⟩, _ => rfl
      | ⟨1, _⟩, hb => exact absurd rfl hb
    · exact Nat.zero_add _
  · refine concatenate_apply_piece (α := EReal) (t := Sh 256 512) 1 ([⟨Sh 256 256, b⟩, ⟨Sh 256 256, c⟩] : List ((s : Shape) × (s.Idx → EReal))) h (ix2 i k) 1 (by simp) (Sh 256 256) c rfl rfl 256 rfl _ (fun b hb => ?_) ?_
    · match b, hb with
      | ⟨0, _⟩, _ => rfl
      | ⟨1, _⟩, hb => exact absurd rfl hb
    · show 256 + (k.val - 256) = k.val
      omega

/-- A unit-stride rectangle's index. -/
theorem emb2 {m n a b : Nat} (o0 o1 : Nat) (inb) (x : (Sh a b).Idx) (k0 : Fin m) (k1 : Fin n) (h0 : k0.val = o0 + (x 0).val) (h1 : k1.val = o1 + (x 1).val) :
    (Rect.unit (s := Sh m n) ![o0, o1] ![a, b] inb).emb x = ix2 k0 k1 := by
  refine funext fun d => Fin.ext ?_
  match d with
  | ⟨0, _⟩ => show o0 + 1 * (x 0).val = k0.val; omega
  | ⟨1, _⟩ => show o1 + 1 * (x 1).val = k1.val; omega

/-- A unit-stride rectangle's members. -/
theorem mem2 {m n a b : Nat} (o0 o1 : Nat) (inb) (y : (Sh m n).Idx) :
    y ∈ (Rect.unit (s := Sh m n) ![o0, o1] ![a, b] inb).set ↔ o0 ≤ (y 0).val ∧ (y 0).val < o0 + a ∧ o1 ≤ (y 1).val ∧ (y 1).val < o1 + b := by
  rw [Rect.mem_set_unit]
  constructor
  · intro h
    have h0 := h 0
    have h1 := h 1
    exact ⟨h0.1, h0.2, h1.1, h1.2⟩
  · rintro ⟨h1, h2, h3, h4⟩ d
    match d with
    | ⟨0, _⟩ => exact ⟨h1, h2⟩
    | ⟨1, _⟩ => exact ⟨h3, h4⟩

/-- A box read after writes whose canon is known on it. -/
theorem readCov2 {e : EltTy} {sig : RefSig} {κ : Kind} {sp : Space} {m n a b : Nat} (v : View sig κ sp (Sh m n) e)
    (L : List (View.Piece (Elt Ideal) (Sh m n) e)) (o0 o1 : Nat) (inb) (G : (Sh m n).Idx → Elt Ideal e)
    (hcov : ∀ y : (Sh m n).Idx, o0 ≤ (y 0).val → (y 0).val < o0 + a → o1 ≤ (y 1).val → (y 1).val < o1 + b → ∃ p ∈ L, y ∈ p.1.set)
    (hG : ∀ y : (Sh m n).Idx, o0 ≤ (y 0).val → (y 0).val < o0 + a → o1 ≤ (y 1).val → (y 1).val < o1 + b → View.canon L y = G y)
    (x : (Sh a b).Idx) :
    v.readCov L (Rect.unit (s := Sh m n) ![o0, o1] ![a, b] inb).toLoadRect x = G ((Rect.unit (s := Sh m n) ![o0, o1] ![a, b] inb).emb x) := by
  have hm : ∀ x : (Sh a b).Idx, (Rect.unit (s := Sh m n) ![o0, o1] ![a, b] inb).emb x ∈ (Rect.unit (s := Sh m n) ![o0, o1] ![a, b] inb).set :=
    fun x => LoadRect.idx_mem (Rect.unit (s := Sh m n) ![o0, o1] ![a, b] inb).toLoadRect x
  rw [View.readCov_eq_canon v L (Rect.unit (s := Sh m n) ![o0, o1] ![a, b] inb).toLoadRect (fun j => by
    have h := (mem2 o0 o1 inb _).mp (hm j)
    exact hcov _ h.1 h.2.1 h.2.2.1 h.2.2.2)]
  have h := (mem2 o0 o1 inb _).mp (hm x)
  exact hG _ h.1 h.2.1 h.2.2.1 h.2.2.2

end Cert.KHelp

end
-- ==== Proof.Math.lean ====
/- The mathematics of one query's row, free of both programs: which blocks a stable top-three selection takes, the softmax over the
   visible keys as both programs compute it, and the distance buckets. -/
module

public import Idealize.ShloMosaic.Lib.SortPrefix
public import Idealize.ShloMosaic.Lib.Pipeline.Value
public import Idealize.ShloMosaic.Lib.ValueIdx
public import Idealize.ShloMosaic.PureOps.Ideal.Laws

@[expose] public section

set_option maxRecDepth 16384

noncomputable section

namespace Cert.Row

open Idealize.ShloMosaic

/-! ## The selection of the best three blocks -/

/-- Block `a` goes before block `b`: its gate is greater, or it is equal and `a` comes first. -/
def Beats {n : Nat} (g : Fin n → EReal) (a b : Fin n) : Prop := g b < g a ∨ (g a = g b ∧ a < b)

open Classical in
/-- The same as a Boolean relation. -/
def beatsB {n : Nat} (g : Fin n → EReal) (a b : Fin n) : Bool := decide (Beats g a b)

open Classical in
theorem beatsB_iff {n : Nat} (g : Fin n → EReal) (a b : Fin n) : beatsB g a b = true ↔ Beats g a b := by
  unfold beatsB; exact decide_eq_true_iff

theorem beats_strict {n : Nat} (g : Fin n → EReal) : StrictTotalBefore (beatsB g) where
  irrefl a := by
    rw [← Bool.not_eq_true, beatsB_iff]; rintro (h | ⟨-, h⟩) <;> exact lt_irrefl _ h
  trans a b c hab hbc := by
    rw [beatsB_iff] at *
    rcases hab with hab | ⟨eab, lab⟩ <;> rcases hbc with hbc | ⟨ebc, lbc⟩
    · exact Or.inl (hbc.trans hab)
    · exact Or.inl (ebc ▸ hab)
    · exact Or.inl (eab ▸ hbc)
    · exact Or.inr ⟨eab.trans ebc, lab.trans lbc⟩
  total a b hne := by
    rw [beatsB_iff, beatsB_iff]
    rcases lt_trichotomy (g a) (g b) with h | h | h
    · exact Or.inr (Or.inl h)
    · rcases lt_or_gt_of_ne hne with hl | hl
      · exact Or.inl (Or.inr ⟨h, hl⟩)
      · exact Or.inr (Or.inr ⟨h.symm, hl⟩)
    · exact Or.inl (Or.inl h)

/-- A stable sort by the gate alone is the sort by gate and then position, of positions in increasing order. -/
theorem stableSort_gate {n : Nat} (g : Fin n → EReal) (R : Fin n → Fin n → Bool) (hR : ∀ a b, R a b = true ↔ g b < g a)
    (l : List (Fin n)) (hl : l.Pairwise (· < ·)) : stableSort R l = stableSort (beatsB g) l := by
  induction l with
  | nil => rfl
  | cons a l ih =>
    rw [List.pairwise_cons] at hl
    unfold stableSort
    rw [ih hl.2]
    refine insertBefore_congr _ _ a _ fun b hb => ?_
    have hb' := (perm_stableSort _ l).mem_iff.mp hb
    have h1 : ¬ b < a := not_lt.mpr (hl.1 b hb').le
    rw [Bool.eq_iff_iff, hR, beatsB_iff]
    exact ⟨Or.inl, fun h => h.elim id fun h => absurd h.2 h1⟩

theorem sortedFrom_gate {n : Nat} (g : Fin n → EReal) (R : Fin n → Fin n → Bool) (hR : ∀ a b, R a b = true ↔ g b < g a) :
    sortedFrom R = sortedFrom (beatsB g) := by
  funext k
  unfold sortedFrom
  have h : sortPositions n R = sortPositions n (beatsB g) := stableSort_gate g R hR _ (List.pairwise_lt_finRange n)
  rw [List.get_of_eq h]
  rfl

open Classical in
/-- Position `k` of the sort is the block that `k` blocks beat. -/
theorem card_beats {n : Nat} (g : Fin n → EReal) (R : Fin n → Fin n → Bool) (hR : ∀ a b, R a b = true ↔ g b < g a) (k : Fin n) :
    (Finset.univ.filter fun m => Beats g m (sortedFrom R k)).card = k.val := by
  rw [sortedFrom_gate g R hR]
  have hinj := sortedFrom_injective (beatsB g)
  have hsur := sortedFrom_surjective (beatsB g)
  have hord : ∀ i j : Fin n, Beats g (sortedFrom (beatsB g) i) (sortedFrom (beatsB g) j) ↔ i < j := by
    have h1 : ∀ i j : Fin n, i < j → beatsB g (sortedFrom (beatsB g) j) (sortedFrom (beatsB g) i) = false := fun i j hij =>
      sortedFrom_noInversion (beatsB g) (beatsB g) (fun a b h => (beats_strict g).asymm a b h) (fun _ _ h => h)
        (beats_strict g).negTrans i j hij
    intro i j
    rw [← beatsB_iff]
    constructor
    · intro h
      rcases lt_trichotomy i j with hl | hl | hl
      · exact hl
      · subst hl; rw [(beats_strict g).irrefl] at h; exact absurd h (by decide)
      · rw [h1 j i hl] at h; exact absurd h (by decide)
    · intro h
      rcases (beats_strict g).total _ _ (fun e => h.ne (hinj e)) with h2 | h2
      · exact h2
      · rw [h1 i j h] at h2; exact absurd h2 (by decide)
  have : (Finset.univ.filter fun m => Beats g m (sortedFrom (beatsB g) k))
      = (Finset.univ.filter fun i : Fin n => i < k).image (sortedFrom (beatsB g)) := by
    ext m
    obtain ⟨i, rfl⟩ := hsur m
    simp only [Finset.mem_filter, Finset.mem_univ, true_and, hord, Finset.mem_image]
    exact ⟨fun h => ⟨i, h, rfl⟩, fun ⟨i', h, e⟩ => hinj e ▸ h⟩
  rw [this, Finset.card_image_of_injective _ hinj]
  have : (Finset.univ.filter fun i : Fin n => i < k) = Finset.Iio k := by ext; simp
  rw [this, Fin.card_Iio]

open Classical in
/-- The first three positions of the sort hold exactly the blocks that fewer than three blocks beat. -/
theorem sel_iff (g : Fin 8 → EReal) (R : Fin 8 → Fin 8 → Bool) (hR : ∀ a b, R a b = true ↔ g b < g a) (m : Fin 8) :
    (∃ k : Fin 3, sortedFrom R (k.castLE (by decide)) = m) ↔ (Finset.univ.filter fun m' => Beats g m' m).card < 3 := by
  constructor
  · rintro ⟨k, rfl⟩
    rw [card_beats g R hR]; exact k.isLt
  · intro h
    obtain ⟨i, rfl⟩ := sortedFrom_surjective R m
    rw [card_beats g R hR] at h
    exact ⟨⟨i.val, h⟩, rfl⟩

/-! ## The softmax over the visible keys -/

/-- The greatest logit. -/
def top (L : Fin 8 → Fin 256 → EReal) : EReal := Finset.univ.sup fun n => Finset.univ.sup (L n)
/-- A key's weight before the division. -/
def wt (L : Fin 8 → Fin 256 → EReal) (n : Fin 8) (j : Fin 256) : EReal := Ideal.exp (L n j - top L)
/-- The softmax's mean of the values, over every key; a key that is not visible has logit `⊥` and so weight zero. -/
def attn (L V : Fin 8 → Fin 256 → EReal) : EReal :=
  Ideal.div (∑ n, ∑ j, wt L n j * V n j) (∑ n, ∑ j, wt L n j)

theorem fold_max_eq_sup {ι : Type} (s : Finset ι) (f : ι → EReal) : s.fold max ⊥ f = s.sup f := rfl

theorem le_top (L : Fin 8 → Fin 256 → EReal) (n : Fin 8) (j : Fin 256) : L n j ≤ top L :=
  (Finset.le_sup (f := L n) (Finset.mem_univ j)).trans
    (Finset.le_sup (f := fun n => Finset.univ.sup (L n)) (Finset.mem_univ n))

theorem top_real (L : Fin 8 → Fin 256 → EReal) (hL : ∀ n j, L n j ≠ ⊤) (n : Fin 8) (j : Fin 256) (h : L n j ≠ ⊥) :
    ∃ M : ℝ, top L = (M : EReal) := by
  have h1 : top L ≠ ⊥ := fun e => h (le_bot_iff.mp (e ▸ le_top L n j))
  have h2 : top L ≠ ⊤ := by
    refine ne_of_lt ?_
    unfold top
    rw [Finset.sup_lt_iff (by exact bot_lt_top)]
    intro n _
    rw [Finset.sup_lt_iff (by exact bot_lt_top)]
    exact fun j _ => lt_top_iff_ne_top.mpr (hL n j)
  exact ⟨(top L).toReal, (EReal.coe_toReal h2 h1).symm⟩

theorem exp_bot_sub (M : ℝ) : Ideal.exp (⊥ - (M : EReal)) = 0 := by
  rw [EReal.bot_sub]; rfl

/-- The kernel's weight: a power of two of scaled and shifted logits. -/
theorem exp2_affine (b : ℝ) (x : EReal) (hx : x ≠ ⊤) (M : ℝ) :
    Ideal.exp2 (((((Real.log 2)⁻¹ : ℝ) : EReal) * x + (b : EReal)) - ((((Real.log 2)⁻¹ : ℝ) : EReal) * (M : EReal) + (b : EReal)))
      = Ideal.exp (x - (M : EReal)) := by
  have hl : (0 : ℝ) < Real.log 2 := Real.log_pos (by norm_num)
  induction x with
  | bot =>
    rw [EReal.coe_mul_bot_of_pos (inv_pos.mpr hl), EReal.bot_add, EReal.bot_sub]
    rfl
  | top => exact absurd rfl hx
  | coe x =>
    rw [← EReal.coe_mul, ← EReal.coe_mul, ← EReal.coe_add, ← EReal.coe_add, ← EReal.coe_sub, ← EReal.coe_sub]
    show ((Real.rpow 2 _ : ℝ) : EReal) = ((Real.exp _ : ℝ) : EReal)
    congr 1
    show (2 : ℝ) ^ ((Real.log 2)⁻¹ * x + b - ((Real.log 2)⁻¹ * M + b)) = _
    rw [Real.rpow_def_of_pos (by norm_num)]
    congr 1
    field_simp
    ring

/-- The scaled and shifted maximum. -/
theorem sup_affine {ι : Type} (s : Finset ι) (f : ι → EReal) (b : ℝ) :
    s.sup (fun i => (((Real.log 2)⁻¹ : ℝ) : EReal) * f i + (b : EReal))
      = (((Real.log 2)⁻¹ : ℝ) : EReal) * s.sup f + (b : EReal) := by
  have hl : (0 : ℝ) < Real.log 2 := Real.log_pos (by norm_num)
  have h := Finset.comp_sup_eq_sup_comp_of_is_total (s := s) (f := f)
    (fun x : EReal => (((Real.log 2)⁻¹ : ℝ) : EReal) * x + (b : EReal))
    (fun x y hxy => by
      have : (0 : EReal) ≤ (((Real.log 2)⁻¹ : ℝ) : EReal) := by exact_mod_cast (inv_pos.mpr hl).le
      exact add_le_add (mul_le_mul_of_nonneg_left hxy this) le_rfl)
    (by
      show (((Real.log 2)⁻¹ : ℝ) : EReal) * ⊥ + (b : EReal) = ⊥
      rw [EReal.coe_mul_bot_of_pos (inv_pos.mpr hl), EReal.bot_add])
  exact h.symm

theorem exp_nonneg (x : EReal) : 0 ≤ Ideal.exp x := by
  induction x with
  | bot => exact le_rfl
  | top => exact _root_.le_top
  | coe x => show (0 : EReal) ≤ ((Real.exp x : ℝ) : EReal); exact_mod_cast (Real.exp_pos x).le

/-- The kernel's row: over the blocks up to its own `o`, with scores affine in the logits, the sums divided by multiplying with the
    reciprocal. -/
theorem kernel_row (o : Fin 8) (L V S : Fin 8 → Fin 256 → EReal) (b : ℝ) (j0 : Fin 256)
    (hL : ∀ n j, L n j ≠ ⊤) (h0 : L o j0 ≠ ⊥) (hfar : ∀ n j, o < n → L n j = ⊥)
    (hS : ∀ n j, n ≤ o → S n j = (((Real.log 2)⁻¹ : ℝ) : EReal) * L n j + (b : EReal))
    (mx : EReal) (hle : ∀ n j, n ≤ o → S n j ≤ mx) (hex : ∃ n j, n ≤ o ∧ S n j = mx)
    (num den : EReal)
    (hnum : num = ∑ n ∈ Finset.univ.filter (· ≤ o), ∑ j, Ideal.exp2 (S n j - mx) * V n j)
    (hden : den = ∑ n ∈ Finset.univ.filter (· ≤ o), ∑ j, Ideal.exp2 (S n j - mx)) :
    num * Ideal.div 1 den = attn L V := by
  obtain ⟨M, hM⟩ := top_real L hL o j0 h0
  have hl : (0 : ℝ) < Real.log 2 := Real.log_pos (by norm_num)
  have hmx : mx = (((Real.log 2)⁻¹ : ℝ) : EReal) * (M : EReal) + (b : EReal) := by
    have hmono : ∀ x y : EReal, x ≤ y → (((Real.log 2)⁻¹ : ℝ) : EReal) * x + (b : EReal) ≤ (((Real.log 2)⁻¹ : ℝ) : EReal) * y + (b : EReal) := by
      intro x y hxy
      have : (0 : EReal) ≤ (((Real.log 2)⁻¹ : ℝ) : EReal) := by exact_mod_cast (inv_pos.mpr hl).le
      exact add_le_add (mul_le_mul_of_nonneg_left hxy this) le_rfl
    apply le_antisymm
    · obtain ⟨n, j, hn, e⟩ := hex
      rw [← e, hS n j hn, ← hM]
      exact hmono _ _ (le_top L n j)
    · rw [← hM]
      have : top L = (Finset.univ : Finset (Fin 8)).sup fun n => Finset.univ.sup (L n) := rfl
      have hx : ∀ n j, (((Real.log 2)⁻¹ : ℝ) : EReal) * L n j + (b : EReal) ≤ mx := by
        intro n j
        by_cases hn : n ≤ o
        · rw [← hS n j hn]; exact hle n j hn
        · rw [hfar n j (not_le.mp hn), EReal.coe_mul_bot_of_pos (inv_pos.mpr hl), EReal.bot_add]; exact bot_le
      rw [this, ← sup_affine]
      refine Finset.sup_le fun n _ => ?_
      rw [← sup_affine]
      exact Finset.sup_le fun j _ => hx n j
  have hw : ∀ n j, n ≤ o → Ideal.exp2 (S n j - mx) = wt L n j := by
    intro n j hn
    rw [hS n j hn, hmx, exp2_affine b _ (hL n j)]
    unfold wt; rw [hM]
  have hw0 : ∀ n j, ¬ n ≤ o → wt L n j = 0 := by
    intro n j hn
    unfold wt; rw [hM, hfar n j (not_le.mp hn), exp_bot_sub]
  have hnum' : num = ∑ n, ∑ j, wt L n j * V n j := by
    rw [hnum, Finset.sum_filter]
    refine Finset.sum_congr rfl fun n _ => ?_
    split_ifs with hn
    · exact Finset.sum_congr rfl fun j _ => by rw [hw n j hn]
    · symm; exact Finset.sum_eq_zero fun j _ => by rw [hw0 n j hn, zero_mul]
  have hden' : den = ∑ n, ∑ j, wt L n j := by
    rw [hden, Finset.sum_filter]
    refine Finset.sum_congr rfl fun n _ => ?_
    split_ifs with hn
    · exact Finset.sum_congr rfl fun j _ => by rw [hw n j hn]
    · symm; exact Finset.sum_eq_zero fun j _ => by rw [hw0 n j hn]
  have hpos : (0 : EReal) < ∑ n, ∑ j, wt L n j := by
    have hnn : ∀ n j, 0 ≤ wt L n j := fun n j => exp_nonneg _
    have h1 : wt L o j0 ≤ ∑ n, ∑ j, wt L n j :=
      (Finset.single_le_sum (f := fun j => wt L o j) (fun j _ => hnn o j) (Finset.mem_univ j0)).trans
        (Finset.single_le_sum (f := fun n => ∑ j, wt L n j) (fun n _ => Finset.sum_nonneg fun j _ => hnn n j) (Finset.mem_univ o))
    refine lt_of_lt_of_le ?_ h1
    unfold wt
    rw [hM]
    obtain ⟨r, hr⟩ : ∃ r : ℝ, L o j0 = (r : EReal) := ⟨(L o j0).toReal, (EReal.coe_toReal (hL o j0) h0).symm⟩
    rw [hr, ← EReal.coe_sub]
    show (0 : EReal) < ((Real.exp _ : ℝ) : EReal)
    exact_mod_cast Real.exp_pos _
  rw [hnum', hden']
  unfold attn Ideal.div
  rw [if_neg hpos.ne', if_neg hpos.ne', one_mul]

/-- The reference's row: its own block and the three selected ones, each selected block's keys visible when the block lies before its
    own. -/
theorem reference_row (o : Fin 8) (L V : Fin 8 → Fin 256 → EReal) (j0 : Fin 256) (σ : Fin 3 → Fin 8) (hσ : Function.Injective σ)
    (hL : ∀ n j, L n j ≠ ⊤) (h0 : L o j0 ≠ ⊥)
    (hvis : ∀ n j, n ≠ o → ¬ (n < o ∧ ∃ k, σ k = n) → L n j = ⊥)
    (Ls : Fin 3 → Fin 256 → EReal) (hLs : ∀ k j, Ls k j = if σ k < o then L (σ k) j else ⊥)
    (mx : EReal) (hmx : mx = max (Finset.univ.sup (L o)) (Finset.univ.sup fun k => Finset.univ.sup (Ls k)))
    (num den : EReal)
    (hnum : num = ∑ j, Ideal.exp (L o j - mx) * V o j + ∑ k, ∑ j, Ideal.exp (Ls k j - mx) * V (σ k) j)
    (hden : den = ∑ j, Ideal.exp (L o j - mx) + ∑ k, ∑ j, Ideal.exp (Ls k j - mx)) :
    Ideal.div num den = attn L V := by
  obtain ⟨M, hM⟩ := top_real L hL o j0 h0
  have hm : mx = top L := by
    rw [hmx]
    apply le_antisymm
    · refine max_le (Finset.sup_le fun j _ => le_top L o j) (Finset.sup_le fun k _ => Finset.sup_le fun j _ => ?_)
      rw [hLs]; split_ifs
      · exact le_top L _ j
      · exact bot_le
    · refine Finset.sup_le fun n _ => Finset.sup_le fun j _ => ?_
      by_cases hn : n = o
      · subst hn; exact le_max_of_le_left (Finset.le_sup (f := L n) (Finset.mem_univ j))
      · by_cases hs : n < o ∧ ∃ k, σ k = n
        · obtain ⟨hlt, k, rfl⟩ := hs
          refine le_max_of_le_right ?_
          have h1 : Ls k j = L (σ k) j := by rw [hLs, if_pos hlt]
          rw [← h1]
          exact (Finset.le_sup (f := Ls k) (Finset.mem_univ j)).trans
            (Finset.le_sup (f := fun k => Finset.univ.sup (Ls k)) (Finset.mem_univ k))
        · rw [hvis n j hn hs]; exact bot_le
  have key : ∀ W : Fin 8 → EReal, (∀ n, n ≠ o → ¬ (n < o ∧ ∃ k, σ k = n) → W n = 0) →
      W o + ∑ k, (if σ k < o then W (σ k) else 0) = ∑ n, W n := by
    intro W hW
    rw [← Finset.add_sum_erase Finset.univ W (Finset.mem_univ o)]
    congr 1
    rw [← Finset.sum_filter (s := Finset.univ) (p := fun k => σ k < o) (f := fun k => W (σ k)),
      ← Finset.sum_image (s := Finset.univ.filter fun k => σ k < o) (g := σ) (f := W) (fun a _ b _ h => hσ h)]
    refine Finset.sum_subset (fun n hn => ?_) (fun n hn hn' => hW n (Finset.ne_of_mem_erase hn) ?_)
    · obtain ⟨k, hk, rfl⟩ := Finset.mem_image.mp hn
      exact Finset.mem_erase.mpr ⟨(Finset.mem_filter.mp hk).2.ne, Finset.mem_univ _⟩
    · rintro ⟨hlt, k, rfl⟩
      exact hn' (Finset.mem_image.mpr ⟨k, Finset.mem_filter.mpr ⟨Finset.mem_univ _, hlt⟩, rfl⟩)
  have hz : ∀ n j, n ≠ o → ¬ (n < o ∧ ∃ k, σ k = n) → wt L n j = 0 := by
    intro n j h1 h2
    unfold wt; rw [hM, hvis n j h1 h2, exp_bot_sub]
  have hs : ∀ k j, Ideal.exp (Ls k j - mx) = if σ k < o then wt L (σ k) j else 0 := by
    intro k j
    rw [hLs]; split_ifs
    · rw [hm]; rfl
    · rw [hm, hM, exp_bot_sub]
  have hnum' : num = ∑ n, ∑ j, wt L n j * V n j := by
    rw [hnum, ← key (fun n => ∑ j, wt L n j * V n j) fun n h1 h2 => Finset.sum_eq_zero fun j _ => by rw [hz n j h1 h2, zero_mul]]
    congr 1
    · rw [hm]; rfl
    · refine Finset.sum_congr rfl fun k _ => ?_
      simp only [hs]
      split_ifs
      · rfl
      · exact Finset.sum_eq_zero fun j _ => zero_mul _
  have hden' : den = ∑ n, ∑ j, wt L n j := by
    rw [hden, ← key (fun n => ∑ j, wt L n j) fun n h1 h2 => Finset.sum_eq_zero fun j _ => hz n j h1 h2]
    congr 1
    · rw [hm]; rfl
    · refine Finset.sum_congr rfl fun k _ => ?_
      simp only [hs]
      split_ifs
      · rfl
      · exact Finset.sum_const_zero
  rw [hnum', hden']
  rfl

/-! ## The distance buckets -/

/-- The distances at which a new bucket begins, from bucket 1 on. -/
def starts : List Nat := [1, 2, 3, 4, 5, 6, 7, 8, 9, 10, 11, 12, 13, 14, 15, 16, 19, 21, 24, 27, 31, 35, 40, 46, 52, 59, 67, 77, 87, 99, 113]
/-- A distance's bucket: how many thresholds it has reached. -/
def bkt (d : Nat) : Nat := (starts.filter (· ≤ d)).length

theorem bkt_log_dec : ∀ i : Fin 112, 16 ≤ bkt (i.val + 16) ∧ bkt (i.val + 16) ≤ 31
    ∧ 16 ^ 16 * 8 ^ (bkt (i.val + 16) - 16) ≤ (i.val + 16) ^ 16 ∧ (i.val + 16) ^ 16 < 16 ^ 16 * 8 ^ (bkt (i.val + 16) - 16 + 1) := by
  decide +kernel

/-- The floor of sixteen times the logarithm of `n / 16` to base eight, for `n` from 16 on. -/
theorem floor_log (n j : Nat) (hn : 16 ≤ n) (h1 : 16 ^ 16 * 8 ^ j ≤ n ^ 16) (h2 : n ^ 16 < 16 ^ 16 * 8 ^ (j + 1)) :
    (j : ℝ) ≤ Real.log ((n : ℝ) / 16) / Real.log 8 * 16 ∧ Real.log ((n : ℝ) / 16) / Real.log 8 * 16 < (j : ℝ) + 1 := by
  have hl : (0 : ℝ) < Real.log 8 := Real.log_pos (by norm_num)
  have hn0 : (0 : ℝ) < (n : ℝ) := by exact_mod_cast (by omega : 0 < n)
  have e : Real.log ((n : ℝ) / 16) / Real.log 8 * 16 = Real.log (((n : ℝ) / 16) ^ 16) / Real.log 8 := by
    rw [Real.log_pow]; push_cast; ring
  rw [e, le_div_iff₀ hl, div_lt_iff₀ hl]
  have g1 : (j : ℝ) * Real.log 8 = Real.log (8 ^ j) := by rw [Real.log_pow]
  have g2 : ((j : ℝ) + 1) * Real.log 8 = Real.log (8 ^ (j + 1)) := by rw [Real.log_pow]; push_cast; ring
  rw [g1, g2]
  have h1' : (16 : ℝ) ^ 16 * 8 ^ j ≤ (n : ℝ) ^ 16 := by exact_mod_cast h1
  have h2' : (n : ℝ) ^ 16 < (16 : ℝ) ^ 16 * 8 ^ (j + 1) := by exact_mod_cast h2
  constructor
  · refine Real.log_le_log (by positivity) ?_
    rw [div_pow, le_div_iff₀ (by positivity)]
    linarith [mul_comm ((16 : ℝ) ^ 16) (8 ^ j)]
  · refine Real.log_lt_log (by positivity) ?_
    rw [div_pow, div_lt_iff₀ (by positivity)]
    linarith [mul_comm ((16 : ℝ) ^ 16) (8 ^ (j + 1))]

end Cert.Row

end
-- ==== Proof.Spec.lean ====
/- The attention's value, one head's row at a time, in real numbers: what both programs are shown to compute. -/
module

public import proofs.«01_k».proof.Proof.Math

@[expose] public section

noncomputable section

namespace Cert.Row

open Idealize.ShloMosaic

open Classical in
/-- The blocks a query sees: its own, and those before it that fewer than three blocks beat. -/
def Seen (g : Fin 8 → EReal) (o : Nat) (n : Fin 8) : Prop :=
  ((Finset.univ.filter fun m => Beats g m n).card < 3 ∧ n.val < o) ∨ n.val = o

/-- A key's row. -/
def ky (n : Fin 8) (j : Fin 256) : Fin 2048 := ⟨256 * n.val + j.val, by omega⟩

/-- A bias. -/
def tb (tr : Fin 32 → ℝ) (d : Nat) : ℝ := tr ⟨bkt d % 32, by omega⟩

/-- A logit, of any query and key. -/
def lgR (qr kr : Fin 2048 → Fin 128 → ℝ) (tr : Fin 32 → ℝ) (t s : Fin 2048) : ℝ :=
  (∑ d, qr t d * kr s d) / Real.sqrt 128 + tb tr (t.val - s.val)

/-- A query's product with a block's mean key. -/
def gtR (qr kr : Fin 2048 → Fin 128 → ℝ) (t : Fin 2048) (n : Fin 8) : ℝ :=
  ∑ d, qr t d * ((∑ j, kr (ky n j) d) / 256)

/-- The gate: that product for the blocks before the query's own. -/
def gt (qr kr : Fin 2048 → Fin 128 → ℝ) (t : Fin 2048) (n : Fin 8) : EReal :=
  if n.val < t.val / 256 then ((gtR qr kr t n : ℝ) : EReal) else ⊥

open Classical in
/-- The logits of the keys that a query sees. -/
def LL (qr kr : Fin 2048 → Fin 128 → ℝ) (tr : Fin 32 → ℝ) (t : Fin 2048) (n : Fin 8) (j : Fin 256) : EReal :=
  if Seen (gt qr kr t) (t.val / 256) n ∧ (ky n j).val ≤ t.val then ((lgR qr kr tr t (ky n j) : ℝ) : EReal) else ⊥

/-- The row's result. -/
def row (qr kr : Fin 2048 → Fin 128 → ℝ) (tr : Fin 32 → ℝ) (v : Fin 2048 → EReal) (t : Fin 2048) : EReal :=
  attn (LL qr kr tr t) (fun n j => v (ky n j))

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem LL_ne_top (qr kr : Fin 2048 → Fin 128 → ℝ) (tr : Fin 32 → ℝ) (t : Fin 2048) (n : Fin 8) (j : Fin 256) : LL qr kr tr t n j ≠ ⊤ := by
  unfold LL; split_ifs
  · exact EReal.coe_ne_top _
  · exact bot_ne_top

/-- A query's own block. -/
def own (t : Fin 2048) : Fin 8 := ⟨t.val / 256, by omega⟩

theorem LL_own (qr kr : Fin 2048 → Fin 128 → ℝ) (tr : Fin 32 → ℝ) (t : Fin 2048) : LL qr kr tr t (own t) 0 ≠ ⊥ := by
  unfold LL
  rw [if_pos ⟨Or.inr rfl, by show 256 * (t.val / 256) + 0 ≤ t.val; omega⟩]
  exact EReal.coe_ne_bot _

theorem LL_far (qr kr : Fin 2048 → Fin 128 → ℝ) (tr : Fin 32 → ℝ) (t : Fin 2048) (n : Fin 8) (j : Fin 256) (h : own t < n) : LL qr kr tr t n j = ⊥ := by
  have h : t.val / 256 < n.val := h
  unfold LL
  refine if_neg fun hc => ?_
  rcases hc.1 with h1 | h1 <;> omega

/-- Scaling a gate by a positive number changes no comparison. -/
theorem Beats_scale (g g' : Fin 8 → EReal) (c : ℝ) (hc : 0 < c) (h : ∀ n, g' n = (c : EReal) * g n) (hg : ∀ n, g n ≠ ⊤) (m n : Fin 8) :
    Beats g' m n ↔ Beats g m n := by
  have hx : ∀ x : EReal, x ≠ ⊤ → x = ⊥ ∨ ∃ r : ℝ, x = r := by
    intro x hx
    induction x with
    | bot => exact Or.inl rfl
    | coe r => exact Or.inr ⟨r, rfl⟩
    | top => exact absurd rfl hx
  have hb : (c : EReal) * ⊥ = ⊥ := EReal.coe_mul_bot_of_pos hc
  unfold Beats
  rw [h m, h n]
  rcases hx _ (hg m) with e | ⟨r, e⟩ <;> rcases hx _ (hg n) with e' | ⟨r', e'⟩ <;> rw [e, e']
  · simp only [hb]
  · rw [hb, ← EReal.coe_mul]; simp [-EReal.coe_mul]
  · rw [hb, ← EReal.coe_mul]; simp [-EReal.coe_mul]
  · rw [← EReal.coe_mul, ← EReal.coe_mul, EReal.coe_lt_coe_iff, EReal.coe_lt_coe_iff, EReal.coe_eq_coe_iff, EReal.coe_eq_coe_iff,
      mul_lt_mul_iff_right₀ hc, mul_right_inj' hc.ne']

open Classical in
theorem Seen_scale (g g' : Fin 8 → EReal) (c : ℝ) (hc : 0 < c) (h : ∀ n, g' n = (c : EReal) * g n) (hg : ∀ n, g n ≠ ⊤) (o : Nat) (n : Fin 8) :
    Seen g' o n ↔ Seen g o n := by
  unfold Seen
  have : (Finset.univ.filter fun m => Beats g' m n) = Finset.univ.filter fun m => Beats g m n := by
    ext m; simp only [Finset.mem_filter, Finset.mem_univ, true_and, Beats_scale g g' c hc h hg]
  rw [this]

theorem gt_ne_top (qr kr : Fin 2048 → Fin 128 → ℝ) (t : Fin 2048) (n : Fin 8) : gt qr kr t n ≠ ⊤ := by
  unfold gt; split_ifs
  · exact EReal.coe_ne_top _
  · exact bot_ne_top

/-- Beyond a distance of 113 every key has the last bucket. -/
theorem bkt_far (d : Nat) (h : 113 ≤ d) : bkt d = 31 := by
  unfold bkt
  rw [List.filter_eq_self.mpr]
  · rfl
  · intro a ha
    have : ∀ a ∈ starts, a ≤ 113 := by decide
    have := this a ha
    simp; omega

theorem tb_far (tr : Fin 32 → ℝ) (d : Nat) (h : 113 ≤ d) : tb tr d = tr 31 := by
  unfold tb
  exact congrArg tr (Fin.ext (by show bkt d % 32 = 31; rw [bkt_far d h]))

theorem starts_length : starts.length = 31 := by decide

theorem bkt_le (d : Nat) : bkt d ≤ 31 := by
  unfold bkt
  exact (List.length_filter_le _ _).trans starts_length.le

end Cert.Row

end
-- ==== Proof.KQx.lean ====
/- The attention's block of one prompt and head: the gate, the blocks it chooses, and the query and key rows extended with the mask's
   columns. -/
module

public import proofs.«01_k».proof.Proof.Gen.KernelIdeal.Frame
public import proofs.«01_k».proof.Proof.KHelp
public import proofs.«01_k».proof.Proof.Spec

@[expose] public section

set_option maxRecDepth 16384
set_option backward.isDefEq.respectTransparency false

noncomputable section

namespace Cert.KernelIdeal.KV

open Idealize.ShloMosaic Idealize.ShloMosaic.ValueIdx
open Cert.KernelIdeal.Gen Cert.KHelp Cert.Row

/-- The word of one 256th. -/
def w256 : EReal := Ideal.ofBits .f32 0x3B800000#32

/-- A block's mean key. -/
def km (k : (Sh 2048 128).Idx → EReal) (n : Fin 16) (d : Fin 128) : EReal :=
  ∑ s : Fin 2048, (if s.val / 256 = n.val then w256 else 0) * k (ix2 s d)

/-- A query's gate for a block that lies before its own; `⊥` for the others. -/
def gate (q k : (Sh 2048 128).Idx → EReal) (t : Fin 2048) (n : Fin 8) : EReal :=
  if n.val < t.val / 256 then
    ∑ d : Fin 128, km k (n.castLE (by decide)) d * q (ix2 t d)
      + ∑ d : Fin 128, (km k (n.castLE (by decide)) d - km k (n.castLE (by decide)) d) * q (ix2 t d)
  else ⊥

open Classical in
/-- The mask's columns. -/
def mt (q k : (Sh 2048 128).Idx → EReal) (t : Fin 2048) (n : Nat) : EReal :=
  if h : n < 8 then (if Seen (gate q k t) (t.val / 256) ⟨n, h⟩ then 0 else ⊥) else 0

/-- The extended queries. -/
def QX (q k : (Sh 2048 128).Idx → EReal) (t : Fin 2048) (d : Fin 256) : EReal :=
  if h : d.val < 128 then q (ix2 t ⟨d.val, h⟩) else mt q k t (d.val - 128)

/-- The extended keys. -/
def KX (k : (Sh 2048 128).Idx → EReal) (s : Fin 2048) (d : Fin 256) : EReal :=
  if h : d.val < 128 then k (ix2 s ⟨d.val, h⟩) else if s.val / 256 = d.val - 128 then 1 else 0

/-- The extended values. -/
def VX (v : (Sh 2048 128).Idx → EReal) (s : Fin 2048) (d : Fin 256) : EReal :=
  if h : d.val < 128 then v (ix2 s ⟨d.val, h⟩) else if d.val = 128 then 1 else 0

/-! ## Words -/

theorem own_dec : ∀ t : Fin 2048, k1_pay13 (ix2 (0 : Fin 8) t) = BitVec.ofNat 32 (t.val / 256) := by decide +kernel

theorem own_apply (n : Fin 8) (t : Fin 2048) : k1_pay13 (ix2 n t) = BitVec.ofNat 32 (t.val / 256) := own_dec t

theorem eq_word (a b : Nat) (ha : a < 4096) (hb : b < 4096) :
    IntOp.cmpi .eq (BitVec.ofNat 32 a) (BitVec.ofNat 32 b) = if a = b then 1#1 else 0#1 := by
  have : (BitVec.ofNat 32 a = BitVec.ofNat 32 b) ↔ a = b := by
    constructor
    · intro h
      have := congrArg BitVec.toNat h
      simp only [BitVec.toNat_ofNat] at this
      omega
    · rintro rfl; rfl
  show BitVec.ofBool (decide _) = _
  by_cases h : a = b
  · rw [if_pos h]; simp [this, h]
  · rw [if_neg h]; simp [this, h]

theorem slt_word (a b : Nat) (ha : a < 4096) (hb : b < 4096) :
    IntOp.cmpi .slt (BitVec.ofNat 32 a) (BitVec.ofNat 32 b) = if a < b then 1#1 else 0#1 := by
  have : (BitVec.ofNat 32 a).slt (BitVec.ofNat 32 b) = decide (a < b) := by
    rw [BitVec.slt_eq_decide, BitVec.toInt_eq_toNat_of_lt (by simp only [BitVec.toNat_ofNat]; omega), BitVec.toInt_eq_toNat_of_lt (by simp only [BitVec.toNat_ofNat]; omega)]
    simp only [BitVec.toNat_ofNat]
    rw [Nat.mod_eq_of_lt (by omega), Nat.mod_eq_of_lt (by omega)]
    simp
  show BitVec.ofBool _ = _
  rw [this]
  by_cases h : a < b <;> simp [h]

theorem toFloat_word (b : BitVec 1) : (FloatOps.sitofp (F := Ideal) .f32 (b.setWidth 32) : EReal) = if b = 1#1 then 1 else 0 := by
  have h : ∀ b : BitVec 1, ((b.setWidth 32).toInt) = if b = 1#1 then 1 else 0 := by decide
  show (((b.setWidth 32).toInt : ℝ) : EReal) = _
  rw [h]
  split_ifs <;> simp

/-- The mask's columns of the keys: one in the column of the key's block. -/
theorem onehot_apply (s : Fin 2048) (n : Fin 128) : k1_pay6 (F := Ideal) (ix2 s n) = if s.val / 256 = n.val then 1 else 0 := by
  have h1 : k1_pay6 (F := Ideal) (ix2 s n)
      = FloatOps.sitofp (F := Ideal) .f32 ((IntOp.cmpi .eq (k1_pay13 (ix2 (0 : Fin 8) s)) (BitVec.ofNat 32 (0 + n.val))).setWidth 32) := by
    unfold k1_pay6
    dsimp only
    rw [shapeCast_self]
    rfl
  rw [h1, Nat.zero_add, own_apply, eq_word _ _ (by omega) (by omega), toFloat_word]
  by_cases h : s.val / 256 = n.val <;> simp [h]

/-- The one column of the values. -/
theorem ones_apply (s : Fin 2048) (n : Fin 128) :
    k1_pay9 (F := Ideal) kernelRun1_A.sl.v6 (ix2 s n) = if n.val = 0 then 1 else 0 := by
  have h1 : k1_pay9 (F := Ideal) kernelRun1_A.sl.v6 (ix2 s n)
      = FloatOps.sitofp (F := Ideal) .f32 ((IntOp.cmpi .eq (BitVec.ofNat 32 (0 + n.val)) (BitVec.ofNat 32 0)).setWidth 32) := by
    unfold k1_pay9
    rw [shapeCast_self]
    rfl
  rw [h1, Nat.zero_add, eq_word _ _ (by omega) (by omega), toFloat_word]
  by_cases h : n.val = 0 <;> simp [h]

/-! ## The gate -/

theorem km_apply (k : (Sh 2048 128).Idx → EReal) (n : Fin 16) (d : Fin 128) : k1_pay10 (F := Ideal) k (ix2 n d) = km k n d := by
  have h1 : k1_pay10 (F := Ideal) k (ix2 n d) = ∑ s : Fin 2048,
      Scalar.select (IntOp.cmpi .eq (k1_pay13 (ix2 (0 : Fin 8) s)) (BitVec.ofNat 32 (0 + n.val))) w256 (Ideal.ofBits .f32 0x00000000#32) * k (ix2 s d) := by
    unfold k1_pay10
    exact nn_apply _ _ _ _
  rw [h1]
  unfold km
  refine Finset.sum_congr rfl fun s _ => ?_
  rw [Nat.zero_add, own_apply, eq_word _ _ (by omega) (by omega), Ideal.ofBits_zero_f32]
  by_cases h : s.val / 256 = n.val
  · rw [if_pos h, if_pos h]; rfl
  · rw [if_neg h, if_neg h]; rfl

theorem mask_bot : (Named.named (F := Ideal) (φ := .f32) κ "mask" 0xF149F2CA#32 : EReal) = ⊥ := rfl

theorem gate_apply (q k : (Sh 2048 128).Idx → EReal) (n : Fin 8) (t : Fin 2048) :
    k1_pay14 (F := Ideal) (k1_pay10 k) (k1_pay11 k) q (ix2 n t) = gate q k t n := by
  have hq : k1_pay12 (F := Ideal) q = q := by unfold k1_pay12; exact shapeCast_self _ _
  unfold k1_pay14
  dsimp only
  rw [hq, select_apply]
  have hc : (cmpi .slt (iota .tc S8x2048 32 [0] iota_S8x2048_d0_w32) k1_pay13 : IVec S8x2048 1) (ix2 n t)
      = if n.val < t.val / 256 then 1#1 else 0#1 := by
    show IntOp.cmpi .slt (BitVec.ofNat 32 (0 + n.val)) (k1_pay13 (ix2 n t)) = _
    rw [Nat.zero_add, own_apply, slt_word _ _ (by omega) (by omega)]
  rw [hc]
  unfold gate
  by_cases h : n.val < t.val / 256
  · rw [if_pos h, if_pos h, select_one]
    rw [extractStridedSlice_apply _ _ _ (ix2 n t) (ix2 (n.castLE (by decide) : Fin 16) t) (fun a => by
      match a with
      | ⟨0, _⟩ => exact (Nat.zero_add _).symm
      | ⟨1, _⟩ => exact (Nat.zero_add _).symm)]
    rw [addf_apply]
    congr 1
    · refine (nt_apply (φ₁ := .bf16) (φ₂ := .bf16) _ _ _ _).trans (Finset.sum_congr rfl fun d _ => ?_)
      congr 1
      exact km_apply k _ d
    · refine (nt_apply (φ₁ := .bf16) (φ₂ := .bf16) _ _ _ _).trans (Finset.sum_congr rfl fun d _ => ?_)
      congr 1
      show (k1_pay10 (F := Ideal) k (ix2 _ d) : EReal) - k1_pay10 (F := Ideal) k (ix2 _ d) = _
      rw [km_apply]
  · rw [if_neg h, if_neg h, select_zero]
    rfl

/-! ## The chosen blocks -/

/-- One comparison's bit. -/
def bit (g : Fin 8 → EReal) (m n : Fin 8) : BitVec 1 :=
  Ideal.cmp .ogt (g m) (g n) ||| (Ideal.cmp .oeq (g m) (g n) &&& IntOp.cmpi .sgt (BitVec.ofNat 32 (0 + n.val)) (BitVec.ofNat 32 m.val))

open Classical in
theorem bit_eq (g : Fin 8 → EReal) (m n : Fin 8) : bit g m n = BitVec.ofBool (decide (Beats g m n)) := by
  have h1 : IntOp.cmpi .sgt (BitVec.ofNat 32 (0 + n.val)) (BitVec.ofNat 32 m.val) = BitVec.ofBool (decide (m < n)) := by
    revert m n; decide
  unfold bit
  rw [h1]
  show BitVec.ofBool (decide (g n < g m)) ||| (BitVec.ofBool (decide (g m = g n)) &&& BitVec.ofBool (decide (m < n))) = _
  unfold Beats
  by_cases a : g n < g m <;> by_cases b : g m = g n <;> by_cases c : m < n <;> simp [a, b, c]

theorem bits_dec : ∀ b0 b1 b2 b3 b4 b5 b6 b7 : Bool,
    IntOp.cmpi .slt ((((((((0#32 + (BitVec.ofBool b0).setWidth 32) + (BitVec.ofBool b1).setWidth 32) + (BitVec.ofBool b2).setWidth 32)
      + (BitVec.ofBool b3).setWidth 32) + (BitVec.ofBool b4).setWidth 32) + (BitVec.ofBool b5).setWidth 32)
      + (BitVec.ofBool b6).setWidth 32) + (BitVec.ofBool b7).setWidth 32) 3#32
      = BitVec.ofBool (decide (b0.toNat + b1.toNat + b2.toNat + b3.toNat + b4.toNat + b5.toNat + b6.toNat + b7.toNat < 3)) := by
  decide

open Classical in
theorem card_eight (P : Fin 8 → Prop) : (Finset.univ.filter P).card
    = (decide (P 0)).toNat + (decide (P 1)).toNat + (decide (P 2)).toNat + (decide (P 3)).toNat + (decide (P 4)).toNat
      + (decide (P 5)).toNat + (decide (P 6)).toNat + (decide (P 7)).toNat := by
  rw [Finset.card_filter, Fin.sum_univ_eight]
  have h : ∀ i, (if P i then 1 else 0) = (decide (P i)).toNat := fun i => by by_cases h : P i <;> simp [h]
  simp only [h]

/-- A block's gate row against every block's. -/
theorem row_fun (g : FVec Ideal S8x2048 .f32) (m : Nat) (hm : m < 8) (hs : S8x2048.Slices ![m, 0] S1x2048)
    (hb : S1x2048.Broadcasts S8x2048) :
    broadcastTo S8x2048 (extractStridedSlice S1x2048 ![m, 0] g hs) hb = fun i => g (ix2 ⟨m, hm⟩ (i 1)) := by
  funext i
  rw [broadcastTo_apply _ hb i (ix2 (0 : Fin 1) (i 1)) (fun a => by
    match a with
    | ⟨0, _⟩ => rfl
    | ⟨1, _⟩ => rfl)]
  exact extractStridedSlice_apply _ _ hs _ _ (fun a => by
    match a with
    | ⟨0, _⟩ => rfl
    | ⟨1, _⟩ => exact (Nat.zero_add _).symm)

theorem sl_v93 : kernelRun1_A.sl.v93 = iota .tc S8x2048 32 [0] iota_S8x2048_d0_w32 := rfl

/-- The extended query rows, from the gate. -/
def qxOf (x : FVec Ideal S2048x128 .bf16) (g : FVec Ideal S8x2048 .f32) : FVec Ideal S2048x256 .bf16 :=
  k1_pay25 (F := Ideal) x kernelRun1_A.sl.v93 k1_pay13 g
    (k1_pay20 kernelRun1_A.sl.v93 g k1_pay15
      (cmpf .ogt (broadcastTo S8x2048 (extractStridedSlice S1x2048 ![0, 0] g slices_S8x2048_o0_0_S1x2048) broadcasts_S1x2048_S8x2048) g)
      (cmpf .oeq (broadcastTo S8x2048 (extractStridedSlice S1x2048 ![0, 0] g slices_S8x2048_o0_0_S1x2048) broadcasts_S1x2048_S8x2048) g)
      k1_pay19)
    (k1_pay22 g) (k1_pay23 g) (k1_pay24 kernelRun1_A.sl.v93)

theorem qxOf_left (x : FVec Ideal S2048x128 .bf16) (g : FVec Ideal S8x2048 .f32) (t : Fin 2048) (d : Fin 256) (h : d.val < 128) :
    qxOf x g (ix2 t d) = x (ix2 t ⟨d.val, h⟩) := by
  unfold qxOf k1_pay25
  dsimp only
  exact concatenate_pair_apply_left (α := EReal) (t := S2048x256) 1 _ _ concatenates_S2048x128_S2048x128_S2048x256_d1 (ix2 t d) rfl (ix2 t ⟨d.val, h⟩)
    (fun a => by
      match a with
      | ⟨0, _⟩ => rfl
      | ⟨1, _⟩ => rfl)

theorem qxOf_zero (x : FVec Ideal S2048x128 .bf16) (g : FVec Ideal S8x2048 .f32) (t : Fin 2048) (d : Fin 256) (h : ¬ d.val < 128)
    (hn : ¬ d.val - 128 < 8) : qxOf x g (ix2 t d) = 0 := by
  unfold qxOf k1_pay25
  dsimp only
  refine (concatenate_pair_apply_right (α := EReal) (t := S2048x256) 1 _ _ concatenates_S2048x128_S2048x128_S2048x256_d1 (ix2 t d) rfl rfl
    (ix2 t (⟨d.val - 128, by omega⟩ : Fin 128)) (fun a => by
      match a with
      | ⟨0, _⟩ => exact fun _ => rfl
      | ⟨1, _⟩ => exact fun h => absurd rfl h) (show d.val - 128 + 128 = d.val by omega)).trans ?_
  rw [show ∀ (x : FVec Ideal S2048x128 .f32) i, (truncf .bf16 x bitsLt_bf16_f32 : FVec Ideal S2048x128 .bf16) i = x i from fun _ _ => rfl]
  refine (transpose_apply (α := EReal) _ _ transposes_S128x2048_p1_0_S2048x128 _ (ix2 (⟨d.val - 128, by omega⟩ : Fin 128) t) (fun a => by
      match a with
      | ⟨0, _⟩ => rfl
      | ⟨1, _⟩ => rfl)).trans ?_
  refine (concatenate_pair_apply_right (α := EReal) (t := S128x2048) 0 _ _ concatenates_S8x2048_S120x2048_S128x2048_d0 (ix2 (⟨d.val - 128, by omega⟩ : Fin 128) t) rfl rfl
    (ix2 (⟨d.val - 128 - 8, by omega⟩ : Fin 120) t) (fun a => by
      match a with
      | ⟨0, _⟩ => exact fun h => absurd rfl h
      | ⟨1, _⟩ => exact fun _ => rfl) (show d.val - 128 - 8 + 8 = d.val - 128 by omega)).trans ?_
  exact Ideal.ofBits_zero_f32

open Classical in
theorem qxOf_mask (x : FVec Ideal S2048x128 .bf16) (g : FVec Ideal S8x2048 .f32) (t : Fin 2048) (d : Fin 256) (h : ¬ d.val < 128)
    (hn : d.val - 128 < 8) :
    qxOf x g (ix2 t d) = if Seen (fun n => g (ix2 n t)) (t.val / 256) ⟨d.val - 128, hn⟩ then 0 else ⊥ := by
  unfold qxOf k1_pay25 k1_pay20 k1_pay22 k1_pay23 k1_pay21
  dsimp only
  generalize hM : (select _ (broadcast S8x2048 _) _ : S8x2048.Idx → Ideal .f32) = M
  refine (concatenate_pair_apply_right (α := EReal) (t := S2048x256) 1 _ _ concatenates_S2048x128_S2048x128_S2048x256_d1 (ix2 t d) rfl rfl
    (ix2 t (⟨d.val - 128, by omega⟩ : Fin 128)) (fun a => by
      match a with
      | ⟨0, _⟩ => exact fun _ => rfl
      | ⟨1, _⟩ => exact fun h => absurd rfl h) (show d.val - 128 + 128 = d.val by omega)).trans ?_
  rw [show ∀ (x : FVec Ideal S2048x128 .f32) i, (truncf .bf16 x bitsLt_bf16_f32 : FVec Ideal S2048x128 .bf16) i = x i from fun _ _ => rfl]
  refine (transpose_apply (α := EReal) _ _ transposes_S128x2048_p1_0_S2048x128 _ (ix2 (⟨d.val - 128, by omega⟩ : Fin 128) t) (fun a => by
      match a with
      | ⟨0, _⟩ => rfl
      | ⟨1, _⟩ => rfl)).trans ?_
  refine (concatenate_pair_apply_left (α := EReal) (t := S128x2048) 0 _ _ concatenates_S8x2048_S120x2048_S128x2048_d0 _ rfl
    (ix2 (⟨d.val - 128, hn⟩ : Fin 8) t) (fun a => by
      match a with
      | ⟨0, _⟩ => rfl
      | ⟨1, _⟩ => rfl)).trans ?_
  subst hM
  rw [row_fun g 0 (by decide), row_fun g 1 (by decide), row_fun g 2 (by decide), row_fun g 3 (by decide), row_fun g 4 (by decide),
    row_fun g 5 (by decide), row_fun g 6 (by decide), row_fun g 7 (by decide)]
  generalize (⟨d.val - 128, hn⟩ : Fin 8) = n
  have e : ∀ G : Fin 8 → EReal, G = (fun n => g (ix2 n t)) → _ = Scalar.select (IntOp.ori (IntOp.andi (IntOp.cmpi .slt ((((((((0#32 + (bit G 0 n).setWidth 32) + (bit G 1 n).setWidth 32)
      + (bit G 2 n).setWidth 32) + (bit G 3 n).setWidth 32) + (bit G 4 n).setWidth 32) + (bit G 5 n).setWidth 32)
      + (bit G 6 n).setWidth 32) + (bit G 7 n).setWidth 32) 3#32)
      (IntOp.cmpi .slt (BitVec.ofNat 32 (0 + n.val)) (k1_pay13 (ix2 n t))))
      (IntOp.cmpi .eq (BitVec.ofNat 32 (0 + n.val)) (k1_pay13 (ix2 n t)))) (Ideal.ofBits .f32 0x00000000#32) (⊥ : EReal) :=
    fun G hG => by subst hG; rfl
  refine (e _ rfl).trans ?_
  generalize (fun n => g (ix2 n t)) = G
  simp only [bit_eq]
  rw [bits_dec, own_apply, Nat.zero_add, slt_word _ _ (by omega) (by omega), eq_word _ _ (by omega) (by omega), Ideal.ofBits_zero_f32]
  unfold Seen
  rw [card_eight (fun m => Beats G m n)]
  generalize (decide (Beats G 0 n)).toNat + (decide (Beats G 1 n)).toNat + (decide (Beats G 2 n)).toNat + (decide (Beats G 3 n)).toNat
    + (decide (Beats G 4 n)).toNat + (decide (Beats G 5 n)).toNat + (decide (Beats G 6 n)).toNat + (decide (Beats G 7 n)).toNat = N
  by_cases a : N < 3 <;> by_cases b : n.val < t.val / 256 <;> by_cases c : n.val = t.val / 256 <;>
    simp [a, b, c, IntOp.ori, IntOp.andi, Scalar.select] <;> omega

/-- The extended query rows. -/
theorem qx_apply (q k : (Sh 2048 128).Idx → EReal) (t : Fin 2048) (d : Fin 256) :
    qxOf q (k1_pay14 (F := Ideal) (k1_pay10 k) (k1_pay11 k) q) (ix2 t d) = QX q k t d := by
  unfold QX mt
  by_cases h : d.val < 128
  · rw [dif_pos h]; exact qxOf_left _ _ t d h
  · rw [dif_neg h]
    by_cases hn : d.val - 128 < 8
    · rw [dif_pos hn, qxOf_mask _ _ t d h hn, show (fun n => k1_pay14 (F := Ideal) (k1_pay10 k) (k1_pay11 k) q (ix2 n t)) = gate q k t from
        funext fun n => gate_apply q k n t]
    · rw [dif_neg hn]; exact qxOf_zero _ _ t d h hn

end Cert.KernelIdeal.KV

end
-- ==== Proof.KScore.lean ====
/- The attention's block of one prompt and head: the extended keys and values as stored, and the scores. -/
module

public import proofs.«01_k».proof.Proof.KQx

@[expose] public section

set_option maxRecDepth 16384
set_option backward.isDefEq.respectTransparency false

noncomputable section

namespace Cert.KernelIdeal.KV

open Idealize.ShloMosaic Idealize.ShloMosaic.ValueIdx
open Cert.KernelIdeal.Gen Cert.KHelp Cert.Row
open Idealize.ShloMosaic.Pipeline (Dat Cfg Window BodyObligation cellOf)

/-- A whole buffer's read gives what it holds. -/
theorem rd {n m : Nat} {e : EltTy} (a : Memref sig .tc .vmem (Sh n m) e) (h : a.IsWhole) (x : (Sh n m).Idx → Elt Ideal e) (inb) :
    View.readAt (Elt Ideal) a.view (Rect.unit (s := Sh n m) ![0, 0] (Sh n m).size inb).toLoadRect (h.unread x) = x := by
  rw [View.readAt_eq_ld, h.read_unread]
  exact View.ld_unit_zero (S := Sh n m) (by funext d; match d with | ⟨0, _⟩ => rfl | ⟨1, _⟩ => rfl) _ x

variable (c : Dev nD) (arg2 : Memref sig .tc .vmem S2048x128 .bf16) (harg2 : arg2.IsWhole) (arg3 : Memref sig .tc .vmem S2048x128 .bf16)
  (harg3 : arg3.IsWhole) (arg4 : Memref sig .tc .vmem S2048x128 .bf16) (harg4 : arg4.IsWhole)
  (arg7 : Memref sig .tc .vmem S2048x256 .bf16) (arg8 : Memref sig .tc .vmem S2048x256 .bf16) (arg9 : Memref sig .tc .vmem S2048x2048 .f32)
  (x0 x1 x2 : Vec Ideal S2048x128 .bf16)

theorem sl_r : kernelRun1_A.sl.r c arg3 harg3 x1 = x1 := by
  unfold kernelRun1_A.sl.r k1_pay4
  dsimp only
  rw [shapeCast_self]
  exact rd arg3 harg3 x1 _

theorem sl_r1 : kernelRun1_A.sl.r_1 c arg4 harg4 x2 = x2 := by
  unfold kernelRun1_A.sl.r_1 k1_pay7
  dsimp only
  rw [shapeCast_self]
  exact rd arg4 harg4 x2 _

theorem sl_r4 : kernelRun1_A.sl.r_4 c arg2 harg2 x0 = x0 := by
  unfold kernelRun1_A.sl.r_4 k1_pay12
  dsimp only
  rw [shapeCast_self]
  exact rd arg2 harg2 x0 _

theorem sl_r5 : kernelRun1_A.sl.r_5 c arg2 harg2 arg3 harg3 x0 x1 = k1_pay14 (k1_pay10 x1) (k1_pay11 x1) x0 := by
  unfold kernelRun1_A.sl.r_5 kernelRun1_A.sl.r_2 kernelRun1_A.sl.r_3
  rw [sl_r, show View.readAt (Elt Ideal) arg2.view _ (harg2.unread x0) = x0 from rd arg2 harg2 x0 _]

theorem sl_qx : k1_pay25 (kernelRun1_A.sl.r_4 c arg2 harg2 x0) kernelRun1_A.sl.v93 k1_pay13 (kernelRun1_A.sl.r_5 c arg2 harg2 arg3 harg3 x0 x1)
      (kernelRun1_A.sl.r_8 c arg2 harg2 arg3 harg3 x0 x1) (kernelRun1_A.sl.r_9 c arg2 harg2 arg3 harg3 x0 x1)
      (kernelRun1_A.sl.r_10 c arg2 harg2 arg3 harg3 x0 x1) (k1_pay24 kernelRun1_A.sl.v93)
    = qxOf x0 (k1_pay14 (k1_pay10 x1) (k1_pay11 x1) x0) := by
  unfold kernelRun1_A.sl.r_8 kernelRun1_A.sl.r_9 kernelRun1_A.sl.r_10 kernelRun1_A.sl.r_6 kernelRun1_A.sl.r_7
    kernelRun1_A.sl.r_2 kernelRun1_A.sl.r_3
  rw [sl_r4, sl_r5, sl_r, show View.readAt (Elt Ideal) arg2.view _ (harg2.unread x0) = x0 from rd arg2 harg2 x0 _]
  rfl

theorem sl_r11 : kernelRun1_A.sl.r_11 c arg2 harg2 arg3 harg3 x0 x1 = qxOf x0 (k1_pay14 (k1_pay10 x1) (k1_pay11 x1) x0) := by
  unfold kernelRun1_A.sl.r_11
  exact sl_qx c arg2 harg2 arg3 harg3 x0 x1

/-! ## The stored keys and values -/

/-- Two stores side by side, read back. -/
theorem halves_apply {e : EltTy} (a b : (Sh 2048 128).Idx → Elt Ideal e) (inb0 inb1) (G : (Sh 2048 256).Idx → Elt Ideal e)
    (h0 : ∀ s (d : Fin 128), a (ix2 s d) = G (ix2 s ⟨d.val, by omega⟩)) (h1 : ∀ s (d : Fin 128), b (ix2 s d) = G (ix2 s ⟨128 + d.val, by omega⟩))
    (y : (Sh 2048 256).Idx) :
    View.canon (Val := Elt Ideal) (s := Sh 2048 256) (e := e) [⟨Rect.unit (s := Sh 2048 256) ![0, 128] (Sh 2048 128).size inb1, b⟩,
      ⟨Rect.unit (s := Sh 2048 256) ![0, 0] (Sh 2048 128).size inb0, a⟩] y = G y := by
  refine View.canon_apply_of_pieces G _ ?_ y ?_
  · intro p hp
    rcases List.mem_cons.mp hp with rfl | hp
    · intro (x : (Sh 2048 128).Idx)
      have hx : (x 1).val < 128 := (x 1).isLt
      rw [show (Rect.unit (s := Sh 2048 256) ![0, 128] (Sh 2048 128).size inb1).emb x = ix2 (x 0) ⟨128 + (x 1).val, by omega⟩ from
        emb2 0 128 inb1 x _ _ (Nat.zero_add _).symm rfl]
      exact (congrArg b (eq_ix2 x)).trans (h1 _ _)
    · rcases List.mem_cons.mp hp with rfl | hp
      · intro (x : (Sh 2048 128).Idx)
        have hx : (x 1).val < 128 := (x 1).isLt
        rw [show (Rect.unit (s := Sh 2048 256) ![0, 0] (Sh 2048 128).size inb0).emb x = ix2 (x 0) ⟨(x 1).val, by omega⟩ from
          emb2 0 0 inb0 x _ _ (Nat.zero_add _).symm (Nat.zero_add _).symm]
        exact (congrArg a (eq_ix2 x)).trans (h0 _ _)
      · exact absurd hp (List.not_mem_nil)
  · have hy0 : (y 0).val < 2048 := (y 0).isLt
    have hy1 : (y 1).val < 256 := (y 1).isLt
    by_cases h : (y 1).val < 128
    · exact ⟨_, List.mem_cons_of_mem _ List.mem_cons_self, (mem2 0 0 inb0 y).mpr ⟨by omega, by omega, by omega, by omega⟩⟩
    · exact ⟨_, List.mem_cons_self, (mem2 0 128 inb1 y).mpr ⟨by omega, by omega, by omega, by omega⟩⟩

/-- The extended keys, as a buffer. -/
def KXf (k : (Sh 2048 128).Idx → EReal) : (Sh 2048 256).Idx → EReal := fun y => KX k (y 0) (y 1)

/-- The extended values, as a buffer. -/
def VXf (v : (Sh 2048 128).Idx → EReal) : (Sh 2048 256).Idx → EReal := fun y => VX v (y 0) (y 1)

theorem kx_canon (y : (Sh 2048 256).Idx) : View.canon (kernelRun1_A.sl.HS0_2 c arg3 harg3 x1) y = KXf x1 y := by
  unfold kernelRun1_A.sl.HS0_2
  refine halves_apply (e := .bf16) _ _ _ _ (KXf x1) (fun s d => ?_) (fun s d => ?_) y
  · unfold k1_pay5 k1_pay4
    dsimp only
    rw [shapeCast_self, shapeCast_self, show View.readAt (Elt Ideal) arg3.view _ (harg3.unread x1) = x1 from rd arg3 harg3 x1 _]
    show _ = KX x1 s ⟨d.val, by omega⟩
    unfold KX
    rw [dif_pos (show (⟨d.val, by omega⟩ : Fin 256).val < 128 from d.isLt)]
  · rw [onehot_apply]
    show _ = KX x1 s ⟨128 + d.val, by omega⟩
    unfold KX
    rw [dif_neg (by show ¬ 128 + d.val < 128; omega)]
    show _ = if s.val / 256 = 128 + d.val - 128 then 1 else 0
    rw [Nat.add_sub_cancel_left]

theorem vx_canon (y : (Sh 2048 256).Idx) : View.canon (kernelRun1_A.sl.HS1_2 c arg4 harg4 x2) y = VXf x2 y := by
  unfold kernelRun1_A.sl.HS1_2
  refine halves_apply (e := .bf16) _ _ _ _ (VXf x2) (fun s d => ?_) (fun s d => ?_) y
  · unfold k1_pay8
    rw [sl_r1, shapeCast_self]
    show _ = VX x2 s ⟨d.val, by omega⟩
    unfold VX
    rw [dif_pos (show (⟨d.val, by omega⟩ : Fin 256).val < 128 from d.isLt)]
  · rw [ones_apply]
    show _ = VX x2 s ⟨128 + d.val, by omega⟩
    unfold VX
    rw [dif_neg (by show ¬ 128 + d.val < 128; omega)]
    by_cases h : d.val = 0
    · rw [if_pos h, if_pos (by show 128 + d.val = 128; omega)]
    · rw [if_neg h, if_neg (by show ¬ 128 + d.val = 128; omega)]

/-- The two halves fill the buffer. -/
theorem halves_cover {e : EltTy} (a b : (Sh 2048 128).Idx → Elt Ideal e) (inb0 inb1) (y : (Sh 2048 256).Idx) :
    ∃ p ∈ ([⟨Rect.unit (s := Sh 2048 256) ![0, 128] (Sh 2048 128).size inb1, b⟩,
      ⟨Rect.unit (s := Sh 2048 256) ![0, 0] (Sh 2048 128).size inb0, a⟩] : List (View.Piece (Elt Ideal) (Sh 2048 256) e)), y ∈ p.1.set := by
  have hy0 : (y 0).val < 2048 := (y 0).isLt
  have hy1 : (y 1).val < 256 := (y 1).isLt
  by_cases h : (y 1).val < 128
  · exact ⟨_, List.mem_cons_of_mem _ List.mem_cons_self, (mem2 0 0 inb0 y).mpr ⟨by omega, by omega, by omega, by omega⟩⟩
  · exact ⟨_, List.mem_cons_self, (mem2 0 128 inb1 y).mpr ⟨by omega, by omega, by omega, by omega⟩⟩

theorem kblk (o : Nat) (inb) (ho : o + 256 ≤ 2048) (r d : Fin 256) :
    arg7.view.readCov (kernelRun1_A.sl.HS0_2 c arg3 harg3 x1) (Rect.unit (s := Sh 2048 256) ![o, 0] ![256, 256] inb).toLoadRect (ix2 r d)
      = KX x1 ⟨o + r.val, by omega⟩ d := by
  rw [readCov2 (e := .bf16) arg7.view (kernelRun1_A.sl.HS0_2 c arg3 harg3 x1) o 0 inb (KXf x1)
    (fun y _ _ _ _ => by unfold kernelRun1_A.sl.HS0_2; exact halves_cover (e := .bf16) _ _ _ _ y)
    (fun y _ _ _ _ => kx_canon c arg3 harg3 x1 y),
    emb2 o 0 inb (ix2 r d) (⟨o + r.val, by omega⟩ : Fin 2048) d rfl (Nat.zero_add _).symm]
  rfl

theorem vblk (o : Nat) (inb) (ho : o + 256 ≤ 2048) (r d : Fin 256) :
    arg8.view.readCov (kernelRun1_A.sl.HS1_2 c arg4 harg4 x2) (Rect.unit (s := Sh 2048 256) ![o, 0] ![256, 256] inb).toLoadRect (ix2 r d)
      = VX x2 ⟨o + r.val, by omega⟩ d := by
  rw [readCov2 (e := .bf16) arg8.view (kernelRun1_A.sl.HS1_2 c arg4 harg4 x2) o 0 inb (VXf x2)
    (fun y _ _ _ _ => by unfold kernelRun1_A.sl.HS1_2; exact halves_cover (e := .bf16) _ _ _ _ y)
    (fun y _ _ _ _ => vx_canon c arg4 harg4 x2 y),
    emb2 o 0 inb (ix2 r d) (⟨o + r.val, by omega⟩ : Fin 2048) d rfl (Nat.zero_add _).symm]
  rfl

/-! ## The scores -/

/-- The score of a query and a key, with the mask's part. -/
def SS (q k : (Sh 2048 128).Idx → EReal) (t s : Fin 2048) : EReal := ∑ d : Fin 256, QX q k t d * KX k s d

/-- The scores, as a buffer. -/
def SSf (q k : (Sh 2048 128).Idx → EReal) : (Sh 2048 2048).Idx → EReal := fun y => SS q k (y 0) (y 1)

/-- One block of keys against the rows from the block on. -/
theorem spay {R : Nat} (o : Nat) (ho : o + R ≤ 2048) (ho' : o + 256 ≤ 2048) (l : FVec Ideal (Sh R 256) .bf16) (r : FVec Ideal (Sh 256 256) .bf16) (wf)
    (hl : ∀ (i : Fin R) d, l (ix2 i d) = QX x0 x1 ⟨o + i.val, by omega⟩ d)
    (hr : ∀ (i : Fin 256) d, r (ix2 i d) = KX x1 ⟨o + i.val, by omega⟩ d) (inb) (x : (Sh R 256).Idx) :
    FloatOps.matmul (F := Ideal) (⟨[1], [1], [0], [0], [], [], wf⟩ : DotDims (Sh R 256) (Sh 256 256) (Sh R 256)) none l r
      (constant (Sh R 256) .f32 0x00000000#32) x = SSf x0 x1 ((Rect.unit (s := Sh 2048 2048) ![o, o] ![R, 256] inb).emb x) := by
  have h0 : (x 0).val < R := (x 0).isLt
  have h1 : (x 1).val < 256 := (x 1).isLt
  rw [nt_apply, emb2 o o inb x (⟨o + (x 0).val, by omega⟩ : Fin 2048) (⟨o + (x 1).val, by omega⟩ : Fin 2048) rfl rfl]
  show _ = ∑ d : Fin 256, QX x0 x1 ⟨o + (x 0).val, by omega⟩ d * KX x1 ⟨o + (x 1).val, by omega⟩ d
  exact Finset.sum_congr rfl fun d _ => congrArg₂ (· * ·) (hl (x 0) d) (hr (x 1) d)

/-- The rows from `o` on, of the extended queries. -/
theorem qrows {R : Nat} (o : Nat) (ho : o + R ≤ 2048) (hs : (Sh 2048 256).Slices ![o, 0] (Sh R 256)) (i : Fin R) (d : Fin 256) :
    extractStridedSlice (Sh R 256) ![o, 0] (qxOf x0 (k1_pay14 (F := Ideal) (k1_pay10 x1) (k1_pay11 x1) x0)) hs (ix2 i d)
      = QX x0 x1 ⟨o + i.val, by omega⟩ d := by
  rw [extractStridedSlice_apply _ _ hs (ix2 i d) (ix2 (⟨o + i.val, by omega⟩ : Fin 2048) d) (fun a => by
    match a with
    | ⟨0, _⟩ => rfl
    | ⟨1, _⟩ => exact (Nat.zero_add _).symm)]
  exact qx_apply x0 x1 _ d

theorem ss_pieces : ∀ p ∈ kernelRun1_A.sl.HS2_8 c arg2 harg2 arg3 harg3 arg7 x0 x1, ∀ x : p.1.shape.Idx, p.2 x = SSf x0 x1 (p.1.emb x) := by
  intro p hp
  unfold kernelRun1_A.sl.HS2_8 at hp
  rcases List.mem_cons.mp hp with rfl | hp
  · intro x
    unfold k1_pay35
    dsimp only
    rw [shapeCast_self, sl_r11]
    exact spay x0 x1 1792 (by omega) (by omega) _ _ _ (fun i d => qrows x0 x1 1792 (by omega) _ i d) (fun i d => kblk c arg3 harg3 arg7 x1 1792 _ (by omega) i d) _ x
  rcases List.mem_cons.mp hp with rfl | hp
  · intro x
    unfold k1_pay34 kernelRun1_A.sl.r_13 k1_pay33
    dsimp only
    rw [shapeCast_self, sl_r11]
    exact spay x0 x1 1536 (by omega) (by omega) _ _ _ (fun i d => qrows x0 x1 1536 (by omega) _ i d) (fun i d => kblk c arg3 harg3 arg7 x1 1536 _ (by omega) i d) _ x
  rcases List.mem_cons.mp hp with rfl | hp
  · intro x
    unfold k1_pay32
    dsimp only
    rw [shapeCast_self, sl_r11]
    exact spay x0 x1 1280 (by omega) (by omega) _ _ _ (fun i d => qrows x0 x1 1280 (by omega) _ i d) (fun i d => kblk c arg3 harg3 arg7 x1 1280 _ (by omega) i d) _ x
  rcases List.mem_cons.mp hp with rfl | hp
  · intro x
    unfold k1_pay31
    dsimp only
    rw [shapeCast_self, sl_r11]
    exact spay x0 x1 1024 (by omega) (by omega) _ _ _ (fun i d => qrows x0 x1 1024 (by omega) _ i d) (fun i d => kblk c arg3 harg3 arg7 x1 1024 _ (by omega) i d) _ x
  rcases List.mem_cons.mp hp with rfl | hp
  · intro x
    unfold k1_pay30
    dsimp only
    rw [shapeCast_self, sl_r11]
    exact spay x0 x1 768 (by omega) (by omega) _ _ _ (fun i d => qrows x0 x1 768 (by omega) _ i d) (fun i d => kblk c arg3 harg3 arg7 x1 768 _ (by omega) i d) _ x
  rcases List.mem_cons.mp hp with rfl | hp
  · intro x
    unfold k1_pay29
    dsimp only
    rw [shapeCast_self, sl_r11]
    exact spay x0 x1 512 (by omega) (by omega) _ _ _ (fun i d => qrows x0 x1 512 (by omega) _ i d) (fun i d => kblk c arg3 harg3 arg7 x1 512 _ (by omega) i d) _ x
  rcases List.mem_cons.mp hp with rfl | hp
  · intro x
    unfold k1_pay28 kernelRun1_A.sl.r_12 k1_pay27
    dsimp only
    rw [shapeCast_self, sl_qx]
    exact spay x0 x1 256 (by omega) (by omega) _ _ _ (fun i d => qrows x0 x1 256 (by omega) _ i d) (fun i d => kblk c arg3 harg3 arg7 x1 256 _ (by omega) i d) _ x
  rcases List.mem_cons.mp hp with rfl | hp
  · intro x
    unfold k1_pay26
    dsimp only
    rw [shapeCast_self, sl_qx]
    exact spay x0 x1 0 (by omega) (by omega) _ _ _ (fun i d => (qx_apply x0 x1 i d).trans (congrArg (fun t => QX x0 x1 t d) (Fin.ext (Nat.zero_add _).symm))) (fun i d => kblk c arg3 harg3 arg7 x1 0 _ (by omega) i d) _ x
  exact absurd hp List.not_mem_nil

theorem ss_cover (y : (Sh 2048 2048).Idx) (h : (y 1).val / 256 ≤ (y 0).val / 256) :
    ∃ p ∈ kernelRun1_A.sl.HS2_8 c arg2 harg2 arg3 harg3 arg7 x0 x1, y ∈ p.1.set := by
  have hy0 : (y 0).val < 2048 := (y 0).isLt
  have hy1 : (y 1).val < 2048 := (y 1).isLt
  unfold kernelRun1_A.sl.HS2_8
  have hc : (y 1).val / 256 = 0 ∨ (y 1).val / 256 = 1 ∨ (y 1).val / 256 = 2 ∨ (y 1).val / 256 = 3 ∨ (y 1).val / 256 = 4
      ∨ (y 1).val / 256 = 5 ∨ (y 1).val / 256 = 6 ∨ (y 1).val / 256 = 7 := by omega
  rcases hc with e | e | e | e | e | e | e | e
  · refine ⟨_, (List.mem_cons_of_mem _ (List.mem_cons_of_mem _ (List.mem_cons_of_mem _ (List.mem_cons_of_mem _ (List.mem_cons_of_mem _ (List.mem_cons_of_mem _ (List.mem_cons_of_mem _ List.mem_cons_self))))))), ?_⟩
    exact (mem2 (m := 2048) (n := 2048) (a := 2048) (b := 256) 0 0 (by decide) y).mpr ⟨by omega, by omega, by omega, by omega⟩
  · refine ⟨_, (List.mem_cons_of_mem _ (List.mem_cons_of_mem _ (List.mem_cons_of_mem _ (List.mem_cons_of_mem _ (List.mem_cons_of_mem _ (List.mem_cons_of_mem _ List.mem_cons_self)))))), ?_⟩
    exact (mem2 (m := 2048) (n := 2048) (a := 1792) (b := 256) 256 256 (by decide) y).mpr ⟨by omega, by omega, by omega, by omega⟩
  · refine ⟨_, (List.mem_cons_of_mem _ (List.mem_cons_of_mem _ (List.mem_cons_of_mem _ (List.mem_cons_of_mem _ (List.mem_cons_of_mem _ List.mem_cons_self))))), ?_⟩
    exact (mem2 (m := 2048) (n := 2048) (a := 1536) (b := 256) 512 512 (by decide) y).mpr ⟨by omega, by omega, by omega, by omega⟩
  · refine ⟨_, (List.mem_cons_of_mem _ (List.mem_cons_of_mem _ (List.mem_cons_of_mem _ (List.mem_cons_of_mem _ List.mem_cons_self)))), ?_⟩
    exact (mem2 (m := 2048) (n := 2048) (a := 1280) (b := 256) 768 768 (by decide) y).mpr ⟨by omega, by omega, by omega, by omega⟩
  · refine ⟨_, (List.mem_cons_of_mem _ (List.mem_cons_of_mem _ (List.mem_cons_of_mem _ List.mem_cons_self))), ?_⟩
    exact (mem2 (m := 2048) (n := 2048) (a := 1024) (b := 256) 1024 1024 (by decide) y).mpr ⟨by omega, by omega, by omega, by omega⟩
  · refine ⟨_, (List.mem_cons_of_mem _ (List.mem_cons_of_mem _ List.mem_cons_self)), ?_⟩
    exact (mem2 (m := 2048) (n := 2048) (a := 768) (b := 256) 1280 1280 (by decide) y).mpr ⟨by omega, by omega, by omega, by omega⟩
  · refine ⟨_, (List.mem_cons_of_mem _ List.mem_cons_self), ?_⟩
    exact (mem2 (m := 2048) (n := 2048) (a := 512) (b := 256) 1536 1536 (by decide) y).mpr ⟨by omega, by omega, by omega, by omega⟩
  · refine ⟨_, List.mem_cons_self, ?_⟩
    exact (mem2 (m := 2048) (n := 2048) (a := 256) (b := 256) 1792 1792 (by decide) y).mpr ⟨by omega, by omega, by omega, by omega⟩

theorem ss_canon (y : (Sh 2048 2048).Idx) (h : (y 1).val / 256 ≤ (y 0).val / 256) :
    View.canon (kernelRun1_A.sl.HS2_8 c arg2 harg2 arg3 harg3 arg7 x0 x1) y = SSf x0 x1 y :=
  View.canon_apply_of_pieces (SSf x0 x1) _ (ss_pieces c arg2 harg2 arg3 harg3 arg7 x0 x1) y (ss_cover c arg2 harg2 arg3 harg3 arg7 x0 x1 y h)

/-- A box of the scores below the block diagonal. -/
theorem sblk {C : Nat} (o o' : Nat) (inb) (ho : o + 256 ≤ 2048) (hd : o % 256 = 0) (ho' : o' + C ≤ o + 256) (r : Fin 256) (s : Fin C) :
    arg9.view.readCov (kernelRun1_A.sl.HS2_8 c arg2 harg2 arg3 harg3 arg7 x0 x1) (Rect.unit (s := Sh 2048 2048) ![o, o'] ![256, C] inb).toLoadRect (ix2 r s)
      = SS x0 x1 ⟨o + r.val, by omega⟩ ⟨o' + s.val, by omega⟩ := by
  rw [readCov2 (e := .f32) arg9.view (kernelRun1_A.sl.HS2_8 c arg2 harg2 arg3 harg3 arg7 x0 x1) o o' inb (SSf x0 x1)
    (fun y h1 h2 h3 h4 => ss_cover c arg2 harg2 arg3 harg3 arg7 x0 x1 y (by omega))
    (fun y h1 h2 h3 h4 => ss_canon c arg2 harg2 arg3 harg3 arg7 x0 x1 y (by omega)),
    emb2 o o' inb (ix2 r s) (⟨o + r.val, by omega⟩ : Fin 2048) (⟨o' + s.val, by omega⟩ : Fin 2048) rfl rfl]
  rfl

end Cert.KernelIdeal.KV

end
-- ==== Proof.KProb.lean ====
/- The attention's block of one prompt and head: the scores with their biases, and each row's softmax numerator. -/
module

public import proofs.«01_k».proof.Proof.KScore

@[expose] public section

set_option maxRecDepth 16384
set_option backward.isDefEq.respectTransparency false

noncomputable section

namespace Cert.KernelIdeal.KV

open Idealize.ShloMosaic Idealize.ShloMosaic.ValueIdx
open Cert.KernelIdeal.Gen Cert.KHelp Cert.Row
open Idealize.ShloMosaic.Pipeline (Dat Cfg Window BodyObligation cellOf)

/-- The bias block's shape. -/
abbrev ShB : Shape := ⟨4, ![1, 2, 256, 256]⟩

/-- One bias. -/
def bias (x3 : ShB.Idx → EReal) (w : Fin 2) (i j : Fin 256) : EReal := x3 (ix4 0 w i j)

/-- A score with its bias. -/
def TT (q k : (Sh 2048 128).Idx → EReal) (x3 : ShB.Idx → EReal) (t s : Fin 2048) : EReal :=
  if s.val / 256 = t.val / 256 then SS q k t s + bias x3 0 ⟨t.val % 256, by omega⟩ ⟨s.val % 256, by omega⟩
  else if s.val / 256 + 1 = t.val / 256 then SS q k t s + bias x3 1 ⟨t.val % 256, by omega⟩ ⟨s.val % 256, by omega⟩
  else SS q k t s

/-- A row's greatest score over the blocks up to its own. -/
def MX (q k : (Sh 2048 128).Idx → EReal) (x3 : ShB.Idx → EReal) (t : Fin 2048) : EReal :=
  (Finset.univ.filter fun s : Fin 2048 => s.val / 256 ≤ t.val / 256).sup (TT q k x3 t)

/-- The softmax's numerator. -/
def PP (q k : (Sh 2048 128).Idx → EReal) (x3 : ShB.Idx → EReal) (t s : Fin 2048) : EReal :=
  Ideal.exp2 (TT q k x3 t s - MX q k x3 t)

/-- The numerators, as a buffer. -/
def PPf (q k : (Sh 2048 128).Idx → EReal) (x3 : ShB.Idx → EReal) : (Sh 2048 2048).Idx → EReal := fun y => PP q k x3 (y 0) (y 1)

variable (c : Dev nD) (arg2 : Memref sig .tc .vmem S2048x128 .bf16) (harg2 : arg2.IsWhole) (arg3 : Memref sig .tc .vmem S2048x128 .bf16)
  (harg3 : arg3.IsWhole) (arg5 : Memref sig .tc .vmem S1x2x256x256 .f32) (harg5 : arg5.IsWhole)
  (arg7 : Memref sig .tc .vmem S2048x256 .bf16) (arg9 : Memref sig .tc .vmem S2048x2048 .f32) (arg10 : Memref sig .tc .vmem S2048x2048 .bf16)
  (x0 x1 : Vec Ideal S2048x128 .bf16) (x3 : Vec Ideal S1x2x256x256 .f32)

/-- A bias block read. -/
theorem bblk (w : Fin 2) (inb) (hs : S1x1x256x256.ShapeCasts S256x256) (i j : Fin 256) :
    shapeCast S256x256 (View.readAt (Elt Ideal) arg5.view (Rect.unit (s := ShB) ![0, w.val, 0, 0] S1x1x256x256.size inb).toLoadRect (harg5.unread x3)) hs (ix2 i j)
      = bias x3 w i j := by
  rw [shapeCast_apply _ hs (ix2 i j) (ix4 (0 : Fin 1) (0 : Fin 1) i j) (by
    rw [Shape.rowMajor_val_four, Shape.rowMajor_val_two]; simp), View.readAt_eq_ld, harg5.read_unread]
  unfold bias
  show x3 _ = _
  refine congrArg x3 (funext fun a => Fin.ext ?_)
  match a with
  | ⟨0, _⟩ => rfl
  | ⟨1, _⟩ => show w.val + 1 * 0 = w.val; omega
  | ⟨2, _⟩ => show 0 + 1 * i.val = i.val; omega
  | ⟨3, _⟩ => show 0 + 1 * j.val = j.val; omega

/-- A row of blocks: its softmax numerator. -/
theorem ppay {C : Nat} (o0 : Nat) (ho : o0 % 256 = 0) (hC : C = o0 + 256) (hle : C ≤ 2048) (X : FVec Ideal (Sh 256 C) .f32)
    (hX : ∀ (i : Fin 256) (s : Fin C), X (ix2 i s) = TT x0 x1 x3 ⟨o0 + i.val, by omega⟩ (s.castLE hle))
    (hr : (Sh 256 C).Reduces [1] ⟨1, ![256]⟩) (hφ) (hacc)
    (hs : (⟨1, ![256]⟩ : Shape).ShapeCasts (Sh 256 1)) (hb : (Sh 256 1).Broadcasts (Sh 256 C)) (inb) (x : (Sh 256 C).Idx) :
    exp2 (F := Ideal) (subf X (broadcastTo (Sh 256 C) (shapeCast (Sh 256 1)
      (multiReduction (F := Ideal) .maximumf [1] ⟨1, ![256]⟩ X 0xFF800000#32 hr hφ hacc) hs) hb)) x
      = PPf x0 x1 x3 ((Rect.unit (s := Sh 2048 2048) ![o0, 0] ![256, C] inb).emb x) := by
  have h0 : (x 0).val < 256 := (x 0).isLt
  have h1 : (x 1).val < C := (x 1).isLt
  rw [emb2 o0 0 inb x (⟨o0 + (x 0).val, by omega⟩ : Fin 2048) ((x 1).castLE hle : Fin 2048) rfl (Nat.zero_add _).symm]
  have hx : x = ix2 (x 0) (x 1) := eq_ix2 x
  refine (congrArg _ hx).trans ((prow_apply X hr hφ hacc hs hb (x 0) (x 1)).trans ?_)
  show _ = PP x0 x1 x3 _ _
  unfold PP MX
  refine congrArg Ideal.exp2 (congrArg₂ (· - ·) (hX _ _) ?_)
  rw [show (fun s' : Fin C => X (ix2 (x 0) s')) = fun s' => TT x0 x1 x3 ⟨o0 + (x 0).val, by omega⟩ (s'.castLE hle) from funext fun s' => hX _ _,
    sup_castLE hle (TT x0 x1 x3 ⟨o0 + (x 0).val, by omega⟩)]
  congr 1
  ext s
  simp only [Finset.mem_filter, Finset.mem_univ, true_and]
  show s.val < C ↔ s.val / 256 ≤ (o0 + (x 0).val) / 256
  omega

/-- The scores with biases of a row of three kinds of blocks. -/
theorem cat3T {W C : Nat} (o0 : Nat) (ho : o0 % 256 = 0) (hW : W + 256 = o0) (hC : C = W + 512) (hle : C ≤ 2048)
    (a : FVec Ideal (Sh 256 W) .f32) (b d B0 B1 : FVec Ideal (Sh 256 256) .f32)
    (ha : ∀ (i : Fin 256) (s : Fin W), a (ix2 i s) = SS x0 x1 ⟨o0 + i.val, by omega⟩ ⟨0 + s.val, by omega⟩)
    (hb : ∀ (i : Fin 256) (s : Fin 256), b (ix2 i s) = SS x0 x1 ⟨o0 + i.val, by omega⟩ ⟨W + s.val, by omega⟩)
    (hd : ∀ (i : Fin 256) (s : Fin 256), d (ix2 i s) = SS x0 x1 ⟨o0 + i.val, by omega⟩ ⟨o0 + s.val, by omega⟩)
    (h0 : ∀ i j, B0 (ix2 i j) = bias x3 0 i j) (h1 : ∀ i j, B1 (ix2 i j) = bias x3 1 i j)
    (h : Shape.Concatenates [Sh 256 W, Sh 256 256, Sh 256 256] (Sh 256 C) 1) (i : Fin 256) (s : Fin C) :
    concatenate (Sh 256 C) 1 [⟨Sh 256 W, a⟩, ⟨Sh 256 256, addf b B1⟩, ⟨Sh 256 256, addf d B0⟩] h (ix2 i s)
      = TT x0 x1 x3 ⟨o0 + i.val, by omega⟩ (s.castLE hle) := by
  have hs := s.isLt
  rw [cat3_apply a _ _ h hC i s]
  unfold TT
  split_ifs with g1 g2 g3 g4 g5 g6 g7 g8
  all_goals first
    | (exfalso; simp only [Fin.val_castLE] at *; omega)
    | skip
  · rw [ha]; congr 1; exact Fin.ext (Nat.zero_add _)
  · rw [addf_apply, hb, h1]
    congr 2
    · exact Fin.ext (by show W + (s.val - W) = s.val; omega)
    · exact Fin.ext (by show i.val = (o0 + i.val) % 256; omega)
    · exact Fin.ext (by show s.val - W = s.val % 256; omega)
  · rw [addf_apply, hd, h0]
    congr 2
    · exact Fin.ext (by show o0 + (s.val - W - 256) = s.val; omega)
    · exact Fin.ext (by show i.val = (o0 + i.val) % 256; omega)
    · exact Fin.ext (by show s.val - W - 256 = s.val % 256; omega)

/-- … of two. -/
theorem cat2T (b d B0 B1 : FVec Ideal (Sh 256 256) .f32)
    (hb : ∀ (i : Fin 256) (s : Fin 256), b (ix2 i s) = SS x0 x1 ⟨256 + i.val, by omega⟩ ⟨0 + s.val, by omega⟩)
    (hd : ∀ (i : Fin 256) (s : Fin 256), d (ix2 i s) = SS x0 x1 ⟨256 + i.val, by omega⟩ ⟨256 + s.val, by omega⟩)
    (h0 : ∀ i j, B0 (ix2 i j) = bias x3 0 i j) (h1 : ∀ i j, B1 (ix2 i j) = bias x3 1 i j)
    (h : Shape.Concatenates [Sh 256 256, Sh 256 256] (Sh 256 512) 1) (i : Fin 256) (s : Fin 512) :
    concatenate (Sh 256 512) 1 [⟨Sh 256 256, addf b B1⟩, ⟨Sh 256 256, addf d B0⟩] h (ix2 i s)
      = TT x0 x1 x3 ⟨256 + i.val, by omega⟩ (s.castLE (by decide)) := by
  have hs := s.isLt
  rw [cat2_apply _ _ h i s]
  unfold TT
  split_ifs with g1 g2 g3 g4 g5 g6
  all_goals first
    | (exfalso; simp only [Fin.val_castLE] at *; omega)
    | skip
  · rw [addf_apply, hb, h1]
    congr 2
    · exact Fin.ext (by show 0 + s.val = s.val; omega)
    · exact Fin.ext (by show i.val = (256 + i.val) % 256; omega)
    · exact Fin.ext (by show s.val = s.val % 256; omega)
  · rw [addf_apply, hd, h0]
    congr 2
    · exact Fin.ext (by show 256 + (s.val - 256) = s.val; omega)
    · exact Fin.ext (by show i.val = (256 + i.val) % 256; omega)
    · exact Fin.ext (by show s.val - 256 = s.val % 256; omega)

/-- … of one. -/
theorem cat1T (d B0 : FVec Ideal (Sh 256 256) .f32)
    (hd : ∀ (i : Fin 256) (s : Fin 256), d (ix2 i s) = SS x0 x1 ⟨0 + i.val, by omega⟩ ⟨0 + s.val, by omega⟩)
    (h0 : ∀ i j, B0 (ix2 i j) = bias x3 0 i j) (i : Fin 256) (s : Fin 256) :
    (addf d B0 : FVec Ideal (Sh 256 256) .f32) (ix2 i s) = TT x0 x1 x3 ⟨0 + i.val, by omega⟩ (s.castLE (by decide)) := by
  have hs := s.isLt
  unfold TT
  rw [if_pos (by show s.val / 256 = (0 + i.val) / 256; omega), addf_apply, hd, h0]
  congr 2
  · exact Fin.ext (by show 0 + s.val = s.val; omega)
  · exact Fin.ext (by show i.val = (0 + i.val) % 256; omega)
  · exact Fin.ext (by show s.val = s.val % 256; omega)

theorem pp_pieces : ∀ p ∈ kernelRun1_A.sl.HS3_8 c arg2 harg2 arg3 harg3 arg5 harg5 arg7 arg9 x0 x1 x3, ∀ x : p.1.shape.Idx,
    p.2 x = PPf x0 x1 x3 (p.1.emb x) := by
  intro p hp
  unfold kernelRun1_A.sl.HS3_8 at hp
  rcases List.mem_cons.mp hp with rfl | hp
  · intro x
    unfold kernelRun1_A.sl.v398 kernelRun1_A.sl.v402 kernelRun1_A.sl.v406
    unfold k1_pay47
    dsimp only
    rw [shapeCast_self]
    exact ppay x0 x1 x3 (C := 2048) 1792 (by omega) (by omega) (by omega) _ (fun i s => cat3T x0 x1 x3 (W := 1536) (C := 2048) 1792 (by omega) (by omega) (by omega) (by omega) _ _ _ _ _ (fun i s => sblk c arg2 harg2 arg3 harg3 arg7 arg9 x0 x1 (C := 1536) 1792 0 _ (by omega) (by omega) (by omega) i s) (fun i s => sblk c arg2 harg2 arg3 harg3 arg7 arg9 x0 x1 (C := 256) 1792 1536 _ (by omega) (by omega) (by omega) i s) (fun i s => sblk c arg2 harg2 arg3 harg3 arg7 arg9 x0 x1 (C := 256) 1792 1792 _ (by omega) (by omega) (by omega) i s) (fun i j => bblk arg5 harg5 x3 0 _ _ i j) (fun i j => bblk arg5 harg5 x3 1 _ _ i j) _ i s) _ _ _ _ _ _ x
  rcases List.mem_cons.mp hp with rfl | hp
  · intro x
    unfold kernelRun1_A.sl.r_17 kernelRun1_A.sl.v379 kernelRun1_A.sl.v383 kernelRun1_A.sl.v387
    unfold k1_pay46 k1_pay45
    dsimp only
    rw [shapeCast_self]
    exact ppay x0 x1 x3 (C := 1792) 1536 (by omega) (by omega) (by omega) _ (fun i s => cat3T x0 x1 x3 (W := 1280) (C := 1792) 1536 (by omega) (by omega) (by omega) (by omega) _ _ _ _ _ (fun i s => sblk c arg2 harg2 arg3 harg3 arg7 arg9 x0 x1 (C := 1280) 1536 0 _ (by omega) (by omega) (by omega) i s) (fun i s => sblk c arg2 harg2 arg3 harg3 arg7 arg9 x0 x1 (C := 256) 1536 1280 _ (by omega) (by omega) (by omega) i s) (fun i s => sblk c arg2 harg2 arg3 harg3 arg7 arg9 x0 x1 (C := 256) 1536 1536 _ (by omega) (by omega) (by omega) i s) (fun i j => bblk arg5 harg5 x3 0 _ _ i j) (fun i j => bblk arg5 harg5 x3 1 _ _ i j) _ i s) _ _ _ _ _ _ x
  rcases List.mem_cons.mp hp with rfl | hp
  · intro x
    unfold kernelRun1_A.sl.v360 kernelRun1_A.sl.v364 kernelRun1_A.sl.v368
    unfold k1_pay44
    dsimp only
    rw [shapeCast_self]
    exact ppay x0 x1 x3 (C := 1536) 1280 (by omega) (by omega) (by omega) _ (fun i s => cat3T x0 x1 x3 (W := 1024) (C := 1536) 1280 (by omega) (by omega) (by omega) (by omega) _ _ _ _ _ (fun i s => sblk c arg2 harg2 arg3 harg3 arg7 arg9 x0 x1 (C := 1024) 1280 0 _ (by omega) (by omega) (by omega) i s) (fun i s => sblk c arg2 harg2 arg3 harg3 arg7 arg9 x0 x1 (C := 256) 1280 1024 _ (by omega) (by omega) (by omega) i s) (fun i s => sblk c arg2 harg2 arg3 harg3 arg7 arg9 x0 x1 (C := 256) 1280 1280 _ (by omega) (by omega) (by omega) i s) (fun i j => bblk arg5 harg5 x3 0 _ _ i j) (fun i j => bblk arg5 harg5 x3 1 _ _ i j) _ i s) _ _ _ _ _ _ x
  rcases List.mem_cons.mp hp with rfl | hp
  · intro x
    unfold kernelRun1_A.sl.r_15 kernelRun1_A.sl.r_16 kernelRun1_A.sl.v341 kernelRun1_A.sl.v345 kernelRun1_A.sl.v349
    unfold k1_pay43 k1_pay42 k1_pay41
    dsimp only
    rw [shapeCast_self]
    exact ppay x0 x1 x3 (C := 1280) 1024 (by omega) (by omega) (by omega) _ (fun i s => cat3T x0 x1 x3 (W := 768) (C := 1280) 1024 (by omega) (by omega) (by omega) (by omega) _ _ _ _ _ (fun i s => sblk c arg2 harg2 arg3 harg3 arg7 arg9 x0 x1 (C := 768) 1024 0 _ (by omega) (by omega) (by omega) i s) (fun i s => sblk c arg2 harg2 arg3 harg3 arg7 arg9 x0 x1 (C := 256) 1024 768 _ (by omega) (by omega) (by omega) i s) (fun i s => sblk c arg2 harg2 arg3 harg3 arg7 arg9 x0 x1 (C := 256) 1024 1024 _ (by omega) (by omega) (by omega) i s) (fun i j => bblk arg5 harg5 x3 0 _ _ i j) (fun i j => bblk arg5 harg5 x3 1 _ _ i j) _ i s) _ _ _ _ _ _ x
  rcases List.mem_cons.mp hp with rfl | hp
  · intro x
    unfold kernelRun1_A.sl.v322 kernelRun1_A.sl.v326 kernelRun1_A.sl.v330
    unfold k1_pay40
    dsimp only
    rw [shapeCast_self]
    exact ppay x0 x1 x3 (C := 1024) 768 (by omega) (by omega) (by omega) _ (fun i s => cat3T x0 x1 x3 (W := 512) (C := 1024) 768 (by omega) (by omega) (by omega) (by omega) _ _ _ _ _ (fun i s => sblk c arg2 harg2 arg3 harg3 arg7 arg9 x0 x1 (C := 512) 768 0 _ (by omega) (by omega) (by omega) i s) (fun i s => sblk c arg2 harg2 arg3 harg3 arg7 arg9 x0 x1 (C := 256) 768 512 _ (by omega) (by omega) (by omega) i s) (fun i s => sblk c arg2 harg2 arg3 harg3 arg7 arg9 x0 x1 (C := 256) 768 768 _ (by omega) (by omega) (by omega) i s) (fun i j => bblk arg5 harg5 x3 0 _ _ i j) (fun i j => bblk arg5 harg5 x3 1 _ _ i j) _ i s) _ _ _ _ _ _ x
  rcases List.mem_cons.mp hp with rfl | hp
  · intro x
    unfold kernelRun1_A.sl.v303 kernelRun1_A.sl.v307 kernelRun1_A.sl.v311
    unfold k1_pay39
    dsimp only
    rw [shapeCast_self]
    exact ppay x0 x1 x3 (C := 768) 512 (by omega) (by omega) (by omega) _ (fun i s => cat3T x0 x1 x3 (W := 256) (C := 768) 512 (by omega) (by omega) (by omega) (by omega) _ _ _ _ _ (fun i s => sblk c arg2 harg2 arg3 harg3 arg7 arg9 x0 x1 (C := 256) 512 0 _ (by omega) (by omega) (by omega) i s) (fun i s => sblk c arg2 harg2 arg3 harg3 arg7 arg9 x0 x1 (C := 256) 512 256 _ (by omega) (by omega) (by omega) i s) (fun i s => sblk c arg2 harg2 arg3 harg3 arg7 arg9 x0 x1 (C := 256) 512 512 _ (by omega) (by omega) (by omega) i s) (fun i j => bblk arg5 harg5 x3 0 _ _ i j) (fun i j => bblk arg5 harg5 x3 1 _ _ i j) _ i s) _ _ _ _ _ _ x
  rcases List.mem_cons.mp hp with rfl | hp
  · intro x
    unfold kernelRun1_A.sl.r_14 kernelRun1_A.sl.v285 kernelRun1_A.sl.v289
    unfold k1_pay38 k1_pay37
    dsimp only
    rw [shapeCast_self]
    exact ppay x0 x1 x3 (C := 512) 256 (by omega) (by omega) (by omega) _ (fun i s => cat2T x0 x1 x3 _ _ _ _ (fun i s => sblk c arg2 harg2 arg3 harg3 arg7 arg9 x0 x1 (C := 256) 256 0 _ (by omega) (by omega) (by omega) i s) (fun i s => sblk c arg2 harg2 arg3 harg3 arg7 arg9 x0 x1 (C := 256) 256 256 _ (by omega) (by omega) (by omega) i s) (fun i j => bblk arg5 harg5 x3 0 _ _ i j) (fun i j => bblk arg5 harg5 x3 1 _ _ i j) _ i s) _ _ _ _ _ _ x
  rcases List.mem_cons.mp hp with rfl | hp
  · intro x
    unfold kernelRun1_A.sl.v272
    unfold k1_pay36
    dsimp only
    rw [shapeCast_self]
    exact ppay x0 x1 x3 (C := 256) 0 (by omega) (by omega) (by omega) _ (fun i s => cat1T x0 x1 x3 _ _ (fun i s => sblk c arg2 harg2 arg3 harg3 arg7 arg9 x0 x1 (C := 256) 0 0 _ (by omega) (by omega) (by omega) i s) (fun i j => bblk arg5 harg5 x3 0 _ _ i j) i s) _ _ _ _ _ _ x
  exact absurd hp List.not_mem_nil

theorem pp_cover (y : (Sh 2048 2048).Idx) (h : (y 1).val / 256 ≤ (y 0).val / 256) :
    ∃ p ∈ kernelRun1_A.sl.HS3_8 c arg2 harg2 arg3 harg3 arg5 harg5 arg7 arg9 x0 x1 x3, y ∈ p.1.set := by
  have hy0 : (y 0).val < 2048 := (y 0).isLt
  have hy1 : (y 1).val < 2048 := (y 1).isLt
  unfold kernelRun1_A.sl.HS3_8
  have hc : (y 0).val / 256 = 0 ∨ (y 0).val / 256 = 1 ∨ (y 0).val / 256 = 2 ∨ (y 0).val / 256 = 3 ∨ (y 0).val / 256 = 4
      ∨ (y 0).val / 256 = 5 ∨ (y 0).val / 256 = 6 ∨ (y 0).val / 256 = 7 := by omega
  rcases hc with e | e | e | e | e | e | e | e
  · refine ⟨_, (List.mem_cons_of_mem _ (List.mem_cons_of_mem _ (List.mem_cons_of_mem _ (List.mem_cons_of_mem _ (List.mem_cons_of_mem _ (List.mem_cons_of_mem _ (List.mem_cons_of_mem _ List.mem_cons_self))))))), ?_⟩
    exact (mem2 (m := 2048) (n := 2048) (a := 256) (b := 256) 0 0 (by decide) y).mpr ⟨by omega, by omega, by omega, by omega⟩
  · refine ⟨_, (List.mem_cons_of_mem _ (List.mem_cons_of_mem _ (List.mem_cons_of_mem _ (List.mem_cons_of_mem _ (List.mem_cons_of_mem _ (List.mem_cons_of_mem _ List.mem_cons_self)))))), ?_⟩
    exact (mem2 (m := 2048) (n := 2048) (a := 256) (b := 512) 256 0 (by decide) y).mpr ⟨by omega, by omega, by omega, by omega⟩
  · refine ⟨_, (List.mem_cons_of_mem _ (List.mem_cons_of_mem _ (List.mem_cons_of_mem _ (List.mem_cons_of_mem _ (List.mem_cons_of_mem _ List.mem_cons_self))))), ?_⟩
    exact (mem2 (m := 2048) (n := 2048) (a := 256) (b := 768) 512 0 (by decide) y).mpr ⟨by omega, by omega, by omega, by omega⟩
  · refine ⟨_, (List.mem_cons_of_mem _ (List.mem_cons_of_mem _ (List.mem_cons_of_mem _ (List.mem_cons_of_mem _ List.mem_cons_self)))), ?_⟩
    exact (mem2 (m := 2048) (n := 2048) (a := 256) (b := 1024) 768 0 (by decide) y).mpr ⟨by omega, by omega, by omega, by omega⟩
  · refine ⟨_, (List.mem_cons_of_mem _ (List.mem_cons_of_mem _ (List.mem_cons_of_mem _ List.mem_cons_self))), ?_⟩
    exact (mem2 (m := 2048) (n := 2048) (a := 256) (b := 1280) 1024 0 (by decide) y).mpr ⟨by omega, by omega, by omega, by omega⟩
  · refine ⟨_, (List.mem_cons_of_mem _ (List.mem_cons_of_mem _ List.mem_cons_self)), ?_⟩
    exact (mem2 (m := 2048) (n := 2048) (a := 256) (b := 1536) 1280 0 (by decide) y).mpr ⟨by omega, by omega, by omega, by omega⟩
  · refine ⟨_, (List.mem_cons_of_mem _ List.mem_cons_self), ?_⟩
    exact (mem2 (m := 2048) (n := 2048) (a := 256) (b := 1792) 1536 0 (by decide) y).mpr ⟨by omega, by omega, by omega, by omega⟩
  · refine ⟨_, List.mem_cons_self, ?_⟩
    exact (mem2 (m := 2048) (n := 2048) (a := 256) (b := 2048) 1792 0 (by decide) y).mpr ⟨by omega, by omega, by omega, by omega⟩

/-- A box of the numerators below the block diagonal. -/
theorem pblk {R : Nat} (o : Nat) (inb) (ho : o + R ≤ 2048) (hd : o % 256 = 0) (ho' : o + 256 ≤ 2048) (r : Fin R) (s : Fin 256) :
    arg10.view.readCov (kernelRun1_A.sl.HS3_8 c arg2 harg2 arg3 harg3 arg5 harg5 arg7 arg9 x0 x1 x3) (Rect.unit (s := Sh 2048 2048) ![o, o] ![R, 256] inb).toLoadRect (ix2 r s)
      = PP x0 x1 x3 ⟨o + r.val, by omega⟩ ⟨o + s.val, by omega⟩ := by
  rw [readCov2 (e := .bf16) arg10.view (kernelRun1_A.sl.HS3_8 c arg2 harg2 arg3 harg3 arg5 harg5 arg7 arg9 x0 x1 x3) o o inb (PPf x0 x1 x3)
    (fun y h1 h2 h3 h4 => pp_cover c arg2 harg2 arg3 harg3 arg5 harg5 arg7 arg9 x0 x1 x3 y (by omega))
    (fun y h1 h2 h3 h4 => View.canon_apply_of_pieces (PPf x0 x1 x3) _ (pp_pieces c arg2 harg2 arg3 harg3 arg5 harg5 arg7 arg9 x0 x1 x3) y
      (pp_cover c arg2 harg2 arg3 harg3 arg5 harg5 arg7 arg9 x0 x1 x3 y (by omega))),
    emb2 o o inb (ix2 r s) (⟨o + r.val, by omega⟩ : Fin 2048) (⟨o + s.val, by omega⟩ : Fin 2048) rfl rfl]
  rfl

end Cert.KernelIdeal.KV

end
-- ==== Proof.KAcc.lean ====
/- The attention's block of one prompt and head: the numerators times the values, summed block by block, and the quotient. -/
module

public import proofs.«01_k».proof.Proof.KProb

@[expose] public section

set_option maxRecDepth 16384
set_option backward.isDefEq.respectTransparency false

noncomputable section

namespace Cert.KernelIdeal.KV

open Idealize.ShloMosaic Idealize.ShloMosaic.ValueIdx
open Cert.KernelIdeal.Gen Cert.KHelp Cert.Row
open Idealize.ShloMosaic.Pipeline (Dat Cfg Window BodyObligation cellOf)

/-- One block of keys' part of a row's sum. -/
def PV (q k v : (Sh 2048 128).Idx → EReal) (x3 : ShB.Idx → EReal) (o : Nat) (t : Fin 2048) (e : Fin 256) : EReal :=
  ∑ s : Fin 256, PP q k x3 t ⟨(256 * o + s.val) % 2048, by omega⟩ * VX v ⟨(256 * o + s.val) % 2048, by omega⟩ e

/-- The running sum after block `j`. -/
def AC (q k v : (Sh 2048 128).Idx → EReal) (x3 : ShB.Idx → EReal) : Nat → Fin 2048 → Fin 256 → EReal
  | 0 => fun t e => PV q k v x3 0 t e
  | j + 1 => fun t e => if 256 * (j + 1) ≤ t.val then AC q k v x3 j t e + PV q k v x3 (j + 1) t e else AC q k v x3 j t e

theorem AC_eq (q k v : (Sh 2048 128).Idx → EReal) (x3 : ShB.Idx → EReal) (t : Fin 2048) (e : Fin 256) (j : Nat) (hj : j < 8) :
    AC q k v x3 j t e = ∑ n ∈ Finset.univ.filter (fun n : Fin 8 => n.val ≤ j ∧ n.val ≤ t.val / 256), PV q k v x3 n.val t e := by
  induction j with
  | zero =>
    have : (Finset.univ.filter fun n : Fin 8 => n.val ≤ 0 ∧ n.val ≤ t.val / 256) = {0} := by
      ext n; simp only [Finset.mem_filter, Finset.mem_univ, true_and, Finset.mem_singleton, Fin.ext_iff]
      show _ ↔ n.val = 0
      omega
    rw [this, Finset.sum_singleton]
    rfl
  | succ j ih =>
    have ih := ih (by omega)
    show (if 256 * (j + 1) ≤ t.val then AC q k v x3 j t e + PV q k v x3 (j + 1) t e else AC q k v x3 j t e) = _
    by_cases h : 256 * (j + 1) ≤ t.val
    · rw [if_pos h, ih]
      have : (Finset.univ.filter fun n : Fin 8 => n.val ≤ j + 1 ∧ n.val ≤ t.val / 256)
          = insert (⟨j + 1, hj⟩ : Fin 8) (Finset.univ.filter fun n : Fin 8 => n.val ≤ j ∧ n.val ≤ t.val / 256) := by
        ext n; simp only [Finset.mem_filter, Finset.mem_univ, true_and, Finset.mem_insert, Fin.ext_iff]
        omega
      rw [this, Finset.sum_insert (by simp), add_comm]
    · rw [if_neg h, ih]
      congr 1
      ext n; simp only [Finset.mem_filter, Finset.mem_univ, true_and]
      omega

variable (c : Dev nD) (arg2 : Memref sig .tc .vmem S2048x128 .bf16) (harg2 : arg2.IsWhole) (arg3 : Memref sig .tc .vmem S2048x128 .bf16)
  (harg3 : arg3.IsWhole) (arg4 : Memref sig .tc .vmem S2048x128 .bf16) (harg4 : arg4.IsWhole) (arg5 : Memref sig .tc .vmem S1x2x256x256 .f32)
  (harg5 : arg5.IsWhole) (arg7 : Memref sig .tc .vmem S2048x256 .bf16) (arg8 : Memref sig .tc .vmem S2048x256 .bf16)
  (arg9 : Memref sig .tc .vmem S2048x2048 .f32) (arg10 : Memref sig .tc .vmem S2048x2048 .bf16) (arg11 : Memref sig .tc .vmem S2048x256 .f32)
  (x0 x1 x2 : Vec Ideal S2048x128 .bf16) (x3 : Vec Ideal S1x2x256x256 .f32)

/-- One product, at an entry. -/
theorem pvpay {R : Nat} (j : Nat) (hj : 256 * j + R ≤ 2048) (hj' : 256 * j + 256 ≤ 2048) (l : FVec Ideal (Sh R 256) .bf16) (r : FVec Ideal (Sh 256 256) .bf16) (wf)
    (hl : ∀ (i : Fin R) (s : Fin 256), l (ix2 i s) = PP x0 x1 x3 ⟨256 * j + i.val, by omega⟩ ⟨256 * j + s.val, by omega⟩)
    (hr : ∀ (s : Fin 256) (d : Fin 256), r (ix2 s d) = VX x2 ⟨256 * j + s.val, by omega⟩ d) (i : Fin R) (d : Fin 256) :
    FloatOps.matmul (F := Ideal) (⟨[1], [0], [0], [1], [], [], wf⟩ : DotDims (Sh R 256) (Sh 256 256) (Sh R 256)) none l r
      (constant (Sh R 256) .f32 0x00000000#32) (ix2 i d) = PV x0 x1 x2 x3 j ⟨256 * j + i.val, by omega⟩ d := by
  rw [nn_apply]
  unfold PV
  refine Finset.sum_congr rfl fun s _ => ?_
  have e : (⟨(256 * j + s.val) % 2048, by omega⟩ : Fin 2048) = ⟨256 * j + s.val, by omega⟩ := Fin.ext (Nat.mod_eq_of_lt (by omega))
  rw [e]
  exact congrArg₂ (· * ·) (hl i s) (hr s d)

/-- The running sums, as a buffer. -/
def ACf (j : Nat) : (Sh 2048 256).Idx → EReal := fun y => AC x0 x1 x2 x3 j (y 0) (y 1)

/-- One block's store over the running sums. -/
theorem acc_step {R : Nat} (j o : Nat) (ho : o = 256 * (j + 1)) (hR : o + R = 2048) (L : List (View.Piece (Elt Ideal) (Sh 2048 256) .f32))
    (hL : ∀ y, View.canon L y = ACf x0 x1 x2 x3 j y) (a w : (Sh R 256).Idx → EReal)
    (ha : ∀ (i : Fin R) (d : Fin 256), a (ix2 i d) = AC x0 x1 x2 x3 j ⟨o + i.val, by omega⟩ d)
    (hw : ∀ (i : Fin R) (d : Fin 256), w (ix2 i d) = PV x0 x1 x2 x3 (j + 1) ⟨o + i.val, by omega⟩ d)
    (inb) (y : (Sh 2048 256).Idx) :
    View.canon (Val := Elt Ideal) (s := Sh 2048 256) (e := .f32) (⟨Rect.unit (s := Sh 2048 256) ![o, 0] ![R, 256] inb, addf (F := Ideal) (s := Sh R 256) (φ := .f32) a w⟩ :: L) y = ACf x0 x1 x2 x3 (j + 1) y := by
  have hy0 : (y 0).val < 2048 := (y 0).isLt
  have hy1 : (y 1).val < 256 := (y 1).isLt
  by_cases h : y ∈ (Rect.unit (s := Sh 2048 256) ![o, 0] ![R, 256] inb).set
  · have hm := (mem2 o 0 inb y).mp h
    have hx : (Rect.unit (s := Sh 2048 256) ![o, 0] ![R, 256] inb).emb (ix2 (⟨(y 0).val - o, by omega⟩ : Fin R) (⟨(y 1).val, hy1⟩ : Fin 256)) = y :=
      (emb2 o 0 inb _ (y 0) (y 1) (by show (y 0).val = o + ((y 0).val - o); omega) (Nat.zero_add _).symm).trans (eq_ix2 y).symm
    refine (congrArg _ hx.symm).trans ?_
    refine (View.canon_cons_emb (Val := Elt Ideal) _ _ _ _).trans ?_
    rw [addf_apply, ha, hw]
    have e : (⟨o + ((y 0).val - o), by omega⟩ : Fin 2048) = y 0 := Fin.ext (by show o + ((y 0).val - o) = (y 0).val; omega)
    show AC x0 x1 x2 x3 j ⟨o + ((y 0).val - o), by omega⟩ (y 1) + PV x0 x1 x2 x3 (j + 1) ⟨o + ((y 0).val - o), by omega⟩ (y 1) = AC x0 x1 x2 x3 (j + 1) (y 0) (y 1)
    rw [e]
    exact (if_pos (show 256 * (j + 1) ≤ (y 0).val by omega)).symm
  · refine (View.canon_cons_of_not_mem (Val := Elt Ideal) (p := ⟨Rect.unit (s := Sh 2048 256) ![o, 0] ![R, 256] inb, addf (F := Ideal) (s := Sh R 256) (φ := .f32) a w⟩) (L := L) h).trans ((hL y).trans ?_)
    have hm : ¬ 256 * (j + 1) ≤ (y 0).val := fun hc => h ((mem2 o 0 inb y).mpr ⟨by omega, by omega, by omega, by omega⟩)
    exact (if_neg hm).symm

/-- The running sums read back. -/
theorem ablk {R : Nat} (j o : Nat) (L : List (View.Piece (Elt Ideal) (Sh 2048 256) .f32)) (hL : ∀ y, View.canon L y = ACf x0 x1 x2 x3 j y)
    (hc : ∀ y : (Sh 2048 256).Idx, ∃ p ∈ L, y ∈ p.1.set) (inb) (ho : o + R ≤ 2048) (i : Fin R) (d : Fin 256) :
    arg11.view.readCov L (Rect.unit (s := Sh 2048 256) ![o, 0] ![R, 256] inb).toLoadRect (ix2 i d) = AC x0 x1 x2 x3 j ⟨o + i.val, by omega⟩ d := by
  rw [readCov2 (e := .f32) arg11.view L o 0 inb (ACf x0 x1 x2 x3 j) (fun y _ _ _ _ => hc y) (fun y _ _ _ _ => hL y),
    emb2 o 0 inb (ix2 i d) (⟨o + i.val, by omega⟩ : Fin 2048) d rfl (Nat.zero_add _).symm]
  rfl

theorem acc1_cover (y : (Sh 2048 256).Idx) : ∃ p ∈ kernelRun1_A.sl.HS4_1 c arg2 harg2 arg3 harg3 arg4 harg4 arg5 harg5 arg7 arg8 arg9 arg10 x0 x1 x2 x3, y ∈ p.1.set := by
  have hy0 : (y 0).val < 2048 := (y 0).isLt
  have hy1 : (y 1).val < 256 := (y 1).isLt
  unfold kernelRun1_A.sl.HS4_1
  refine ⟨_, List.mem_cons_self, ?_⟩
  exact (mem2 (m := 2048) (n := 256) (a := 2048) (b := 256) 0 0 (by decide) y).mpr ⟨by omega, by omega, by omega, by omega⟩

theorem acc1 (y : (Sh 2048 256).Idx) : View.canon (kernelRun1_A.sl.HS4_1 c arg2 harg2 arg3 harg3 arg4 harg4 arg5 harg5 arg7 arg8 arg9 arg10 x0 x1 x2 x3) y = ACf x0 x1 x2 x3 0 y := by
  refine View.canon_apply_of_pieces (ACf x0 x1 x2 x3 0) _ ?_ y (acc1_cover c arg2 harg2 arg3 harg3 arg4 harg4 arg5 harg5 arg7 arg8 arg9 arg10 x0 x1 x2 x3 y)
  intro p hp
  unfold kernelRun1_A.sl.HS4_1 at hp
  rcases List.mem_cons.mp hp with rfl | hp
  · intro (x : (Sh 2048 256).Idx)
    have h1 : (x 1).val < 256 := (x 1).isLt
    refine Eq.trans ?_ (congrArg (ACf x0 x1 x2 x3 0) (emb2 (m := 2048) (n := 256) 0 0 (by decide) x (x 0) (x 1) (Nat.zero_add _).symm (Nat.zero_add _).symm)).symm
    unfold k1_pay48 kernelRun1_A.sl.v417 kernelRun1_A.sl.v418
    dsimp only
    rw [shapeCast_self]
    refine (congrArg _ (eq_ix2 x)).trans ?_
    refine (pvpay x0 x1 x2 x3 (R := 2048) 0 (by omega) (by omega) _ _ _
      (fun i s => pblk c arg2 harg2 arg3 harg3 arg5 harg5 arg7 arg9 arg10 x0 x1 x3 0 _ (by omega) (by omega) (by omega) i s)
      (fun s d => vblk c arg4 harg4 arg8 x2 0 _ (by omega) s d) (x 0) (x 1)).trans ?_
    show PV x0 x1 x2 x3 0 _ _ = PV x0 x1 x2 x3 0 (x 0) (x 1)
    exact congrArg₂ _ (Fin.ext (by show 256 * 0 + (x 0).val = (x 0).val; omega)) rfl
  · exact absurd hp List.not_mem_nil

theorem a1_apply (i : Fin 1792) (d : Fin 256) : kernelRun1_A.sl.v426 c arg2 harg2 arg3 harg3 arg4 harg4 arg5 harg5 arg7 arg8 arg9 arg10 arg11 x0 x1 x2 x3 (ix2 i d) = AC x0 x1 x2 x3 0 ⟨256 + i.val, by omega⟩ d := by
  unfold kernelRun1_A.sl.v426
  exact ablk arg11 x0 x1 x2 x3 (R := 1792) 0 256 _ (acc1 c arg2 harg2 arg3 harg3 arg4 harg4 arg5 harg5 arg7 arg8 arg9 arg10 x0 x1 x2 x3) (acc1_cover c arg2 harg2 arg3 harg3 arg4 harg4 arg5 harg5 arg7 arg8 arg9 arg10 x0 x1 x2 x3) _ (by omega) i d

theorem p1_apply (i : Fin 1792) (s : Fin 256) : kernelRun1_A.sl.v423 c arg2 harg2 arg3 harg3 arg5 harg5 arg7 arg9 arg10 x0 x1 x3 (ix2 i s) = PP x0 x1 x3 ⟨256 + i.val, by omega⟩ ⟨256 + s.val, by omega⟩ := by
  unfold kernelRun1_A.sl.v423
  exact pblk c arg2 harg2 arg3 harg3 arg5 harg5 arg7 arg9 arg10 x0 x1 x3 (R := 1792) 256 _ (by omega) (by omega) (by omega) i s

theorem v1_apply (s : Fin 256) (d : Fin 256) : kernelRun1_A.sl.v424 c arg4 harg4 arg8 x2 (ix2 s d) = VX x2 ⟨256 + s.val, by omega⟩ d := by
  unfold kernelRun1_A.sl.v424
  exact vblk c arg4 harg4 arg8 x2 256 _ (by omega) s d

theorem acc2_cover (y : (Sh 2048 256).Idx) : ∃ p ∈ kernelRun1_A.sl.HS4_2 c arg2 harg2 arg3 harg3 arg4 harg4 arg5 harg5 arg7 arg8 arg9 arg10 arg11 x0 x1 x2 x3, y ∈ p.1.set := by
  unfold kernelRun1_A.sl.HS4_2
  obtain ⟨p, hp, hy⟩ := acc1_cover c arg2 harg2 arg3 harg3 arg4 harg4 arg5 harg5 arg7 arg8 arg9 arg10 x0 x1 x2 x3 y
  exact ⟨p, List.mem_cons_of_mem _ hp, hy⟩

theorem acc2 (y : (Sh 2048 256).Idx) : View.canon (kernelRun1_A.sl.HS4_2 c arg2 harg2 arg3 harg3 arg4 harg4 arg5 harg5 arg7 arg8 arg9 arg10 arg11 x0 x1 x2 x3) y = ACf x0 x1 x2 x3 1 y := by
  unfold kernelRun1_A.sl.HS4_2
  unfold k1_pay49
  dsimp only
  rw [shapeCast_self]
  exact acc_step x0 x1 x2 x3 (R := 1792) 0 256 rfl rfl _ (acc1 c arg2 harg2 arg3 harg3 arg4 harg4 arg5 harg5 arg7 arg8 arg9 arg10 x0 x1 x2 x3) _ _
    (a1_apply c arg2 harg2 arg3 harg3 arg4 harg4 arg5 harg5 arg7 arg8 arg9 arg10 arg11 x0 x1 x2 x3)
    (pvpay x0 x1 x2 x3 (R := 1792) 1 (by omega) (by omega) _ _ _
      (p1_apply c arg2 harg2 arg3 harg3 arg5 harg5 arg7 arg9 arg10 x0 x1 x3)
      (v1_apply c arg4 harg4 arg8 x2)) _ y

theorem a2_apply (i : Fin 1536) (d : Fin 256) : kernelRun1_A.sl.v434 c arg2 harg2 arg3 harg3 arg4 harg4 arg5 harg5 arg7 arg8 arg9 arg10 arg11 x0 x1 x2 x3 (ix2 i d) = AC x0 x1 x2 x3 1 ⟨512 + i.val, by omega⟩ d := by
  unfold kernelRun1_A.sl.v434
  exact ablk arg11 x0 x1 x2 x3 (R := 1536) 1 512 _ (acc2 c arg2 harg2 arg3 harg3 arg4 harg4 arg5 harg5 arg7 arg8 arg9 arg10 arg11 x0 x1 x2 x3) (acc2_cover c arg2 harg2 arg3 harg3 arg4 harg4 arg5 harg5 arg7 arg8 arg9 arg10 arg11 x0 x1 x2 x3) _ (by omega) i d

theorem p2_apply (i : Fin 1536) (s : Fin 256) : kernelRun1_A.sl.v431 c arg2 harg2 arg3 harg3 arg5 harg5 arg7 arg9 arg10 x0 x1 x3 (ix2 i s) = PP x0 x1 x3 ⟨512 + i.val, by omega⟩ ⟨512 + s.val, by omega⟩ := by
  unfold kernelRun1_A.sl.v431
  exact pblk c arg2 harg2 arg3 harg3 arg5 harg5 arg7 arg9 arg10 x0 x1 x3 (R := 1536) 512 _ (by omega) (by omega) (by omega) i s

theorem v2_apply (s : Fin 256) (d : Fin 256) : kernelRun1_A.sl.v432 c arg4 harg4 arg8 x2 (ix2 s d) = VX x2 ⟨512 + s.val, by omega⟩ d := by
  unfold kernelRun1_A.sl.v432
  exact vblk c arg4 harg4 arg8 x2 512 _ (by omega) s d

theorem acc3_cover (y : (Sh 2048 256).Idx) : ∃ p ∈ kernelRun1_A.sl.HS4_3 c arg2 harg2 arg3 harg3 arg4 harg4 arg5 harg5 arg7 arg8 arg9 arg10 arg11 x0 x1 x2 x3, y ∈ p.1.set := by
  unfold kernelRun1_A.sl.HS4_3
  obtain ⟨p, hp, hy⟩ := acc2_cover c arg2 harg2 arg3 harg3 arg4 harg4 arg5 harg5 arg7 arg8 arg9 arg10 arg11 x0 x1 x2 x3 y
  exact ⟨p, List.mem_cons_of_mem _ hp, hy⟩

theorem acc3 (y : (Sh 2048 256).Idx) : View.canon (kernelRun1_A.sl.HS4_3 c arg2 harg2 arg3 harg3 arg4 harg4 arg5 harg5 arg7 arg8 arg9 arg10 arg11 x0 x1 x2 x3) y = ACf x0 x1 x2 x3 2 y := by
  unfold kernelRun1_A.sl.HS4_3
  unfold k1_pay50
  dsimp only
  rw [shapeCast_self]
  exact acc_step x0 x1 x2 x3 (R := 1536) 1 512 rfl rfl _ (acc2 c arg2 harg2 arg3 harg3 arg4 harg4 arg5 harg5 arg7 arg8 arg9 arg10 arg11 x0 x1 x2 x3) _ _
    (a2_apply c arg2 harg2 arg3 harg3 arg4 harg4 arg5 harg5 arg7 arg8 arg9 arg10 arg11 x0 x1 x2 x3)
    (pvpay x0 x1 x2 x3 (R := 1536) 2 (by omega) (by omega) _ _ _
      (p2_apply c arg2 harg2 arg3 harg3 arg5 harg5 arg7 arg9 arg10 x0 x1 x3)
      (v2_apply c arg4 harg4 arg8 x2)) _ y

theorem a3_apply (i : Fin 1280) (d : Fin 256) : kernelRun1_A.sl.v442 c arg2 harg2 arg3 harg3 arg4 harg4 arg5 harg5 arg7 arg8 arg9 arg10 arg11 x0 x1 x2 x3 (ix2 i d) = AC x0 x1 x2 x3 2 ⟨768 + i.val, by omega⟩ d := by
  unfold kernelRun1_A.sl.v442
  exact ablk arg11 x0 x1 x2 x3 (R := 1280) 2 768 _ (acc3 c arg2 harg2 arg3 harg3 arg4 harg4 arg5 harg5 arg7 arg8 arg9 arg10 arg11 x0 x1 x2 x3) (acc3_cover c arg2 harg2 arg3 harg3 arg4 harg4 arg5 harg5 arg7 arg8 arg9 arg10 arg11 x0 x1 x2 x3) _ (by omega) i d

theorem p3_apply (i : Fin 1280) (s : Fin 256) : kernelRun1_A.sl.v439 c arg2 harg2 arg3 harg3 arg5 harg5 arg7 arg9 arg10 x0 x1 x3 (ix2 i s) = PP x0 x1 x3 ⟨768 + i.val, by omega⟩ ⟨768 + s.val, by omega⟩ := by
  unfold kernelRun1_A.sl.v439
  exact pblk c arg2 harg2 arg3 harg3 arg5 harg5 arg7 arg9 arg10 x0 x1 x3 (R := 1280) 768 _ (by omega) (by omega) (by omega) i s

theorem v3_apply (s : Fin 256) (d : Fin 256) : kernelRun1_A.sl.v440 c arg4 harg4 arg8 x2 (ix2 s d) = VX x2 ⟨768 + s.val, by omega⟩ d := by
  unfold kernelRun1_A.sl.v440
  exact vblk c arg4 harg4 arg8 x2 768 _ (by omega) s d

theorem acc4_cover (y : (Sh 2048 256).Idx) : ∃ p ∈ kernelRun1_A.sl.HS4_4 c arg2 harg2 arg3 harg3 arg4 harg4 arg5 harg5 arg7 arg8 arg9 arg10 arg11 x0 x1 x2 x3, y ∈ p.1.set := by
  unfold kernelRun1_A.sl.HS4_4
  obtain ⟨p, hp, hy⟩ := acc3_cover c arg2 harg2 arg3 harg3 arg4 harg4 arg5 harg5 arg7 arg8 arg9 arg10 arg11 x0 x1 x2 x3 y
  exact ⟨p, List.mem_cons_of_mem _ hp, hy⟩

theorem acc4 (y : (Sh 2048 256).Idx) : View.canon (kernelRun1_A.sl.HS4_4 c arg2 harg2 arg3 harg3 arg4 harg4 arg5 harg5 arg7 arg8 arg9 arg10 arg11 x0 x1 x2 x3) y = ACf x0 x1 x2 x3 3 y := by
  unfold kernelRun1_A.sl.HS4_4
  unfold k1_pay52 kernelRun1_A.sl.r_18 k1_pay51
  dsimp only
  rw [shapeCast_self]
  exact acc_step x0 x1 x2 x3 (R := 1280) 2 768 rfl rfl _ (acc3 c arg2 harg2 arg3 harg3 arg4 harg4 arg5 harg5 arg7 arg8 arg9 arg10 arg11 x0 x1 x2 x3) _ _
    (a3_apply c arg2 harg2 arg3 harg3 arg4 harg4 arg5 harg5 arg7 arg8 arg9 arg10 arg11 x0 x1 x2 x3)
    (pvpay x0 x1 x2 x3 (R := 1280) 3 (by omega) (by omega) _ _ _
      (p3_apply c arg2 harg2 arg3 harg3 arg5 harg5 arg7 arg9 arg10 x0 x1 x3)
      (v3_apply c arg4 harg4 arg8 x2)) _ y

theorem a4_apply (i : Fin 1024) (d : Fin 256) : kernelRun1_A.sl.v450 c arg2 harg2 arg3 harg3 arg4 harg4 arg5 harg5 arg7 arg8 arg9 arg10 arg11 x0 x1 x2 x3 (ix2 i d) = AC x0 x1 x2 x3 3 ⟨1024 + i.val, by omega⟩ d := by
  unfold kernelRun1_A.sl.v450
  exact ablk arg11 x0 x1 x2 x3 (R := 1024) 3 1024 _ (acc4 c arg2 harg2 arg3 harg3 arg4 harg4 arg5 harg5 arg7 arg8 arg9 arg10 arg11 x0 x1 x2 x3) (acc4_cover c arg2 harg2 arg3 harg3 arg4 harg4 arg5 harg5 arg7 arg8 arg9 arg10 arg11 x0 x1 x2 x3) _ (by omega) i d

theorem p4_apply (i : Fin 1024) (s : Fin 256) : kernelRun1_A.sl.v447 c arg2 harg2 arg3 harg3 arg5 harg5 arg7 arg9 arg10 x0 x1 x3 (ix2 i s) = PP x0 x1 x3 ⟨1024 + i.val, by omega⟩ ⟨1024 + s.val, by omega⟩ := by
  unfold kernelRun1_A.sl.v447
  exact pblk c arg2 harg2 arg3 harg3 arg5 harg5 arg7 arg9 arg10 x0 x1 x3 (R := 1024) 1024 _ (by omega) (by omega) (by omega) i s

theorem v4_apply (s : Fin 256) (d : Fin 256) : kernelRun1_A.sl.v448 c arg4 harg4 arg8 x2 (ix2 s d) = VX x2 ⟨1024 + s.val, by omega⟩ d := by
  unfold kernelRun1_A.sl.v448
  exact vblk c arg4 harg4 arg8 x2 1024 _ (by omega) s d

theorem acc5_cover (y : (Sh 2048 256).Idx) : ∃ p ∈ kernelRun1_A.sl.HS4_5 c arg2 harg2 arg3 harg3 arg4 harg4 arg5 harg5 arg7 arg8 arg9 arg10 arg11 x0 x1 x2 x3, y ∈ p.1.set := by
  unfold kernelRun1_A.sl.HS4_5
  obtain ⟨p, hp, hy⟩ := acc4_cover c arg2 harg2 arg3 harg3 arg4 harg4 arg5 harg5 arg7 arg8 arg9 arg10 arg11 x0 x1 x2 x3 y
  exact ⟨p, List.mem_cons_of_mem _ hp, hy⟩

theorem acc5 (y : (Sh 2048 256).Idx) : View.canon (kernelRun1_A.sl.HS4_5 c arg2 harg2 arg3 harg3 arg4 harg4 arg5 harg5 arg7 arg8 arg9 arg10 arg11 x0 x1 x2 x3) y = ACf x0 x1 x2 x3 4 y := by
  unfold kernelRun1_A.sl.HS4_5
  unfold k1_pay53
  dsimp only
  rw [shapeCast_self]
  exact acc_step x0 x1 x2 x3 (R := 1024) 3 1024 rfl rfl _ (acc4 c arg2 harg2 arg3 harg3 arg4 harg4 arg5 harg5 arg7 arg8 arg9 arg10 arg11 x0 x1 x2 x3) _ _
    (a4_apply c arg2 harg2 arg3 harg3 arg4 harg4 arg5 harg5 arg7 arg8 arg9 arg10 arg11 x0 x1 x2 x3)
    (pvpay x0 x1 x2 x3 (R := 1024) 4 (by omega) (by omega) _ _ _
      (p4_apply c arg2 harg2 arg3 harg3 arg5 harg5 arg7 arg9 arg10 x0 x1 x3)
      (v4_apply c arg4 harg4 arg8 x2)) _ y

theorem a5_apply (i : Fin 768) (d : Fin 256) : kernelRun1_A.sl.v458 c arg2 harg2 arg3 harg3 arg4 harg4 arg5 harg5 arg7 arg8 arg9 arg10 arg11 x0 x1 x2 x3 (ix2 i d) = AC x0 x1 x2 x3 4 ⟨1280 + i.val, by omega⟩ d := by
  unfold kernelRun1_A.sl.v458
  exact ablk arg11 x0 x1 x2 x3 (R := 768) 4 1280 _ (acc5 c arg2 harg2 arg3 harg3 arg4 harg4 arg5 harg5 arg7 arg8 arg9 arg10 arg11 x0 x1 x2 x3) (acc5_cover c arg2 harg2 arg3 harg3 arg4 harg4 arg5 harg5 arg7 arg8 arg9 arg10 arg11 x0 x1 x2 x3) _ (by omega) i d

theorem p5_apply (i : Fin 768) (s : Fin 256) : kernelRun1_A.sl.v455 c arg2 harg2 arg3 harg3 arg5 harg5 arg7 arg9 arg10 x0 x1 x3 (ix2 i s) = PP x0 x1 x3 ⟨1280 + i.val, by omega⟩ ⟨1280 + s.val, by omega⟩ := by
  unfold kernelRun1_A.sl.v455
  exact pblk c arg2 harg2 arg3 harg3 arg5 harg5 arg7 arg9 arg10 x0 x1 x3 (R := 768) 1280 _ (by omega) (by omega) (by omega) i s

theorem v5_apply (s : Fin 256) (d : Fin 256) : kernelRun1_A.sl.v456 c arg4 harg4 arg8 x2 (ix2 s d) = VX x2 ⟨1280 + s.val, by omega⟩ d := by
  unfold kernelRun1_A.sl.v456
  exact vblk c arg4 harg4 arg8 x2 1280 _ (by omega) s d

theorem acc6_cover (y : (Sh 2048 256).Idx) : ∃ p ∈ kernelRun1_A.sl.HS4_6 c arg2 harg2 arg3 harg3 arg4 harg4 arg5 harg5 arg7 arg8 arg9 arg10 arg11 x0 x1 x2 x3, y ∈ p.1.set := by
  unfold kernelRun1_A.sl.HS4_6
  obtain ⟨p, hp, hy⟩ := acc5_cover c arg2 harg2 arg3 harg3 arg4 harg4 arg5 harg5 arg7 arg8 arg9 arg10 arg11 x0 x1 x2 x3 y
  exact ⟨p, List.mem_cons_of_mem _ hp, hy⟩

theorem acc6 (y : (Sh 2048 256).Idx) : View.canon (kernelRun1_A.sl.HS4_6 c arg2 harg2 arg3 harg3 arg4 harg4 arg5 harg5 arg7 arg8 arg9 arg10 arg11 x0 x1 x2 x3) y = ACf x0 x1 x2 x3 5 y := by
  unfold kernelRun1_A.sl.HS4_6
  unfold k1_pay54
  dsimp only
  rw [shapeCast_self]
  exact acc_step x0 x1 x2 x3 (R := 768) 4 1280 rfl rfl _ (acc5 c arg2 harg2 arg3 harg3 arg4 harg4 arg5 harg5 arg7 arg8 arg9 arg10 arg11 x0 x1 x2 x3) _ _
    (a5_apply c arg2 harg2 arg3 harg3 arg4 harg4 arg5 harg5 arg7 arg8 arg9 arg10 arg11 x0 x1 x2 x3)
    (pvpay x0 x1 x2 x3 (R := 768) 5 (by omega) (by omega) _ _ _
      (p5_apply c arg2 harg2 arg3 harg3 arg5 harg5 arg7 arg9 arg10 x0 x1 x3)
      (v5_apply c arg4 harg4 arg8 x2)) _ y

theorem a6_apply (i : Fin 512) (d : Fin 256) : kernelRun1_A.sl.v466 c arg2 harg2 arg3 harg3 arg4 harg4 arg5 harg5 arg7 arg8 arg9 arg10 arg11 x0 x1 x2 x3 (ix2 i d) = AC x0 x1 x2 x3 5 ⟨1536 + i.val, by omega⟩ d := by
  unfold kernelRun1_A.sl.v466
  exact ablk arg11 x0 x1 x2 x3 (R := 512) 5 1536 _ (acc6 c arg2 harg2 arg3 harg3 arg4 harg4 arg5 harg5 arg7 arg8 arg9 arg10 arg11 x0 x1 x2 x3) (acc6_cover c arg2 harg2 arg3 harg3 arg4 harg4 arg5 harg5 arg7 arg8 arg9 arg10 arg11 x0 x1 x2 x3) _ (by omega) i d

theorem p6_apply (i : Fin 512) (s : Fin 256) : kernelRun1_A.sl.v463 c arg2 harg2 arg3 harg3 arg5 harg5 arg7 arg9 arg10 x0 x1 x3 (ix2 i s) = PP x0 x1 x3 ⟨1536 + i.val, by omega⟩ ⟨1536 + s.val, by omega⟩ := by
  unfold kernelRun1_A.sl.v463
  exact pblk c arg2 harg2 arg3 harg3 arg5 harg5 arg7 arg9 arg10 x0 x1 x3 (R := 512) 1536 _ (by omega) (by omega) (by omega) i s

theorem v6_apply (s : Fin 256) (d : Fin 256) : kernelRun1_A.sl.v464 c arg4 harg4 arg8 x2 (ix2 s d) = VX x2 ⟨1536 + s.val, by omega⟩ d := by
  unfold kernelRun1_A.sl.v464
  exact vblk c arg4 harg4 arg8 x2 1536 _ (by omega) s d

theorem acc7_cover (y : (Sh 2048 256).Idx) : ∃ p ∈ kernelRun1_A.sl.HS4_7 c arg2 harg2 arg3 harg3 arg4 harg4 arg5 harg5 arg7 arg8 arg9 arg10 arg11 x0 x1 x2 x3, y ∈ p.1.set := by
  unfold kernelRun1_A.sl.HS4_7
  obtain ⟨p, hp, hy⟩ := acc6_cover c arg2 harg2 arg3 harg3 arg4 harg4 arg5 harg5 arg7 arg8 arg9 arg10 arg11 x0 x1 x2 x3 y
  exact ⟨p, List.mem_cons_of_mem _ hp, hy⟩

theorem acc7 (y : (Sh 2048 256).Idx) : View.canon (kernelRun1_A.sl.HS4_7 c arg2 harg2 arg3 harg3 arg4 harg4 arg5 harg5 arg7 arg8 arg9 arg10 arg11 x0 x1 x2 x3) y = ACf x0 x1 x2 x3 6 y := by
  unfold kernelRun1_A.sl.HS4_7
  unfold k1_pay1 kernelRun1_A.sl.r_19 k1_pay55
  dsimp only
  rw [shapeCast_self]
  exact acc_step x0 x1 x2 x3 (R := 512) 5 1536 rfl rfl _ (acc6 c arg2 harg2 arg3 harg3 arg4 harg4 arg5 harg5 arg7 arg8 arg9 arg10 arg11 x0 x1 x2 x3) _ _
    (a6_apply c arg2 harg2 arg3 harg3 arg4 harg4 arg5 harg5 arg7 arg8 arg9 arg10 arg11 x0 x1 x2 x3)
    (pvpay x0 x1 x2 x3 (R := 512) 6 (by omega) (by omega) _ _ _
      (p6_apply c arg2 harg2 arg3 harg3 arg5 harg5 arg7 arg9 arg10 x0 x1 x3)
      (v6_apply c arg4 harg4 arg8 x2)) _ y

theorem a7_apply (i : Fin 256) (d : Fin 256) : kernelRun1_A.sl.v474 c arg2 harg2 arg3 harg3 arg4 harg4 arg5 harg5 arg7 arg8 arg9 arg10 arg11 x0 x1 x2 x3 (ix2 i d) = AC x0 x1 x2 x3 6 ⟨1792 + i.val, by omega⟩ d := by
  unfold kernelRun1_A.sl.v474
  exact ablk arg11 x0 x1 x2 x3 (R := 256) 6 1792 _ (acc7 c arg2 harg2 arg3 harg3 arg4 harg4 arg5 harg5 arg7 arg8 arg9 arg10 arg11 x0 x1 x2 x3) (acc7_cover c arg2 harg2 arg3 harg3 arg4 harg4 arg5 harg5 arg7 arg8 arg9 arg10 arg11 x0 x1 x2 x3) _ (by omega) i d

theorem p7_apply (i : Fin 256) (s : Fin 256) : kernelRun1_A.sl.v471 c arg2 harg2 arg3 harg3 arg5 harg5 arg7 arg9 arg10 x0 x1 x3 (ix2 i s) = PP x0 x1 x3 ⟨1792 + i.val, by omega⟩ ⟨1792 + s.val, by omega⟩ := by
  unfold kernelRun1_A.sl.v471
  exact pblk c arg2 harg2 arg3 harg3 arg5 harg5 arg7 arg9 arg10 x0 x1 x3 (R := 256) 1792 _ (by omega) (by omega) (by omega) i s

theorem v7_apply (s : Fin 256) (d : Fin 256) : kernelRun1_A.sl.v472 c arg4 harg4 arg8 x2 (ix2 s d) = VX x2 ⟨1792 + s.val, by omega⟩ d := by
  unfold kernelRun1_A.sl.v472
  exact vblk c arg4 harg4 arg8 x2 1792 _ (by omega) s d

theorem acc8_cover (y : (Sh 2048 256).Idx) : ∃ p ∈ kernelRun1_A.sl.HS4_8 c arg2 harg2 arg3 harg3 arg4 harg4 arg5 harg5 arg7 arg8 arg9 arg10 arg11 x0 x1 x2 x3, y ∈ p.1.set := by
  unfold kernelRun1_A.sl.HS4_8
  obtain ⟨p, hp, hy⟩ := acc7_cover c arg2 harg2 arg3 harg3 arg4 harg4 arg5 harg5 arg7 arg8 arg9 arg10 arg11 x0 x1 x2 x3 y
  exact ⟨p, List.mem_cons_of_mem _ hp, hy⟩

theorem acc8 (y : (Sh 2048 256).Idx) : View.canon (kernelRun1_A.sl.HS4_8 c arg2 harg2 arg3 harg3 arg4 harg4 arg5 harg5 arg7 arg8 arg9 arg10 arg11 x0 x1 x2 x3) y = ACf x0 x1 x2 x3 7 y := by
  unfold kernelRun1_A.sl.HS4_8
  unfold k1_pay2
  dsimp only
  rw [shapeCast_self]
  exact acc_step x0 x1 x2 x3 (R := 256) 6 1792 rfl rfl _ (acc7 c arg2 harg2 arg3 harg3 arg4 harg4 arg5 harg5 arg7 arg8 arg9 arg10 arg11 x0 x1 x2 x3) _ _
    (a7_apply c arg2 harg2 arg3 harg3 arg4 harg4 arg5 harg5 arg7 arg8 arg9 arg10 arg11 x0 x1 x2 x3)
    (pvpay x0 x1 x2 x3 (R := 256) 7 (by omega) (by omega) _ _ _
      (p7_apply c arg2 harg2 arg3 harg3 arg5 harg5 arg7 arg9 arg10 x0 x1 x3)
      (v7_apply c arg4 harg4 arg8 x2)) _ y

/-- The block's result. -/
theorem out_apply (t : Fin 2048) (d : Fin 128) :
    k1_pay3 (F := Ideal) (kernelRun1_A.sl.v479 c arg2 harg2 arg3 harg3 arg4 harg4 arg5 harg5 arg7 arg8 arg9 arg10 arg11 x0 x1 x2 x3) (ix2 t d)
      = AC x0 x1 x2 x3 7 t ⟨d.val, by omega⟩ * Ideal.div 1 (AC x0 x1 x2 x3 7 t ⟨128, by omega⟩) := by
  have h1 : (Ideal.ofBits .f32 0x3F800000#32 : EReal) = 1 := by
    simp [Ideal.ofBits, Ideal.ieee, -EReal.coe_mul]; norm_num
  have hv : ∀ (i : Fin 2048) (e : Fin 256), kernelRun1_A.sl.v479 c arg2 harg2 arg3 harg3 arg4 harg4 arg5 harg5 arg7 arg8 arg9 arg10 arg11 x0 x1 x2 x3 (ix2 i e) = AC x0 x1 x2 x3 7 i e := by
    intro i e
    unfold kernelRun1_A.sl.v479
    refine (ablk arg11 x0 x1 x2 x3 (R := 2048) 7 0 _ (acc8 c arg2 harg2 arg3 harg3 arg4 harg4 arg5 harg5 arg7 arg8 arg9 arg10 arg11 x0 x1 x2 x3) (acc8_cover c arg2 harg2 arg3 harg3 arg4 harg4 arg5 harg5 arg7 arg8 arg9 arg10 arg11 x0 x1 x2 x3) _ (by omega) i e).trans ?_
    exact congrArg₂ _ (Fin.ext (Nat.zero_add _)) rfl
  unfold k1_pay3
  refine congrArg₂ (fun a b : EReal => a * b) ?_ ?_
  · refine (extractStridedSlice_apply _ _ _ (ix2 t d) (ix2 t (⟨d.val, by omega⟩ : Fin 256)) (fun a => by
      match a with
      | ⟨0, _⟩ => exact (Nat.zero_add _).symm
      | ⟨1, _⟩ => exact (Nat.zero_add _).symm)).trans (hv _ _)
  · refine (broadcastTo_apply _ _ (ix2 t d) (ix2 t (0 : Fin 1)) (fun a => by
      match a with
      | ⟨0, _⟩ => rfl
      | ⟨1, _⟩ => rfl)).trans ?_
    rw [divf_apply]
    refine congrArg₂ Ideal.div h1 ?_
    exact (extractStridedSlice_apply _ _ _ (ix2 t (0 : Fin 1)) (ix2 t (⟨128, by omega⟩ : Fin 256)) (fun a => by
      match a with
      | ⟨0, _⟩ => exact (Nat.zero_add _).symm
      | ⟨1, _⟩ => rfl)).trans (hv _ _)

end Cert.KernelIdeal.KV

end
-- ==== Proof.KRow.lean ====
/- The attention's block of one prompt and head: for finite queries and keys each row is the softmax over the keys it sees. -/
module

public import proofs.«01_k».proof.Proof.KAcc

@[expose] public section

set_option maxRecDepth 16384
set_option backward.isDefEq.respectTransparency false

noncomputable section

namespace Cert.KernelIdeal.KV

open Idealize.ShloMosaic Idealize.ShloMosaic.ValueIdx
open Cert.KernelIdeal.Gen Cert.KHelp Cert.Row

/-- The queries' scale. -/
def cs : ℝ := (Real.sqrt 128 * Real.log 2)⁻¹

theorem log2_pos : (0 : ℝ) < Real.log 2 := Real.log_pos (by norm_num)
theorem sqrt_pos : (0 : ℝ) < Real.sqrt 128 := Real.sqrt_pos.mpr (by norm_num)
theorem cs_pos : 0 < cs := inv_pos.mpr (mul_pos sqrt_pos log2_pos)

theorem w256_eq : w256 = (((1 / 256 : ℝ) : ℝ) : EReal) := by
  unfold w256
  simp [Ideal.ofBits, Ideal.ieee, -EReal.coe_mul]
  norm_num

/-- A sum over all keys, block by block. -/
theorem sum_blocks {M : Type} [AddCommMonoid M] (f : Fin 2048 → M) : ∑ s, f s = ∑ n : Fin 8, ∑ j : Fin 256, f (ky n j) := by
  rw [← Fintype.sum_prod_type' (f := fun n j => f (ky n j))]
  refine (Fintype.sum_equiv (finProdFinEquiv (m := 8) (n := 256)) _ _ fun p => ?_).symm
  refine congrArg f (Fin.ext ?_)
  show 256 * p.1.val + p.2.val = p.2.val + 256 * p.1.val
  omega

theorem ky_div (n : Fin 8) (j : Fin 256) : (ky n j).val / 256 = n.val := by show (256 * n.val + j.val) / 256 = _; omega
theorem ky_mod (n : Fin 8) (j : Fin 256) : (ky n j).val % 256 = j.val := by show (256 * n.val + j.val) % 256 = _; omega

variable (qr kr : Fin 2048 → Fin 128 → ℝ) (tr : Fin 32 → ℝ) (q k v : (Sh 2048 128).Idx → EReal) (x3 : ShB.Idx → EReal)
  (hq : ∀ t d, q (ix2 t d) = ((qr t d * cs : ℝ) : EReal)) (hk : ∀ t d, k (ix2 t d) = ((kr t d : ℝ) : EReal))
  (hb0 : ∀ i j : Fin 256, bias x3 0 i j = if j.val ≤ i.val then (((tb tr (i.val - j.val) - tr 31) * (Real.log 2)⁻¹ : ℝ) : EReal) else ⊥)
  (hb1 : ∀ i j : Fin 256, bias x3 1 i j = (((tb tr (i.val + 256 - j.val) - tr 31) * (Real.log 2)⁻¹ : ℝ) : EReal))

include hk in
theorem km_real (n : Fin 8) (d : Fin 128) : km k (n.castLE (by decide)) d = (((∑ j, kr (ky n j) d) / 256 : ℝ) : EReal) := by
  unfold km
  have : ∀ s : Fin 2048, (if s.val / 256 = (n.castLE (by decide : 8 ≤ 16)).val then w256 else 0) * k (ix2 s d)
      = (((if s.val / 256 = n.val then kr s d / 256 else 0 : ℝ) : ℝ) : EReal) := by
    intro s
    rw [hk, w256_eq]
    show (if s.val / 256 = n.val then _ else _) * _ = _
    split_ifs
    · rw [← EReal.coe_mul]; congr 1; ring
    · simp
  rw [Finset.sum_congr rfl fun s _ => this s, ← coe_sum]
  refine congrArg _ ?_
  rw [sum_blocks, Finset.sum_eq_single n]
  · rw [Finset.sum_div]
    exact Finset.sum_congr rfl fun j _ => if_pos (ky_div n j)
  · intro m _ hm
    exact Finset.sum_eq_zero fun j _ => if_neg (by rw [ky_div]; exact fun h => hm (Fin.ext h))
  · intro h; exact absurd (Finset.mem_univ _) h

include hq hk in
theorem gate_real (t : Fin 2048) (n : Fin 8) : gate q k t n = (cs : EReal) * gt qr kr t n := by
  unfold gate gt
  split_ifs
  · have h1 : ∀ d : Fin 128, km k (n.castLE (by decide)) d * q (ix2 t d) = ((cs * (qr t d * ((∑ j, kr (ky n j) d) / 256)) : ℝ) : EReal) := by
      intro d
      rw [km_real kr k hk, hq, ← EReal.coe_mul]; congr 1; ring
    have h2 : ∀ d : Fin 128, (km k (n.castLE (by decide)) d - km k (n.castLE (by decide)) d) * q (ix2 t d) = 0 := by
      intro d
      rw [km_real kr k hk, ← EReal.coe_sub, sub_self]; simp
    rw [Finset.sum_congr rfl fun d _ => h1 d, Finset.sum_congr rfl fun d _ => h2 d, Finset.sum_const_zero, add_zero, ← coe_sum, ← Finset.mul_sum,
      EReal.coe_mul]
    rfl
  · exact (EReal.coe_mul_bot_of_pos cs_pos).symm

include hq hk in
open Classical in
theorem mt_real (t : Fin 2048) (n : Fin 8) : mt q k t n.val = if Seen (gt qr kr t) (t.val / 256) n then 0 else ⊥ := by
  unfold mt
  rw [dif_pos n.isLt]
  exact if_congr (Seen_scale _ _ cs cs_pos (gate_real qr kr q k hq hk t) (gt_ne_top qr kr t) _ _) rfl rfl

include hq hk in
open Classical in
theorem SS_real (t : Fin 2048) (n : Fin 8) (j : Fin 256) : SS q k t (ky n j)
    = ((cs * ∑ d, qr t d * kr (ky n j) d : ℝ) : EReal) + if Seen (gt qr kr t) (t.val / 256) n then 0 else ⊥ := by
  unfold SS
  have hs := Fin.sum_univ_add (a := 128) (b := 128) fun d : Fin (128 + 128) => QX q k t d * KX k (ky n j) d
  refine hs.trans (congrArg₂ (· + ·) ?_ ?_)
  · have h1 : ∀ d : Fin 128, QX q k t (Fin.castAdd 128 d) * KX k (ky n j) (Fin.castAdd 128 d) = ((cs * (qr t d * kr (ky n j) d) : ℝ) : EReal) := by
      intro d
      have e1 : QX q k t (Fin.castAdd 128 d) = q (ix2 t d) := dif_pos d.isLt
      have e2 : KX k (ky n j) (Fin.castAdd 128 d) = k (ix2 (ky n j) d) := dif_pos d.isLt
      rw [e1, e2, hq, hk, ← EReal.coe_mul]; congr 1; ring
    rw [Finset.sum_congr rfl fun d _ => h1 d, ← coe_sum, ← Finset.mul_sum]
  · have h2 : ∀ d : Fin 128, QX q k t (Fin.natAdd 128 d) * KX k (ky n j) (Fin.natAdd 128 d) = mt q k t d.val * if n.val = d.val then 1 else 0 := by
      intro d
      have e0 : (Fin.natAdd 128 d).val - 128 = d.val := by show 128 + d.val - 128 = _; omega
      have e1 : QX q k t (Fin.natAdd 128 d) = mt q k t d.val := by
        unfold QX
        rw [dif_neg (by show ¬ (128 + d.val < 128); omega), e0]
      have e2 : KX k (ky n j) (Fin.natAdd 128 d) = if n.val = d.val then 1 else 0 := by
        unfold KX
        rw [dif_neg (by show ¬ (128 + d.val < 128); omega), e0, ky_div]
      rw [e1, e2]
    rw [Finset.sum_congr rfl fun d _ => h2 d, Finset.sum_eq_single (⟨n.val, by omega⟩ : Fin 128)]
    · rw [if_pos rfl, mul_one]; exact mt_real qr kr q k hq hk t n
    · intro d _ hd
      rw [if_neg fun h => hd (Fin.ext h.symm), mul_zero]
    · intro h; exact absurd (Finset.mem_univ _) h

theorem bot_plus (x : EReal) : x + ⊥ = ⊥ := EReal.add_bot x

include hq hk hb0 hb1 in
open Classical in
theorem TT_real (t : Fin 2048) (n : Fin 8) (j : Fin 256) (hn : n ≤ own t) : TT q k x3 t (ky n j)
    = (((Real.log 2)⁻¹ : ℝ) : EReal) * LL qr kr tr t n j + ((-(tr 31 * (Real.log 2)⁻¹) : ℝ) : EReal) := by
  have hn : n.val ≤ t.val / 256 := hn
  have hl : (0 : ℝ) < (Real.log 2)⁻¹ := inv_pos.mpr log2_pos
  have hcs : ∀ x : ℝ, cs * x = (Real.log 2)⁻¹ * (x / Real.sqrt 128) := by
    intro x; unfold cs; rw [mul_inv]; ring
  have hbot : (((Real.log 2)⁻¹ : ℝ) : EReal) * ⊥ + ((-(tr 31 * (Real.log 2)⁻¹) : ℝ) : EReal) = ⊥ := by
    rw [EReal.coe_mul_bot_of_pos hl, EReal.bot_add]
  unfold TT
  rw [SS_real qr kr q k hq hk, ky_div, hb0, hb1]
  dsimp only
  simp only [ky_mod]
  have hky : (ky n j).val = 256 * n.val + j.val := rfl
  unfold LL
  by_cases h0 : n.val = t.val / 256
  · rw [if_pos h0, if_pos (show Seen (gt qr kr t) (t.val / 256) n from Or.inr h0), add_zero]
    by_cases hj : j.val ≤ t.val % 256
    · rw [if_pos hj, if_pos ⟨Or.inr h0, by omega⟩, ← EReal.coe_mul, ← EReal.coe_add, ← EReal.coe_add]
      congr 1
      unfold lgR
      have e : t.val - (ky n j).val = t.val % 256 - j.val := by omega
      rw [hcs, e]; ring
    · rw [if_neg hj, if_neg (fun h => by have := h.2; omega), hbot, EReal.add_bot]
  · rw [if_neg h0]
    by_cases h1 : n.val + 1 = t.val / 256
    · rw [if_pos h1]
      by_cases hs : Seen (gt qr kr t) (t.val / 256) n
      · rw [if_pos hs, if_pos ⟨hs, by omega⟩, add_zero, ← EReal.coe_mul, ← EReal.coe_add, ← EReal.coe_add]
        congr 1
        unfold lgR
        have e : t.val - (ky n j).val = t.val % 256 + 256 - j.val := by omega
        rw [hcs, e]; ring
      · rw [if_neg hs, if_neg (fun h => hs h.1), hbot, EReal.add_bot, EReal.bot_add]
    · rw [if_neg h1]
      by_cases hs : Seen (gt qr kr t) (t.val / 256) n
      · rw [if_pos hs, if_pos ⟨hs, by omega⟩, add_zero, ← EReal.coe_mul, ← EReal.coe_add]
        congr 1
        unfold lgR
        rw [hcs, tb_far tr _ (by omega)]; ring
      · rw [if_neg hs, if_neg (fun h => hs h.1), hbot, EReal.add_bot]

include hq hk hb0 hb1 in
/-- A row of the block's result. -/
theorem row_apply (t : Fin 2048) (d : Fin 128) :
    AC q k v x3 7 t ⟨d.val, by omega⟩ * Ideal.div 1 (AC q k v x3 7 t ⟨128, by omega⟩) = row qr kr tr (fun s => v (ix2 s d)) t := by
  have hf : (Finset.univ.filter fun n : Fin 8 => n.val ≤ 7 ∧ n.val ≤ t.val / 256) = Finset.univ.filter (· ≤ own t) := by
    ext n
    simp only [Finset.mem_filter, Finset.mem_univ, true_and]
    show _ ↔ n.val ≤ t.val / 256
    omega
  have hp : ∀ (n : Fin 8) (e : Fin 256), PV q k v x3 n.val t e = ∑ j, PP q k x3 t (ky n j) * VX v (ky n j) e := by
    intro n e
    unfold PV
    refine Finset.sum_congr rfl fun j _ => ?_
    have : (⟨(256 * n.val + j.val) % 2048, by omega⟩ : Fin 2048) = ky n j := Fin.ext (Nat.mod_eq_of_lt (by omega))
    rw [this]
  have hne : (Finset.univ.filter fun s : Fin 2048 => s.val / 256 ≤ t.val / 256).Nonempty := ⟨t, by simp⟩
  refine kernel_row (own t) (LL qr kr tr t) (fun n j => v (ix2 (ky n j) d)) (fun n j => TT q k x3 t (ky n j)) (-(tr 31 * (Real.log 2)⁻¹)) 0
    (LL_ne_top qr kr tr t) (LL_own qr kr tr t) (LL_far qr kr tr t) (TT_real qr kr tr q k x3 hq hk hb0 hb1 t) (MX q k x3 t) ?_ ?_ _ _ ?_ ?_
  · intro n j hn
    exact Finset.le_sup (f := TT q k x3 t) (by rw [Finset.mem_filter, ky_div]; exact ⟨Finset.mem_univ _, hn⟩)
  · obtain ⟨s, hs, e⟩ := Finset.exists_mem_eq_sup _ hne (TT q k x3 t)
    have hs := (Finset.mem_filter.mp hs).2
    refine ⟨⟨s.val / 256, by omega⟩, ⟨s.val % 256, by omega⟩, hs, ?_⟩
    have : ky ⟨s.val / 256, by omega⟩ ⟨s.val % 256, by omega⟩ = s := Fin.ext (by show 256 * (s.val / 256) + s.val % 256 = _; omega)
    show TT q k x3 t (ky _ _) = MX q k x3 t
    rw [this]
    exact e.symm
  · rw [AC_eq q k v x3 t _ 7 (by omega), hf]
    refine Finset.sum_congr rfl fun n _ => ?_
    rw [hp]
    refine Finset.sum_congr rfl fun j _ => ?_
    have : VX v (ky n j) ⟨d.val, by omega⟩ = v (ix2 (ky n j) d) := dif_pos d.isLt
    rw [this]
    rfl
  · rw [AC_eq q k v x3 t _ 7 (by omega), hf]
    refine Finset.sum_congr rfl fun n _ => ?_
    rw [hp]
    refine Finset.sum_congr rfl fun j _ => ?_
    have : VX v (ky n j) ⟨128, by omega⟩ = 1 := by
      unfold VX
      rw [dif_neg (by simp), if_pos rfl]
    rw [this, mul_one]
    rfl

end Cert.KernelIdeal.KV

end
-- ==== Proof.KBias.lean ====
/- The bias tables of one head. -/
module

public import proofs.«01_k».proof.Proof.KRow

@[expose] public section

set_option maxRecDepth 16384
set_option backward.isDefEq.respectTransparency false

noncomputable section

namespace Cert.KernelIdeal.KV

open Idealize.ShloMosaic Idealize.ShloMosaic.ValueIdx
open Cert.KernelIdeal.Gen Cert.KHelp Cert.Row

/-- The thresholds with their buckets. -/
def steps : List (Nat × Nat) := [(1, 1), (2, 2), (3, 3), (4, 4), (5, 5), (6, 6), (7, 7), (8, 8), (9, 9), (10, 10), (11, 11), (12, 12), (13, 13), (14, 14), (15, 15), (16, 16), (19, 17), (21, 18), (24, 19), (27, 20), (31, 21), (35, 22), (40, 23), (46, 24), (52, 25), (59, 26), (67, 27), (77, 28), (87, 29), (99, 30), (113, 31)]

/-- A bucket's entry, taken by comparing a distance with each threshold. -/
def chain {M : Type} (T : Nat → M) (d : BitVec 32) : M :=
  steps.foldl (fun acc p => Scalar.select (IntOp.cmpi .sge d (BitVec.ofNat 32 p.1)) (T p.2) acc) (T 0)

theorem fold_map {M N : Type} (f : M → N) (T : Nat → M) (d : BitVec 32) (l : List (Nat × Nat)) (a : M) :
    l.foldl (fun acc p => Scalar.select (IntOp.cmpi .sge d (BitVec.ofNat 32 p.1)) (f (T p.2)) acc) (f a)
      = f (l.foldl (fun acc p => Scalar.select (IntOp.cmpi .sge d (BitVec.ofNat 32 p.1)) (T p.2) acc) a) := by
  induction l generalizing a with
  | nil => rfl
  | cons p l ih =>
    rw [List.foldl_cons, List.foldl_cons, ← ih]
    congr 1
    unfold Scalar.select
    split_ifs <;> rfl

theorem chain_map {M N : Type} (f : M → N) (T : Nat → M) (d : BitVec 32) : chain (fun k => f (T k)) d = f (chain T d) :=
  fold_map f T d steps (T 0)

theorem chain_dec : ∀ x : Fin 512, chain (fun k => k) (BitVec.ofNat 32 x.val) = bkt x.val := by decide +kernel

theorem chain_eq {M : Type} (T : Nat → M) (x : Nat) (hx : x < 512) : chain T (BitVec.ofNat 32 x) = T (bkt x) := by
  rw [← chain_dec ⟨x, hx⟩]
  exact chain_map T (fun k => k) _

variable (c : Dev nD) (i : grid0.Coords) (arg1 : Memref sig .tc .smem S32x16 .f32) (harg1 : arg1.IsWhole) (arg2 : Memref sig .tc .vmem S1x2x256x256 .f32) (harg2 : arg2.IsWhole)
    (x0 : Vec Ideal S32x16 .f32)

/-- A head's entry of the table. -/
def ent (h : Fin 16) (x0 : (Sh 32 16).Idx → EReal) (k : Nat) : EReal := x0 (ix2 ⟨k % 32, by omega⟩ h)

/-- The head of a point of the first grid. -/
def hd (i : grid0.Coords) : Fin 16 := i 0

theorem ent_read (k : Nat) (hk : k < 32) (off : Fin 2 → Nat) (h0 : off 0 = k) (h1 : off 1 = (i 0).val) (inb) (hn) :
    View.readAt (Elt Ideal) arg1.view (Rect.unit (s := Sh 32 16) off S1x1.size inb).toLoadRect (harg1.unread x0) (Shape.Idx.first hn) = ent (hd i) x0 k := by
  rw [View.readAt_eq_ld, harg1.read_unread]
  unfold ent
  show x0 _ = _
  refine congrArg x0 (funext fun a => Fin.ext ?_)
  match a with
  | ⟨0, _⟩ => show off 0 + 1 * 0 = k % 32; omega
  | ⟨1, _⟩ => show off 1 + 1 * 0 = (i 0).val; omega

theorem head_word (i : grid0.Coords) : (Scalar.indexCast (BitVec.ofNat 32 (i 0).val)).toNat = (i 0).val := by
  have : (i 0).val < 16 := (i 0).isLt
  show (BitVec.ofNat 32 (i 0).val).toNat = _
  rw [BitVec.toNat_ofNat]; omega

theorem r_1_eq : kernelRun0_A.sl.r_1 c i arg1 harg1 x0 = ent (hd i) x0 0 := by
  unfold kernelRun0_A.sl.r_1
  exact ent_read i arg1 harg1 x0 0 (by omega) (k0_off2 i) rfl (head_word i) _ _

theorem r_2_eq : kernelRun0_A.sl.r_2 c i arg1 harg1 x0 = ent (hd i) x0 1 := by
  unfold kernelRun0_A.sl.r_2
  exact ent_read i arg1 harg1 x0 1 (by omega) (k0_off3 i) rfl (head_word i) _ _

theorem r_3_eq : kernelRun0_A.sl.r_3 c i arg1 harg1 x0 = ent (hd i) x0 2 := by
  unfold kernelRun0_A.sl.r_3
  exact ent_read i arg1 harg1 x0 2 (by omega) (k0_off4 i) rfl (head_word i) _ _

theorem r_4_eq : kernelRun0_A.sl.r_4 c i arg1 harg1 x0 = ent (hd i) x0 3 := by
  unfold kernelRun0_A.sl.r_4
  exact ent_read i arg1 harg1 x0 3 (by omega) (k0_off5 i) rfl (head_word i) _ _

theorem r_5_eq : kernelRun0_A.sl.r_5 c i arg1 harg1 x0 = ent (hd i) x0 4 := by
  unfold kernelRun0_A.sl.r_5
  exact ent_read i arg1 harg1 x0 4 (by omega) (k0_off6 i) rfl (head_word i) _ _

theorem r_6_eq : kernelRun0_A.sl.r_6 c i arg1 harg1 x0 = ent (hd i) x0 5 := by
  unfold kernelRun0_A.sl.r_6
  exact ent_read i arg1 harg1 x0 5 (by omega) (k0_off7 i) rfl (head_word i) _ _

theorem r_7_eq : kernelRun0_A.sl.r_7 c i arg1 harg1 x0 = ent (hd i) x0 6 := by
  unfold kernelRun0_A.sl.r_7
  exact ent_read i arg1 harg1 x0 6 (by omega) (k0_off8 i) rfl (head_word i) _ _

theorem r_9_eq : kernelRun0_A.sl.r_9 c i arg1 harg1 x0 = ent (hd i) x0 7 := by
  unfold kernelRun0_A.sl.r_9
  exact ent_read i arg1 harg1 x0 7 (by omega) (k0_off9 i) rfl (head_word i) _ _

theorem r_10_eq : kernelRun0_A.sl.r_10 c i arg1 harg1 x0 = ent (hd i) x0 8 := by
  unfold kernelRun0_A.sl.r_10
  exact ent_read i arg1 harg1 x0 8 (by omega) (k0_off10 i) rfl (head_word i) _ _

theorem r_11_eq : kernelRun0_A.sl.r_11 c i arg1 harg1 x0 = ent (hd i) x0 9 := by
  unfold kernelRun0_A.sl.r_11
  exact ent_read i arg1 harg1 x0 9 (by omega) (k0_off11 i) rfl (head_word i) _ _

theorem r_12_eq : kernelRun0_A.sl.r_12 c i arg1 harg1 x0 = ent (hd i) x0 10 := by
  unfold kernelRun0_A.sl.r_12
  exact ent_read i arg1 harg1 x0 10 (by omega) (k0_off12 i) rfl (head_word i) _ _

theorem r_13_eq : kernelRun0_A.sl.r_13 c i arg1 harg1 x0 = ent (hd i) x0 11 := by
  unfold kernelRun0_A.sl.r_13
  exact ent_read i arg1 harg1 x0 11 (by omega) (k0_off13 i) rfl (head_word i) _ _

theorem r_14_eq : kernelRun0_A.sl.r_14 c i arg1 harg1 x0 = ent (hd i) x0 12 := by
  unfold kernelRun0_A.sl.r_14
  exact ent_read i arg1 harg1 x0 12 (by omega) (k0_off14 i) rfl (head_word i) _ _

theorem r_15_eq : kernelRun0_A.sl.r_15 c i arg1 harg1 x0 = ent (hd i) x0 13 := by
  unfold kernelRun0_A.sl.r_15
  exact ent_read i arg1 harg1 x0 13 (by omega) (k0_off15 i) rfl (head_word i) _ _

theorem r_17_eq : kernelRun0_A.sl.r_17 c i arg1 harg1 x0 = ent (hd i) x0 14 := by
  unfold kernelRun0_A.sl.r_17
  exact ent_read i arg1 harg1 x0 14 (by omega) (k0_off16 i) rfl (head_word i) _ _

theorem r_18_eq : kernelRun0_A.sl.r_18 c i arg1 harg1 x0 = ent (hd i) x0 15 := by
  unfold kernelRun0_A.sl.r_18
  exact ent_read i arg1 harg1 x0 15 (by omega) (k0_off17 i) rfl (head_word i) _ _

theorem r_19_eq : kernelRun0_A.sl.r_19 c i arg1 harg1 x0 = ent (hd i) x0 16 := by
  unfold kernelRun0_A.sl.r_19
  exact ent_read i arg1 harg1 x0 16 (by omega) (k0_off18 i) rfl (head_word i) _ _

theorem r_20_eq : kernelRun0_A.sl.r_20 c i arg1 harg1 x0 = ent (hd i) x0 17 := by
  unfold kernelRun0_A.sl.r_20
  exact ent_read i arg1 harg1 x0 17 (by omega) (k0_off19 i) rfl (head_word i) _ _

theorem r_21_eq : kernelRun0_A.sl.r_21 c i arg1 harg1 x0 = ent (hd i) x0 18 := by
  unfold kernelRun0_A.sl.r_21
  exact ent_read i arg1 harg1 x0 18 (by omega) (k0_off20 i) rfl (head_word i) _ _

theorem r_22_eq : kernelRun0_A.sl.r_22 c i arg1 harg1 x0 = ent (hd i) x0 19 := by
  unfold kernelRun0_A.sl.r_22
  exact ent_read i arg1 harg1 x0 19 (by omega) (k0_off21 i) rfl (head_word i) _ _

theorem r_23_eq : kernelRun0_A.sl.r_23 c i arg1 harg1 x0 = ent (hd i) x0 20 := by
  unfold kernelRun0_A.sl.r_23
  exact ent_read i arg1 harg1 x0 20 (by omega) (k0_off22 i) rfl (head_word i) _ _

theorem r_24_eq : kernelRun0_A.sl.r_24 c i arg1 harg1 x0 = ent (hd i) x0 21 := by
  unfold kernelRun0_A.sl.r_24
  exact ent_read i arg1 harg1 x0 21 (by omega) (k0_off23 i) rfl (head_word i) _ _

theorem r_26_eq : kernelRun0_A.sl.r_26 c i arg1 harg1 x0 = ent (hd i) x0 22 := by
  unfold kernelRun0_A.sl.r_26
  exact ent_read i arg1 harg1 x0 22 (by omega) (k0_off24 i) rfl (head_word i) _ _

theorem r_27_eq : kernelRun0_A.sl.r_27 c i arg1 harg1 x0 = ent (hd i) x0 23 := by
  unfold kernelRun0_A.sl.r_27
  exact ent_read i arg1 harg1 x0 23 (by omega) (k0_off25 i) rfl (head_word i) _ _

theorem r_28_eq : kernelRun0_A.sl.r_28 c i arg1 harg1 x0 = ent (hd i) x0 24 := by
  unfold kernelRun0_A.sl.r_28
  exact ent_read i arg1 harg1 x0 24 (by omega) (k0_off26 i) rfl (head_word i) _ _

theorem r_29_eq : kernelRun0_A.sl.r_29 c i arg1 harg1 x0 = ent (hd i) x0 25 := by
  unfold kernelRun0_A.sl.r_29
  exact ent_read i arg1 harg1 x0 25 (by omega) (k0_off27 i) rfl (head_word i) _ _

theorem r_30_eq : kernelRun0_A.sl.r_30 c i arg1 harg1 x0 = ent (hd i) x0 26 := by
  unfold kernelRun0_A.sl.r_30
  exact ent_read i arg1 harg1 x0 26 (by omega) (k0_off28 i) rfl (head_word i) _ _

theorem r_31_eq : kernelRun0_A.sl.r_31 c i arg1 harg1 x0 = ent (hd i) x0 27 := by
  unfold kernelRun0_A.sl.r_31
  exact ent_read i arg1 harg1 x0 27 (by omega) (k0_off29 i) rfl (head_word i) _ _

theorem r_32_eq : kernelRun0_A.sl.r_32 c i arg1 harg1 x0 = ent (hd i) x0 28 := by
  unfold kernelRun0_A.sl.r_32
  exact ent_read i arg1 harg1 x0 28 (by omega) (k0_off30 i) rfl (head_word i) _ _

theorem r_34_eq : kernelRun0_A.sl.r_34 c i arg1 harg1 x0 = ent (hd i) x0 29 := by
  unfold kernelRun0_A.sl.r_34
  exact ent_read i arg1 harg1 x0 29 (by omega) (k0_off31 i) rfl (head_word i) _ _

theorem r_35_eq : kernelRun0_A.sl.r_35 c i arg1 harg1 x0 = ent (hd i) x0 30 := by
  unfold kernelRun0_A.sl.r_35
  exact ent_read i arg1 harg1 x0 30 (by omega) (k0_off32 i) rfl (head_word i) _ _

theorem r_eq : kernelRun0_A.sl.r c i arg1 harg1 x0 = ent (hd i) x0 31 := by
  unfold kernelRun0_A.sl.r
  exact ent_read i arg1 harg1 x0 31 (by omega) (k0_off1 i) rfl (head_word i) _ _

/-- The distance's word. -/
theorem dist_apply (a b : Fin 256) : k0_pay2 (ix2 a b) = BitVec.ofNat 32 (0 + a.val) - BitVec.ofNat 32 (0 + b.val) := rfl

theorem own_word (a b : Fin 256) : shapeCast S256x256 (k0_pay9 (F := Ideal) (kernelRun0_A.sl.r c i arg1 harg1 x0) k0_pay2 (kernelRun0_A.sl.r_33 c i arg1 harg1 x0)
            (k0_pay8 k0_pay2) (kernelRun0_A.sl.r_34 c i arg1 harg1 x0) (kernelRun0_A.sl.r_35 c i arg1 harg1 x0)
            (kernelRun0_A.sl.r c i arg1 harg1 x0)) (by decide) (ix2 a b)
    = Scalar.select (IntOp.cmpi .sge (k0_pay2 (ix2 a b)) 0#32)
        ((chain (ent (hd i) x0) (k0_pay2 (ix2 a b)) - ent (hd i) x0 31) * (((Real.log 2)⁻¹ : ℝ) : EReal)) ⊥ := by
  unfold k0_pay9 kernelRun0_A.sl.r_33 kernelRun0_A.sl.r_25 kernelRun0_A.sl.r_16 kernelRun0_A.sl.r_8 k0_pay8 k0_pay7 k0_pay6 k0_pay5 k0_pay4 k0_pay3
  simp only [r_26_eq, r_15_eq, r_3_eq, r_18_eq, r_6_eq, r_34_eq, r_28_eq, r_22_eq, r_14_eq, r_30_eq, r_eq, r_13_eq, r_12_eq, r_7_eq, r_10_eq, r_5_eq, r_29_eq, r_20_eq, r_24_eq, r_31_eq, r_23_eq, r_1_eq, r_35_eq, r_32_eq, r_9_eq, r_21_eq, r_2_eq, r_19_eq, r_17_eq, r_4_eq, r_11_eq, r_27_eq]
  rw [shapeCast_shapeCast]
  generalize ent (hd i) x0 = T
  rfl

theorem far_word (a b : Fin 256) : kernelRun0_A.sl.r_42 c i arg1 harg1 x0 (ix2 a b)
    = (chain (ent (hd i) x0) (k0_pay2 (ix2 a b) + 256#32) - ent (hd i) x0 31) * (((Real.log 2)⁻¹ : ℝ) : EReal) := by
  unfold kernelRun0_A.sl.r_42 kernelRun0_A.sl.r_41 kernelRun0_A.sl.r_40 kernelRun0_A.sl.r_39 kernelRun0_A.sl.r_38 kernelRun0_A.sl.r_37 kernelRun0_A.sl.r_36
  unfold k0_pay21 k0_pay20 k0_pay19 k0_pay18 k0_pay17 k0_pay16 k0_pay15 k0_pay14 k0_pay13 k0_pay12 k0_pay11 k0_pay10
  simp only [r_26_eq, r_15_eq, r_3_eq, r_18_eq, r_6_eq, r_34_eq, r_28_eq, r_22_eq, r_14_eq, r_30_eq, r_eq, r_13_eq, r_12_eq, r_7_eq, r_10_eq, r_5_eq, r_29_eq, r_20_eq, r_24_eq, r_31_eq, r_23_eq, r_1_eq, r_35_eq, r_32_eq, r_9_eq, r_21_eq, r_2_eq, r_19_eq, r_17_eq, r_4_eq, r_11_eq, r_27_eq]
  have e : k0_pay2 (ix2 a b) + 256#32 = (addi k0_pay2 (broadcast S256x256 256#32) : IVec S256x256 32) (ix2 a b) := rfl
  rw [e]
  generalize (addi k0_pay2 (broadcast S256x256 256#32) : IVec S256x256 32) = D
  generalize ent (hd i) x0 = T
  rfl

theorem dist_word (a b : Fin 256) (h : b.val ≤ a.val) : k0_pay2 (ix2 a b) = BitVec.ofNat 32 (a.val - b.val) := by
  rw [dist_apply, Nat.zero_add, Nat.zero_add]
  apply BitVec.eq_of_toNat_eq
  rw [BitVec.toNat_sub, BitVec.toNat_ofNat, BitVec.toNat_ofNat, BitVec.toNat_ofNat]
  omega

theorem dist_far (a b : Fin 256) : k0_pay2 (ix2 a b) + 256#32 = BitVec.ofNat 32 (a.val + 256 - b.val) := by
  rw [dist_apply, Nat.zero_add, Nat.zero_add]
  apply BitVec.eq_of_toNat_eq
  rw [BitVec.toNat_add, BitVec.toNat_sub, BitVec.toNat_ofNat, BitVec.toNat_ofNat, BitVec.toNat_ofNat]
  simp only [BitVec.toNat_ofNat]
  omega

theorem dist_sign (a b : Fin 256) : IntOp.cmpi .sge (k0_pay2 (ix2 a b)) 0#32 = if b.val ≤ a.val then 1#1 else 0#1 := by
  have hs : (0#32).sle (k0_pay2 (ix2 a b)) = decide (b.val ≤ a.val) := by
    rw [dist_apply, Nat.zero_add, Nat.zero_add, BitVec.sle_eq_decide]
    have : (BitVec.ofNat 32 a.val - BitVec.ofNat 32 b.val).toInt = (a.val : Int) - b.val := by
      have ha : (BitVec.ofNat 32 a.val).toInt = a.val := by
        rw [BitVec.toInt_eq_toNat_of_lt (by simp only [BitVec.toNat_ofNat]; omega), BitVec.toNat_ofNat]
        omega
      have hb : (BitVec.ofNat 32 b.val).toInt = b.val := by
        rw [BitVec.toInt_eq_toNat_of_lt (by simp only [BitVec.toNat_ofNat]; omega), BitVec.toNat_ofNat]
        omega
      rw [BitVec.toInt_sub, ha, hb]
      exact Int.bmod_eq_of_le (by omega) (by omega)
    rw [this]
    refine decide_eq_decide.mpr ?_
    show (0 : Int) ≤ _ ↔ _
    omega
  show BitVec.ofBool ((0#32).sle (k0_pay2 (ix2 a b))) = _
  rw [hs]
  by_cases h : b.val ≤ a.val <;> simp [h]

/-- The two bias blocks of a head whose column of the table is `tr`. -/
def biasv (tr : Fin 32 → ℝ) (w : Fin 2) (a b : Fin 256) : EReal :=
  if w.val = 0 then (if b.val ≤ a.val then (((tb tr (a.val - b.val) - tr 31) * (Real.log 2)⁻¹ : ℝ) : EReal) else ⊥)
  else (((tb tr (a.val + 256 - b.val) - tr 31) * (Real.log 2)⁻¹ : ℝ) : EReal)

variable (tr : Fin 32 → ℝ) (hx : ∀ k : Fin 32, x0 (ix2 k (hd i)) = ((tr k : ℝ) : EReal))

include hx in
theorem chain_real (d : Nat) (hd' : d < 512) : chain (ent (hd i) x0) (BitVec.ofNat 32 d) = ((tb tr d : ℝ) : EReal) := by
  rw [chain_eq _ d hd']
  exact hx _

include hx in
theorem own_real (a b : Fin 256) : Scalar.select (IntOp.cmpi .sge (k0_pay2 (ix2 a b)) 0#32)
        ((chain (ent (hd i) x0) (k0_pay2 (ix2 a b)) - ent (hd i) x0 31) * (((Real.log 2)⁻¹ : ℝ) : EReal)) ⊥ = biasv tr 0 a b := by
  rw [dist_sign]
  unfold biasv
  rw [if_pos (show (0 : Fin 2).val = 0 from rfl)]
  have h31 : ent (hd i) x0 31 = ((tr 31 : ℝ) : EReal) := hx 31
  by_cases h : b.val ≤ a.val
  · rw [if_pos h, if_pos h, dist_word a b h, chain_real i x0 tr hx _ (by omega), h31, ← EReal.coe_sub, ← EReal.coe_mul]
    rfl
  · rw [if_neg h, if_neg h]
    rfl

include hx in
theorem far_real (a b : Fin 256) : (chain (ent (hd i) x0) (k0_pay2 (ix2 a b) + 256#32) - ent (hd i) x0 31) * (((Real.log 2)⁻¹ : ℝ) : EReal) = biasv tr 1 a b := by
  have h31 : ent (hd i) x0 31 = ((tr 31 : ℝ) : EReal) := hx 31
  rw [dist_far, chain_real i x0 tr hx _ (by omega), h31, ← EReal.coe_sub, ← EReal.coe_mul]
  rfl

include hx in
/-- What a point of the first grid leaves. -/
theorem out0_apply (y : ShB.Idx) : out0_A_1 c i arg1 harg1 arg2 harg2 x0 y = biasv tr (y 1) (y 2) (y 3) := by
  unfold out0_A_1
  rw [View.read_writes_eq_canon _ _ _ (cover0_A_1 c i arg1 harg1 arg2 harg2 x0)]
  refine View.canon_apply_of_pieces (fun y : ShB.Idx => biasv tr (y 1) (y 2) (y 3)) _ ?_ y (cover0_A_1 c i arg1 harg1 arg2 harg2 x0 y)
  unfold kernelRun0_A
  dsimp only
  intro p hp
  rcases List.mem_cons.mp hp with rfl | hp
  · intro (x : S1x1x256x256.Idx)
    have h1 : (x 1).val < 1 := (x 1).isLt
    have e : k0_pay1 (kernelRun0_A.sl.r_42 c i arg1 harg1 x0) x = kernelRun0_A.sl.r_42 c i arg1 harg1 x0 (ix2 (x 2) (x 3)) := by
      unfold k0_pay1
      refine shapeCast_apply _ _ x (ix2 (x 2) (x 3)) ?_
      have h0 : (x 0).val < 1 := (x 0).isLt
      rw [Shape.rowMajor_val_four, Shape.rowMajor_val_two]
      show (x 2).val * 256 + (x 3).val = (((x 0).val * 1 + (x 1).val) * 256 + (x 2).val) * 256 + (x 3).val
      omega
    refine e.trans ((far_word c i arg1 harg1 x0 (x 2) (x 3)).trans ((far_real i x0 tr hx (x 2) (x 3)).trans ?_))
    congr 1
    · exact Fin.ext (by show 1 = 1 + 1 * (x 1).val; omega)
    · exact Fin.ext (by show (x 2).val = 0 + 1 * (x 2).val; omega)
    · exact Fin.ext (by show (x 3).val = 0 + 1 * (x 3).val; omega)
  rcases List.mem_cons.mp hp with rfl | hp
  · intro (x : S1x1x256x256.Idx)
    have h1 : (x 1).val < 1 := (x 1).isLt
    refine Eq.trans ?_ ((own_word c i arg1 harg1 x0 (x 2) (x 3)).trans ((own_real i x0 tr hx (x 2) (x 3)).trans ?_))
    · refine (shapeCast_apply _ _ (ix2 (x 2) (x 3)) x ?_).symm
      have h0 : (x 0).val < 1 := (x 0).isLt
      rw [Shape.rowMajor_val_four, Shape.rowMajor_val_two]
      show (((x 0).val * 1 + (x 1).val) * 256 + (x 2).val) * 256 + (x 3).val = (x 2).val * 256 + (x 3).val
      omega
    congr 1
    · exact Fin.ext (by show 0 = 0 + 1 * (x 1).val; omega)
    · exact Fin.ext (by show (x 2).val = 0 + 1 * (x 2).val; omega)
    · exact Fin.ext (by show (x 3).val = 0 + 1 * (x 3).val; omega)
  exact absurd hp List.not_mem_nil

end Cert.KernelIdeal.KV

end
-- ==== Proof.KFinal.lean ====
/- The kernel's result. -/
module

public import proofs.«01_k».proof.Proof.KBias
public import Idealize.ShloMosaic.Lib.Pipeline.ValueKit

@[expose] public section

set_option maxRecDepth 16384
set_option backward.isDefEq.respectTransparency false

noncomputable section

namespace Cert.KernelIdeal.KV

open Idealize.ShloMosaic Idealize.ShloMosaic.ValueIdx
open Cert.KernelIdeal.Gen Cert.KHelp Cert.Row
open Idealize.ShloMosaic.Pipeline (Dat Cfg Window BodyObligation cellOf)

variable (m : (ℓ : Loc nD τ sig) → Buf (Elt Ideal) ℓ) (ρ : Dev nD → PrngReg) (c : Dev nD)

/-! ## The windows' blocks -/

theorem ix1_0 : ∀ t : Fin cfg1.N, win1_0.index t = ![t.val / 16, t.val % 16] := by decide +kernel
theorem ix1_1 : ∀ t : Fin cfg1.N, win1_1.index t = ![t.val / 16, t.val % 16] := by decide +kernel
theorem ix1_2 : ∀ t : Fin cfg1.N, win1_2.index t = ![t.val / 16, t.val % 16] := by decide +kernel
theorem ix1_3 : ∀ t : Fin cfg1.N, win1_3.index t = ![t.val % 16, 0, 0, 0] := by decide +kernel
theorem ix1_4 : ∀ t : Fin cfg1.N, win1_4.index t = ![t.val / 16, t.val % 16] := by decide +kernel
theorem ix0_0 : ∀ t : Fin cfg0.N, win0_0.index t = ![0, 0] := by decide +kernel
theorem ix0_1 : ∀ t : Fin cfg0.N, win0_1.index t = ![t.val, 0, 0, 0] := by decide +kernel
theorem n1 (t : Fin cfg1.N) : t.val < 64 := t.isLt
theorem n0 (t : Fin cfg0.N) : t.val < 16 := t.isLt

/-- A token's row. -/
def tok (b : Fin 4) (s : Fin 2048) : Fin 8192 := ⟨2048 * b.val + s.val, by omega⟩
/-- A head's column. -/
def col (h : Fin 16) (d : Fin 128) : Fin 2048 := ⟨128 * h.val + d.val, by omega⟩
/-- A point's prompt. -/
def pb (t : Fin cfg1.N) : Fin 4 := ⟨t.val / 16, by have := n1 t; omega⟩
/-- A point's head. -/
def ph (t : Fin cfg1.N) : Fin 16 := ⟨t.val % 16, by omega⟩

theorem blk0 (t : Fin cfg1.N) (s : Fin 2048) (d : Fin 128) :
    (iblk1 (V2 m ρ) c 0 t (ValueIdx.ix2 s d) : EReal) = (V2 m ρ c main_v7 : (Sh 8192 2048).Idx → EReal) (ValueIdx.ix2 (tok (pb t) s) (col (ph t) d)) := by
  unfold iblk1
  blk_simp
  refine congrArg (V2 m ρ c main_v7) ?_
  funext a; apply Fin.ext
  match a with
  | ⟨0, _⟩ => blk_simp [ix1_0]; show _ = 2048 * (t.val / 16) + s.val; simp; omega
  | ⟨1, _⟩ => blk_simp [ix1_0]; show _ = 128 * (t.val % 16) + d.val; simp; omega

theorem blk1 (t : Fin cfg1.N) (s : Fin 2048) (d : Fin 128) :
    (iblk1 (V2 m ρ) c 1 t (ValueIdx.ix2 s d) : EReal) = (V2 m ρ c main_v9 : (Sh 8192 2048).Idx → EReal) (ValueIdx.ix2 (tok (pb t) s) (col (ph t) d)) := by
  unfold iblk1
  blk_simp
  refine congrArg (V2 m ρ c main_v9) ?_
  funext a; apply Fin.ext
  match a with
  | ⟨0, _⟩ => blk_simp [ix1_1]; show _ = 2048 * (t.val / 16) + s.val; simp; omega
  | ⟨1, _⟩ => blk_simp [ix1_1]; show _ = 128 * (t.val % 16) + d.val; simp; omega

theorem blk2 (t : Fin cfg1.N) (s : Fin 2048) (d : Fin 128) :
    (iblk1 (V2 m ρ) c 2 t (ValueIdx.ix2 s d) : EReal) = (V2 m ρ c main_v11 : (Sh 8192 2048).Idx → EReal) (ValueIdx.ix2 (tok (pb t) s) (col (ph t) d)) := by
  unfold iblk1
  blk_simp
  refine congrArg (V2 m ρ c main_v11) ?_
  funext a; apply Fin.ext
  match a with
  | ⟨0, _⟩ => blk_simp [ix1_2]; show _ = 2048 * (t.val / 16) + s.val; simp; omega
  | ⟨1, _⟩ => blk_simp [ix1_2]; show _ = 128 * (t.val % 16) + d.val; simp; omega

theorem blk3 (t : Fin cfg1.N) (w : Fin 2) (i j : Fin 256) :
    (iblk1 (V2 m ρ) c 3 t (ValueIdx.ix4 0 w i j) : EReal) = (V2 m ρ c main_v12 : (⟨4, ![16, 2, 256, 256]⟩ : Shape).Idx → EReal) (ValueIdx.ix4 (ph t) w i j) := by
  unfold iblk1
  blk_simp
  refine congrArg (V2 m ρ c main_v12) ?_
  funext a; apply Fin.ext
  match a with
  | ⟨0, _⟩ => blk_simp [ix1_3]; show _ = t.val % 16; simp
  | ⟨1, _⟩ => blk_simp [ix1_3]
  | ⟨2, _⟩ => blk_simp [ix1_3]
  | ⟨3, _⟩ => blk_simp [ix1_3]

theorem tblk (t : Fin cfg0.N) (k : Fin 32) (h : Fin 16) :
    (iblk0 (V1 m ρ) c 0 t (ValueIdx.ix2 k h) : EReal) = (V1 m ρ c main_arg3 : (Sh 32 16).Idx → EReal) (ValueIdx.ix2 k h) := by
  unfold iblk0
  blk_simp
  refine congrArg (V1 m ρ c main_arg3) ?_
  funext a; apply Fin.ext
  match a with
  | ⟨0, _⟩ => blk_simp [ix0_0]
  | ⟨1, _⟩ => blk_simp [ix0_0]

/-- The queries' scale, as the program writes it. -/
theorem scale_eq : Ideal.div (Ideal.ofBits .f32 1065353216#32) (Ideal.sqrt (Ideal.ofBits .f32 1124073472#32) * Ideal.log (Ideal.ofBits .f32 1073741824#32)) = ((cs : ℝ) : EReal) := by
  have h1 : (Ideal.ofBits .f32 1065353216#32 : EReal) = ((1 : ℝ) : EReal) := by
    simp [Ideal.ofBits, Ideal.ieee, -EReal.coe_mul]; norm_num
  have h2 : (Ideal.ofBits .f32 1124073472#32 : EReal) = ((128 : ℝ) : EReal) := by
    simp [Ideal.ofBits, Ideal.ieee, -EReal.coe_mul]; norm_num
  have h3 : (Ideal.ofBits .f32 1073741824#32 : EReal) = ((2 : ℝ) : EReal) := by
    simp [Ideal.ofBits, Ideal.ieee, -EReal.coe_mul]; norm_num
  rw [h1, h2, h3]
  have hs : Ideal.sqrt ((128 : ℝ) : EReal) = ((√128 : ℝ) : EReal) := by
    show (if (128 : ℝ) < 0 then (⊥ : EReal) else (√128 : ℝ)) = _
    rw [if_neg (by norm_num)]
  have hl : Ideal.log ((2 : ℝ) : EReal) = ((Real.log 2 : ℝ) : EReal) := by
    show (if (2 : ℝ) ≤ 0 then (⊥ : EReal) else (Real.log 2 : ℝ)) = _
    rw [if_neg (by norm_num)]
  have hp : 0 < √128 * Real.log 2 := mul_pos (by positivity) (Real.log_pos (by norm_num))
  rw [hs, hl, ← EReal.coe_mul]
  unfold Ideal.div
  rw [if_neg (by exact_mod_cast hp.ne'), ← EReal.coe_inv, ← EReal.coe_mul, one_mul]
  rfl

/-- The queries. -/
def aq (b : Fin 4) (s : Fin 2048) (h : Fin 16) (d : Fin 128) : EReal := m ((c.tc : Thread nD τ).loc main_arg0) (ValueIdx.ix4 b s h d)
/-- The keys. -/
def ak (b : Fin 4) (s : Fin 2048) (h : Fin 16) (d : Fin 128) : EReal := m ((c.tc : Thread nD τ).loc main_arg1) (ValueIdx.ix4 b s h d)
/-- The values. -/
def av (b : Fin 4) (s : Fin 2048) (h : Fin 16) (d : Fin 128) : EReal := m ((c.tc : Thread nD τ).loc main_arg2) (ValueIdx.ix4 b s h d)
/-- The table. -/
def at' (k : Fin 32) (h : Fin 16) : EReal := m ((c.tc : Thread nD τ).loc main_arg3) (ValueIdx.ix2 k h)

/-- A token's row, read in the heads' order. -/
theorem sc (x : (⟨4, ![4, 2048, 16, 128]⟩ : Shape).Idx → EReal) (b : Fin 4) (s : Fin 2048) (h : Fin 16) (d : Fin 128) :
    shapeCast (Sh 8192 2048) x (by decide) (ValueIdx.ix2 (tok b s) (col h d)) = x (ValueIdx.ix4 b s h d) := by
  refine shapeCast_apply _ _ _ (ValueIdx.ix4 b s h d) ?_
  rw [Shape.rowMajor_val_four, Shape.rowMajor_val_two]
  show ((b.val * 2048 + s.val) * 16 + h.val) * 128 + d.val = (2048 * b.val + s.val) * 2048 + (128 * h.val + d.val)
  omega

theorem v7_eq (b : Fin 4) (s : Fin 2048) (h : Fin 16) (d : Fin 128) :
    (V2 m ρ c main_v7 : (Sh 8192 2048).Idx → EReal) (ValueIdx.ix2 (tok b s) (col h d))
      = aq m c b s h d * ((cs : ℝ) : EReal) := by
  show (W2 m ρ c (Proc.devRef .tc main_v7) : (Sh 8192 2048).Idx → EReal) _ = _
  rw [W2_of m ρ c main_v7 (by decide +kernel)]
  show StableHlo.after hostOps0 (W0 m ρ c) (Proc.devRef .tc main_v7) _ = _
  after_results
  rw [← scale_eq]
  refine congrArg₂ (fun a b : EReal => a * b) ?_ ?_
  · exact sc _ b s h d
  · rfl

theorem v9_eq (b : Fin 4) (s : Fin 2048) (h : Fin 16) (d : Fin 128) :
    (V2 m ρ c main_v9 : (Sh 8192 2048).Idx → EReal) (ValueIdx.ix2 (tok b s) (col h d)) = ak m c b s h d := by
  show (W2 m ρ c (Proc.devRef .tc main_v9) : (Sh 8192 2048).Idx → EReal) _ = _
  rw [W2_of m ρ c main_v9 (by decide +kernel)]
  show StableHlo.after hostOps0 (W0 m ρ c) (Proc.devRef .tc main_v9) _ = _
  after_results
  exact sc _ b s h d

theorem v11_eq (b : Fin 4) (s : Fin 2048) (h : Fin 16) (d : Fin 128) :
    (V2 m ρ c main_v11 : (Sh 8192 2048).Idx → EReal) (ValueIdx.ix2 (tok b s) (col h d)) = av m c b s h d := by
  show (W2 m ρ c (Proc.devRef .tc main_v11) : (Sh 8192 2048).Idx → EReal) _ = _
  rw [W2_of m ρ c main_v11 (by decide +kernel)]
  show StableHlo.after hostOps0 (W0 m ρ c) (Proc.devRef .tc main_v11) _ = _
  after_results
  exact sc _ b s h d

theorem hd_eq : ∀ t : Fin cfg0.N, (hd (grid0.coords t)).val = t.val := by decide +kernel

theorem table_eq (k : Fin 32) (h : Fin 16) : (V1 m ρ c main_arg3 : (Sh 32 16).Idx → EReal) (ValueIdx.ix2 k h) = at' m c k h := by
  show W1 m ρ c (Proc.devRef .tc main_arg3) _ = _
  rw [W1_of m ρ c main_arg3 (by decide +kernel)]
  rfl

/-- The bias tables, as the first call leaves them. -/
theorem v12_eq (tr : Fin 16 → Fin 32 → ℝ) (htr : ∀ k h, at' m c k h = ((tr h k : ℝ) : EReal)) (h : Fin 16) (w : Fin 2) (i j : Fin 256) :
    (V2 m ρ c main_v12 : (⟨4, ![16, 2, 256, 256]⟩ : Shape).Idx → EReal) (ValueIdx.ix4 h w i j) = biasv (tr h) w i j := by
  have key : (dat0 (V1 m ρ) c).arrAt 1 cfg0.N = fun y : (⟨4, ![16, 2, 256, 256]⟩ : Shape).Idx => (biasv (tr (y 0)) (y 1) (y 2) (y 3) : EReal) := by
    refine (dat0 (V1 m ρ) c).arrAt_eq_of_covers 1 _ (by decide +kernel) fun t hf y => ?_
    blk_simp
    rw [after0_1]
    unfold outsAt0
    refine (out0_apply _ _ _ _ _ _ _ (tr (hd (grid0.coords t))) ?_ _).trans ?_
    · intro k
      rw [tblk, table_eq, htr]
    · have e0 : hd (grid0.coords t) = ((win0_1.blk t).view.emb y) 0 := by
        apply Fin.ext
        rw [hd_eq]
        blk_simp [ix0_1]
      have e1 : y 1 = ((win0_1.blk t).view.emb y) 1 := by
        apply Fin.ext; blk_simp [ix0_1]
      have e2 : y 2 = ((win0_1.blk t).view.emb y) 2 := by
        apply Fin.ext; blk_simp [ix0_1]
      have e3 : y 3 = ((win0_1.blk t).view.emb y) 3 := by
        apply Fin.ext; blk_simp [ix0_1]
      rw [e0, e1, e2, e3]
  have h2 := W2_arr m ρ c 1
  show W2 m ρ c (Proc.devRef .tc (Pipeline.arrRef spec0 1)) _ = _
  rw [h2, key]

/-! ## The result -/

section Out
variable (i : grid1.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S1x2x256x256 .f32) (harg5 : arg5.IsWhole) (arg6 : Memref sig .tc .vmem S2048x128 .bf16) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S2048x2048 .f32) (harg9 : arg9.IsWhole) (arg10 : Memref sig .tc .vmem S2048x2048 .bf16) (harg10 : arg10.IsWhole) (arg11 : Memref sig .tc .vmem S2048x256 .f32) (harg11 : arg11.IsWhole)
  (x0 x1 x2 : Vec Ideal S2048x128 .bf16) (x3 : Vec Ideal S1x2x256x256 .f32)

/-- What a point writes: its block's result. -/
theorem out1_apply (t : Fin 2048) (d : Fin 128) :
    out1_A_4 c i arg2 harg2 arg3 harg3 arg4 harg4 arg5 harg5 arg6 harg6 arg7 harg7 arg8 harg8 arg9 harg9 arg10 harg10 arg11 harg11 x0 x1 x2 x3 (ValueIdx.ix2 t d)
      = AC x0 x1 x2 x3 7 t ⟨d.val, by omega⟩ * Ideal.div 1 (AC x0 x1 x2 x3 7 t ⟨128, by omega⟩) := by
  unfold out1_A_4
  rw [View.read_writes_eq_canon _ _ _ (cover1_A_4 c i arg2 harg2 arg3 harg3 arg4 harg4 arg5 harg5 arg6 harg6 arg7 harg7 arg8 harg8 arg9 harg9 arg10 harg10 arg11 harg11 x0 x1 x2 x3)]
  refine (View.canon_apply_of_pieces (k1_pay3 (F := Ideal) (kernelRun1_A.sl.v479 c arg2 harg2 arg3 harg3 arg4 harg4 arg5 harg5 arg7 arg8 arg9 arg10 arg11 x0 x1 x2 x3)) _ ?_ _ (cover1_A_4 c i arg2 harg2 arg3 harg3 arg4 harg4 arg5 harg5 arg6 harg6 arg7 harg7 arg8 harg8 arg9 harg9 arg10 harg10 arg11 harg11 x0 x1 x2 x3 _)).trans
    (out_apply c arg2 harg2 arg3 harg3 arg4 harg4 arg5 harg5 arg7 arg8 arg9 arg10 arg11 x0 x1 x2 x3 t d)
  unfold kernelRun1_A
  dsimp only
  generalize kernelRun1_A.sl.v479 c arg2 harg2 arg3 harg3 arg4 harg4 arg5 harg5 arg7 arg8 arg9 arg10 arg11 x0 x1 x2 x3 = W
  generalize k1_pay3 W = P
  intro p hp
  rcases List.mem_cons.mp hp with rfl | hp
  · intro (x : S2048x128.Idx)
    refine congrArg P ?_
    funext a
    match a with
    | ⟨0, _⟩ => exact Fin.ext (by show (x 0).val = 0 + 1 * (x 0).val; omega)
    | ⟨1, _⟩ => exact Fin.ext (by show (x 1).val = 0 + 1 * (x 1).val; omega)
  exact absurd hp List.not_mem_nil
end Out

/-- The result's entry, from the arguments. -/
def res (qR kR : Fin 4 → Fin 16 → Fin 2048 → Fin 128 → ℝ) (tr : Fin 16 → Fin 32 → ℝ) (v : Fin 4 → Fin 2048 → Fin 16 → Fin 128 → EReal)
    (b : Fin 4) (h : Fin 16) (s : Fin 2048) (d : Fin 128) : EReal :=
  row (qR b h) (kR b h) (tr h) (fun s' => v b s' h d) s

def rb (r : Fin 8192) : Fin 4 := ⟨r.val / 2048, by omega⟩
def rs (r : Fin 8192) : Fin 2048 := ⟨r.val % 2048, by omega⟩
def ch (r : Fin 2048) : Fin 16 := ⟨r.val / 128, by omega⟩
def cd (r : Fin 2048) : Fin 128 := ⟨r.val % 128, by omega⟩

theorem v13_eq (qR kR : Fin 4 → Fin 16 → Fin 2048 → Fin 128 → ℝ) (tr : Fin 16 → Fin 32 → ℝ)
    (hq : ∀ b s h d, aq m c b s h d = ((qR b h s d : ℝ) : EReal)) (hk : ∀ b s h d, ak m c b s h d = ((kR b h s d : ℝ) : EReal))
    (htr : ∀ k h, at' m c k h = ((tr h k : ℝ) : EReal)) :
    (W3 m ρ c (Proc.devRef .tc main_v13) : (Sh 8192 2048).Idx → EReal) = fun y => res qR kR tr (av m c) (rb (y 0)) (ch (y 1)) (rs (y 0)) (cd (y 1)) := by
  have key : (dat1 (V2 m ρ) c).arrAt 4 cfg1.N = fun y : (Sh 8192 2048).Idx => (res qR kR tr (av m c) (rb (y 0)) (ch (y 1)) (rs (y 0)) (cd (y 1)) : EReal) := by
    refine (dat1 (V2 m ρ) c).arrAt_eq_of_covers 4 _ (by decide +kernel) fun t hf y => ?_
    blk_simp
    rw [after1_4]
    unfold outsAt1
    obtain ⟨s, d, rfl⟩ : ∃ (s : Fin 2048) (d : Fin 128), y = ValueIdx.ix2 s d := ⟨y 0, y 1, by funext a; match a with | ⟨0, _⟩ => rfl | ⟨1, _⟩ => rfl⟩
    refine (out1_apply _ _ _ _ _ _ _ _ _ _ _ _ _ _ _ _ _ _ _ _ _ _ _ _ _ _ s d).trans ?_
    refine (row_apply (qR (pb t) (ph t)) (kR (pb t) (ph t)) (tr (ph t)) _ _ _ _ ?_ ?_ ?_ ?_ s d).trans ?_
    · intro s d
      rw [blk0, v7_eq, hq, ← EReal.coe_mul]
    · intro s d
      rw [blk1, v9_eq, hk]
    · intro i j
      refine (blk3 m ρ c t 0 i j).trans ((v12_eq m ρ c tr htr (ph t) 0 i j).trans ?_)
      exact if_pos rfl
    · intro i j
      refine (blk3 m ρ c t 1 i j).trans ((v12_eq m ρ c tr htr (ph t) 1 i j).trans ?_)
      exact if_neg (by decide)
    · have ev : (fun s' => (iblk1 (V2 m ρ) c 2 t (ValueIdx.ix2 s' d) : EReal)) = fun s' => av m c (pb t) s' (ph t) d := by
        funext s'
        rw [blk2, v11_eq]
      have e0 : (((win1_4.blk t).view.emb (ValueIdx.ix2 s d)) 0).val = 2048 * (t.val / 16) + s.val := by
        blk_simp [ix1_4]; exact congrArg₂ (· + ·) (Nat.mul_comm (t.val / 16) 2048) rfl
      have e1 : (((win1_4.blk t).view.emb (ValueIdx.ix2 s d)) 1).val = 128 * (t.val % 16) + d.val := by
        blk_simp [ix1_4]; exact congrArg₂ (· + ·) (Nat.mul_comm (t.val % 16) 128) rfl
      have n := n1 t
      have r0 : rb (((win1_4.blk t).view.emb (ValueIdx.ix2 s d)) 0) = pb t := Fin.ext (by show (((win1_4.blk t).view.emb (ValueIdx.ix2 s d)) 0).val / 2048 = _; rw [e0]; show _ = t.val / 16; omega)
      have r1 : rs (((win1_4.blk t).view.emb (ValueIdx.ix2 s d)) 0) = s := Fin.ext (by show (((win1_4.blk t).view.emb (ValueIdx.ix2 s d)) 0).val % 2048 = _; rw [e0]; omega)
      have r2 : ch (((win1_4.blk t).view.emb (ValueIdx.ix2 s d)) 1) = ph t := Fin.ext (by show (((win1_4.blk t).view.emb (ValueIdx.ix2 s d)) 1).val / 128 = _; rw [e1]; show _ = t.val % 16; omega)
      have r3 : cd (((win1_4.blk t).view.emb (ValueIdx.ix2 s d)) 1) = d := Fin.ext (by show (((win1_4.blk t).view.emb (ValueIdx.ix2 s d)) 1).val % 128 = _; rw [e1]; omega)
      show _ = res qR kR tr (av m c) _ _ _ _
      rw [r0, r1, r2, r3]
      exact congrArg (fun v => row (qR (pb t) (ph t)) (kR (pb t) (ph t)) (tr (ph t)) v s) ev
  exact (W3_arr m ρ c 4).trans key

end Cert.KernelIdeal.KV
end
-- ==== Proof.RBits.lean ====
module

public import proofs.«01_k».proof.Proof.Gen.ReferenceIdeal.Read
public import proofs.«01_k».proof.Proof.Spec

/-! The reference's bucket of a distance: what its operations on one word give. -/

@[expose] public section

set_option maxRecDepth 16384
set_option backward.isDefEq.respectTransparency false

noncomputable section

namespace Cert.ReferenceIdeal.RV

open Cert.ReferenceIdeal Cert.ReferenceIdeal.Gen Cert.ReferenceIdeal.Read Cert.Row Idealize.ShloMosaic Idealize.ShloMosaic.TcCoe Idealize.SL.Sem Idealize.ShloMosaic.StableHlo

theorem ofBits_16 : (Ideal.ofBits .f32 0x41800000#32 : EReal) = ((16 : ℝ) : EReal) := by
  simp [Ideal.ofBits, Ideal.ieee, -EReal.coe_mul]; norm_num
theorem ofBits_8 : (Ideal.ofBits .f32 0x41000000#32 : EReal) = ((8 : ℝ) : EReal) := by
  simp [Ideal.ofBits, Ideal.ieee, -EReal.coe_mul]; norm_num
theorem ofBits_128 : (Ideal.ofBits .f32 0x43000000#32 : EReal) = ((128 : ℝ) : EReal) := by
  simp [Ideal.ofBits, Ideal.ieee, -EReal.coe_mul]; norm_num
theorem ofBits_256 : (Ideal.ofBits .f32 0x43800000#32 : EReal) = ((256 : ℝ) : EReal) := by
  simp [Ideal.ofBits, Ideal.ieee, -EReal.coe_mul]; norm_num
theorem ofBits_bot : (Ideal.ofBits .f32 0xFF800000#32 : EReal) = ⊥ := by
  simp [Ideal.ofBits, Ideal.ieee]

theorem log_pos_coe (r : ℝ) (h : 0 < r) : Ideal.log (r : EReal) = ((Real.log r : ℝ) : EReal) := by
  show (if r ≤ 0 then (⊥ : EReal) else (Real.log r : ℝ)) = _
  rw [if_neg (not_le.mpr h)]

theorem div_coe (a b : ℝ) (h : b ≠ 0) : Ideal.div (a : EReal) (b : EReal) = ((a / b : ℝ) : EReal) := by
  unfold Ideal.div
  rw [if_neg (by exact_mod_cast h), ← EReal.coe_inv, ← EReal.coe_mul, div_eq_mul_inv]

/-- The bucket's word, from the distance's. -/
def bktw (w : BitVec 32) : BitVec 32 :=
  Scalar.select (IntOp.cmpi .slt (IntOp.maxsi w 0#32) 16#32) (IntOp.maxsi w 0#32)
    (IntOp.minsi (IntOp.addi 16#32 (Ideal.fptosi 32 (Ideal.div (Ideal.log (Ideal.div ((((IntOp.maxsi (IntOp.maxsi w 0#32) 16#32).toInt : ℝ) : EReal)) (Ideal.ofBits .f32 0x41800000#32))) (Ideal.log (Ideal.ofBits .f32 0x41000000#32)) * Ideal.ofBits .f32 0x41800000#32))) 31#32)

theorem small_dec : ∀ i : Fin 16, IntOp.cmpi .slt (IntOp.maxsi (BitVec.ofNat 32 i.val) 0#32) 16#32 = 1#1 ∧ IntOp.maxsi (BitVec.ofNat 32 i.val) 0#32 = BitVec.ofNat 32 (bkt i.val) := by
  decide +kernel
theorem large_dec : ∀ i : Fin 4096, 16 ≤ i.val → IntOp.cmpi .slt (IntOp.maxsi (BitVec.ofNat 32 i.val) 0#32) 16#32 = 0#1
    ∧ (IntOp.maxsi (IntOp.maxsi (BitVec.ofNat 32 i.val) 0#32) 16#32).toInt = i.val := by
  decide +kernel
theorem add_dec : ∀ j : Fin 64, IntOp.minsi (IntOp.addi 16#32 (BitVec.ofInt 32 (max (-(2 ^ (32 - 1) : Nat)) (min ((2 ^ (32 - 1) : Nat) - 1) (j.val : Int))))) 31#32 = BitVec.ofNat 32 (min (16 + j.val) 31) := by
  decide +kernel

theorem floor_word (n j : Nat) (hj : j < 64) (h1 : (j : ℝ) ≤ Real.log ((n : ℝ) / 16) / Real.log 8 * 16) (h2 : Real.log ((n : ℝ) / 16) / Real.log 8 * 16 < (j : ℝ) + 1) :
    IntOp.minsi (IntOp.addi 16#32 (Ideal.fptosi 32 ((Real.log ((n : ℝ) / 16) / Real.log 8 * 16 : ℝ) : EReal))) 31#32 = BitVec.ofNat 32 (min (16 + j) 31) := by
  rw [← add_dec ⟨j, hj⟩]
  unfold Ideal.fptosi
  have e : Ideal.toIntClamped (-(2 ^ (32 - 1) : Nat)) ((2 ^ (32 - 1) : Nat) - 1) ((Real.log ((n : ℝ) / 16) / Real.log 8 * 16 : ℝ) : EReal) = max (-((2 ^ (32 - 1) : Nat) : Int)) (min (((2 ^ (32 - 1) : Nat) : Int) - 1) (j : Int)) := by
    generalize Real.log ((n : ℝ) / 16) / Real.log 8 * 16 = x at h1 h2
    show max _ (min _ (if 0 ≤ x then ⌊x⌋ else ⌈x⌉)) = _
    rw [if_pos (le_trans (Nat.cast_nonneg j) h1)]
    have : ⌊x⌋ = (j : Int) := Int.floor_eq_iff.mpr ⟨by exact_mod_cast h1, by exact_mod_cast h2⟩
    rw [this]
  rw [e]

theorem bktw_eq (n : Nat) (h : n < 4096) : bktw (BitVec.ofNat 32 n) = BitVec.ofNat 32 (bkt n) := by
  unfold bktw
  by_cases hs : n < 16
  · have := small_dec ⟨n, hs⟩
    rw [this.1, this.2]; rfl
  · have hs' : 16 ≤ n := by omega
    have hd := large_dec ⟨n, h⟩ hs'
    have hn0 : (0 : ℝ) < (n : ℝ) := by exact_mod_cast (by omega : 0 < n)
    have hl : (0 : ℝ) < Real.log 8 := Real.log_pos (by norm_num)
    rw [hd.1, hd.2, ofBits_16, ofBits_8]
    show IntOp.minsi _ _ = _
    have e : Ideal.div (Ideal.log (Ideal.div ((((n : Int) : ℝ) : EReal)) ((16 : ℝ) : EReal))) (Ideal.log ((8 : ℝ) : EReal)) * ((16 : ℝ) : EReal) = ((Real.log ((n : ℝ) / 16) / Real.log 8 * 16 : ℝ) : EReal) := by
      rw [div_coe _ _ (by norm_num), log_pos_coe _ (by push_cast; positivity), log_pos_coe _ (by norm_num), div_coe _ _ hl.ne', ← EReal.coe_mul]
      push_cast; rfl
    rw [e]
    by_cases hm : n < 128
    · have hb := bkt_log_dec ⟨n - 16, by omega⟩
      rw [show (⟨n - 16, by omega⟩ : Fin 112).val + 16 = n from by show n - 16 + 16 = n; omega] at hb
      obtain ⟨h1, h2, h3, h4⟩ := hb
      have hf := floor_log n (bkt n - 16) hs' h3 h4
      rw [floor_word n (bkt n - 16) (by omega) hf.1 hf.2]
      congr 1; omega
    · have h8 : Real.log 8 ≤ Real.log ((n : ℝ) / 16) := Real.log_le_log (by norm_num) (by
        rw [le_div_iff₀ (by norm_num)]; have : (128 : ℝ) ≤ n := by exact_mod_cast (by omega : 128 ≤ n)
        linarith)
      have h9 : Real.log ((n : ℝ) / 16) < Real.log (8 ^ 3) := Real.log_lt_log (by positivity) (by
        rw [div_lt_iff₀ (by norm_num)]; have : (n : ℝ) < 4096 := by exact_mod_cast h
        linarith)
      rw [Real.log_pow] at h9
      set x := Real.log ((n : ℝ) / 16) / Real.log 8 * 16 with hx
      have hx1 : 16 ≤ x := by
        have : 1 ≤ Real.log ((n : ℝ) / 16) / Real.log 8 := by rw [le_div_iff₀ hl]; linarith
        linarith
      have hx2 : x < 48 := by
        have : Real.log ((n : ℝ) / 16) / Real.log 8 < 3 := by rw [div_lt_iff₀ hl]; exact_mod_cast h9
        linarith
      have hf0 : (16 : ℤ) ≤ ⌊x⌋ := Int.le_floor.mpr (by exact_mod_cast hx1)
      have hf1 : ⌊x⌋ < (48 : ℤ) := Int.floor_lt.mpr (by exact_mod_cast hx2)
      have hj : ((⌊x⌋.toNat : ℕ) : ℤ) = ⌊x⌋ := Int.toNat_of_nonneg (by omega)
      have hjr : ((⌊x⌋.toNat : ℕ) : ℝ) = (⌊x⌋ : ℝ) := by exact_mod_cast congrArg (Int.cast : ℤ → ℝ) hj
      rw [hx, floor_word n ⌊x⌋.toNat (by omega) (by rw [← hx, hjr]; exact Int.floor_le x) (by rw [← hx, hjr]; exact Int.lt_floor_add_one x), bkt_far n (by omega)]
      congr 1; omega

section Chain
variable (x0 x1 : (⟨S4x2048x16x128, .f32⟩ : BufTy).Contents (Elt Ideal))

theorem v57_bktw (i : S4x16x2048x768.Idx) : val_main_v57 (F := Ideal) x0 x1 i = bktw (val_main_v36 (F := Ideal) x0 x1 i) := by
  unfold bktw
  rw [val_main_v57_apply, val_main_v56_apply, val_main_v54_apply, val_main_v52_apply, val_main_v50_apply, val_main_v49_apply, val_main_v47_apply, val_main_v44_apply, val_main_v43_apply, val_main_v41_apply, val_main_v40_apply, val_main_v38_apply,
    val_main_v37_apply, val_main_v39_apply, val_main_v42_apply, val_main_v46_apply, val_main_v45_apply, val_main_v48_apply, val_main_v51_apply, val_main_v53_apply, val_main_v55_apply]
  rfl

theorem v99_bktw (i : S256x256.Idx) : val_main_v99 (F := Ideal) i = bktw (val_main_v77 (F := Ideal) i) := by
  unfold bktw
  rw [val_main_v99_apply, val_main_v98_apply, val_main_v96_apply, val_main_v94_apply, val_main_v92_apply, val_main_v91_apply, val_main_v89_apply, val_main_v86_apply, val_main_v85_apply, val_main_v83_apply, val_main_v82_apply, val_main_v80_apply,
    val_main_v79_apply, val_main_v81_apply, val_main_v84_apply, val_main_v88_apply, val_main_v87_apply, val_main_v90_apply, val_main_v93_apply, val_main_v95_apply, val_main_v97_apply]
  rfl
end Chain

end Cert.ReferenceIdeal.RV

end
-- ==== Proof.RGath.lean ====
module

public import proofs.«01_k».proof.Proof.RBits

/-! The reference's four gathers, read at an index. -/

@[expose] public section

set_option maxRecDepth 16384
set_option backward.isDefEq.respectTransparency false

noncomputable section

namespace Cert.ReferenceIdeal.RV

open Cert.ReferenceIdeal Cert.ReferenceIdeal.Gen Cert.ReferenceIdeal.Read Cert.Row Idealize.ShloMosaic Idealize.ShloMosaic.TcCoe Idealize.SL.Sem Idealize.ShloMosaic.StableHlo

theorem word_toInt (n : Nat) (h : n < 2147483648) : (BitVec.ofNat 32 n).toInt = (n : Int) := by
  rw [BitVec.toInt_eq_toNat_of_lt (by rw [BitVec.toNat_ofNat]; omega), BitVec.toNat_ofNat]
  omega

abbrev GR := gather_S4x16x2048x128_S4x16x2048x768x1_S4x16x2048x768x128_4_2_01_01_2_4_111128
abbrev GS := gather_S16x32_S16x4x2048x768x1_S16x4x2048x768_n_1_0_0_1_4_11
abbrev GO := gather_S16x32_S256x256x1_S16x256x256_0_1_n_n_1_2_161

theorem gather_rows (x : S4x16x2048x128.Idx → EReal) (idx : S4x16x2048x768x1.Idx → BitVec 32) (b : Fin 4) (h : Fin 16) (t : Fin 2048) (r : Fin 768) (d : Fin 128) (p : Fin 2048)
    (hp : idx (ValueIdx.ix5 b h t r 0) = BitVec.ofNat 32 p.val) :
    Host.gather GR x idx (ValueIdx.ix5 b h t r d) = x (ValueIdx.ix4 b h p d) := by
  have hs : ∀ c, GatherDims.siIdx GR (ValueIdx.ix5 b h t r d) c = ValueIdx.ix5 b h t r 0 := by
    intro c
    funext a
    match a with
    | ⟨0, _⟩ => rfl
    | ⟨1, _⟩ => rfl
    | ⟨2, _⟩ => rfl
    | ⟨3, _⟩ => rfl
    | ⟨4, _⟩ => exact Fin.ext (by show c.val = 0; have : c.val < 1 := c.isLt; omega)
  have c0 : GatherDims.start GR (ValueIdx.ix5 b h t r d) idx (0 : Fin S4x16x2048x128.rank) + GatherDims.batchCoord GR (ValueIdx.ix5 b h t r d) (0 : Fin S4x16x2048x128.rank) + GatherDims.offCoord GR (ValueIdx.ix5 b h t r d) (0 : Fin S4x16x2048x128.rank) = b.val := by
    unfold GatherDims.start GatherDims.batchCoord GatherDims.offCoord
    rw [dif_neg (show ¬ (0 : Fin S4x16x2048x128.rank) ∈ GatherDims.startIndexMap GR by decide), dif_pos (show (0 : Fin S4x16x2048x128.rank) ∈ GatherDims.operandBatchingDims GR by decide), dif_neg (show ¬ (0 : Fin S4x16x2048x128.rank) ∈ GatherDims.sKept GR by decide)]
    show 0 + b.val + 0 = b.val
    omega
  have c1 : GatherDims.start GR (ValueIdx.ix5 b h t r d) idx (1 : Fin S4x16x2048x128.rank) + GatherDims.batchCoord GR (ValueIdx.ix5 b h t r d) (1 : Fin S4x16x2048x128.rank) + GatherDims.offCoord GR (ValueIdx.ix5 b h t r d) (1 : Fin S4x16x2048x128.rank) = h.val := by
    unfold GatherDims.start GatherDims.batchCoord GatherDims.offCoord
    rw [dif_neg (show ¬ (1 : Fin S4x16x2048x128.rank) ∈ GatherDims.startIndexMap GR by decide), dif_pos (show (1 : Fin S4x16x2048x128.rank) ∈ GatherDims.operandBatchingDims GR by decide), dif_neg (show ¬ (1 : Fin S4x16x2048x128.rank) ∈ GatherDims.sKept GR by decide)]
    show 0 + h.val + 0 = h.val
    omega
  have c2 : GatherDims.start GR (ValueIdx.ix5 b h t r d) idx (2 : Fin S4x16x2048x128.rank) + GatherDims.batchCoord GR (ValueIdx.ix5 b h t r d) (2 : Fin S4x16x2048x128.rank) + GatherDims.offCoord GR (ValueIdx.ix5 b h t r d) (2 : Fin S4x16x2048x128.rank) = p.val := by
    unfold GatherDims.start GatherDims.batchCoord GatherDims.offCoord
    rw [dif_pos (show (2 : Fin S4x16x2048x128.rank) ∈ GatherDims.startIndexMap GR by decide), dif_neg (show ¬ (2 : Fin S4x16x2048x128.rank) ∈ GatherDims.operandBatchingDims GR by decide), dif_neg (show ¬ (2 : Fin S4x16x2048x128.rank) ∈ GatherDims.sKept GR by decide), hs, hp]
    show min (BitVec.ofNat 32 p.val).toInt.toNat (2048 - 1) + 0 + 0 = p.val
    rw [word_toInt p.val (by omega)]; have := p.isLt; omega
  have c3 : GatherDims.start GR (ValueIdx.ix5 b h t r d) idx (3 : Fin S4x16x2048x128.rank) + GatherDims.batchCoord GR (ValueIdx.ix5 b h t r d) (3 : Fin S4x16x2048x128.rank) + GatherDims.offCoord GR (ValueIdx.ix5 b h t r d) (3 : Fin S4x16x2048x128.rank) = d.val := by
    unfold GatherDims.start GatherDims.batchCoord GatherDims.offCoord
    rw [dif_neg (show ¬ (3 : Fin S4x16x2048x128.rank) ∈ GatherDims.startIndexMap GR by decide), dif_neg (show ¬ (3 : Fin S4x16x2048x128.rank) ∈ GatherDims.operandBatchingDims GR by decide), dif_pos (show (3 : Fin S4x16x2048x128.rank) ∈ GatherDims.sKept GR by decide)]
    show 0 + 0 + d.val = d.val
    omega
  unfold Host.gather
  refine congrArg x ?_
  funext a
  match a with
  | ⟨0, _⟩ => exact Fin.ext c0
  | ⟨1, _⟩ => exact Fin.ext c1
  | ⟨2, _⟩ => exact Fin.ext c2
  | ⟨3, _⟩ => exact Fin.ext c3

theorem gather_sel (x : S16x32.Idx → EReal) (idx : S16x4x2048x768x1.Idx → BitVec 32) (h : Fin 16) (b : Fin 4) (t : Fin 2048) (r : Fin 768) (p : Fin 32)
    (hp : idx (ValueIdx.ix5 h b t r 0) = BitVec.ofNat 32 p.val) :
    Host.gather GS x idx (ValueIdx.ix4 h b t r) = x (ValueIdx.ix2 h p) := by
  have hs : ∀ c, GatherDims.siIdx GS (ValueIdx.ix4 h b t r) c = ValueIdx.ix5 h b t r 0 := by
    intro c
    funext a
    match a with
    | ⟨0, _⟩ => rfl
    | ⟨1, _⟩ => rfl
    | ⟨2, _⟩ => rfl
    | ⟨3, _⟩ => rfl
    | ⟨4, _⟩ => exact Fin.ext (by show c.val = 0; have : c.val < 1 := c.isLt; omega)
  have c0 : GatherDims.start GS (ValueIdx.ix4 h b t r) idx (0 : Fin S16x32.rank) + GatherDims.batchCoord GS (ValueIdx.ix4 h b t r) (0 : Fin S16x32.rank) + GatherDims.offCoord GS (ValueIdx.ix4 h b t r) (0 : Fin S16x32.rank) = h.val := by
    unfold GatherDims.start GatherDims.batchCoord GatherDims.offCoord
    rw [dif_neg (show ¬ (0 : Fin S16x32.rank) ∈ GatherDims.startIndexMap GS by decide), dif_pos (show (0 : Fin S16x32.rank) ∈ GatherDims.operandBatchingDims GS by decide), dif_neg (show ¬ (0 : Fin S16x32.rank) ∈ GatherDims.sKept GS by decide)]
    show 0 + h.val + 0 = h.val
    omega
  have c1 : GatherDims.start GS (ValueIdx.ix4 h b t r) idx (1 : Fin S16x32.rank) + GatherDims.batchCoord GS (ValueIdx.ix4 h b t r) (1 : Fin S16x32.rank) + GatherDims.offCoord GS (ValueIdx.ix4 h b t r) (1 : Fin S16x32.rank) = p.val := by
    unfold GatherDims.start GatherDims.batchCoord GatherDims.offCoord
    rw [dif_pos (show (1 : Fin S16x32.rank) ∈ GatherDims.startIndexMap GS by decide), dif_neg (show ¬ (1 : Fin S16x32.rank) ∈ GatherDims.operandBatchingDims GS by decide), dif_neg (show ¬ (1 : Fin S16x32.rank) ∈ GatherDims.sKept GS by decide), hs, hp]
    show min (BitVec.ofNat 32 p.val).toInt.toNat (32 - 1) + 0 + 0 = p.val
    rw [word_toInt p.val (by omega)]; have := p.isLt; omega
  unfold Host.gather
  refine congrArg x ?_
  funext a
  match a with
  | ⟨0, _⟩ => exact Fin.ext c0
  | ⟨1, _⟩ => exact Fin.ext c1

theorem gather_own (x : S16x32.Idx → EReal) (idx : S256x256x1.Idx → BitVec 32) (h : Fin 16) (i j : Fin 256) (p : Fin 32)
    (hp : idx (ValueIdx.ix3 i j 0) = BitVec.ofNat 32 p.val) :
    Host.gather GO x idx (ValueIdx.ix3 h i j) = x (ValueIdx.ix2 h p) := by
  have hs : ∀ c, GatherDims.siIdx GO (ValueIdx.ix3 h i j) c = ValueIdx.ix3 i j 0 := by
    intro c
    funext a
    match a with
    | ⟨0, _⟩ => rfl
    | ⟨1, _⟩ => rfl
    | ⟨2, _⟩ => exact Fin.ext (by show c.val = 0; have : c.val < 1 := c.isLt; omega)
  have c0 : GatherDims.start GO (ValueIdx.ix3 h i j) idx (0 : Fin S16x32.rank) + GatherDims.batchCoord GO (ValueIdx.ix3 h i j) (0 : Fin S16x32.rank) + GatherDims.offCoord GO (ValueIdx.ix3 h i j) (0 : Fin S16x32.rank) = h.val := by
    unfold GatherDims.start GatherDims.batchCoord GatherDims.offCoord
    rw [dif_neg (show ¬ (0 : Fin S16x32.rank) ∈ GatherDims.startIndexMap GO by decide), dif_neg (show ¬ (0 : Fin S16x32.rank) ∈ GatherDims.operandBatchingDims GO by decide), dif_pos (show (0 : Fin S16x32.rank) ∈ GatherDims.sKept GO by decide)]
    show 0 + 0 + h.val = h.val
    omega
  have c1 : GatherDims.start GO (ValueIdx.ix3 h i j) idx (1 : Fin S16x32.rank) + GatherDims.batchCoord GO (ValueIdx.ix3 h i j) (1 : Fin S16x32.rank) + GatherDims.offCoord GO (ValueIdx.ix3 h i j) (1 : Fin S16x32.rank) = p.val := by
    unfold GatherDims.start GatherDims.batchCoord GatherDims.offCoord
    rw [dif_pos (show (1 : Fin S16x32.rank) ∈ GatherDims.startIndexMap GO by decide), dif_neg (show ¬ (1 : Fin S16x32.rank) ∈ GatherDims.operandBatchingDims GO by decide), dif_neg (show ¬ (1 : Fin S16x32.rank) ∈ GatherDims.sKept GO by decide), hs, hp]
    show min (BitVec.ofNat 32 p.val).toInt.toNat (32 - 1) + 0 + 0 = p.val
    rw [word_toInt p.val (by omega)]; have := p.isLt; omega
  unfold Host.gather
  refine congrArg x ?_
  funext a
  match a with
  | ⟨0, _⟩ => exact Fin.ext c0
  | ⟨1, _⟩ => exact Fin.ext c1

end Cert.ReferenceIdeal.RV

end
-- ==== Proof.RSel.lean ====
module

public import proofs.«01_k».proof.Proof.RGath

/-! The reference's logits: of its selected blocks and of a query's own block. -/

@[expose] public section

set_option maxRecDepth 16384
set_option backward.isDefEq.respectTransparency false

noncomputable section

namespace Cert.ReferenceIdeal.RV

open Cert.ReferenceIdeal Cert.ReferenceIdeal.Gen Cert.ReferenceIdeal.Read Cert.Row Idealize.ShloMosaic Idealize.ShloMosaic.TcCoe Idealize.SL.Sem Idealize.ShloMosaic.StableHlo

theorem ext2 {n : Fin 2 → Nat} (i j : (⟨2, n⟩ : Shape).Idx) (h0 : i 0 = j 0) (h1 : i 1 = j 1) : i = j := by
  funext a
  match a with
  | ⟨0, _⟩ => exact h0
  | ⟨1, _⟩ => exact h1
theorem ext3 {n : Fin 3 → Nat} (i j : (⟨3, n⟩ : Shape).Idx) (h0 : i 0 = j 0) (h1 : i 1 = j 1) (h2 : i 2 = j 2) : i = j := by
  funext a
  match a with
  | ⟨0, _⟩ => exact h0
  | ⟨1, _⟩ => exact h1
  | ⟨2, _⟩ => exact h2
theorem ext4 {n : Fin 4 → Nat} (i j : (⟨4, n⟩ : Shape).Idx) (h0 : i 0 = j 0) (h1 : i 1 = j 1) (h2 : i 2 = j 2) (h3 : i 3 = j 3) : i = j := by
  funext a
  match a with
  | ⟨0, _⟩ => exact h0
  | ⟨1, _⟩ => exact h1
  | ⟨2, _⟩ => exact h2
  | ⟨3, _⟩ => exact h3
theorem ext5 {n : Fin 5 → Nat} (i j : (⟨5, n⟩ : Shape).Idx) (h0 : i 0 = j 0) (h1 : i 1 = j 1) (h2 : i 2 = j 2) (h3 : i 3 = j 3) (h4 : i 4 = j 4) : i = j := by
  funext a
  match a with
  | ⟨0, _⟩ => exact h0
  | ⟨1, _⟩ => exact h1
  | ⟨2, _⟩ => exact h2
  | ⟨3, _⟩ => exact h3
  | ⟨4, _⟩ => exact h4

variable (x0 x1 x2 : (⟨S4x2048x16x128, .f32⟩ : BufTy).Contents (Elt Ideal)) (x3 : (⟨S32x16, .f32⟩ : BufTy).Contents (Elt Ideal))
variable (qR kR : Fin 4 → Fin 16 → Fin 2048 → Fin 128 → ℝ) (tr : Fin 16 → Fin 32 → ℝ)
variable (hq : ∀ b s h d, x0 (ValueIdx.ix4 b s h d) = ((qR b h s d : ℝ) : EReal)) (hk : ∀ b s h d, x1 (ValueIdx.ix4 b s h d) = ((kR b h s d : ℝ) : EReal))
variable (ht : ∀ k h, x3 (ValueIdx.ix2 k h) = ((tr h k : ℝ) : EReal))
variable (b : Fin 4) (h : Fin 16) (t : Fin 2048)

/-! ## The transposed arguments -/

theorem v0_at (s : Fin 2048) (d : Fin 128) : val_main_v0 (F := Ideal) x0 (ValueIdx.ix4 b h s d) = x0 (ValueIdx.ix4 b s h d) := by
  rw [val_main_v0_apply]
  exact congrArg x0 (ext4 _ _ rfl rfl rfl rfl)
theorem v1_at (s : Fin 2048) (d : Fin 128) : val_main_v1 (F := Ideal) x1 (ValueIdx.ix4 b h s d) = x1 (ValueIdx.ix4 b s h d) := by
  rw [val_main_v1_apply]
  exact congrArg x1 (ext4 _ _ rfl rfl rfl rfl)
theorem v2_at (s : Fin 2048) (d : Fin 128) : val_main_v2 (F := Ideal) x2 (ValueIdx.ix4 b h s d) = x2 (ValueIdx.ix4 b s h d) := by
  rw [val_main_v2_apply]
  exact congrArg x2 (ext4 _ _ rfl rfl rfl rfl)

/-- A row of a block, read in the sequence. -/
theorem blocks (y : S4x16x2048x128.Idx → EReal) (hc : S4x16x2048x128.ShapeCasts S4x16x8x256x128) (n : Fin 8) (j : Fin 256) (d : Fin 128) :
    shapeCast S4x16x8x256x128 y hc (ValueIdx.ix5 b h n j d) = y (ValueIdx.ix4 b h (ky n j) d) := by
  refine shapeCast_apply _ _ _ _ ?_
  rw [Shape.rowMajor_val_four, Shape.rowMajor_val_five]
  show ((b.val * 16 + h.val) * 2048 + (256 * n.val + j.val)) * 128 + d.val = (((b.val * 16 + h.val) * 8 + n.val) * 256 + j.val) * 128 + d.val
  omega

theorem v3_at (n : Fin 8) (j : Fin 256) (d : Fin 128) : val_main_v3 (F := Ideal) x1 (ValueIdx.ix5 b h n j d) = x1 (ValueIdx.ix4 b (ky n j) h d) := by
  unfold val_main_v3
  exact (blocks b h _ _ n j d).trans (v1_at x1 b h _ d)
theorem v78_at (n : Fin 8) (j : Fin 256) (d : Fin 128) : val_main_v78 (F := Ideal) x0 (ValueIdx.ix5 b h n j d) = x0 (ValueIdx.ix4 b (ky n j) h d) := by
  unfold val_main_v78
  exact (blocks b h _ _ n j d).trans (v0_at x0 b h _ d)
theorem v128_at (n : Fin 8) (j : Fin 256) (d : Fin 128) : val_main_v128 (F := Ideal) x2 (ValueIdx.ix5 b h n j d) = x2 (ValueIdx.ix4 b (ky n j) h d) := by
  unfold val_main_v128
  exact (blocks b h _ _ n j d).trans (v2_at x2 b h _ d)

/-! ## The gate -/

include hk in
theorem v6_at (n : Fin 8) (d : Fin 128) : val_main_v6 (F := Ideal) x1 (ValueIdx.ix4 b h n d) = (((∑ j, kR b h (ky n j) d) / 256 : ℝ) : EReal) := by
  rw [val_main_v6_apply, val_main_v4_apply, val_main_v5_apply]
  have e : ∀ j : Fin 256, val_main_v3 (F := Ideal) x1 (idx_main_v4 (ValueIdx.ix4 b h n d) j) = ((kR b h (ky n j) d : ℝ) : EReal) := by
    intro j
    rw [show idx_main_v4 (ValueIdx.ix4 b h n d) j = ValueIdx.ix5 b h n j d from ext5 _ _ rfl rfl rfl rfl rfl, v3_at, hk]
  rw [Finset.sum_congr rfl fun j _ => e j, ← coe_sum]
  show Ideal.div (Ideal.ofBits .f32 0x00000000#32 + _) (Ideal.ofBits .f32 0x43800000#32) = _
  rw [Ideal.ofBits_zero_f32, zero_add, ofBits_256, div_coe _ _ (by norm_num)]

include hq hk in
theorem v13_at (n : Fin 8) : val_main_v13 (F := Ideal) x0 x1 (ValueIdx.ix4 b h t n) = ((gtR (qR b h) (kR b h) t n : ℝ) : EReal) := by
  rw [val_main_v13_apply]
  unfold gtR
  rw [coe_sum]
  refine Finset.sum_congr rfl fun d _ => ?_
  rw [show lidx_main_v13 (ValueIdx.ix4 b h t n) d = ValueIdx.ix4 b h t d from ext4 _ _ rfl rfl rfl rfl,
    show ridx_main_v13 (ValueIdx.ix4 b h t n) d = ValueIdx.ix4 b h n d from ext4 _ _ rfl rfl rfl rfl,
    v0_at, hq, v6_at x1 kR hk, ← EReal.coe_mul]

theorem div_dec : ∀ t : Fin 2048, IntOp.divsi .host (BitVec.ofNat 32 t.val) 256#32 = BitVec.ofNat 32 (t.val / 256) := by
  decide +kernel
theorem lt_dec : ∀ n o : Fin 8, IntOp.cmpi .slt (BitVec.ofNat 32 n.val) (BitVec.ofNat 32 o.val) = BitVec.ofBool (decide (n.val < o.val)) := by
  decide +kernel

theorem v12_at (i : S2048.Idx) (hi : (i 0).val = t.val) : val_main_v12 (F := Ideal) i = BitVec.ofNat 32 (own t).val := by
  rw [val_main_v12_apply, val_main_v10_apply, val_main_v11_apply, hi]
  exact div_dec t

theorem sel_bool {α : Type} (p : Prop) [Decidable p] (x y : α) : Scalar.select (BitVec.ofBool (decide p)) x y = if p then x else y := by
  unfold Scalar.select
  by_cases h : p <;> simp [h]

include hq hk in
theorem v20_at (n : Fin 8) : val_main_v20 (F := Ideal) x0 x1 (ValueIdx.ix4 b h t n) = gt (qR b h) (kR b h) t n := by
  rw [val_main_v20_apply, val_main_call0_v1_apply, val_main_v19_apply, val_main_v17_apply, val_main_v16_apply, val_main_v14_apply, val_main_v18_apply, val_main_v15_apply,
    v12_at t _ rfl, v13_at x0 x1 qR kR hq hk, val_main_call0_v2_apply]
  show Scalar.select (IntOp.cmpi .slt (BitVec.ofNat 32 n.val) (BitVec.ofNat 32 (own t).val)) _ (Ideal.ofBits .f32 0xFF800000#32) = _
  rw [lt_dec, sel_bool, ofBits_bot]
  rfl

/-- The order the reference sorts by. -/
def ord (g : Fin 8 → EReal) (k k' : Fin 8) : Bool := (Ideal.cmpTotal .gt (g k) (g k') == 1#1)

theorem ord_iff (g : Fin 8 → EReal) (k k' : Fin 8) : ord g k k' = true ↔ g k' < g k := by
  unfold ord Ideal.cmpTotal
  show (BitVec.ofBool (decide (g k' < g k)) == 1#1) = true ↔ _
  by_cases hh : g k' < g k <;> simp [hh]

/-- The blocks it selects. -/
def sg (g : Fin 8 → EReal) (k : Fin 3) : Fin 8 := sortedFrom (ord g) (k.castLE (by decide))

theorem sg_inj (g : Fin 8 → EReal) : Function.Injective (sg g) := by
  intro a b hab
  have := sortedFrom_injective (ord g) hab
  exact Fin.castLE_injective _ this

/-- A sort of two operands moves the second by the order of the first. -/
theorem sort2_snd (s : Shape) (d : Nat) (hd : d < s.rank) {α β : Type} (cmp : α × β → α × β → BitVec 1) (x : s.Idx → α) (y : s.Idx → β) (j : s.Idx) :
    (Host.sort2 s d cmp x y).2 j
      = y (j.along ⟨d, hd⟩ (sortedFrom (fun k k' => cmp (x (j.along ⟨d, hd⟩ k), y (j.along ⟨d, hd⟩ k)) (x (j.along ⟨d, hd⟩ k'), y (j.along ⟨d, hd⟩ k')) == 1#1) (j ⟨d, hd⟩))) := by
  unfold Host.sort2
  rw [dif_pos hd]

theorem along_self (k0 p : Fin 8) : (((ValueIdx.ix4 b h t k0 : S4x16x2048x8.Idx).along 3 p) 3).val = p.val := rfl

/-- The places of the greatest values of a gate. -/
theorem topk_at (x : S4x16x2048x8.Idx → EReal) (g : Fin 8 → EReal) (hx : ∀ n, x (ValueIdx.ix4 b h t n) = g n) (k : Fin 3) :
    (Host.topK S4x16x2048x3 3 (Ideal.cmpTotal .gt) x sliceFits_S4x16x2048x8_S4x16x2048x3).2 (ValueIdx.ix4 b h t k) = BitVec.ofNat 32 (sg g k).val := by
  have hg : ∀ (k0 k' : Fin 8), x ((ValueIdx.ix4 b h t k0 : S4x16x2048x8.Idx).along 3 k') = g k' := by
    intro k0 k'
    rw [← hx k']
    exact congrArg _ (ext4 _ _ rfl rfl rfl rfl)
  unfold Host.topK
  dsimp only
  refine (extractStridedSlice_apply (fun _ => 0) _ _ _ (ValueIdx.ix4 b h t (k.castLE (by decide) : Fin 8)) (fun a => by
    match a with
    | ⟨0, _⟩ => exact (Nat.zero_add _).symm
    | ⟨1, _⟩ => exact (Nat.zero_add _).symm
    | ⟨2, _⟩ => exact (Nat.zero_add _).symm
    | ⟨3, _⟩ => exact (Nat.zero_add _).symm)).trans ?_
  rw [sort2_snd _ _ (show 3 < S4x16x2048x8.rank by decide)]
  rw [dif_pos (show 3 < S4x16x2048x8.rank by decide)]
  have e : ∀ k0 : Fin 8, (fun k k' : Fin 8 => (Ideal.cmpTotal .gt (x ((ValueIdx.ix4 b h t k0 : S4x16x2048x8.Idx).along 3 k)) (x ((ValueIdx.ix4 b h t k0 : S4x16x2048x8.Idx).along 3 k')) == 1#1)) = ord g := by
    intro k0
    funext k k'
    rw [hg, hg]
    rfl
  have e' := congrArg (fun f : Fin 8 → Fin 8 → Bool => sortedFrom f (k.castLE (by decide))) (e (k.castLE (by decide)))
  refine (congrArg (BitVec.ofNat 32) (along_self b h t (k.castLE (by decide)) _)).trans ?_
  exact congrArg (fun p : Fin 8 => BitVec.ofNat 32 p.val) e'

include hq hk in
theorem indices_at (k : Fin 3) : val_main_indices (F := Ideal) x0 x1 (ValueIdx.ix4 b h t k) = BitVec.ofNat 32 (sg (gt (qR b h) (kR b h) t) k).val := by
  unfold val_main_indices
  exact topk_at b h t _ _ (v20_at x0 x1 qR kR hq hk b h t) k

/-! ## The selected blocks' rows -/

/-- A row of a selected block among the gathered rows. -/
def pr (k : Fin 3) (j : Fin 256) : Fin 768 := ⟨256 * k.val + j.val, by omega⟩

theorem pos_word : ∀ n : Fin 8, ∀ j : Fin 256, IntOp.addi (IntOp.muli (BitVec.ofNat 32 n.val) 256#32) (BitVec.ofNat 32 j.val) = BitVec.ofNat 32 (ky n j).val := by
  decide +kernel

include hq hk in
theorem v28_at (k : Fin 3) (j : Fin 256) : val_main_v28 (F := Ideal) x0 x1 (ValueIdx.ix4 b h t (pr k j)) = BitVec.ofNat 32 (ky (sg (gt (qR b h) (kR b h) t) k) j).val := by
  have e : val_main_v28 (F := Ideal) x0 x1 (ValueIdx.ix4 b h t (pr k j)) = val_main_v27 (F := Ideal) x0 x1 (ValueIdx.ix5 b h t k j) := by
    unfold val_main_v28
    refine shapeCast_apply _ _ _ _ ?_
    rw [Shape.rowMajor_val_four, Shape.rowMajor_val_five]
    show (((b.val * 16 + h.val) * 2048 + t.val) * 3 + k.val) * 256 + j.val = ((b.val * 16 + h.val) * 2048 + t.val) * 768 + (256 * k.val + j.val)
    omega
  rw [e, val_main_v27_apply, val_main_v25_apply, val_main_v23_apply, val_main_v21_apply, val_main_v22_apply, val_main_v26_apply, val_main_v24_apply, val_main_v8_apply,
    ← pos_word, ← indices_at x0 x1 qR kR hq hk b h t k]
  refine congrArg₂ _ (congrArg₂ _ (congrArg _ (ext4 _ _ rfl rfl rfl rfl)) rfl) rfl

include hq hk in
theorem v30_at (k : Fin 3) (j : Fin 256) (d : Fin 128) : val_main_v30 (F := Ideal) x0 x1 (ValueIdx.ix5 b h t (pr k j) d) = x1 (ValueIdx.ix4 b (ky (sg (gt (qR b h) (kR b h) t) k) j) h d) := by
  unfold val_main_v30
  refine (gather_rows _ _ b h t (pr k j) d (ky (sg (gt (qR b h) (kR b h) t) k) j) ?_).trans (v1_at x1 b h _ d)
  rw [val_main_v29_apply, ← v28_at x0 x1 qR kR hq hk b h t k j]
  exact congrArg _ (ext4 _ _ rfl rfl rfl rfl)

include hq hk in
theorem v32_at (k : Fin 3) (j : Fin 256) (d : Fin 128) : val_main_v32 (F := Ideal) x0 x1 x2 (ValueIdx.ix5 b h t (pr k j) d) = x2 (ValueIdx.ix4 b (ky (sg (gt (qR b h) (kR b h) t) k) j) h d) := by
  unfold val_main_v32
  refine (gather_rows _ _ b h t (pr k j) d (ky (sg (gt (qR b h) (kR b h) t) k) j) ?_).trans (v2_at x2 b h _ d)
  rw [val_main_v31_apply, ← v28_at x0 x1 qR kR hq hk b h t k j]
  exact congrArg _ (ext4 _ _ rfl rfl rfl rfl)

theorem sub_word (a c : Nat) (hc : c ≤ a) : IntOp.subi (BitVec.ofNat 32 a) (BitVec.ofNat 32 c) = BitVec.ofNat 32 (a - c) := by
  show BitVec.ofNat 32 a - BitVec.ofNat 32 c = _
  have e : BitVec.ofNat 32 a = BitVec.ofNat 32 (a - c) + BitVec.ofNat 32 c := by
    rw [← BitVec.ofNat_add, Nat.sub_add_cancel hc]
  rw [e, BitVec.add_sub_cancel]

theorem sqrt128 (i : S_.Idx) : val_main_v9 (F := Ideal) i = ((√128 : ℝ) : EReal) := by
  rw [val_main_v9_apply, val_main_cst_1_apply]
  show Ideal.sqrt (Ideal.ofBits .f32 0x43000000#32) = _
  rw [ofBits_128]
  show (if (128 : ℝ) < 0 then (⊥ : EReal) else (√128 : ℝ)) = _
  rw [if_neg (by norm_num)]

theorem v7_at (p : Fin 32) : val_main_v7 (F := Ideal) x3 (ValueIdx.ix2 h p) = x3 (ValueIdx.ix2 p h) := by
  rw [val_main_v7_apply]
  exact congrArg x3 (ext2 _ _ rfl rfl)

include hq hk ht in
theorem v61_at (k : Fin 3) (j : Fin 256) (hs : (ky (sg (gt (qR b h) (kR b h) t) k) j).val ≤ t.val) :
    val_main_v61 (F := Ideal) x0 x1 x3 (ValueIdx.ix4 b h t (pr k j)) = ((tb (tr h) (t.val - (ky (sg (gt (qR b h) (kR b h) t) k) j).val) : ℝ) : EReal) := by
  rw [val_main_v61_apply, show idx_main_v61 (ValueIdx.ix4 b h t (pr k j)) = ValueIdx.ix4 h b t (pr k j) from ext4 _ _ rfl rfl rfl rfl]
  unfold val_main_v60
  refine (gather_sel _ _ h b t (pr k j) (⟨bkt (t.val - (ky (sg (gt (qR b h) (kR b h) t) k) j).val) % 32, by omega⟩ : Fin 32) ?_).trans ?_
  · rw [val_main_v59_apply, val_main_v58_apply, show idx_main_v58 (idx_main_v59 (ValueIdx.ix5 h b t (pr k j) 0)) = ValueIdx.ix4 b h t (pr k j) from ext4 _ _ rfl rfl rfl rfl,
      v57_bktw, val_main_v36_apply, v28_at x0 x1 qR kR hq hk, val_main_v35_apply, val_main_v34_apply, val_main_v33_apply, val_main_v10_apply]
    show bktw (IntOp.subi (BitVec.ofNat 32 t.val) _) = _
    rw [sub_word _ _ hs, bktw_eq _ (by omega)]
    have := bkt_le (t.val - (ky (sg (gt (qR b h) (kR b h) t) k) j).val)
    exact congrArg _ (by show _ = _ % 32; omega)
  · rw [v7_at, ht]
    rfl

include hq hk in
theorem v62_at (k : Fin 3) (j : Fin 256) : val_main_v62 (F := Ideal) x0 x1 (ValueIdx.ix4 b h t (pr k j)) = ((∑ d, qR b h t d * kR b h (ky (sg (gt (qR b h) (kR b h) t) k) j) d : ℝ) : EReal) := by
  rw [val_main_v62_apply, coe_sum]
  refine Finset.sum_congr rfl fun d _ => ?_
  rw [show lidx_main_v62 (ValueIdx.ix4 b h t (pr k j)) d = ValueIdx.ix4 b h t d from ext4 _ _ rfl rfl rfl rfl,
    show ridx_main_v62 (ValueIdx.ix4 b h t (pr k j)) d = ValueIdx.ix5 b h t (pr k j) d from ext5 _ _ rfl rfl rfl rfl rfl,
    v0_at, hq, v30_at x0 x1 qR kR hq hk, hk, ← EReal.coe_mul]

theorem mask_dec : ∀ n o : Fin 8, ∀ j : Fin 256, IntOp.cmpi .slt (BitVec.ofNat 32 (ky n j).val) (IntOp.muli (BitVec.ofNat 32 o.val) 256#32) = BitVec.ofBool (decide (n.val < o.val)) := by
  decide +kernel

/-- A selected block before the query's own is seen. -/
theorem seen_sg (g : Fin 8 → EReal) (o : Nat) (k : Fin 3) (ho : (sg g k).val < o) : Seen g o (sg g k) :=
  Or.inl ⟨(sel_iff g (ord g) (ord_iff g) (sg g k)).mp ⟨k, rfl⟩, ho⟩

include hq hk ht in
theorem v72_at (k : Fin 3) (j : Fin 256) :
    val_main_v72 (F := Ideal) x0 x1 x3 (ValueIdx.ix4 b h t (pr k j))
      = if sg (gt (qR b h) (kR b h) t) k < own t then LL (qR b h) (kR b h) (tr h) t (sg (gt (qR b h) (kR b h) t) k) j else ⊥ := by
  rw [val_main_v72_apply, val_main_v71_apply, v28_at x0 x1 qR kR hq hk, val_main_v70_apply, val_main_v69_apply, val_main_v68_apply, val_main_v66_apply, val_main_v67_apply,
    v12_at t _ rfl, val_main_call2_v1_apply]
  show Scalar.select (IntOp.cmpi .slt (BitVec.ofNat 32 (ky (sg (gt (qR b h) (kR b h) t) k) j).val) (IntOp.muli (BitVec.ofNat 32 (own t).val) 256#32)) _ (Ideal.ofBits .f32 0xFF800000#32) = _
  rw [mask_dec, sel_bool, ofBits_bot]
  by_cases hs : sg (gt (qR b h) (kR b h) t) k < own t
  · have hs' : (sg (gt (qR b h) (kR b h) t) k).val < t.val / 256 := hs
    have hle : (ky (sg (gt (qR b h) (kR b h) t) k) j).val ≤ t.val := by
      show 256 * (sg (gt (qR b h) (kR b h) t) k).val + j.val ≤ t.val
      have := j.isLt
      omega
    rw [if_pos (show (sg (gt (qR b h) (kR b h) t) k).val < (own t).val from hs), if_pos hs]
    unfold LL
    rw [if_pos ⟨seen_sg _ _ k hs', hle⟩, val_main_v65_apply, val_main_v64_apply, v61_at x0 x1 x3 qR kR tr hq hk ht b h t k j hle, v62_at x0 x1 qR kR hq hk, val_main_v63_apply, sqrt128]
    show Ideal.div _ _ + _ = _
    rw [div_coe _ _ (by positivity), ← EReal.coe_add]
    rfl
  · rw [if_neg (show ¬ (sg (gt (qR b h) (kR b h) t) k).val < (own t).val from hs), if_neg hs]

end Cert.ReferenceIdeal.RV

end
-- ==== Proof.RVal.lean ====
/- The reference's value: a row is the attention of the keys its query sees. -/
module

public import proofs.«01_k».proof.Proof.RSel

@[expose] public section

set_option maxRecDepth 16384
set_option backward.isDefEq.respectTransparency false

noncomputable section

namespace Cert.ReferenceIdeal.RV

open Idealize.ShloMosaic Cert.ReferenceIdeal Cert.ReferenceIdeal.Gen Cert.ReferenceIdeal.Read Cert.Row

variable (x0 x1 x2 : (⟨S4x2048x16x128, .f32⟩ : BufTy).Contents (Elt Ideal)) (x3 : (⟨S32x16, .f32⟩ : BufTy).Contents (Elt Ideal))
  (qR kR : Fin 4 → Fin 16 → Fin 2048 → Fin 128 → ℝ) (tr : Fin 16 → Fin 32 → ℝ)
  (hq : ∀ b s h d, x0 (ValueIdx.ix4 b s h d) = ((qR b h s d : ℝ) : EReal))
  (hk : ∀ b s h d, x1 (ValueIdx.ix4 b s h d) = ((kR b h s d : ℝ) : EReal))
  (ht : ∀ k h, x3 (ValueIdx.ix2 k h) = ((tr h k : ℝ) : EReal))
  (b : Fin 4) (h : Fin 16) (t : Fin 2048)

/-! ## The query's own block -/

/-- A query's place in its block. -/
def pl (t : Fin 2048) : Fin 256 := ⟨t.val % 256, by omega⟩

theorem ky_own (t : Fin 2048) : ky (own t) (pl t) = t := Fin.ext (by show 256 * (t.val / 256) + t.val % 256 = t.val; omega)

theorem v77_at (i j : Fin 256) : val_main_v77 (F := Ideal) (ValueIdx.ix2 i j) = IntOp.subi (BitVec.ofNat 32 i.val) (BitVec.ofNat 32 j.val) := by
  rw [val_main_v77_apply, val_main_v75_apply, val_main_v76_apply, val_main_v73_apply, val_main_v74_apply, val_main_v8_apply, val_main_v8_apply]

theorem ge_dec : ∀ i j : Fin 256, IntOp.cmpi .sge (IntOp.subi (BitVec.ofNat 32 i.val) (BitVec.ofNat 32 j.val)) 0#32 = BitVec.ofBool (decide (j.val ≤ i.val)) := by
  decide +kernel

include ht in
theorem v101_at (i j : Fin 256) (hs : j.val ≤ i.val) : val_main_v101 (F := Ideal) x3 (ValueIdx.ix3 h i j) = ((tb (tr h) (i.val - j.val) : ℝ) : EReal) := by
  unfold val_main_v101
  refine (gather_own _ _ h i j (⟨bkt (i.val - j.val) % 32, by omega⟩ : Fin 32) ?_).trans ?_
  · rw [val_main_v100_apply, show idx_main_v100 (ValueIdx.ix3 i j 0) = ValueIdx.ix2 i j from ext2 _ _ rfl rfl, v99_bktw, v77_at, sub_word _ _ hs, bktw_eq _ (by omega)]
    have := bkt_le (i.val - j.val)
    exact congrArg _ (by show _ = _ % 32; omega)
  · rw [v7_at, ht]
    rfl

include hq hk in
theorem v102_at (n : Fin 8) (i j : Fin 256) : val_main_v102 (F := Ideal) x0 x1 (ValueIdx.ix5 b h n i j) = ((∑ d, qR b h (ky n i) d * kR b h (ky n j) d : ℝ) : EReal) := by
  rw [val_main_v102_apply, coe_sum]
  refine Finset.sum_congr rfl fun d _ => ?_
  rw [show lidx_main_v102 (ValueIdx.ix5 b h n i j) d = ValueIdx.ix5 b h n i d from ext5 _ _ rfl rfl rfl rfl rfl,
    show ridx_main_v102 (ValueIdx.ix5 b h n i j) d = ValueIdx.ix5 b h n j d from ext5 _ _ rfl rfl rfl rfl rfl,
    v78_at, hq, v3_at, hk, ← EReal.coe_mul]

include hq hk ht in
theorem v111_at (j : Fin 256) : val_main_v111 (F := Ideal) x0 x1 x3 (ValueIdx.ix5 b h (own t) (pl t) j) = LL (qR b h) (kR b h) (tr h) t (own t) j := by
  rw [val_main_v111_apply, val_main_call4_v1_apply, show idx_main_call4_v1 (ValueIdx.ix5 b h (own t) (pl t) j) = ValueIdx.ix2 (pl t) j from ext2 _ _ rfl rfl,
    val_main_v110_apply, v77_at, val_main_v109_apply, val_main_call4_v2_apply]
  show Scalar.select (IntOp.cmpi .sge (IntOp.subi (BitVec.ofNat 32 (pl t).val) (BitVec.ofNat 32 j.val)) 0#32) _ (Ideal.ofBits .f32 0xFF800000#32) = _
  rw [ge_dec, sel_bool, ofBits_bot]
  have hiff : j.val ≤ (pl t).val ↔ (ky (own t) j).val ≤ t.val := by
    show j.val ≤ t.val % 256 ↔ 256 * (t.val / 256) + j.val ≤ t.val
    omega
  unfold LL
  by_cases hs : j.val ≤ (pl t).val
  · rw [if_pos hs, if_pos ⟨Or.inr rfl, hiff.mp hs⟩, val_main_v108_apply, val_main_v104_apply, v102_at x0 x1 qR kR hq hk, val_main_v103_apply, sqrt128,
      val_main_v107_apply, val_main_v106_apply, val_main_v105_apply,
      show idx_main_v105 (idx_main_v106 (idx_main_v107 (ValueIdx.ix5 b h (own t) (pl t) j))) = ValueIdx.ix3 h (pl t) j from ext3 _ _ rfl rfl rfl,
      v101_at x3 tr ht h _ _ hs, ky_own]
    show Ideal.div _ _ + _ = _
    rw [div_coe _ _ (by positivity), ← EReal.coe_add]
    have e : (pl t).val - j.val = t.val - (ky (own t) j).val := by
      show t.val % 256 - j.val = t.val - (256 * (t.val / 256) + j.val)
      omega
    rw [e]
    rfl
  · rw [if_neg hs, if_neg (fun hc => hs (hiff.mpr hc.2))]

include hq hk ht in
theorem v112_at (j : Fin 256) : val_main_v112 (F := Ideal) x0 x1 x3 (ValueIdx.ix4 b h t j) = LL (qR b h) (kR b h) (tr h) t (own t) j := by
  rw [← v111_at x0 x1 x3 qR kR tr hq hk ht]
  unfold val_main_v112
  generalize val_main_v111 (F := Ideal) x0 x1 x3 = y
  refine shapeCast_apply _ _ _ _ ?_
  rw [Shape.rowMajor_val_four, Shape.rowMajor_val_five]
  show (((b.val * 16 + h.val) * 8 + t.val / 256) * 256 + t.val % 256) * 256 + j.val = ((b.val * 16 + h.val) * 2048 + t.val) * 256 + j.val
  omega

/-! ## The softmax -/

theorem max_f : (FloatOps.maximumf (F := Ideal) (φ := .f32)) = (max : EReal → EReal → EReal) := rfl

theorem fold_max (n : Nat) (f : Fin n → EReal) : Finset.univ.fold max ⊥ f = Finset.univ.sup f := rfl

theorem max256 (x : S4x16x2048x256.Idx → EReal) (c : S_.Idx → EReal) (hc : ∀ i, c i = ⊥) :
    Host.reduce (max : EReal → EReal → EReal) x c reducesTo_S4x16x2048x256_S4x16x2048_d3 h_S_ (ValueIdx.ix3 b h t) = Finset.univ.sup fun j : Fin 256 => x (ValueIdx.ix4 b h t j) := by
  rw [Host.reduce_eq_fold_single max x c reducesTo_S4x16x2048x256_S4x16x2048_d3 (by decide) h_S_, hc]
  refine (fold_max _ _).trans (Finset.sup_congr rfl fun j _ => ?_)
  exact congrArg x (ext4 _ _ rfl rfl rfl rfl)

theorem max768 (x : S4x16x2048x768.Idx → EReal) (c : S_.Idx → EReal) (hc : ∀ i, c i = ⊥) :
    Host.reduce (max : EReal → EReal → EReal) x c reducesTo_S4x16x2048x768_S4x16x2048_d3 h_S_ (ValueIdx.ix3 b h t) = Finset.univ.sup fun j : Fin 768 => x (ValueIdx.ix4 b h t j) := by
  rw [Host.reduce_eq_fold_single max x c reducesTo_S4x16x2048x768_S4x16x2048_d3 (by decide) h_S_, hc]
  refine (fold_max _ _).trans (Finset.sup_congr rfl fun j _ => ?_)
  exact congrArg x (ext4 _ _ rfl rfl rfl rfl)

theorem pr_surj (s : Fin 768) : ∃ k j, pr k j = s :=
  ⟨⟨s.val / 256, by omega⟩, ⟨s.val % 256, by omega⟩, Fin.ext (by show 256 * (s.val / 256) + s.val % 256 = s.val; omega)⟩

theorem sup_pr (f : Fin 768 → EReal) : Finset.univ.sup f = Finset.univ.sup fun k => Finset.univ.sup fun j => f (pr k j) := by
  apply le_antisymm
  · refine Finset.sup_le fun s _ => ?_
    obtain ⟨k, j, rfl⟩ := pr_surj s
    exact (Finset.le_sup (f := fun j => f (pr k j)) (Finset.mem_univ j)).trans (Finset.le_sup (f := fun k => Finset.univ.sup fun j => f (pr k j)) (Finset.mem_univ k))
  · exact Finset.sup_le fun k _ => Finset.sup_le fun j _ => Finset.le_sup (Finset.mem_univ _)

theorem sum_pr (f : Fin 768 → EReal) : ∑ s, f s = ∑ k, ∑ j, f (pr k j) := by
  rw [← Fintype.sum_prod_type' (f := fun k j => f (pr k j))]
  refine (Fintype.sum_equiv (finProdFinEquiv (m := 3) (n := 256)) _ _ fun p => ?_).symm
  refine congrArg f (Fin.ext ?_)
  show 256 * p.1.val + p.2.val = p.2.val + 256 * p.1.val
  omega

/-- The selected blocks' logits. -/
def Ls (g : Fin 8 → EReal) (L : Fin 8 → Fin 256 → EReal) (o : Fin 8) (k : Fin 3) (j : Fin 256) : EReal := if sg g k < o then L (sg g k) j else ⊥

/-- A row's maximum. -/
def mxR (g : Fin 8 → EReal) (L : Fin 8 → Fin 256 → EReal) (o : Fin 8) : EReal :=
  max (Finset.univ.sup (L o)) (Finset.univ.sup fun k => Finset.univ.sup (Ls g L o k))

include hq hk ht in
theorem v115_at : val_main_v115 (F := Ideal) x0 x1 x3 (ValueIdx.ix3 b h t) = mxR (gt (qR b h) (kR b h) t) (LL (qR b h) (kR b h) (tr h) t) (own t) := by
  rw [val_main_v115_apply]
  unfold val_main_v113 val_main_v114 mxR
  rw [max_f]
  refine congrArg₂ max ?_ ?_
  · refine (max256 b h t _ _ (fun i => ofBits_bot)).trans ?_
    exact Finset.sup_congr rfl fun j _ => v112_at x0 x1 x3 qR kR tr hq hk ht b h t j
  · refine (max768 b h t _ _ (fun i => ofBits_bot)).trans ((sup_pr _).trans ?_)
    exact Finset.sup_congr rfl fun k _ => Finset.sup_congr rfl fun j _ => v72_at x0 x1 x3 qR kR tr hq hk ht b h t k j

include hq hk ht in
theorem v119_at (j : Fin 256) : val_main_v119 (F := Ideal) x0 x1 x3 (ValueIdx.ix4 b h t j)
    = Ideal.exp (LL (qR b h) (kR b h) (tr h) t (own t) j - mxR (gt (qR b h) (kR b h) t) (LL (qR b h) (kR b h) (tr h) t) (own t)) := by
  rw [val_main_v119_apply, val_main_v118_apply, v112_at x0 x1 x3 qR kR tr hq hk ht, val_main_v117_apply, val_main_v116_apply,
    show idx_main_v116 (idx_main_v117 (ValueIdx.ix4 b h t j)) = ValueIdx.ix3 b h t from ext3 _ _ rfl rfl rfl, v115_at x0 x1 x3 qR kR tr hq hk ht]
  rfl

include hq hk ht in
theorem v123_at (k : Fin 3) (j : Fin 256) : val_main_v123 (F := Ideal) x0 x1 x3 (ValueIdx.ix4 b h t (pr k j))
    = Ideal.exp (Ls (gt (qR b h) (kR b h) t) (LL (qR b h) (kR b h) (tr h) t) (own t) k j - mxR (gt (qR b h) (kR b h) t) (LL (qR b h) (kR b h) (tr h) t) (own t)) := by
  rw [val_main_v123_apply, val_main_v122_apply, v72_at x0 x1 x3 qR kR tr hq hk ht, val_main_v121_apply, val_main_v120_apply,
    show idx_main_v120 (idx_main_v121 (ValueIdx.ix4 b h t (pr k j))) = ValueIdx.ix3 b h t from ext3 _ _ rfl rfl rfl, v115_at x0 x1 x3 qR kR tr hq hk ht]
  rfl

include hq hk ht in
theorem v126_at : val_main_v126 (F := Ideal) x0 x1 x3 (ValueIdx.ix3 b h t)
    = ∑ j, Ideal.exp (LL (qR b h) (kR b h) (tr h) t (own t) j - mxR (gt (qR b h) (kR b h) t) (LL (qR b h) (kR b h) (tr h) t) (own t))
      + ∑ k, ∑ j, Ideal.exp (Ls (gt (qR b h) (kR b h) t) (LL (qR b h) (kR b h) (tr h) t) (own t) k j - mxR (gt (qR b h) (kR b h) t) (LL (qR b h) (kR b h) (tr h) t) (own t)) := by
  rw [val_main_v126_apply, val_main_v124_apply, val_main_v125_apply, sum_pr]
  show (Ideal.ofBits .f32 0x00000000#32 + _) + (Ideal.ofBits .f32 0x00000000#32 + _) = _
  rw [Ideal.ofBits_zero_f32, zero_add, zero_add]
  refine congrArg₂ (· + ·) (Finset.sum_congr rfl fun j _ => ?_) (Finset.sum_congr rfl fun k _ => Finset.sum_congr rfl fun j _ => ?_)
  · rw [← v119_at x0 x1 x3 qR kR tr hq hk ht]
    exact congrArg _ (ext4 _ _ rfl rfl rfl rfl)
  · rw [← v123_at x0 x1 x3 qR kR tr hq hk ht]
    exact congrArg _ (ext4 _ _ rfl rfl rfl rfl)

theorem v127_at (j : Fin 256) : val_main_v127 (F := Ideal) x0 x1 x3 (ValueIdx.ix5 b h (own t) (pl t) j) = val_main_v119 (F := Ideal) x0 x1 x3 (ValueIdx.ix4 b h t j) := by
  unfold val_main_v127
  generalize val_main_v119 (F := Ideal) x0 x1 x3 = y
  refine shapeCast_apply _ _ _ _ ?_
  rw [Shape.rowMajor_val_four, Shape.rowMajor_val_five]
  show ((b.val * 16 + h.val) * 2048 + t.val) * 256 + j.val = (((b.val * 16 + h.val) * 8 + t.val / 256) * 256 + t.val % 256) * 256 + j.val
  omega

theorem v130_cast (d : Fin 128) : val_main_v130 (F := Ideal) x0 x1 x2 x3 (ValueIdx.ix4 b h t d) = val_main_v129 (F := Ideal) x0 x1 x2 x3 (ValueIdx.ix5 b h (own t) (pl t) d) := by
  unfold val_main_v130
  generalize val_main_v129 (F := Ideal) x0 x1 x2 x3 = y
  refine shapeCast_apply _ _ _ _ ?_
  rw [Shape.rowMajor_val_four, Shape.rowMajor_val_five]
  show (((b.val * 16 + h.val) * 8 + t.val / 256) * 256 + t.val % 256) * 128 + d.val = ((b.val * 16 + h.val) * 2048 + t.val) * 128 + d.val
  omega

include hq hk ht in
theorem v132_at (d : Fin 128) : val_main_v132 (F := Ideal) x0 x1 x2 x3 (ValueIdx.ix4 b h t d)
    = ∑ j, Ideal.exp (LL (qR b h) (kR b h) (tr h) t (own t) j - mxR (gt (qR b h) (kR b h) t) (LL (qR b h) (kR b h) (tr h) t) (own t)) * x2 (ValueIdx.ix4 b (ky (own t) j) h d)
      + ∑ k, ∑ j, Ideal.exp (Ls (gt (qR b h) (kR b h) t) (LL (qR b h) (kR b h) (tr h) t) (own t) k j - mxR (gt (qR b h) (kR b h) t) (LL (qR b h) (kR b h) (tr h) t) (own t))
        * x2 (ValueIdx.ix4 b (ky (sg (gt (qR b h) (kR b h) t) k) j) h d) := by
  rw [val_main_v132_apply, v130_cast, val_main_v129_apply, val_main_v131_apply, sum_pr]
  refine congrArg₂ (· + ·) (Finset.sum_congr rfl fun j _ => ?_) (Finset.sum_congr rfl fun k _ => Finset.sum_congr rfl fun j _ => ?_)
  · rw [show lidx_main_v129 (ValueIdx.ix5 b h (own t) (pl t) d) j = ValueIdx.ix5 b h (own t) (pl t) j from ext5 _ _ rfl rfl rfl rfl rfl,
      show ridx_main_v129 (ValueIdx.ix5 b h (own t) (pl t) d) j = ValueIdx.ix5 b h (own t) j d from ext5 _ _ rfl rfl rfl rfl rfl,
      v127_at, v128_at, v119_at x0 x1 x3 qR kR tr hq hk ht]
  · rw [show lidx_main_v131 (ValueIdx.ix4 b h t d) (pr k j) = ValueIdx.ix4 b h t (pr k j) from ext4 _ _ rfl rfl rfl rfl,
      show ridx_main_v131 (ValueIdx.ix4 b h t d) (pr k j) = ValueIdx.ix5 b h t (pr k j) d from ext5 _ _ rfl rfl rfl rfl rfl,
      v123_at x0 x1 x3 qR kR tr hq hk ht, v32_at x0 x1 x2 qR kR hq hk]

/-- A block that is neither the query's own nor a selected one before it is not seen. -/
theorem LL_hid (n : Fin 8) (j : Fin 256) (hn : n ≠ own t) (hs : ¬ (n < own t ∧ ∃ k, sg (gt (qR b h) (kR b h) t) k = n)) : LL (qR b h) (kR b h) (tr h) t n j = ⊥ := by
  unfold LL
  refine if_neg fun hc => ?_
  rcases hc.1 with h1 | h1
  · exact hs ⟨h1.2, (sel_iff _ (ord _) (ord_iff _) n).mpr h1.1⟩
  · exact hn (Fin.ext h1)

include hq hk ht in
theorem v135_at (d : Fin 128) : val_main_v135 (F := Ideal) x0 x1 x2 x3 (ValueIdx.ix4 b h t d) = row (qR b h) (kR b h) (tr h) (fun s => x2 (ValueIdx.ix4 b s h d)) t := by
  rw [val_main_v135_apply, v132_at x0 x1 x2 x3 qR kR tr hq hk ht, val_main_v134_apply, val_main_v133_apply,
    show idx_main_v133 (idx_main_v134 (ValueIdx.ix4 b h t d)) = ValueIdx.ix3 b h t from ext3 _ _ rfl rfl rfl, v126_at x0 x1 x3 qR kR tr hq hk ht]
  exact reference_row (own t) (LL (qR b h) (kR b h) (tr h) t) (fun n j => x2 (ValueIdx.ix4 b (ky n j) h d)) 0 (sg (gt (qR b h) (kR b h) t)) (sg_inj _)
    (LL_ne_top _ _ _ _) (LL_own _ _ _ _) (LL_hid qR kR tr b h t)
    (Ls (gt (qR b h) (kR b h) t) (LL (qR b h) (kR b h) (tr h) t) (own t)) (fun k j => rfl) _ rfl _ _ rfl rfl

include hq hk ht in
theorem v138_at (y : S8192x2048.Idx) : val_main_v138 (F := Ideal) x0 x1 x2 x3 y
    = row (qR ⟨(y 0).val / 2048, by have : (y 0).val < 8192 := (y 0).isLt; omega⟩ ⟨(y 1).val / 128, by have : (y 1).val < 2048 := (y 1).isLt; omega⟩)
        (kR ⟨(y 0).val / 2048, by have : (y 0).val < 8192 := (y 0).isLt; omega⟩ ⟨(y 1).val / 128, by have : (y 1).val < 2048 := (y 1).isLt; omega⟩)
        (tr ⟨(y 1).val / 128, by have : (y 1).val < 2048 := (y 1).isLt; omega⟩)
        (fun s => x2 (ValueIdx.ix4 (⟨(y 0).val / 2048, by have : (y 0).val < 8192 := (y 0).isLt; omega⟩ : Fin 4) s (⟨(y 1).val / 128, by have : (y 1).val < 2048 := (y 1).isLt; omega⟩ : Fin 16) (⟨(y 1).val % 128, by omega⟩ : Fin 128)))
        ⟨(y 0).val % 2048, by omega⟩ := by
  rw [val_main_v138_apply]
  show val_main_v137 (F := Ideal) x0 x1 x2 x3 y = _
  rw [val_main_v137_apply, val_main_v136_apply, ← v135_at x0 x1 x2 x3 qR kR tr hq hk ht]
  have h0 : (y 0).val < 8192 := (y 0).isLt
  have h1 : (y 1).val < 2048 := (y 1).isLt
  refine congrArg _ (ext4 _ _ ?_ ?_ ?_ ?_)
  · refine Fin.ext ?_
    show ((y 0).val * 2048 + (y 1).val) / 4194304 = (y 0).val / 2048
    omega
  · refine Fin.ext ?_
    show ((y 0).val * 2048 + (y 1).val) / 128 % 16 = (y 1).val / 128
    omega
  · refine Fin.ext ?_
    show ((y 0).val * 2048 + (y 1).val) / 2048 % 2048 = (y 0).val % 2048
    omega
  · refine Fin.ext ?_
    show ((y 0).val * 2048 + (y 1).val) % 128 = (y 1).val % 128
    omega

end Cert.ReferenceIdeal.RV

end
-- ==== Proof.KStore.lean ====
/- One store over a whole buffer, read back. -/
module

public import Idealize.ShloMosaic.Lib.Pipeline.Value

@[expose] public section

noncomputable section

namespace Cert.KStore

open Idealize.ShloMosaic

variable {F : FTy → Type} [FloatOps F] {sig : RefSig}

theorem off2 : (![0, 0] : Fin 2 → ℕ) = fun _ => 0 := by decide

/-- One store over a whole buffer reads back as what was stored. -/
theorem read_store {S : Shape} {e : EltTy} {sp : Space} (M : Memref sig .tc sp S e) {off : Fin S.rank → ℕ} (h : off = fun _ => 0)
    (inb : ∀ a, off a + S.size a ≤ S.size a) (f : M.view.ty.Contents (Elt F)) (w : S.Idx → Elt F e) :
    M.view.read (Elt F) (M.view.writes (Elt F) f [⟨Rect.unit off S.size inb, w⟩]) = w := by
  rw [View.read_writes_eq_canon _ _ _ (fun y => ⟨_, List.mem_singleton_self _, View.mem_set_unit_zero h inb y⟩), View.canon_unit_zero h]

end Cert.KStore

end
-- ==== Proof.K2Run.lean ====
/- The up projection's call: what its body leaves at each grid point, the normalised rows kept in scratch over a row of the grid, the
   side result's buffer carried over the points that do not touch it, and the run's contents at the end. -/
module

public import proofs.«01_k».proof.Proof.Gen.Kernel2Ideal.Frame
public import proofs.«01_k».proof.Proof.Gen.Kernel2Ideal.Skeleton
public import Idealize.ShloMosaic.Lib.Pipeline.Value
public import Idealize.ShloMosaic.Lib.Pipeline.ValueKit
public import proofs.«01_k».proof.Proof.KStore

@[expose] public section

set_option maxRecDepth 16384

noncomputable section

namespace Cert.Kernel2Ideal.KV

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen
open Cert.KStore (off2 read_store)

variable {F : FTy → Type} [FloatOps F]

local notation "𝕄" => MT nD τ sig Unit (Elt F) ℕ (UR sig nD τ) ℕ

/-- The first condition, as the body computes it. -/
abbrev cond1 (i : grid0.Coords) : BitVec 1 := Scalar.cmpi .ne (Scalar.extui (Scalar.cmpi .eq (BitVec.ofNat 32 (i 1).val) 0#32)) 0#32

set_option maxHeartbeats 2000000 in
/-- The body at the points that store the normalised rows and the side result. -/
theorem body_A (c : Dev nD) (i : grid0.Coords) (hc : cond1 i = 1#1) (hd : k0_cond2 i = 1#1) (arg2 : Memref sig .tc .vmem S1024x2048 .f32) (harg2 : arg2.IsWhole) (arg3 : Memref sig .tc .vmem S16x2048 .f32) (harg3 : arg3.IsWhole) (arg4 : Memref sig .tc .vmem S1x2048 .f32) (harg4 : arg4.IsWhole) (arg5 : Memref sig .tc .vmem S1x2048x512 .bf16) (harg5 : arg5.IsWhole) (arg6 : Memref sig .tc .vmem S1x2048x512 .bf16) (harg6 : arg6.IsWhole) (arg7 : Memref sig .tc .vmem S1024x512 .bf16) (harg7 : arg7.IsWhole) (arg8 : Memref sig .tc .vmem S16x512 .bf16) (harg8 : arg8.IsWhole) (arg9 : Memref sig .tc .vmem S1024x2048 .bf16) (harg9 : arg9.IsWhole) (arg10 : Memref sig .tc .vmem S16x2048 .bf16) (harg10 : arg10.IsWhole)
    (x0 : Vec F S1024x2048 .f32) (x1 : Vec F S16x2048 .f32) (x2 : Vec F S1x2048 .f32) (x3 : Vec F S1x2048x512 .bf16) (x4 : Vec F S1x2048x512 .bf16) (E : Set ℕ) (K : PUnit → sProp 𝕄) :
    iprop(owns c arg2 fullShare x0 ∗ owns c arg3 fullShare x1 ∗ owns c arg4 fullShare x2 ∗ owns c arg5 fullShare x3 ∗ owns c arg6 fullShare x4 ∗ (∃ d, owns c arg7 fullShare d) ∗ (∃ d, owns c arg8 fullShare d) ∗ (∃ d, owns c arg9 fullShare d) ∗ (∃ d, owns c arg10 fullShare d)
        ∗ (iprop(owns c arg2 fullShare x0 ∗ owns c arg3 fullShare x1 ∗ owns c arg4 fullShare x2 ∗ owns c arg5 fullShare x3 ∗ owns c arg6 fullShare x4 ∗ owns c arg7 fullShare (k0_pay3 (k0_pay1 x0 x2) x3 x4) ∗ owns c arg8 fullShare (k0_pay4 (k0_pay2 x1 x2) x3 x4) ∗ owns c arg9 fullShare (k0_pay1 x0 x2) ∗ owns c arg10 fullShare (k0_pay2 x1 x2)) -∗ K ⟨⟩))
      ⊢ wp frame (wpE (defs₀ (F := F)) Variants.none c none) E (cc0_ffn_up i arg2 harg2 arg3 harg3 arg4 harg4 arg5 harg5 arg6 harg6 arg7 harg7 arg8 harg8 arg9 harg9 arg10 harg10) K := by
  simp only [cc0_ffn_up_eq_skeleton]; unfold cc0_ffn_up_skel
  dsimp only
  rw [dif_pos hc, dif_pos hd]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, Hk⟩
  obtain rfl := harg2.eq_unread hf0; obtain rfl := harg3.eq_unread hf1; obtain rfl := harg4.eq_unread hf2; obtain rfl := harg5.eq_unread hf3; obtain rfl := harg6.eq_unread hf4
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    rw [read_store _ off2]
    simp (disch := decide) only [View.readAt_eq_ld, harg2.read_unread, harg3.read_unread, harg4.read_unread, harg5.read_unread, harg6.read_unread, View.readCov_unit_zero (S := S1024x2048) _ off2, View.readCov_unit_zero (S := S16x2048) _ off2, View.ld_unit_lit']
    refine congrArg (fun z => k0_pay3 z x3 x4) ?_
    refine (View.readCov_unit_zero (S := S1024x2048) arg9.view (off := ![0, 0]) off2 inb_S1024x2048_S1024x2048_0_0 _).trans ?_
    simp (disch := decide) only [View.readAt_eq_ld, harg2.read_unread, harg3.read_unread, harg4.read_unread, harg5.read_unread, harg6.read_unread, View.readCov_unit_zero (S := S1024x2048) _ off2, View.readCov_unit_zero (S := S16x2048) _ off2, View.ld_unit_lit']
  isplitl [H6]
  · iexists _; isplitr
    swap; · iexact H6
    ipureintro
    rw [read_store _ off2]
    simp (disch := decide) only [View.readAt_eq_ld, harg2.read_unread, harg3.read_unread, harg4.read_unread, harg5.read_unread, harg6.read_unread, View.readCov_unit_zero (S := S1024x2048) _ off2, View.readCov_unit_zero (S := S16x2048) _ off2, View.ld_unit_lit']
    refine congrArg (fun z => k0_pay4 z x3 x4) ?_
    refine (View.readCov_unit_zero (S := S16x2048) arg10.view (off := ![0, 0]) off2 inb_S16x2048_S16x2048_0_0 _).trans ?_
    simp (disch := decide) only [View.readAt_eq_ld, harg2.read_unread, harg3.read_unread, harg4.read_unread, harg5.read_unread, harg6.read_unread, View.readCov_unit_zero (S := S1024x2048) _ off2, View.readCov_unit_zero (S := S16x2048) _ off2, View.ld_unit_lit']
  isplitl [H7]
  · iexists _; isplitr
    swap; · iexact H7
    ipureintro
    refine (read_store arg9 (off := ![0, 0]) off2 inb_S1024x2048_S1024x2048_0_0 _ _).trans ?_
    simp (disch := decide) only [View.readAt_eq_ld, harg2.read_unread, harg3.read_unread, harg4.read_unread, harg5.read_unread, harg6.read_unread, View.readCov_unit_zero (S := S1024x2048) _ off2, View.readCov_unit_zero (S := S16x2048) _ off2, View.ld_unit_lit']
  iexists _; isplitr
  swap; · iexact H8
  ipureintro
  refine (read_store arg10 (off := ![0, 0]) off2 inb_S16x2048_S16x2048_0_0 _ _).trans ?_
  simp (disch := decide) only [View.readAt_eq_ld, harg2.read_unread, harg3.read_unread, harg4.read_unread, harg5.read_unread, harg6.read_unread, View.readCov_unit_zero (S := S1024x2048) _ off2, View.readCov_unit_zero (S := S16x2048) _ off2, View.ld_unit_lit']

set_option maxHeartbeats 2000000 in
/-- The body at the points that store the normalised rows only. -/
theorem body_B (c : Dev nD) (i : grid0.Coords) (hc : cond1 i = 1#1) (hd : ¬ k0_cond2 i = 1#1) (arg2 : Memref sig .tc .vmem S1024x2048 .f32) (harg2 : arg2.IsWhole) (arg3 : Memref sig .tc .vmem S16x2048 .f32) (harg3 : arg3.IsWhole) (arg4 : Memref sig .tc .vmem S1x2048 .f32) (harg4 : arg4.IsWhole) (arg5 : Memref sig .tc .vmem S1x2048x512 .bf16) (harg5 : arg5.IsWhole) (arg6 : Memref sig .tc .vmem S1x2048x512 .bf16) (harg6 : arg6.IsWhole) (arg7 : Memref sig .tc .vmem S1024x512 .bf16) (harg7 : arg7.IsWhole) (arg8 : Memref sig .tc .vmem S16x512 .bf16) (harg8 : arg8.IsWhole) (arg9 : Memref sig .tc .vmem S1024x2048 .bf16) (harg9 : arg9.IsWhole) (arg10 : Memref sig .tc .vmem S16x2048 .bf16) (harg10 : arg10.IsWhole)
    (x0 : Vec F S1024x2048 .f32) (x1 : Vec F S16x2048 .f32) (x2 : Vec F S1x2048 .f32) (x3 : Vec F S1x2048x512 .bf16) (x4 : Vec F S1x2048x512 .bf16) (x6 : Vec F S16x512 .bf16) (E : Set ℕ) (K : PUnit → sProp 𝕄) :
    iprop(owns c arg2 fullShare x0 ∗ owns c arg3 fullShare x1 ∗ owns c arg4 fullShare x2 ∗ owns c arg5 fullShare x3 ∗ owns c arg6 fullShare x4 ∗ (∃ d, owns c arg7 fullShare d) ∗ owns c arg8 fullShare x6 ∗ (∃ d, owns c arg9 fullShare d) ∗ (∃ d, owns c arg10 fullShare d)
        ∗ (iprop(owns c arg2 fullShare x0 ∗ owns c arg3 fullShare x1 ∗ owns c arg4 fullShare x2 ∗ owns c arg5 fullShare x3 ∗ owns c arg6 fullShare x4 ∗ owns c arg7 fullShare (k0_pay3 (k0_pay1 x0 x2) x3 x4) ∗ owns c arg8 fullShare x6 ∗ owns c arg9 fullShare (k0_pay1 x0 x2) ∗ owns c arg10 fullShare (k0_pay2 x1 x2)) -∗ K ⟨⟩))
      ⊢ wp frame (wpE (defs₀ (F := F)) Variants.none c none) E (cc0_ffn_up i arg2 harg2 arg3 harg3 arg4 harg4 arg5 harg5 arg6 harg6 arg7 harg7 arg8 harg8 arg9 harg9 arg10 harg10) K := by
  simp only [cc0_ffn_up_eq_skeleton]; unfold cc0_ffn_up_skel
  dsimp only
  rw [dif_pos hc, dif_neg hd]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%d7, %f7, -, H7⟩, ⟨%d8, %f8, -, H8⟩, Hk⟩
  obtain rfl := harg2.eq_unread hf0; obtain rfl := harg3.eq_unread hf1; obtain rfl := harg4.eq_unread hf2; obtain rfl := harg5.eq_unread hf3; obtain rfl := harg6.eq_unread hf4; obtain rfl := harg8.eq_unread hf6
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    rw [read_store _ off2]
    simp (disch := decide) only [View.readAt_eq_ld, harg2.read_unread, harg3.read_unread, harg4.read_unread, harg5.read_unread, harg6.read_unread, View.readCov_unit_zero (S := S1024x2048) _ off2, View.readCov_unit_zero (S := S16x2048) _ off2, View.ld_unit_lit']
    refine congrArg (fun z => k0_pay3 z x3 x4) ?_
    refine (View.readCov_unit_zero (S := S1024x2048) arg9.view (off := ![0, 0]) off2 inb_S1024x2048_S1024x2048_0_0 _).trans ?_
    simp (disch := decide) only [View.readAt_eq_ld, harg2.read_unread, harg3.read_unread, harg4.read_unread, harg5.read_unread, harg6.read_unread, View.readCov_unit_zero (S := S1024x2048) _ off2, View.readCov_unit_zero (S := S16x2048) _ off2, View.ld_unit_lit']
  isplitl [H6]
  · iexists _; isplitr; · ipureintro; exact harg8.read_unread _
    iexact H6
  isplitl [H7]
  · iexists _; isplitr
    swap; · iexact H7
    ipureintro
    refine (read_store arg9 (off := ![0, 0]) off2 inb_S1024x2048_S1024x2048_0_0 _ _).trans ?_
    simp (disch := decide) only [View.readAt_eq_ld, harg2.read_unread, harg3.read_unread, harg4.read_unread, harg5.read_unread, harg6.read_unread, View.readCov_unit_zero (S := S1024x2048) _ off2, View.readCov_unit_zero (S := S16x2048) _ off2, View.ld_unit_lit']
  iexists _; isplitr
  swap; · iexact H8
  ipureintro
  refine (read_store arg10 (off := ![0, 0]) off2 inb_S16x2048_S16x2048_0_0 _ _).trans ?_
  simp (disch := decide) only [View.readAt_eq_ld, harg2.read_unread, harg3.read_unread, harg4.read_unread, harg5.read_unread, harg6.read_unread, View.readCov_unit_zero (S := S1024x2048) _ off2, View.readCov_unit_zero (S := S16x2048) _ off2, View.ld_unit_lit']

set_option maxHeartbeats 2000000 in
/-- The body at the points that store the side result only. -/
theorem body_C (c : Dev nD) (i : grid0.Coords) (hc : ¬ cond1 i = 1#1) (hd : k0_cond2 i = 1#1) (arg2 : Memref sig .tc .vmem S1024x2048 .f32) (harg2 : arg2.IsWhole) (arg3 : Memref sig .tc .vmem S16x2048 .f32) (harg3 : arg3.IsWhole) (arg4 : Memref sig .tc .vmem S1x2048 .f32) (harg4 : arg4.IsWhole) (arg5 : Memref sig .tc .vmem S1x2048x512 .bf16) (harg5 : arg5.IsWhole) (arg6 : Memref sig .tc .vmem S1x2048x512 .bf16) (harg6 : arg6.IsWhole) (arg7 : Memref sig .tc .vmem S1024x512 .bf16) (harg7 : arg7.IsWhole) (arg8 : Memref sig .tc .vmem S16x512 .bf16) (harg8 : arg8.IsWhole) (arg9 : Memref sig .tc .vmem S1024x2048 .bf16) (harg9 : arg9.IsWhole) (arg10 : Memref sig .tc .vmem S16x2048 .bf16) (harg10 : arg10.IsWhole)
    (x0 : Vec F S1024x2048 .f32) (x1 : Vec F S16x2048 .f32) (x2 : Vec F S1x2048 .f32) (x3 : Vec F S1x2048x512 .bf16) (x4 : Vec F S1x2048x512 .bf16) (x7 : Vec F S1024x2048 .bf16) (x8 : Vec F S16x2048 .bf16) (E : Set ℕ) (K : PUnit → sProp 𝕄) :
    iprop(owns c arg2 fullShare x0 ∗ owns c arg3 fullShare x1 ∗ owns c arg4 fullShare x2 ∗ owns c arg5 fullShare x3 ∗ owns c arg6 fullShare x4 ∗ (∃ d, owns c arg7 fullShare d) ∗ (∃ d, owns c arg8 fullShare d) ∗ owns c arg9 fullShare x7 ∗ owns c arg10 fullShare x8
        ∗ (iprop(owns c arg2 fullShare x0 ∗ owns c arg3 fullShare x1 ∗ owns c arg4 fullShare x2 ∗ owns c arg5 fullShare x3 ∗ owns c arg6 fullShare x4 ∗ owns c arg7 fullShare (k0_pay3 x7 x3 x4) ∗ owns c arg8 fullShare (k0_pay4 x8 x3 x4) ∗ owns c arg9 fullShare x7 ∗ owns c arg10 fullShare x8) -∗ K ⟨⟩))
      ⊢ wp frame (wpE (defs₀ (F := F)) Variants.none c none) E (cc0_ffn_up i arg2 harg2 arg3 harg3 arg4 harg4 arg5 harg5 arg6 harg6 arg7 harg7 arg8 harg8 arg9 harg9 arg10 harg10) K := by
  simp only [cc0_ffn_up_eq_skeleton]; unfold cc0_ffn_up_skel
  dsimp only
  rw [dif_neg hc, dif_pos hd]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%f8, %hf8, H8⟩, Hk⟩
  obtain rfl := harg2.eq_unread hf0; obtain rfl := harg3.eq_unread hf1; obtain rfl := harg4.eq_unread hf2; obtain rfl := harg5.eq_unread hf3; obtain rfl := harg6.eq_unread hf4; obtain rfl := harg9.eq_unread hf7; obtain rfl := harg10.eq_unread hf8
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    rw [read_store _ off2]
    simp (disch := decide) only [View.readAt_eq_ld, harg5.read_unread, harg6.read_unread, harg9.read_unread, harg10.read_unread, View.ld_unit_lit']
  isplitl [H6]
  · iexists _; isplitr
    swap; · iexact H6
    ipureintro
    rw [read_store _ off2]
    simp (disch := decide) only [View.readAt_eq_ld, harg5.read_unread, harg6.read_unread, harg9.read_unread, harg10.read_unread, View.ld_unit_lit']
  isplitl [H7]
  · iexists _; isplitr; · ipureintro; exact harg9.read_unread _
    iexact H7
  iexists _; isplitr; · ipureintro; exact harg10.read_unread _
  iexact H8

set_option maxHeartbeats 2000000 in
/-- The body at the points that store neither. -/
theorem body_D (c : Dev nD) (i : grid0.Coords) (hc : ¬ cond1 i = 1#1) (hd : ¬ k0_cond2 i = 1#1) (arg2 : Memref sig .tc .vmem S1024x2048 .f32) (harg2 : arg2.IsWhole) (arg3 : Memref sig .tc .vmem S16x2048 .f32) (harg3 : arg3.IsWhole) (arg4 : Memref sig .tc .vmem S1x2048 .f32) (harg4 : arg4.IsWhole) (arg5 : Memref sig .tc .vmem S1x2048x512 .bf16) (harg5 : arg5.IsWhole) (arg6 : Memref sig .tc .vmem S1x2048x512 .bf16) (harg6 : arg6.IsWhole) (arg7 : Memref sig .tc .vmem S1024x512 .bf16) (harg7 : arg7.IsWhole) (arg8 : Memref sig .tc .vmem S16x512 .bf16) (harg8 : arg8.IsWhole) (arg9 : Memref sig .tc .vmem S1024x2048 .bf16) (harg9 : arg9.IsWhole) (arg10 : Memref sig .tc .vmem S16x2048 .bf16) (harg10 : arg10.IsWhole)
    (x0 : Vec F S1024x2048 .f32) (x1 : Vec F S16x2048 .f32) (x2 : Vec F S1x2048 .f32) (x3 : Vec F S1x2048x512 .bf16) (x4 : Vec F S1x2048x512 .bf16) (x6 : Vec F S16x512 .bf16) (x7 : Vec F S1024x2048 .bf16) (x8 : Vec F S16x2048 .bf16) (E : Set ℕ) (K : PUnit → sProp 𝕄) :
    iprop(owns c arg2 fullShare x0 ∗ owns c arg3 fullShare x1 ∗ owns c arg4 fullShare x2 ∗ owns c arg5 fullShare x3 ∗ owns c arg6 fullShare x4 ∗ (∃ d, owns c arg7 fullShare d) ∗ owns c arg8 fullShare x6 ∗ owns c arg9 fullShare x7 ∗ owns c arg10 fullShare x8
        ∗ (iprop(owns c arg2 fullShare x0 ∗ owns c arg3 fullShare x1 ∗ owns c arg4 fullShare x2 ∗ owns c arg5 fullShare x3 ∗ owns c arg6 fullShare x4 ∗ owns c arg7 fullShare (k0_pay3 x7 x3 x4) ∗ owns c arg8 fullShare x6 ∗ owns c arg9 fullShare x7 ∗ owns c arg10 fullShare x8) -∗ K ⟨⟩))
      ⊢ wp frame (wpE (defs₀ (F := F)) Variants.none c none) E (cc0_ffn_up i arg2 harg2 arg3 harg3 arg4 harg4 arg5 harg5 arg6 harg6 arg7 harg7 arg8 harg8 arg9 harg9 arg10 harg10) K := by
  simp only [cc0_ffn_up_eq_skeleton]; unfold cc0_ffn_up_skel
  dsimp only
  rw [dif_neg hc, dif_neg hd]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, Hk⟩
  obtain rfl := harg2.eq_unread hf0; obtain rfl := harg3.eq_unread hf1; obtain rfl := harg4.eq_unread hf2; obtain rfl := harg5.eq_unread hf3; obtain rfl := harg6.eq_unread hf4; obtain rfl := harg8.eq_unread hf6; obtain rfl := harg9.eq_unread hf7; obtain rfl := harg10.eq_unread hf8
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    rw [read_store _ off2]
    simp (disch := decide) only [View.readAt_eq_ld, harg5.read_unread, harg6.read_unread, harg9.read_unread, harg10.read_unread, View.ld_unit_lit']
  isplitl [H6]
  · iexists _; isplitr; · ipureintro; exact harg8.read_unread _
    iexact H6
  isplitl [H7]
  · iexists _; isplitr; · ipureintro; exact harg9.read_unread _
    iexact H7
  iexists _; isplitr; · ipureintro; exact harg10.read_unread _
  iexact H8

variable (m : (ℓ : Loc nD τ sig) → Buf (Elt F) ℓ) (ρ : Dev nD → PrngReg)

/-! ## The proof data -/

theorem n0 (t : Fin cfg0.N) : t.val < 88 := t.isLt
theorem cond1_iff : ∀ t : Fin cfg0.N, cond1 (grid0.coords t) = 1#1 ↔ t.val % 11 = 0 := by decide +kernel
theorem cond2_iff : ∀ t : Fin cfg0.N, k0_cond2 (grid0.coords t) = 1#1 ↔ t.val < 11 := by decide +kernel
theorem idle_eq : ∀ t : Fin cfg0.N, idle0 6 (grid0.coords t) = decide (11 ≤ t.val) := by decide +kernel
theorem flush6_eq : ∀ t : Fin cfg0.N, win0_6.flush t = decide (t.val < 10 ∨ t.val = 87) := by decide +kernel
theorem ix0 : ∀ t : Fin cfg0.N, win0_0.index t = ![t.val / 11, 0] := by decide +kernel
theorem ix1 : ∀ t : Fin cfg0.N, win0_1.index t = ![0, 0] := by decide +kernel
theorem ix2 : ∀ t : Fin cfg0.N, win0_2.index t = ![0, 0] := by decide +kernel

/-- The prompts' rows of a point are those of every point in its row of the grid. -/
theorem row_0 (c : Dev nD) (t t' : Fin cfg0.N) (h : t.val / 11 = t'.val / 11) : iblk m c 0 t = iblk m c 0 t' := by
  funext y
  unfold iblk
  blk_simp
  refine congrArg (V m c main_arg0) ?_
  funext a; apply Fin.ext
  match a with
  | ⟨0, _⟩ => blk_simp [ix0, h]
  | ⟨1, _⟩ => blk_simp [ix0, h]
/-- The decoding rows of any two points. -/
theorem row_1 (c : Dev nD) (t t' : Fin cfg0.N) : iblk m c 1 t = iblk m c 1 t' := by
  funext y
  unfold iblk
  blk_simp
  refine congrArg (V m c main_arg1) ?_
  funext a; apply Fin.ext
  match a with
  | ⟨0, _⟩ => blk_simp [ix1]
  | ⟨1, _⟩ => blk_simp [ix1]
/-- The norm's weights at any two points. -/
theorem row_2 (c : Dev nD) (t t' : Fin cfg0.N) : iblk m c 2 t = iblk m c 2 t' := by
  funext y
  unfold iblk
  blk_simp
  refine congrArg (V m c main_v4) ?_
  funext a; apply Fin.ext
  match a with
  | ⟨0, _⟩ => blk_simp [ix2]
  | ⟨1, _⟩ => blk_simp [ix2]

/-- The point whose side block the buffer holds after point `t`: the point itself in the first row of the grid, that row's last one later. -/
def sp (t : Fin cfg0.N) : Fin cfg0.N := ⟨min t.val 10, Nat.lt_of_le_of_lt (Nat.min_le_left _ _) t.isLt⟩

/-- The normalised rows at a point, of the prompts -/
def xnAt (c : Dev nD) (t : Fin cfg0.N) : Vec F S1024x2048 .bf16 := k0_pay1 (iblk m c 0 t) (iblk m c 2 t)
/-- and of the decoding tokens. -/
def xsAt (c : Dev nD) (t : Fin cfg0.N) : Vec F S16x2048 .bf16 := k0_pay2 (iblk m c 1 t) (iblk m c 2 t)

theorem xnAt_row (c : Dev nD) (t t' : Fin cfg0.N) (h : t.val / 11 = t'.val / 11) : xnAt m c t = xnAt m c t' := by
  unfold xnAt; rw [row_0 m c t t' h, row_2 m c t t']
theorem xsAt_row (c : Dev nD) (t t' : Fin cfg0.N) : xsAt m c t = xsAt m c t' := by
  unfold xsAt; rw [row_1 m c t t', row_2 m c t t']

/-- The main result's block at a point. -/
def mainAt (c : Dev nD) (t : Fin cfg0.N) : Vec F S1024x512 .bf16 := k0_pay3 (xnAt m c t) (iblk m c 3 t) (iblk m c 4 t)
/-- The side result's block at a point. -/
def sideAt (c : Dev nD) (t : Fin cfg0.N) : Vec F S16x512 .bf16 := k0_pay4 (xsAt m c t) (iblk m c 3 t) (iblk m c 4 t)

/-- The scratch buffers, whole. -/
abbrev sc0 : Memref sig .tc .vmem S1024x2048 .bf16 := Memref.whole cc0_scratch0
abbrev sc1 : Memref sig .tc .vmem S16x2048 .bf16 := Memref.whole cc0_scratch1

/-- What is kept between points: after point `n - 1` the scratch buffers hold that point's normalised rows. -/
def PhiS (c : Dev nD) (n : ℕ) : sProp 𝕄 :=
  iprop((∃ d ds, ⌜∀ t : Fin cfg0.N, t.val + 1 = n → d = xnAt m c t ∧ ds = xsAt m c t⌝
    ∗ owns c sc0 fullShare d ∗ owns c sc1 fullShare ds) ∗ (∃ r, prngReg c r))

theorem PhiA_eq (c : Dev nD) :
    (Pipeline.ΦA spec0 c : sProp 𝕄)
      = iprop(iprop((∃ d, owns c sc0 fullShare d) ∗ (∃ d, owns c sc1 fullShare d)) ∗ (∃ r, prngReg c r)) := by
  unfold Pipeline.ΦA; rw [scopedRest0_eq]; simp only [sc0, sc1, owns_whole]; try rfl

theorem phi_in (c : Dev nD) : (Pipeline.ΦA spec0 c : sProp 𝕄) ⊢ PhiS m c 0 := by
  rw [PhiA_eq]
  unfold PhiS
  iintro ⟨⟨⟨%d, H0⟩, ⟨%ds, H1⟩⟩, Hg⟩
  isplitr [Hg]
  · iexists d, ds
    isplitr
    · ipureintro; intro t ht; omega
    isplitl [H0]; · iexact H0
    iexact H1
  · iexact Hg

theorem phi_out (c : Dev nD) (n : ℕ) : PhiS m c n ⊢ (Pipeline.ΦA spec0 c : sProp 𝕄) := by
  rw [PhiA_eq]
  unfold PhiS
  iintro ⟨⟨%d, %ds, -, H0, H1⟩, Hg⟩
  isplitr [Hg]
  · isplitl [H0]
    · iexists d; iexact H0
    · iexists ds; iexact H1
  · iexact Hg

/-- The proof data: every input's buffer at its block, the main result's at the point's block, the side result's at the block last stored. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => mainAt m c t
    | ⟨6, _⟩ => sideAt m c (sp t)
  Φ t := PhiS m c t.val
  q _ := fullShare
  owed _ := 0

theorem A_eq (c : Dev nD) (w : Fin cfg0.W) : (dat m c).A w = V m c (Pipeline.arrRef spec0 w) := by
  dsimp only [dat]
theorem after_0 (c : Dev nD) (t : Fin cfg0.N) : (dat m c).after 0 t = iblk m c 0 t := by dsimp only [dat]
theorem after_1 (c : Dev nD) (t : Fin cfg0.N) : (dat m c).after 1 t = iblk m c 1 t := by dsimp only [dat]
theorem after_2 (c : Dev nD) (t : Fin cfg0.N) : (dat m c).after 2 t = iblk m c 2 t := by dsimp only [dat]
theorem after_3 (c : Dev nD) (t : Fin cfg0.N) : (dat m c).after 3 t = iblk m c 3 t := by dsimp only [dat]
theorem after_4 (c : Dev nD) (t : Fin cfg0.N) : (dat m c).after 4 t = iblk m c 4 t := by dsimp only [dat]
theorem after_5 (c : Dev nD) (t : Fin cfg0.N) : (dat m c).after 5 t = mainAt m c t := by dsimp only [dat]
theorem after_6 (c : Dev nD) (t : Fin cfg0.N) : (dat m c).after 6 t = sideAt m c (sp t) := by dsimp only [dat]
theorem before_0 (c : Dev nD) (t : Fin cfg0.N) (d) : (dat m c).before 0 t d = iblk m c 0 t :=
  before0_0_of m (dat m c) (A_eq m c 0) (after_0 m c) t d
theorem before_1 (c : Dev nD) (t : Fin cfg0.N) (d) : (dat m c).before 1 t d = iblk m c 1 t :=
  before0_1_of m (dat m c) (A_eq m c 1) (after_1 m c) t d
theorem before_2 (c : Dev nD) (t : Fin cfg0.N) (d) : (dat m c).before 2 t d = iblk m c 2 t :=
  before0_2_of m (dat m c) (A_eq m c 2) (after_2 m c) t d
theorem before_3 (c : Dev nD) (t : Fin cfg0.N) (d) : (dat m c).before 3 t d = iblk m c 3 t :=
  before0_3_of m (dat m c) (A_eq m c 3) (after_3 m c) t d
theorem before_4 (c : Dev nD) (t : Fin cfg0.N) (d) : (dat m c).before 4 t d = iblk m c 4 t :=
  before0_4_of m (dat m c) (A_eq m c 4) (after_4 m c) t d

/-- Past the grid's first row the side result's buffer holds that row's last block. -/
theorem before_6 (c : Dev nD) (d) : ∀ (n : ℕ) (t : Fin cfg0.N), t.val = 11 + n → (dat m c).before 6 t d = sideAt m c (sp t) := by
  intro n
  induction n with
  | zero =>
    intro t ht
    have h0 : t.val ≠ 0 := by omega
    rw [(dat m c).before_of_pos 6 t h0 ((cfg0.win 6).fetch_out rfl t)]
    rw [show (cfg0.win 6).flush ⟨t.val - 1, Nat.lt_of_le_of_lt (Nat.sub_le _ _) t.isLt⟩ = false from
      (flush6_eq _).trans (decide_eq_false (by show ¬ (t.val - 1 < 10 ∨ t.val - 1 = 87); omega))]
    rw [if_neg Bool.false_ne_true]
    unfold Dat.left
    rw [show cfg0.idle 6 (cfg0.grid.coords ⟨t.val - 1, Nat.lt_of_le_of_lt (Nat.sub_le _ _) t.isLt⟩) = false from
      (idle_eq _).trans (decide_eq_false (by show ¬ (11 ≤ t.val - 1); omega))]
    dsimp only
    unfold Dat.kept
    rw [Pipeline.fill_of_clip_none 6 _ (fun _ => rfl) d ((dat m c).after 6 _), Window.fill_cut, after_6]
    congr 1
    refine Fin.ext ?_
    show min (t.val - 1) 10 = min t.val 10
    omega
  | succ n ih =>
    intro t ht
    have h0 : t.val ≠ 0 := by omega
    rw [(dat m c).before_of_pos 6 t h0 ((cfg0.win 6).fetch_out rfl t)]
    rw [show (cfg0.win 6).flush ⟨t.val - 1, Nat.lt_of_le_of_lt (Nat.sub_le _ _) t.isLt⟩ = false from
      (flush6_eq _).trans (decide_eq_false (by show ¬ (t.val - 1 < 10 ∨ t.val - 1 = 87); have := n0 t; omega))]
    rw [if_neg Bool.false_ne_true]
    unfold Dat.left
    rw [show cfg0.idle 6 (cfg0.grid.coords ⟨t.val - 1, Nat.lt_of_le_of_lt (Nat.sub_le _ _) t.isLt⟩) = true from
      (idle_eq _).trans (decide_eq_true (by show 11 ≤ t.val - 1; omega))]
    dsimp only
    rw [ih ⟨t.val - 1, Nat.lt_of_le_of_lt (Nat.sub_le _ _) t.isLt⟩ (by show t.val - 1 = 11 + n; omega)]
    congr 1
    refine Fin.ext ?_
    show min (t.val - 1) 10 = min t.val 10
    omega

/-! ## The body obligation -/

/-- What the body is called with at a point, -/
def bodyPre (c : Dev nD) (t : Fin cfg0.N) : sProp 𝕄 :=
  iprop((dat m c).Φ t.castSucc ∗ (dat m c).owesAt () t.castSucc
    ∗ (∃ d, owns c (st0_0 t) fullShare ((dat m c).before 0 t d))
    ∗ (∃ d, owns c (st0_1 t) fullShare ((dat m c).before 1 t d))
    ∗ (∃ d, owns c (st0_2 t) fullShare ((dat m c).before 2 t d))
    ∗ (∃ d, owns c (st0_3 t) fullShare ((dat m c).before 3 t d))
    ∗ (∃ d, owns c (st0_4 t) fullShare ((dat m c).before 4 t d))
    ∗ (∃ d, owns c (st0_5 t) fullShare ((dat m c).before 5 t d))
    ∗ (∃ d, owns c (st0_6 t) fullShare ((dat m c).before 6 t d)))

/-- and what it returns. -/
def bodyPost (c : Dev nD) (t : Fin cfg0.N) : sProp 𝕄 :=
  iprop((dat m c).Φ t.succ ∗ (dat m c).owesAt () t.succ
    ∗ owns c (st0_0 t) fullShare ((dat m c).after 0 t)
    ∗ owns c (st0_1 t) fullShare ((dat m c).after 1 t)
    ∗ owns c (st0_2 t) fullShare ((dat m c).after 2 t)
    ∗ owns c (st0_3 t) fullShare ((dat m c).after 3 t)
    ∗ owns c (st0_4 t) fullShare ((dat m c).after 4 t)
    ∗ owns c (st0_5 t) fullShare ((dat m c).after 5 t)
    ∗ (dat m c).leavesExact 6 t)

/-- The side result's buffer after the body, past the grid's first row. -/
theorem leaves_idle (c : Dev nD) (t : Fin cfg0.N) (h : 11 ≤ t.val) :
    owns c (st0_6 t) fullShare (sideAt m c (sp t)) ⊢ ((dat m c).leavesExact 6 t : sProp 𝕄) := by
  unfold Dat.leavesExact
  rw [show cfg0.idle 6 (cfg0.grid.coords t) = true from (idle_eq t).trans (decide_eq_true h)]
  dsimp only
  cases (cfg0.win 6).flush t
  · dsimp only
    iintro H
    iexists (sideAt m c (sp t))
    rw [before_6 m c _ (t.val - 11) t (by omega)]
    iexact H
  · dsimp only
    rw [after_6]

/-- The side result's buffer after the body, in the grid's first row. -/
theorem leaves_live (c : Dev nD) (t : Fin cfg0.N) (h : t.val < 11) :
    owns c (st0_6 t) fullShare (sideAt m c t) ⊢ ((dat m c).leavesExact 6 t : sProp 𝕄) := by
  unfold Dat.leavesExact
  rw [show cfg0.idle 6 (cfg0.grid.coords t) = false from (idle_eq t).trans (decide_eq_false (by omega))]
  dsimp only
  rw [after_6, show sp t = t from Fin.ext (by show min t.val 10 = t.val; omega)]

set_option maxHeartbeats 2000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dat m c).Φ t.succ = PhiS m c (t.val + 1) from rfl, show (dat m c).Φ t.castSucc = PhiS m c t.val from rfl,
    show (dat m c).owesAt () t.succ = (dat m c).owesAt () t.castSucc from rfl,
    after_0, after_1, after_2, after_3, after_4, after_5]
  unfold PhiS
  have hkeep : ∀ (d : Vec F S1024x2048 .bf16) (ds : Vec F S16x2048 .bf16), ¬ t.val % 11 = 0 →
      (∀ t' : Fin cfg0.N, t'.val + 1 = t.val → d = xnAt m c t' ∧ ds = xsAt m c t') → d = xnAt m c t ∧ ds = xsAt m c t := by
    intro d ds h0 h
    have hlt : t.val - 1 < cfg0.N := Nat.lt_of_le_of_lt (Nat.sub_le _ _) t.isLt
    obtain ⟨e0, e1⟩ := h ⟨t.val - 1, hlt⟩ (by show t.val - 1 + 1 = t.val; omega)
    exact ⟨e0.trans (xnAt_row m c _ _ (by show (t.val - 1) / 11 = t.val / 11; omega)), e1.trans (xsAt_row m c _ _)⟩
  have hself : ∀ t' : Fin cfg0.N, t'.val + 1 = t.val + 1 → xnAt m c t = xnAt m c t' ∧ xsAt m c t = xsAt m c t' := by
    intro t' h
    obtain rfl : t = t' := Fin.ext (by omega)
    exact ⟨rfl, rfl⟩
  by_cases h1 : t.val % 11 = 0
  · by_cases h2 : t.val < 11
    · iintro ⟨⟨⟨%d7, %d8, %hk, H7, H8⟩, Hg⟩, Ho, ⟨%d0, H0⟩, ⟨%d1, H1⟩, ⟨%d2, H2⟩, ⟨%d3, H3⟩, ⟨%d4, H4⟩, ⟨%d5, H5⟩, ⟨%d6, H6⟩⟩
      iapply (body_A c (grid0.coords t) ((cond1_iff t).mpr h1) ((cond2_iff t).mpr h2) _ _ _ _ _ _ _ _ _ _ _ _ _ _ _ _ _ _ (iblk m c 0 t) (iblk m c 1 t) (iblk m c 2 t) (iblk m c 3 t) (iblk m c 4 t) Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [H8]; · iexists _; iexact H8
      iintro ⟨H0, H1, H2, H3, H4, H5, H6, H7, H8⟩
      isplitl [H7 H8 Hg]
      · isplitr [Hg]
        · iexists (xnAt m c t), (xsAt m c t)
          isplitr; · ipureintro; exact hself
          isplitl [H7]; · iexact H7
          iexact H8
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iapply (leaves_live m c t h2)
      iexact H6
    · have h11 : 11 ≤ t.val := by omega
      have hb := fun d => before_6 m c d (t.val - 11) t (by omega)
      simp only [hb]
      iintro ⟨⟨⟨%d7, %d8, %hk, H7, H8⟩, Hg⟩, Ho, ⟨%d0, H0⟩, ⟨%d1, H1⟩, ⟨%d2, H2⟩, ⟨%d3, H3⟩, ⟨%d4, H4⟩, ⟨%d5, H5⟩, ⟨%d6, H6⟩⟩
      iapply (body_B c (grid0.coords t) ((cond1_iff t).mpr h1) (fun h => h2 ((cond2_iff t).mp h)) _ _ _ _ _ _ _ _ _ _ _ _ _ _ _ _ _ _ (iblk m c 0 t) (iblk m c 1 t) (iblk m c 2 t) (iblk m c 3 t) (iblk m c 4 t) (sideAt m c (sp t)) Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexists _; iexact H7
      isplitl [H8]; · iexists _; iexact H8
      iintro ⟨H0, H1, H2, H3, H4, H5, H6, H7, H8⟩
      isplitl [H7 H8 Hg]
      · isplitr [Hg]
        · iexists (xnAt m c t), (xsAt m c t)
          isplitr; · ipureintro; exact hself
          isplitl [H7]; · iexact H7
          iexact H8
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iapply (leaves_idle m c t h11)
      iexact H6
  · by_cases h2 : t.val < 11
    · iintro ⟨⟨⟨%d7, %d8, %hk, H7, H8⟩, Hg⟩, Ho, ⟨%d0, H0⟩, ⟨%d1, H1⟩, ⟨%d2, H2⟩, ⟨%d3, H3⟩, ⟨%d4, H4⟩, ⟨%d5, H5⟩, ⟨%d6, H6⟩⟩
      obtain ⟨rfl, rfl⟩ := hkeep d7 d8 h1 hk
      iapply (body_C c (grid0.coords t) (fun h => h1 ((cond1_iff t).mp h)) ((cond2_iff t).mpr h2) _ _ _ _ _ _ _ _ _ _ _ _ _ _ _ _ _ _ (iblk m c 0 t) (iblk m c 1 t) (iblk m c 2 t) (iblk m c 3 t) (iblk m c 4 t) (xnAt m c t) (xsAt m c t) Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexact H7
      isplitl [H8]; · iexact H8
      iintro ⟨H0, H1, H2, H3, H4, H5, H6, H7, H8⟩
      isplitl [H7 H8 Hg]
      · isplitr [Hg]
        · iexists (xnAt m c t), (xsAt m c t)
          isplitr; · ipureintro; exact hself
          isplitl [H7]; · iexact H7
          iexact H8
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iapply (leaves_live m c t h2)
      iexact H6
    · have h11 : 11 ≤ t.val := by omega
      have hb := fun d => before_6 m c d (t.val - 11) t (by omega)
      simp only [hb]
      iintro ⟨⟨⟨%d7, %d8, %hk, H7, H8⟩, Hg⟩, Ho, ⟨%d0, H0⟩, ⟨%d1, H1⟩, ⟨%d2, H2⟩, ⟨%d3, H3⟩, ⟨%d4, H4⟩, ⟨%d5, H5⟩, ⟨%d6, H6⟩⟩
      obtain ⟨rfl, rfl⟩ := hkeep d7 d8 h1 hk
      iapply (body_D c (grid0.coords t) (fun h => h1 ((cond1_iff t).mp h)) (fun h => h2 ((cond2_iff t).mp h)) _ _ _ _ _ _ _ _ _ _ _ _ _ _ _ _ _ _ (iblk m c 0 t) (iblk m c 1 t) (iblk m c 2 t) (iblk m c 3 t) (iblk m c 4 t) (sideAt m c (sp t)) (xnAt m c t) (xsAt m c t) Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [H8]; · iexact H8
      iintro ⟨H0, H1, H2, H3, H4, H5, H6, H7, H8⟩
      isplitl [H7 H8 Hg]
      · isplitr [Hg]
        · iexists (xnAt m c t), (xsAt m c t)
          isplitr; · ipureintro; exact hself
          isplitl [H7]; · iexact H7
          iexact H8
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iapply (leaves_idle m c t h11)
      iexact H6

/-- The body table's row at a point. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dat (F := F) m c) (defs₀ (F := F)) Variants.none () Set.univ := fun t => by
  rw [bigSep_W0, bigSep_W0, defs₀_row]
  exact triple_restated (sound_body m c t) rfl .rfl fun _ => .rfl

/-! ## The run -/

/-- The proof data of the program's one call. -/
def dats (p : Fin 1) (c : Dev nD) : Dat τ (Elt F) Unit ℕ (UR sig nD τ) ℕ (cfgs p) c := dat m c

/-- Every run ends with each result at the contents the write-backs leave, the arguments unchanged and every counter at zero. -/
theorem run : θ_run defs (onTc (τ := τ) (main (F := F))) ⟨m, fun _ => 0, ρ⟩ (fun r => (∀ c : Dev nD,
      r.2.mem ((c.tc : Thread nD τ).loc main_v5_0) = (dat m c).arrAt 5 cfg0.N
      ∧ r.2.mem ((c.tc : Thread nD τ).loc main_v5_1) = (dat m c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => phi_in m c) (hout := fun c => phi_out m c _)
    (hQ' := fun r h => ⟨fun c => ⟨(h.1 c).1 5, (h.1 c).1 6,
      ((h.1 c).1 0).trans (((dat m c).arrAt_in 0 rfl _).trans ((A_eq m c 0).trans (V_main_arg0 m c))),
      ((h.1 c).1 1).trans (((dat m c).arrAt_in 1 rfl _).trans ((A_eq m c 1).trans (V_main_arg1 m c))),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩)

end Cert.Kernel2Ideal.KV

end
-- ==== Proof.K2Value.lean ====
/- The up projection's results, element by element: a row divided by its root mean square, times the two weight matrices, gated. -/
module

public import proofs.«01_k».proof.Proof.K2Run
public import proofs.«01_k».proof.Proof.KHelp
public import proofs.«01_k».proof.Proof.Gen.Reference2Ideal.Read
public import Idealize.ShloMosaic.Lib.Pipeline.ValueKit

@[expose] public section

set_option maxRecDepth 16384
set_option backward.isDefEq.respectTransparency false

noncomputable section

namespace Cert.Kernel2Ideal.KV

open Idealize.ShloMosaic Idealize.ShloMosaic.TcCoe
open Cert.Kernel2Ideal.Gen Cert.KHelp
open Idealize.ShloMosaic.Pipeline (Dat Cfg Window BodyObligation cellOf)

/-- A row divided by its root mean square and scaled. -/
def nrm {R : ℕ} (x : (Sh R 2048).Idx → EReal) (g : Fin 2048 → EReal) (r : Fin R) (k : Fin 2048) : EReal :=
  x (ValueIdx.ix2 r k) * Ideal.rsqrt (Ideal.div (∑ j : Fin 2048, x (ValueIdx.ix2 r j) * x (ValueIdx.ix2 r j)) (Ideal.ofBits .f32 0x45000000#32) + Ideal.ofBits .f32 0x358637BD#32) * g k

/-- The gated product. -/
def gate (a b : EReal) : EReal := a * Ideal.logistic a * b

/-- The normalised rows times the two matrices, gated. -/
def upv {R : ℕ} (x : (Sh R 2048).Idx → EReal) (g : Fin 2048 → EReal) (wg wu : (Sh 2048 5632).Idx → EReal) : (Sh R 5632).Idx → EReal :=
  fun y => gate (∑ k : Fin 2048, nrm x g (y 0) k * wg (ValueIdx.ix2 k (y 1))) (∑ k : Fin 2048, nrm x g (y 0) k * wu (ValueIdx.ix2 k (y 1)))

/-! ## The payloads -/

/-- A normalised row, as the body computes it. -/
theorem nrm_apply {R : ℕ} (x : FVec Ideal (Sh R 2048) .f32) (g : FVec Ideal (Sh 1 2048) .f32) (hr : (Sh R 2048).Reduces [1] ⟨1, ![R]⟩) (hφ) (hacc)
    (hs : (⟨1, ![R]⟩ : Shape).ShapeCasts (Sh R 1)) (hb : (Sh R 1).Broadcasts (Sh R 2048)) (hg : (Sh 1 2048).ShapeCasts (Sh 1 2048))
    (hgb : (Sh 1 2048).Broadcasts (Sh R 2048)) (r : Fin R) (k : Fin 2048) :
    (mulf (F := Ideal) (mulf x (broadcastTo (Sh R 2048) (rsqrt (addf (divf (shapeCast (Sh R 1)
      (multiReduction (F := Ideal) .add [1] ⟨1, ![R]⟩ (mulf x x) 0x00000000#32 hr hφ hacc) hs) (broadcast (Sh R 1) (Scalar.ofBits (F := Ideal) .f32 0x45000000#32)))
      (broadcast (Sh R 1) (Scalar.ofBits (F := Ideal) .f32 0x358637BD#32)))) hb)) (broadcastTo (Sh R 2048) (shapeCast (Sh 1 2048) g hg) hgb) (ValueIdx.ix2 r k) : EReal)
      = nrm (R := R) x (fun k => g (ValueIdx.ix2 0 k)) r k := by
  unfold nrm
  refine congrArg₂ (fun a b : EReal => a * b) (congrArg (fun z : EReal => (x (ValueIdx.ix2 r k) : EReal) * z) ?_) ?_
  · rw [broadcastTo_apply _ hb (ValueIdx.ix2 r k) (ValueIdx.ix2 r (0 : Fin 1)) (fun a => by
      match a with
      | ⟨0, _⟩ =>
        show r.val = if R = 1 then 0 else r.val
        have := r.isLt
        split_ifs <;> omega
      | ⟨1, _⟩ => rfl)]
    refine congrArg Ideal.rsqrt (congrArg (fun z : EReal => z + Ideal.ofBits .f32 0x358637BD#32)
      (congrArg (fun z : EReal => Ideal.div z (Ideal.ofBits .f32 0x45000000#32)) ?_))
    rw [shapeCast_apply _ hs (ValueIdx.ix2 r (0 : Fin 1)) (ValueIdx.ix1 r) (by
      rw [Shape.rowMajor_val_one, Shape.rowMajor_val_two]
      show r.val = r.val * 1 + 0
      omega)]
    rw [Ideal.multiReduction_add_single]
    refine Finset.sum_congr rfl fun j _ => ?_
    have hj : hr.lift (ValueIdx.ix1 r) j = ValueIdx.ix2 r j := by
      funext a; apply Fin.ext
      match a with
      | ⟨0, _⟩ => rfl
      | ⟨1, _⟩ => rfl
    show (x (hr.lift (ValueIdx.ix1 r) j) : EReal) * x (hr.lift (ValueIdx.ix1 r) j) = _
    rw [hj]; rfl
  · rw [broadcastTo_apply _ hgb (ValueIdx.ix2 r k) (ValueIdx.ix2 (0 : Fin 1) k) (fun a => by
      match a with
      | ⟨0, _⟩ => rfl
      | ⟨1, _⟩ => rfl)]
    exact shapeCast_apply _ hg _ (ValueIdx.ix2 (0 : Fin 1) k) rfl

theorem pay1_apply (x : Vec Ideal S1024x2048 .f32) (g : Vec Ideal S1x2048 .f32) (r : Fin 1024) (k : Fin 2048) :
    (k0_pay1 x g (ValueIdx.ix2 r k) : EReal) = nrm (R := 1024) x (fun k => g (ValueIdx.ix2 0 k)) r k := by
  unfold k0_pay1
  refine (shapeCast_apply _ _ (ValueIdx.ix2 r k) (ValueIdx.ix2 r k) rfl).trans ?_
  exact nrm_apply (R := 1024) x g _ _ _ _ _ _ _ r k

theorem pay2_apply (x : Vec Ideal S16x2048 .f32) (g : Vec Ideal S1x2048 .f32) (r : Fin 16) (k : Fin 2048) :
    (k0_pay2 x g (ValueIdx.ix2 r k) : EReal) = nrm (R := 16) x (fun k => g (ValueIdx.ix2 0 k)) r k := by
  unfold k0_pay2
  refine (shapeCast_apply _ _ (ValueIdx.ix2 r k) (ValueIdx.ix2 r k) rfl).trans ?_
  exact nrm_apply (R := 16) x g _ _ _ _ _ _ _ r k

theorem sq (x : (⟨3, ![1, 2048, 512]⟩ : Shape).Idx → EReal) (k : Fin 2048) (q : Fin 512) (h) :
    shapeCast (Sh 2048 512) x h (ValueIdx.ix2 k q) = x (ValueIdx.ix3 0 k q) := by
  refine shapeCast_apply _ _ _ (ValueIdx.ix3 0 k q) ?_
  rw [Shape.rowMajor_val_three, Shape.rowMajor_val_two]
  show (0 * 2048 + k.val) * 512 + q.val = k.val * 512 + q.val
  omega

/-- Rows times a matrix kept with a leading axis, as the body computes it. -/
theorem dot_apply {R : ℕ} (wf) (x : FVec Ideal (Sh R 2048) .bf16) (w : FVec Ideal ⟨3, ![1, 2048, 512]⟩ .bf16) (h) (r : Fin R) (q : Fin 512) :
    (FloatOps.matmul (F := Ideal) (⟨[1], [0], [0], [1], [], [], wf⟩ : DotDims (Sh R 2048) (Sh 2048 512) (Sh R 512)) none x (shapeCast (Sh 2048 512) w h)
      (constant (Sh R 512) .f32 0x00000000#32) (ValueIdx.ix2 r q) : EReal) = ∑ k : Fin 2048, (x (ValueIdx.ix2 r k) : EReal) * (w (ValueIdx.ix3 0 k q) : EReal) := by
  refine (nn_apply (φ₁ := .bf16) (φ₂ := .bf16) wf x _ _).trans ?_
  exact Finset.sum_congr rfl fun k _ => congrArg (fun z : EReal => (x (ValueIdx.ix2 r k) : EReal) * z) (sq _ k q _)

theorem pay3_apply (x : Vec Ideal S1024x2048 .bf16) (wg wu : Vec Ideal S1x2048x512 .bf16) (r : Fin 1024) (q : Fin 512) :
    (k0_pay3 x wg wu (ValueIdx.ix2 r q) : EReal)
      = gate (∑ k : Fin 2048, (x (ValueIdx.ix2 r k) : EReal) * (wg (ValueIdx.ix3 0 k q) : EReal)) (∑ k : Fin 2048, (x (ValueIdx.ix2 r k) : EReal) * (wu (ValueIdx.ix3 0 k q) : EReal)) := by
  unfold k0_pay3
  exact congrArg₂ gate (dot_apply (R := 1024) _ x wg _ r q) (dot_apply (R := 1024) _ x wu _ r q)

theorem pay4_apply (x : Vec Ideal S16x2048 .bf16) (wg wu : Vec Ideal S1x2048x512 .bf16) (r : Fin 16) (q : Fin 512) :
    (k0_pay4 x wg wu (ValueIdx.ix2 r q) : EReal)
      = gate (∑ k : Fin 2048, (x (ValueIdx.ix2 r k) : EReal) * (wg (ValueIdx.ix3 0 k q) : EReal)) (∑ k : Fin 2048, (x (ValueIdx.ix2 r k) : EReal) * (wu (ValueIdx.ix3 0 k q) : EReal)) := by
  unfold k0_pay4
  exact congrArg₂ gate (dot_apply (R := 16) _ x wg _ r q) (dot_apply (R := 16) _ x wu _ r q)

variable (m : (ℓ : Loc nD τ sig) → Buf (Elt Ideal) ℓ) (c : Dev nD)

/-! ## The windows' blocks -/

theorem ix_3 : ∀ t : Fin cfg0.N, win0_3.index t = ![0, 0, t.val % 11] := by decide +kernel
theorem ix_4 : ∀ t : Fin cfg0.N, win0_4.index t = ![0, 0, t.val % 11] := by decide +kernel
theorem ix_5 : ∀ t : Fin cfg0.N, win0_5.index t = ![t.val / 11, t.val % 11] := by decide +kernel
theorem ix_6 : ∀ t : Fin cfg0.N, win0_6.index t = ![0, min t.val 10] := by decide +kernel

/-- A row of a point's block. -/
def row (t : Fin cfg0.N) (r : Fin 1024) : Fin 8192 := ⟨1024 * (t.val / 11) + r.val, by have := n0 t; omega⟩
/-- A column of a point's block. -/
def col (t : Fin cfg0.N) (q : Fin 512) : Fin 5632 := ⟨512 * (t.val % 11) + q.val, by omega⟩

/-- The arguments. -/
abbrev a0 : (Sh 8192 2048).Idx → EReal := m ((c.tc : Thread nD τ).loc main_arg0)
abbrev a1 : (Sh 16 2048).Idx → EReal := m ((c.tc : Thread nD τ).loc main_arg1)
abbrev a2 (k : Fin 2048) : EReal := (m ((c.tc : Thread nD τ).loc main_arg2) : (⟨1, ![2048]⟩ : Shape).Idx → EReal) (ValueIdx.ix1 k)
abbrev a3 : (Sh 2048 5632).Idx → EReal := m ((c.tc : Thread nD τ).loc main_arg3)
abbrev a4 : (Sh 2048 5632).Idx → EReal := m ((c.tc : Thread nD τ).loc main_arg4)

theorem blk0 (t : Fin cfg0.N) (r : Fin 1024) (k : Fin 2048) :
    (iblk m c 0 t (ValueIdx.ix2 r k) : EReal) = a0 m c (ValueIdx.ix2 (row t r) k) := by
  unfold a0; rw [← V_main_arg0 m c]
  unfold iblk
  blk_simp
  refine congrArg (V m c main_arg0) ?_
  funext a; apply Fin.ext
  match a with
  | ⟨0, _⟩ => blk_simp [ix0]; show _ = 1024 * (t.val / 11) + r.val; simp; omega
  | ⟨1, _⟩ => blk_simp [ix0]

theorem blk1 (t : Fin cfg0.N) (r : Fin 16) (k : Fin 2048) :
    (iblk m c 1 t (ValueIdx.ix2 r k) : EReal) = a1 m c (ValueIdx.ix2 r k) := by
  unfold a1; rw [← V_main_arg1 m c]
  unfold iblk
  blk_simp
  refine congrArg (V m c main_arg1) ?_
  funext a; apply Fin.ext
  match a with
  | ⟨0, _⟩ => blk_simp [ix1]
  | ⟨1, _⟩ => blk_simp [ix1]

theorem gain (k : Fin 2048) : (V m c main_v4 : (Sh 1 2048).Idx → EReal) (ValueIdx.ix2 0 k) = a2 m c k := by
  show StableHlo.after hostOps0 (fun b => m (c, b)) (Proc.devRef .tc main_v4) _ = _
  after_results
  refine shapeCast_apply _ _ _ (ValueIdx.ix1 k) ?_
  rw [Shape.rowMajor_val_one]
  refine Eq.trans ?_ (Shape.rowMajor_val_two (d := ![1, 2048]) (ValueIdx.ix2 0 k)).symm
  show k.val = 0 * 2048 + k.val
  omega

theorem blk2 (t : Fin cfg0.N) (k : Fin 2048) : (iblk m c 2 t (ValueIdx.ix2 0 k) : EReal) = a2 m c k := by
  rw [← gain]
  unfold iblk
  blk_simp
  refine congrArg (V m c main_v4) ?_
  funext a; apply Fin.ext
  match a with
  | ⟨0, _⟩ => blk_simp [ix2]
  | ⟨1, _⟩ => blk_simp [ix2]

theorem wgate (k : Fin 2048) (q : Fin 5632) :
    (V m c main_v1 : (⟨3, ![1, 2048, 5632]⟩ : Shape).Idx → EReal) (ValueIdx.ix3 0 k q) = a3 m c (ValueIdx.ix2 k q) := by
  show StableHlo.after hostOps0 (fun b => m (c, b)) (Proc.devRef .tc main_v1) _ = _
  after_results
  refine congrArg (m ((c.tc : Thread nD τ).loc main_arg3)) ?_
  funext a; apply Fin.ext
  match a with
  | ⟨0, _⟩ => rfl
  | ⟨1, _⟩ => rfl

theorem wup (k : Fin 2048) (q : Fin 5632) :
    (V m c main_v3 : (⟨3, ![1, 2048, 5632]⟩ : Shape).Idx → EReal) (ValueIdx.ix3 0 k q) = a4 m c (ValueIdx.ix2 k q) := by
  show StableHlo.after hostOps0 (fun b => m (c, b)) (Proc.devRef .tc main_v3) _ = _
  after_results
  refine congrArg (m ((c.tc : Thread nD τ).loc main_arg4)) ?_
  funext a; apply Fin.ext
  match a with
  | ⟨0, _⟩ => rfl
  | ⟨1, _⟩ => rfl

theorem blk3 (t : Fin cfg0.N) (k : Fin 2048) (q : Fin 512) :
    (iblk m c 3 t (ValueIdx.ix3 0 k q) : EReal) = a3 m c (ValueIdx.ix2 k (col t q)) := by
  rw [← wgate]
  unfold iblk
  blk_simp
  refine congrArg (V m c main_v1) ?_
  funext a; apply Fin.ext
  match a with
  | ⟨0, _⟩ => blk_simp [ix_3]
  | ⟨1, _⟩ => blk_simp [ix_3]
  | ⟨2, _⟩ => blk_simp [ix_3]; show _ = 512 * (t.val % 11) + q.val; simp; omega

theorem blk4 (t : Fin cfg0.N) (k : Fin 2048) (q : Fin 512) :
    (iblk m c 4 t (ValueIdx.ix3 0 k q) : EReal) = a4 m c (ValueIdx.ix2 k (col t q)) := by
  rw [← wup]
  unfold iblk
  blk_simp
  refine congrArg (V m c main_v3) ?_
  funext a; apply Fin.ext
  match a with
  | ⟨0, _⟩ => blk_simp [ix_4]
  | ⟨1, _⟩ => blk_simp [ix_4]
  | ⟨2, _⟩ => blk_simp [ix_4]; show _ = 512 * (t.val % 11) + q.val; simp; omega

/-- The prompts' normalised rows at a point. -/
theorem xn_apply (t : Fin cfg0.N) (r : Fin 1024) (k : Fin 2048) :
    (xnAt m c t (ValueIdx.ix2 r k) : EReal) = nrm (a0 m c) (a2 m c) (row t r) k := by
  unfold xnAt
  refine (pay1_apply _ _ r k).trans ?_
  unfold nrm
  simp only [blk0, blk2]

/-- The decoding tokens' normalised rows at a point. -/
theorem xs_apply (t : Fin cfg0.N) (r : Fin 16) (k : Fin 2048) :
    (xsAt m c t (ValueIdx.ix2 r k) : EReal) = nrm (a1 m c) (a2 m c) r k := by
  unfold xsAt
  refine (pay2_apply _ _ r k).trans ?_
  unfold nrm
  simp only [blk1, blk2]

/-! ## The results -/

theorem main_eq : (dat m c).arrAt 5 cfg0.N = upv (a0 m c) (a2 m c) (a3 m c) (a4 m c) := by
  refine (dat m c).arrAt_eq_of_covers 5 _ (by decide +kernel) fun t hf y => ?_
  blk_simp
  rw [after_5]
  obtain ⟨r, q, rfl⟩ : ∃ (r : Fin 1024) (q : Fin 512), y = ValueIdx.ix2 r q := ⟨y 0, y 1, by funext a; match a with | ⟨0, _⟩ => rfl | ⟨1, _⟩ => rfl⟩
  refine (pay3_apply _ _ _ r q).trans ?_
  have e : (win0_5.blk t).view.emb (ValueIdx.ix2 r q) = ValueIdx.ix2 (row t r) (col t q) := by
    funext a; apply Fin.ext
    match a with
    | ⟨0, _⟩ => blk_simp [ix_5]; show _ = 1024 * (t.val / 11) + r.val; simp; omega
    | ⟨1, _⟩ => blk_simp [ix_5]; show _ = 512 * (t.val % 11) + q.val; simp; omega
  show _ = upv (a0 m c) (a2 m c) (a3 m c) (a4 m c) ((win0_5.blk t).view.emb (ValueIdx.ix2 r q))
  rw [e]
  refine congrArg₂ gate (Finset.sum_congr rfl fun k _ => ?_) (Finset.sum_congr rfl fun k _ => ?_)
  · rw [xn_apply, blk3]
  · rw [xn_apply, blk4]

theorem side_eq : (dat m c).arrAt 6 cfg0.N = upv (a1 m c) (a2 m c) (a3 m c) (a4 m c) := by
  refine (dat m c).arrAt_eq_of_covers 6 _ (by decide +kernel) fun t hf y => ?_
  blk_simp
  rw [after_6]
  obtain ⟨r, q, rfl⟩ : ∃ (r : Fin 16) (q : Fin 512), y = ValueIdx.ix2 r q := ⟨y 0, y 1, by funext a; match a with | ⟨0, _⟩ => rfl | ⟨1, _⟩ => rfl⟩
  refine (pay4_apply _ _ _ r q).trans ?_
  have hs : (sp t).val = min t.val 10 := rfl
  have e : (win0_6.blk t).view.emb (ValueIdx.ix2 r q) = ValueIdx.ix2 r (col (sp t) q) := by
    funext a; apply Fin.ext
    match a with
    | ⟨0, _⟩ => blk_simp [ix_6]
    | ⟨1, _⟩ => blk_simp [ix_6]; show _ = 512 * ((sp t).val % 11) + q.val; simp; omega
  show _ = upv (a1 m c) (a2 m c) (a3 m c) (a4 m c) ((win0_6.blk t).view.emb (ValueIdx.ix2 r q))
  rw [e]
  refine congrArg₂ gate (Finset.sum_congr rfl fun k _ => ?_) (Finset.sum_congr rfl fun k _ => ?_)
  · rw [xs_apply, blk3]
  · rw [xs_apply, blk4]

/-! ## The reference -/

open Cert.Reference2Ideal.Read

theorem one_bits : Ideal.ofBits .f32 0x3F800000#32 = 1 := by
  have h : (Ideal.ofBits .f32 0x3F800000#32 : EReal) = ((1 : ℝ) : EReal) := by
    simp [Ideal.ofBits, Ideal.ieee, -EReal.coe_mul]; norm_num
  rw [h]; rfl

/-- The gated product as the reference writes it. -/
theorem gate_ref (a b : EReal) :
    a * Ideal.div (Ideal.ofBits .f32 0x3F800000#32) (Ideal.ofBits .f32 0x3F800000#32 + Ideal.exp (-a)) * b = gate a b := by
  rw [one_bits]; rfl

/-- The reference's normalised rows, main. -/
theorem ref_nrm_main (x : (⟨Cert.Reference2Ideal.S8192x2048, .f32⟩ : BufTy).Contents (Elt Ideal)) (g : (⟨Cert.Reference2Ideal.S2048, .f32⟩ : BufTy).Contents (Elt Ideal)) (i : Cert.Reference2Ideal.S8192x2048.Idx) :
    (val_main_v12 (F := Ideal) x g i : EReal) = nrm (R := 8192) x (fun k => g (ValueIdx.ix1 k)) (i 0) (i 1) := by
  rw [val_main_v12_apply, val_main_v9_apply, val_main_v8_apply, val_main_v7_apply, val_main_v6_apply, val_main_v4_apply,
    val_main_v2_apply, val_main_v3_apply, val_main_v5_apply, val_main_v11_apply, val_main_v10_apply, val_main_v1_apply,
    val_main_cst_apply, val_main_cst_0_apply, val_main_cst_1_apply]
  show x i * Ideal.rsqrt (Ideal.div (Ideal.ofBits .f32 0x00000000#32 + _) (Ideal.ofBits .f32 0x45000000#32) + Ideal.ofBits .f32 0x358637BD#32) * g _ = _
  rw [Ideal.ofBits_zero_f32, zero_add]
  unfold nrm
  have hi : i = ValueIdx.ix2 (i 0) (i 1) := by funext a; match a with | ⟨0, _⟩ => rfl | ⟨1, _⟩ => rfl
  refine congrArg₂ (fun a b : EReal => a * b) (congrArg₂ (fun a b : EReal => a * b) (congrArg x hi) (congrArg Ideal.rsqrt (congrArg (fun z : EReal => z + Ideal.ofBits .f32 0x358637BD#32)
    (congrArg (fun z : EReal => Ideal.div z (Ideal.ofBits .f32 0x45000000#32)) (Finset.sum_congr rfl fun j _ => ?_))))) (congrArg g ?_)
  · have hj : idx_main_v1 (idx_main_v2 (idx_main_v8 i)) j = ValueIdx.ix2 (i 0) j := by funext a; match a with | ⟨0, _⟩ => rfl | ⟨1, _⟩ => rfl
    show x (idx_main_v1 (idx_main_v2 (idx_main_v8 i)) j) * x (idx_main_v1 (idx_main_v2 (idx_main_v8 i)) j) = _
    rw [hj]; rfl
  · funext a; match a with | ⟨0, _⟩ => rfl

/-- The reference's result, main. -/
theorem ref_main (x : (⟨Cert.Reference2Ideal.S8192x2048, .f32⟩ : BufTy).Contents (Elt Ideal)) (g : (⟨Cert.Reference2Ideal.S2048, .f32⟩ : BufTy).Contents (Elt Ideal))
    (wg wu : (⟨Cert.Reference2Ideal.S2048x5632, .f32⟩ : BufTy).Contents (Elt Ideal)) :
    val_main_v17 (F := Ideal) x g wg wu = upv (R := 8192) x (fun k => g (ValueIdx.ix1 k)) wg wu := by
  funext i
  rw [val_main_v17_apply, val_main_v16_apply, val_main_v14_apply, val_main_call0_v5_apply, val_main_call0_v4_apply, val_main_call0_cst_0_apply,
    val_main_call0_v3_apply, val_main_call0_v2_apply, val_main_call0_cst_apply, val_main_call0_v1_apply, val_main_call0_v0_apply]
  have ha : (val_main_v13 (F := Ideal) x g wg i : EReal) = ∑ k : Fin 2048, nrm (R := 8192) x (fun k => g (ValueIdx.ix1 k)) (i 0) k * wg (ValueIdx.ix2 k (i 1)) := by
    rw [val_main_v13_apply]
    refine Finset.sum_congr rfl fun k _ => congrArg₂ (fun a b : EReal => a * b) (ref_nrm_main x g _) (congrArg wg ?_)
    funext a; match a with | ⟨0, _⟩ => rfl | ⟨1, _⟩ => rfl
  have hb : (val_main_v15 (F := Ideal) x g wu i : EReal) = ∑ k : Fin 2048, nrm (R := 8192) x (fun k => g (ValueIdx.ix1 k)) (i 0) k * wu (ValueIdx.ix2 k (i 1)) := by
    rw [val_main_v15_apply]
    refine Finset.sum_congr rfl fun k _ => congrArg₂ (fun a b : EReal => a * b) (ref_nrm_main x g _) (congrArg wu ?_)
    funext a; match a with | ⟨0, _⟩ => rfl | ⟨1, _⟩ => rfl
  rw [ha, hb]
  exact gate_ref _ _

/-- The reference's normalised rows, side. -/
theorem ref_nrm_side (x : (⟨Cert.Reference2Ideal.S16x2048, .f32⟩ : BufTy).Contents (Elt Ideal)) (g : (⟨Cert.Reference2Ideal.S2048, .f32⟩ : BufTy).Contents (Elt Ideal)) (i : Cert.Reference2Ideal.S16x2048.Idx) :
    (val_main_v30 (F := Ideal) x g i : EReal) = nrm (R := 16) x (fun k => g (ValueIdx.ix1 k)) (i 0) (i 1) := by
  rw [val_main_v30_apply, val_main_v27_apply, val_main_v26_apply, val_main_v25_apply, val_main_v24_apply, val_main_v22_apply,
    val_main_v20_apply, val_main_v21_apply, val_main_v23_apply, val_main_v29_apply, val_main_v28_apply, val_main_v19_apply,
    val_main_cst_2_apply, val_main_cst_3_apply, val_main_cst_4_apply]
  show x i * Ideal.rsqrt (Ideal.div (Ideal.ofBits .f32 0x00000000#32 + _) (Ideal.ofBits .f32 0x45000000#32) + Ideal.ofBits .f32 0x358637BD#32) * g _ = _
  rw [Ideal.ofBits_zero_f32, zero_add]
  unfold nrm
  have hi : i = ValueIdx.ix2 (i 0) (i 1) := by funext a; match a with | ⟨0, _⟩ => rfl | ⟨1, _⟩ => rfl
  refine congrArg₂ (fun a b : EReal => a * b) (congrArg₂ (fun a b : EReal => a * b) (congrArg x hi) (congrArg Ideal.rsqrt (congrArg (fun z : EReal => z + Ideal.ofBits .f32 0x358637BD#32)
    (congrArg (fun z : EReal => Ideal.div z (Ideal.ofBits .f32 0x45000000#32)) (Finset.sum_congr rfl fun j _ => ?_))))) (congrArg g ?_)
  · have hj : idx_main_v19 (idx_main_v20 (idx_main_v26 i)) j = ValueIdx.ix2 (i 0) j := by funext a; match a with | ⟨0, _⟩ => rfl | ⟨1, _⟩ => rfl
    show x (idx_main_v19 (idx_main_v20 (idx_main_v26 i)) j) * x (idx_main_v19 (idx_main_v20 (idx_main_v26 i)) j) = _
    rw [hj]; rfl
  · funext a; match a with | ⟨0, _⟩ => rfl

/-- The reference's result, side. -/
theorem ref_side (x : (⟨Cert.Reference2Ideal.S16x2048, .f32⟩ : BufTy).Contents (Elt Ideal)) (g : (⟨Cert.Reference2Ideal.S2048, .f32⟩ : BufTy).Contents (Elt Ideal))
    (wg wu : (⟨Cert.Reference2Ideal.S2048x5632, .f32⟩ : BufTy).Contents (Elt Ideal)) :
    val_main_v35 (F := Ideal) x g wg wu = upv (R := 16) x (fun k => g (ValueIdx.ix1 k)) wg wu := by
  funext i
  rw [val_main_v35_apply, val_main_v34_apply, val_main_v32_apply, val_main_call1_v5_apply, val_main_call1_v4_apply, val_main_call1_cst_0_apply,
    val_main_call1_v3_apply, val_main_call1_v2_apply, val_main_call1_cst_apply, val_main_call1_v1_apply, val_main_call1_v0_apply]
  have ha : (val_main_v31 (F := Ideal) x g wg i : EReal) = ∑ k : Fin 2048, nrm (R := 16) x (fun k => g (ValueIdx.ix1 k)) (i 0) k * wg (ValueIdx.ix2 k (i 1)) := by
    rw [val_main_v31_apply]
    refine Finset.sum_congr rfl fun k _ => congrArg₂ (fun a b : EReal => a * b) (ref_nrm_side x g _) (congrArg wg ?_)
    funext a; match a with | ⟨0, _⟩ => rfl | ⟨1, _⟩ => rfl
  have hb : (val_main_v33 (F := Ideal) x g wu i : EReal) = ∑ k : Fin 2048, nrm (R := 16) x (fun k => g (ValueIdx.ix1 k)) (i 0) k * wu (ValueIdx.ix2 k (i 1)) := by
    rw [val_main_v33_apply]
    refine Finset.sum_congr rfl fun k _ => congrArg₂ (fun a b : EReal => a * b) (ref_nrm_side x g _) (congrArg wu ?_)
    funext a; match a with | ⟨0, _⟩ => rfl | ⟨1, _⟩ => rfl
  rw [ha, hb]
  exact gate_ref _ _

end Cert.Kernel2Ideal.KV

end
-- ==== Proof.K3Run.lean ====
/- The down projection's call: what its body leaves at each grid point, the side result's buffer carried over the points that do not
   touch it, and the run's contents at the end. -/
module

public import proofs.«01_k».proof.Proof.Gen.Kernel3Ideal.Frame
public import proofs.«01_k».proof.Proof.Gen.Kernel3Ideal.Skeleton
public import Idealize.ShloMosaic.Lib.Pipeline.ValueKit.Acc
public import proofs.«01_k».proof.Proof.KStore

@[expose] public section

set_option maxRecDepth 16384

noncomputable section

namespace Cert.Kernel3Ideal.KV

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal.Gen
open Cert.KStore (off2 read_store)

variable {F : FTy → Type} [FloatOps F]

local notation "𝕄" => MT nD τ sig Unit (Elt F) ℕ (UR sig nD τ) ℕ

set_option maxHeartbeats 1000000 in
/-- The body where the condition holds. -/
theorem body_A (c : Dev nD) (i : grid0.Coords) (hc : k0_cond1 i = 1#1) (arg2 : Memref sig .tc .vmem S1024x5632 .bf16) (harg2 : arg2.IsWhole) (arg3 : Memref sig .tc .vmem S16x5632 .bf16) (harg3 : arg3.IsWhole) (arg4 : Memref sig .tc .vmem S1x5632x512 .bf16) (harg4 : arg4.IsWhole) (arg5 : Memref sig .tc .vmem S1024x512 .f32) (harg5 : arg5.IsWhole) (arg6 : Memref sig .tc .vmem S16x512 .f32) (harg6 : arg6.IsWhole) (arg7 : Memref sig .tc .vmem S1024x512 .f32) (harg7 : arg7.IsWhole) (arg8 : Memref sig .tc .vmem S16x512 .f32) (harg8 : arg8.IsWhole)
    (x0 : Vec F S1024x5632 .bf16) (x1 : Vec F S16x5632 .bf16) (x2 : Vec F S1x5632x512 .bf16) (x3 : Vec F S1024x512 .f32) (x4 : Vec F S16x512 .f32) (E : Set ℕ) (K : PUnit → sProp 𝕄) :
    iprop(owns c arg2 fullShare x0 ∗ owns c arg3 fullShare x1 ∗ owns c arg4 fullShare x2 ∗ owns c arg5 fullShare x3 ∗ owns c arg6 fullShare x4 ∗ (∃ d, owns c arg7 fullShare d) ∗ (∃ d, owns c arg8 fullShare d)
        ∗ (iprop(owns c arg2 fullShare x0 ∗ owns c arg3 fullShare x1 ∗ owns c arg4 fullShare x2 ∗ owns c arg5 fullShare x3 ∗ owns c arg6 fullShare x4 ∗ owns c arg7 fullShare (k0_pay1 x0 x2 x3) ∗ owns c arg8 fullShare (k0_pay2 x1 x2 x4)) -∗ K ⟨⟩))
      ⊢ wp frame (wpE (defs₀ (F := F)) Variants.none c none) E (cc0_ffn_down i arg2 harg2 arg3 harg3 arg4 harg4 arg5 harg5 arg6 harg6 arg7 harg7 arg8 harg8) K := by
  simp only [cc0_ffn_down_eq_skeleton]; unfold cc0_ffn_down_skel
  rw [dif_pos hc]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  obtain rfl := harg2.eq_unread hf0; obtain rfl := harg3.eq_unread hf1; obtain rfl := harg4.eq_unread hf2; obtain rfl := harg5.eq_unread hf3; obtain rfl := harg6.eq_unread hf4
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    rw [read_store _ off2]
    simp (disch := decide) only [View.readAt_eq_ld, harg2.read_unread, harg4.read_unread, harg5.read_unread, View.ld_unit_lit']
  iexists _; isplitr
  swap; · iexact H6
  ipureintro
  rw [read_store _ off2]
  simp (disch := decide) only [View.readAt_eq_ld, harg3.read_unread, harg4.read_unread, harg6.read_unread, View.ld_unit_lit']

set_option maxHeartbeats 1000000 in
/-- The body where the condition fails. -/
theorem body_B (c : Dev nD) (i : grid0.Coords) (hc : ¬ k0_cond1 i = 1#1) (arg2 : Memref sig .tc .vmem S1024x5632 .bf16) (harg2 : arg2.IsWhole) (arg3 : Memref sig .tc .vmem S16x5632 .bf16) (harg3 : arg3.IsWhole) (arg4 : Memref sig .tc .vmem S1x5632x512 .bf16) (harg4 : arg4.IsWhole) (arg5 : Memref sig .tc .vmem S1024x512 .f32) (harg5 : arg5.IsWhole) (arg6 : Memref sig .tc .vmem S16x512 .f32) (harg6 : arg6.IsWhole) (arg7 : Memref sig .tc .vmem S1024x512 .f32) (harg7 : arg7.IsWhole) (arg8 : Memref sig .tc .vmem S16x512 .f32) (harg8 : arg8.IsWhole)
    (x0 : Vec F S1024x5632 .bf16) (x1 : Vec F S16x5632 .bf16) (x2 : Vec F S1x5632x512 .bf16) (x3 : Vec F S1024x512 .f32) (x4 : Vec F S16x512 .f32) (x6 : Vec F S16x512 .f32) (E : Set ℕ) (K : PUnit → sProp 𝕄) :
    iprop(owns c arg2 fullShare x0 ∗ owns c arg3 fullShare x1 ∗ owns c arg4 fullShare x2 ∗ owns c arg5 fullShare x3 ∗ owns c arg6 fullShare x4 ∗ (∃ d, owns c arg7 fullShare d) ∗ owns c arg8 fullShare x6
        ∗ (iprop(owns c arg2 fullShare x0 ∗ owns c arg3 fullShare x1 ∗ owns c arg4 fullShare x2 ∗ owns c arg5 fullShare x3 ∗ owns c arg6 fullShare x4 ∗ owns c arg7 fullShare (k0_pay1 x0 x2 x3) ∗ owns c arg8 fullShare x6) -∗ K ⟨⟩))
      ⊢ wp frame (wpE (defs₀ (F := F)) Variants.none c none) E (cc0_ffn_down i arg2 harg2 arg3 harg3 arg4 harg4 arg5 harg5 arg6 harg6 arg7 harg7 arg8 harg8) K := by
  simp only [cc0_ffn_down_eq_skeleton]; unfold cc0_ffn_down_skel
  rw [dif_neg hc]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
  obtain rfl := harg2.eq_unread hf0; obtain rfl := harg3.eq_unread hf1; obtain rfl := harg4.eq_unread hf2; obtain rfl := harg5.eq_unread hf3; obtain rfl := harg6.eq_unread hf4; obtain rfl := harg8.eq_unread hf6
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    rw [read_store _ off2]
    simp (disch := decide) only [View.readAt_eq_ld, harg2.read_unread, harg4.read_unread, harg5.read_unread, View.ld_unit_lit']
  iexists _; isplitr; · ipureintro; exact harg8.read_unread _
  iexact H6

variable (m : (ℓ : Loc nD τ sig) → Buf (Elt F) ℓ) (ρ : Dev nD → PrngReg)

/-! ## The proof data -/

theorem n0 (t : Fin cfg0.N) : t.val < 32 := t.isLt
theorem cond_iff : ∀ t : Fin cfg0.N, k0_cond1 (grid0.coords t) = 1#1 ↔ t.val < 4 := by decide +kernel
theorem idle_eq : ∀ t : Fin cfg0.N, idle0 6 (grid0.coords t) = decide (4 ≤ t.val) := by decide +kernel
theorem flush6_eq : ∀ t : Fin cfg0.N, win0_6.flush t = decide (t.val < 3 ∨ t.val = 31) := by decide +kernel

/-- The point whose side block the buffer holds after point `t`: the point itself in the first row of the grid, that row's last one later. -/
def sp (t : Fin cfg0.N) : Fin cfg0.N := ⟨min t.val 3, Nat.lt_of_le_of_lt (Nat.min_le_left _ _) t.isLt⟩

/-- The main result's block at a point. -/
def mainAt (c : Dev nD) (t : Fin cfg0.N) : Vec F S1024x512 .f32 := k0_pay1 (iblk m c 0 t) (iblk m c 2 t) (iblk m c 3 t)
/-- The side result's block at a point. -/
def sideAt (c : Dev nD) (t : Fin cfg0.N) : Vec F S16x512 .f32 := k0_pay2 (iblk m c 1 t) (iblk m c 2 t) (iblk m c 4 t)

/-- The proof data: every input's buffer at its block, the main result's at the point's block, the side result's at the block last stored. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => mainAt m c t
    | ⟨6, _⟩ => sideAt m c (sp t)
  Φ _ := Pipeline.ΦA spec0 c
  q _ := fullShare
  owed _ := 0

theorem A_eq (c : Dev nD) (w : Fin cfg0.W) : (dat m c).A w = V m c (Pipeline.arrRef spec0 w) := by
  dsimp only [dat]
theorem after_0 (c : Dev nD) (t : Fin cfg0.N) : (dat m c).after 0 t = iblk m c 0 t := by dsimp only [dat]
theorem after_1 (c : Dev nD) (t : Fin cfg0.N) : (dat m c).after 1 t = iblk m c 1 t := by dsimp only [dat]
theorem after_2 (c : Dev nD) (t : Fin cfg0.N) : (dat m c).after 2 t = iblk m c 2 t := by dsimp only [dat]
theorem after_3 (c : Dev nD) (t : Fin cfg0.N) : (dat m c).after 3 t = iblk m c 3 t := by dsimp only [dat]
theorem after_4 (c : Dev nD) (t : Fin cfg0.N) : (dat m c).after 4 t = iblk m c 4 t := by dsimp only [dat]
theorem after_5 (c : Dev nD) (t : Fin cfg0.N) : (dat m c).after 5 t = mainAt m c t := by dsimp only [dat]
theorem after_6 (c : Dev nD) (t : Fin cfg0.N) : (dat m c).after 6 t = sideAt m c (sp t) := by dsimp only [dat]
theorem before_0 (c : Dev nD) (t : Fin cfg0.N) (d) : (dat m c).before 0 t d = iblk m c 0 t :=
  before0_0_of m (dat m c) (A_eq m c 0) (after_0 m c) t d
theorem before_1 (c : Dev nD) (t : Fin cfg0.N) (d) : (dat m c).before 1 t d = iblk m c 1 t :=
  before0_1_of m (dat m c) (A_eq m c 1) (after_1 m c) t d
theorem before_2 (c : Dev nD) (t : Fin cfg0.N) (d) : (dat m c).before 2 t d = iblk m c 2 t :=
  before0_2_of m (dat m c) (A_eq m c 2) (after_2 m c) t d
theorem before_3 (c : Dev nD) (t : Fin cfg0.N) (d) : (dat m c).before 3 t d = iblk m c 3 t :=
  before0_3_of m (dat m c) (A_eq m c 3) (after_3 m c) t d
theorem before_4 (c : Dev nD) (t : Fin cfg0.N) (d) : (dat m c).before 4 t d = iblk m c 4 t :=
  before0_4_of m (dat m c) (A_eq m c 4) (after_4 m c) t d

/-- Past the grid's first row the side result's buffer holds that row's last block. -/
theorem before_6 (c : Dev nD) (d) : ∀ (n : ℕ) (t : Fin cfg0.N), t.val = 4 + n → (dat m c).before 6 t d = sideAt m c (sp t) := by
  intro n
  induction n with
  | zero =>
    intro t ht
    have h0 : t.val ≠ 0 := by omega
    rw [(dat m c).before_of_pos 6 t h0 ((cfg0.win 6).fetch_out rfl t)]
    rw [show (cfg0.win 6).flush ⟨t.val - 1, Nat.lt_of_le_of_lt (Nat.sub_le _ _) t.isLt⟩ = false from
      (flush6_eq _).trans (decide_eq_false (by show ¬ (t.val - 1 < 3 ∨ t.val - 1 = 31); omega))]
    rw [if_neg Bool.false_ne_true]
    unfold Dat.left
    rw [show cfg0.idle 6 (cfg0.grid.coords ⟨t.val - 1, Nat.lt_of_le_of_lt (Nat.sub_le _ _) t.isLt⟩) = false from
      (idle_eq _).trans (decide_eq_false (by show ¬ (4 ≤ t.val - 1); omega))]
    dsimp only
    unfold Dat.kept
    rw [Pipeline.fill_of_clip_none 6 _ (fun _ => rfl) d ((dat m c).after 6 _), Window.fill_cut, after_6]
    congr 1
    refine Fin.ext ?_
    show min (t.val - 1) 3 = min t.val 3
    omega
  | succ n ih =>
    intro t ht
    have h0 : t.val ≠ 0 := by omega
    rw [(dat m c).before_of_pos 6 t h0 ((cfg0.win 6).fetch_out rfl t)]
    rw [show (cfg0.win 6).flush ⟨t.val - 1, Nat.lt_of_le_of_lt (Nat.sub_le _ _) t.isLt⟩ = false from
      (flush6_eq _).trans (decide_eq_false (by show ¬ (t.val - 1 < 3 ∨ t.val - 1 = 31); have := n0 t; omega))]
    rw [if_neg Bool.false_ne_true]
    unfold Dat.left
    rw [show cfg0.idle 6 (cfg0.grid.coords ⟨t.val - 1, Nat.lt_of_le_of_lt (Nat.sub_le _ _) t.isLt⟩) = true from
      (idle_eq _).trans (decide_eq_true (by show 4 ≤ t.val - 1; omega))]
    dsimp only
    rw [ih ⟨t.val - 1, Nat.lt_of_le_of_lt (Nat.sub_le _ _) t.isLt⟩ (by show t.val - 1 = 4 + n; omega)]
    congr 1
    refine Fin.ext ?_
    show min (t.val - 1) 3 = min t.val 3
    omega

/-! ## The body obligation -/

/-- What the body is called with at a point, -/
def bodyPre (c : Dev nD) (t : Fin cfg0.N) : sProp 𝕄 :=
  iprop((dat m c).Φ t.castSucc ∗ (dat m c).owesAt () t.castSucc
    ∗ (∃ d, owns c (st0_0 t) fullShare ((dat m c).before 0 t d))
    ∗ (∃ d, owns c (st0_1 t) fullShare ((dat m c).before 1 t d))
    ∗ (∃ d, owns c (st0_2 t) fullShare ((dat m c).before 2 t d))
    ∗ (∃ d, owns c (st0_3 t) fullShare ((dat m c).before 3 t d))
    ∗ (∃ d, owns c (st0_4 t) fullShare ((dat m c).before 4 t d))
    ∗ (∃ d, owns c (st0_5 t) fullShare ((dat m c).before 5 t d))
    ∗ (∃ d, owns c (st0_6 t) fullShare ((dat m c).before 6 t d)))

/-- and what it returns. -/
def bodyPost (c : Dev nD) (t : Fin cfg0.N) : sProp 𝕄 :=
  iprop((dat m c).Φ t.succ ∗ (dat m c).owesAt () t.succ
    ∗ owns c (st0_0 t) fullShare ((dat m c).after 0 t)
    ∗ owns c (st0_1 t) fullShare ((dat m c).after 1 t)
    ∗ owns c (st0_2 t) fullShare ((dat m c).after 2 t)
    ∗ owns c (st0_3 t) fullShare ((dat m c).after 3 t)
    ∗ owns c (st0_4 t) fullShare ((dat m c).after 4 t)
    ∗ owns c (st0_5 t) fullShare ((dat m c).after 5 t)
    ∗ (dat m c).leavesExact 6 t)

/-- The side result's buffer after the body, past the grid's first row. -/
theorem leaves_idle (c : Dev nD) (t : Fin cfg0.N) (h : 4 ≤ t.val) :
    owns c (st0_6 t) fullShare (sideAt m c (sp t)) ⊢ ((dat m c).leavesExact 6 t : sProp 𝕄) := by
  unfold Dat.leavesExact
  rw [show cfg0.idle 6 (cfg0.grid.coords t) = true from (idle_eq t).trans (decide_eq_true h)]
  dsimp only
  cases (cfg0.win 6).flush t
  · dsimp only
    iintro H
    iexists (sideAt m c (sp t))
    rw [before_6 m c _ (t.val - 4) t (by omega)]
    iexact H
  · dsimp only
    rw [after_6]

/-- The side result's buffer after the body, in the grid's first row. -/
theorem leaves_live (c : Dev nD) (t : Fin cfg0.N) (h : t.val < 4) :
    owns c (st0_6 t) fullShare (sideAt m c t) ⊢ ((dat m c).leavesExact 6 t : sProp 𝕄) := by
  unfold Dat.leavesExact
  rw [show cfg0.idle 6 (cfg0.grid.coords t) = false from (idle_eq t).trans (decide_eq_false (by omega))]
  dsimp only
  rw [after_6, show sp t = t from Fin.ext (by show min t.val 3 = t.val; omega)]

set_option maxHeartbeats 1000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dat m c).Φ t.succ = (dat m c).Φ t.castSucc from rfl,
    show (dat m c).owesAt () t.succ = (dat m c).owesAt () t.castSucc from rfl,
    after_0, after_1, after_2, after_3, after_4, after_5]
  by_cases hc : t.val < 4
  · iintro ⟨HΦ, Ho, ⟨%d0, H0⟩, ⟨%d1, H1⟩, ⟨%d2, H2⟩, ⟨%d3, H3⟩, ⟨%d4, H4⟩, ⟨%d5, H5⟩, ⟨%d6, H6⟩⟩
    iapply (body_A c (grid0.coords t) ((cond_iff t).mpr hc) _ _ _ _ _ _ _ _ _ _ _ _ _ _ (iblk m c 0 t) (iblk m c 1 t) (iblk m c 2 t) (iblk m c 3 t) (iblk m c 4 t) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iapply (leaves_live m c t hc)
    iexact H6
  · have h4 : 4 ≤ t.val := by omega
    have hb := fun d => before_6 m c d (t.val - 4) t (by omega)
    simp only [hb]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (body_B c (grid0.coords t) (fun h => hc ((cond_iff t).mp h)) _ _ _ _ _ _ _ _ _ _ _ _ _ _ (iblk m c 0 t) (iblk m c 1 t) (iblk m c 2 t) (iblk m c 3 t) (iblk m c 4 t) (sideAt m c (sp t)) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iapply (leaves_idle m c t h4)
    iexact H6

/-- The body table's row at a point. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dat (F := F) m c) (defs₀ (F := F)) Variants.none () Set.univ := fun t => by
  rw [bigSep_W0, bigSep_W0, defs₀_row]
  exact triple_restated (sound_body m c t) rfl .rfl fun _ => .rfl

/-! ## The run -/

/-- The proof data of the program's one call. -/
def dats (p : Fin 1) (c : Dev nD) : Dat τ (Elt F) Unit ℕ (UR sig nD τ) ℕ (cfgs p) c := dat m c

/-- Every run ends with each result at the contents the write-backs leave, the arguments unchanged and every counter at zero. -/
theorem run : θ_run defs (onTc (τ := τ) (main (F := F))) ⟨m, fun _ => 0, ρ⟩ (fun r => (∀ c : Dev nD,
      r.2.mem ((c.tc : Thread nD τ).loc main_v2_0) = (dat m c).arrAt 5 cfg0.N
      ∧ r.2.mem ((c.tc : Thread nD τ).loc main_v2_1) = (dat m c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)
    (hQ' := fun r h => ⟨fun c => ⟨(h.1 c).1 5, (h.1 c).1 6,
      ((h.1 c).1 0).trans (((dat m c).arrAt_in 0 rfl _).trans ((A_eq m c 0).trans (V_main_arg0 m c))),
      ((h.1 c).1 1).trans (((dat m c).arrAt_in 1 rfl _).trans ((A_eq m c 1).trans (V_main_arg1 m c))),
      ((h.1 c).1 3).trans (((dat m c).arrAt_in 3 rfl _).trans ((A_eq m c 3).trans (V_main_arg2 m c))),
      ((h.1 c).1 4).trans (((dat m c).arrAt_in 4 rfl _).trans ((A_eq m c 4).trans (V_main_arg3 m c))),
      ((h.1 c).2 main_arg4 (Pipeline.mem_restRefs_of main_arg4 (by decide) (by decide))).trans (V_main_arg4 m c)⟩, h.2⟩)

end Cert.Kernel3Ideal.KV

end
-- ==== Proof.K3Value.lean ====
/- The down projection's results, element by element: the residual plus the row's product with the weights. -/
module

public import proofs.«01_k».proof.Proof.K3Run
public import proofs.«01_k».proof.Proof.KHelp
public import proofs.«01_k».proof.Proof.Gen.Reference3Ideal.Read
public import Idealize.ShloMosaic.Lib.Pipeline.ValueKit

@[expose] public section

set_option maxRecDepth 16384
set_option backward.isDefEq.respectTransparency false

noncomputable section

namespace Cert.Kernel3Ideal.KV

open Idealize.ShloMosaic Idealize.ShloMosaic.TcCoe Idealize.ShloMosaic.ValueIdx
open Cert.Kernel3Ideal.Gen Cert.KHelp
open Idealize.ShloMosaic.Pipeline (Dat Cfg Window BodyObligation cellOf)

/-- A residual plus rows times weights. -/
def down {R : ℕ} (a : (Sh R 5632).Idx → EReal) (x : (Sh R 2048).Idx → EReal) (w : (Sh 5632 2048).Idx → EReal) : (Sh R 2048).Idx → EReal :=
  fun y => x y + ∑ k : Fin 5632, a (ValueIdx.ix2 (y 0) k) * w (ValueIdx.ix2 k (y 1))

theorem sq (x : (⟨3, ![1, 5632, 512]⟩ : Shape).Idx → EReal) (k : Fin 5632) (q : Fin 512) :
    shapeCast (Sh 5632 512) x (by decide) (ValueIdx.ix2 k q) = x (ValueIdx.ix3 0 k q) := by
  refine shapeCast_apply _ _ _ (ValueIdx.ix3 0 k q) ?_
  rw [Shape.rowMajor_val_three, Shape.rowMajor_val_two]
  show (0 * 5632 + k.val) * 512 + q.val = k.val * 512 + q.val
  omega

theorem pay1_apply (x0 : Vec Ideal S1024x5632 .bf16) (x2 : Vec Ideal S1x5632x512 .bf16) (x3 : Vec Ideal S1024x512 .f32) (r : Fin 1024) (q : Fin 512) :
    (k0_pay1 x0 x2 x3 (ValueIdx.ix2 r q) : EReal) = (x3 (ValueIdx.ix2 r q) : EReal) + ∑ k : Fin 5632, (x0 (ValueIdx.ix2 r k) : EReal) * (x2 (ValueIdx.ix3 0 k q) : EReal) := by
  unfold k0_pay1
  refine congrArg (fun z : EReal => (x3 (ValueIdx.ix2 r q) : EReal) + z) ?_
  refine (nn_apply (φ₁ := .bf16) (φ₂ := .bf16) _ _ _ _).trans ?_
  exact Finset.sum_congr rfl fun k _ => congrArg (fun z : EReal => (x0 (ValueIdx.ix2 r k) : EReal) * z) (sq _ k q)

theorem pay2_apply (x0 : Vec Ideal S16x5632 .bf16) (x2 : Vec Ideal S1x5632x512 .bf16) (x3 : Vec Ideal S16x512 .f32) (r : Fin 16) (q : Fin 512) :
    (k0_pay2 x0 x2 x3 (ValueIdx.ix2 r q) : EReal) = (x3 (ValueIdx.ix2 r q) : EReal) + ∑ k : Fin 5632, (x0 (ValueIdx.ix2 r k) : EReal) * (x2 (ValueIdx.ix3 0 k q) : EReal) := by
  unfold k0_pay2
  refine congrArg (fun z : EReal => (x3 (ValueIdx.ix2 r q) : EReal) + z) ?_
  refine (nn_apply (φ₁ := .bf16) (φ₂ := .bf16) _ _ _ _).trans ?_
  exact Finset.sum_congr rfl fun k _ => congrArg (fun z : EReal => (x0 (ValueIdx.ix2 r k) : EReal) * z) (sq _ k q)

variable (m : (ℓ : Loc nD τ sig) → Buf (Elt Ideal) ℓ) (c : Dev nD)

/-! ## The windows' blocks -/

theorem ix_0 : ∀ t : Fin cfg0.N, win0_0.index t = ![t.val / 4, 0] := by decide +kernel
theorem ix_1 : ∀ t : Fin cfg0.N, win0_1.index t = ![0, 0] := by decide +kernel
theorem ix_2 : ∀ t : Fin cfg0.N, win0_2.index t = ![0, 0, t.val % 4] := by decide +kernel
theorem ix_3 : ∀ t : Fin cfg0.N, win0_3.index t = ![t.val / 4, t.val % 4] := by decide +kernel
theorem ix_4 : ∀ t : Fin cfg0.N, t.val < 4 → win0_4.index t = ![0, t.val] := by decide +kernel
theorem ix_5 : ∀ t : Fin cfg0.N, win0_5.index t = ![t.val / 4, t.val % 4] := by decide +kernel
theorem ix_6 : ∀ t : Fin cfg0.N, win0_6.index t = ![0, min t.val 3] := by decide +kernel

/-- A row of a point's block. -/
def row (t : Fin cfg0.N) (r : Fin 1024) : Fin 8192 := ⟨1024 * (t.val / 4) + r.val, by have := n0 t; omega⟩
/-- A column of a point's block. -/
def col (t : Fin cfg0.N) (q : Fin 512) : Fin 2048 := ⟨512 * (t.val % 4) + q.val, by omega⟩

/-- The arguments. -/
abbrev a0 : (Sh 8192 5632).Idx → EReal := m ((c.tc : Thread nD τ).loc main_arg0)
abbrev a1 : (Sh 16 5632).Idx → EReal := m ((c.tc : Thread nD τ).loc main_arg1)
abbrev a2 : (Sh 8192 2048).Idx → EReal := m ((c.tc : Thread nD τ).loc main_arg2)
abbrev a3 : (Sh 16 2048).Idx → EReal := m ((c.tc : Thread nD τ).loc main_arg3)
abbrev a4 : (Sh 5632 2048).Idx → EReal := m ((c.tc : Thread nD τ).loc main_arg4)

theorem blk0 (t : Fin cfg0.N) (r : Fin 1024) (k : Fin 5632) :
    (iblk m c 0 t (ValueIdx.ix2 r k) : EReal) = a0 m c (ValueIdx.ix2 (row t r) k) := by
  unfold a0; rw [← V_main_arg0 m c]
  unfold iblk
  blk_simp
  refine congrArg (V m c main_arg0) ?_
  funext a; apply Fin.ext
  match a with
  | ⟨0, _⟩ => blk_simp [ix_0]; show _ = 1024 * (t.val / 4) + r.val; simp; omega
  | ⟨1, _⟩ => blk_simp [ix_0]

theorem blk1 (t : Fin cfg0.N) (r : Fin 16) (k : Fin 5632) :
    (iblk m c 1 t (ValueIdx.ix2 r k) : EReal) = a1 m c (ValueIdx.ix2 r k) := by
  unfold a1; rw [← V_main_arg1 m c]
  unfold iblk
  blk_simp
  refine congrArg (V m c main_arg1) ?_
  funext a; apply Fin.ext
  match a with
  | ⟨0, _⟩ => blk_simp [ix_1]
  | ⟨1, _⟩ => blk_simp [ix_1]

theorem weights (k : Fin 5632) (q : Fin 2048) :
    (V m c main_v1 : (⟨3, ![1, 5632, 2048]⟩ : Shape).Idx → EReal) (ValueIdx.ix3 0 k q) = a4 m c (ValueIdx.ix2 k q) := by
  show StableHlo.after hostOps0 (fun b => m (c, b)) (Proc.devRef .tc main_v1) _ = _
  after_results
  refine congrArg (m ((c.tc : Thread nD τ).loc main_arg4)) ?_
  funext a; apply Fin.ext
  match a with
  | ⟨0, _⟩ => rfl
  | ⟨1, _⟩ => rfl

theorem blk2 (t : Fin cfg0.N) (k : Fin 5632) (q : Fin 512) :
    (iblk m c 2 t (ValueIdx.ix3 0 k q) : EReal) = a4 m c (ValueIdx.ix2 k (col t q)) := by
  rw [← weights]
  unfold iblk
  blk_simp
  refine congrArg (V m c main_v1) ?_
  funext a; apply Fin.ext
  match a with
  | ⟨0, _⟩ => blk_simp [ix_2]
  | ⟨1, _⟩ => blk_simp [ix_2]
  | ⟨2, _⟩ => blk_simp [ix_2]; show _ = 512 * (t.val % 4) + q.val; simp; omega

theorem blk3 (t : Fin cfg0.N) (r : Fin 1024) (q : Fin 512) :
    (iblk m c 3 t (ValueIdx.ix2 r q) : EReal) = a2 m c (ValueIdx.ix2 (row t r) (col t q)) := by
  unfold a2; rw [← V_main_arg2 m c]
  unfold iblk
  blk_simp
  refine congrArg (V m c main_arg2) ?_
  funext a; apply Fin.ext
  match a with
  | ⟨0, _⟩ => blk_simp [ix_3]; show _ = 1024 * (t.val / 4) + r.val; simp; omega
  | ⟨1, _⟩ => blk_simp [ix_3]; show _ = 512 * (t.val % 4) + q.val; simp; omega

theorem blk4 (t : Fin cfg0.N) (ht : t.val < 4) (r : Fin 16) (q : Fin 512) :
    (iblk m c 4 t (ValueIdx.ix2 r q) : EReal) = a3 m c (ValueIdx.ix2 r (col t q)) := by
  unfold a3; rw [← V_main_arg3 m c]
  unfold iblk
  blk_simp
  refine congrArg (V m c main_arg3) ?_
  funext a; apply Fin.ext
  match a with
  | ⟨0, _⟩ => blk_simp [ix_4 t ht]
  | ⟨1, _⟩ => blk_simp [ix_4 t ht]; show _ = 512 * (t.val % 4) + q.val; simp; omega

/-! ## The results -/

theorem main_eq : (dat m c).arrAt 5 cfg0.N = down (a0 m c) (a2 m c) (a4 m c) := by
  refine (dat m c).arrAt_eq_of_covers 5 _ (by decide +kernel) fun t hf y => ?_
  blk_simp
  rw [after_5]
  obtain ⟨r, q, rfl⟩ : ∃ (r : Fin 1024) (q : Fin 512), y = ValueIdx.ix2 r q := ⟨y 0, y 1, by funext a; match a with | ⟨0, _⟩ => rfl | ⟨1, _⟩ => rfl⟩
  refine (pay1_apply _ _ _ r q).trans ?_
  have e : (win0_5.blk t).view.emb (ValueIdx.ix2 r q) = ValueIdx.ix2 (row t r) (col t q) := by
    funext a; apply Fin.ext
    match a with
    | ⟨0, _⟩ => blk_simp [ix_5]; show _ = 1024 * (t.val / 4) + r.val; simp; omega
    | ⟨1, _⟩ => blk_simp [ix_5]; show _ = 512 * (t.val % 4) + q.val; simp; omega
  show _ = down (a0 m c) (a2 m c) (a4 m c) ((win0_5.blk t).view.emb (ValueIdx.ix2 r q))
  rw [e, blk3]
  refine congrArg (fun z : EReal => a2 m c (ValueIdx.ix2 (row t r) (col t q)) + z) ?_
  refine Finset.sum_congr rfl fun k _ => ?_
  rw [blk0, blk2]

theorem side_eq : (dat m c).arrAt 6 cfg0.N = down (a1 m c) (a3 m c) (a4 m c) := by
  refine (dat m c).arrAt_eq_of_covers 6 _ (by decide +kernel) fun t hf y => ?_
  blk_simp
  rw [after_6]
  obtain ⟨r, q, rfl⟩ : ∃ (r : Fin 16) (q : Fin 512), y = ValueIdx.ix2 r q := ⟨y 0, y 1, by funext a; match a with | ⟨0, _⟩ => rfl | ⟨1, _⟩ => rfl⟩
  refine (pay2_apply _ _ _ r q).trans ?_
  have hs : (sp t).val = min t.val 3 := rfl
  have e : (win0_6.blk t).view.emb (ValueIdx.ix2 r q) = ValueIdx.ix2 r (col (sp t) q) := by
    funext a; apply Fin.ext
    match a with
    | ⟨0, _⟩ => blk_simp [ix_6]
    | ⟨1, _⟩ => blk_simp [ix_6]; show _ = 512 * ((sp t).val % 4) + q.val; simp; omega
  show _ = down (a1 m c) (a3 m c) (a4 m c) ((win0_6.blk t).view.emb (ValueIdx.ix2 r q))
  rw [e, blk4 m c _ (by omega)]
  refine congrArg (fun z : EReal => a3 m c (ValueIdx.ix2 r (col (sp t) q)) + z) ?_
  refine Finset.sum_congr rfl fun k _ => ?_
  rw [blk1, blk2]

/-! ## The reference -/

theorem ref_main (x0 : (⟨Cert.Reference3Ideal.S8192x5632, .bf16⟩ : BufTy).Contents (Elt Ideal)) (x2 : (⟨Cert.Reference3Ideal.S8192x2048, .f32⟩ : BufTy).Contents (Elt Ideal))
    (x4 : (⟨Cert.Reference3Ideal.S5632x2048, .f32⟩ : BufTy).Contents (Elt Ideal)) :
    Cert.Reference3Ideal.Read.val_main_v2 (F := Ideal) x0 x2 x4 = down (R := 8192) x0 x2 x4 := by
  funext y
  rw [Cert.Reference3Ideal.Read.val_main_v2_apply, Cert.Reference3Ideal.Read.val_main_v1_apply]
  refine congrArg (fun z : EReal => (x2 y : EReal) + z) ?_
  refine Finset.sum_congr rfl fun k _ => ?_
  refine congrArg₂ (fun a b : EReal => a * b) (congrArg x0 ?_) (congrArg x4 ?_) <;>
    (funext a; match a with | ⟨0, _⟩ => rfl | ⟨1, _⟩ => rfl)

theorem ref_side (x1 : (⟨Cert.Reference3Ideal.S16x5632, .bf16⟩ : BufTy).Contents (Elt Ideal)) (x3 : (⟨Cert.Reference3Ideal.S16x2048, .f32⟩ : BufTy).Contents (Elt Ideal))
    (x4 : (⟨Cert.Reference3Ideal.S5632x2048, .f32⟩ : BufTy).Contents (Elt Ideal)) :
    Cert.Reference3Ideal.Read.val_main_v5 (F := Ideal) x1 x3 x4 = down (R := 16) x1 x3 x4 := by
  funext y
  rw [Cert.Reference3Ideal.Read.val_main_v5_apply, Cert.Reference3Ideal.Read.val_main_v4_apply]
  refine congrArg (fun z : EReal => (x3 y : EReal) + z) ?_
  refine Finset.sum_congr rfl fun k _ => ?_
  refine congrArg₂ (fun a b : EReal => a * b) (congrArg x1 ?_) (congrArg x4 ?_) <;>
    (funext a; match a with | ⟨0, _⟩ => rfl | ⟨1, _⟩ => rfl)

end Cert.Kernel3Ideal.KV

end
-- ==== Proof.K4Run.lean ====
/- The gated projection's call: what its body leaves at each grid point, the normalised rows kept in scratch over a row of the grid, the
   side result's buffer carried over the points that do not touch it, and the run's contents at the end. -/
module

public import proofs.«01_k».proof.Proof.Gen.Kernel4Ideal.Frame
public import proofs.«01_k».proof.Proof.Gen.Kernel4Ideal.Skeleton
public import Idealize.ShloMosaic.Lib.Pipeline.Value
public import Idealize.ShloMosaic.Lib.Pipeline.ValueKit
public import proofs.«01_k».proof.Proof.KStore

@[expose] public section

set_option maxRecDepth 16384

noncomputable section

namespace Cert.Kernel4Ideal.KV

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal.Gen
open Cert.KStore (off2 read_store)

variable {F : FTy → Type} [FloatOps F]

local notation "𝕄" => MT nD τ sig Unit (Elt F) ℕ (UR sig nD τ) ℕ

/-- The first condition, as the body computes it. -/
abbrev cond1 (i : grid0.Coords) : BitVec 1 := Scalar.cmpi .ne (Scalar.extui (Scalar.cmpi .eq (BitVec.ofNat 32 (i 1).val) 0#32)) 0#32

section Bodies

variable (c : Dev nD) (i : grid0.Coords) (arg2 : Memref sig .tc .vmem S1024x2048 .f32) (harg2 : arg2.IsWhole) (arg3 : Memref sig .tc .vmem S16x2048 .f32) (harg3 : arg3.IsWhole) (arg4 : Memref sig .tc .vmem S1x2048 .f32) (harg4 : arg4.IsWhole) (arg5 : Memref sig .tc .vmem S1x2048x512 .bf16) (harg5 : arg5.IsWhole) (arg6 : Memref sig .tc .vmem S1x2048x512 .bf16) (harg6 : arg6.IsWhole) (arg7 : Memref sig .tc .vmem S1x512 .f32) (harg7 : arg7.IsWhole) (arg8 : Memref sig .tc .vmem S1x512 .f32) (harg8 : arg8.IsWhole) (arg9 : Memref sig .tc .vmem S1024x512 .f32) (harg9 : arg9.IsWhole) (arg10 : Memref sig .tc .vmem S16x512 .f32) (harg10 : arg10.IsWhole) (arg11 : Memref sig .tc .vmem S1024x2048 .bf16) (harg11 : arg11.IsWhole) (arg12 : Memref sig .tc .vmem S16x2048 .bf16) (harg12 : arg12.IsWhole)
  (x0 : Vec F S1024x2048 .f32) (x1 : Vec F S16x2048 .f32) (x2 : Vec F S1x2048 .f32) (x3 : Vec F S1x2048x512 .bf16) (x4 : Vec F S1x2048x512 .bf16) (x5 : Vec F S1x512 .f32) (x6 : Vec F S1x512 .f32)

set_option maxHeartbeats 4000000 in
/-- The body at the points that store the normalised rows and the side result. -/
theorem body_A (hc : cond1 i = 1#1) (hd : k0_cond2 i = 1#1) (E : Set ℕ) (K : PUnit → sProp 𝕄) :
    iprop(owns c arg2 fullShare x0 ∗ owns c arg3 fullShare x1 ∗ owns c arg4 fullShare x2 ∗ owns c arg5 fullShare x3 ∗ owns c arg6 fullShare x4 ∗ owns c arg7 fullShare x5 ∗ owns c arg8 fullShare x6 ∗ (∃ d, owns c arg9 fullShare d) ∗ (∃ d, owns c arg10 fullShare d) ∗ (∃ d, owns c arg11 fullShare d) ∗ (∃ d, owns c arg12 fullShare d)
        ∗ (iprop(owns c arg2 fullShare x0 ∗ owns c arg3 fullShare x1 ∗ owns c arg4 fullShare x2 ∗ owns c arg5 fullShare x3 ∗ owns c arg6 fullShare x4 ∗ owns c arg7 fullShare x5 ∗ owns c arg8 fullShare x6 ∗ owns c arg9 fullShare (k0_pay3 (k0_pay1 x0 x2) x3 x4 x5 x6) ∗ owns c arg10 fullShare (k0_pay4 (k0_pay2 x1 x2) x3 x4 x5 x6) ∗ owns c arg11 fullShare (k0_pay1 x0 x2) ∗ owns c arg12 fullShare (k0_pay2 x1 x2)) -∗ K ⟨⟩))
      ⊢ wp frame (wpE (defs₀ (F := F)) Variants.none c none) E (cc0_glu i arg2 harg2 arg3 harg3 arg4 harg4 arg5 harg5 arg6 harg6 arg7 harg7 arg8 harg8 arg9 harg9 arg10 harg10 arg11 harg11 arg12 harg12) K := by
  simp only [cc0_glu_eq_skeleton]; unfold cc0_glu_skel
  dsimp only
  rw [dif_pos hc, dif_pos hd]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr
    swap; · iexact H7
    ipureintro
    rw [read_store _ off2]
    simp (disch := decide) only [View.readAt_eq_ld, harg2.read_unread, harg3.read_unread, harg4.read_unread, harg5.read_unread, harg6.read_unread, harg7.read_unread, harg8.read_unread, View.readCov_unit_zero (S := S1024x2048) _ off2, View.readCov_unit_zero (S := S16x2048) _ off2, View.ld_unit_lit']
    refine congrArg (fun z => k0_pay3 z x3 x4 x5 x6) ?_
    refine (View.readCov_unit_zero (S := S1024x2048) arg11.view (off := ![0, 0]) off2 inb_S1024x2048_S1024x2048_0_0 _).trans ?_
    simp (disch := decide) only [View.readAt_eq_ld, harg2.read_unread, harg3.read_unread, harg4.read_unread, harg5.read_unread, harg6.read_unread, harg7.read_unread, harg8.read_unread, View.readCov_unit_zero (S := S1024x2048) _ off2, View.readCov_unit_zero (S := S16x2048) _ off2, View.ld_unit_lit']
  isplitl [H8]
  · iexists _; isplitr
    swap; · iexact H8
    ipureintro
    rw [read_store _ off2]
    simp (disch := decide) only [View.readAt_eq_ld, harg2.read_unread, harg3.read_unread, harg4.read_unread, harg5.read_unread, harg6.read_unread, harg7.read_unread, harg8.read_unread, View.readCov_unit_zero (S := S1024x2048) _ off2, View.readCov_unit_zero (S := S16x2048) _ off2, View.ld_unit_lit']
    refine congrArg (fun z => k0_pay4 z x3 x4 x5 x6) ?_
    refine (View.readCov_unit_zero (S := S16x2048) arg12.view (off := ![0, 0]) off2 inb_S16x2048_S16x2048_0_0 _).trans ?_
    simp (disch := decide) only [View.readAt_eq_ld, harg2.read_unread, harg3.read_unread, harg4.read_unread, harg5.read_unread, harg6.read_unread, harg7.read_unread, harg8.read_unread, View.readCov_unit_zero (S := S1024x2048) _ off2, View.readCov_unit_zero (S := S16x2048) _ off2, View.ld_unit_lit']
  isplitl [H9]
  · iexists _; isplitr
    swap; · iexact H9
    ipureintro
    refine (read_store arg11 (off := ![0, 0]) off2 inb_S1024x2048_S1024x2048_0_0 _ _).trans ?_
    simp (disch := decide) only [View.readAt_eq_ld, harg2.read_unread, harg3.read_unread, harg4.read_unread, harg5.read_unread, harg6.read_unread, harg7.read_unread, harg8.read_unread, View.readCov_unit_zero (S := S1024x2048) _ off2, View.readCov_unit_zero (S := S16x2048) _ off2, View.ld_unit_lit']
  iexists _; isplitr
  swap; · iexact H10
  ipureintro
  refine (read_store arg12 (off := ![0, 0]) off2 inb_S16x2048_S16x2048_0_0 _ _).trans ?_
  simp (disch := decide) only [View.readAt_eq_ld, harg2.read_unread, harg3.read_unread, harg4.read_unread, harg5.read_unread, harg6.read_unread, harg7.read_unread, harg8.read_unread, View.readCov_unit_zero (S := S1024x2048) _ off2, View.readCov_unit_zero (S := S16x2048) _ off2, View.ld_unit_lit']

set_option maxHeartbeats 4000000 in
/-- The body at the points that store the normalised rows only. -/
theorem body_B (hc : cond1 i = 1#1) (hd : ¬ k0_cond2 i = 1#1) (z2 : Vec F S16x512 .f32) (E : Set ℕ) (K : PUnit → sProp 𝕄) :
    iprop(owns c arg2 fullShare x0 ∗ owns c arg3 fullShare x1 ∗ owns c arg4 fullShare x2 ∗ owns c arg5 fullShare x3 ∗ owns c arg6 fullShare x4 ∗ owns c arg7 fullShare x5 ∗ owns c arg8 fullShare x6 ∗ (∃ d, owns c arg9 fullShare d) ∗ owns c arg10 fullShare z2 ∗ (∃ d, owns c arg11 fullShare d) ∗ (∃ d, owns c arg12 fullShare d)
        ∗ (iprop(owns c arg2 fullShare x0 ∗ owns c arg3 fullShare x1 ∗ owns c arg4 fullShare x2 ∗ owns c arg5 fullShare x3 ∗ owns c arg6 fullShare x4 ∗ owns c arg7 fullShare x5 ∗ owns c arg8 fullShare x6 ∗ owns c arg9 fullShare (k0_pay3 (k0_pay1 x0 x2) x3 x4 x5 x6) ∗ owns c arg10 fullShare z2 ∗ owns c arg11 fullShare (k0_pay1 x0 x2) ∗ owns c arg12 fullShare (k0_pay2 x1 x2)) -∗ K ⟨⟩))
      ⊢ wp frame (wpE (defs₀ (F := F)) Variants.none c none) E (cc0_glu i arg2 harg2 arg3 harg3 arg4 harg4 arg5 harg5 arg6 harg6 arg7 harg7 arg8 harg8 arg9 harg9 arg10 harg10 arg11 harg11 arg12 harg12) K := by
  simp only [cc0_glu_eq_skeleton]; unfold cc0_glu_skel
  dsimp only
  rw [dif_pos hc, dif_neg hd]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%d9, %f9, -, H9⟩, ⟨%d10, %f10, -, H10⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hf8
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr
    swap; · iexact H7
    ipureintro
    rw [read_store _ off2]
    simp (disch := decide) only [View.readAt_eq_ld, harg2.read_unread, harg3.read_unread, harg4.read_unread, harg5.read_unread, harg6.read_unread, harg7.read_unread, harg8.read_unread, View.readCov_unit_zero (S := S1024x2048) _ off2, View.readCov_unit_zero (S := S16x2048) _ off2, View.ld_unit_lit']
    refine congrArg (fun z => k0_pay3 z x3 x4 x5 x6) ?_
    refine (View.readCov_unit_zero (S := S1024x2048) arg11.view (off := ![0, 0]) off2 inb_S1024x2048_S1024x2048_0_0 _).trans ?_
    simp (disch := decide) only [View.readAt_eq_ld, harg2.read_unread, harg3.read_unread, harg4.read_unread, harg5.read_unread, harg6.read_unread, harg7.read_unread, harg8.read_unread, View.readCov_unit_zero (S := S1024x2048) _ off2, View.readCov_unit_zero (S := S16x2048) _ off2, View.ld_unit_lit']
  isplitl [H8]
  · iexists _; isplitr; · ipureintro; exact harg10.read_unread _
    iexact H8
  isplitl [H9]
  · iexists _; isplitr
    swap; · iexact H9
    ipureintro
    refine (read_store arg11 (off := ![0, 0]) off2 inb_S1024x2048_S1024x2048_0_0 _ _).trans ?_
    simp (disch := decide) only [View.readAt_eq_ld, harg2.read_unread, harg3.read_unread, harg4.read_unread, harg5.read_unread, harg6.read_unread, harg7.read_unread, harg8.read_unread, View.readCov_unit_zero (S := S1024x2048) _ off2, View.readCov_unit_zero (S := S16x2048) _ off2, View.ld_unit_lit']
  iexists _; isplitr
  swap; · iexact H10
  ipureintro
  refine (read_store arg12 (off := ![0, 0]) off2 inb_S16x2048_S16x2048_0_0 _ _).trans ?_
  simp (disch := decide) only [View.readAt_eq_ld, harg2.read_unread, harg3.read_unread, harg4.read_unread, harg5.read_unread, harg6.read_unread, harg7.read_unread, harg8.read_unread, View.readCov_unit_zero (S := S1024x2048) _ off2, View.readCov_unit_zero (S := S16x2048) _ off2, View.ld_unit_lit']

set_option maxHeartbeats 4000000 in
/-- The body at the points that store the side result only. -/
theorem body_C (hc : ¬ cond1 i = 1#1) (hd : k0_cond2 i = 1#1) (z0 : Vec F S1024x2048 .bf16) (z1 : Vec F S16x2048 .bf16) (E : Set ℕ) (K : PUnit → sProp 𝕄) :
    iprop(owns c arg2 fullShare x0 ∗ owns c arg3 fullShare x1 ∗ owns c arg4 fullShare x2 ∗ owns c arg5 fullShare x3 ∗ owns c arg6 fullShare x4 ∗ owns c arg7 fullShare x5 ∗ owns c arg8 fullShare x6 ∗ (∃ d, owns c arg9 fullShare d) ∗ (∃ d, owns c arg10 fullShare d) ∗ owns c arg11 fullShare z0 ∗ owns c arg12 fullShare z1
        ∗ (iprop(owns c arg2 fullShare x0 ∗ owns c arg3 fullShare x1 ∗ owns c arg4 fullShare x2 ∗ owns c arg5 fullShare x3 ∗ owns c arg6 fullShare x4 ∗ owns c arg7 fullShare x5 ∗ owns c arg8 fullShare x6 ∗ owns c arg9 fullShare (k0_pay3 z0 x3 x4 x5 x6) ∗ owns c arg10 fullShare (k0_pay4 z1 x3 x4 x5 x6) ∗ owns c arg11 fullShare z0 ∗ owns c arg12 fullShare z1) -∗ K ⟨⟩))
      ⊢ wp frame (wpE (defs₀ (F := F)) Variants.none c none) E (cc0_glu i arg2 harg2 arg3 harg3 arg4 harg4 arg5 harg5 arg6 harg6 arg7 harg7 arg8 harg8 arg9 harg9 arg10 harg10 arg11 harg11 arg12 harg12) K := by
  simp only [cc0_glu_eq_skeleton]; unfold cc0_glu_skel
  dsimp only
  rw [dif_neg hc, dif_pos hd]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%f10, %hf10, H10⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg11.eq_unread hf9; obtain rfl := harg12.eq_unread hf10
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr
    swap; · iexact H7
    ipureintro
    rw [read_store _ off2]
    simp (disch := decide) only [View.readAt_eq_ld, harg5.read_unread, harg6.read_unread, harg7.read_unread, harg8.read_unread, harg11.read_unread, harg12.read_unread, View.ld_unit_lit']
  isplitl [H8]
  · iexists _; isplitr
    swap; · iexact H8
    ipureintro
    rw [read_store _ off2]
    simp (disch := decide) only [View.readAt_eq_ld, harg5.read_unread, harg6.read_unread, harg7.read_unread, harg8.read_unread, harg11.read_unread, harg12.read_unread, View.ld_unit_lit']
  isplitl [H9]
  · iexists _; isplitr; · ipureintro; exact harg11.read_unread _
    iexact H9
  iexists _; isplitr; · ipureintro; exact harg12.read_unread _
  iexact H10

set_option maxHeartbeats 4000000 in
/-- The body at the points that store neither. -/
theorem body_D (hc : ¬ cond1 i = 1#1) (hd : ¬ k0_cond2 i = 1#1) (z2 : Vec F S16x512 .f32) (z0 : Vec F S1024x2048 .bf16) (z1 : Vec F S16x2048 .bf16) (E : Set ℕ) (K : PUnit → sProp 𝕄) :
    iprop(owns c arg2 fullShare x0 ∗ owns c arg3 fullShare x1 ∗ owns c arg4 fullShare x2 ∗ owns c arg5 fullShare x3 ∗ owns c arg6 fullShare x4 ∗ owns c arg7 fullShare x5 ∗ owns c arg8 fullShare x6 ∗ (∃ d, owns c arg9 fullShare d) ∗ owns c arg10 fullShare z2 ∗ owns c arg11 fullShare z0 ∗ owns c arg12 fullShare z1
        ∗ (iprop(owns c arg2 fullShare x0 ∗ owns c arg3 fullShare x1 ∗ owns c arg4 fullShare x2 ∗ owns c arg5 fullShare x3 ∗ owns c arg6 fullShare x4 ∗ owns c arg7 fullShare x5 ∗ owns c arg8 fullShare x6 ∗ owns c arg9 fullShare (k0_pay3 z0 x3 x4 x5 x6) ∗ owns c arg10 fullShare z2 ∗ owns c arg11 fullShare z0 ∗ owns c arg12 fullShare z1) -∗ K ⟨⟩))
      ⊢ wp frame (wpE (defs₀ (F := F)) Variants.none c none) E (cc0_glu i arg2 harg2 arg3 harg3 arg4 harg4 arg5 harg5 arg6 harg6 arg7 harg7 arg8 harg8 arg9 harg9 arg10 harg10 arg11 harg11 arg12 harg12) K := by
  simp only [cc0_glu_eq_skeleton]; unfold cc0_glu_skel
  dsimp only
  rw [dif_neg hc, dif_neg hd]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hf8; obtain rfl := harg11.eq_unread hf9; obtain rfl := harg12.eq_unread hf10
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr
    swap; · iexact H7
    ipureintro
    rw [read_store _ off2]
    simp (disch := decide) only [View.readAt_eq_ld, harg5.read_unread, harg6.read_unread, harg7.read_unread, harg8.read_unread, harg11.read_unread, harg12.read_unread, View.ld_unit_lit']
  isplitl [H8]
  · iexists _; isplitr; · ipureintro; exact harg10.read_unread _
    iexact H8
  isplitl [H9]
  · iexists _; isplitr; · ipureintro; exact harg11.read_unread _
    iexact H9
  iexists _; isplitr; · ipureintro; exact harg12.read_unread _
  iexact H10

end Bodies

variable (m : (ℓ : Loc nD τ sig) → Buf (Elt F) ℓ) (ρ : Dev nD → PrngReg)

/-! ## The proof data -/

theorem n0 (t : Fin cfg0.N) : t.val < 32 := t.isLt
theorem cond1_iff : ∀ t : Fin cfg0.N, cond1 (grid0.coords t) = 1#1 ↔ t.val % 4 = 0 := by decide +kernel
theorem cond2_iff : ∀ t : Fin cfg0.N, k0_cond2 (grid0.coords t) = 1#1 ↔ t.val < 4 := by decide +kernel
theorem idle_eq : ∀ t : Fin cfg0.N, idle0 8 (grid0.coords t) = decide (4 ≤ t.val) := by decide +kernel
theorem flushS_eq : ∀ t : Fin cfg0.N, win0_8.flush t = decide (t.val < 3 ∨ t.val = 31) := by decide +kernel
theorem ix0 : ∀ t : Fin cfg0.N, win0_0.index t = ![t.val / 4, 0] := by decide +kernel
theorem ix1 : ∀ t : Fin cfg0.N, win0_1.index t = ![0, 0] := by decide +kernel
theorem ix2 : ∀ t : Fin cfg0.N, win0_2.index t = ![0, 0] := by decide +kernel

/-- The prompts' rows of a point are those of every point in its row of the grid. -/
theorem row_0 (c : Dev nD) (t t' : Fin cfg0.N) (h : t.val / 4 = t'.val / 4) : iblk m c 0 t = iblk m c 0 t' := by
  funext y
  unfold iblk
  blk_simp
  refine congrArg (V m c main_arg0) ?_
  funext a; apply Fin.ext
  match a with
  | ⟨0, _⟩ => blk_simp [ix0, h]
  | ⟨1, _⟩ => blk_simp [ix0, h]
/-- The decoding rows of any two points. -/
theorem row_1 (c : Dev nD) (t t' : Fin cfg0.N) : iblk m c 1 t = iblk m c 1 t' := by
  funext y
  unfold iblk
  blk_simp
  refine congrArg (V m c main_arg1) ?_
  funext a; apply Fin.ext
  match a with
  | ⟨0, _⟩ => blk_simp [ix1]
  | ⟨1, _⟩ => blk_simp [ix1]
/-- The norm's weights at any two points. -/
theorem row_2 (c : Dev nD) (t t' : Fin cfg0.N) : iblk m c 2 t = iblk m c 2 t' := by
  funext y
  unfold iblk
  blk_simp
  refine congrArg (V m c main_v6) ?_
  funext a; apply Fin.ext
  match a with
  | ⟨0, _⟩ => blk_simp [ix2]
  | ⟨1, _⟩ => blk_simp [ix2]

/-- The point whose side block the buffer holds after point `t`: the point itself in the first row of the grid, that row's last one later. -/
def sp (t : Fin cfg0.N) : Fin cfg0.N := ⟨min t.val 3, Nat.lt_of_le_of_lt (Nat.min_le_left _ _) t.isLt⟩

/-- The normalised rows at a point, of the prompts -/
def xnAt (c : Dev nD) (t : Fin cfg0.N) : Vec F S1024x2048 .bf16 := k0_pay1 (iblk m c 0 t) (iblk m c 2 t)
/-- and of the decoding tokens. -/
def xsAt (c : Dev nD) (t : Fin cfg0.N) : Vec F S16x2048 .bf16 := k0_pay2 (iblk m c 1 t) (iblk m c 2 t)

theorem xnAt_row (c : Dev nD) (t t' : Fin cfg0.N) (h : t.val / 4 = t'.val / 4) : xnAt m c t = xnAt m c t' := by
  unfold xnAt; rw [row_0 m c t t' h, row_2 m c t t']
theorem xsAt_row (c : Dev nD) (t t' : Fin cfg0.N) : xsAt m c t = xsAt m c t' := by
  unfold xsAt; rw [row_1 m c t t', row_2 m c t t']

/-- The main result's block at a point. -/
def mainAt (c : Dev nD) (t : Fin cfg0.N) : Vec F S1024x512 .f32 := k0_pay3 (xnAt m c t) (iblk m c 3 t) (iblk m c 4 t) (iblk m c 5 t) (iblk m c 6 t)
/-- The side result's block at a point. -/
def sideAt (c : Dev nD) (t : Fin cfg0.N) : Vec F S16x512 .f32 := k0_pay4 (xsAt m c t) (iblk m c 3 t) (iblk m c 4 t) (iblk m c 5 t) (iblk m c 6 t)

/-- The scratch buffers, whole. -/
abbrev sc0 : Memref sig .tc .vmem S1024x2048 .bf16 := Memref.whole cc0_scratch0
abbrev sc1 : Memref sig .tc .vmem S16x2048 .bf16 := Memref.whole cc0_scratch1

/-- What is kept between points: after point `n - 1` the scratch buffers hold that point's normalised rows. -/
def PhiS (c : Dev nD) (n : ℕ) : sProp 𝕄 :=
  iprop((∃ d ds, ⌜∀ t : Fin cfg0.N, t.val + 1 = n → d = xnAt m c t ∧ ds = xsAt m c t⌝
    ∗ owns c sc0 fullShare d ∗ owns c sc1 fullShare ds) ∗ (∃ r, prngReg c r))

theorem PhiA_eq (c : Dev nD) :
    (Pipeline.ΦA spec0 c : sProp 𝕄)
      = iprop(iprop((∃ d, owns c sc0 fullShare d) ∗ (∃ d, owns c sc1 fullShare d)) ∗ (∃ r, prngReg c r)) := by
  unfold Pipeline.ΦA; rw [scopedRest0_eq]; simp only [sc0, sc1, owns_whole]; try rfl

theorem phi_in (c : Dev nD) : (Pipeline.ΦA spec0 c : sProp 𝕄) ⊢ PhiS m c 0 := by
  rw [PhiA_eq]
  unfold PhiS
  iintro ⟨⟨⟨%d, H0⟩, ⟨%ds, H1⟩⟩, Hg⟩
  isplitr [Hg]
  · iexists d, ds
    isplitr
    · ipureintro; intro t ht; omega
    isplitl [H0]; · iexact H0
    iexact H1
  · iexact Hg

theorem phi_out (c : Dev nD) (n : ℕ) : PhiS m c n ⊢ (Pipeline.ΦA spec0 c : sProp 𝕄) := by
  rw [PhiA_eq]
  unfold PhiS
  iintro ⟨⟨%d, %ds, -, H0, H1⟩, Hg⟩
  isplitr [Hg]
  · isplitl [H0]
    · iexists d; iexact H0
    · iexists ds; iexact H1
  · iexact Hg

/-- The proof data: every input's buffer at its block, each main result's at the point's block, the side result's at the block last stored. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => mainAt m c t
    | ⟨8, _⟩ => sideAt m c (sp t)
  Φ t := PhiS m c t.val
  q _ := fullShare
  owed _ := 0

theorem A_eq (c : Dev nD) (w : Fin cfg0.W) : (dat m c).A w = V m c (Pipeline.arrRef spec0 w) := by
  dsimp only [dat]
theorem after_0 (c : Dev nD) (t : Fin cfg0.N) : (dat m c).after 0 t = iblk m c 0 t := by dsimp only [dat]
theorem after_1 (c : Dev nD) (t : Fin cfg0.N) : (dat m c).after 1 t = iblk m c 1 t := by dsimp only [dat]
theorem after_2 (c : Dev nD) (t : Fin cfg0.N) : (dat m c).after 2 t = iblk m c 2 t := by dsimp only [dat]
theorem after_3 (c : Dev nD) (t : Fin cfg0.N) : (dat m c).after 3 t = iblk m c 3 t := by dsimp only [dat]
theorem after_4 (c : Dev nD) (t : Fin cfg0.N) : (dat m c).after 4 t = iblk m c 4 t := by dsimp only [dat]
theorem after_5 (c : Dev nD) (t : Fin cfg0.N) : (dat m c).after 5 t = iblk m c 5 t := by dsimp only [dat]
theorem after_6 (c : Dev nD) (t : Fin cfg0.N) : (dat m c).after 6 t = iblk m c 6 t := by dsimp only [dat]
theorem after_7 (c : Dev nD) (t : Fin cfg0.N) : (dat m c).after 7 t = mainAt m c t := by dsimp only [dat]
theorem after_8 (c : Dev nD) (t : Fin cfg0.N) : (dat m c).after 8 t = sideAt m c (sp t) := by dsimp only [dat]
theorem before_0 (c : Dev nD) (t : Fin cfg0.N) (d) : (dat m c).before 0 t d = iblk m c 0 t :=
  before0_0_of m (dat m c) (A_eq m c 0) (after_0 m c) t d
theorem before_1 (c : Dev nD) (t : Fin cfg0.N) (d) : (dat m c).before 1 t d = iblk m c 1 t :=
  before0_1_of m (dat m c) (A_eq m c 1) (after_1 m c) t d
theorem before_2 (c : Dev nD) (t : Fin cfg0.N) (d) : (dat m c).before 2 t d = iblk m c 2 t :=
  before0_2_of m (dat m c) (A_eq m c 2) (after_2 m c) t d
theorem before_3 (c : Dev nD) (t : Fin cfg0.N) (d) : (dat m c).before 3 t d = iblk m c 3 t :=
  before0_3_of m (dat m c) (A_eq m c 3) (after_3 m c) t d
theorem before_4 (c : Dev nD) (t : Fin cfg0.N) (d) : (dat m c).before 4 t d = iblk m c 4 t :=
  before0_4_of m (dat m c) (A_eq m c 4) (after_4 m c) t d
theorem before_5 (c : Dev nD) (t : Fin cfg0.N) (d) : (dat m c).before 5 t d = iblk m c 5 t :=
  before0_5_of m (dat m c) (A_eq m c 5) (after_5 m c) t d
theorem before_6 (c : Dev nD) (t : Fin cfg0.N) (d) : (dat m c).before 6 t d = iblk m c 6 t :=
  before0_6_of m (dat m c) (A_eq m c 6) (after_6 m c) t d

/-- Past the grid's first row the side result's buffer holds that row's last block. -/
theorem before_S (c : Dev nD) (d) : ∀ (n : ℕ) (t : Fin cfg0.N), t.val = 4 + n → (dat m c).before 8 t d = sideAt m c (sp t) := by
  intro n
  induction n with
  | zero =>
    intro t ht
    have h0 : t.val ≠ 0 := by omega
    rw [(dat m c).before_of_pos 8 t h0 ((cfg0.win 8).fetch_out rfl t)]
    rw [show (cfg0.win 8).flush ⟨t.val - 1, Nat.lt_of_le_of_lt (Nat.sub_le _ _) t.isLt⟩ = false from
      (flushS_eq _).trans (decide_eq_false (by show ¬ (t.val - 1 < 3 ∨ t.val - 1 = 31); omega))]
    rw [if_neg Bool.false_ne_true]
    unfold Dat.left
    rw [show cfg0.idle 8 (cfg0.grid.coords ⟨t.val - 1, Nat.lt_of_le_of_lt (Nat.sub_le _ _) t.isLt⟩) = false from
      (idle_eq _).trans (decide_eq_false (by show ¬ (4 ≤ t.val - 1); omega))]
    dsimp only
    unfold Dat.kept
    rw [Pipeline.fill_of_clip_none 8 _ (fun _ => rfl) d ((dat m c).after 8 _), Window.fill_cut, after_8]
    congr 1
    refine Fin.ext ?_
    show min (t.val - 1) 3 = min t.val 3
    omega
  | succ n ih =>
    intro t ht
    have h0 : t.val ≠ 0 := by omega
    rw [(dat m c).before_of_pos 8 t h0 ((cfg0.win 8).fetch_out rfl t)]
    rw [show (cfg0.win 8).flush ⟨t.val - 1, Nat.lt_of_le_of_lt (Nat.sub_le _ _) t.isLt⟩ = false from
      (flushS_eq _).trans (decide_eq_false (by show ¬ (t.val - 1 < 3 ∨ t.val - 1 = 31); have := n0 t; omega))]
    rw [if_neg Bool.false_ne_true]
    unfold Dat.left
    rw [show cfg0.idle 8 (cfg0.grid.coords ⟨t.val - 1, Nat.lt_of_le_of_lt (Nat.sub_le _ _) t.isLt⟩) = true from
      (idle_eq _).trans (decide_eq_true (by show 4 ≤ t.val - 1; omega))]
    dsimp only
    rw [ih ⟨t.val - 1, Nat.lt_of_le_of_lt (Nat.sub_le _ _) t.isLt⟩ (by show t.val - 1 = 4 + n; omega)]
    congr 1
    refine Fin.ext ?_
    show min (t.val - 1) 3 = min t.val 3
    omega

/-! ## The body obligation -/

/-- What the body is called with at a point, -/
def bodyPre (c : Dev nD) (t : Fin cfg0.N) : sProp 𝕄 :=
  iprop((dat m c).Φ t.castSucc ∗ (dat m c).owesAt () t.castSucc
    ∗ (∃ d, owns c (st0_0 t) fullShare ((dat m c).before 0 t d))
    ∗ (∃ d, owns c (st0_1 t) fullShare ((dat m c).before 1 t d))
    ∗ (∃ d, owns c (st0_2 t) fullShare ((dat m c).before 2 t d))
    ∗ (∃ d, owns c (st0_3 t) fullShare ((dat m c).before 3 t d))
    ∗ (∃ d, owns c (st0_4 t) fullShare ((dat m c).before 4 t d))
    ∗ (∃ d, owns c (st0_5 t) fullShare ((dat m c).before 5 t d))
    ∗ (∃ d, owns c (st0_6 t) fullShare ((dat m c).before 6 t d))
    ∗ (∃ d, owns c (st0_7 t) fullShare ((dat m c).before 7 t d))
    ∗ (∃ d, owns c (st0_8 t) fullShare ((dat m c).before 8 t d)))

/-- and what it returns. -/
def bodyPost (c : Dev nD) (t : Fin cfg0.N) : sProp 𝕄 :=
  iprop((dat m c).Φ t.succ ∗ (dat m c).owesAt () t.succ
    ∗ owns c (st0_0 t) fullShare ((dat m c).after 0 t)
    ∗ owns c (st0_1 t) fullShare ((dat m c).after 1 t)
    ∗ owns c (st0_2 t) fullShare ((dat m c).after 2 t)
    ∗ owns c (st0_3 t) fullShare ((dat m c).after 3 t)
    ∗ owns c (st0_4 t) fullShare ((dat m c).after 4 t)
    ∗ owns c (st0_5 t) fullShare ((dat m c).after 5 t)
    ∗ owns c (st0_6 t) fullShare ((dat m c).after 6 t)
    ∗ owns c (st0_7 t) fullShare ((dat m c).after 7 t)
    ∗ (dat m c).leavesExact 8 t)

/-- The side result's buffer after the body, past the grid's first row. -/
theorem leaves_idle (c : Dev nD) (t : Fin cfg0.N) (h : 4 ≤ t.val) :
    owns c (st0_8 t) fullShare (sideAt m c (sp t)) ⊢ ((dat m c).leavesExact 8 t : sProp 𝕄) := by
  unfold Dat.leavesExact
  rw [show cfg0.idle 8 (cfg0.grid.coords t) = true from (idle_eq t).trans (decide_eq_true h)]
  dsimp only
  cases (cfg0.win 8).flush t
  · dsimp only
    iintro H
    iexists (sideAt m c (sp t))
    rw [before_S m c _ (t.val - 4) t (by omega)]
    iexact H
  · dsimp only
    rw [after_8]

/-- The side result's buffer after the body, in the grid's first row. -/
theorem leaves_live (c : Dev nD) (t : Fin cfg0.N) (h : t.val < 4) :
    owns c (st0_8 t) fullShare (sideAt m c t) ⊢ ((dat m c).leavesExact 8 t : sProp 𝕄) := by
  unfold Dat.leavesExact
  rw [show cfg0.idle 8 (cfg0.grid.coords t) = false from (idle_eq t).trans (decide_eq_false (by omega))]
  dsimp only
  rw [after_8, show sp t = t from Fin.ext (by show min t.val 3 = t.val; omega)]

set_option maxHeartbeats 2000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dat m c).Φ t.succ = PhiS m c (t.val + 1) from rfl, show (dat m c).Φ t.castSucc = PhiS m c t.val from rfl,
    show (dat m c).owesAt () t.succ = (dat m c).owesAt () t.castSucc from rfl,
    after_0, after_1, after_2, after_3, after_4, after_5, after_6, after_7]
  unfold PhiS
  have hkeep : ∀ (d : Vec F S1024x2048 .bf16) (ds : Vec F S16x2048 .bf16), ¬ t.val % 4 = 0 →
      (∀ t' : Fin cfg0.N, t'.val + 1 = t.val → d = xnAt m c t' ∧ ds = xsAt m c t') → d = xnAt m c t ∧ ds = xsAt m c t := by
    intro d ds h0 h
    have hlt : t.val - 1 < cfg0.N := Nat.lt_of_le_of_lt (Nat.sub_le _ _) t.isLt
    obtain ⟨e0, e1⟩ := h ⟨t.val - 1, hlt⟩ (by show t.val - 1 + 1 = t.val; omega)
    exact ⟨e0.trans (xnAt_row m c _ _ (by show (t.val - 1) / 4 = t.val / 4; omega)), e1.trans (xsAt_row m c _ _)⟩
  have hself : ∀ t' : Fin cfg0.N, t'.val + 1 = t.val + 1 → xnAt m c t = xnAt m c t' ∧ xsAt m c t = xsAt m c t' := by
    intro t' h
    obtain rfl : t = t' := Fin.ext (by omega)
    exact ⟨rfl, rfl⟩
  by_cases h1 : t.val % 4 = 0
  · by_cases h2 : t.val < 4
    · iintro ⟨⟨⟨%z0, %z1, %hk, Hx, Hy⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (body_A c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) ((cond1_iff t).mpr h1) ((cond2_iff t).mpr h2) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [Hx]; · iexists _; iexact Hx
      isplitl [Hy]; · iexists _; iexact Hy
      iintro ⟨H0, H1, H2, H3, H4, H5, H6, H7, H8, Hx, Hy⟩
      isplitl [Hx Hy Hg]
      · isplitr [Hg]
        · iexists (xnAt m c t), (xsAt m c t)
          isplitr; · ipureintro; exact hself
          isplitl [Hx]; · iexact Hx
          iexact Hy
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iapply (leaves_live m c t h2)
      iexact H8
    · have h11 : 4 ≤ t.val := by omega
      have hb := fun d => before_S m c d (t.val - 4) t (by omega)
      simp only [hb]
      iintro ⟨⟨⟨%z0, %z1, %hk, Hx, Hy⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (body_B c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) ((cond1_iff t).mpr h1) (fun h => h2 ((cond2_iff t).mp h)) (sideAt m c (sp t)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [Hx]; · iexists _; iexact Hx
      isplitl [Hy]; · iexists _; iexact Hy
      iintro ⟨H0, H1, H2, H3, H4, H5, H6, H7, H8, Hx, Hy⟩
      isplitl [Hx Hy Hg]
      · isplitr [Hg]
        · iexists (xnAt m c t), (xsAt m c t)
          isplitr; · ipureintro; exact hself
          isplitl [Hx]; · iexact Hx
          iexact Hy
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iapply (leaves_idle m c t h11)
      iexact H8
  · by_cases h2 : t.val < 4
    · iintro ⟨⟨⟨%z0, %z1, %hk, Hx, Hy⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      obtain ⟨rfl, rfl⟩ := hkeep z0 z1 h1 hk
      iapply (body_C c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (fun h => h1 ((cond1_iff t).mp h)) ((cond2_iff t).mpr h2) (xnAt m c t) (xsAt m c t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [Hx]; · iexact Hx
      isplitl [Hy]; · iexact Hy
      iintro ⟨H0, H1, H2, H3, H4, H5, H6, H7, H8, Hx, Hy⟩
      isplitl [Hx Hy Hg]
      · isplitr [Hg]
        · iexists (xnAt m c t), (xsAt m c t)
          isplitr; · ipureintro; exact hself
          isplitl [Hx]; · iexact Hx
          iexact Hy
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iapply (leaves_live m c t h2)
      iexact H8
    · have h11 : 4 ≤ t.val := by omega
      have hb := fun d => before_S m c d (t.val - 4) t (by omega)
      simp only [hb]
      iintro ⟨⟨⟨%z0, %z1, %hk, Hx, Hy⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      obtain ⟨rfl, rfl⟩ := hkeep z0 z1 h1 hk
      iapply (body_D c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (fun h => h1 ((cond1_iff t).mp h)) (fun h => h2 ((cond2_iff t).mp h)) (sideAt m c (sp t)) (xnAt m c t) (xsAt m c t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [Hx]; · iexact Hx
      isplitl [Hy]; · iexact Hy
      iintro ⟨H0, H1, H2, H3, H4, H5, H6, H7, H8, Hx, Hy⟩
      isplitl [Hx Hy Hg]
      · isplitr [Hg]
        · iexists (xnAt m c t), (xsAt m c t)
          isplitr; · ipureintro; exact hself
          isplitl [Hx]; · iexact Hx
          iexact Hy
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iapply (leaves_idle m c t h11)
      iexact H8

/-- The body table's row at a point. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dat (F := F) m c) (defs₀ (F := F)) Variants.none () Set.univ := fun t => by
  rw [bigSep_W0, bigSep_W0, defs₀_row]
  exact triple_restated (sound_body m c t) rfl .rfl fun _ => .rfl

/-! ## The run -/

/-- The proof data of the program's one call. -/
def dats (p : Fin 1) (c : Dev nD) : Dat τ (Elt F) Unit ℕ (UR sig nD τ) ℕ (cfgs p) c := dat m c

/-- Every run ends with each result at the contents the write-backs leave, the arguments unchanged and every counter at zero. -/
theorem run : θ_run defs (onTc (τ := τ) (main (F := F))) ⟨m, fun _ => 0, ρ⟩ (fun r => (∀ c : Dev nD,
      r.2.mem ((c.tc : Thread nD τ).loc main_v7_0) = (dat m c).arrAt 7 cfg0.N
      ∧ r.2.mem ((c.tc : Thread nD τ).loc main_v7_1) = (dat m c).arrAt 8 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => phi_in m c) (hout := fun c => phi_out m c _)
    (hQ' := fun r h => ⟨fun c => ⟨(h.1 c).1 7, (h.1 c).1 8,
      ((h.1 c).1 0).trans (((dat m c).arrAt_in 0 rfl _).trans ((A_eq m c 0).trans (V_main_arg0 m c))),
      ((h.1 c).1 1).trans (((dat m c).arrAt_in 1 rfl _).trans ((A_eq m c 1).trans (V_main_arg1 m c))),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩)

end Cert.Kernel4Ideal.KV

end
-- ==== Proof.K4Value.lean ====
/- The gated linear unit's results, element by element: a row divided by its root mean square, times the two halves of the weights with their biases, gated. -/
module

public import proofs.«01_k».proof.Proof.K4Run
public import proofs.«01_k».proof.Proof.KHelp
public import proofs.«01_k».proof.Proof.K2Value
public import proofs.«01_k».proof.Proof.Gen.Reference4Ideal.Read
public import Idealize.ShloMosaic.Lib.Pipeline.ValueKit

@[expose] public section

set_option maxRecDepth 16384
set_option backward.isDefEq.respectTransparency false

noncomputable section

namespace Cert.Kernel4Ideal.KV

open Idealize.ShloMosaic Idealize.ShloMosaic.TcCoe
open Cert.Kernel4Ideal.Gen Cert.KHelp
open Idealize.ShloMosaic.Pipeline (Dat Cfg Window BodyObligation cellOf)
open Cert.Kernel2Ideal.KV (nrm nrm_apply dot_apply one_bits)

/-- The gated product. -/
def gate (a b : EReal) : EReal := a * Ideal.logistic b

/-- A column of the left half and of the right half. -/
def lo (q : Fin 2048) : Fin 4096 := ⟨q.val, by omega⟩
def hi (q : Fin 2048) : Fin 4096 := ⟨2048 + q.val, by omega⟩

/-- The normalised rows times the two halves of the matrix, with their biases, gated. -/
def glu {R : ℕ} (x : (Sh R 2048).Idx → EReal) (g : Fin 2048 → EReal) (w : (Sh 2048 4096).Idx → EReal) (b : Fin 4096 → EReal) : (Sh R 2048).Idx → EReal :=
  fun y => gate ((∑ k : Fin 2048, nrm x g (y 0) k * w (ValueIdx.ix2 k (lo (y 1)))) + b (lo (y 1)))
    ((∑ k : Fin 2048, nrm x g (y 0) k * w (ValueIdx.ix2 k (hi (y 1)))) + b (hi (y 1)))

/-- A bias added to every row, as the body broadcasts it. -/
theorem bias_apply {R : ℕ} (b : FVec Ideal (Sh 1 512) .f32) (hs : (Sh 1 512).ShapeCasts (Sh 1 512)) (hb : (Sh 1 512).Broadcasts (Sh R 512)) (r : Fin R) (q : Fin 512) :
    (broadcastTo (Sh R 512) (shapeCast (Sh 1 512) b hs) hb (ValueIdx.ix2 r q) : EReal) = b (ValueIdx.ix2 0 q) := by
  rw [broadcastTo_apply _ hb (ValueIdx.ix2 r q) (ValueIdx.ix2 (0 : Fin 1) q) (fun a => by
    match a with
    | ⟨0, _⟩ => rfl
    | ⟨1, _⟩ => rfl)]
  exact shapeCast_apply _ hs _ (ValueIdx.ix2 (0 : Fin 1) q) rfl

theorem pay1_apply (x : Vec Ideal S1024x2048 .f32) (g : Vec Ideal S1x2048 .f32) (r : Fin 1024) (k : Fin 2048) :
    (k0_pay1 x g (ValueIdx.ix2 r k) : EReal) = nrm (R := 1024) x (fun k => g (ValueIdx.ix2 0 k)) r k := by
  unfold k0_pay1
  refine (shapeCast_apply _ _ (ValueIdx.ix2 r k) (ValueIdx.ix2 r k) rfl).trans ?_
  exact nrm_apply (R := 1024) x g _ _ _ _ _ _ _ r k

theorem pay2_apply (x : Vec Ideal S16x2048 .f32) (g : Vec Ideal S1x2048 .f32) (r : Fin 16) (k : Fin 2048) :
    (k0_pay2 x g (ValueIdx.ix2 r k) : EReal) = nrm (R := 16) x (fun k => g (ValueIdx.ix2 0 k)) r k := by
  unfold k0_pay2
  refine (shapeCast_apply _ _ (ValueIdx.ix2 r k) (ValueIdx.ix2 r k) rfl).trans ?_
  exact nrm_apply (R := 16) x g _ _ _ _ _ _ _ r k

theorem pay3_apply (x : Vec Ideal S1024x2048 .bf16) (wa wb : Vec Ideal S1x2048x512 .bf16) (ba bb : Vec Ideal S1x512 .f32) (r : Fin 1024) (q : Fin 512) :
    (k0_pay3 x wa wb ba bb (ValueIdx.ix2 r q) : EReal)
      = gate ((∑ k : Fin 2048, (x (ValueIdx.ix2 r k) : EReal) * (wa (ValueIdx.ix3 0 k q) : EReal)) + ba (ValueIdx.ix2 0 q))
          ((∑ k : Fin 2048, (x (ValueIdx.ix2 r k) : EReal) * (wb (ValueIdx.ix3 0 k q) : EReal)) + bb (ValueIdx.ix2 0 q)) := by
  unfold k0_pay3
  exact congrArg₂ gate (congrArg₂ (fun a b : EReal => a + b) (dot_apply (R := 1024) _ x wa _ r q) (bias_apply (R := 1024) ba _ _ r q))
    (congrArg₂ (fun a b : EReal => a + b) (dot_apply (R := 1024) _ x wb _ r q) (bias_apply (R := 1024) bb _ _ r q))

theorem pay4_apply (x : Vec Ideal S16x2048 .bf16) (wa wb : Vec Ideal S1x2048x512 .bf16) (ba bb : Vec Ideal S1x512 .f32) (r : Fin 16) (q : Fin 512) :
    (k0_pay4 x wa wb ba bb (ValueIdx.ix2 r q) : EReal)
      = gate ((∑ k : Fin 2048, (x (ValueIdx.ix2 r k) : EReal) * (wa (ValueIdx.ix3 0 k q) : EReal)) + ba (ValueIdx.ix2 0 q))
          ((∑ k : Fin 2048, (x (ValueIdx.ix2 r k) : EReal) * (wb (ValueIdx.ix3 0 k q) : EReal)) + bb (ValueIdx.ix2 0 q)) := by
  unfold k0_pay4
  exact congrArg₂ gate (congrArg₂ (fun a b : EReal => a + b) (dot_apply (R := 16) _ x wa _ r q) (bias_apply (R := 16) ba _ _ r q))
    (congrArg₂ (fun a b : EReal => a + b) (dot_apply (R := 16) _ x wb _ r q) (bias_apply (R := 16) bb _ _ r q))

variable (m : (ℓ : Loc nD τ sig) → Buf (Elt Ideal) ℓ) (c : Dev nD)

/-! ## The windows' blocks -/

theorem ix_3 : ∀ t : Fin cfg0.N, win0_3.index t = ![0, 0, t.val % 4] := by decide +kernel
theorem ix_4 : ∀ t : Fin cfg0.N, win0_4.index t = ![0, 0, t.val % 4 + 4] := by decide +kernel
theorem ix_5 : ∀ t : Fin cfg0.N, win0_5.index t = ![0, t.val % 4] := by decide +kernel
theorem ix_6 : ∀ t : Fin cfg0.N, win0_6.index t = ![0, t.val % 4 + 4] := by decide +kernel
theorem ix_7 : ∀ t : Fin cfg0.N, win0_7.index t = ![t.val / 4, t.val % 4] := by decide +kernel
theorem ix_8 : ∀ t : Fin cfg0.N, win0_8.index t = ![0, min t.val 3] := by decide +kernel

/-- A row of a point's block. -/
def row (t : Fin cfg0.N) (r : Fin 1024) : Fin 8192 := ⟨1024 * (t.val / 4) + r.val, by have := n0 t; omega⟩
/-- A column of a point's block. -/
def col (t : Fin cfg0.N) (q : Fin 512) : Fin 2048 := ⟨512 * (t.val % 4) + q.val, by omega⟩

/-- The arguments. -/
abbrev a0 : (Sh 8192 2048).Idx → EReal := m ((c.tc : Thread nD τ).loc main_arg0)
abbrev a1 : (Sh 16 2048).Idx → EReal := m ((c.tc : Thread nD τ).loc main_arg1)
abbrev a2 (k : Fin 2048) : EReal := (m ((c.tc : Thread nD τ).loc main_arg2) : (⟨1, ![2048]⟩ : Shape).Idx → EReal) (ValueIdx.ix1 k)
abbrev a3 : (Sh 2048 4096).Idx → EReal := m ((c.tc : Thread nD τ).loc main_arg3)
abbrev a4 (k : Fin 4096) : EReal := (m ((c.tc : Thread nD τ).loc main_arg4) : (⟨1, ![4096]⟩ : Shape).Idx → EReal) (ValueIdx.ix1 k)

theorem blk0 (t : Fin cfg0.N) (r : Fin 1024) (k : Fin 2048) :
    (iblk m c 0 t (ValueIdx.ix2 r k) : EReal) = a0 m c (ValueIdx.ix2 (row t r) k) := by
  unfold a0; rw [← V_main_arg0 m c]
  unfold iblk
  blk_simp
  refine congrArg (V m c main_arg0) ?_
  funext a; apply Fin.ext
  match a with
  | ⟨0, _⟩ => blk_simp [ix0]; show _ = 1024 * (t.val / 4) + r.val; simp; omega
  | ⟨1, _⟩ => blk_simp [ix0]

theorem blk1 (t : Fin cfg0.N) (r : Fin 16) (k : Fin 2048) :
    (iblk m c 1 t (ValueIdx.ix2 r k) : EReal) = a1 m c (ValueIdx.ix2 r k) := by
  unfold a1; rw [← V_main_arg1 m c]
  unfold iblk
  blk_simp
  refine congrArg (V m c main_arg1) ?_
  funext a; apply Fin.ext
  match a with
  | ⟨0, _⟩ => blk_simp [ix1]
  | ⟨1, _⟩ => blk_simp [ix1]

theorem gain (k : Fin 2048) : (V m c main_v6 : (Sh 1 2048).Idx → EReal) (ValueIdx.ix2 0 k) = a2 m c k := by
  show StableHlo.after hostOps0 (fun b => m (c, b)) (Proc.devRef .tc main_v6) _ = _
  after_results
  refine shapeCast_apply _ _ _ (ValueIdx.ix1 k) ?_
  rw [Shape.rowMajor_val_one]
  refine Eq.trans ?_ (Shape.rowMajor_val_two (d := ![1, 2048]) (ValueIdx.ix2 0 k)).symm
  show k.val = 0 * 2048 + k.val
  omega

theorem blk2 (t : Fin cfg0.N) (k : Fin 2048) : (iblk m c 2 t (ValueIdx.ix2 0 k) : EReal) = a2 m c k := by
  rw [← gain]
  unfold iblk
  blk_simp
  refine congrArg (V m c main_v6) ?_
  funext a; apply Fin.ext
  match a with
  | ⟨0, _⟩ => blk_simp [ix2]
  | ⟨1, _⟩ => blk_simp [ix2]

theorem wlo (k : Fin 2048) (q : Fin 4096) :
    (V m c main_v1 : (⟨3, ![1, 2048, 4096]⟩ : Shape).Idx → EReal) (ValueIdx.ix3 0 k q) = a3 m c (ValueIdx.ix2 k q) := by
  show StableHlo.after hostOps0 (fun b => m (c, b)) (Proc.devRef .tc main_v1) _ = _
  after_results
  refine congrArg (m ((c.tc : Thread nD τ).loc main_arg3)) ?_
  funext a; apply Fin.ext
  match a with
  | ⟨0, _⟩ => rfl
  | ⟨1, _⟩ => rfl

theorem whi (k : Fin 2048) (q : Fin 4096) :
    (V m c main_v3 : (⟨3, ![1, 2048, 4096]⟩ : Shape).Idx → EReal) (ValueIdx.ix3 0 k q) = a3 m c (ValueIdx.ix2 k q) := by
  show StableHlo.after hostOps0 (fun b => m (c, b)) (Proc.devRef .tc main_v3) _ = _
  after_results
  refine congrArg (m ((c.tc : Thread nD τ).loc main_arg3)) ?_
  funext a; apply Fin.ext
  match a with
  | ⟨0, _⟩ => rfl
  | ⟨1, _⟩ => rfl

theorem blk3 (t : Fin cfg0.N) (k : Fin 2048) (q : Fin 512) :
    (iblk m c 3 t (ValueIdx.ix3 0 k q) : EReal) = a3 m c (ValueIdx.ix2 k (lo (col t q))) := by
  rw [← wlo]
  unfold iblk
  blk_simp
  refine congrArg (V m c main_v1) ?_
  funext a; apply Fin.ext
  match a with
  | ⟨0, _⟩ => blk_simp [ix_3]
  | ⟨1, _⟩ => blk_simp [ix_3]
  | ⟨2, _⟩ => blk_simp [ix_3]; show _ = 512 * (t.val % 4) + q.val; simp; omega

theorem blk4 (t : Fin cfg0.N) (k : Fin 2048) (q : Fin 512) :
    (iblk m c 4 t (ValueIdx.ix3 0 k q) : EReal) = a3 m c (ValueIdx.ix2 k (hi (col t q))) := by
  rw [← whi]
  unfold iblk
  blk_simp
  refine congrArg (V m c main_v3) ?_
  funext a; apply Fin.ext
  match a with
  | ⟨0, _⟩ => blk_simp [ix_4]
  | ⟨1, _⟩ => blk_simp [ix_4]
  | ⟨2, _⟩ => blk_simp [ix_4]; show (t.val % 4 + 4) * 512 + q.val = 2048 + (512 * (t.val % 4) + q.val); omega

theorem blo (k : Fin 4096) : (V m c main_v4 : (Sh 1 4096).Idx → EReal) (ValueIdx.ix2 0 k) = a4 m c k := by
  show StableHlo.after hostOps0 (fun b => m (c, b)) (Proc.devRef .tc main_v4) _ = _
  after_results
  refine shapeCast_apply _ _ _ (ValueIdx.ix1 k) ?_
  rw [Shape.rowMajor_val_one]
  refine Eq.trans ?_ (Shape.rowMajor_val_two (d := ![1, 4096]) (ValueIdx.ix2 0 k)).symm
  show k.val = 0 * 4096 + k.val
  omega

theorem bhi (k : Fin 4096) : (V m c main_v5 : (Sh 1 4096).Idx → EReal) (ValueIdx.ix2 0 k) = a4 m c k := by
  show StableHlo.after hostOps0 (fun b => m (c, b)) (Proc.devRef .tc main_v5) _ = _
  after_results
  refine shapeCast_apply _ _ _ (ValueIdx.ix1 k) ?_
  rw [Shape.rowMajor_val_one]
  refine Eq.trans ?_ (Shape.rowMajor_val_two (d := ![1, 4096]) (ValueIdx.ix2 0 k)).symm
  show k.val = 0 * 4096 + k.val
  omega

theorem blk5 (t : Fin cfg0.N) (q : Fin 512) : (iblk m c 5 t (ValueIdx.ix2 0 q) : EReal) = a4 m c (lo (col t q)) := by
  rw [← blo]
  unfold iblk
  blk_simp
  refine congrArg (V m c main_v4) ?_
  funext a; apply Fin.ext
  match a with
  | ⟨0, _⟩ => blk_simp [ix_5]
  | ⟨1, _⟩ => blk_simp [ix_5]; show t.val % 4 * 512 + q.val = 512 * (t.val % 4) + q.val; omega

theorem blk6 (t : Fin cfg0.N) (q : Fin 512) : (iblk m c 6 t (ValueIdx.ix2 0 q) : EReal) = a4 m c (hi (col t q)) := by
  rw [← bhi]
  unfold iblk
  blk_simp
  refine congrArg (V m c main_v5) ?_
  funext a; apply Fin.ext
  match a with
  | ⟨0, _⟩ => blk_simp [ix_6]
  | ⟨1, _⟩ => blk_simp [ix_6]; show (t.val % 4 + 4) * 512 + q.val = 2048 + (512 * (t.val % 4) + q.val); omega

/-- The prompts' normalised rows at a point. -/
theorem xn_apply (t : Fin cfg0.N) (r : Fin 1024) (k : Fin 2048) :
    (xnAt m c t (ValueIdx.ix2 r k) : EReal) = nrm (a0 m c) (a2 m c) (row t r) k := by
  unfold xnAt
  refine (pay1_apply _ _ r k).trans ?_
  unfold nrm
  simp only [blk0, blk2]

/-- The decoding tokens' normalised rows at a point. -/
theorem xs_apply (t : Fin cfg0.N) (r : Fin 16) (k : Fin 2048) :
    (xsAt m c t (ValueIdx.ix2 r k) : EReal) = nrm (a1 m c) (a2 m c) r k := by
  unfold xsAt
  refine (pay2_apply _ _ r k).trans ?_
  unfold nrm
  simp only [blk1, blk2]

/-! ## The results -/

theorem main_eq : (dat m c).arrAt 7 cfg0.N = glu (a0 m c) (a2 m c) (a3 m c) (a4 m c) := by
  refine (dat m c).arrAt_eq_of_covers 7 _ (by decide +kernel) fun t hf y => ?_
  blk_simp
  rw [after_7]
  obtain ⟨r, q, rfl⟩ : ∃ (r : Fin 1024) (q : Fin 512), y = ValueIdx.ix2 r q := ⟨y 0, y 1, by funext a; match a with | ⟨0, _⟩ => rfl | ⟨1, _⟩ => rfl⟩
  refine (pay3_apply _ _ _ _ _ r q).trans ?_
  have e : (win0_7.blk t).view.emb (ValueIdx.ix2 r q) = ValueIdx.ix2 (row t r) (col t q) := by
    funext a; apply Fin.ext
    match a with
    | ⟨0, _⟩ => blk_simp [ix_7]; show _ = 1024 * (t.val / 4) + r.val; simp; omega
    | ⟨1, _⟩ => blk_simp [ix_7]; show _ = 512 * (t.val % 4) + q.val; simp; omega
  show _ = (glu (a0 m c) (a2 m c) (a3 m c) (a4 m c)) ((win0_7.blk t).view.emb (ValueIdx.ix2 r q))
  rw [e]
  refine congrArg₂ gate (congrArg₂ (fun a b : EReal => a + b) (Finset.sum_congr rfl fun k _ => ?_) ?_) (congrArg₂ (fun a b : EReal => a + b) (Finset.sum_congr rfl fun k _ => ?_) ?_)
  · rw [xn_apply, blk3]
  · exact blk5 m c _ q
  · rw [xn_apply, blk4]
  · exact blk6 m c _ q

theorem side_eq : (dat m c).arrAt 8 cfg0.N = glu (a1 m c) (a2 m c) (a3 m c) (a4 m c) := by
  refine (dat m c).arrAt_eq_of_covers 8 _ (by decide +kernel) fun t hf y => ?_
  blk_simp
  rw [after_8]
  obtain ⟨r, q, rfl⟩ : ∃ (r : Fin 16) (q : Fin 512), y = ValueIdx.ix2 r q := ⟨y 0, y 1, by funext a; match a with | ⟨0, _⟩ => rfl | ⟨1, _⟩ => rfl⟩
  refine (pay4_apply _ _ _ _ _ r q).trans ?_
  have hs : (sp t).val = min t.val 3 := rfl
  have e : (win0_8.blk t).view.emb (ValueIdx.ix2 r q) = ValueIdx.ix2 r (col (sp t) q) := by
    funext a; apply Fin.ext
    match a with
    | ⟨0, _⟩ => blk_simp [ix_8]
    | ⟨1, _⟩ => blk_simp [ix_8]; show _ = 512 * ((sp t).val % 4) + q.val; simp; omega
  show _ = (glu (a1 m c) (a2 m c) (a3 m c) (a4 m c)) ((win0_8.blk t).view.emb (ValueIdx.ix2 r q))
  rw [e]
  refine congrArg₂ gate (congrArg₂ (fun a b : EReal => a + b) (Finset.sum_congr rfl fun k _ => ?_) ?_) (congrArg₂ (fun a b : EReal => a + b) (Finset.sum_congr rfl fun k _ => ?_) ?_)
  · rw [xs_apply, blk3]
  · exact blk5 m c _ q
  · rw [xs_apply, blk4]
  · exact blk6 m c _ q

/-! ## The reference -/

open Cert.Reference4Ideal.Read

/-- The gated product as the reference writes it. -/
theorem gate_ref (a b : EReal) :
    a * Ideal.div (Ideal.ofBits .f32 0x3F800000#32) (Ideal.ofBits .f32 0x3F800000#32 + Ideal.exp (-b)) = gate a b := by
  rw [one_bits]; rfl

/-- The reference's normalised rows, main. -/
theorem ref_nrm_main (x : (⟨Cert.Reference4Ideal.S8192x2048, .f32⟩ : BufTy).Contents (Elt Ideal)) (g : (⟨Cert.Reference4Ideal.S2048, .f32⟩ : BufTy).Contents (Elt Ideal)) (i : Cert.Reference4Ideal.S8192x2048.Idx) :
    (val_main_v12 (F := Ideal) x g i : EReal) = nrm (R := 8192) x (fun k => g (ValueIdx.ix1 k)) (i 0) (i 1) :=
  Cert.Kernel2Ideal.KV.ref_nrm_main x g i

/-- The reference's product with the bias, main. -/
theorem ref_sum_main (x : (⟨Cert.Reference4Ideal.S8192x2048, .f32⟩ : BufTy).Contents (Elt Ideal)) (g : (⟨Cert.Reference4Ideal.S2048, .f32⟩ : BufTy).Contents (Elt Ideal))
    (w : (⟨Cert.Reference4Ideal.S2048x4096, .f32⟩ : BufTy).Contents (Elt Ideal)) (b : (⟨Cert.Reference4Ideal.S4096, .f32⟩ : BufTy).Contents (Elt Ideal)) (i : Cert.Reference4Ideal.S8192x4096.Idx) :
    (val_main_v16 (F := Ideal) x g w b i : EReal) = (∑ k : Fin 2048, nrm (R := 8192) x (fun k => g (ValueIdx.ix1 k)) (i 0) k * w (ValueIdx.ix2 k (i 1))) + b (ValueIdx.ix1 (i 1)) := by
  rw [val_main_v16_apply, val_main_v13_apply, val_main_v15_apply, val_main_v14_apply]
  refine congrArg₂ (fun a b : EReal => a + b) (Finset.sum_congr rfl fun k _ => congrArg₂ (fun a b : EReal => a * b) (ref_nrm_main x g _) (congrArg w ?_)) (congrArg b ?_)
  · funext a; match a with | ⟨0, _⟩ => rfl | ⟨1, _⟩ => rfl
  · funext a; match a with | ⟨0, _⟩ => rfl

/-- The reference's result, main. -/
theorem ref_main (x : (⟨Cert.Reference4Ideal.S8192x2048, .f32⟩ : BufTy).Contents (Elt Ideal)) (g : (⟨Cert.Reference4Ideal.S2048, .f32⟩ : BufTy).Contents (Elt Ideal))
    (w : (⟨Cert.Reference4Ideal.S2048x4096, .f32⟩ : BufTy).Contents (Elt Ideal)) (b : (⟨Cert.Reference4Ideal.S4096, .f32⟩ : BufTy).Contents (Elt Ideal)) :
    val_main_v25 (F := Ideal) x g w b = glu (R := 8192) x (fun k => g (ValueIdx.ix1 k)) w (fun k => b (ValueIdx.ix1 k)) := by
  funext i
  rw [val_main_v25_apply, val_main_v24_apply, val_main_v23_apply, val_main_v22_apply, val_main_v21_apply, val_main_v20_apply, val_main_v19_apply,
    val_main_v18_apply, val_main_v17_apply, val_main_cst_2_apply, val_main_cst_3_apply, ref_sum_main, ref_sum_main]
  refine (gate_ref _ _).trans ?_
  have e1 : idx_main_v17 i = ValueIdx.ix2 (i 0) (lo (i 1)) := by
    funext a; apply Fin.ext
    match a with
    | ⟨0, _⟩ => rfl
    | ⟨1, _⟩ => rfl
  have e2 : idx_main_v18 i = ValueIdx.ix2 (i 0) (hi (i 1)) := by
    funext a; apply Fin.ext
    match a with
    | ⟨0, _⟩ => rfl
    | ⟨1, _⟩ => rfl
  rw [e1, e2]
  rfl

/-- The reference's normalised rows, side. -/
theorem ref_nrm_side (x : (⟨Cert.Reference4Ideal.S16x2048, .f32⟩ : BufTy).Contents (Elt Ideal)) (g : (⟨Cert.Reference4Ideal.S2048, .f32⟩ : BufTy).Contents (Elt Ideal)) (i : Cert.Reference4Ideal.S16x2048.Idx) :
    (val_main_v38 (F := Ideal) x g i : EReal) = nrm (R := 16) x (fun k => g (ValueIdx.ix1 k)) (i 0) (i 1) :=
  Cert.Kernel2Ideal.KV.ref_nrm_side x g i

/-- The reference's product with the bias, side. -/
theorem ref_sum_side (x : (⟨Cert.Reference4Ideal.S16x2048, .f32⟩ : BufTy).Contents (Elt Ideal)) (g : (⟨Cert.Reference4Ideal.S2048, .f32⟩ : BufTy).Contents (Elt Ideal))
    (w : (⟨Cert.Reference4Ideal.S2048x4096, .f32⟩ : BufTy).Contents (Elt Ideal)) (b : (⟨Cert.Reference4Ideal.S4096, .f32⟩ : BufTy).Contents (Elt Ideal)) (i : Cert.Reference4Ideal.S16x4096.Idx) :
    (val_main_v42 (F := Ideal) x g w b i : EReal) = (∑ k : Fin 2048, nrm (R := 16) x (fun k => g (ValueIdx.ix1 k)) (i 0) k * w (ValueIdx.ix2 k (i 1))) + b (ValueIdx.ix1 (i 1)) := by
  rw [val_main_v42_apply, val_main_v39_apply, val_main_v41_apply, val_main_v40_apply]
  refine congrArg₂ (fun a b : EReal => a + b) (Finset.sum_congr rfl fun k _ => congrArg₂ (fun a b : EReal => a * b) (ref_nrm_side x g _) (congrArg w ?_)) (congrArg b ?_)
  · funext a; match a with | ⟨0, _⟩ => rfl | ⟨1, _⟩ => rfl
  · funext a; match a with | ⟨0, _⟩ => rfl

/-- The reference's result, side. -/
theorem ref_side (x : (⟨Cert.Reference4Ideal.S16x2048, .f32⟩ : BufTy).Contents (Elt Ideal)) (g : (⟨Cert.Reference4Ideal.S2048, .f32⟩ : BufTy).Contents (Elt Ideal))
    (w : (⟨Cert.Reference4Ideal.S2048x4096, .f32⟩ : BufTy).Contents (Elt Ideal)) (b : (⟨Cert.Reference4Ideal.S4096, .f32⟩ : BufTy).Contents (Elt Ideal)) :
    val_main_v51 (F := Ideal) x g w b = glu (R := 16) x (fun k => g (ValueIdx.ix1 k)) w (fun k => b (ValueIdx.ix1 k)) := by
  funext i
  rw [val_main_v51_apply, val_main_v50_apply, val_main_v49_apply, val_main_v48_apply, val_main_v47_apply, val_main_v46_apply, val_main_v45_apply,
    val_main_v44_apply, val_main_v43_apply, val_main_cst_7_apply, val_main_cst_8_apply, ref_sum_side, ref_sum_side]
  refine (gate_ref _ _).trans ?_
  have e1 : idx_main_v43 i = ValueIdx.ix2 (i 0) (lo (i 1)) := by
    funext a; apply Fin.ext
    match a with
    | ⟨0, _⟩ => rfl
    | ⟨1, _⟩ => rfl
  have e2 : idx_main_v44 i = ValueIdx.ix2 (i 0) (hi (i 1)) := by
    funext a; apply Fin.ext
    match a with
    | ⟨0, _⟩ => rfl
    | ⟨1, _⟩ => rfl
  rw [e1, e2]
  rfl

end Cert.Kernel4Ideal.KV

end
-- ==== Proof.K5Run.lean ====
/- The key projection's call: what its body leaves at each grid point, the normalised rows kept in scratch over a row of the grid, the
   side result's buffer carried over the points that do not touch it, and the run's contents at the end. -/
module

public import proofs.«01_k».proof.Proof.Gen.Kernel5Ideal.Frame
public import proofs.«01_k».proof.Proof.Gen.Kernel5Ideal.Skeleton
public import Idealize.ShloMosaic.Lib.Pipeline.Value
public import Idealize.ShloMosaic.Lib.Pipeline.ValueKit
public import proofs.«01_k».proof.Proof.KStore

@[expose] public section

set_option maxRecDepth 16384

noncomputable section

namespace Cert.Kernel5Ideal.KV

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal.Gen
open Cert.KStore (off2 read_store)

variable {F : FTy → Type} [FloatOps F]

local notation "𝕄" => MT nD τ sig Unit (Elt F) ℕ (UR sig nD τ) ℕ

/-- The first condition, as the body computes it. -/
abbrev cond1 (i : grid0.Coords) : BitVec 1 := Scalar.cmpi .ne (Scalar.extui (Scalar.cmpi .eq (BitVec.ofNat 32 (i 1).val) 0#32)) 0#32

/-- Rows laid out by head: head `h` of a row is its columns `128 h` to `128 h + 127`. -/
def heads (v : FVec F S1024x1024 .f32) : Vec F S1024x8x128 .f32 :=
  fun y => v (ValueIdx.ix2 (y 0) ⟨128 * (y 1).val + (y 2).val, by
    have h1 : (y 1).val < 8 := (y 1).isLt
    have h2 : (y 2).val < 128 := (y 2).isLt
    omega⟩)

/-- One head's store holds that head's columns. -/
theorem head_piece (v : FVec F S1024x1024 .f32) (h o : ℕ) (hh : h < 8) (ho : o = 128 * h) (sl : S1024x1024.Slices ![0, o] S1024x128) (sc : S1024x128.ShapeCasts S1024x1x128)
    (inb : ∀ a, (![0, h, 0] : Fin 3 → ℕ) a + S1024x1x128.size a ≤ S1024x8x128.size a) (x : S1024x1x128.Idx) :
    shapeCast S1024x1x128 (extractStridedSlice S1024x128 ![0, o] v sl) sc x = heads v ((Rect.unit (s := S1024x8x128) ![0, h, 0] S1024x1x128.size inb).emb x) := by
  have h0 : (x 0).val < 1024 := (x 0).isLt
  have h1 : (x 1).val < 1 := (x 1).isLt
  have h2 : (x 2).val < 128 := (x 2).isLt
  refine (shapeCast_apply _ sc x (ValueIdx.ix2 (⟨(x 0).val, h0⟩ : Fin 1024) (⟨(x 2).val, h2⟩ : Fin 128)) ?_).trans ?_
  · refine (Shape.rowMajor_val_two (d := ![1024, 128]) _).trans (Eq.trans ?_ (Shape.rowMajor_val_three (d := ![1024, 1, 128]) x).symm)
    show (x 0).val * 128 + (x 2).val = ((x 0).val * 1 + (x 1).val) * 128 + (x 2).val
    omega
  unfold heads
  refine extractStridedSlice_apply ![0, o] v sl _ _ fun a => ?_
  match a with
  | ⟨0, _⟩ => show 0 + 1 * (x 0).val = 0 + (x 0).val; omega
  | ⟨1, _⟩ => show 128 * (h + 1 * (x 1).val) + (0 + 1 * (x 2).val) = o + (x 2).val; omega

/-- The stores of the eight heads. -/
def headStores (x : Vec F S1024x2048 .bf16) (w : Vec F S1x2048x1024 .bf16) : List (View.Piece (Elt F) S1024x8x128 .f32) :=
  [⟨Rect.unit (s := S1024x8x128) ![0, 7, 0] S1024x1x128.size inb_S1024x8x128_S1024x1x128_0_7_0, k0_pay3 (k0_pay8 x w)⟩,
    ⟨Rect.unit (s := S1024x8x128) ![0, 6, 0] S1024x1x128.size inb_S1024x8x128_S1024x1x128_0_6_0, k0_pay2 (k0_pay8 x w)⟩,
    ⟨Rect.unit (s := S1024x8x128) ![0, 5, 0] S1024x1x128.size inb_S1024x8x128_S1024x1x128_0_5_0, k0_pay1 (k0_pay14 x w)⟩,
    ⟨Rect.unit (s := S1024x8x128) ![0, 4, 0] S1024x1x128.size inb_S1024x8x128_S1024x1x128_0_4_0, k0_pay13 x w⟩,
    ⟨Rect.unit (s := S1024x8x128) ![0, 3, 0] S1024x1x128.size inb_S1024x8x128_S1024x1x128_0_3_0, k0_pay12 x w⟩,
    ⟨Rect.unit (s := S1024x8x128) ![0, 2, 0] S1024x1x128.size inb_S1024x8x128_S1024x1x128_0_2_0, k0_pay11 x w⟩,
    ⟨Rect.unit (s := S1024x8x128) ![0, 1, 0] S1024x1x128.size inb_S1024x8x128_S1024x1x128_0_1_0, k0_pay10 x w⟩,
    ⟨Rect.unit (s := S1024x8x128) ![0, 0, 0] S1024x1x128.size inb_S1024x8x128_S1024x1x128_0_0_0, k0_pay9 x w⟩]

theorem headStores_cover (x : Vec F S1024x2048 .bf16) (w : Vec F S1x2048x1024 .bf16) (y : S1024x8x128.Idx) : ∃ p ∈ headStores x w, y ∈ p.1.set := by
  have h0 : (y 0).val < 1024 := (y 0).isLt
  have h1 : (y 1).val < 8 := (y 1).isLt
  have h2 : (y 2).val < 128 := (y 2).isLt
  have key : ∀ (h : ℕ) (inb), (y 1).val = h → y ∈ (Rect.unit (s := S1024x8x128) ![0, h, 0] S1024x1x128.size inb).set := fun h inb e =>
    Rect.mem_set_unit.mpr fun a => by
      match a with
      | ⟨0, _⟩ => exact ⟨Nat.zero_le _, by show (y 0).val < 0 + 1024; omega⟩
      | ⟨1, _⟩ => exact ⟨by show h ≤ (y 1).val; omega, by show (y 1).val < h + 1; omega⟩
      | ⟨2, _⟩ => exact ⟨Nat.zero_le _, by show (y 2).val < 0 + 128; omega⟩
  unfold headStores
  simp only [List.mem_cons, List.not_mem_nil, _root_.or_false, exists_eq_or_imp, exists_eq_left]
  have hc : (y 1).val = 7 ∨ (y 1).val = 6 ∨ (y 1).val = 5 ∨ (y 1).val = 4 ∨ (y 1).val = 3 ∨ (y 1).val = 2 ∨ (y 1).val = 1 ∨ (y 1).val = 0 := by omega
  exact hc.imp (key 7 _) (Or.imp (key 6 _) (Or.imp (key 5 _) (Or.imp (key 4 _) (Or.imp (key 3 _) (Or.imp (key 2 _) (Or.imp (key 1 _) (key 0 _)))))))

theorem headStores_pieces (x : Vec F S1024x2048 .bf16) (w : Vec F S1x2048x1024 .bf16) : ∀ p ∈ headStores x w, ∀ z : p.1.shape.Idx, p.2 z = heads (k0_pay8 x w) (p.1.emb z) := by
  unfold headStores
  simp only [List.mem_cons, List.not_mem_nil, _root_.or_false, forall_eq_or_imp, forall_eq]
  exact ⟨fun z => head_piece (k0_pay8 x w) 7 896 (by decide) (by decide) slices_S1024x1024_o0_896_S1024x128 shapeCasts_S1024x128_S1024x1x128 _ z,
    fun z => head_piece (k0_pay8 x w) 6 768 (by decide) (by decide) slices_S1024x1024_o0_768_S1024x128 shapeCasts_S1024x128_S1024x1x128 _ z,
    fun z => head_piece (k0_pay8 x w) 5 640 (by decide) (by decide) slices_S1024x1024_o0_640_S1024x128 shapeCasts_S1024x128_S1024x1x128 _ z,
    fun z => head_piece (k0_pay8 x w) 4 512 (by decide) (by decide) slices_S1024x1024_o0_512_S1024x128 shapeCasts_S1024x128_S1024x1x128 _ z,
    fun z => head_piece (k0_pay8 x w) 3 384 (by decide) (by decide) slices_S1024x1024_o0_384_S1024x128 shapeCasts_S1024x128_S1024x1x128 _ z,
    fun z => head_piece (k0_pay8 x w) 2 256 (by decide) (by decide) slices_S1024x1024_o0_256_S1024x128 shapeCasts_S1024x128_S1024x1x128 _ z,
    fun z => head_piece (k0_pay8 x w) 1 128 (by decide) (by decide) slices_S1024x1024_o0_128_S1024x128 shapeCasts_S1024x128_S1024x1x128 _ z,
    fun z => head_piece (k0_pay8 x w) 0 0 (by decide) (by decide) slices_S1024x1024_o0_0_S1024x128 shapeCasts_S1024x128_S1024x1x128 _ z⟩

/-- The eight stores read back as the rows laid out by head. -/
theorem read_heads (M : Memref sig .tc .vmem S1024x8x128 .f32) (f : M.view.ty.Contents (Elt F)) (x : Vec F S1024x2048 .bf16) (w : Vec F S1x2048x1024 .bf16) :
    M.view.read (Elt F) (M.view.writes (Elt F) f (headStores x w)) = heads (k0_pay8 x w) := by
  rw [View.read_writes_eq_canon _ _ _ (headStores_cover x w)]
  funext y
  exact View.canon_apply_of_pieces _ _ (headStores_pieces x w) y (headStores_cover x w y)

section Bodies

variable (c : Dev nD) (i : grid0.Coords) (arg2 : Memref sig .tc .vmem S1024x2048 .f32) (harg2 : arg2.IsWhole) (arg3 : Memref sig .tc .vmem S16x2048 .f32) (harg3 : arg3.IsWhole) (arg4 : Memref sig .tc .vmem S1x2048 .f32) (harg4 : arg4.IsWhole) (arg5 : Memref sig .tc .vmem S1x2048x1024 .bf16) (harg5 : arg5.IsWhole) (arg6 : Memref sig .tc .vmem S1024x8x128 .f32) (harg6 : arg6.IsWhole) (arg7 : Memref sig .tc .vmem S1024x1024 .bf16) (harg7 : arg7.IsWhole) (arg8 : Memref sig .tc .vmem S16x1024 .f32) (harg8 : arg8.IsWhole) (arg9 : Memref sig .tc .vmem S1024x2048 .bf16) (harg9 : arg9.IsWhole) (arg10 : Memref sig .tc .vmem S16x2048 .bf16) (harg10 : arg10.IsWhole)
  (x0 : Vec F S1024x2048 .f32) (x1 : Vec F S16x2048 .f32) (x2 : Vec F S1x2048 .f32) (x3 : Vec F S1x2048x1024 .bf16)

set_option maxHeartbeats 4000000 in
/-- The body at the points that store the normalised rows and the side result. -/
theorem body_A (hc : cond1 i = 1#1) (hd : k0_cond2 i = 1#1) (E : Set ℕ) (K : PUnit → sProp 𝕄) :
    iprop(owns c arg2 fullShare x0 ∗ owns c arg3 fullShare x1 ∗ owns c arg4 fullShare x2 ∗ owns c arg5 fullShare x3 ∗ (∃ d, owns c arg6 fullShare d) ∗ (∃ d, owns c arg7 fullShare d) ∗ (∃ d, owns c arg8 fullShare d) ∗ (∃ d, owns c arg9 fullShare d) ∗ (∃ d, owns c arg10 fullShare d)
        ∗ (iprop(owns c arg2 fullShare x0 ∗ owns c arg3 fullShare x1 ∗ owns c arg4 fullShare x2 ∗ owns c arg5 fullShare x3 ∗ owns c arg6 fullShare (heads (k0_pay8 (k0_pay6 x0 x2) x3)) ∗ owns c arg7 fullShare (k0_pay4 (k0_pay8 (k0_pay6 x0 x2) x3)) ∗ owns c arg8 fullShare (k0_pay5 (k0_pay7 x1 x2) x3) ∗ owns c arg9 fullShare (k0_pay6 x0 x2) ∗ owns c arg10 fullShare (k0_pay7 x1 x2)) -∗ K ⟨⟩))
      ⊢ wp frame (wpE (defs₀ (F := F)) Variants.none c none) E (cc0_kproj i arg2 harg2 arg3 harg3 arg4 harg4 arg5 harg5 arg6 harg6 arg7 harg7 arg8 harg8 arg9 harg9 arg10 harg10) K := by
  simp only [cc0_kproj_eq_skeleton]; unfold cc0_kproj_skel
  simp only [k0_part1_eq_skeleton]; unfold k0_part1_skel
  dsimp only
  rw [dif_pos hc, dif_pos hd]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, Hk⟩
  obtain rfl := harg2.eq_unread hf0; obtain rfl := harg3.eq_unread hf1; obtain rfl := harg4.eq_unread hf2; obtain rfl := harg5.eq_unread hf3
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    refine (read_heads arg6 _ _ _).trans ?_
    simp (disch := decide) only [View.readAt_eq_ld, harg2.read_unread, harg3.read_unread, harg4.read_unread, harg5.read_unread, View.readCov_unit_zero (S := S1024x2048) _ off2, View.readCov_unit_zero (S := S16x2048) _ off2, View.ld_unit_lit']
    refine congrArg (fun z => heads (k0_pay8 z x3)) ?_
    refine (View.readCov_unit_zero (S := S1024x2048) arg9.view (off := ![0, 0]) off2 inb_S1024x2048_S1024x2048_0_0 _).trans ?_
    simp (disch := decide) only [View.readAt_eq_ld, harg2.read_unread, harg3.read_unread, harg4.read_unread, harg5.read_unread, View.readCov_unit_zero (S := S1024x2048) _ off2, View.readCov_unit_zero (S := S16x2048) _ off2, View.ld_unit_lit']
  isplitl [H5]
  · iexists _; isplitr
    swap; · iexact H5
    ipureintro
    rw [read_store _ off2]
    simp (disch := decide) only [View.readAt_eq_ld, harg2.read_unread, harg3.read_unread, harg4.read_unread, harg5.read_unread, View.readCov_unit_zero (S := S1024x2048) _ off2, View.readCov_unit_zero (S := S16x2048) _ off2, View.ld_unit_lit']
    refine congrArg (fun z => k0_pay4 (k0_pay8 z x3)) ?_
    refine (View.readCov_unit_zero (S := S1024x2048) arg9.view (off := ![0, 0]) off2 inb_S1024x2048_S1024x2048_0_0 _).trans ?_
    simp (disch := decide) only [View.readAt_eq_ld, harg2.read_unread, harg3.read_unread, harg4.read_unread, harg5.read_unread, View.readCov_unit_zero (S := S1024x2048) _ off2, View.readCov_unit_zero (S := S16x2048) _ off2, View.ld_unit_lit']
  isplitl [H6]
  · iexists _; isplitr
    swap; · iexact H6
    ipureintro
    rw [read_store _ off2]
    simp (disch := decide) only [View.readAt_eq_ld, harg2.read_unread, harg3.read_unread, harg4.read_unread, harg5.read_unread, View.readCov_unit_zero (S := S1024x2048) _ off2, View.readCov_unit_zero (S := S16x2048) _ off2, View.ld_unit_lit']
    refine congrArg (fun z => k0_pay5 z x3) ?_
    refine (View.readCov_unit_zero (S := S16x2048) arg10.view (off := ![0, 0]) off2 inb_S16x2048_S16x2048_0_0 _).trans ?_
    simp (disch := decide) only [View.readAt_eq_ld, harg2.read_unread, harg3.read_unread, harg4.read_unread, harg5.read_unread, View.readCov_unit_zero (S := S1024x2048) _ off2, View.readCov_unit_zero (S := S16x2048) _ off2, View.ld_unit_lit']
  isplitl [H7]
  · iexists _; isplitr
    swap; · iexact H7
    ipureintro
    refine (read_store arg9 (off := ![0, 0]) off2 inb_S1024x2048_S1024x2048_0_0 _ _).trans ?_
    simp (disch := decide) only [View.readAt_eq_ld, harg2.read_unread, harg3.read_unread, harg4.read_unread, harg5.read_unread, View.readCov_unit_zero (S := S1024x2048) _ off2, View.readCov_unit_zero (S := S16x2048) _ off2, View.ld_unit_lit']
  iexists _; isplitr
  swap; · iexact H8
  ipureintro
  refine (read_store arg10 (off := ![0, 0]) off2 inb_S16x2048_S16x2048_0_0 _ _).trans ?_
  simp (disch := decide) only [View.readAt_eq_ld, harg2.read_unread, harg3.read_unread, harg4.read_unread, harg5.read_unread, View.readCov_unit_zero (S := S1024x2048) _ off2, View.readCov_unit_zero (S := S16x2048) _ off2, View.ld_unit_lit']

set_option maxHeartbeats 4000000 in
/-- The body at the points that store the normalised rows only. -/
theorem body_B (hc : cond1 i = 1#1) (hd : ¬ k0_cond2 i = 1#1) (z2 : Vec F S16x1024 .f32) (E : Set ℕ) (K : PUnit → sProp 𝕄) :
    iprop(owns c arg2 fullShare x0 ∗ owns c arg3 fullShare x1 ∗ owns c arg4 fullShare x2 ∗ owns c arg5 fullShare x3 ∗ (∃ d, owns c arg6 fullShare d) ∗ (∃ d, owns c arg7 fullShare d) ∗ owns c arg8 fullShare z2 ∗ (∃ d, owns c arg9 fullShare d) ∗ (∃ d, owns c arg10 fullShare d)
        ∗ (iprop(owns c arg2 fullShare x0 ∗ owns c arg3 fullShare x1 ∗ owns c arg4 fullShare x2 ∗ owns c arg5 fullShare x3 ∗ owns c arg6 fullShare (heads (k0_pay8 (k0_pay6 x0 x2) x3)) ∗ owns c arg7 fullShare (k0_pay4 (k0_pay8 (k0_pay6 x0 x2) x3)) ∗ owns c arg8 fullShare z2 ∗ owns c arg9 fullShare (k0_pay6 x0 x2) ∗ owns c arg10 fullShare (k0_pay7 x1 x2)) -∗ K ⟨⟩))
      ⊢ wp frame (wpE (defs₀ (F := F)) Variants.none c none) E (cc0_kproj i arg2 harg2 arg3 harg3 arg4 harg4 arg5 harg5 arg6 harg6 arg7 harg7 arg8 harg8 arg9 harg9 arg10 harg10) K := by
  simp only [cc0_kproj_eq_skeleton]; unfold cc0_kproj_skel
  simp only [k0_part1_eq_skeleton]; unfold k0_part1_skel
  dsimp only
  rw [dif_pos hc, dif_neg hd]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%d7, %f7, -, H7⟩, ⟨%d8, %f8, -, H8⟩, Hk⟩
  obtain rfl := harg2.eq_unread hf0; obtain rfl := harg3.eq_unread hf1; obtain rfl := harg4.eq_unread hf2; obtain rfl := harg5.eq_unread hf3; obtain rfl := harg8.eq_unread hf6
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    refine (read_heads arg6 _ _ _).trans ?_
    simp (disch := decide) only [View.readAt_eq_ld, harg2.read_unread, harg3.read_unread, harg4.read_unread, harg5.read_unread, View.readCov_unit_zero (S := S1024x2048) _ off2, View.readCov_unit_zero (S := S16x2048) _ off2, View.ld_unit_lit']
    refine congrArg (fun z => heads (k0_pay8 z x3)) ?_
    refine (View.readCov_unit_zero (S := S1024x2048) arg9.view (off := ![0, 0]) off2 inb_S1024x2048_S1024x2048_0_0 _).trans ?_
    simp (disch := decide) only [View.readAt_eq_ld, harg2.read_unread, harg3.read_unread, harg4.read_unread, harg5.read_unread, View.readCov_unit_zero (S := S1024x2048) _ off2, View.readCov_unit_zero (S := S16x2048) _ off2, View.ld_unit_lit']
  isplitl [H5]
  · iexists _; isplitr
    swap; · iexact H5
    ipureintro
    rw [read_store _ off2]
    simp (disch := decide) only [View.readAt_eq_ld, harg2.read_unread, harg3.read_unread, harg4.read_unread, harg5.read_unread, View.readCov_unit_zero (S := S1024x2048) _ off2, View.readCov_unit_zero (S := S16x2048) _ off2, View.ld_unit_lit']
    refine congrArg (fun z => k0_pay4 (k0_pay8 z x3)) ?_
    refine (View.readCov_unit_zero (S := S1024x2048) arg9.view (off := ![0, 0]) off2 inb_S1024x2048_S1024x2048_0_0 _).trans ?_
    simp (disch := decide) only [View.readAt_eq_ld, harg2.read_unread, harg3.read_unread, harg4.read_unread, harg5.read_unread, View.readCov_unit_zero (S := S1024x2048) _ off2, View.readCov_unit_zero (S := S16x2048) _ off2, View.ld_unit_lit']
  isplitl [H6]
  · iexists _; isplitr; · ipureintro; exact harg8.read_unread _
    iexact H6
  isplitl [H7]
  · iexists _; isplitr
    swap; · iexact H7
    ipureintro
    refine (read_store arg9 (off := ![0, 0]) off2 inb_S1024x2048_S1024x2048_0_0 _ _).trans ?_
    simp (disch := decide) only [View.readAt_eq_ld, harg2.read_unread, harg3.read_unread, harg4.read_unread, harg5.read_unread, View.readCov_unit_zero (S := S1024x2048) _ off2, View.readCov_unit_zero (S := S16x2048) _ off2, View.ld_unit_lit']
  iexists _; isplitr
  swap; · iexact H8
  ipureintro
  refine (read_store arg10 (off := ![0, 0]) off2 inb_S16x2048_S16x2048_0_0 _ _).trans ?_
  simp (disch := decide) only [View.readAt_eq_ld, harg2.read_unread, harg3.read_unread, harg4.read_unread, harg5.read_unread, View.readCov_unit_zero (S := S1024x2048) _ off2, View.readCov_unit_zero (S := S16x2048) _ off2, View.ld_unit_lit']

set_option maxHeartbeats 4000000 in
/-- The body at the points that store the side result only. -/
theorem body_C (hc : ¬ cond1 i = 1#1) (hd : k0_cond2 i = 1#1) (z0 : Vec F S1024x2048 .bf16) (z1 : Vec F S16x2048 .bf16) (E : Set ℕ) (K : PUnit → sProp 𝕄) :
    iprop(owns c arg2 fullShare x0 ∗ owns c arg3 fullShare x1 ∗ owns c arg4 fullShare x2 ∗ owns c arg5 fullShare x3 ∗ (∃ d, owns c arg6 fullShare d) ∗ (∃ d, owns c arg7 fullShare d) ∗ (∃ d, owns c arg8 fullShare d) ∗ owns c arg9 fullShare z0 ∗ owns c arg10 fullShare z1
        ∗ (iprop(owns c arg2 fullShare x0 ∗ owns c arg3 fullShare x1 ∗ owns c arg4 fullShare x2 ∗ owns c arg5 fullShare x3 ∗ owns c arg6 fullShare (heads (k0_pay8 z0 x3)) ∗ owns c arg7 fullShare (k0_pay4 (k0_pay8 z0 x3)) ∗ owns c arg8 fullShare (k0_pay5 z1 x3) ∗ owns c arg9 fullShare z0 ∗ owns c arg10 fullShare z1) -∗ K ⟨⟩))
      ⊢ wp frame (wpE (defs₀ (F := F)) Variants.none c none) E (cc0_kproj i arg2 harg2 arg3 harg3 arg4 harg4 arg5 harg5 arg6 harg6 arg7 harg7 arg8 harg8 arg9 harg9 arg10 harg10) K := by
  simp only [cc0_kproj_eq_skeleton]; unfold cc0_kproj_skel
  simp only [k0_part1_eq_skeleton]; unfold k0_part1_skel
  dsimp only
  rw [dif_neg hc, dif_pos hd]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%f7, %hf7, H7⟩, ⟨%f8, %hf8, H8⟩, Hk⟩
  obtain rfl := harg2.eq_unread hf0; obtain rfl := harg3.eq_unread hf1; obtain rfl := harg4.eq_unread hf2; obtain rfl := harg5.eq_unread hf3; obtain rfl := harg9.eq_unread hf7; obtain rfl := harg10.eq_unread hf8
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    refine (read_heads arg6 _ _ _).trans ?_
    simp (disch := decide) only [View.readAt_eq_ld, harg5.read_unread, harg9.read_unread, harg10.read_unread, View.ld_unit_lit']
  isplitl [H5]
  · iexists _; isplitr
    swap; · iexact H5
    ipureintro
    rw [read_store _ off2]
    simp (disch := decide) only [View.readAt_eq_ld, harg5.read_unread, harg9.read_unread, harg10.read_unread, View.ld_unit_lit']
  isplitl [H6]
  · iexists _; isplitr
    swap; · iexact H6
    ipureintro
    rw [read_store _ off2]
    simp (disch := decide) only [View.readAt_eq_ld, harg5.read_unread, harg9.read_unread, harg10.read_unread, View.ld_unit_lit']
  isplitl [H7]
  · iexists _; isplitr; · ipureintro; exact harg9.read_unread _
    iexact H7
  iexists _; isplitr; · ipureintro; exact harg10.read_unread _
  iexact H8

set_option maxHeartbeats 4000000 in
/-- The body at the points that store neither. -/
theorem body_D (hc : ¬ cond1 i = 1#1) (hd : ¬ k0_cond2 i = 1#1) (z2 : Vec F S16x1024 .f32) (z0 : Vec F S1024x2048 .bf16) (z1 : Vec F S16x2048 .bf16) (E : Set ℕ) (K : PUnit → sProp 𝕄) :
    iprop(owns c arg2 fullShare x0 ∗ owns c arg3 fullShare x1 ∗ owns c arg4 fullShare x2 ∗ owns c arg5 fullShare x3 ∗ (∃ d, owns c arg6 fullShare d) ∗ (∃ d, owns c arg7 fullShare d) ∗ owns c arg8 fullShare z2 ∗ owns c arg9 fullShare z0 ∗ owns c arg10 fullShare z1
        ∗ (iprop(owns c arg2 fullShare x0 ∗ owns c arg3 fullShare x1 ∗ owns c arg4 fullShare x2 ∗ owns c arg5 fullShare x3 ∗ owns c arg6 fullShare (heads (k0_pay8 z0 x3)) ∗ owns c arg7 fullShare (k0_pay4 (k0_pay8 z0 x3)) ∗ owns c arg8 fullShare z2 ∗ owns c arg9 fullShare z0 ∗ owns c arg10 fullShare z1) -∗ K ⟨⟩))
      ⊢ wp frame (wpE (defs₀ (F := F)) Variants.none c none) E (cc0_kproj i arg2 harg2 arg3 harg3 arg4 harg4 arg5 harg5 arg6 harg6 arg7 harg7 arg8 harg8 arg9 harg9 arg10 harg10) K := by
  simp only [cc0_kproj_eq_skeleton]; unfold cc0_kproj_skel
  simp only [k0_part1_eq_skeleton]; unfold k0_part1_skel
  dsimp only
  rw [dif_neg hc, dif_neg hd]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%f7, %hf7, H7⟩, ⟨%f8, %hf8, H8⟩, Hk⟩
  obtain rfl := harg2.eq_unread hf0; obtain rfl := harg3.eq_unread hf1; obtain rfl := harg4.eq_unread hf2; obtain rfl := harg5.eq_unread hf3; obtain rfl := harg8.eq_unread hf6; obtain rfl := harg9.eq_unread hf7; obtain rfl := harg10.eq_unread hf8
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    refine (read_heads arg6 _ _ _).trans ?_
    simp (disch := decide) only [View.readAt_eq_ld, harg5.read_unread, harg9.read_unread, harg10.read_unread, View.ld_unit_lit']
  isplitl [H5]
  · iexists _; isplitr
    swap; · iexact H5
    ipureintro
    rw [read_store _ off2]
    simp (disch := decide) only [View.readAt_eq_ld, harg5.read_unread, harg9.read_unread, harg10.read_unread, View.ld_unit_lit']
  isplitl [H6]
  · iexists _; isplitr; · ipureintro; exact harg8.read_unread _
    iexact H6
  isplitl [H7]
  · iexists _; isplitr; · ipureintro; exact harg9.read_unread _
    iexact H7
  iexists _; isplitr; · ipureintro; exact harg10.read_unread _
  iexact H8

end Bodies

variable (m : (ℓ : Loc nD τ sig) → Buf (Elt F) ℓ) (ρ : Dev nD → PrngReg)

/-! ## The proof data -/

theorem n0 (t : Fin cfg0.N) : t.val < 16 := t.isLt
theorem cond1_iff : ∀ t : Fin cfg0.N, cond1 (grid0.coords t) = 1#1 ↔ t.val % 2 = 0 := by decide +kernel
theorem cond2_iff : ∀ t : Fin cfg0.N, k0_cond2 (grid0.coords t) = 1#1 ↔ t.val < 2 := by decide +kernel
theorem idle_eq : ∀ t : Fin cfg0.N, idle0 6 (grid0.coords t) = decide (2 ≤ t.val) := by decide +kernel
theorem flushS_eq : ∀ t : Fin cfg0.N, win0_6.flush t = decide (t.val < 1 ∨ t.val = 15) := by decide +kernel
theorem ix0 : ∀ t : Fin cfg0.N, win0_0.index t = ![t.val / 2, 0] := by decide +kernel
theorem ix1 : ∀ t : Fin cfg0.N, win0_1.index t = ![0, 0] := by decide +kernel
theorem ix2 : ∀ t : Fin cfg0.N, win0_2.index t = ![0, 0] := by decide +kernel

/-- The prompts' rows of a point are those of every point in its row of the grid. -/
theorem row_0 (c : Dev nD) (t t' : Fin cfg0.N) (h : t.val / 2 = t'.val / 2) : iblk m c 0 t = iblk m c 0 t' := by
  funext y
  unfold iblk
  blk_simp
  refine congrArg (V m c main_arg0) ?_
  funext a; apply Fin.ext
  match a with
  | ⟨0, _⟩ => blk_simp [ix0, h]
  | ⟨1, _⟩ => blk_simp [ix0, h]
/-- The decoding rows of any two points. -/
theorem row_1 (c : Dev nD) (t t' : Fin cfg0.N) : iblk m c 1 t = iblk m c 1 t' := by
  funext y
  unfold iblk
  blk_simp
  refine congrArg (V m c main_arg1) ?_
  funext a; apply Fin.ext
  match a with
  | ⟨0, _⟩ => blk_simp [ix1]
  | ⟨1, _⟩ => blk_simp [ix1]
/-- The norm's weights at any two points. -/
theorem row_2 (c : Dev nD) (t t' : Fin cfg0.N) : iblk m c 2 t = iblk m c 2 t' := by
  funext y
  unfold iblk
  blk_simp
  refine congrArg (V m c main_v2) ?_
  funext a; apply Fin.ext
  match a with
  | ⟨0, _⟩ => blk_simp [ix2]
  | ⟨1, _⟩ => blk_simp [ix2]

/-- The point whose side block the buffer holds after point `t`: the point itself in the first row of the grid, that row's last one later. -/
def sp (t : Fin cfg0.N) : Fin cfg0.N := ⟨min t.val 1, Nat.lt_of_le_of_lt (Nat.min_le_left _ _) t.isLt⟩

/-- The normalised rows at a point, of the prompts -/
def xnAt (c : Dev nD) (t : Fin cfg0.N) : Vec F S1024x2048 .bf16 := k0_pay6 (iblk m c 0 t) (iblk m c 2 t)
/-- and of the decoding tokens. -/
def xsAt (c : Dev nD) (t : Fin cfg0.N) : Vec F S16x2048 .bf16 := k0_pay7 (iblk m c 1 t) (iblk m c 2 t)

theorem xnAt_row (c : Dev nD) (t t' : Fin cfg0.N) (h : t.val / 2 = t'.val / 2) : xnAt m c t = xnAt m c t' := by
  unfold xnAt; rw [row_0 m c t t' h, row_2 m c t t']
theorem xsAt_row (c : Dev nD) (t t' : Fin cfg0.N) : xsAt m c t = xsAt m c t' := by
  unfold xsAt; rw [row_1 m c t t', row_2 m c t t']

/-- The main result's block at a point. -/
def mainAt (c : Dev nD) (t : Fin cfg0.N) : Vec F S1024x8x128 .f32 := heads (k0_pay8 (xnAt m c t) (iblk m c 3 t))
/-- The second result's block at a point. -/
def mainBt (c : Dev nD) (t : Fin cfg0.N) : Vec F S1024x1024 .bf16 := k0_pay4 (k0_pay8 (xnAt m c t) (iblk m c 3 t))
/-- The side result's block at a point. -/
def sideAt (c : Dev nD) (t : Fin cfg0.N) : Vec F S16x1024 .f32 := k0_pay5 (xsAt m c t) (iblk m c 3 t)

/-- The scratch buffers, whole. -/
abbrev sc0 : Memref sig .tc .vmem S1024x2048 .bf16 := Memref.whole cc0_scratch0
abbrev sc1 : Memref sig .tc .vmem S16x2048 .bf16 := Memref.whole cc0_scratch1

/-- What is kept between points: after point `n - 1` the scratch buffers hold that point's normalised rows. -/
def PhiS (c : Dev nD) (n : ℕ) : sProp 𝕄 :=
  iprop((∃ d ds, ⌜∀ t : Fin cfg0.N, t.val + 1 = n → d = xnAt m c t ∧ ds = xsAt m c t⌝
    ∗ owns c sc0 fullShare d ∗ owns c sc1 fullShare ds) ∗ (∃ r, prngReg c r))

theorem PhiA_eq (c : Dev nD) :
    (Pipeline.ΦA spec0 c : sProp 𝕄)
      = iprop(iprop((∃ d, owns c sc0 fullShare d) ∗ (∃ d, owns c sc1 fullShare d)) ∗ (∃ r, prngReg c r)) := by
  unfold Pipeline.ΦA; rw [scopedRest0_eq]; simp only [sc0, sc1, owns_whole]; try rfl

theorem phi_in (c : Dev nD) : (Pipeline.ΦA spec0 c : sProp 𝕄) ⊢ PhiS m c 0 := by
  rw [PhiA_eq]
  unfold PhiS
  iintro ⟨⟨⟨%d, H0⟩, ⟨%ds, H1⟩⟩, Hg⟩
  isplitr [Hg]
  · iexists d, ds
    isplitr
    · ipureintro; intro t ht; omega
    isplitl [H0]; · iexact H0
    iexact H1
  · iexact Hg

theorem phi_out (c : Dev nD) (n : ℕ) : PhiS m c n ⊢ (Pipeline.ΦA spec0 c : sProp 𝕄) := by
  rw [PhiA_eq]
  unfold PhiS
  iintro ⟨⟨%d, %ds, -, H0, H1⟩, Hg⟩
  isplitr [Hg]
  · isplitl [H0]
    · iexists d; iexact H0
    · iexists ds; iexact H1
  · iexact Hg

/-- The proof data: every input's buffer at its block, each main result's at the point's block, the side result's at the block last stored. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => mainAt m c t
    | ⟨5, _⟩ => mainBt m c t
    | ⟨6, _⟩ => sideAt m c (sp t)
  Φ t := PhiS m c t.val
  q _ := fullShare
  owed _ := 0

theorem A_eq (c : Dev nD) (w : Fin cfg0.W) : (dat m c).A w = V m c (Pipeline.arrRef spec0 w) := by
  dsimp only [dat]
theorem after_0 (c : Dev nD) (t : Fin cfg0.N) : (dat m c).after 0 t = iblk m c 0 t := by dsimp only [dat]
theorem after_1 (c : Dev nD) (t : Fin cfg0.N) : (dat m c).after 1 t = iblk m c 1 t := by dsimp only [dat]
theorem after_2 (c : Dev nD) (t : Fin cfg0.N) : (dat m c).after 2 t = iblk m c 2 t := by dsimp only [dat]
theorem after_3 (c : Dev nD) (t : Fin cfg0.N) : (dat m c).after 3 t = iblk m c 3 t := by dsimp only [dat]
theorem after_4 (c : Dev nD) (t : Fin cfg0.N) : (dat m c).after 4 t = mainAt m c t := by dsimp only [dat]
theorem after_5 (c : Dev nD) (t : Fin cfg0.N) : (dat m c).after 5 t = mainBt m c t := by dsimp only [dat]
theorem after_6 (c : Dev nD) (t : Fin cfg0.N) : (dat m c).after 6 t = sideAt m c (sp t) := by dsimp only [dat]
theorem before_0 (c : Dev nD) (t : Fin cfg0.N) (d) : (dat m c).before 0 t d = iblk m c 0 t :=
  before0_0_of m (dat m c) (A_eq m c 0) (after_0 m c) t d
theorem before_1 (c : Dev nD) (t : Fin cfg0.N) (d) : (dat m c).before 1 t d = iblk m c 1 t :=
  before0_1_of m (dat m c) (A_eq m c 1) (after_1 m c) t d
theorem before_2 (c : Dev nD) (t : Fin cfg0.N) (d) : (dat m c).before 2 t d = iblk m c 2 t :=
  before0_2_of m (dat m c) (A_eq m c 2) (after_2 m c) t d
theorem before_3 (c : Dev nD) (t : Fin cfg0.N) (d) : (dat m c).before 3 t d = iblk m c 3 t :=
  before0_3_of m (dat m c) (A_eq m c 3) (after_3 m c) t d

/-- Past the grid's first row the side result's buffer holds that row's last block. -/
theorem before_S (c : Dev nD) (d) : ∀ (n : ℕ) (t : Fin cfg0.N), t.val = 2 + n → (dat m c).before 6 t d = sideAt m c (sp t) := by
  intro n
  induction n with
  | zero =>
    intro t ht
    have h0 : t.val ≠ 0 := by omega
    rw [(dat m c).before_of_pos 6 t h0 ((cfg0.win 6).fetch_out rfl t)]
    rw [show (cfg0.win 6).flush ⟨t.val - 1, Nat.lt_of_le_of_lt (Nat.sub_le _ _) t.isLt⟩ = false from
      (flushS_eq _).trans (decide_eq_false (by show ¬ (t.val - 1 < 1 ∨ t.val - 1 = 15); omega))]
    rw [if_neg Bool.false_ne_true]
    unfold Dat.left
    rw [show cfg0.idle 6 (cfg0.grid.coords ⟨t.val - 1, Nat.lt_of_le_of_lt (Nat.sub_le _ _) t.isLt⟩) = false from
      (idle_eq _).trans (decide_eq_false (by show ¬ (2 ≤ t.val - 1); omega))]
    dsimp only
    unfold Dat.kept
    rw [Pipeline.fill_of_clip_none 6 _ (fun _ => rfl) d ((dat m c).after 6 _), Window.fill_cut, after_6]
    congr 1
    refine Fin.ext ?_
    show min (t.val - 1) 1 = min t.val 1
    omega
  | succ n ih =>
    intro t ht
    have h0 : t.val ≠ 0 := by omega
    rw [(dat m c).before_of_pos 6 t h0 ((cfg0.win 6).fetch_out rfl t)]
    rw [show (cfg0.win 6).flush ⟨t.val - 1, Nat.lt_of_le_of_lt (Nat.sub_le _ _) t.isLt⟩ = false from
      (flushS_eq _).trans (decide_eq_false (by show ¬ (t.val - 1 < 1 ∨ t.val - 1 = 15); have := n0 t; omega))]
    rw [if_neg Bool.false_ne_true]
    unfold Dat.left
    rw [show cfg0.idle 6 (cfg0.grid.coords ⟨t.val - 1, Nat.lt_of_le_of_lt (Nat.sub_le _ _) t.isLt⟩) = true from
      (idle_eq _).trans (decide_eq_true (by show 2 ≤ t.val - 1; omega))]
    dsimp only
    rw [ih ⟨t.val - 1, Nat.lt_of_le_of_lt (Nat.sub_le _ _) t.isLt⟩ (by show t.val - 1 = 2 + n; omega)]
    congr 1
    refine Fin.ext ?_
    show min (t.val - 1) 1 = min t.val 1
    omega

/-! ## The body obligation -/

/-- What the body is called with at a point, -/
def bodyPre (c : Dev nD) (t : Fin cfg0.N) : sProp 𝕄 :=
  iprop((dat m c).Φ t.castSucc ∗ (dat m c).owesAt () t.castSucc
    ∗ (∃ d, owns c (st0_0 t) fullShare ((dat m c).before 0 t d))
    ∗ (∃ d, owns c (st0_1 t) fullShare ((dat m c).before 1 t d))
    ∗ (∃ d, owns c (st0_2 t) fullShare ((dat m c).before 2 t d))
    ∗ (∃ d, owns c (st0_3 t) fullShare ((dat m c).before 3 t d))
    ∗ (∃ d, owns c (st0_4 t) fullShare ((dat m c).before 4 t d))
    ∗ (∃ d, owns c (st0_5 t) fullShare ((dat m c).before 5 t d))
    ∗ (∃ d, owns c (st0_6 t) fullShare ((dat m c).before 6 t d)))

/-- and what it returns. -/
def bodyPost (c : Dev nD) (t : Fin cfg0.N) : sProp 𝕄 :=
  iprop((dat m c).Φ t.succ ∗ (dat m c).owesAt () t.succ
    ∗ owns c (st0_0 t) fullShare ((dat m c).after 0 t)
    ∗ owns c (st0_1 t) fullShare ((dat m c).after 1 t)
    ∗ owns c (st0_2 t) fullShare ((dat m c).after 2 t)
    ∗ owns c (st0_3 t) fullShare ((dat m c).after 3 t)
    ∗ owns c (st0_4 t) fullShare ((dat m c).after 4 t)
    ∗ owns c (st0_5 t) fullShare ((dat m c).after 5 t)
    ∗ (dat m c).leavesExact 6 t)

/-- The side result's buffer after the body, past the grid's first row. -/
theorem leaves_idle (c : Dev nD) (t : Fin cfg0.N) (h : 2 ≤ t.val) :
    owns c (st0_6 t) fullShare (sideAt m c (sp t)) ⊢ ((dat m c).leavesExact 6 t : sProp 𝕄) := by
  unfold Dat.leavesExact
  rw [show cfg0.idle 6 (cfg0.grid.coords t) = true from (idle_eq t).trans (decide_eq_true h)]
  dsimp only
  cases (cfg0.win 6).flush t
  · dsimp only
    iintro H
    iexists (sideAt m c (sp t))
    rw [before_S m c _ (t.val - 2) t (by omega)]
    iexact H
  · dsimp only
    rw [after_6]

/-- The side result's buffer after the body, in the grid's first row. -/
theorem leaves_live (c : Dev nD) (t : Fin cfg0.N) (h : t.val < 2) :
    owns c (st0_6 t) fullShare (sideAt m c t) ⊢ ((dat m c).leavesExact 6 t : sProp 𝕄) := by
  unfold Dat.leavesExact
  rw [show cfg0.idle 6 (cfg0.grid.coords t) = false from (idle_eq t).trans (decide_eq_false (by omega))]
  dsimp only
  rw [after_6, show sp t = t from Fin.ext (by show min t.val 1 = t.val; omega)]

set_option maxHeartbeats 2000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dat m c).Φ t.succ = PhiS m c (t.val + 1) from rfl, show (dat m c).Φ t.castSucc = PhiS m c t.val from rfl,
    show (dat m c).owesAt () t.succ = (dat m c).owesAt () t.castSucc from rfl,
    after_0, after_1, after_2, after_3, after_4, after_5]
  unfold PhiS
  have hkeep : ∀ (d : Vec F S1024x2048 .bf16) (ds : Vec F S16x2048 .bf16), ¬ t.val % 2 = 0 →
      (∀ t' : Fin cfg0.N, t'.val + 1 = t.val → d = xnAt m c t' ∧ ds = xsAt m c t') → d = xnAt m c t ∧ ds = xsAt m c t := by
    intro d ds h0 h
    have hlt : t.val - 1 < cfg0.N := Nat.lt_of_le_of_lt (Nat.sub_le _ _) t.isLt
    obtain ⟨e0, e1⟩ := h ⟨t.val - 1, hlt⟩ (by show t.val - 1 + 1 = t.val; omega)
    exact ⟨e0.trans (xnAt_row m c _ _ (by show (t.val - 1) / 2 = t.val / 2; omega)), e1.trans (xsAt_row m c _ _)⟩
  have hself : ∀ t' : Fin cfg0.N, t'.val + 1 = t.val + 1 → xnAt m c t = xnAt m c t' ∧ xsAt m c t = xsAt m c t' := by
    intro t' h
    obtain rfl : t = t' := Fin.ext (by omega)
    exact ⟨rfl, rfl⟩
  by_cases h1 : t.val % 2 = 0
  · by_cases h2 : t.val < 2
    · iintro ⟨⟨⟨%z0, %z1, %hk, Hx, Hy⟩, Hg⟩, Ho, ⟨%d0, H0⟩, ⟨%d1, H1⟩, ⟨%d2, H2⟩, ⟨%d3, H3⟩, ⟨%d4, H4⟩, ⟨%d5, H5⟩, ⟨%d6, H6⟩⟩
      iapply (body_A c (grid0.coords t) _ _ _ _ _ _ _ _ _ _ _ _ _ _ _ _ _ _ (iblk m c 0 t) (iblk m c 1 t) (iblk m c 2 t) (iblk m c 3 t) ((cond1_iff t).mpr h1) ((cond2_iff t).mpr h2) Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [Hx]; · iexists _; iexact Hx
      isplitl [Hy]; · iexists _; iexact Hy
      iintro ⟨H0, H1, H2, H3, H4, H5, H6, Hx, Hy⟩
      isplitl [Hx Hy Hg]
      · isplitr [Hg]
        · iexists (xnAt m c t), (xsAt m c t)
          isplitr; · ipureintro; exact hself
          isplitl [Hx]; · iexact Hx
          iexact Hy
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iapply (leaves_live m c t h2)
      iexact H6
    · have h11 : 2 ≤ t.val := by omega
      have hb := fun d => before_S m c d (t.val - 2) t (by omega)
      simp only [hb]
      iintro ⟨⟨⟨%z0, %z1, %hk, Hx, Hy⟩, Hg⟩, Ho, ⟨%d0, H0⟩, ⟨%d1, H1⟩, ⟨%d2, H2⟩, ⟨%d3, H3⟩, ⟨%d4, H4⟩, ⟨%d5, H5⟩, ⟨%d6, H6⟩⟩
      iapply (body_B c (grid0.coords t) _ _ _ _ _ _ _ _ _ _ _ _ _ _ _ _ _ _ (iblk m c 0 t) (iblk m c 1 t) (iblk m c 2 t) (iblk m c 3 t) ((cond1_iff t).mpr h1) (fun h => h2 ((cond2_iff t).mp h)) (sideAt m c (sp t)) Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexact H6
      isplitl [Hx]; · iexists _; iexact Hx
      isplitl [Hy]; · iexists _; iexact Hy
      iintro ⟨H0, H1, H2, H3, H4, H5, H6, Hx, Hy⟩
      isplitl [Hx Hy Hg]
      · isplitr [Hg]
        · iexists (xnAt m c t), (xsAt m c t)
          isplitr; · ipureintro; exact hself
          isplitl [Hx]; · iexact Hx
          iexact Hy
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iapply (leaves_idle m c t h11)
      iexact H6
  · by_cases h2 : t.val < 2
    · iintro ⟨⟨⟨%z0, %z1, %hk, Hx, Hy⟩, Hg⟩, Ho, ⟨%d0, H0⟩, ⟨%d1, H1⟩, ⟨%d2, H2⟩, ⟨%d3, H3⟩, ⟨%d4, H4⟩, ⟨%d5, H5⟩, ⟨%d6, H6⟩⟩
      obtain ⟨rfl, rfl⟩ := hkeep z0 z1 h1 hk
      iapply (body_C c (grid0.coords t) _ _ _ _ _ _ _ _ _ _ _ _ _ _ _ _ _ _ (iblk m c 0 t) (iblk m c 1 t) (iblk m c 2 t) (iblk m c 3 t) (fun h => h1 ((cond1_iff t).mp h)) ((cond2_iff t).mpr h2) (xnAt m c t) (xsAt m c t) Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [Hx]; · iexact Hx
      isplitl [Hy]; · iexact Hy
      iintro ⟨H0, H1, H2, H3, H4, H5, H6, Hx, Hy⟩
      isplitl [Hx Hy Hg]
      · isplitr [Hg]
        · iexists (xnAt m c t), (xsAt m c t)
          isplitr; · ipureintro; exact hself
          isplitl [Hx]; · iexact Hx
          iexact Hy
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iapply (leaves_live m c t h2)
      iexact H6
    · have h11 : 2 ≤ t.val := by omega
      have hb := fun d => before_S m c d (t.val - 2) t (by omega)
      simp only [hb]
      iintro ⟨⟨⟨%z0, %z1, %hk, Hx, Hy⟩, Hg⟩, Ho, ⟨%d0, H0⟩, ⟨%d1, H1⟩, ⟨%d2, H2⟩, ⟨%d3, H3⟩, ⟨%d4, H4⟩, ⟨%d5, H5⟩, ⟨%d6, H6⟩⟩
      obtain ⟨rfl, rfl⟩ := hkeep z0 z1 h1 hk
      iapply (body_D c (grid0.coords t) _ _ _ _ _ _ _ _ _ _ _ _ _ _ _ _ _ _ (iblk m c 0 t) (iblk m c 1 t) (iblk m c 2 t) (iblk m c 3 t) (fun h => h1 ((cond1_iff t).mp h)) (fun h => h2 ((cond2_iff t).mp h)) (sideAt m c (sp t)) (xnAt m c t) (xsAt m c t) Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexact H6
      isplitl [Hx]; · iexact Hx
      isplitl [Hy]; · iexact Hy
      iintro ⟨H0, H1, H2, H3, H4, H5, H6, Hx, Hy⟩
      isplitl [Hx Hy Hg]
      · isplitr [Hg]
        · iexists (xnAt m c t), (xsAt m c t)
          isplitr; · ipureintro; exact hself
          isplitl [Hx]; · iexact Hx
          iexact Hy
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iapply (leaves_idle m c t h11)
      iexact H6

/-- The body table's row at a point. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dat (F := F) m c) (defs₀ (F := F)) Variants.none () Set.univ := fun t => by
  rw [bigSep_W0, bigSep_W0, defs₀_row]
  exact triple_restated (sound_body m c t) rfl .rfl fun _ => .rfl

/-! ## The run -/

/-- The proof data of the program's one call. -/
def dats (p : Fin 1) (c : Dev nD) : Dat τ (Elt F) Unit ℕ (UR sig nD τ) ℕ (cfgs p) c := dat m c

/-- Every run ends with each result at the contents the write-backs leave, the arguments unchanged and every counter at zero. -/
theorem run : θ_run defs (onTc (τ := τ) (main (F := F))) ⟨m, fun _ => 0, ρ⟩ (fun r => (∀ c : Dev nD,
      r.2.mem ((c.tc : Thread nD τ).loc main_v3_0) = (dat m c).arrAt 4 cfg0.N
      ∧ r.2.mem ((c.tc : Thread nD τ).loc main_v3_1) = (dat m c).arrAt 5 cfg0.N
      ∧ r.2.mem ((c.tc : Thread nD τ).loc main_v3_2) = (dat m c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => phi_in m c) (hout := fun c => phi_out m c _)
    (hQ' := fun r h => ⟨fun c => ⟨(h.1 c).1 4, (h.1 c).1 5, (h.1 c).1 6,
      ((h.1 c).1 0).trans (((dat m c).arrAt_in 0 rfl _).trans ((A_eq m c 0).trans (V_main_arg0 m c))),
      ((h.1 c).1 1).trans (((dat m c).arrAt_in 1 rfl _).trans ((A_eq m c 1).trans (V_main_arg1 m c))),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩)

end Cert.Kernel5Ideal.KV

end
-- ==== Proof.K8Run.lean ====
/- The query projection's call: what its body leaves at each grid point, the normalised rows kept in scratch over a row of the grid, the
   side result's buffer carried over the points that do not touch it, and the run's contents at the end. -/
module

public import proofs.«01_k».proof.Proof.Gen.Kernel8Ideal.Frame
public import proofs.«01_k».proof.Proof.Gen.Kernel8Ideal.Skeleton
public import Idealize.ShloMosaic.Lib.Pipeline.Value
public import Idealize.ShloMosaic.Lib.Pipeline.ValueKit
public import proofs.«01_k».proof.Proof.KStore

@[expose] public section

set_option maxRecDepth 16384

noncomputable section

namespace Cert.Kernel8Ideal.KV

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel8Ideal.Gen
open Cert.KStore (off2 read_store)

variable {F : FTy → Type} [FloatOps F]

local notation "𝕄" => MT nD τ sig Unit (Elt F) ℕ (UR sig nD τ) ℕ

/-- The first condition, as the body computes it. -/
abbrev cond1 (i : grid0.Coords) : BitVec 1 := Scalar.cmpi .ne (Scalar.extui (Scalar.cmpi .eq (BitVec.ofNat 32 (i 1).val) 0#32)) 0#32

section Bodies

variable (c : Dev nD) (i : grid0.Coords) (arg2 : Memref sig .tc .vmem S1024x2048 .f32) (harg2 : arg2.IsWhole) (arg3 : Memref sig .tc .vmem S16x2048 .f32) (harg3 : arg3.IsWhole) (arg4 : Memref sig .tc .vmem S1x2048 .f32) (harg4 : arg4.IsWhole) (arg5 : Memref sig .tc .vmem S1x2048x1024 .bf16) (harg5 : arg5.IsWhole) (arg6 : Memref sig .tc .vmem S1024x1024 .f32) (harg6 : arg6.IsWhole) (arg7 : Memref sig .tc .vmem S16x1024 .f32) (harg7 : arg7.IsWhole) (arg8 : Memref sig .tc .vmem S1024x2048 .bf16) (harg8 : arg8.IsWhole) (arg9 : Memref sig .tc .vmem S16x2048 .bf16) (harg9 : arg9.IsWhole)
  (x0 : Vec F S1024x2048 .f32) (x1 : Vec F S16x2048 .f32) (x2 : Vec F S1x2048 .f32) (x3 : Vec F S1x2048x1024 .bf16)

set_option maxHeartbeats 4000000 in
/-- The body at the points that store the normalised rows and the side result. -/
theorem body_A (hc : cond1 i = 1#1) (hd : k0_cond2 i = 1#1) (E : Set ℕ) (K : PUnit → sProp 𝕄) :
    iprop(owns c arg2 fullShare x0 ∗ owns c arg3 fullShare x1 ∗ owns c arg4 fullShare x2 ∗ owns c arg5 fullShare x3 ∗ (∃ d, owns c arg6 fullShare d) ∗ (∃ d, owns c arg7 fullShare d) ∗ (∃ d, owns c arg8 fullShare d) ∗ (∃ d, owns c arg9 fullShare d)
        ∗ (iprop(owns c arg2 fullShare x0 ∗ owns c arg3 fullShare x1 ∗ owns c arg4 fullShare x2 ∗ owns c arg5 fullShare x3 ∗ owns c arg6 fullShare (k0_pay3 (k0_pay1 x0 x2) x3) ∗ owns c arg7 fullShare (k0_pay4 (k0_pay2 x1 x2) x3) ∗ owns c arg8 fullShare (k0_pay1 x0 x2) ∗ owns c arg9 fullShare (k0_pay2 x1 x2)) -∗ K ⟨⟩))
      ⊢ wp frame (wpE (defs₀ (F := F)) Variants.none c none) E (cc0_qproj i arg2 harg2 arg3 harg3 arg4 harg4 arg5 harg5 arg6 harg6 arg7 harg7 arg8 harg8 arg9 harg9) K := by
  simp only [cc0_qproj_eq_skeleton]; unfold cc0_qproj_skel
  dsimp only
  rw [dif_pos hc, dif_pos hd]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
  obtain rfl := harg2.eq_unread hf0; obtain rfl := harg3.eq_unread hf1; obtain rfl := harg4.eq_unread hf2; obtain rfl := harg5.eq_unread hf3
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    rw [read_store _ off2]
    simp (disch := decide) only [View.readAt_eq_ld, harg2.read_unread, harg3.read_unread, harg4.read_unread, harg5.read_unread, View.readCov_unit_zero (S := S1024x2048) _ off2, View.readCov_unit_zero (S := S16x2048) _ off2, View.ld_unit_lit']
    refine congrArg (fun z => k0_pay3 z x3) ?_
    refine (View.readCov_unit_zero (S := S1024x2048) arg8.view (off := ![0, 0]) off2 inb_S1024x2048_S1024x2048_0_0 _).trans ?_
    simp (disch := decide) only [View.readAt_eq_ld, harg2.read_unread, harg3.read_unread, harg4.read_unread, harg5.read_unread, View.readCov_unit_zero (S := S1024x2048) _ off2, View.readCov_unit_zero (S := S16x2048) _ off2, View.ld_unit_lit']
  isplitl [H5]
  · iexists _; isplitr
    swap; · iexact H5
    ipureintro
    rw [read_store _ off2]
    simp (disch := decide) only [View.readAt_eq_ld, harg2.read_unread, harg3.read_unread, harg4.read_unread, harg5.read_unread, View.readCov_unit_zero (S := S1024x2048) _ off2, View.readCov_unit_zero (S := S16x2048) _ off2, View.ld_unit_lit']
    refine congrArg (fun z => k0_pay4 z x3) ?_
    refine (View.readCov_unit_zero (S := S16x2048) arg9.view (off := ![0, 0]) off2 inb_S16x2048_S16x2048_0_0 _).trans ?_
    simp (disch := decide) only [View.readAt_eq_ld, harg2.read_unread, harg3.read_unread, harg4.read_unread, harg5.read_unread, View.readCov_unit_zero (S := S1024x2048) _ off2, View.readCov_unit_zero (S := S16x2048) _ off2, View.ld_unit_lit']
  isplitl [H6]
  · iexists _; isplitr
    swap; · iexact H6
    ipureintro
    refine (read_store arg8 (off := ![0, 0]) off2 inb_S1024x2048_S1024x2048_0_0 _ _).trans ?_
    simp (disch := decide) only [View.readAt_eq_ld, harg2.read_unread, harg3.read_unread, harg4.read_unread, harg5.read_unread, View.readCov_unit_zero (S := S1024x2048) _ off2, View.readCov_unit_zero (S := S16x2048) _ off2, View.ld_unit_lit']
  iexists _; isplitr
  swap; · iexact H7
  ipureintro
  refine (read_store arg9 (off := ![0, 0]) off2 inb_S16x2048_S16x2048_0_0 _ _).trans ?_
  simp (disch := decide) only [View.readAt_eq_ld, harg2.read_unread, harg3.read_unread, harg4.read_unread, harg5.read_unread, View.readCov_unit_zero (S := S1024x2048) _ off2, View.readCov_unit_zero (S := S16x2048) _ off2, View.ld_unit_lit']

set_option maxHeartbeats 4000000 in
/-- The body at the points that store the normalised rows only. -/
theorem body_B (hc : cond1 i = 1#1) (hd : ¬ k0_cond2 i = 1#1) (z2 : Vec F S16x1024 .f32) (E : Set ℕ) (K : PUnit → sProp 𝕄) :
    iprop(owns c arg2 fullShare x0 ∗ owns c arg3 fullShare x1 ∗ owns c arg4 fullShare x2 ∗ owns c arg5 fullShare x3 ∗ (∃ d, owns c arg6 fullShare d) ∗ owns c arg7 fullShare z2 ∗ (∃ d, owns c arg8 fullShare d) ∗ (∃ d, owns c arg9 fullShare d)
        ∗ (iprop(owns c arg2 fullShare x0 ∗ owns c arg3 fullShare x1 ∗ owns c arg4 fullShare x2 ∗ owns c arg5 fullShare x3 ∗ owns c arg6 fullShare (k0_pay3 (k0_pay1 x0 x2) x3) ∗ owns c arg7 fullShare z2 ∗ owns c arg8 fullShare (k0_pay1 x0 x2) ∗ owns c arg9 fullShare (k0_pay2 x1 x2)) -∗ K ⟨⟩))
      ⊢ wp frame (wpE (defs₀ (F := F)) Variants.none c none) E (cc0_qproj i arg2 harg2 arg3 harg3 arg4 harg4 arg5 harg5 arg6 harg6 arg7 harg7 arg8 harg8 arg9 harg9) K := by
  simp only [cc0_qproj_eq_skeleton]; unfold cc0_qproj_skel
  dsimp only
  rw [dif_pos hc, dif_neg hd]
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%d6, %f6, -, H6⟩, ⟨%d7, %f7, -, H7⟩, Hk⟩
  obtain rfl := harg2.eq_unread hf0; obtain rfl := harg3.eq_unread hf1; obtain rfl := harg4.eq_unread hf2; obtain rfl := harg5.eq_unread hf3; obtain rfl := harg7.eq_unread hf5
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    rw [read_store _ off2]
    simp (disch := decide) only [View.readAt_eq_ld, harg2.read_unread, harg3.read_unread, harg4.read_unread, harg5.read_unread, View.readCov_unit_zero (S := S1024x2048) _ off2, View.readCov_unit_zero (S := S16x2048) _ off2, View.ld_unit_lit']
    refine congrArg (fun z => k0_pay3 z x3) ?_
    refine (View.readCov_unit_zero (S := S1024x2048) arg8.view (off := ![0, 0]) off2 inb_S1024x2048_S1024x2048_0_0 _).trans ?_
    simp (disch := decide) only [View.readAt_eq_ld, harg2.read_unread, harg3.read_unread, harg4.read_unread, harg5.read_unread, View.readCov_unit_zero (S := S1024x2048) _ off2, View.readCov_unit_zero (S := S16x2048) _ off2, View.ld_unit_lit']
  isplitl [H5]
  · iexists _; isplitr; · ipureintro; exact harg7.read_unread _
    iexact H5
  isplitl [H6]
  · iexists _; isplitr
    swap; · iexact H6
    ipureintro
    refine (read_store arg8 (off := ![0, 0]) off2 inb_S1024x2048_S1024x2048_0_0 _ _).trans ?_
    simp (disch := decide) only [View.readAt_eq_ld, harg2.read_unread, harg3.read_unread, harg4.read_unread, harg5.read_unread, View.readCov_unit_zero (S := S1024x2048) _ off2, View.readCov_unit_zero (S := S16x2048) _ off2, View.ld_unit_lit']
  iexists _; isplitr
  swap; · iexact H7
  ipureintro
  refine (read_store arg9 (off := ![0, 0]) off2 inb_S16x2048_S16x2048_0_0 _ _).trans ?_
  simp (disch := decide) only [View.readAt_eq_ld, harg2.read_unread, harg3.read_unread, harg4.read_unread, harg5.read_unread, View.readCov_unit_zero (S := S1024x2048) _ off2, View.readCov_unit_zero (S := S16x2048) _ off2, View.ld_unit_lit']

set_option maxHeartbeats 4000000 in
/-- The body at the points that store the side result only. -/
theorem body_C (hc : ¬ cond1 i = 1#1) (hd : k0_cond2 i = 1#1) (z0 : Vec F S1024x2048 .bf16) (z1 : Vec F S16x2048 .bf16) (E : Set ℕ) (K : PUnit → sProp 𝕄) :
    iprop(owns c arg2 fullShare x0 ∗ owns c arg3 fullShare x1 ∗ owns c arg4 fullShare x2 ∗ owns c arg5 fullShare x3 ∗ (∃ d, owns c arg6 fullShare d) ∗ (∃ d, owns c arg7 fullShare d) ∗ owns c arg8 fullShare z0 ∗ owns c arg9 fullShare z1
        ∗ (iprop(owns c arg2 fullShare x0 ∗ owns c arg3 fullShare x1 ∗ owns c arg4 fullShare x2 ∗ owns c arg5 fullShare x3 ∗ owns c arg6 fullShare (k0_pay3 z0 x3) ∗ owns c arg7 fullShare (k0_pay4 z1 x3) ∗ owns c arg8 fullShare z0 ∗ owns c arg9 fullShare z1) -∗ K ⟨⟩))
      ⊢ wp frame (wpE (defs₀ (F := F)) Variants.none c none) E (cc0_qproj i arg2 harg2 arg3 harg3 arg4 harg4 arg5 harg5 arg6 harg6 arg7 harg7 arg8 harg8 arg9 harg9) K := by
  simp only [cc0_qproj_eq_skeleton]; unfold cc0_qproj_skel
  dsimp only
  rw [dif_neg hc, dif_pos hd]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%f7, %hf7, H7⟩, Hk⟩
  obtain rfl := harg2.eq_unread hf0; obtain rfl := harg3.eq_unread hf1; obtain rfl := harg4.eq_unread hf2; obtain rfl := harg5.eq_unread hf3; obtain rfl := harg8.eq_unread hf6; obtain rfl := harg9.eq_unread hf7
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    rw [read_store _ off2]
    simp (disch := decide) only [View.readAt_eq_ld, harg5.read_unread, harg8.read_unread, harg9.read_unread, View.ld_unit_lit']
  isplitl [H5]
  · iexists _; isplitr
    swap; · iexact H5
    ipureintro
    rw [read_store _ off2]
    simp (disch := decide) only [View.readAt_eq_ld, harg5.read_unread, harg8.read_unread, harg9.read_unread, View.ld_unit_lit']
  isplitl [H6]
  · iexists _; isplitr; · ipureintro; exact harg8.read_unread _
    iexact H6
  iexists _; isplitr; · ipureintro; exact harg9.read_unread _
  iexact H7

set_option maxHeartbeats 4000000 in
/-- The body at the points that store neither. -/
theorem body_D (hc : ¬ cond1 i = 1#1) (hd : ¬ k0_cond2 i = 1#1) (z2 : Vec F S16x1024 .f32) (z0 : Vec F S1024x2048 .bf16) (z1 : Vec F S16x2048 .bf16) (E : Set ℕ) (K : PUnit → sProp 𝕄) :
    iprop(owns c arg2 fullShare x0 ∗ owns c arg3 fullShare x1 ∗ owns c arg4 fullShare x2 ∗ owns c arg5 fullShare x3 ∗ (∃ d, owns c arg6 fullShare d) ∗ owns c arg7 fullShare z2 ∗ owns c arg8 fullShare z0 ∗ owns c arg9 fullShare z1
        ∗ (iprop(owns c arg2 fullShare x0 ∗ owns c arg3 fullShare x1 ∗ owns c arg4 fullShare x2 ∗ owns c arg5 fullShare x3 ∗ owns c arg6 fullShare (k0_pay3 z0 x3) ∗ owns c arg7 fullShare z2 ∗ owns c arg8 fullShare z0 ∗ owns c arg9 fullShare z1) -∗ K ⟨⟩))
      ⊢ wp frame (wpE (defs₀ (F := F)) Variants.none c none) E (cc0_qproj i arg2 harg2 arg3 harg3 arg4 harg4 arg5 harg5 arg6 harg6 arg7 harg7 arg8 harg8 arg9 harg9) K := by
  simp only [cc0_qproj_eq_skeleton]; unfold cc0_qproj_skel
  dsimp only
  rw [dif_neg hc, dif_neg hd]
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%f7, %hf7, H7⟩, Hk⟩
  obtain rfl := harg2.eq_unread hf0; obtain rfl := harg3.eq_unread hf1; obtain rfl := harg4.eq_unread hf2; obtain rfl := harg5.eq_unread hf3; obtain rfl := harg7.eq_unread hf5; obtain rfl := harg8.eq_unread hf6; obtain rfl := harg9.eq_unread hf7
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    rw [read_store _ off2]
    simp (disch := decide) only [View.readAt_eq_ld, harg5.read_unread, harg8.read_unread, harg9.read_unread, View.ld_unit_lit']
  isplitl [H5]
  · iexists _; isplitr; · ipureintro; exact harg7.read_unread _
    iexact H5
  isplitl [H6]
  · iexists _; isplitr; · ipureintro; exact harg8.read_unread _
    iexact H6
  iexists _; isplitr; · ipureintro; exact harg9.read_unread _
  iexact H7

end Bodies

variable (m : (ℓ : Loc nD τ sig) → Buf (Elt F) ℓ) (ρ : Dev nD → PrngReg)

/-! ## The proof data -/

theorem n0 (t : Fin cfg0.N) : t.val < 16 := t.isLt
theorem cond1_iff : ∀ t : Fin cfg0.N, cond1 (grid0.coords t) = 1#1 ↔ t.val % 2 = 0 := by decide +kernel
theorem cond2_iff : ∀ t : Fin cfg0.N, k0_cond2 (grid0.coords t) = 1#1 ↔ t.val < 2 := by decide +kernel
theorem idle_eq : ∀ t : Fin cfg0.N, idle0 5 (grid0.coords t) = decide (2 ≤ t.val) := by decide +kernel
theorem flushS_eq : ∀ t : Fin cfg0.N, win0_5.flush t = decide (t.val < 1 ∨ t.val = 15) := by decide +kernel
theorem ix0 : ∀ t : Fin cfg0.N, win0_0.index t = ![t.val / 2, 0] := by decide +kernel
theorem ix1 : ∀ t : Fin cfg0.N, win0_1.index t = ![0, 0] := by decide +kernel
theorem ix2 : ∀ t : Fin cfg0.N, win0_2.index t = ![0, 0] := by decide +kernel

/-- The prompts' rows of a point are those of every point in its row of the grid. -/
theorem row_0 (c : Dev nD) (t t' : Fin cfg0.N) (h : t.val / 2 = t'.val / 2) : iblk m c 0 t = iblk m c 0 t' := by
  funext y
  unfold iblk
  blk_simp
  refine congrArg (V m c main_arg0) ?_
  funext a; apply Fin.ext
  match a with
  | ⟨0, _⟩ => blk_simp [ix0, h]
  | ⟨1, _⟩ => blk_simp [ix0, h]
/-- The decoding rows of any two points. -/
theorem row_1 (c : Dev nD) (t t' : Fin cfg0.N) : iblk m c 1 t = iblk m c 1 t' := by
  funext y
  unfold iblk
  blk_simp
  refine congrArg (V m c main_arg1) ?_
  funext a; apply Fin.ext
  match a with
  | ⟨0, _⟩ => blk_simp [ix1]
  | ⟨1, _⟩ => blk_simp [ix1]
/-- The norm's weights at any two points. -/
theorem row_2 (c : Dev nD) (t t' : Fin cfg0.N) : iblk m c 2 t = iblk m c 2 t' := by
  funext y
  unfold iblk
  blk_simp
  refine congrArg (V m c main_v2) ?_
  funext a; apply Fin.ext
  match a with
  | ⟨0, _⟩ => blk_simp [ix2]
  | ⟨1, _⟩ => blk_simp [ix2]

/-- The point whose side block the buffer holds after point `t`: the point itself in the first row of the grid, that row's last one later. -/
def sp (t : Fin cfg0.N) : Fin cfg0.N := ⟨min t.val 1, Nat.lt_of_le_of_lt (Nat.min_le_left _ _) t.isLt⟩

/-- The normalised rows at a point, of the prompts -/
def xnAt (c : Dev nD) (t : Fin cfg0.N) : Vec F S1024x2048 .bf16 := k0_pay1 (iblk m c 0 t) (iblk m c 2 t)
/-- and of the decoding tokens. -/
def xsAt (c : Dev nD) (t : Fin cfg0.N) : Vec F S16x2048 .bf16 := k0_pay2 (iblk m c 1 t) (iblk m c 2 t)

theorem xnAt_row (c : Dev nD) (t t' : Fin cfg0.N) (h : t.val / 2 = t'.val / 2) : xnAt m c t = xnAt m c t' := by
  unfold xnAt; rw [row_0 m c t t' h, row_2 m c t t']
theorem xsAt_row (c : Dev nD) (t t' : Fin cfg0.N) : xsAt m c t = xsAt m c t' := by
  unfold xsAt; rw [row_1 m c t t', row_2 m c t t']

/-- The main result's block at a point. -/
def mainAt (c : Dev nD) (t : Fin cfg0.N) : Vec F S1024x1024 .f32 := k0_pay3 (xnAt m c t) (iblk m c 3 t)
/-- The side result's block at a point. -/
def sideAt (c : Dev nD) (t : Fin cfg0.N) : Vec F S16x1024 .f32 := k0_pay4 (xsAt m c t) (iblk m c 3 t)

/-- The scratch buffers, whole. -/
abbrev sc0 : Memref sig .tc .vmem S1024x2048 .bf16 := Memref.whole cc0_scratch0
abbrev sc1 : Memref sig .tc .vmem S16x2048 .bf16 := Memref.whole cc0_scratch1

/-- What is kept between points: after point `n - 1` the scratch buffers hold that point's normalised rows. -/
def PhiS (c : Dev nD) (n : ℕ) : sProp 𝕄 :=
  iprop((∃ d ds, ⌜∀ t : Fin cfg0.N, t.val + 1 = n → d = xnAt m c t ∧ ds = xsAt m c t⌝
    ∗ owns c sc0 fullShare d ∗ owns c sc1 fullShare ds) ∗ (∃ r, prngReg c r))

theorem PhiA_eq (c : Dev nD) :
    (Pipeline.ΦA spec0 c : sProp 𝕄)
      = iprop(iprop((∃ d, owns c sc0 fullShare d) ∗ (∃ d, owns c sc1 fullShare d)) ∗ (∃ r, prngReg c r)) := by
  unfold Pipeline.ΦA; rw [scopedRest0_eq]; simp only [sc0, sc1, owns_whole]; try rfl

theorem phi_in (c : Dev nD) : (Pipeline.ΦA spec0 c : sProp 𝕄) ⊢ PhiS m c 0 := by
  rw [PhiA_eq]
  unfold PhiS
  iintro ⟨⟨⟨%d, H0⟩, ⟨%ds, H1⟩⟩, Hg⟩
  isplitr [Hg]
  · iexists d, ds
    isplitr
    · ipureintro; intro t ht; omega
    isplitl [H0]; · iexact H0
    iexact H1
  · iexact Hg

theorem phi_out (c : Dev nD) (n : ℕ) : PhiS m c n ⊢ (Pipeline.ΦA spec0 c : sProp 𝕄) := by
  rw [PhiA_eq]
  unfold PhiS
  iintro ⟨⟨%d, %ds, -, H0, H1⟩, Hg⟩
  isplitr [Hg]
  · isplitl [H0]
    · iexists d; iexact H0
    · iexists ds; iexact H1
  · iexact Hg

/-- The proof data: every input's buffer at its block, each main result's at the point's block, the side result's at the block last stored. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => mainAt m c t
    | ⟨5, _⟩ => sideAt m c (sp t)
  Φ t := PhiS m c t.val
  q _ := fullShare
  owed _ := 0

theorem A_eq (c : Dev nD) (w : Fin cfg0.W) : (dat m c).A w = V m c (Pipeline.arrRef spec0 w) := by
  dsimp only [dat]
theorem after_0 (c : Dev nD) (t : Fin cfg0.N) : (dat m c).after 0 t = iblk m c 0 t := by dsimp only [dat]
theorem after_1 (c : Dev nD) (t : Fin cfg0.N) : (dat m c).after 1 t = iblk m c 1 t := by dsimp only [dat]
theorem after_2 (c : Dev nD) (t : Fin cfg0.N) : (dat m c).after 2 t = iblk m c 2 t := by dsimp only [dat]
theorem after_3 (c : Dev nD) (t : Fin cfg0.N) : (dat m c).after 3 t = iblk m c 3 t := by dsimp only [dat]
theorem after_4 (c : Dev nD) (t : Fin cfg0.N) : (dat m c).after 4 t = mainAt m c t := by dsimp only [dat]
theorem after_5 (c : Dev nD) (t : Fin cfg0.N) : (dat m c).after 5 t = sideAt m c (sp t) := by dsimp only [dat]
theorem before_0 (c : Dev nD) (t : Fin cfg0.N) (d) : (dat m c).before 0 t d = iblk m c 0 t :=
  before0_0_of m (dat m c) (A_eq m c 0) (after_0 m c) t d
theorem before_1 (c : Dev nD) (t : Fin cfg0.N) (d) : (dat m c).before 1 t d = iblk m c 1 t :=
  before0_1_of m (dat m c) (A_eq m c 1) (after_1 m c) t d
theorem before_2 (c : Dev nD) (t : Fin cfg0.N) (d) : (dat m c).before 2 t d = iblk m c 2 t :=
  before0_2_of m (dat m c) (A_eq m c 2) (after_2 m c) t d
theorem before_3 (c : Dev nD) (t : Fin cfg0.N) (d) : (dat m c).before 3 t d = iblk m c 3 t :=
  before0_3_of m (dat m c) (A_eq m c 3) (after_3 m c) t d

/-- Past the grid's first row the side result's buffer holds that row's last block. -/
theorem before_S (c : Dev nD) (d) : ∀ (n : ℕ) (t : Fin cfg0.N), t.val = 2 + n → (dat m c).before 5 t d = sideAt m c (sp t) := by
  intro n
  induction n with
  | zero =>
    intro t ht
    have h0 : t.val ≠ 0 := by omega
    rw [(dat m c).before_of_pos 5 t h0 ((cfg0.win 5).fetch_out rfl t)]
    rw [show (cfg0.win 5).flush ⟨t.val - 1, Nat.lt_of_le_of_lt (Nat.sub_le _ _) t.isLt⟩ = false from
      (flushS_eq _).trans (decide_eq_false (by show ¬ (t.val - 1 < 1 ∨ t.val - 1 = 15); omega))]
    rw [if_neg Bool.false_ne_true]
    unfold Dat.left
    rw [show cfg0.idle 5 (cfg0.grid.coords ⟨t.val - 1, Nat.lt_of_le_of_lt (Nat.sub_le _ _) t.isLt⟩) = false from
      (idle_eq _).trans (decide_eq_false (by show ¬ (2 ≤ t.val - 1); omega))]
    dsimp only
    unfold Dat.kept
    rw [Pipeline.fill_of_clip_none 5 _ (fun _ => rfl) d ((dat m c).after 5 _), Window.fill_cut, after_5]
    congr 1
    refine Fin.ext ?_
    show min (t.val - 1) 1 = min t.val 1
    omega
  | succ n ih =>
    intro t ht
    have h0 : t.val ≠ 0 := by omega
    rw [(dat m c).before_of_pos 5 t h0 ((cfg0.win 5).fetch_out rfl t)]
    rw [show (cfg0.win 5).flush ⟨t.val - 1, Nat.lt_of_le_of_lt (Nat.sub_le _ _) t.isLt⟩ = false from
      (flushS_eq _).trans (decide_eq_false (by show ¬ (t.val - 1 < 1 ∨ t.val - 1 = 15); have := n0 t; omega))]
    rw [if_neg Bool.false_ne_true]
    unfold Dat.left
    rw [show cfg0.idle 5 (cfg0.grid.coords ⟨t.val - 1, Nat.lt_of_le_of_lt (Nat.sub_le _ _) t.isLt⟩) = true from
      (idle_eq _).trans (decide_eq_true (by show 2 ≤ t.val - 1; omega))]
    dsimp only
    rw [ih ⟨t.val - 1, Nat.lt_of_le_of_lt (Nat.sub_le _ _) t.isLt⟩ (by show t.val - 1 = 2 + n; omega)]
    congr 1
    refine Fin.ext ?_
    show min (t.val - 1) 1 = min t.val 1
    omega

/-! ## The body obligation -/

/-- What the body is called with at a point, -/
def bodyPre (c : Dev nD) (t : Fin cfg0.N) : sProp 𝕄 :=
  iprop((dat m c).Φ t.castSucc ∗ (dat m c).owesAt () t.castSucc
    ∗ (∃ d, owns c (st0_0 t) fullShare ((dat m c).before 0 t d))
    ∗ (∃ d, owns c (st0_1 t) fullShare ((dat m c).before 1 t d))
    ∗ (∃ d, owns c (st0_2 t) fullShare ((dat m c).before 2 t d))
    ∗ (∃ d, owns c (st0_3 t) fullShare ((dat m c).before 3 t d))
    ∗ (∃ d, owns c (st0_4 t) fullShare ((dat m c).before 4 t d))
    ∗ (∃ d, owns c (st0_5 t) fullShare ((dat m c).before 5 t d)))

/-- and what it returns. -/
def bodyPost (c : Dev nD) (t : Fin cfg0.N) : sProp 𝕄 :=
  iprop((dat m c).Φ t.succ ∗ (dat m c).owesAt () t.succ
    ∗ owns c (st0_0 t) fullShare ((dat m c).after 0 t)
    ∗ owns c (st0_1 t) fullShare ((dat m c).after 1 t)
    ∗ owns c (st0_2 t) fullShare ((dat m c).after 2 t)
    ∗ owns c (st0_3 t) fullShare ((dat m c).after 3 t)
    ∗ owns c (st0_4 t) fullShare ((dat m c).after 4 t)
    ∗ (dat m c).leavesExact 5 t)

/-- The side result's buffer after the body, past the grid's first row. -/
theorem leaves_idle (c : Dev nD) (t : Fin cfg0.N) (h : 2 ≤ t.val) :
    owns c (st0_5 t) fullShare (sideAt m c (sp t)) ⊢ ((dat m c).leavesExact 5 t : sProp 𝕄) := by
  unfold Dat.leavesExact
  rw [show cfg0.idle 5 (cfg0.grid.coords t) = true from (idle_eq t).trans (decide_eq_true h)]
  dsimp only
  cases (cfg0.win 5).flush t
  · dsimp only
    iintro H
    iexists (sideAt m c (sp t))
    rw [before_S m c _ (t.val - 2) t (by omega)]
    iexact H
  · dsimp only
    rw [after_5]

/-- The side result's buffer after the body, in the grid's first row. -/
theorem leaves_live (c : Dev nD) (t : Fin cfg0.N) (h : t.val < 2) :
    owns c (st0_5 t) fullShare (sideAt m c t) ⊢ ((dat m c).leavesExact 5 t : sProp 𝕄) := by
  unfold Dat.leavesExact
  rw [show cfg0.idle 5 (cfg0.grid.coords t) = false from (idle_eq t).trans (decide_eq_false (by omega))]
  dsimp only
  rw [after_5, show sp t = t from Fin.ext (by show min t.val 1 = t.val; omega)]

set_option maxHeartbeats 2000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dat m c).Φ t.succ = PhiS m c (t.val + 1) from rfl, show (dat m c).Φ t.castSucc = PhiS m c t.val from rfl,
    show (dat m c).owesAt () t.succ = (dat m c).owesAt () t.castSucc from rfl,
    after_0, after_1, after_2, after_3, after_4]
  unfold PhiS
  have hkeep : ∀ (d : Vec F S1024x2048 .bf16) (ds : Vec F S16x2048 .bf16), ¬ t.val % 2 = 0 →
      (∀ t' : Fin cfg0.N, t'.val + 1 = t.val → d = xnAt m c t' ∧ ds = xsAt m c t') → d = xnAt m c t ∧ ds = xsAt m c t := by
    intro d ds h0 h
    have hlt : t.val - 1 < cfg0.N := Nat.lt_of_le_of_lt (Nat.sub_le _ _) t.isLt
    obtain ⟨e0, e1⟩ := h ⟨t.val - 1, hlt⟩ (by show t.val - 1 + 1 = t.val; omega)
    exact ⟨e0.trans (xnAt_row m c _ _ (by show (t.val - 1) / 2 = t.val / 2; omega)), e1.trans (xsAt_row m c _ _)⟩
  have hself : ∀ t' : Fin cfg0.N, t'.val + 1 = t.val + 1 → xnAt m c t = xnAt m c t' ∧ xsAt m c t = xsAt m c t' := by
    intro t' h
    obtain rfl : t = t' := Fin.ext (by omega)
    exact ⟨rfl, rfl⟩
  by_cases h1 : t.val % 2 = 0
  · by_cases h2 : t.val < 2
    · iintro ⟨⟨⟨%z0, %z1, %hk, Hx, Hy⟩, Hg⟩, Ho, ⟨%d0, H0⟩, ⟨%d1, H1⟩, ⟨%d2, H2⟩, ⟨%d3, H3⟩, ⟨%d4, H4⟩, ⟨%d5, H5⟩⟩
      iapply (body_A c (grid0.coords t) _ _ _ _ _ _ _ _ _ _ _ _ _ _ _ _ (iblk m c 0 t) (iblk m c 1 t) (iblk m c 2 t) (iblk m c 3 t) ((cond1_iff t).mpr h1) ((cond2_iff t).mpr h2) Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [Hx]; · iexists _; iexact Hx
      isplitl [Hy]; · iexists _; iexact Hy
      iintro ⟨H0, H1, H2, H3, H4, H5, Hx, Hy⟩
      isplitl [Hx Hy Hg]
      · isplitr [Hg]
        · iexists (xnAt m c t), (xsAt m c t)
          isplitr; · ipureintro; exact hself
          isplitl [Hx]; · iexact Hx
          iexact Hy
        · iexact Hg
      isplitl [Ho]; · iexact Ho
      isplitl [H0]; · iexact H0
      isplitl [H1]; · iexact H1
      isplitl [H2]; · iexact H2
      isplitl [H3]; · iexact H3
      isplitl [H4]; · iexact H4
      iapply (leaves_live m c t h2)
      iexact H5
    · have h11 : 2 ≤ t.val := by omega
      have hb := fun d => before_S m c d (t.val - 2) t (by omega)
      simp only [hb]
      iintro ⟨⟨⟨%z0, %z1, %hk, Hx, Hy⟩, Hg⟩, Ho, ⟨%d0, H0⟩, ⟨%d1, H1⟩, ⟨%d2, H2⟩, ⟨%d3, H3⟩, ⟨%d4, H4⟩, ⟨%d5, H5⟩⟩
      iapply (body_B c (grid0.coords t) _ _ _ _ _ _ _ _ _ _ _ _ _ _ _ _ (iblk m c 0 t) (iblk m c 1 t) (iblk m c 2 t) (iblk m c 3 t) ((cond1_iff t).mpr h1) (fun h => h2 ((cond2_iff t).mp h)) (sideAt m c (sp t)) Set.univ _)
      isplitl [H0]; · iexact H0
      isplitl [H1]; · iexact H1
      isplitl [H2]; · iexact H2
      isplitl [H3]; · iexact H3
      isplitl [H4]; · iexists _; iexact H4
      isplitl [H5]; · iexact H5
      isplitl [Hx]; · iexists _; iexact Hx
      isplitl [Hy]; · iexists _; iexact Hy
      iintro ⟨H0, H1, H2, H3, H4, H5, Hx, Hy⟩
      isplitl [Hx Hy Hg]
      · isplitr [Hg]
        · iexists (xnAt m c t), (xsAt m c t)
          isplitr; · ipureintro; exact hself
          isplitl [Hx]; · iexact Hx
          iexact Hy
        · iexact Hg
      isplitl [Ho]; · iexact Ho
      isplitl [H0]; · iexact H0
      isplitl [H1]; · iexact H1
      isplitl [H2]; · iexact H2
      isplitl [H3]; · iexact H3
      isplitl [H4]; · iexact H4
      iapply (leaves_idle m c t h11)
      iexact H5
  · by_cases h2 : t.val < 2
    · iintro ⟨⟨⟨%z0, %z1, %hk, Hx, Hy⟩, Hg⟩, Ho, ⟨%d0, H0⟩, ⟨%d1, H1⟩, ⟨%d2, H2⟩, ⟨%d3, H3⟩, ⟨%d4, H4⟩, ⟨%d5, H5⟩⟩
      obtain ⟨rfl, rfl⟩ := hkeep z0 z1 h1 hk
      iapply (body_C c (grid0.coords t) _ _ _ _ _ _ _ _ _ _ _ _ _ _ _ _ (iblk m c 0 t) (iblk m c 1 t) (iblk m c 2 t) (iblk m c 3 t) (fun h => h1 ((cond1_iff t).mp h)) ((cond2_iff t).mpr h2) (xnAt m c t) (xsAt m c t) Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [Hx]; · iexact Hx
      isplitl [Hy]; · iexact Hy
      iintro ⟨H0, H1, H2, H3, H4, H5, Hx, Hy⟩
      isplitl [Hx Hy Hg]
      · isplitr [Hg]
        · iexists (xnAt m c t), (xsAt m c t)
          isplitr; · ipureintro; exact hself
          isplitl [Hx]; · iexact Hx
          iexact Hy
        · iexact Hg
      isplitl [Ho]; · iexact Ho
      isplitl [H0]; · iexact H0
      isplitl [H1]; · iexact H1
      isplitl [H2]; · iexact H2
      isplitl [H3]; · iexact H3
      isplitl [H4]; · iexact H4
      iapply (leaves_live m c t h2)
      iexact H5
    · have h11 : 2 ≤ t.val := by omega
      have hb := fun d => before_S m c d (t.val - 2) t (by omega)
      simp only [hb]
      iintro ⟨⟨⟨%z0, %z1, %hk, Hx, Hy⟩, Hg⟩, Ho, ⟨%d0, H0⟩, ⟨%d1, H1⟩, ⟨%d2, H2⟩, ⟨%d3, H3⟩, ⟨%d4, H4⟩, ⟨%d5, H5⟩⟩
      obtain ⟨rfl, rfl⟩ := hkeep z0 z1 h1 hk
      iapply (body_D c (grid0.coords t) _ _ _ _ _ _ _ _ _ _ _ _ _ _ _ _ (iblk m c 0 t) (iblk m c 1 t) (iblk m c 2 t) (iblk m c 3 t) (fun h => h1 ((cond1_iff t).mp h)) (fun h => h2 ((cond2_iff t).mp h)) (sideAt m c (sp t)) (xnAt m c t) (xsAt m c t) Set.univ _)
      isplitl [H0]; · iexact H0
      isplitl [H1]; · iexact H1
      isplitl [H2]; · iexact H2
      isplitl [H3]; · iexact H3
      isplitl [H4]; · iexists _; iexact H4
      isplitl [H5]; · iexact H5
      isplitl [Hx]; · iexact Hx
      isplitl [Hy]; · iexact Hy
      iintro ⟨H0, H1, H2, H3, H4, H5, Hx, Hy⟩
      isplitl [Hx Hy Hg]
      · isplitr [Hg]
        · iexists (xnAt m c t), (xsAt m c t)
          isplitr; · ipureintro; exact hself
          isplitl [Hx]; · iexact Hx
          iexact Hy
        · iexact Hg
      isplitl [Ho]; · iexact Ho
      isplitl [H0]; · iexact H0
      isplitl [H1]; · iexact H1
      isplitl [H2]; · iexact H2
      isplitl [H3]; · iexact H3
      isplitl [H4]; · iexact H4
      iapply (leaves_idle m c t h11)
      iexact H5

/-- The body table's row at a point. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dat (F := F) m c) (defs₀ (F := F)) Variants.none () Set.univ := fun t => by
  rw [bigSep_W0, bigSep_W0, defs₀_row]
  exact triple_restated (sound_body m c t) rfl .rfl fun _ => .rfl

/-! ## The run -/

/-- The proof data of the program's one call. -/
def dats (p : Fin 1) (c : Dev nD) : Dat τ (Elt F) Unit ℕ (UR sig nD τ) ℕ (cfgs p) c := dat m c

/-- Every run ends with each result at the contents the write-backs leave, the arguments unchanged and every counter at zero. -/
theorem run : θ_run defs (onTc (τ := τ) (main (F := F))) ⟨m, fun _ => 0, ρ⟩ (fun r => (∀ c : Dev nD,
      r.2.mem ((c.tc : Thread nD τ).loc main_v3_0) = (dat m c).arrAt 4 cfg0.N
      ∧ r.2.mem ((c.tc : Thread nD τ).loc main_v3_1) = (dat m c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => phi_in m c) (hout := fun c => phi_out m c _)
    (hQ' := fun r h => ⟨fun c => ⟨(h.1 c).1 4, (h.1 c).1 5,
      ((h.1 c).1 0).trans (((dat m c).arrAt_in 0 rfl _).trans ((A_eq m c 0).trans (V_main_arg0 m c))),
      ((h.1 c).1 1).trans (((dat m c).arrAt_in 1 rfl _).trans ((A_eq m c 1).trans (V_main_arg1 m c))),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩)

end Cert.Kernel8Ideal.KV

end
-- ==== Proof.K8Value.lean ====
/- The query projection's results, element by element: a row divided by its root mean square, times the weights. -/
module

public import proofs.«01_k».proof.Proof.K8Run
public import proofs.«01_k».proof.Proof.KHelp
public import proofs.«01_k».proof.Proof.K2Value
public import proofs.«01_k».proof.Proof.Gen.Reference8Ideal.Read
public import Idealize.ShloMosaic.Lib.Pipeline.ValueKit

@[expose] public section

set_option maxRecDepth 16384
set_option backward.isDefEq.respectTransparency false

noncomputable section

namespace Cert.Kernel8Ideal.KV

open Idealize.ShloMosaic Idealize.ShloMosaic.TcCoe
open Cert.Kernel8Ideal.Gen Cert.KHelp
open Idealize.ShloMosaic.Pipeline (Dat Cfg Window BodyObligation cellOf)
open Cert.Kernel2Ideal.KV (nrm nrm_apply)

theorem sq {T : ℕ} (x : (⟨3, ![1, 2048, T]⟩ : Shape).Idx → EReal) (k : Fin 2048) (q : Fin T) (h) :
    shapeCast (Sh 2048 T) x h (ValueIdx.ix2 k q) = x (ValueIdx.ix3 0 k q) := by
  refine shapeCast_apply _ _ _ (ValueIdx.ix3 0 k q) ?_
  rw [Shape.rowMajor_val_three, Shape.rowMajor_val_two]
  show (0 * 2048 + k.val) * T + q.val = k.val * T + q.val
  rw [Nat.zero_mul, Nat.zero_add]

/-- Rows times a matrix kept with a leading axis, as the body computes it. -/
theorem dot_apply {R T : ℕ} (wf) (x : FVec Ideal (Sh R 2048) .bf16) (w : FVec Ideal ⟨3, ![1, 2048, T]⟩ .bf16) (h) (r : Fin R) (q : Fin T) :
    (FloatOps.matmul (F := Ideal) (⟨[1], [0], [0], [1], [], [], wf⟩ : DotDims (Sh R 2048) (Sh 2048 T) (Sh R T)) none x (shapeCast (Sh 2048 T) w h)
      (constant (Sh R T) .f32 0x00000000#32) (ValueIdx.ix2 r q) : EReal) = ∑ k : Fin 2048, (x (ValueIdx.ix2 r k) : EReal) * (w (ValueIdx.ix3 0 k q) : EReal) := by
  refine (nn_apply (φ₁ := .bf16) (φ₂ := .bf16) wf x _ _).trans ?_
  exact Finset.sum_congr rfl fun k _ => congrArg (fun z : EReal => (x (ValueIdx.ix2 r k) : EReal) * z) (sq _ k q _)

/-- The normalised rows times a matrix. -/
def prj {R : ℕ} (x : (Sh R 2048).Idx → EReal) (g : Fin 2048 → EReal) (w : (Sh 2048 2048).Idx → EReal) : (Sh R 2048).Idx → EReal :=
  fun y => ∑ k : Fin 2048, nrm x g (y 0) k * w (ValueIdx.ix2 k (y 1))

theorem pay1_apply (x : Vec Ideal S1024x2048 .f32) (g : Vec Ideal S1x2048 .f32) (r : Fin 1024) (k : Fin 2048) :
    (k0_pay1 x g (ValueIdx.ix2 r k) : EReal) = nrm (R := 1024) x (fun k => g (ValueIdx.ix2 0 k)) r k := by
  unfold k0_pay1
  refine (shapeCast_apply _ _ (ValueIdx.ix2 r k) (ValueIdx.ix2 r k) rfl).trans ?_
  exact nrm_apply (R := 1024) x g _ _ _ _ _ _ _ r k

theorem pay2_apply (x : Vec Ideal S16x2048 .f32) (g : Vec Ideal S1x2048 .f32) (r : Fin 16) (k : Fin 2048) :
    (k0_pay2 x g (ValueIdx.ix2 r k) : EReal) = nrm (R := 16) x (fun k => g (ValueIdx.ix2 0 k)) r k := by
  unfold k0_pay2
  refine (shapeCast_apply _ _ (ValueIdx.ix2 r k) (ValueIdx.ix2 r k) rfl).trans ?_
  exact nrm_apply (R := 16) x g _ _ _ _ _ _ _ r k

theorem pay3_apply (x : Vec Ideal S1024x2048 .bf16) (w : Vec Ideal S1x2048x1024 .bf16) (r : Fin 1024) (q : Fin 1024) :
    (k0_pay3 x w (ValueIdx.ix2 r q) : EReal) = ∑ k : Fin 2048, (x (ValueIdx.ix2 r k) : EReal) * (w (ValueIdx.ix3 0 k q) : EReal) := by
  unfold k0_pay3
  exact dot_apply (R := 1024) (T := 1024) _ x w _ r q

theorem pay4_apply (x : Vec Ideal S16x2048 .bf16) (w : Vec Ideal S1x2048x1024 .bf16) (r : Fin 16) (q : Fin 1024) :
    (k0_pay4 x w (ValueIdx.ix2 r q) : EReal) = ∑ k : Fin 2048, (x (ValueIdx.ix2 r k) : EReal) * (w (ValueIdx.ix3 0 k q) : EReal) := by
  unfold k0_pay4
  exact dot_apply (R := 16) (T := 1024) _ x w _ r q

variable (m : (ℓ : Loc nD τ sig) → Buf (Elt Ideal) ℓ) (c : Dev nD)

/-! ## The windows' blocks -/

theorem ix_3 : ∀ t : Fin cfg0.N, win0_3.index t = ![0, 0, t.val % 2] := by decide +kernel
theorem ix_4 : ∀ t : Fin cfg0.N, win0_4.index t = ![t.val / 2, t.val % 2] := by decide +kernel
theorem ix_5 : ∀ t : Fin cfg0.N, win0_5.index t = ![0, min t.val 1] := by decide +kernel

/-- A row of a point's block. -/
def row (t : Fin cfg0.N) (r : Fin 1024) : Fin 8192 := ⟨1024 * (t.val / 2) + r.val, by have := n0 t; omega⟩
/-- A column of a point's block. -/
def col (t : Fin cfg0.N) (q : Fin 1024) : Fin 2048 := ⟨1024 * (t.val % 2) + q.val, by omega⟩

/-- The arguments. -/
abbrev a0 : (Sh 8192 2048).Idx → EReal := m ((c.tc : Thread nD τ).loc main_arg0)
abbrev a1 : (Sh 16 2048).Idx → EReal := m ((c.tc : Thread nD τ).loc main_arg1)
abbrev a2 (k : Fin 2048) : EReal := (m ((c.tc : Thread nD τ).loc main_arg2) : (⟨1, ![2048]⟩ : Shape).Idx → EReal) (ValueIdx.ix1 k)
abbrev a3 : (Sh 2048 2048).Idx → EReal := m ((c.tc : Thread nD τ).loc main_arg3)

theorem blk0 (t : Fin cfg0.N) (r : Fin 1024) (k : Fin 2048) :
    (iblk m c 0 t (ValueIdx.ix2 r k) : EReal) = a0 m c (ValueIdx.ix2 (row t r) k) := by
  unfold a0; rw [← V_main_arg0 m c]
  unfold iblk
  blk_simp
  refine congrArg (V m c main_arg0) ?_
  funext a; apply Fin.ext
  match a with
  | ⟨0, _⟩ => blk_simp [ix0]; show _ = 1024 * (t.val / 2) + r.val; simp; omega
  | ⟨1, _⟩ => blk_simp [ix0]

theorem blk1 (t : Fin cfg0.N) (r : Fin 16) (k : Fin 2048) :
    (iblk m c 1 t (ValueIdx.ix2 r k) : EReal) = a1 m c (ValueIdx.ix2 r k) := by
  unfold a1; rw [← V_main_arg1 m c]
  unfold iblk
  blk_simp
  refine congrArg (V m c main_arg1) ?_
  funext a; apply Fin.ext
  match a with
  | ⟨0, _⟩ => blk_simp [ix1]
  | ⟨1, _⟩ => blk_simp [ix1]

theorem gain (k : Fin 2048) : (V m c main_v2 : (Sh 1 2048).Idx → EReal) (ValueIdx.ix2 0 k) = a2 m c k := by
  show StableHlo.after hostOps0 (fun b => m (c, b)) (Proc.devRef .tc main_v2) _ = _
  after_results
  refine shapeCast_apply _ _ _ (ValueIdx.ix1 k) ?_
  rw [Shape.rowMajor_val_one]
  refine Eq.trans ?_ (Shape.rowMajor_val_two (d := ![1, 2048]) (ValueIdx.ix2 0 k)).symm
  show k.val = 0 * 2048 + k.val
  omega

theorem blk2 (t : Fin cfg0.N) (k : Fin 2048) : (iblk m c 2 t (ValueIdx.ix2 0 k) : EReal) = a2 m c k := by
  rw [← gain]
  unfold iblk
  blk_simp
  refine congrArg (V m c main_v2) ?_
  funext a; apply Fin.ext
  match a with
  | ⟨0, _⟩ => blk_simp [ix2]
  | ⟨1, _⟩ => blk_simp [ix2]

theorem wts (k : Fin 2048) (q : Fin 2048) :
    (V m c main_v1 : (⟨3, ![1, 2048, 2048]⟩ : Shape).Idx → EReal) (ValueIdx.ix3 0 k q) = a3 m c (ValueIdx.ix2 k q) := by
  show StableHlo.after hostOps0 (fun b => m (c, b)) (Proc.devRef .tc main_v1) _ = _
  after_results
  refine congrArg (m ((c.tc : Thread nD τ).loc main_arg3)) ?_
  funext a; apply Fin.ext
  match a with
  | ⟨0, _⟩ => rfl
  | ⟨1, _⟩ => rfl

theorem blk3 (t : Fin cfg0.N) (k : Fin 2048) (q : Fin 1024) :
    (iblk m c 3 t (ValueIdx.ix3 0 k q) : EReal) = a3 m c (ValueIdx.ix2 k (col t q)) := by
  rw [← wts]
  unfold iblk
  blk_simp
  refine congrArg (V m c main_v1) ?_
  funext a; apply Fin.ext
  match a with
  | ⟨0, _⟩ => blk_simp [ix_3]
  | ⟨1, _⟩ => blk_simp [ix_3]
  | ⟨2, _⟩ => blk_simp [ix_3]; show _ = 1024 * (t.val % 2) + q.val; simp; omega

/-- The prompts' normalised rows at a point. -/
theorem xn_apply (t : Fin cfg0.N) (r : Fin 1024) (k : Fin 2048) :
    (xnAt m c t (ValueIdx.ix2 r k) : EReal) = nrm (a0 m c) (a2 m c) (row t r) k := by
  unfold xnAt
  refine (pay1_apply _ _ r k).trans ?_
  unfold nrm
  simp only [blk0, blk2]

/-- The decoding tokens' normalised rows at a point. -/
theorem xs_apply (t : Fin cfg0.N) (r : Fin 16) (k : Fin 2048) :
    (xsAt m c t (ValueIdx.ix2 r k) : EReal) = nrm (a1 m c) (a2 m c) r k := by
  unfold xsAt
  refine (pay2_apply _ _ r k).trans ?_
  unfold nrm
  simp only [blk1, blk2]

/-! ## The results -/

theorem main_eq : (dat m c).arrAt 4 cfg0.N = prj (a0 m c) (a2 m c) (a3 m c) := by
  refine (dat m c).arrAt_eq_of_covers 4 _ (by decide +kernel) fun t hf y => ?_
  blk_simp
  rw [after_4]
  obtain ⟨r, q, rfl⟩ : ∃ (r : Fin 1024) (q : Fin 1024), y = ValueIdx.ix2 r q := ⟨y 0, y 1, by funext a; match a with | ⟨0, _⟩ => rfl | ⟨1, _⟩ => rfl⟩
  refine (pay3_apply _ _ r q).trans ?_
  have e : (win0_4.blk t).view.emb (ValueIdx.ix2 r q) = ValueIdx.ix2 (row t r) (col t q) := by
    funext a; apply Fin.ext
    match a with
    | ⟨0, _⟩ => blk_simp [ix_4]; show _ = 1024 * (t.val / 2) + r.val; simp; omega
    | ⟨1, _⟩ => blk_simp [ix_4]; show _ = 1024 * (t.val % 2) + q.val; simp; omega
  show _ = (prj (a0 m c) (a2 m c) (a3 m c)) ((win0_4.blk t).view.emb (ValueIdx.ix2 r q))
  rw [e]
  exact Finset.sum_congr rfl fun k _ => by rw [xn_apply, blk3]

theorem side_eq : (dat m c).arrAt 5 cfg0.N = prj (a1 m c) (a2 m c) (a3 m c) := by
  refine (dat m c).arrAt_eq_of_covers 5 _ (by decide +kernel) fun t hf y => ?_
  blk_simp
  rw [after_5]
  obtain ⟨r, q, rfl⟩ : ∃ (r : Fin 16) (q : Fin 1024), y = ValueIdx.ix2 r q := ⟨y 0, y 1, by funext a; match a with | ⟨0, _⟩ => rfl | ⟨1, _⟩ => rfl⟩
  refine (pay4_apply _ _ r q).trans ?_
  have hs : (sp t).val = min t.val 1 := rfl
  have e : (win0_5.blk t).view.emb (ValueIdx.ix2 r q) = ValueIdx.ix2 r (col (sp t) q) := by
    funext a; apply Fin.ext
    match a with
    | ⟨0, _⟩ => blk_simp [ix_5]
    | ⟨1, _⟩ => blk_simp [ix_5]; show _ = 1024 * ((sp t).val % 2) + q.val; simp; omega
  show _ = (prj (a1 m c) (a2 m c) (a3 m c)) ((win0_5.blk t).view.emb (ValueIdx.ix2 r q))
  rw [e]
  exact Finset.sum_congr rfl fun k _ => by rw [xs_apply, blk3]

/-! ## The reference -/

open Cert.Reference8Ideal.Read

/-- The reference's normalised rows, main. -/
theorem ref_nrm_main (x : (⟨Cert.Reference8Ideal.S8192x2048, .f32⟩ : BufTy).Contents (Elt Ideal)) (g : (⟨Cert.Reference8Ideal.S2048, .f32⟩ : BufTy).Contents (Elt Ideal)) (i : Cert.Reference8Ideal.S8192x2048.Idx) :
    (val_main_v12 (F := Ideal) x g i : EReal) = nrm (R := 8192) x (fun k => g (ValueIdx.ix1 k)) (i 0) (i 1) :=
  Cert.Kernel2Ideal.KV.ref_nrm_main x g i

/-- The reference's product, main. -/
theorem ref_main (x : (⟨Cert.Reference8Ideal.S8192x2048, .f32⟩ : BufTy).Contents (Elt Ideal)) (g : (⟨Cert.Reference8Ideal.S2048, .f32⟩ : BufTy).Contents (Elt Ideal))
    (w : (⟨Cert.Reference8Ideal.S2048x2048, .f32⟩ : BufTy).Contents (Elt Ideal)) :
    val_main_v13 (F := Ideal) x g w = prj (R := 8192) x (fun k => g (ValueIdx.ix1 k)) w := by
  funext i
  rw [val_main_v13_apply]
  refine Finset.sum_congr rfl fun k _ => congrArg₂ (fun a b : EReal => a * b) (ref_nrm_main x g _) (congrArg w ?_)
  funext a; match a with | ⟨0, _⟩ => rfl | ⟨1, _⟩ => rfl

/-- The reference's normalised rows, side. -/
theorem ref_nrm_side (x : (⟨Cert.Reference8Ideal.S16x2048, .f32⟩ : BufTy).Contents (Elt Ideal)) (g : (⟨Cert.Reference8Ideal.S2048, .f32⟩ : BufTy).Contents (Elt Ideal)) (i : Cert.Reference8Ideal.S16x2048.Idx) :
    (val_main_v26 (F := Ideal) x g i : EReal) = nrm (R := 16) x (fun k => g (ValueIdx.ix1 k)) (i 0) (i 1) :=
  Cert.Kernel2Ideal.KV.ref_nrm_side x g i

/-- The reference's product, side. -/
theorem ref_side (x : (⟨Cert.Reference8Ideal.S16x2048, .f32⟩ : BufTy).Contents (Elt Ideal)) (g : (⟨Cert.Reference8Ideal.S2048, .f32⟩ : BufTy).Contents (Elt Ideal))
    (w : (⟨Cert.Reference8Ideal.S2048x2048, .f32⟩ : BufTy).Contents (Elt Ideal)) :
    val_main_v27 (F := Ideal) x g w = prj (R := 16) x (fun k => g (ValueIdx.ix1 k)) w := by
  funext i
  rw [val_main_v27_apply]
  refine Finset.sum_congr rfl fun k _ => congrArg₂ (fun a b : EReal => a * b) (ref_nrm_side x g _) (congrArg w ?_)
  funext a; match a with | ⟨0, _⟩ => rfl | ⟨1, _⟩ => rfl

end Cert.Kernel8Ideal.KV

end
-- ==== Proof.K5Value.lean ====
/- The key projection's results, element by element: a row divided by its root mean square, times the weights, laid out by head and as rows. -/
module

public import proofs.«01_k».proof.Proof.K5Run
public import proofs.«01_k».proof.Proof.KHelp
public import proofs.«01_k».proof.Proof.K2Value
public import proofs.«01_k».proof.Proof.K8Value
public import proofs.«01_k».proof.Proof.Gen.Reference5Ideal.Read
public import Idealize.ShloMosaic.Lib.Pipeline.ValueKit

@[expose] public section

set_option maxRecDepth 16384
set_option backward.isDefEq.respectTransparency false

noncomputable section

namespace Cert.Kernel5Ideal.KV

open Idealize.ShloMosaic Idealize.ShloMosaic.TcCoe
open Cert.Kernel5Ideal.Gen Cert.KHelp
open Idealize.ShloMosaic.Pipeline (Dat Cfg Window BodyObligation cellOf)
open Cert.Kernel2Ideal.KV (nrm nrm_apply)
open Cert.Kernel8Ideal.KV (prj dot_apply)

/-- Rows laid out by head. -/
def byHead (f : (Sh 8192 2048).Idx → EReal) : (⟨3, ![8192, 16, 128]⟩ : Shape).Idx → EReal := fun y => f (ValueIdx.ix2 (y 0) ⟨128 * (y 1).val + (y 2).val, by
  have h1 : (y 1).val < 16 := (y 1).isLt
  have h2 : (y 2).val < 128 := (y 2).isLt
  omega⟩)

theorem pay6_apply (x : Vec Ideal S1024x2048 .f32) (g : Vec Ideal S1x2048 .f32) (r : Fin 1024) (k : Fin 2048) :
    (k0_pay6 x g (ValueIdx.ix2 r k) : EReal) = nrm (R := 1024) x (fun k => g (ValueIdx.ix2 0 k)) r k := by
  unfold k0_pay6
  refine (shapeCast_apply _ _ (ValueIdx.ix2 r k) (ValueIdx.ix2 r k) rfl).trans ?_
  exact nrm_apply (R := 1024) x g _ _ _ _ _ _ _ r k

theorem pay7_apply (x : Vec Ideal S16x2048 .f32) (g : Vec Ideal S1x2048 .f32) (r : Fin 16) (k : Fin 2048) :
    (k0_pay7 x g (ValueIdx.ix2 r k) : EReal) = nrm (R := 16) x (fun k => g (ValueIdx.ix2 0 k)) r k := by
  unfold k0_pay7
  refine (shapeCast_apply _ _ (ValueIdx.ix2 r k) (ValueIdx.ix2 r k) rfl).trans ?_
  exact nrm_apply (R := 16) x g _ _ _ _ _ _ _ r k

theorem pay8_apply (x : Vec Ideal S1024x2048 .bf16) (w : Vec Ideal S1x2048x1024 .bf16) (r : Fin 1024) (q : Fin 1024) :
    (k0_pay8 x w (ValueIdx.ix2 r q) : EReal) = ∑ k : Fin 2048, (x (ValueIdx.ix2 r k) : EReal) * (w (ValueIdx.ix3 0 k q) : EReal) := by
  unfold k0_pay8
  exact dot_apply (R := 1024) (T := 1024) _ x w _ r q

theorem pay5_apply (x : Vec Ideal S16x2048 .bf16) (w : Vec Ideal S1x2048x1024 .bf16) (r : Fin 16) (q : Fin 1024) :
    (k0_pay5 x w (ValueIdx.ix2 r q) : EReal) = ∑ k : Fin 2048, (x (ValueIdx.ix2 r k) : EReal) * (w (ValueIdx.ix3 0 k q) : EReal) := by
  unfold k0_pay5
  exact dot_apply (R := 16) (T := 1024) _ x w _ r q

variable (m : (ℓ : Loc nD τ sig) → Buf (Elt Ideal) ℓ) (c : Dev nD)

/-! ## The windows' blocks -/

theorem ix_3 : ∀ t : Fin cfg0.N, win0_3.index t = ![0, 0, t.val % 2] := by decide +kernel
theorem ix_4 : ∀ t : Fin cfg0.N, win0_4.index t = ![t.val / 2, t.val % 2, 0] := by decide +kernel
theorem ix_5 : ∀ t : Fin cfg0.N, win0_5.index t = ![t.val / 2, t.val % 2] := by decide +kernel
theorem ix_6 : ∀ t : Fin cfg0.N, win0_6.index t = ![0, min t.val 1] := by decide +kernel

/-- A row of a point's block. -/
def row (t : Fin cfg0.N) (r : Fin 1024) : Fin 8192 := ⟨1024 * (t.val / 2) + r.val, by have := n0 t; omega⟩
/-- A column of a point's block. -/
def col (t : Fin cfg0.N) (q : Fin 1024) : Fin 2048 := ⟨1024 * (t.val % 2) + q.val, by omega⟩

/-- The arguments. -/
abbrev a0 : (Sh 8192 2048).Idx → EReal := m ((c.tc : Thread nD τ).loc main_arg0)
abbrev a1 : (Sh 16 2048).Idx → EReal := m ((c.tc : Thread nD τ).loc main_arg1)
abbrev a2 (k : Fin 2048) : EReal := (m ((c.tc : Thread nD τ).loc main_arg2) : (⟨1, ![2048]⟩ : Shape).Idx → EReal) (ValueIdx.ix1 k)
abbrev a3 : (Sh 2048 2048).Idx → EReal := m ((c.tc : Thread nD τ).loc main_arg3)

theorem blk0 (t : Fin cfg0.N) (r : Fin 1024) (k : Fin 2048) :
    (iblk m c 0 t (ValueIdx.ix2 r k) : EReal) = a0 m c (ValueIdx.ix2 (row t r) k) := by
  unfold a0; rw [← V_main_arg0 m c]
  unfold iblk
  blk_simp
  refine congrArg (V m c main_arg0) ?_
  funext a; apply Fin.ext
  match a with
  | ⟨0, _⟩ => blk_simp [ix0]; show _ = 1024 * (t.val / 2) + r.val; simp; omega
  | ⟨1, _⟩ => blk_simp [ix0]

theorem blk1 (t : Fin cfg0.N) (r : Fin 16) (k : Fin 2048) :
    (iblk m c 1 t (ValueIdx.ix2 r k) : EReal) = a1 m c (ValueIdx.ix2 r k) := by
  unfold a1; rw [← V_main_arg1 m c]
  unfold iblk
  blk_simp
  refine congrArg (V m c main_arg1) ?_
  funext a; apply Fin.ext
  match a with
  | ⟨0, _⟩ => blk_simp [ix1]
  | ⟨1, _⟩ => blk_simp [ix1]

theorem gain (k : Fin 2048) : (V m c main_v2 : (Sh 1 2048).Idx → EReal) (ValueIdx.ix2 0 k) = a2 m c k := by
  show StableHlo.after hostOps0 (fun b => m (c, b)) (Proc.devRef .tc main_v2) _ = _
  after_results
  refine shapeCast_apply _ _ _ (ValueIdx.ix1 k) ?_
  rw [Shape.rowMajor_val_one]
  refine Eq.trans ?_ (Shape.rowMajor_val_two (d := ![1, 2048]) (ValueIdx.ix2 0 k)).symm
  show k.val = 0 * 2048 + k.val
  omega

theorem blk2 (t : Fin cfg0.N) (k : Fin 2048) : (iblk m c 2 t (ValueIdx.ix2 0 k) : EReal) = a2 m c k := by
  rw [← gain]
  unfold iblk
  blk_simp
  refine congrArg (V m c main_v2) ?_
  funext a; apply Fin.ext
  match a with
  | ⟨0, _⟩ => blk_simp [ix2]
  | ⟨1, _⟩ => blk_simp [ix2]

theorem wts (k : Fin 2048) (q : Fin 2048) :
    (V m c main_v1 : (⟨3, ![1, 2048, 2048]⟩ : Shape).Idx → EReal) (ValueIdx.ix3 0 k q) = a3 m c (ValueIdx.ix2 k q) := by
  show StableHlo.after hostOps0 (fun b => m (c, b)) (Proc.devRef .tc main_v1) _ = _
  after_results
  refine congrArg (m ((c.tc : Thread nD τ).loc main_arg3)) ?_
  funext a; apply Fin.ext
  match a with
  | ⟨0, _⟩ => rfl
  | ⟨1, _⟩ => rfl

theorem blk3 (t : Fin cfg0.N) (k : Fin 2048) (q : Fin 1024) :
    (iblk m c 3 t (ValueIdx.ix3 0 k q) : EReal) = a3 m c (ValueIdx.ix2 k (col t q)) := by
  rw [← wts]
  unfold iblk
  blk_simp
  refine congrArg (V m c main_v1) ?_
  funext a; apply Fin.ext
  match a with
  | ⟨0, _⟩ => blk_simp [ix_3]
  | ⟨1, _⟩ => blk_simp [ix_3]
  | ⟨2, _⟩ => blk_simp [ix_3]; show _ = 1024 * (t.val % 2) + q.val; simp; omega

/-- The prompts' normalised rows at a point. -/
theorem xn_apply (t : Fin cfg0.N) (r : Fin 1024) (k : Fin 2048) :
    (xnAt m c t (ValueIdx.ix2 r k) : EReal) = nrm (a0 m c) (a2 m c) (row t r) k := by
  unfold xnAt
  refine (pay6_apply _ _ r k).trans ?_
  unfold nrm
  simp only [blk0, blk2]

/-- The decoding tokens' normalised rows at a point. -/
theorem xs_apply (t : Fin cfg0.N) (r : Fin 16) (k : Fin 2048) :
    (xsAt m c t (ValueIdx.ix2 r k) : EReal) = nrm (a1 m c) (a2 m c) r k := by
  unfold xsAt
  refine (pay7_apply _ _ r k).trans ?_
  unfold nrm
  simp only [blk1, blk2]

/-! ## The results -/

/-- A point's product is the result's rows and columns there. -/
theorem prod_eq (t : Fin cfg0.N) (r q : Fin 1024) :
    (k0_pay8 (xnAt m c t) (iblk m c 3 t) (ValueIdx.ix2 r q) : EReal) = prj (a0 m c) (a2 m c) (a3 m c) (ValueIdx.ix2 (row t r) (col t q)) := by
  refine (pay8_apply _ _ r q).trans ?_
  exact Finset.sum_congr rfl fun k _ => by rw [xn_apply, blk3]

theorem heads_eq : (dat m c).arrAt 4 cfg0.N = byHead (prj (a0 m c) (a2 m c) (a3 m c)) := by
  refine (dat m c).arrAt_eq_of_covers 4 _ (by decide +kernel) fun t hf y => ?_
  blk_simp
  rw [after_4]
  have h0 : (y 0).val < 1024 := (y 0).isLt
  have h1 : (y 1).val < 8 := (y 1).isLt
  have h2 : (y 2).val < 128 := (y 2).isLt
  refine (prod_eq m c t ⟨(y 0).val, h0⟩ ⟨128 * (y 1).val + (y 2).val, by omega⟩).trans ?_
  show _ = prj (a0 m c) (a2 m c) (a3 m c) _
  refine congrArg (prj (a0 m c) (a2 m c) (a3 m c)) ?_
  have e0 : ((win0_4.blk t).view.emb y 0).val = 1024 * (t.val / 2) + (y 0).val := by blk_simp [ix_4]; simp; omega
  have e1 : ((win0_4.blk t).view.emb y 1).val = 8 * (t.val % 2) + (y 1).val := by blk_simp [ix_4]; simp; omega
  have e2 : ((win0_4.blk t).view.emb y 2).val = (y 2).val := by blk_simp [ix_4]
  funext a; apply Fin.ext
  match a with
  | ⟨0, _⟩ => exact e0.symm
  | ⟨1, _⟩ =>
    show 1024 * (t.val % 2) + (128 * (y 1).val + (y 2).val) = 128 * ((win0_4.blk t).view.emb y 1).val + ((win0_4.blk t).view.emb y 2).val
    rw [e1, e2]; omega

theorem main_eq : (dat m c).arrAt 5 cfg0.N = prj (a0 m c) (a2 m c) (a3 m c) := by
  refine (dat m c).arrAt_eq_of_covers 5 _ (by decide +kernel) fun t hf y => ?_
  blk_simp
  rw [after_5]
  obtain ⟨r, q, rfl⟩ : ∃ (r : Fin 1024) (q : Fin 1024), y = ValueIdx.ix2 r q := ⟨y 0, y 1, by funext a; match a with | ⟨0, _⟩ => rfl | ⟨1, _⟩ => rfl⟩
  refine (prod_eq m c t r q).trans ?_
  have e : (win0_5.blk t).view.emb (ValueIdx.ix2 r q) = ValueIdx.ix2 (row t r) (col t q) := by
    funext a; apply Fin.ext
    match a with
    | ⟨0, _⟩ => blk_simp [ix_5]; show _ = 1024 * (t.val / 2) + r.val; simp; omega
    | ⟨1, _⟩ => blk_simp [ix_5]; show _ = 1024 * (t.val % 2) + q.val; simp; omega
  show _ = (prj (a0 m c) (a2 m c) (a3 m c)) ((win0_5.blk t).view.emb (ValueIdx.ix2 r q))
  rw [e]

theorem side_eq : (dat m c).arrAt 6 cfg0.N = prj (a1 m c) (a2 m c) (a3 m c) := by
  refine (dat m c).arrAt_eq_of_covers 6 _ (by decide +kernel) fun t hf y => ?_
  blk_simp
  rw [after_6]
  obtain ⟨r, q, rfl⟩ : ∃ (r : Fin 16) (q : Fin 1024), y = ValueIdx.ix2 r q := ⟨y 0, y 1, by funext a; match a with | ⟨0, _⟩ => rfl | ⟨1, _⟩ => rfl⟩
  refine (pay5_apply _ _ r q).trans ?_
  have hs : (sp t).val = min t.val 1 := rfl
  have e : (win0_6.blk t).view.emb (ValueIdx.ix2 r q) = ValueIdx.ix2 r (col (sp t) q) := by
    funext a; apply Fin.ext
    match a with
    | ⟨0, _⟩ => blk_simp [ix_6]
    | ⟨1, _⟩ => blk_simp [ix_6]; show _ = 1024 * ((sp t).val % 2) + q.val; simp; omega
  show _ = (prj (a1 m c) (a2 m c) (a3 m c)) ((win0_6.blk t).view.emb (ValueIdx.ix2 r q))
  rw [e]
  exact Finset.sum_congr rfl fun k _ => by rw [xs_apply, blk3]

/-! ## The reference -/

open Cert.Reference5Ideal.Read

/-- The reference's normalised rows, main. -/
theorem ref_nrm_main (x : (⟨Cert.Reference5Ideal.S8192x2048, .f32⟩ : BufTy).Contents (Elt Ideal)) (g : (⟨Cert.Reference5Ideal.S2048, .f32⟩ : BufTy).Contents (Elt Ideal)) (i : Cert.Reference5Ideal.S8192x2048.Idx) :
    (val_main_v12 (F := Ideal) x g i : EReal) = nrm (R := 8192) x (fun k => g (ValueIdx.ix1 k)) (i 0) (i 1) :=
  Cert.Kernel2Ideal.KV.ref_nrm_main x g i

/-- The reference's product, main. -/
theorem ref_dot (x : (⟨Cert.Reference5Ideal.S8192x2048, .f32⟩ : BufTy).Contents (Elt Ideal)) (g : (⟨Cert.Reference5Ideal.S2048, .f32⟩ : BufTy).Contents (Elt Ideal))
    (w : (⟨Cert.Reference5Ideal.S2048x2048, .f32⟩ : BufTy).Contents (Elt Ideal)) :
    val_main_v13 (F := Ideal) x g w = prj (R := 8192) x (fun k => g (ValueIdx.ix1 k)) w := by
  funext i
  rw [val_main_v13_apply]
  refine Finset.sum_congr rfl fun k _ => congrArg₂ (fun a b : EReal => a * b) (ref_nrm_main x g _) (congrArg w ?_)
  funext a; match a with | ⟨0, _⟩ => rfl | ⟨1, _⟩ => rfl

/-- The reference's rows. -/
theorem ref_main (x : (⟨Cert.Reference5Ideal.S8192x2048, .f32⟩ : BufTy).Contents (Elt Ideal)) (g : (⟨Cert.Reference5Ideal.S2048, .f32⟩ : BufTy).Contents (Elt Ideal))
    (w : (⟨Cert.Reference5Ideal.S2048x2048, .f32⟩ : BufTy).Contents (Elt Ideal)) :
    val_main_v15 (F := Ideal) x g w = prj (R := 8192) x (fun k => g (ValueIdx.ix1 k)) w := by
  funext i
  exact congrFun (ref_dot x g w) i

/-- The reference's rows by head. -/
theorem ref_heads (x : (⟨Cert.Reference5Ideal.S8192x2048, .f32⟩ : BufTy).Contents (Elt Ideal)) (g : (⟨Cert.Reference5Ideal.S2048, .f32⟩ : BufTy).Contents (Elt Ideal))
    (w : (⟨Cert.Reference5Ideal.S2048x2048, .f32⟩ : BufTy).Contents (Elt Ideal)) :
    val_main_v14 (F := Ideal) x g w = byHead (prj (R := 8192) x (fun k => g (ValueIdx.ix1 k)) w) := by
  funext i
  rw [val_main_v14_apply, ref_dot]
  refine congrArg (prj (R := 8192) x (fun k => g (ValueIdx.ix1 k)) w) ?_
  have h0 : (i 0).val < 8192 := (i 0).isLt
  have h1 : (i 1).val < 16 := (i 1).isLt
  have h2 : (i 2).val < 128 := (i 2).isLt
  funext a; apply Fin.ext
  match a with
  | ⟨0, _⟩ => show (((i 0).val * 16 + (i 1).val) * 128 + (i 2).val) / 2048 = (i 0).val; omega
  | ⟨1, _⟩ => show (((i 0).val * 16 + (i 1).val) * 128 + (i 2).val) % 2048 = 128 * (i 1).val + (i 2).val; omega

/-- The reference's normalised rows, side. -/
theorem ref_nrm_side (x : (⟨Cert.Reference5Ideal.S16x2048, .f32⟩ : BufTy).Contents (Elt Ideal)) (g : (⟨Cert.Reference5Ideal.S2048, .f32⟩ : BufTy).Contents (Elt Ideal)) (i : Cert.Reference5Ideal.S16x2048.Idx) :
    (val_main_v28 (F := Ideal) x g i : EReal) = nrm (R := 16) x (fun k => g (ValueIdx.ix1 k)) (i 0) (i 1) :=
  Cert.Kernel2Ideal.KV.ref_nrm_side x g i

/-- The reference's product, side. -/
theorem ref_side (x : (⟨Cert.Reference5Ideal.S16x2048, .f32⟩ : BufTy).Contents (Elt Ideal)) (g : (⟨Cert.Reference5Ideal.S2048, .f32⟩ : BufTy).Contents (Elt Ideal))
    (w : (⟨Cert.Reference5Ideal.S2048x2048, .f32⟩ : BufTy).Contents (Elt Ideal)) :
    val_main_v29 (F := Ideal) x g w = prj (R := 16) x (fun k => g (ValueIdx.ix1 k)) w := by
  funext i
  rw [val_main_v29_apply]
  refine Finset.sum_congr rfl fun k _ => congrArg₂ (fun a b : EReal => a * b) (ref_nrm_side x g _) (congrArg w ?_)
  funext a; match a with | ⟨0, _⟩ => rfl | ⟨1, _⟩ => rfl

end Cert.Kernel5Ideal.KV

end
-- ==== Proof.K6Run.lean ====
/- The output projection's call: what its body leaves at each grid point, the side result's buffer carried over the points that do not
   touch it, and the run's contents at the end. -/
module

public import proofs.«01_k».proof.Proof.Gen.Kernel6Ideal.Frame
public import proofs.«01_k».proof.Proof.Gen.Kernel6Ideal.Skeleton
public import Idealize.ShloMosaic.Lib.Pipeline.ValueKit.Acc
public import proofs.«01_k».proof.Proof.KStore

@[expose] public section

set_option maxRecDepth 16384

noncomputable section

namespace Cert.Kernel6Ideal.KV

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel6Ideal.Gen
open Cert.KStore (off2 read_store)

variable {F : FTy → Type} [FloatOps F]

local notation "𝕄" => MT nD τ sig Unit (Elt F) ℕ (UR sig nD τ) ℕ

set_option maxHeartbeats 1000000 in
/-- The body where the condition holds. -/
theorem body_A (c : Dev nD) (i : grid0.Coords) (hc : k0_cond1 i = 1#1) (arg2 : Memref sig .tc .vmem S1024x2048 .bf16) (harg2 : arg2.IsWhole) (arg3 : Memref sig .tc .vmem S16x2048 .bf16) (harg3 : arg3.IsWhole) (arg4 : Memref sig .tc .vmem S1x2048x1024 .bf16) (harg4 : arg4.IsWhole) (arg5 : Memref sig .tc .vmem S1024x1024 .f32) (harg5 : arg5.IsWhole) (arg6 : Memref sig .tc .vmem S16x1024 .f32) (harg6 : arg6.IsWhole) (arg7 : Memref sig .tc .vmem S1024x1024 .f32) (harg7 : arg7.IsWhole) (arg8 : Memref sig .tc .vmem S16x1024 .f32) (harg8 : arg8.IsWhole)
    (x0 : Vec F S1024x2048 .bf16) (x1 : Vec F S16x2048 .bf16) (x2 : Vec F S1x2048x1024 .bf16) (x3 : Vec F S1024x1024 .f32) (x4 : Vec F S16x1024 .f32) (E : Set ℕ) (K : PUnit → sProp 𝕄) :
    iprop(owns c arg2 fullShare x0 ∗ owns c arg3 fullShare x1 ∗ owns c arg4 fullShare x2 ∗ owns c arg5 fullShare x3 ∗ owns c arg6 fullShare x4 ∗ (∃ d, owns c arg7 fullShare d) ∗ (∃ d, owns c arg8 fullShare d)
        ∗ (iprop(owns c arg2 fullShare x0 ∗ owns c arg3 fullShare x1 ∗ owns c arg4 fullShare x2 ∗ owns c arg5 fullShare x3 ∗ owns c arg6 fullShare x4 ∗ owns c arg7 fullShare (k0_pay1 x0 x2 x3) ∗ owns c arg8 fullShare (k0_pay2 x1 x2 x4)) -∗ K ⟨⟩))
      ⊢ wp frame (wpE (defs₀ (F := F)) Variants.none c none) E (cc0_oproj i arg2 harg2 arg3 harg3 arg4 harg4 arg5 harg5 arg6 harg6 arg7 harg7 arg8 harg8) K := by
  simp only [cc0_oproj_eq_skeleton]; unfold cc0_oproj_skel
  rw [dif_pos hc]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  obtain rfl := harg2.eq_unread hf0; obtain rfl := harg3.eq_unread hf1; obtain rfl := harg4.eq_unread hf2; obtain rfl := harg5.eq_unread hf3; obtain rfl := harg6.eq_unread hf4
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    rw [read_store _ off2]
    simp (disch := decide) only [View.readAt_eq_ld, harg2.read_unread, harg4.read_unread, harg5.read_unread, View.ld_unit_lit']
  iexists _; isplitr
  swap; · iexact H6
  ipureintro
  rw [read_store _ off2]
  simp (disch := decide) only [View.readAt_eq_ld, harg3.read_unread, harg4.read_unread, harg6.read_unread, View.ld_unit_lit']

set_option maxHeartbeats 1000000 in
/-- The body where the condition fails. -/
theorem body_B (c : Dev nD) (i : grid0.Coords) (hc : ¬ k0_cond1 i = 1#1) (arg2 : Memref sig .tc .vmem S1024x2048 .bf16) (harg2 : arg2.IsWhole) (arg3 : Memref sig .tc .vmem S16x2048 .bf16) (harg3 : arg3.IsWhole) (arg4 : Memref sig .tc .vmem S1x2048x1024 .bf16) (harg4 : arg4.IsWhole) (arg5 : Memref sig .tc .vmem S1024x1024 .f32) (harg5 : arg5.IsWhole) (arg6 : Memref sig .tc .vmem S16x1024 .f32) (harg6 : arg6.IsWhole) (arg7 : Memref sig .tc .vmem S1024x1024 .f32) (harg7 : arg7.IsWhole) (arg8 : Memref sig .tc .vmem S16x1024 .f32) (harg8 : arg8.IsWhole)
    (x0 : Vec F S1024x2048 .bf16) (x1 : Vec F S16x2048 .bf16) (x2 : Vec F S1x2048x1024 .bf16) (x3 : Vec F S1024x1024 .f32) (x4 : Vec F S16x1024 .f32) (x6 : Vec F S16x1024 .f32) (E : Set ℕ) (K : PUnit → sProp 𝕄) :
    iprop(owns c arg2 fullShare x0 ∗ owns c arg3 fullShare x1 ∗ owns c arg4 fullShare x2 ∗ owns c arg5 fullShare x3 ∗ owns c arg6 fullShare x4 ∗ (∃ d, owns c arg7 fullShare d) ∗ owns c arg8 fullShare x6
        ∗ (iprop(owns c arg2 fullShare x0 ∗ owns c arg3 fullShare x1 ∗ owns c arg4 fullShare x2 ∗ owns c arg5 fullShare x3 ∗ owns c arg6 fullShare x4 ∗ owns c arg7 fullShare (k0_pay1 x0 x2 x3) ∗ owns c arg8 fullShare x6) -∗ K ⟨⟩))
      ⊢ wp frame (wpE (defs₀ (F := F)) Variants.none c none) E (cc0_oproj i arg2 harg2 arg3 harg3 arg4 harg4 arg5 harg5 arg6 harg6 arg7 harg7 arg8 harg8) K := by
  simp only [cc0_oproj_eq_skeleton]; unfold cc0_oproj_skel
  rw [dif_neg hc]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
  obtain rfl := harg2.eq_unread hf0; obtain rfl := harg3.eq_unread hf1; obtain rfl := harg4.eq_unread hf2; obtain rfl := harg5.eq_unread hf3; obtain rfl := harg6.eq_unread hf4; obtain rfl := harg8.eq_unread hf6
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    rw [read_store _ off2]
    simp (disch := decide) only [View.readAt_eq_ld, harg2.read_unread, harg4.read_unread, harg5.read_unread, View.ld_unit_lit']
  iexists _; isplitr; · ipureintro; exact harg8.read_unread _
  iexact H6

variable (m : (ℓ : Loc nD τ sig) → Buf (Elt F) ℓ) (ρ : Dev nD → PrngReg)

/-! ## The proof data -/

theorem n0 (t : Fin cfg0.N) : t.val < 16 := t.isLt
theorem cond_iff : ∀ t : Fin cfg0.N, k0_cond1 (grid0.coords t) = 1#1 ↔ t.val < 2 := by decide +kernel
theorem idle_eq : ∀ t : Fin cfg0.N, idle0 6 (grid0.coords t) = decide (2 ≤ t.val) := by decide +kernel
theorem flush6_eq : ∀ t : Fin cfg0.N, win0_6.flush t = decide (t.val < 1 ∨ t.val = 15) := by decide +kernel

/-- The point whose side block the buffer holds after point `t`: the point itself in the first row of the grid, that row's last one later. -/
def sp (t : Fin cfg0.N) : Fin cfg0.N := ⟨min t.val 1, Nat.lt_of_le_of_lt (Nat.min_le_left _ _) t.isLt⟩

/-- The main result's block at a point. -/
def mainAt (c : Dev nD) (t : Fin cfg0.N) : Vec F S1024x1024 .f32 := k0_pay1 (iblk m c 0 t) (iblk m c 2 t) (iblk m c 3 t)
/-- The side result's block at a point. -/
def sideAt (c : Dev nD) (t : Fin cfg0.N) : Vec F S16x1024 .f32 := k0_pay2 (iblk m c 1 t) (iblk m c 2 t) (iblk m c 4 t)

/-- The proof data: every input's buffer at its block, the main result's at the point's block, the side result's at the block last stored. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => mainAt m c t
    | ⟨6, _⟩ => sideAt m c (sp t)
  Φ _ := Pipeline.ΦA spec0 c
  q _ := fullShare
  owed _ := 0

theorem A_eq (c : Dev nD) (w : Fin cfg0.W) : (dat m c).A w = V m c (Pipeline.arrRef spec0 w) := by
  dsimp only [dat]
theorem after_0 (c : Dev nD) (t : Fin cfg0.N) : (dat m c).after 0 t = iblk m c 0 t := by dsimp only [dat]
theorem after_1 (c : Dev nD) (t : Fin cfg0.N) : (dat m c).after 1 t = iblk m c 1 t := by dsimp only [dat]
theorem after_2 (c : Dev nD) (t : Fin cfg0.N) : (dat m c).after 2 t = iblk m c 2 t := by dsimp only [dat]
theorem after_3 (c : Dev nD) (t : Fin cfg0.N) : (dat m c).after 3 t = iblk m c 3 t := by dsimp only [dat]
theorem after_4 (c : Dev nD) (t : Fin cfg0.N) : (dat m c).after 4 t = iblk m c 4 t := by dsimp only [dat]
theorem after_5 (c : Dev nD) (t : Fin cfg0.N) : (dat m c).after 5 t = mainAt m c t := by dsimp only [dat]
theorem after_6 (c : Dev nD) (t : Fin cfg0.N) : (dat m c).after 6 t = sideAt m c (sp t) := by dsimp only [dat]
theorem before_0 (c : Dev nD) (t : Fin cfg0.N) (d) : (dat m c).before 0 t d = iblk m c 0 t :=
  before0_0_of m (dat m c) (A_eq m c 0) (after_0 m c) t d
theorem before_1 (c : Dev nD) (t : Fin cfg0.N) (d) : (dat m c).before 1 t d = iblk m c 1 t :=
  before0_1_of m (dat m c) (A_eq m c 1) (after_1 m c) t d
theorem before_2 (c : Dev nD) (t : Fin cfg0.N) (d) : (dat m c).before 2 t d = iblk m c 2 t :=
  before0_2_of m (dat m c) (A_eq m c 2) (after_2 m c) t d
theorem before_3 (c : Dev nD) (t : Fin cfg0.N) (d) : (dat m c).before 3 t d = iblk m c 3 t :=
  before0_3_of m (dat m c) (A_eq m c 3) (after_3 m c) t d
theorem before_4 (c : Dev nD) (t : Fin cfg0.N) (d) : (dat m c).before 4 t d = iblk m c 4 t :=
  before0_4_of m (dat m c) (A_eq m c 4) (after_4 m c) t d

/-- Past the grid's first row the side result's buffer holds that row's last block. -/
theorem before_6 (c : Dev nD) (d) : ∀ (n : ℕ) (t : Fin cfg0.N), t.val = 2 + n → (dat m c).before 6 t d = sideAt m c (sp t) := by
  intro n
  induction n with
  | zero =>
    intro t ht
    have h0 : t.val ≠ 0 := by omega
    rw [(dat m c).before_of_pos 6 t h0 ((cfg0.win 6).fetch_out rfl t)]
    rw [show (cfg0.win 6).flush ⟨t.val - 1, Nat.lt_of_le_of_lt (Nat.sub_le _ _) t.isLt⟩ = false from
      (flush6_eq _).trans (decide_eq_false (by show ¬ (t.val - 1 < 1 ∨ t.val - 1 = 15); omega))]
    rw [if_neg Bool.false_ne_true]
    unfold Dat.left
    rw [show cfg0.idle 6 (cfg0.grid.coords ⟨t.val - 1, Nat.lt_of_le_of_lt (Nat.sub_le _ _) t.isLt⟩) = false from
      (idle_eq _).trans (decide_eq_false (by show ¬ (2 ≤ t.val - 1); omega))]
    dsimp only
    unfold Dat.kept
    rw [Pipeline.fill_of_clip_none 6 _ (fun _ => rfl) d ((dat m c).after 6 _), Window.fill_cut, after_6]
    congr 1
    refine Fin.ext ?_
    show min (t.val - 1) 1 = min t.val 1
    omega
  | succ n ih =>
    intro t ht
    have h0 : t.val ≠ 0 := by omega
    rw [(dat m c).before_of_pos 6 t h0 ((cfg0.win 6).fetch_out rfl t)]
    rw [show (cfg0.win 6).flush ⟨t.val - 1, Nat.lt_of_le_of_lt (Nat.sub_le _ _) t.isLt⟩ = false from
      (flush6_eq _).trans (decide_eq_false (by show ¬ (t.val - 1 < 1 ∨ t.val - 1 = 15); have := n0 t; omega))]
    rw [if_neg Bool.false_ne_true]
    unfold Dat.left
    rw [show cfg0.idle 6 (cfg0.grid.coords ⟨t.val - 1, Nat.lt_of_le_of_lt (Nat.sub_le _ _) t.isLt⟩) = true from
      (idle_eq _).trans (decide_eq_true (by show 2 ≤ t.val - 1; omega))]
    dsimp only
    rw [ih ⟨t.val - 1, Nat.lt_of_le_of_lt (Nat.sub_le _ _) t.isLt⟩ (by show t.val - 1 = 2 + n; omega)]
    congr 1
    refine Fin.ext ?_
    show min (t.val - 1) 1 = min t.val 1
    omega

/-! ## The body obligation -/

/-- What the body is called with at a point, -/
def bodyPre (c : Dev nD) (t : Fin cfg0.N) : sProp 𝕄 :=
  iprop((dat m c).Φ t.castSucc ∗ (dat m c).owesAt () t.castSucc
    ∗ (∃ d, owns c (st0_0 t) fullShare ((dat m c).before 0 t d))
    ∗ (∃ d, owns c (st0_1 t) fullShare ((dat m c).before 1 t d))
    ∗ (∃ d, owns c (st0_2 t) fullShare ((dat m c).before 2 t d))
    ∗ (∃ d, owns c (st0_3 t) fullShare ((dat m c).before 3 t d))
    ∗ (∃ d, owns c (st0_4 t) fullShare ((dat m c).before 4 t d))
    ∗ (∃ d, owns c (st0_5 t) fullShare ((dat m c).before 5 t d))
    ∗ (∃ d, owns c (st0_6 t) fullShare ((dat m c).before 6 t d)))

/-- and what it returns. -/
def bodyPost (c : Dev nD) (t : Fin cfg0.N) : sProp 𝕄 :=
  iprop((dat m c).Φ t.succ ∗ (dat m c).owesAt () t.succ
    ∗ owns c (st0_0 t) fullShare ((dat m c).after 0 t)
    ∗ owns c (st0_1 t) fullShare ((dat m c).after 1 t)
    ∗ owns c (st0_2 t) fullShare ((dat m c).after 2 t)
    ∗ owns c (st0_3 t) fullShare ((dat m c).after 3 t)
    ∗ owns c (st0_4 t) fullShare ((dat m c).after 4 t)
    ∗ owns c (st0_5 t) fullShare ((dat m c).after 5 t)
    ∗ (dat m c).leavesExact 6 t)

/-- The side result's buffer after the body, past the grid's first row. -/
theorem leaves_idle (c : Dev nD) (t : Fin cfg0.N) (h : 2 ≤ t.val) :
    owns c (st0_6 t) fullShare (sideAt m c (sp t)) ⊢ ((dat m c).leavesExact 6 t : sProp 𝕄) := by
  unfold Dat.leavesExact
  rw [show cfg0.idle 6 (cfg0.grid.coords t) = true from (idle_eq t).trans (decide_eq_true h)]
  dsimp only
  cases (cfg0.win 6).flush t
  · dsimp only
    iintro H
    iexists (sideAt m c (sp t))
    rw [before_6 m c _ (t.val - 2) t (by omega)]
    iexact H
  · dsimp only
    rw [after_6]

/-- The side result's buffer after the body, in the grid's first row. -/
theorem leaves_live (c : Dev nD) (t : Fin cfg0.N) (h : t.val < 2) :
    owns c (st0_6 t) fullShare (sideAt m c t) ⊢ ((dat m c).leavesExact 6 t : sProp 𝕄) := by
  unfold Dat.leavesExact
  rw [show cfg0.idle 6 (cfg0.grid.coords t) = false from (idle_eq t).trans (decide_eq_false (by omega))]
  dsimp only
  rw [after_6, show sp t = t from Fin.ext (by show min t.val 1 = t.val; omega)]

set_option maxHeartbeats 1000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dat m c).Φ t.succ = (dat m c).Φ t.castSucc from rfl,
    show (dat m c).owesAt () t.succ = (dat m c).owesAt () t.castSucc from rfl,
    after_0, after_1, after_2, after_3, after_4, after_5]
  by_cases hc : t.val < 2
  · iintro ⟨HΦ, Ho, ⟨%d0, H0⟩, ⟨%d1, H1⟩, ⟨%d2, H2⟩, ⟨%d3, H3⟩, ⟨%d4, H4⟩, ⟨%d5, H5⟩, ⟨%d6, H6⟩⟩
    iapply (body_A c (grid0.coords t) ((cond_iff t).mpr hc) _ _ _ _ _ _ _ _ _ _ _ _ _ _ (iblk m c 0 t) (iblk m c 1 t) (iblk m c 2 t) (iblk m c 3 t) (iblk m c 4 t) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iapply (leaves_live m c t hc)
    iexact H6
  · have h4 : 2 ≤ t.val := by omega
    have hb := fun d => before_6 m c d (t.val - 2) t (by omega)
    simp only [hb]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (body_B c (grid0.coords t) (fun h => hc ((cond_iff t).mp h)) _ _ _ _ _ _ _ _ _ _ _ _ _ _ (iblk m c 0 t) (iblk m c 1 t) (iblk m c 2 t) (iblk m c 3 t) (iblk m c 4 t) (sideAt m c (sp t)) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iapply (leaves_idle m c t h4)
    iexact H6

/-- The body table's row at a point. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dat (F := F) m c) (defs₀ (F := F)) Variants.none () Set.univ := fun t => by
  rw [bigSep_W0, bigSep_W0, defs₀_row]
  exact triple_restated (sound_body m c t) rfl .rfl fun _ => .rfl

/-! ## The run -/

/-- The proof data of the program's one call. -/
def dats (p : Fin 1) (c : Dev nD) : Dat τ (Elt F) Unit ℕ (UR sig nD τ) ℕ (cfgs p) c := dat m c

/-- Every run ends with each result at the contents the write-backs leave, the arguments unchanged and every counter at zero. -/
theorem run : θ_run defs (onTc (τ := τ) (main (F := F))) ⟨m, fun _ => 0, ρ⟩ (fun r => (∀ c : Dev nD,
      r.2.mem ((c.tc : Thread nD τ).loc main_v2_0) = (dat m c).arrAt 5 cfg0.N
      ∧ r.2.mem ((c.tc : Thread nD τ).loc main_v2_1) = (dat m c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)
    (hQ' := fun r h => ⟨fun c => ⟨(h.1 c).1 5, (h.1 c).1 6,
      ((h.1 c).1 0).trans (((dat m c).arrAt_in 0 rfl _).trans ((A_eq m c 0).trans (V_main_arg0 m c))),
      ((h.1 c).1 1).trans (((dat m c).arrAt_in 1 rfl _).trans ((A_eq m c 1).trans (V_main_arg1 m c))),
      ((h.1 c).1 3).trans (((dat m c).arrAt_in 3 rfl _).trans ((A_eq m c 3).trans (V_main_arg2 m c))),
      ((h.1 c).1 4).trans (((dat m c).arrAt_in 4 rfl _).trans ((A_eq m c 4).trans (V_main_arg3 m c))),
      ((h.1 c).2 main_arg4 (Pipeline.mem_restRefs_of main_arg4 (by decide) (by decide))).trans (V_main_arg4 m c)⟩, h.2⟩)

end Cert.Kernel6Ideal.KV

end
-- ==== Proof.K6Value.lean ====
/- The output projection's results, element by element: the residual plus the row's product with the weights. -/
module

public import proofs.«01_k».proof.Proof.K6Run
public import proofs.«01_k».proof.Proof.KHelp
public import proofs.«01_k».proof.Proof.Gen.Reference6Ideal.Read
public import Idealize.ShloMosaic.Lib.Pipeline.ValueKit

@[expose] public section

set_option maxRecDepth 16384
set_option backward.isDefEq.respectTransparency false

noncomputable section

namespace Cert.Kernel6Ideal.KV

open Idealize.ShloMosaic Idealize.ShloMosaic.TcCoe Idealize.ShloMosaic.ValueIdx
open Cert.Kernel6Ideal.Gen Cert.KHelp
open Idealize.ShloMosaic.Pipeline (Dat Cfg Window BodyObligation cellOf)

/-- A residual plus rows times weights. -/
def proj {R : ℕ} (a : (Sh R 2048).Idx → EReal) (x : (Sh R 2048).Idx → EReal) (w : (Sh 2048 2048).Idx → EReal) : (Sh R 2048).Idx → EReal :=
  fun y => x y + ∑ k : Fin 2048, a (ValueIdx.ix2 (y 0) k) * w (ValueIdx.ix2 k (y 1))

theorem sq (x : (⟨3, ![1, 2048, 1024]⟩ : Shape).Idx → EReal) (k : Fin 2048) (q : Fin 1024) :
    shapeCast (Sh 2048 1024) x (by decide) (ValueIdx.ix2 k q) = x (ValueIdx.ix3 0 k q) := by
  refine shapeCast_apply _ _ _ (ValueIdx.ix3 0 k q) ?_
  rw [Shape.rowMajor_val_three, Shape.rowMajor_val_two]
  show (0 * 2048 + k.val) * 1024 + q.val = k.val * 1024 + q.val
  omega

theorem pay1_apply (x0 : Vec Ideal S1024x2048 .bf16) (x2 : Vec Ideal S1x2048x1024 .bf16) (x3 : Vec Ideal S1024x1024 .f32) (r : Fin 1024) (q : Fin 1024) :
    (k0_pay1 x0 x2 x3 (ValueIdx.ix2 r q) : EReal) = (x3 (ValueIdx.ix2 r q) : EReal) + ∑ k : Fin 2048, (x0 (ValueIdx.ix2 r k) : EReal) * (x2 (ValueIdx.ix3 0 k q) : EReal) := by
  unfold k0_pay1
  refine congrArg (fun z : EReal => (x3 (ValueIdx.ix2 r q) : EReal) + z) ?_
  refine (nn_apply (φ₁ := .bf16) (φ₂ := .bf16) _ _ _ _).trans ?_
  exact Finset.sum_congr rfl fun k _ => congrArg (fun z : EReal => (x0 (ValueIdx.ix2 r k) : EReal) * z) (sq _ k q)

theorem pay2_apply (x0 : Vec Ideal S16x2048 .bf16) (x2 : Vec Ideal S1x2048x1024 .bf16) (x3 : Vec Ideal S16x1024 .f32) (r : Fin 16) (q : Fin 1024) :
    (k0_pay2 x0 x2 x3 (ValueIdx.ix2 r q) : EReal) = (x3 (ValueIdx.ix2 r q) : EReal) + ∑ k : Fin 2048, (x0 (ValueIdx.ix2 r k) : EReal) * (x2 (ValueIdx.ix3 0 k q) : EReal) := by
  unfold k0_pay2
  refine congrArg (fun z : EReal => (x3 (ValueIdx.ix2 r q) : EReal) + z) ?_
  refine (nn_apply (φ₁ := .bf16) (φ₂ := .bf16) _ _ _ _).trans ?_
  exact Finset.sum_congr rfl fun k _ => congrArg (fun z : EReal => (x0 (ValueIdx.ix2 r k) : EReal) * z) (sq _ k q)

variable (m : (ℓ : Loc nD τ sig) → Buf (Elt Ideal) ℓ) (c : Dev nD)

/-! ## The windows' blocks -/

theorem ix_0 : ∀ t : Fin cfg0.N, win0_0.index t = ![t.val / 2, 0] := by decide +kernel
theorem ix_1 : ∀ t : Fin cfg0.N, win0_1.index t = ![0, 0] := by decide +kernel
theorem ix_2 : ∀ t : Fin cfg0.N, win0_2.index t = ![0, 0, t.val % 2] := by decide +kernel
theorem ix_3 : ∀ t : Fin cfg0.N, win0_3.index t = ![t.val / 2, t.val % 2] := by decide +kernel
theorem ix_4 : ∀ t : Fin cfg0.N, t.val < 2 → win0_4.index t = ![0, t.val] := by decide +kernel
theorem ix_5 : ∀ t : Fin cfg0.N, win0_5.index t = ![t.val / 2, t.val % 2] := by decide +kernel
theorem ix_6 : ∀ t : Fin cfg0.N, win0_6.index t = ![0, min t.val 1] := by decide +kernel

/-- A row of a point's block. -/
def row (t : Fin cfg0.N) (r : Fin 1024) : Fin 8192 := ⟨1024 * (t.val / 2) + r.val, by have := n0 t; omega⟩
/-- A column of a point's block. -/
def col (t : Fin cfg0.N) (q : Fin 1024) : Fin 2048 := ⟨1024 * (t.val % 2) + q.val, by omega⟩

/-- The arguments. -/
abbrev a0 : (Sh 8192 2048).Idx → EReal := m ((c.tc : Thread nD τ).loc main_arg0)
abbrev a1 : (Sh 16 2048).Idx → EReal := m ((c.tc : Thread nD τ).loc main_arg1)
abbrev a2 : (Sh 8192 2048).Idx → EReal := m ((c.tc : Thread nD τ).loc main_arg2)
abbrev a3 : (Sh 16 2048).Idx → EReal := m ((c.tc : Thread nD τ).loc main_arg3)
abbrev a4 : (Sh 2048 2048).Idx → EReal := m ((c.tc : Thread nD τ).loc main_arg4)

theorem blk0 (t : Fin cfg0.N) (r : Fin 1024) (k : Fin 2048) :
    (iblk m c 0 t (ValueIdx.ix2 r k) : EReal) = a0 m c (ValueIdx.ix2 (row t r) k) := by
  unfold a0; rw [← V_main_arg0 m c]
  unfold iblk
  blk_simp
  refine congrArg (V m c main_arg0) ?_
  funext a; apply Fin.ext
  match a with
  | ⟨0, _⟩ => blk_simp [ix_0]; show _ = 1024 * (t.val / 2) + r.val; simp; omega
  | ⟨1, _⟩ => blk_simp [ix_0]

theorem blk1 (t : Fin cfg0.N) (r : Fin 16) (k : Fin 2048) :
    (iblk m c 1 t (ValueIdx.ix2 r k) : EReal) = a1 m c (ValueIdx.ix2 r k) := by
  unfold a1; rw [← V_main_arg1 m c]
  unfold iblk
  blk_simp
  refine congrArg (V m c main_arg1) ?_
  funext a; apply Fin.ext
  match a with
  | ⟨0, _⟩ => blk_simp [ix_1]
  | ⟨1, _⟩ => blk_simp [ix_1]

theorem weights (k : Fin 2048) (q : Fin 2048) :
    (V m c main_v1 : (⟨3, ![1, 2048, 2048]⟩ : Shape).Idx → EReal) (ValueIdx.ix3 0 k q) = a4 m c (ValueIdx.ix2 k q) := by
  show StableHlo.after hostOps0 (fun b => m (c, b)) (Proc.devRef .tc main_v1) _ = _
  after_results
  refine congrArg (m ((c.tc : Thread nD τ).loc main_arg4)) ?_
  funext a; apply Fin.ext
  match a with
  | ⟨0, _⟩ => rfl
  | ⟨1, _⟩ => rfl

theorem blk2 (t : Fin cfg0.N) (k : Fin 2048) (q : Fin 1024) :
    (iblk m c 2 t (ValueIdx.ix3 0 k q) : EReal) = a4 m c (ValueIdx.ix2 k (col t q)) := by
  rw [← weights]
  unfold iblk
  blk_simp
  refine congrArg (V m c main_v1) ?_
  funext a; apply Fin.ext
  match a with
  | ⟨0, _⟩ => blk_simp [ix_2]
  | ⟨1, _⟩ => blk_simp [ix_2]
  | ⟨2, _⟩ => blk_simp [ix_2]; show _ = 1024 * (t.val % 2) + q.val; simp; omega

theorem blk3 (t : Fin cfg0.N) (r : Fin 1024) (q : Fin 1024) :
    (iblk m c 3 t (ValueIdx.ix2 r q) : EReal) = a2 m c (ValueIdx.ix2 (row t r) (col t q)) := by
  unfold a2; rw [← V_main_arg2 m c]
  unfold iblk
  blk_simp
  refine congrArg (V m c main_arg2) ?_
  funext a; apply Fin.ext
  match a with
  | ⟨0, _⟩ => blk_simp [ix_3]; show _ = 1024 * (t.val / 2) + r.val; simp; omega
  | ⟨1, _⟩ => blk_simp [ix_3]; show _ = 1024 * (t.val % 2) + q.val; simp; omega

theorem blk4 (t : Fin cfg0.N) (ht : t.val < 2) (r : Fin 16) (q : Fin 1024) :
    (iblk m c 4 t (ValueIdx.ix2 r q) : EReal) = a3 m c (ValueIdx.ix2 r (col t q)) := by
  unfold a3; rw [← V_main_arg3 m c]
  unfold iblk
  blk_simp
  refine congrArg (V m c main_arg3) ?_
  funext a; apply Fin.ext
  match a with
  | ⟨0, _⟩ => blk_simp [ix_4 t ht]
  | ⟨1, _⟩ => blk_simp [ix_4 t ht]; show _ = 1024 * (t.val % 2) + q.val; simp; omega

/-! ## The results -/

theorem main_eq : (dat m c).arrAt 5 cfg0.N = proj (a0 m c) (a2 m c) (a4 m c) := by
  refine (dat m c).arrAt_eq_of_covers 5 _ (by decide +kernel) fun t hf y => ?_
  blk_simp
  rw [after_5]
  obtain ⟨r, q, rfl⟩ : ∃ (r : Fin 1024) (q : Fin 1024), y = ValueIdx.ix2 r q := ⟨y 0, y 1, by funext a; match a with | ⟨0, _⟩ => rfl | ⟨1, _⟩ => rfl⟩
  refine (pay1_apply _ _ _ r q).trans ?_
  have e : (win0_5.blk t).view.emb (ValueIdx.ix2 r q) = ValueIdx.ix2 (row t r) (col t q) := by
    funext a; apply Fin.ext
    match a with
    | ⟨0, _⟩ => blk_simp [ix_5]; show _ = 1024 * (t.val / 2) + r.val; simp; omega
    | ⟨1, _⟩ => blk_simp [ix_5]; show _ = 1024 * (t.val % 2) + q.val; simp; omega
  show _ = proj (a0 m c) (a2 m c) (a4 m c) ((win0_5.blk t).view.emb (ValueIdx.ix2 r q))
  rw [e, blk3]
  refine congrArg (fun z : EReal => a2 m c (ValueIdx.ix2 (row t r) (col t q)) + z) ?_
  refine Finset.sum_congr rfl fun k _ => ?_
  rw [blk0, blk2]

theorem side_eq : (dat m c).arrAt 6 cfg0.N = proj (a1 m c) (a3 m c) (a4 m c) := by
  refine (dat m c).arrAt_eq_of_covers 6 _ (by decide +kernel) fun t hf y => ?_
  blk_simp
  rw [after_6]
  obtain ⟨r, q, rfl⟩ : ∃ (r : Fin 16) (q : Fin 1024), y = ValueIdx.ix2 r q := ⟨y 0, y 1, by funext a; match a with | ⟨0, _⟩ => rfl | ⟨1, _⟩ => rfl⟩
  refine (pay2_apply _ _ _ r q).trans ?_
  have hs : (sp t).val = min t.val 1 := rfl
  have e : (win0_6.blk t).view.emb (ValueIdx.ix2 r q) = ValueIdx.ix2 r (col (sp t) q) := by
    funext a; apply Fin.ext
    match a with
    | ⟨0, _⟩ => blk_simp [ix_6]
    | ⟨1, _⟩ => blk_simp [ix_6]; show _ = 1024 * ((sp t).val % 2) + q.val; simp; omega
  show _ = proj (a1 m c) (a3 m c) (a4 m c) ((win0_6.blk t).view.emb (ValueIdx.ix2 r q))
  rw [e, blk4 m c _ (by omega)]
  refine congrArg (fun z : EReal => a3 m c (ValueIdx.ix2 r (col (sp t) q)) + z) ?_
  refine Finset.sum_congr rfl fun k _ => ?_
  rw [blk1, blk2]

/-! ## The reference -/

theorem ref_main (x0 : (⟨Cert.Reference6Ideal.S8192x2048, .bf16⟩ : BufTy).Contents (Elt Ideal)) (x2 : (⟨Cert.Reference6Ideal.S8192x2048, .f32⟩ : BufTy).Contents (Elt Ideal))
    (x4 : (⟨Cert.Reference6Ideal.S2048x2048, .f32⟩ : BufTy).Contents (Elt Ideal)) :
    Cert.Reference6Ideal.Read.val_main_v2 (F := Ideal) x0 x2 x4 = proj (R := 8192) x0 x2 x4 := by
  funext y
  rw [Cert.Reference6Ideal.Read.val_main_v2_apply, Cert.Reference6Ideal.Read.val_main_v1_apply]
  refine congrArg (fun z : EReal => (x2 y : EReal) + z) ?_
  refine Finset.sum_congr rfl fun k _ => ?_
  refine congrArg₂ (fun a b : EReal => a * b) (congrArg x0 ?_) (congrArg x4 ?_) <;>
    (funext a; match a with | ⟨0, _⟩ => rfl | ⟨1, _⟩ => rfl)

theorem ref_side (x1 : (⟨Cert.Reference6Ideal.S16x2048, .bf16⟩ : BufTy).Contents (Elt Ideal)) (x3 : (⟨Cert.Reference6Ideal.S16x2048, .f32⟩ : BufTy).Contents (Elt Ideal))
    (x4 : (⟨Cert.Reference6Ideal.S2048x2048, .f32⟩ : BufTy).Contents (Elt Ideal)) :
    Cert.Reference6Ideal.Read.val_main_v5 (F := Ideal) x1 x3 x4 = proj (R := 16) x1 x3 x4 := by
  funext y
  rw [Cert.Reference6Ideal.Read.val_main_v5_apply, Cert.Reference6Ideal.Read.val_main_v4_apply]
  refine congrArg (fun z : EReal => (x3 y : EReal) + z) ?_
  refine Finset.sum_congr rfl fun k _ => ?_
  refine congrArg₂ (fun a b : EReal => a * b) (congrArg x1 ?_) (congrArg x4 ?_) <;>
    (funext a; match a with | ⟨0, _⟩ => rfl | ⟨1, _⟩ => rfl)

end Cert.Kernel6Ideal.KV

end
-- ==== Proof.K7Run.lean ====
/- The convolution module's output projection's call: what its body leaves at each grid point, the side result's buffer carried over the points that do not
   touch it, and the run's contents at the end. -/
module

public import proofs.«01_k».proof.Proof.Gen.Kernel7Ideal.Frame
public import proofs.«01_k».proof.Proof.Gen.Kernel7Ideal.Skeleton
public import Idealize.ShloMosaic.Lib.Pipeline.ValueKit.Acc
public import proofs.«01_k».proof.Proof.KStore

@[expose] public section

set_option maxRecDepth 16384

noncomputable section

namespace Cert.Kernel7Ideal.KV

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel7Ideal.Gen
open Cert.KStore (off2 read_store)

variable {F : FTy → Type} [FloatOps F]

local notation "𝕄" => MT nD τ sig Unit (Elt F) ℕ (UR sig nD τ) ℕ

set_option maxHeartbeats 1000000 in
/-- The body where the condition holds. -/
theorem body_A (c : Dev nD) (i : grid0.Coords) (hc : k0_cond1 i = 1#1) (arg2 : Memref sig .tc .vmem S1024x2048 .bf16) (harg2 : arg2.IsWhole) (arg3 : Memref sig .tc .vmem S16x2048 .bf16) (harg3 : arg3.IsWhole) (arg4 : Memref sig .tc .vmem S1x2048x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S16x1024 .f32) (harg7 : arg7.IsWhole) (arg8 : Memref sig .tc .vmem S1024x1024 .f32) (harg8 : arg8.IsWhole) (arg9 : Memref sig .tc .vmem S16x1024 .f32) (harg9 : arg9.IsWhole)
    (x0 : Vec F S1024x2048 .bf16) (x1 : Vec F S16x2048 .bf16) (x2 : Vec F S1x2048x1024 .bf16) (x3 : Vec F S1x1024 .f32) (x4 : Vec F S1024x1024 .f32) (x5 : Vec F S16x1024 .f32) (E : Set ℕ) (K : PUnit → sProp 𝕄) :
    iprop(owns c arg2 fullShare x0 ∗ owns c arg3 fullShare x1 ∗ owns c arg4 fullShare x2 ∗ owns c arg5 fullShare x3 ∗ owns c arg6 fullShare x4 ∗ owns c arg7 fullShare x5 ∗ (∃ d, owns c arg8 fullShare d) ∗ (∃ d, owns c arg9 fullShare d)
        ∗ (iprop(owns c arg2 fullShare x0 ∗ owns c arg3 fullShare x1 ∗ owns c arg4 fullShare x2 ∗ owns c arg5 fullShare x3 ∗ owns c arg6 fullShare x4 ∗ owns c arg7 fullShare x5 ∗ owns c arg8 fullShare (k0_pay1 x0 x2 x3 x4) ∗ owns c arg9 fullShare (k0_pay2 x1 x2 x3 x5)) -∗ K ⟨⟩))
      ⊢ wp frame (wpE (defs₀ (F := F)) Variants.none c none) E (cc0_convout i arg2 harg2 arg3 harg3 arg4 harg4 arg5 harg5 arg6 harg6 arg7 harg7 arg8 harg8 arg9 harg9) K := by
  simp only [cc0_convout_eq_skeleton]; unfold cc0_convout_skel
  rw [dif_pos hc]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    rw [read_store _ off2]
    simp (disch := decide) only [View.readAt_eq_ld, harg2.read_unread, harg4.read_unread, harg5.read_unread, harg6.read_unread, View.ld_unit_lit']
  iexists _; isplitr
  swap; · iexact H7
  ipureintro
  rw [read_store _ off2]
  simp (disch := decide) only [View.readAt_eq_ld, harg3.read_unread, harg4.read_unread, harg5.read_unread, harg7.read_unread, View.ld_unit_lit']

set_option maxHeartbeats 1000000 in
/-- The body where the condition fails. -/
theorem body_B (c : Dev nD) (i : grid0.Coords) (hc : ¬ k0_cond1 i = 1#1) (arg2 : Memref sig .tc .vmem S1024x2048 .bf16) (harg2 : arg2.IsWhole) (arg3 : Memref sig .tc .vmem S16x2048 .bf16) (harg3 : arg3.IsWhole) (arg4 : Memref sig .tc .vmem S1x2048x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S16x1024 .f32) (harg7 : arg7.IsWhole) (arg8 : Memref sig .tc .vmem S1024x1024 .f32) (harg8 : arg8.IsWhole) (arg9 : Memref sig .tc .vmem S16x1024 .f32) (harg9 : arg9.IsWhole)
    (x0 : Vec F S1024x2048 .bf16) (x1 : Vec F S16x2048 .bf16) (x2 : Vec F S1x2048x1024 .bf16) (x3 : Vec F S1x1024 .f32) (x4 : Vec F S1024x1024 .f32) (x5 : Vec F S16x1024 .f32) (x7 : Vec F S16x1024 .f32) (E : Set ℕ) (K : PUnit → sProp 𝕄) :
    iprop(owns c arg2 fullShare x0 ∗ owns c arg3 fullShare x1 ∗ owns c arg4 fullShare x2 ∗ owns c arg5 fullShare x3 ∗ owns c arg6 fullShare x4 ∗ owns c arg7 fullShare x5 ∗ (∃ d, owns c arg8 fullShare d) ∗ owns c arg9 fullShare x7
        ∗ (iprop(owns c arg2 fullShare x0 ∗ owns c arg3 fullShare x1 ∗ owns c arg4 fullShare x2 ∗ owns c arg5 fullShare x3 ∗ owns c arg6 fullShare x4 ∗ owns c arg7 fullShare x5 ∗ owns c arg8 fullShare (k0_pay1 x0 x2 x3 x4) ∗ owns c arg9 fullShare x7) -∗ K ⟨⟩))
      ⊢ wp frame (wpE (defs₀ (F := F)) Variants.none c none) E (cc0_convout i arg2 harg2 arg3 harg3 arg4 harg4 arg5 harg5 arg6 harg6 arg7 harg7 arg8 harg8 arg9 harg9) K := by
  simp only [cc0_convout_eq_skeleton]; unfold cc0_convout_skel
  rw [dif_neg hc]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    rw [read_store _ off2]
    simp (disch := decide) only [View.readAt_eq_ld, harg2.read_unread, harg4.read_unread, harg5.read_unread, harg6.read_unread, View.ld_unit_lit']
  iexists _; isplitr; · ipureintro; exact harg9.read_unread _
  iexact H7

variable (m : (ℓ : Loc nD τ sig) → Buf (Elt F) ℓ) (ρ : Dev nD → PrngReg)

/-! ## The proof data -/

theorem n0 (t : Fin cfg0.N) : t.val < 16 := t.isLt
theorem cond_iff : ∀ t : Fin cfg0.N, k0_cond1 (grid0.coords t) = 1#1 ↔ t.val < 2 := by decide +kernel
theorem idle_eq : ∀ t : Fin cfg0.N, idle0 7 (grid0.coords t) = decide (2 ≤ t.val) := by decide +kernel
theorem flush7_eq : ∀ t : Fin cfg0.N, win0_7.flush t = decide (t.val < 1 ∨ t.val = 15) := by decide +kernel

/-- The point whose side block the buffer holds after point `t`: the point itself in the first row of the grid, that row's last one later. -/
def sp (t : Fin cfg0.N) : Fin cfg0.N := ⟨min t.val 1, Nat.lt_of_le_of_lt (Nat.min_le_left _ _) t.isLt⟩

/-- The main result's block at a point. -/
def mainAt (c : Dev nD) (t : Fin cfg0.N) : Vec F S1024x1024 .f32 := k0_pay1 (iblk m c 0 t) (iblk m c 2 t) (iblk m c 3 t) (iblk m c 4 t)
/-- The side result's block at a point. -/
def sideAt (c : Dev nD) (t : Fin cfg0.N) : Vec F S16x1024 .f32 := k0_pay2 (iblk m c 1 t) (iblk m c 2 t) (iblk m c 3 t) (iblk m c 5 t)

/-- The proof data: every input's buffer at its block, the main result's at the point's block, the side result's at the block last stored. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => mainAt m c t
    | ⟨7, _⟩ => sideAt m c (sp t)
  Φ _ := Pipeline.ΦA spec0 c
  q _ := fullShare
  owed _ := 0

theorem A_eq (c : Dev nD) (w : Fin cfg0.W) : (dat m c).A w = V m c (Pipeline.arrRef spec0 w) := by
  dsimp only [dat]
theorem after_0 (c : Dev nD) (t : Fin cfg0.N) : (dat m c).after 0 t = iblk m c 0 t := by dsimp only [dat]
theorem after_1 (c : Dev nD) (t : Fin cfg0.N) : (dat m c).after 1 t = iblk m c 1 t := by dsimp only [dat]
theorem after_2 (c : Dev nD) (t : Fin cfg0.N) : (dat m c).after 2 t = iblk m c 2 t := by dsimp only [dat]
theorem after_3 (c : Dev nD) (t : Fin cfg0.N) : (dat m c).after 3 t = iblk m c 3 t := by dsimp only [dat]
theorem after_4 (c : Dev nD) (t : Fin cfg0.N) : (dat m c).after 4 t = iblk m c 4 t := by dsimp only [dat]
theorem after_5 (c : Dev nD) (t : Fin cfg0.N) : (dat m c).after 5 t = iblk m c 5 t := by dsimp only [dat]
theorem after_6 (c : Dev nD) (t : Fin cfg0.N) : (dat m c).after 6 t = mainAt m c t := by dsimp only [dat]
theorem after_7 (c : Dev nD) (t : Fin cfg0.N) : (dat m c).after 7 t = sideAt m c (sp t) := by dsimp only [dat]
theorem before_0 (c : Dev nD) (t : Fin cfg0.N) (d) : (dat m c).before 0 t d = iblk m c 0 t :=
  before0_0_of m (dat m c) (A_eq m c 0) (after_0 m c) t d
theorem before_1 (c : Dev nD) (t : Fin cfg0.N) (d) : (dat m c).before 1 t d = iblk m c 1 t :=
  before0_1_of m (dat m c) (A_eq m c 1) (after_1 m c) t d
theorem before_2 (c : Dev nD) (t : Fin cfg0.N) (d) : (dat m c).before 2 t d = iblk m c 2 t :=
  before0_2_of m (dat m c) (A_eq m c 2) (after_2 m c) t d
theorem before_3 (c : Dev nD) (t : Fin cfg0.N) (d) : (dat m c).before 3 t d = iblk m c 3 t :=
  before0_3_of m (dat m c) (A_eq m c 3) (after_3 m c) t d
theorem before_4 (c : Dev nD) (t : Fin cfg0.N) (d) : (dat m c).before 4 t d = iblk m c 4 t :=
  before0_4_of m (dat m c) (A_eq m c 4) (after_4 m c) t d
theorem before_5 (c : Dev nD) (t : Fin cfg0.N) (d) : (dat m c).before 5 t d = iblk m c 5 t :=
  before0_5_of m (dat m c) (A_eq m c 5) (after_5 m c) t d

/-- Past the grid's first row the side result's buffer holds that row's last block. -/
theorem before_7 (c : Dev nD) (d) : ∀ (n : ℕ) (t : Fin cfg0.N), t.val = 2 + n → (dat m c).before 7 t d = sideAt m c (sp t) := by
  intro n
  induction n with
  | zero =>
    intro t ht
    have h0 : t.val ≠ 0 := by omega
    rw [(dat m c).before_of_pos 7 t h0 ((cfg0.win 7).fetch_out rfl t)]
    rw [show (cfg0.win 7).flush ⟨t.val - 1, Nat.lt_of_le_of_lt (Nat.sub_le _ _) t.isLt⟩ = false from
      (flush7_eq _).trans (decide_eq_false (by show ¬ (t.val - 1 < 1 ∨ t.val - 1 = 15); omega))]
    rw [if_neg Bool.false_ne_true]
    unfold Dat.left
    rw [show cfg0.idle 7 (cfg0.grid.coords ⟨t.val - 1, Nat.lt_of_le_of_lt (Nat.sub_le _ _) t.isLt⟩) = false from
      (idle_eq _).trans (decide_eq_false (by show ¬ (2 ≤ t.val - 1); omega))]
    dsimp only
    unfold Dat.kept
    rw [Pipeline.fill_of_clip_none 7 _ (fun _ => rfl) d ((dat m c).after 7 _), Window.fill_cut, after_7]
    congr 1
    refine Fin.ext ?_
    show min (t.val - 1) 1 = min t.val 1
    omega
  | succ n ih =>
    intro t ht
    have h0 : t.val ≠ 0 := by omega
    rw [(dat m c).before_of_pos 7 t h0 ((cfg0.win 7).fetch_out rfl t)]
    rw [show (cfg0.win 7).flush ⟨t.val - 1, Nat.lt_of_le_of_lt (Nat.sub_le _ _) t.isLt⟩ = false from
      (flush7_eq _).trans (decide_eq_false (by show ¬ (t.val - 1 < 1 ∨ t.val - 1 = 15); have := n0 t; omega))]
    rw [if_neg Bool.false_ne_true]
    unfold Dat.left
    rw [show cfg0.idle 7 (cfg0.grid.coords ⟨t.val - 1, Nat.lt_of_le_of_lt (Nat.sub_le _ _) t.isLt⟩) = true from
      (idle_eq _).trans (decide_eq_true (by show 2 ≤ t.val - 1; omega))]
    dsimp only
    rw [ih ⟨t.val - 1, Nat.lt_of_le_of_lt (Nat.sub_le _ _) t.isLt⟩ (by show t.val - 1 = 2 + n; omega)]
    congr 1
    refine Fin.ext ?_
    show min (t.val - 1) 1 = min t.val 1
    omega

/-! ## The body obligation -/

/-- What the body is called with at a point, -/
def bodyPre (c : Dev nD) (t : Fin cfg0.N) : sProp 𝕄 :=
  iprop((dat m c).Φ t.castSucc ∗ (dat m c).owesAt () t.castSucc
    ∗ (∃ d, owns c (st0_0 t) fullShare ((dat m c).before 0 t d))
    ∗ (∃ d, owns c (st0_1 t) fullShare ((dat m c).before 1 t d))
    ∗ (∃ d, owns c (st0_2 t) fullShare ((dat m c).before 2 t d))
    ∗ (∃ d, owns c (st0_3 t) fullShare ((dat m c).before 3 t d))
    ∗ (∃ d, owns c (st0_4 t) fullShare ((dat m c).before 4 t d))
    ∗ (∃ d, owns c (st0_5 t) fullShare ((dat m c).before 5 t d))
    ∗ (∃ d, owns c (st0_6 t) fullShare ((dat m c).before 6 t d))
    ∗ (∃ d, owns c (st0_7 t) fullShare ((dat m c).before 7 t d)))

/-- and what it returns. -/
def bodyPost (c : Dev nD) (t : Fin cfg0.N) : sProp 𝕄 :=
  iprop((dat m c).Φ t.succ ∗ (dat m c).owesAt () t.succ
    ∗ owns c (st0_0 t) fullShare ((dat m c).after 0 t)
    ∗ owns c (st0_1 t) fullShare ((dat m c).after 1 t)
    ∗ owns c (st0_2 t) fullShare ((dat m c).after 2 t)
    ∗ owns c (st0_3 t) fullShare ((dat m c).after 3 t)
    ∗ owns c (st0_4 t) fullShare ((dat m c).after 4 t)
    ∗ owns c (st0_5 t) fullShare ((dat m c).after 5 t)
    ∗ owns c (st0_6 t) fullShare ((dat m c).after 6 t)
    ∗ (dat m c).leavesExact 7 t)

/-- The side result's buffer after the body, past the grid's first row. -/
theorem leaves_idle (c : Dev nD) (t : Fin cfg0.N) (h : 2 ≤ t.val) :
    owns c (st0_7 t) fullShare (sideAt m c (sp t)) ⊢ ((dat m c).leavesExact 7 t : sProp 𝕄) := by
  unfold Dat.leavesExact
  rw [show cfg0.idle 7 (cfg0.grid.coords t) = true from (idle_eq t).trans (decide_eq_true h)]
  dsimp only
  cases (cfg0.win 7).flush t
  · dsimp only
    iintro H
    iexists (sideAt m c (sp t))
    rw [before_7 m c _ (t.val - 2) t (by omega)]
    iexact H
  · dsimp only
    rw [after_7]

/-- The side result's buffer after the body, in the grid's first row. -/
theorem leaves_live (c : Dev nD) (t : Fin cfg0.N) (h : t.val < 2) :
    owns c (st0_7 t) fullShare (sideAt m c t) ⊢ ((dat m c).leavesExact 7 t : sProp 𝕄) := by
  unfold Dat.leavesExact
  rw [show cfg0.idle 7 (cfg0.grid.coords t) = false from (idle_eq t).trans (decide_eq_false (by omega))]
  dsimp only
  rw [after_7, show sp t = t from Fin.ext (by show min t.val 1 = t.val; omega)]

set_option maxHeartbeats 1000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dat m c).Φ t.succ = (dat m c).Φ t.castSucc from rfl,
    show (dat m c).owesAt () t.succ = (dat m c).owesAt () t.castSucc from rfl,
    after_0, after_1, after_2, after_3, after_4, after_5, after_6]
  by_cases hc : t.val < 2
  · iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_A c (grid0.coords t) ((cond_iff t).mpr hc) _ _ _ _ _ _ _ _ _ _ _ _ _ _ _ _ (iblk m c 0 t) (iblk m c 1 t) (iblk m c 2 t) (iblk m c 3 t) (iblk m c 4 t) (iblk m c 5 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iapply (leaves_live m c t hc)
    iexact H7
  · have h4 : 2 ≤ t.val := by omega
    have hb := fun d => before_7 m c d (t.val - 2) t (by omega)
    simp only [hb]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_B c (grid0.coords t) (fun h => hc ((cond_iff t).mp h)) _ _ _ _ _ _ _ _ _ _ _ _ _ _ _ _ (iblk m c 0 t) (iblk m c 1 t) (iblk m c 2 t) (iblk m c 3 t) (iblk m c 4 t) (iblk m c 5 t) (sideAt m c (sp t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iapply (leaves_idle m c t h4)
    iexact H7

/-- The body table's row at a point. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dat (F := F) m c) (defs₀ (F := F)) Variants.none () Set.univ := fun t => by
  rw [bigSep_W0, bigSep_W0, defs₀_row]
  exact triple_restated (sound_body m c t) rfl .rfl fun _ => .rfl

/-! ## The run -/

/-- The proof data of the program's one call. -/
def dats (p : Fin 1) (c : Dev nD) : Dat τ (Elt F) Unit ℕ (UR sig nD τ) ℕ (cfgs p) c := dat m c

/-- Every run ends with each result at the contents the write-backs leave, the arguments unchanged and every counter at zero. -/
theorem run : θ_run defs (onTc (τ := τ) (main (F := F))) ⟨m, fun _ => 0, ρ⟩ (fun r => (∀ c : Dev nD,
      r.2.mem ((c.tc : Thread nD τ).loc main_v3_0) = (dat m c).arrAt 6 cfg0.N
      ∧ r.2.mem ((c.tc : Thread nD τ).loc main_v3_1) = (dat m c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)
    (hQ' := fun r h => ⟨fun c => ⟨(h.1 c).1 6, (h.1 c).1 7,
      ((h.1 c).1 0).trans (((dat m c).arrAt_in 0 rfl _).trans ((A_eq m c 0).trans (V_main_arg0 m c))),
      ((h.1 c).1 1).trans (((dat m c).arrAt_in 1 rfl _).trans ((A_eq m c 1).trans (V_main_arg1 m c))),
      ((h.1 c).1 4).trans (((dat m c).arrAt_in 4 rfl _).trans ((A_eq m c 4).trans (V_main_arg2 m c))),
      ((h.1 c).1 5).trans (((dat m c).arrAt_in 5 rfl _).trans ((A_eq m c 5).trans (V_main_arg3 m c))),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩, h.2⟩)

end Cert.Kernel7Ideal.KV

end
-- ==== Proof.K7Value.lean ====
/- The convolution module's output projection, element by element: the residual plus the row's product with the weights and the bias. -/
module

public import proofs.«01_k».proof.Proof.K7Run
public import proofs.«01_k».proof.Proof.KHelp
public import proofs.«01_k».proof.Proof.Gen.Reference7Ideal.Read
public import Idealize.ShloMosaic.Lib.Pipeline.ValueKit

@[expose] public section

set_option maxRecDepth 16384
set_option backward.isDefEq.respectTransparency false

noncomputable section

namespace Cert.Kernel7Ideal.KV

open Idealize.ShloMosaic Idealize.ShloMosaic.TcCoe Idealize.ShloMosaic.ValueIdx
open Cert.Kernel7Ideal.Gen Cert.KHelp
open Idealize.ShloMosaic.Pipeline (Dat Cfg Window BodyObligation cellOf)

/-- A residual plus rows times weights with a bias. -/
def proj {R : ℕ} (a : (Sh R 2048).Idx → EReal) (x : (Sh R 2048).Idx → EReal) (w : (Sh 2048 2048).Idx → EReal) (b : Fin 2048 → EReal) : (Sh R 2048).Idx → EReal :=
  fun y => x y + ((∑ k : Fin 2048, a (ValueIdx.ix2 (y 0) k) * w (ValueIdx.ix2 k (y 1))) + b (y 1))

theorem sq (x : (⟨3, ![1, 2048, 1024]⟩ : Shape).Idx → EReal) (k : Fin 2048) (q : Fin 1024) :
    shapeCast (Sh 2048 1024) x (by decide) (ValueIdx.ix2 k q) = x (ValueIdx.ix3 0 k q) := by
  refine shapeCast_apply _ _ _ (ValueIdx.ix3 0 k q) ?_
  rw [Shape.rowMajor_val_three, Shape.rowMajor_val_two]
  show (0 * 2048 + k.val) * 1024 + q.val = k.val * 1024 + q.val
  omega

/-- A bias added to every row, as the body broadcasts it. -/
theorem bias_apply {R : ℕ} (b : FVec Ideal (Sh 1 1024) .f32) (hs : (Sh 1 1024).ShapeCasts (Sh 1 1024)) (hb : (Sh 1 1024).Broadcasts (Sh R 1024)) (r : Fin R) (q : Fin 1024) :
    (broadcastTo (Sh R 1024) (shapeCast (Sh 1 1024) b hs) hb (ValueIdx.ix2 r q) : EReal) = b (ValueIdx.ix2 0 q) := by
  rw [broadcastTo_apply _ hb (ValueIdx.ix2 r q) (ValueIdx.ix2 (0 : Fin 1) q) (fun a => by
    match a with
    | ⟨0, _⟩ => rfl
    | ⟨1, _⟩ => rfl)]
  exact shapeCast_apply _ hs _ (ValueIdx.ix2 (0 : Fin 1) q) rfl

theorem pay1_apply (x0 : Vec Ideal S1024x2048 .bf16) (x2 : Vec Ideal S1x2048x1024 .bf16) (b : Vec Ideal S1x1024 .f32) (x3 : Vec Ideal S1024x1024 .f32) (r : Fin 1024) (q : Fin 1024) :
    (k0_pay1 x0 x2 b x3 (ValueIdx.ix2 r q) : EReal) = (x3 (ValueIdx.ix2 r q) : EReal)
      + ((∑ k : Fin 2048, (x0 (ValueIdx.ix2 r k) : EReal) * (x2 (ValueIdx.ix3 0 k q) : EReal)) + b (ValueIdx.ix2 0 q)) := by
  unfold k0_pay1
  refine congrArg (fun z : EReal => (x3 (ValueIdx.ix2 r q) : EReal) + z) ?_
  refine congrArg₂ (fun a b : EReal => a + b) ?_ (bias_apply (R := 1024) b _ _ r q)
  refine (nn_apply (φ₁ := .bf16) (φ₂ := .bf16) _ _ _ _).trans ?_
  exact Finset.sum_congr rfl fun k _ => congrArg (fun z : EReal => (x0 (ValueIdx.ix2 r k) : EReal) * z) (sq _ k q)

theorem pay2_apply (x0 : Vec Ideal S16x2048 .bf16) (x2 : Vec Ideal S1x2048x1024 .bf16) (b : Vec Ideal S1x1024 .f32) (x3 : Vec Ideal S16x1024 .f32) (r : Fin 16) (q : Fin 1024) :
    (k0_pay2 x0 x2 b x3 (ValueIdx.ix2 r q) : EReal) = (x3 (ValueIdx.ix2 r q) : EReal)
      + ((∑ k : Fin 2048, (x0 (ValueIdx.ix2 r k) : EReal) * (x2 (ValueIdx.ix3 0 k q) : EReal)) + b (ValueIdx.ix2 0 q)) := by
  unfold k0_pay2
  refine congrArg (fun z : EReal => (x3 (ValueIdx.ix2 r q) : EReal) + z) ?_
  refine congrArg₂ (fun a b : EReal => a + b) ?_ (bias_apply (R := 16) b _ _ r q)
  refine (nn_apply (φ₁ := .bf16) (φ₂ := .bf16) _ _ _ _).trans ?_
  exact Finset.sum_congr rfl fun k _ => congrArg (fun z : EReal => (x0 (ValueIdx.ix2 r k) : EReal) * z) (sq _ k q)

variable (m : (ℓ : Loc nD τ sig) → Buf (Elt Ideal) ℓ) (c : Dev nD)

/-! ## The windows' blocks -/

theorem ix_0 : ∀ t : Fin cfg0.N, win0_0.index t = ![t.val / 2, 0] := by decide +kernel
theorem ix_1 : ∀ t : Fin cfg0.N, win0_1.index t = ![0, 0] := by decide +kernel
theorem ix_2 : ∀ t : Fin cfg0.N, win0_2.index t = ![0, 0, t.val % 2] := by decide +kernel
theorem ix_3 : ∀ t : Fin cfg0.N, win0_3.index t = ![0, t.val % 2] := by decide +kernel
theorem ix_4 : ∀ t : Fin cfg0.N, win0_4.index t = ![t.val / 2, t.val % 2] := by decide +kernel
theorem ix_5 : ∀ t : Fin cfg0.N, t.val < 2 → win0_5.index t = ![0, t.val] := by decide +kernel
theorem ix_6 : ∀ t : Fin cfg0.N, win0_6.index t = ![t.val / 2, t.val % 2] := by decide +kernel
theorem ix_7 : ∀ t : Fin cfg0.N, win0_7.index t = ![0, min t.val 1] := by decide +kernel

/-- A row of a point's block. -/
def row (t : Fin cfg0.N) (r : Fin 1024) : Fin 8192 := ⟨1024 * (t.val / 2) + r.val, by have := n0 t; omega⟩
/-- A column of a point's block. -/
def col (t : Fin cfg0.N) (q : Fin 1024) : Fin 2048 := ⟨1024 * (t.val % 2) + q.val, by omega⟩

/-- The arguments. -/
abbrev a0 : (Sh 8192 2048).Idx → EReal := m ((c.tc : Thread nD τ).loc main_arg0)
abbrev a1 : (Sh 16 2048).Idx → EReal := m ((c.tc : Thread nD τ).loc main_arg1)
abbrev a2 : (Sh 8192 2048).Idx → EReal := m ((c.tc : Thread nD τ).loc main_arg2)
abbrev a3 : (Sh 16 2048).Idx → EReal := m ((c.tc : Thread nD τ).loc main_arg3)
abbrev a4 : (Sh 2048 2048).Idx → EReal := m ((c.tc : Thread nD τ).loc main_arg4)
abbrev a5 (k : Fin 2048) : EReal := (m ((c.tc : Thread nD τ).loc main_arg5) : (⟨1, ![2048]⟩ : Shape).Idx → EReal) (ValueIdx.ix1 k)

theorem blk0 (t : Fin cfg0.N) (r : Fin 1024) (k : Fin 2048) :
    (iblk m c 0 t (ValueIdx.ix2 r k) : EReal) = a0 m c (ValueIdx.ix2 (row t r) k) := by
  unfold a0; rw [← V_main_arg0 m c]
  unfold iblk
  blk_simp
  refine congrArg (V m c main_arg0) ?_
  funext a; apply Fin.ext
  match a with
  | ⟨0, _⟩ => blk_simp [ix_0]; show _ = 1024 * (t.val / 2) + r.val; simp; omega
  | ⟨1, _⟩ => blk_simp [ix_0]

theorem blk1 (t : Fin cfg0.N) (r : Fin 16) (k : Fin 2048) :
    (iblk m c 1 t (ValueIdx.ix2 r k) : EReal) = a1 m c (ValueIdx.ix2 r k) := by
  unfold a1; rw [← V_main_arg1 m c]
  unfold iblk
  blk_simp
  refine congrArg (V m c main_arg1) ?_
  funext a; apply Fin.ext
  match a with
  | ⟨0, _⟩ => blk_simp [ix_1]
  | ⟨1, _⟩ => blk_simp [ix_1]

theorem weights (k : Fin 2048) (q : Fin 2048) :
    (V m c main_v1 : (⟨3, ![1, 2048, 2048]⟩ : Shape).Idx → EReal) (ValueIdx.ix3 0 k q) = a4 m c (ValueIdx.ix2 k q) := by
  show StableHlo.after hostOps0 (fun b => m (c, b)) (Proc.devRef .tc main_v1) _ = _
  after_results
  refine congrArg (m ((c.tc : Thread nD τ).loc main_arg4)) ?_
  funext a; apply Fin.ext
  match a with
  | ⟨0, _⟩ => rfl
  | ⟨1, _⟩ => rfl

theorem blk2 (t : Fin cfg0.N) (k : Fin 2048) (q : Fin 1024) :
    (iblk m c 2 t (ValueIdx.ix3 0 k q) : EReal) = a4 m c (ValueIdx.ix2 k (col t q)) := by
  rw [← weights]
  unfold iblk
  blk_simp
  refine congrArg (V m c main_v1) ?_
  funext a; apply Fin.ext
  match a with
  | ⟨0, _⟩ => blk_simp [ix_2]
  | ⟨1, _⟩ => blk_simp [ix_2]
  | ⟨2, _⟩ => blk_simp [ix_2]; show _ = 1024 * (t.val % 2) + q.val; simp; omega

theorem bias (k : Fin 2048) : (V m c main_v2 : (Sh 1 2048).Idx → EReal) (ValueIdx.ix2 0 k) = a5 m c k := by
  show StableHlo.after hostOps0 (fun b => m (c, b)) (Proc.devRef .tc main_v2) _ = _
  after_results
  refine shapeCast_apply _ _ _ (ValueIdx.ix1 k) ?_
  rw [Shape.rowMajor_val_one]
  refine Eq.trans ?_ (Shape.rowMajor_val_two (d := ![1, 2048]) (ValueIdx.ix2 0 k)).symm
  show k.val = 0 * 2048 + k.val
  omega

theorem blk3 (t : Fin cfg0.N) (q : Fin 1024) : (iblk m c 3 t (ValueIdx.ix2 0 q) : EReal) = a5 m c (col t q) := by
  rw [← bias]
  unfold iblk
  blk_simp
  refine congrArg (V m c main_v2) ?_
  funext a; apply Fin.ext
  match a with
  | ⟨0, _⟩ => blk_simp [ix_3]
  | ⟨1, _⟩ => blk_simp [ix_3]; show _ = 1024 * (t.val % 2) + q.val; simp; omega

theorem blk4 (t : Fin cfg0.N) (r : Fin 1024) (q : Fin 1024) :
    (iblk m c 4 t (ValueIdx.ix2 r q) : EReal) = a2 m c (ValueIdx.ix2 (row t r) (col t q)) := by
  unfold a2; rw [← V_main_arg2 m c]
  unfold iblk
  blk_simp
  refine congrArg (V m c main_arg2) ?_
  funext a; apply Fin.ext
  match a with
  | ⟨0, _⟩ => blk_simp [ix_4]; show _ = 1024 * (t.val / 2) + r.val; simp; omega
  | ⟨1, _⟩ => blk_simp [ix_4]; show _ = 1024 * (t.val % 2) + q.val; simp; omega

theorem blk5 (t : Fin cfg0.N) (ht : t.val < 2) (r : Fin 16) (q : Fin 1024) :
    (iblk m c 5 t (ValueIdx.ix2 r q) : EReal) = a3 m c (ValueIdx.ix2 r (col t q)) := by
  unfold a3; rw [← V_main_arg3 m c]
  unfold iblk
  blk_simp
  refine congrArg (V m c main_arg3) ?_
  funext a; apply Fin.ext
  match a with
  | ⟨0, _⟩ => blk_simp [ix_5 t ht]
  | ⟨1, _⟩ => blk_simp [ix_5 t ht]; show _ = 1024 * (t.val % 2) + q.val; simp; omega

/-! ## The results -/

theorem main_eq : (dat m c).arrAt 6 cfg0.N = proj (a0 m c) (a2 m c) (a4 m c) (a5 m c) := by
  refine (dat m c).arrAt_eq_of_covers 6 _ (by decide +kernel) fun t hf y => ?_
  blk_simp
  rw [after_6]
  obtain ⟨r, q, rfl⟩ : ∃ (r : Fin 1024) (q : Fin 1024), y = ValueIdx.ix2 r q := ⟨y 0, y 1, by funext a; match a with | ⟨0, _⟩ => rfl | ⟨1, _⟩ => rfl⟩
  refine (pay1_apply _ _ _ _ r q).trans ?_
  have e : (win0_6.blk t).view.emb (ValueIdx.ix2 r q) = ValueIdx.ix2 (row t r) (col t q) := by
    funext a; apply Fin.ext
    match a with
    | ⟨0, _⟩ => blk_simp [ix_6]; show _ = 1024 * (t.val / 2) + r.val; simp; omega
    | ⟨1, _⟩ => blk_simp [ix_6]; show _ = 1024 * (t.val % 2) + q.val; simp; omega
  show _ = proj (a0 m c) (a2 m c) (a4 m c) (a5 m c) ((win0_6.blk t).view.emb (ValueIdx.ix2 r q))
  rw [e, blk4]
  refine congrArg (fun z : EReal => a2 m c (ValueIdx.ix2 (row t r) (col t q)) + z) ?_
  refine congrArg₂ (fun a b : EReal => a + b) (Finset.sum_congr rfl fun k _ => ?_) (blk3 m c _ q)
  rw [blk0, blk2]

theorem side_eq : (dat m c).arrAt 7 cfg0.N = proj (a1 m c) (a3 m c) (a4 m c) (a5 m c) := by
  refine (dat m c).arrAt_eq_of_covers 7 _ (by decide +kernel) fun t hf y => ?_
  blk_simp
  rw [after_7]
  obtain ⟨r, q, rfl⟩ : ∃ (r : Fin 16) (q : Fin 1024), y = ValueIdx.ix2 r q := ⟨y 0, y 1, by funext a; match a with | ⟨0, _⟩ => rfl | ⟨1, _⟩ => rfl⟩
  refine (pay2_apply _ _ _ _ r q).trans ?_
  have hs : (sp t).val = min t.val 1 := rfl
  have e : (win0_7.blk t).view.emb (ValueIdx.ix2 r q) = ValueIdx.ix2 r (col (sp t) q) := by
    funext a; apply Fin.ext
    match a with
    | ⟨0, _⟩ => blk_simp [ix_7]
    | ⟨1, _⟩ => blk_simp [ix_7]; show _ = 1024 * ((sp t).val % 2) + q.val; simp; omega
  show _ = proj (a1 m c) (a3 m c) (a4 m c) (a5 m c) ((win0_7.blk t).view.emb (ValueIdx.ix2 r q))
  rw [e, blk5 m c _ (by omega)]
  refine congrArg (fun z : EReal => a3 m c (ValueIdx.ix2 r (col (sp t) q)) + z) ?_
  refine congrArg₂ (fun a b : EReal => a + b) (Finset.sum_congr rfl fun k _ => ?_) (blk3 m c _ q)
  rw [blk1, blk2]

/-! ## The reference -/

theorem ref_main (x0 : (⟨Cert.Reference7Ideal.S8192x2048, .bf16⟩ : BufTy).Contents (Elt Ideal)) (x2 : (⟨Cert.Reference7Ideal.S8192x2048, .f32⟩ : BufTy).Contents (Elt Ideal))
    (x4 : (⟨Cert.Reference7Ideal.S2048x2048, .f32⟩ : BufTy).Contents (Elt Ideal)) (x5 : (⟨Cert.Reference7Ideal.S2048, .f32⟩ : BufTy).Contents (Elt Ideal)) :
    Cert.Reference7Ideal.Read.val_main_v5 (F := Ideal) x0 x2 x4 x5 = proj (R := 8192) x0 x2 x4 (fun k => x5 (ValueIdx.ix1 k)) := by
  funext y
  rw [Cert.Reference7Ideal.Read.val_main_v5_apply, Cert.Reference7Ideal.Read.val_main_v4_apply, Cert.Reference7Ideal.Read.val_main_v1_apply, Cert.Reference7Ideal.Read.val_main_v3_apply, Cert.Reference7Ideal.Read.val_main_v2_apply]
  refine congrArg (fun z : EReal => (x2 y : EReal) + z) ?_
  refine congrArg₂ (fun a b : EReal => a + b) (Finset.sum_congr rfl fun k _ => ?_) (congrArg x5 ?_)
  · refine congrArg₂ (fun a b : EReal => a * b) (congrArg x0 ?_) (congrArg x4 ?_) <;>
      (funext a; match a with | ⟨0, _⟩ => rfl | ⟨1, _⟩ => rfl)
  · funext a; match a with | ⟨0, _⟩ => rfl

theorem ref_side (x1 : (⟨Cert.Reference7Ideal.S16x2048, .bf16⟩ : BufTy).Contents (Elt Ideal)) (x3 : (⟨Cert.Reference7Ideal.S16x2048, .f32⟩ : BufTy).Contents (Elt Ideal))
    (x4 : (⟨Cert.Reference7Ideal.S2048x2048, .f32⟩ : BufTy).Contents (Elt Ideal)) (x5 : (⟨Cert.Reference7Ideal.S2048, .f32⟩ : BufTy).Contents (Elt Ideal)) :
    Cert.Reference7Ideal.Read.val_main_v11 (F := Ideal) x1 x3 x4 x5 = proj (R := 16) x1 x3 x4 (fun k => x5 (ValueIdx.ix1 k)) := by
  funext y
  rw [Cert.Reference7Ideal.Read.val_main_v11_apply, Cert.Reference7Ideal.Read.val_main_v10_apply, Cert.Reference7Ideal.Read.val_main_v7_apply, Cert.Reference7Ideal.Read.val_main_v9_apply, Cert.Reference7Ideal.Read.val_main_v8_apply]
  refine congrArg (fun z : EReal => (x3 y : EReal) + z) ?_
  refine congrArg₂ (fun a b : EReal => a + b) (Finset.sum_congr rfl fun k _ => ?_) (congrArg x5 ?_)
  · refine congrArg₂ (fun a b : EReal => a * b) (congrArg x1 ?_) (congrArg x4 ?_) <;>
      (funext a; match a with | ⟨0, _⟩ => rfl | ⟨1, _⟩ => rfl)
  · funext a; match a with | ⟨0, _⟩ => rfl

end Cert.Kernel7Ideal.KV

end
-- ==== Proof.K9Value.lean ====
/- The last norm, element by element: a row divided by its root mean square. First the prompts' rows, then the sampled tokens'. -/
module

public import proofs.«01_k».proof.Proof.KHelp
public import proofs.«01_k».proof.Proof.K2Value
public import proofs.«01_k».proof.Proof.Gen.Kernel9Ideal.Frame
public import proofs.«01_k».proof.Proof.Gen.Kernel10Ideal.Frame
public import proofs.«01_k».proof.Proof.Gen.Reference9Ideal.Read
public import proofs.«01_k».proof.Proof.Gen.Reference10Ideal.Read
public import Idealize.ShloMosaic.Lib.Pipeline.ValueKit

@[expose] public section

set_option maxRecDepth 16384
set_option backward.isDefEq.respectTransparency false

noncomputable section

open Idealize.ShloMosaic Idealize.ShloMosaic.TcCoe Cert.KHelp
open Cert.Kernel2Ideal.KV (nrm nrm_apply)

namespace Cert.Kernel9Ideal.KV

open Cert.Kernel9Ideal.Gen

variable (m : (ℓ : Loc nD τ sig) → Buf (Elt Ideal) ℓ) (c : Dev nD)

theorem ix0 : ∀ t : Fin cfg0.N, win0_0.index t = ![t.val, 0] := by decide +kernel
theorem ix1 : ∀ t : Fin cfg0.N, win0_1.index t = ![0, 0] := by decide +kernel
theorem ix_2 : ∀ t : Fin cfg0.N, win0_2.index t = ![t.val, 0] := by decide +kernel

/-- A row of a point's block. -/
def row (t : Fin cfg0.N) (r : Fin 512) : Fin 8192 := ⟨512 * t.val + r.val, by have : t.val < 16 := t.isLt; omega⟩

/-- The arguments. -/
abbrev a0 : (Sh 8192 2048).Idx → EReal := m ((c.tc : Thread nD τ).loc main_arg0)
abbrev a1 (k : Fin 2048) : EReal := (m ((c.tc : Thread nD τ).loc main_arg1) : (⟨1, ![2048]⟩ : Shape).Idx → EReal) (ValueIdx.ix1 k)

theorem blk0 (t : Fin cfg0.N) (r : Fin 512) (k : Fin 2048) : (iblk m c 0 t (ValueIdx.ix2 r k) : EReal) = a0 m c (ValueIdx.ix2 (row t r) k) := by
  unfold a0; rw [← V_main_arg0 m c]
  unfold iblk
  blk_simp
  refine congrArg (V m c main_arg0) ?_
  funext a; apply Fin.ext
  match a with
  | ⟨0, _⟩ => blk_simp [ix0]; show _ = 512 * t.val + r.val; simp; omega
  | ⟨1, _⟩ => blk_simp [ix0]

theorem gain (k : Fin 2048) : (V m c main_v0 : (Sh 1 2048).Idx → EReal) (ValueIdx.ix2 0 k) = a1 m c k := by
  show StableHlo.after hostOps0 (fun b => m (c, b)) (Proc.devRef .tc main_v0) _ = _
  after_results
  refine shapeCast_apply _ _ _ (ValueIdx.ix1 k) ?_
  rw [Shape.rowMajor_val_one]
  refine Eq.trans ?_ (Shape.rowMajor_val_two (d := ![1, 2048]) (ValueIdx.ix2 0 k)).symm
  show k.val = 0 * 2048 + k.val
  omega

theorem blk1 (t : Fin cfg0.N) (k : Fin 2048) : (iblk m c 1 t (ValueIdx.ix2 0 k) : EReal) = a1 m c k := by
  rw [← gain]
  unfold iblk
  blk_simp
  refine congrArg (V m c main_v0) ?_
  funext a; apply Fin.ext
  match a with
  | ⟨0, _⟩ => blk_simp [ix1]
  | ⟨1, _⟩ => blk_simp [ix1]

theorem out_apply (x : Vec Ideal S512x2048 .f32) (g : Vec Ideal S1x2048 .f32) (r : Fin 512) (k : Fin 2048) :
    (out0_2 x g (ValueIdx.ix2 r k) : EReal) = nrm (R := 512) x (fun k => g (ValueIdx.ix2 0 k)) r k := by
  refine (congrFun (View.canon_cons_unit_lit (S := S512x2048) (inb_S512x2048_S512x2048_0_0) _ [] (by decide)) _).trans ?_
  rw [show View.ld x r0_0 = x from View.ld_unit_lit _ x (by decide), show View.ld g r0_1 = g from View.ld_unit_lit _ g (by decide)]
  unfold k0_pay1
  exact nrm_apply (R := 512) x g _ _ _ _ _ _ _ r k

theorem main_eq : (dats m 0 c).arrAt 2 cfg0.N = fun y => nrm (R := 8192) (a0 m c) (a1 m c) (y 0) (y 1) := by
  refine (dats m 0 c).arrAt_eq_of_covers 2 _ (by decide +kernel) fun t hf y => ?_
  blk_simp
  rw [after0_2]
  obtain ⟨r, q, rfl⟩ : ∃ (r : Fin 512) (q : Fin 2048), y = ValueIdx.ix2 r q := ⟨y 0, y 1, by funext a; match a with | ⟨0, _⟩ => rfl | ⟨1, _⟩ => rfl⟩
  refine (out_apply _ _ r q).trans ?_
  have e : (win0_2.blk t).view.emb (ValueIdx.ix2 r q) = ValueIdx.ix2 (row t r) q := by
    funext a; apply Fin.ext
    match a with
    | ⟨0, _⟩ => blk_simp [ix_2]; show _ = 512 * t.val + r.val; simp; omega
    | ⟨1, _⟩ => blk_simp [ix_2]
  show _ = (fun y : S8192x2048.Idx => nrm (R := 8192) (a0 m c) (a1 m c) (y 0) (y 1)) ((win0_2.blk t).view.emb (ValueIdx.ix2 r q))
  rw [e]
  show _ = nrm (a0 m c) (a1 m c) (row t r) q
  unfold nrm
  simp only [blk0, blk1]

theorem ref_main (x : (⟨Cert.Reference9Ideal.S8192x2048, .f32⟩ : BufTy).Contents (Elt Ideal)) (g : (⟨Cert.Reference9Ideal.S2048, .f32⟩ : BufTy).Contents (Elt Ideal)) :
    Cert.Reference9Ideal.Read.val_main_v12 (F := Ideal) x g = fun y => nrm (R := 8192) x (fun k => g (ValueIdx.ix1 k)) (y 0) (y 1) :=
  funext fun i => Cert.Kernel2Ideal.KV.ref_nrm_main x g i

end Cert.Kernel9Ideal.KV

namespace Cert.Kernel10Ideal.KV

open Cert.Kernel10Ideal.Gen

variable (m : (ℓ : Loc nD τ sig) → Buf (Elt Ideal) ℓ) (c : Dev nD)

theorem ix0 : ∀ t : Fin cfg0.N, win0_0.index t = ![t.val, 0] := by decide +kernel
theorem ix1 : ∀ t : Fin cfg0.N, win0_1.index t = ![0, 0] := by decide +kernel
theorem ix_2 : ∀ t : Fin cfg0.N, win0_2.index t = ![t.val, 0] := by decide +kernel

/-- A row of a point's block. -/
def row (t : Fin cfg0.N) (r : Fin 16) : Fin 16 := ⟨16 * t.val + r.val, by have : t.val < 1 := t.isLt; omega⟩

/-- The arguments. -/
abbrev a0 : (Sh 16 2048).Idx → EReal := m ((c.tc : Thread nD τ).loc main_arg0)
abbrev a1 (k : Fin 2048) : EReal := (m ((c.tc : Thread nD τ).loc main_arg1) : (⟨1, ![2048]⟩ : Shape).Idx → EReal) (ValueIdx.ix1 k)

theorem blk0 (t : Fin cfg0.N) (r : Fin 16) (k : Fin 2048) : (iblk m c 0 t (ValueIdx.ix2 r k) : EReal) = a0 m c (ValueIdx.ix2 (row t r) k) := by
  unfold a0; rw [← V_main_arg0 m c]
  unfold iblk
  blk_simp
  refine congrArg (V m c main_arg0) ?_
  funext a; apply Fin.ext
  match a with
  | ⟨0, _⟩ => blk_simp [ix0]; show r.val = 16 * t.val + r.val; have : t.val < 1 := t.isLt; omega
  | ⟨1, _⟩ => blk_simp [ix0]

theorem gain (k : Fin 2048) : (V m c main_v0 : (Sh 1 2048).Idx → EReal) (ValueIdx.ix2 0 k) = a1 m c k := by
  show StableHlo.after hostOps0 (fun b => m (c, b)) (Proc.devRef .tc main_v0) _ = _
  after_results
  refine shapeCast_apply _ _ _ (ValueIdx.ix1 k) ?_
  rw [Shape.rowMajor_val_one]
  refine Eq.trans ?_ (Shape.rowMajor_val_two (d := ![1, 2048]) (ValueIdx.ix2 0 k)).symm
  show k.val = 0 * 2048 + k.val
  omega

theorem blk1 (t : Fin cfg0.N) (k : Fin 2048) : (iblk m c 1 t (ValueIdx.ix2 0 k) : EReal) = a1 m c k := by
  rw [← gain]
  unfold iblk
  blk_simp
  refine congrArg (V m c main_v0) ?_
  funext a; apply Fin.ext
  match a with
  | ⟨0, _⟩ => blk_simp [ix1]
  | ⟨1, _⟩ => blk_simp [ix1]

theorem out_apply (x : Vec Ideal S16x2048 .f32) (g : Vec Ideal S1x2048 .f32) (r : Fin 16) (k : Fin 2048) :
    (out0_2 x g (ValueIdx.ix2 r k) : EReal) = nrm (R := 16) x (fun k => g (ValueIdx.ix2 0 k)) r k := by
  refine (congrFun (View.canon_cons_unit_lit (S := S16x2048) (inb_S16x2048_S16x2048_0_0) _ [] (by decide)) _).trans ?_
  rw [show View.ld x r0_0 = x from View.ld_unit_lit _ x (by decide), show View.ld g r0_1 = g from View.ld_unit_lit _ g (by decide)]
  unfold k0_pay1
  exact nrm_apply (R := 16) x g _ _ _ _ _ _ _ r k

theorem main_eq : (dats m 0 c).arrAt 2 cfg0.N = fun y => nrm (R := 16) (a0 m c) (a1 m c) (y 0) (y 1) := by
  refine (dats m 0 c).arrAt_eq_of_covers 2 _ (by decide +kernel) fun t hf y => ?_
  blk_simp
  rw [after0_2]
  obtain ⟨r, q, rfl⟩ : ∃ (r : Fin 16) (q : Fin 2048), y = ValueIdx.ix2 r q := ⟨y 0, y 1, by funext a; match a with | ⟨0, _⟩ => rfl | ⟨1, _⟩ => rfl⟩
  refine (out_apply _ _ r q).trans ?_
  have e : (win0_2.blk t).view.emb (ValueIdx.ix2 r q) = ValueIdx.ix2 (row t r) q := by
    funext a; apply Fin.ext
    match a with
    | ⟨0, _⟩ => blk_simp [ix_2]; show r.val = 16 * t.val + r.val; have : t.val < 1 := t.isLt; omega
    | ⟨1, _⟩ => blk_simp [ix_2]
  show _ = (fun y : S16x2048.Idx => nrm (R := 16) (a0 m c) (a1 m c) (y 0) (y 1)) ((win0_2.blk t).view.emb (ValueIdx.ix2 r q))
  rw [e]
  show _ = nrm (a0 m c) (a1 m c) (row t r) q
  unfold nrm
  simp only [blk0, blk1]

theorem ref_main (x : (⟨Cert.Reference10Ideal.S16x2048, .f32⟩ : BufTy).Contents (Elt Ideal)) (g : (⟨Cert.Reference10Ideal.S2048, .f32⟩ : BufTy).Contents (Elt Ideal)) :
    Cert.Reference10Ideal.Read.val_main_v12 (F := Ideal) x g = fun y => nrm (R := 16) x (fun k => g (ValueIdx.ix1 k)) (y 0) (y 1) :=
  funext fun i => Cert.Kernel2Ideal.KV.ref_nrm_side x g i

end Cert.Kernel10Ideal.KV

end
-- ==== Proof.K11Value.lean ====
/- The sampled tokens' depthwise convolution, element by element: the weighted sum over the time axis, the layer norm and the activation. -/
module

public import proofs.«01_k».proof.Proof.KHelp
public import proofs.«01_k».proof.Proof.K2Value
public import proofs.«01_k».proof.Proof.K4Value
public import proofs.«01_k».proof.Proof.Gen.Kernel11Ideal.Frame
public import proofs.«01_k».proof.Proof.Gen.Reference11Ideal.Read
public import Idealize.ShloMosaic.Lib.Pipeline.ValueKit

@[expose] public section

set_option maxRecDepth 16384
set_option backward.isDefEq.respectTransparency false

noncomputable section

namespace Cert.Kernel11Ideal.KV

open Idealize.ShloMosaic Idealize.ShloMosaic.TcCoe Cert.KHelp Cert.Kernel11Ideal.Gen
open Cert.Kernel2Ideal.KV (nrm nrm_apply)
open Cert.Kernel4Ideal.KV (gate gate_ref)

/-! ## The layer norm and the activation -/

/-- A row without its mean. -/
def cen {R : ℕ} (x : (Sh R 2048).Idx → EReal) : (Sh R 2048).Idx → EReal :=
  fun y => x y - Ideal.div (∑ j : Fin 2048, x (ValueIdx.ix2 (y 0) j)) (Ideal.ofBits .f32 0x45000000#32)

/-- The layer norm of a row, with its gain and bias. -/
def lnorm {R : ℕ} (x : (Sh R 2048).Idx → EReal) (g b : Fin 2048 → EReal) (r : Fin R) (k : Fin 2048) : EReal :=
  nrm (cen x) g r k + b k

theorem cen_eq {R : ℕ} (x : FVec Ideal (Sh R 2048) .f32) (hr : (Sh R 2048).Reduces [1] ⟨1, ![R]⟩) (hφ) (hacc)
    (hs : (⟨1, ![R]⟩ : Shape).ShapeCasts (Sh R 1)) (hb : (Sh R 1).Broadcasts (Sh R 2048)) :
    subf (F := Ideal) x (broadcastTo (Sh R 2048) (divf (shapeCast (Sh R 1)
      (multiReduction (F := Ideal) .add [1] ⟨1, ![R]⟩ x 0x00000000#32 hr hφ hacc) hs) (broadcast (Sh R 1) (Scalar.ofBits (F := Ideal) .f32 0x45000000#32))) hb)
      = cen (R := R) x := by
  funext y
  obtain ⟨r, k, rfl⟩ : ∃ (r : Fin R) (k : Fin 2048), y = ValueIdx.ix2 r k := ⟨y 0, y 1, by funext a; match a with | ⟨0, _⟩ => rfl | ⟨1, _⟩ => rfl⟩
  unfold cen
  refine congrArg (fun z : EReal => (x (ValueIdx.ix2 r k) : EReal) - z) ?_
  rw [broadcastTo_apply _ hb (ValueIdx.ix2 r k) (ValueIdx.ix2 r (0 : Fin 1)) (fun a => by
    match a with
    | ⟨0, _⟩ =>
      show r.val = if R = 1 then 0 else r.val
      have := r.isLt
      split_ifs <;> omega
    | ⟨1, _⟩ => rfl)]
  refine congrArg (fun z : EReal => Ideal.div z (Ideal.ofBits .f32 0x45000000#32)) ?_
  rw [shapeCast_apply _ hs (ValueIdx.ix2 r (0 : Fin 1)) (ValueIdx.ix1 r) (by
    rw [Shape.rowMajor_val_one, Shape.rowMajor_val_two]
    show r.val = r.val * 1 + 0
    omega)]
  rw [Ideal.multiReduction_add_single]
  refine Finset.sum_congr rfl fun j _ => congrArg x ?_
  funext a; apply Fin.ext
  match a with
  | ⟨0, _⟩ => rfl
  | ⟨1, _⟩ => rfl

theorem gains {R : ℕ} (g : FVec Ideal (Sh 1 2048) .f32) (hg : (Sh 1 2048).ShapeCasts (Sh 1 2048)) (hgb : (Sh 1 2048).Broadcasts (Sh R 2048)) (r : Fin R) (k : Fin 2048) :
    (broadcastTo (Sh R 2048) (shapeCast (Sh 1 2048) g hg) hgb (ValueIdx.ix2 r k) : EReal) = g (ValueIdx.ix2 0 k) := by
  rw [broadcastTo_apply _ hgb (ValueIdx.ix2 r k) (ValueIdx.ix2 (0 : Fin 1) k) (fun a => by
    match a with
    | ⟨0, _⟩ => rfl
    | ⟨1, _⟩ => rfl)]
  exact shapeCast_apply _ hg _ (ValueIdx.ix2 (0 : Fin 1) k) rfl

/-! ## The convolution -/

/-- The weighted sum over the state's thirty steps and the new one, with the bias. -/
def conv (st : (⟨3, ![8, 30, 2048]⟩ : Shape).Idx → EReal) (u : (Sh 8 2048).Idx → EReal) (w : (Sh 31 2048).Idx → EReal) (b : Fin 2048 → EReal) : (Sh 8 2048).Idx → EReal :=
  fun y => (∑ j : Fin 30, st (ValueIdx.ix3 (y 0) j (y 1)) * w (ValueIdx.ix2 j.castSucc (y 1))) + u y * w (ValueIdx.ix2 (Fin.last 30) (y 1)) + b (y 1)

/-- The result. -/
def out (st : (⟨3, ![8, 30, 2048]⟩ : Shape).Idx → EReal) (u : (Sh 8 2048).Idx → EReal) (w : (Sh 31 2048).Idx → EReal) (b g e : Fin 2048 → EReal) : (Sh 8 2048).Idx → EReal :=
  fun y => gate (lnorm (conv st u w b) g e (y 0) (y 1)) (lnorm (conv st u w b) g e (y 0) (y 1))

theorem ist (n : ℕ) (h : n + 1 ≤ 30) : ∀ a, (![0, n, 0] : Fin 3 → Nat) a + S8x1x2048.size a ≤ S8x30x2048.size a := fun a => by
  match a with
  | ⟨0, _⟩ => exact Nat.le_refl 8
  | ⟨1, _⟩ => exact h
  | ⟨2, _⟩ => exact Nat.le_refl 2048
theorem iw (n : ℕ) (h : n + 1 ≤ 31) : ∀ a, (![n, 0] : Fin 2 → Nat) a + S1x2048.size a ≤ S31x2048.size a := fun a => by
  match a with
  | ⟨0, _⟩ => exact h
  | ⟨1, _⟩ => exact Nat.le_refl 2048

/-- A row of the weights, on every row. -/
def wrow (w : Vec Ideal S31x2048 .f32) (n : ℕ) (h : n + 1 ≤ 31) : FVec Ideal S8x2048 .f32 :=
  broadcastTo S8x2048 (View.ld w (Rect.unit (s := S31x2048) ![n, 0] S1x2048.size (iw n h))) broadcasts_S1x2048_S8x2048

/-- The sum as the body takes it: the new step first, then the state's first steps. -/
def acc (st : Vec Ideal S8x30x2048 .f32) (u : Vec Ideal S8x2048 .f32) (w : Vec Ideal S31x2048 .f32) : (n : ℕ) → n ≤ 30 → FVec Ideal S8x2048 .f32
  | 0, _ => mulf u (wrow w 30 (by omega))
  | n + 1, h => addf (acc st u w n (Nat.le_of_succ_le h))
      (mulf (shapeCast S8x2048 (View.ld st (Rect.unit (s := S8x30x2048) ![0, n, 0] S8x1x2048.size (ist n h))) shapeCasts_S8x1x2048_S8x2048) (wrow w n (by omega)))

theorem wrow_apply (w : Vec Ideal S31x2048 .f32) (n : ℕ) (h : n + 1 ≤ 31) (r : Fin 8) (q : Fin 2048) :
    (wrow w n h (ValueIdx.ix2 r q) : EReal) = w (ValueIdx.ix2 ⟨n, h⟩ q) := by
  unfold wrow
  rw [broadcastTo_apply _ broadcasts_S1x2048_S8x2048 (ValueIdx.ix2 r q) (ValueIdx.ix2 (0 : Fin 1) q) (fun a => by
    match a with
    | ⟨0, _⟩ => rfl
    | ⟨1, _⟩ => rfl)]
  exact View.ld_unit_apply_of _ _ _ _ _ (ValueIdx.ix2 ⟨n, h⟩ q) fun a => by
    match a with
    | ⟨0, _⟩ => rfl
    | ⟨1, _⟩ => exact (Nat.zero_add _).symm

theorem acc_apply (st : Vec Ideal S8x30x2048 .f32) (u : Vec Ideal S8x2048 .f32) (w : Vec Ideal S31x2048 .f32) (r : Fin 8) (q : Fin 2048) : (n : ℕ) → (h : n ≤ 30) →
    (acc st u w n h (ValueIdx.ix2 r q) : EReal) = u (ValueIdx.ix2 r q) * w (ValueIdx.ix2 (Fin.last 30) q)
      + ∑ j : Fin n, st (ValueIdx.ix3 r ⟨j.val, by omega⟩ q) * w (ValueIdx.ix2 ⟨j.val, by omega⟩ q)
  | 0, _ => by
    rw [Finset.univ_eq_empty, Finset.sum_empty, add_zero]
    exact congrArg (fun z : EReal => (u (ValueIdx.ix2 r q) : EReal) * z) (wrow_apply w 30 _ r q)
  | n + 1, h => by
    rw [Fin.sum_univ_castSucc, ← add_assoc]
    refine congrArg₂ (fun a b : EReal => a + b) (acc_apply st u w r q n (Nat.le_of_succ_le h)) (congrArg₂ (fun a b : EReal => a * b) ?_ (wrow_apply w n _ r q))
    rw [shapeCast_apply _ shapeCasts_S8x1x2048_S8x2048 (ValueIdx.ix2 r q) (ValueIdx.ix3 r (0 : Fin 1) q) (by
      rw [Shape.rowMajor_val_three, Shape.rowMajor_val_two]
      show (r.val * 1 + 0) * 2048 + q.val = r.val * 2048 + q.val
      omega)]
    exact View.ld_unit_apply_of _ _ _ _ _ (ValueIdx.ix3 r ⟨n, h⟩ q) fun a => by
      match a with
      | ⟨0, _⟩ => exact (Nat.zero_add _).symm
      | ⟨1, _⟩ => rfl
      | ⟨2, _⟩ => exact (Nat.zero_add _).symm

/-- The sum with the bias. -/
def cv (st : Vec Ideal S8x30x2048 .f32) (u : Vec Ideal S8x2048 .f32) (w : Vec Ideal S31x2048 .f32) (b : Vec Ideal S1x2048 .f32) : FVec Ideal S8x2048 .f32 :=
  addf (acc st u w 30 (Nat.le_refl 30)) (broadcastTo S8x2048 (shapeCast S1x2048 b shapeCasts_S1x2048_S1x2048) broadcasts_S1x2048_S8x2048)

theorem cv_eq (st : Vec Ideal S8x30x2048 .f32) (u : Vec Ideal S8x2048 .f32) (w : Vec Ideal S31x2048 .f32) (b : Vec Ideal S1x2048 .f32) :
    cv st u w b = conv st u w (fun k => b (ValueIdx.ix2 0 k)) := by
  funext y
  obtain ⟨r, k, rfl⟩ : ∃ (r : Fin 8) (k : Fin 2048), y = ValueIdx.ix2 r k := ⟨y 0, y 1, by funext a; match a with | ⟨0, _⟩ => rfl | ⟨1, _⟩ => rfl⟩
  refine congrArg₂ (fun a b : EReal => a + b) ((acc_apply st u w r k 30 _).trans (add_comm _ _)) (gains (R := 8) b _ _ r k)

/-- The activated layer norm of the sum, as the body computes it. -/
def res (x : FVec Ideal S8x2048 .f32) (g e : Vec Ideal S1x2048 .f32) : FVec Ideal S8x2048 .bf16 :=
  k0_pay1 (k0_pay10 g) (k0_pay11 e) (subf x (broadcastTo S8x2048 (divf (shapeCast S8x1
    (multiReduction (F := Ideal) .add [1] S8 x 0x00000000#32 reduces_S8x2048_S8 (.inl rfl) rfl) shapeCasts_S8_S8x1) (broadcast S8x1 (Scalar.ofBits (F := Ideal) .f32 0x45000000#32))) broadcasts_S8x1_S8x2048))

theorem res_apply (x : FVec Ideal S8x2048 .f32) (g e : Vec Ideal S1x2048 .f32) (r : Fin 8) (k : Fin 2048) :
    (res x g e (ValueIdx.ix2 r k) : EReal) = gate (lnorm (R := 8) x (fun k => g (ValueIdx.ix2 0 k)) (fun k => e (ValueIdx.ix2 0 k)) r k)
      (lnorm (R := 8) x (fun k => g (ValueIdx.ix2 0 k)) (fun k => e (ValueIdx.ix2 0 k)) r k) := by
  unfold res
  rw [cen_eq (R := 8) x]
  unfold k0_pay1 k0_pay10 k0_pay11
  have h := congrArg₂ (fun a b : EReal => a + b) (nrm_apply (R := 8) (cen (R := 8) x) g reduces_S8x2048_S8 (.inl rfl) rfl shapeCasts_S8_S8x1 broadcasts_S8x1_S8x2048
    shapeCasts_S1x2048_S1x2048 broadcasts_S1x2048_S8x2048 r k) (gains (R := 8) e shapeCasts_S1x2048_S1x2048 broadcasts_S1x2048_S8x2048 r k)
  exact congrArg₂ gate h h

theorem out_eq (st : Vec Ideal S8x30x2048 .f32) (u : Vec Ideal S8x2048 .f32) (w : Vec Ideal S31x2048 .f32) (b g e : Vec Ideal S1x2048 .f32) :
    out0_6 st u w b g e = res (cv st u w b) g e := by
  refine (View.canon_cons_unit_lit (S := S8x2048) inb_S8x2048_S8x2048_0_0 _ [] (by decide)).trans ?_
  rw [show View.ld b r0_62 = b from View.ld_unit_lit _ b (by decide), show View.ld g r0_62 = g from View.ld_unit_lit _ g (by decide),
    show View.ld e r0_62 = e from View.ld_unit_lit _ e (by decide), show View.ld u r0_0 = u from View.ld_unit_lit _ u (by decide)]
  rfl

variable (m : (ℓ : Loc nD τ sig) → Buf (Elt Ideal) ℓ) (c : Dev nD)

/-- The arguments. -/
abbrev a0 : (⟨3, ![8, 30, 2048]⟩ : Shape).Idx → EReal := m ((c.tc : Thread nD τ).loc main_arg0)
abbrev a1 : (Sh 8 2048).Idx → EReal := m ((c.tc : Thread nD τ).loc main_arg1)
abbrev a2 : (Sh 31 2048).Idx → EReal := m ((c.tc : Thread nD τ).loc main_arg2)
abbrev a3 (k : Fin 2048) : EReal := (m ((c.tc : Thread nD τ).loc main_arg3) : (⟨1, ![2048]⟩ : Shape).Idx → EReal) (ValueIdx.ix1 k)
abbrev a4 (k : Fin 2048) : EReal := (m ((c.tc : Thread nD τ).loc main_arg4) : (⟨1, ![2048]⟩ : Shape).Idx → EReal) (ValueIdx.ix1 k)
abbrev a5 (k : Fin 2048) : EReal := (m ((c.tc : Thread nD τ).loc main_arg5) : (⟨1, ![2048]⟩ : Shape).Idx → EReal) (ValueIdx.ix1 k)

theorem ix0 (t : Fin cfg0.N) : win0_0.index t = ![0, 0, 0] := by decide +revert +kernel
theorem ix1 (t : Fin cfg0.N) : win0_1.index t = ![0, 0] := by decide +revert +kernel
theorem ix2 (t : Fin cfg0.N) : win0_2.index t = ![0, 0] := by decide +revert +kernel
theorem ix3 (t : Fin cfg0.N) : win0_3.index t = ![0, 0] := by decide +revert +kernel
theorem ix4 (t : Fin cfg0.N) : win0_4.index t = ![0, 0] := by decide +revert +kernel
theorem ix5 (t : Fin cfg0.N) : win0_5.index t = ![0, 0] := by decide +revert +kernel
theorem ix6 (t : Fin cfg0.N) : win0_6.index t = ![0, 0] := by decide +revert +kernel

theorem blk0 (t : Fin cfg0.N) : (iblk m c 0 t : (⟨3, ![8, 30, 2048]⟩ : Shape).Idx → EReal) = a0 m c := by
  unfold a0; rw [← V_main_arg0 m c]; unfold iblk; funext y; blk_simp
  refine congrArg (V m c main_arg0) ?_
  funext a; apply Fin.ext
  match a with
  | ⟨0, _⟩ => blk_simp [ix0]
  | ⟨1, _⟩ => blk_simp [ix0]
  | ⟨2, _⟩ => blk_simp [ix0]
theorem blk1 (t : Fin cfg0.N) : (iblk m c 1 t : (Sh 8 2048).Idx → EReal) = a1 m c := by
  unfold a1; rw [← V_main_arg1 m c]; unfold iblk; funext y; blk_simp
  refine congrArg (V m c main_arg1) ?_
  funext a; apply Fin.ext
  match a with
  | ⟨0, _⟩ => blk_simp [ix1]
  | ⟨1, _⟩ => blk_simp [ix1]
theorem blk2 (t : Fin cfg0.N) : (iblk m c 2 t : (Sh 31 2048).Idx → EReal) = a2 m c := by
  unfold a2; rw [← V_main_arg2 m c]; unfold iblk; funext y; blk_simp
  refine congrArg (V m c main_arg2) ?_
  funext a; apply Fin.ext
  match a with
  | ⟨0, _⟩ => blk_simp [ix2]
  | ⟨1, _⟩ => blk_simp [ix2]

theorem unrow (x : (⟨1, ![2048]⟩ : Shape).Idx → EReal) (h) (k : Fin 2048) : shapeCast (Sh 1 2048) x h (ValueIdx.ix2 0 k) = x (ValueIdx.ix1 k) := by
  refine shapeCast_apply _ _ _ (ValueIdx.ix1 k) ?_
  rw [Shape.rowMajor_val_one]
  refine Eq.trans ?_ (Shape.rowMajor_val_two (d := ![1, 2048]) (ValueIdx.ix2 0 k)).symm
  show k.val = 0 * 2048 + k.val
  omega

theorem blk3 (t : Fin cfg0.N) : (fun k => (iblk m c 3 t (ValueIdx.ix2 0 k) : EReal)) = a3 m c := by
  funext k
  have h : (V m c main_v0 : (Sh 1 2048).Idx → EReal) (ValueIdx.ix2 0 k) = a3 m c k := by
    show StableHlo.after hostOps0 (fun b => m (c, b)) (Proc.devRef .tc main_v0) _ = _
    after_results
    exact unrow _ _ k
  refine Eq.trans ?_ h
  unfold iblk; blk_simp
  refine congrArg (V m c main_v0) ?_
  funext a; apply Fin.ext
  match a with
  | ⟨0, _⟩ => blk_simp [ix3]
  | ⟨1, _⟩ => blk_simp [ix3]
theorem blk4 (t : Fin cfg0.N) : (fun k => (iblk m c 4 t (ValueIdx.ix2 0 k) : EReal)) = a4 m c := by
  funext k
  have h : (V m c main_v1 : (Sh 1 2048).Idx → EReal) (ValueIdx.ix2 0 k) = a4 m c k := by
    show StableHlo.after hostOps0 (fun b => m (c, b)) (Proc.devRef .tc main_v1) _ = _
    after_results
    exact unrow _ _ k
  refine Eq.trans ?_ h
  unfold iblk; blk_simp
  refine congrArg (V m c main_v1) ?_
  funext a; apply Fin.ext
  match a with
  | ⟨0, _⟩ => blk_simp [ix4]
  | ⟨1, _⟩ => blk_simp [ix4]
theorem blk5 (t : Fin cfg0.N) : (fun k => (iblk m c 5 t (ValueIdx.ix2 0 k) : EReal)) = a5 m c := by
  funext k
  have h : (V m c main_v2 : (Sh 1 2048).Idx → EReal) (ValueIdx.ix2 0 k) = a5 m c k := by
    show StableHlo.after hostOps0 (fun b => m (c, b)) (Proc.devRef .tc main_v2) _ = _
    after_results
    exact unrow _ _ k
  refine Eq.trans ?_ h
  unfold iblk; blk_simp
  refine congrArg (V m c main_v2) ?_
  funext a; apply Fin.ext
  match a with
  | ⟨0, _⟩ => blk_simp [ix5]
  | ⟨1, _⟩ => blk_simp [ix5]

theorem main_eq : (dats m 0 c).arrAt 6 cfg0.N = out (a0 m c) (a1 m c) (a2 m c) (a3 m c) (a4 m c) (a5 m c) := by
  refine (dats m 0 c).arrAt_eq_of_covers 6 _ (by decide +kernel) fun t hf y => ?_
  blk_simp
  rw [after0_6, out_eq, cv_eq]
  obtain ⟨r, q, rfl⟩ : ∃ (r : Fin 8) (q : Fin 2048), y = ValueIdx.ix2 r q := ⟨y 0, y 1, by funext a; match a with | ⟨0, _⟩ => rfl | ⟨1, _⟩ => rfl⟩
  refine (res_apply _ _ _ r q).trans ?_
  rw [blk0, blk1, blk2, blk3, blk4, blk5]
  have h : (win0_6.blk t).view.emb (ValueIdx.ix2 r q) = ValueIdx.ix2 r q := by
    funext a; apply Fin.ext
    match a with
    | ⟨0, _⟩ => blk_simp [ix6]
    | ⟨1, _⟩ => blk_simp [ix6]
  show _ = out (a0 m c) (a1 m c) (a2 m c) (a3 m c) (a4 m c) (a5 m c) ((win0_6.blk t).view.emb (ValueIdx.ix2 r q))
  rw [h]
  rfl

/-! ## The reference -/

open Cert.Reference11Ideal.Read

theorem ref_conv (st : (⟨Cert.Reference11Ideal.S8x30x2048, .f32⟩ : BufTy).Contents (Elt Ideal)) (u : (⟨Cert.Reference11Ideal.S8x2048, .f32⟩ : BufTy).Contents (Elt Ideal))
    (w : (⟨Cert.Reference11Ideal.S31x2048, .f32⟩ : BufTy).Contents (Elt Ideal)) (b : (⟨Cert.Reference11Ideal.S2048, .f32⟩ : BufTy).Contents (Elt Ideal)) :
    val_main_v8 (F := Ideal) st u w b = conv st u w (fun k => b (ValueIdx.ix1 k)) := by
  funext i
  obtain ⟨r, q, rfl⟩ : ∃ (r : Fin 8) (q : Fin 2048), i = ValueIdx.ix2 r q := ⟨i 0, i 1, by funext a; match a with | ⟨0, _⟩ => rfl | ⟨1, _⟩ => rfl⟩
  rw [val_main_v8_apply, val_main_v5_apply, val_main_v7_apply, val_main_v6_apply, val_main_cst_apply]
  refine congrArg₂ (fun a b : EReal => a + b) ?_ (congrArg b (by funext a; match a with | ⟨0, _⟩ => rfl))
  show Ideal.ofBits .f32 0x00000000#32 + _ = _
  rw [Ideal.ofBits_zero_f32, zero_add, Fin.sum_univ_castSucc]
  refine congrArg₂ (fun a b : EReal => a + b) (Finset.sum_congr rfl fun j _ => ?_) ?_
  · rw [val_main_v4_apply, val_main_v3_apply, val_main_v2_apply]
    refine congrArg₂ (fun a b : EReal => a * b) ?_ (congrArg w (by funext a; match a with | ⟨0, _⟩ => rfl | ⟨1, _⟩ => rfl))
    exact concatenate_pair_apply_left (α := EReal) (t := Cert.Reference11Ideal.S8x31x2048) 1 st _ _ _ rfl (ValueIdx.ix3 r j q) fun a => by
      match a with
      | ⟨0, _⟩ => rfl
      | ⟨1, _⟩ => rfl
      | ⟨2, _⟩ => rfl
  · rw [val_main_v4_apply, val_main_v3_apply, val_main_v2_apply]
    refine congrArg₂ (fun a b : EReal => a * b) ?_ (congrArg w (by funext a; match a with | ⟨0, _⟩ => rfl | ⟨1, _⟩ => rfl))
    refine (concatenate_pair_apply_right (α := EReal) (t := Cert.Reference11Ideal.S8x31x2048) 1 st (val_main_v0 (F := Ideal) u) _ _ rfl rfl (ValueIdx.ix3 r (0 : Fin 1) q) (fun a ha => by
      match a, ha with
      | ⟨0, _⟩, _ => rfl
      | ⟨1, _⟩, ha => exact absurd rfl ha
      | ⟨2, _⟩, _ => rfl) rfl).trans ?_
    rw [val_main_v0_apply]
    exact congrArg u (by funext a; match a with | ⟨0, _⟩ => rfl | ⟨1, _⟩ => rfl)

theorem ref_main (st : (⟨Cert.Reference11Ideal.S8x30x2048, .f32⟩ : BufTy).Contents (Elt Ideal)) (u : (⟨Cert.Reference11Ideal.S8x2048, .f32⟩ : BufTy).Contents (Elt Ideal))
    (w : (⟨Cert.Reference11Ideal.S31x2048, .f32⟩ : BufTy).Contents (Elt Ideal)) (b g e : (⟨Cert.Reference11Ideal.S2048, .f32⟩ : BufTy).Contents (Elt Ideal)) :
    val_main_v32 (F := Ideal) st u w b g e = out st u w (fun k => b (ValueIdx.ix1 k)) (fun k => g (ValueIdx.ix1 k)) (fun k => e (ValueIdx.ix1 k)) := by
  have hc : val_main_v14 (F := Ideal) st u w b = cen (R := 8) (conv st u w (fun k => b (ValueIdx.ix1 k))) := by
    funext i
    rw [val_main_v14_apply, val_main_v13_apply, val_main_v12_apply, val_main_v10_apply, val_main_v9_apply, val_main_v11_apply, val_main_cst_1_apply, val_main_cst_0_apply, ref_conv]
    refine congrArg (fun z : EReal => conv st u w (fun k => b (ValueIdx.ix1 k)) i - Ideal.div z (Ideal.ofBits .f32 0x45000000#32)) ?_
    show Ideal.ofBits .f32 0x00000000#32 + _ = _
    rw [Ideal.ofBits_zero_f32, zero_add]
    exact Finset.sum_congr rfl fun j _ => congrArg (conv st u w (fun k => b (ValueIdx.ix1 k))) (by funext a; match a with | ⟨0, _⟩ => rfl | ⟨1, _⟩ => rfl)
  have hn : ∀ i, (val_main_v30 (F := Ideal) st u w b g e i : EReal) = lnorm (R := 8) (conv st u w (fun k => b (ValueIdx.ix1 k))) (fun k => g (ValueIdx.ix1 k)) (fun k => e (ValueIdx.ix1 k)) (i 0) (i 1) := by
    intro i
    obtain ⟨r, q, rfl⟩ : ∃ (r : Fin 8) (q : Fin 2048), i = ValueIdx.ix2 r q := ⟨i 0, i 1, by funext a; match a with | ⟨0, _⟩ => rfl | ⟨1, _⟩ => rfl⟩
    rw [val_main_v30_apply, val_main_v29_apply, val_main_v28_apply, val_main_v27_apply, val_main_v26_apply, val_main_v25_apply, val_main_v24_apply,
      val_main_v23_apply, val_main_v22_apply, val_main_v21_apply, val_main_v20_apply, val_main_v19_apply, val_main_v18_apply, val_main_v17_apply, val_main_v16_apply,
      val_main_cst_2_apply, val_main_cst_3_apply, val_main_cst_4_apply, hc]
    unfold lnorm nrm
    refine congrArg₂ (fun a b : EReal => a + b) (congrArg₂ (fun a b : EReal => a * b) (congrArg (fun z : EReal => cen (R := 8) (conv st u w (fun k => b (ValueIdx.ix1 k))) (ValueIdx.ix2 r q) * z)
      (congrArg Ideal.rsqrt (congrArg (fun z : EReal => Ideal.div z (Ideal.ofBits .f32 0x45000000#32) + Ideal.ofBits .f32 0x358637BD#32) ?_)))
      (congrArg g (by funext a; match a with | ⟨0, _⟩ => rfl))) (congrArg e (by funext a; match a with | ⟨0, _⟩ => rfl))
    show Ideal.ofBits .f32 0x00000000#32 + _ = _
    rw [Ideal.ofBits_zero_f32, zero_add]
    refine Finset.sum_congr rfl fun j _ => ?_
    rw [val_main_v15_apply, hc]
    have hj : idx_main_v16 (idx_main_v17 (idx_main_v23 (ValueIdx.ix2 r q))) j = ValueIdx.ix2 r j := by funext a; match a with | ⟨0, _⟩ => rfl | ⟨1, _⟩ => rfl
    rw [hj]; rfl
  funext i
  rw [val_main_v32_apply, val_main_v31_apply, val_main_call0_v5_apply, val_main_call0_v4_apply, val_main_call0_v3_apply, val_main_call0_v2_apply, val_main_call0_v1_apply,
    val_main_call0_v0_apply, val_main_call0_cst_apply, val_main_call0_cst_0_apply, hn]
  exact gate_ref _ _

end Cert.Kernel11Ideal.KV

end
-- ==== Proof.Same.lean ====
/- The kernels whose idealized programs are the programs themselves: the frame of each, read over machine words, from the run of the other. The references' frames. -/
module

public import proofs.«01_k».proof.Proof.Gen.Kernel2
public import proofs.«01_k».proof.Proof.K2Run
public import proofs.«01_k».proof.Proof.Gen.Reference2Ideal.Run
public import proofs.«01_k».proof.Proof.Gen.Kernel3
public import proofs.«01_k».proof.Proof.K3Run
public import proofs.«01_k».proof.Proof.Gen.Reference3Ideal.Run
public import proofs.«01_k».proof.Proof.Gen.Kernel4
public import proofs.«01_k».proof.Proof.K4Run
public import proofs.«01_k».proof.Proof.Gen.Reference4Ideal.Run
public import proofs.«01_k».proof.Proof.Gen.Kernel5
public import proofs.«01_k».proof.Proof.K5Run
public import proofs.«01_k».proof.Proof.Gen.Reference5Ideal.Run
public import proofs.«01_k».proof.Proof.Gen.Kernel6
public import proofs.«01_k».proof.Proof.K6Run
public import proofs.«01_k».proof.Proof.Gen.Reference6Ideal.Run
public import proofs.«01_k».proof.Proof.Gen.Kernel7
public import proofs.«01_k».proof.Proof.K7Run
public import proofs.«01_k».proof.Proof.Gen.Reference7Ideal.Run
public import proofs.«01_k».proof.Proof.Gen.Kernel8
public import proofs.«01_k».proof.Proof.K8Run
public import proofs.«01_k».proof.Proof.Gen.Reference8Ideal.Run
public import proofs.«01_k».proof.Proof.Gen.Reference9Ideal.Run
public import proofs.«01_k».proof.Proof.Gen.Reference10Ideal.Run
public import proofs.«01_k».proof.Proof.Gen.Reference11Ideal.Run
public import Idealize.ShloMosaic.Adequacy
public import Idealize.ShloMosaic.Init
public import Idealize.ShloMosaic.Lib.Quiescent

@[expose] public section

set_option maxRecDepth 16384
set_option backward.isDefEq.respectTransparency false

noncomputable section

open Idealize.ShloMosaic Idealize.ShloMosaic.TcCoe Idealize.SL.Sem

namespace Cert.Kernel2Ideal.KV

theorem defs₀_same : (Kernel2.defs₀ (F := Bits)) = Kernel2Ideal.defs₀ (F := Bits) := by
  unfold Kernel2.defs₀ Kernel2Ideal.defs₀
  refine congrArg Defs.onTc ?_
  funext l x
  match l, x with
  | 0, (t, s) => rfl

theorem defs_same : (Kernel2.defs (F := Bits)) = Kernel2Ideal.defs (F := Bits) := by
  unfold Kernel2.defs
  rw [defs₀_same]
  rfl

/-- Every run of the program over machine words ends, with the arguments unchanged and every counter at zero. -/
theorem frameBits (m : (ℓ : Loc Kernel2.nD Kernel2.τ Kernel2.sig) → Buf (Elt Bits) ℓ) (g : Dev Kernel2.nD → PrngReg) :
    θ_run (Kernel2.defs (F := Bits)) (onTc (τ := Kernel2.τ) (Kernel2.main (F := Bits))) ⟨m, fun _ => 0, g⟩ (fun r => (∀ c : Dev Kernel2.nD,
      r.2.mem ((c.tc : Thread Kernel2.nD Kernel2.τ).loc Kernel2.main_arg0) = m ((c.tc : Thread Kernel2.nD Kernel2.τ).loc Kernel2.main_arg0)
      ∧ r.2.mem ((c.tc : Thread Kernel2.nD Kernel2.τ).loc Kernel2.main_arg1) = m ((c.tc : Thread Kernel2.nD Kernel2.τ).loc Kernel2.main_arg1)
      ∧ r.2.mem ((c.tc : Thread Kernel2.nD Kernel2.τ).loc Kernel2.main_arg2) = m ((c.tc : Thread Kernel2.nD Kernel2.τ).loc Kernel2.main_arg2)
      ∧ r.2.mem ((c.tc : Thread Kernel2.nD Kernel2.τ).loc Kernel2.main_arg3) = m ((c.tc : Thread Kernel2.nD Kernel2.τ).loc Kernel2.main_arg3)
      ∧ r.2.mem ((c.tc : Thread Kernel2.nD Kernel2.τ).loc Kernel2.main_arg4) = m ((c.tc : Thread Kernel2.nD Kernel2.τ).loc Kernel2.main_arg4))
      ∧ r.2.sem = fun _ => 0) := by
  rw [defs_same]
  exact (θ_run (Kernel2Ideal.defs (F := Bits)) _ _).mono (fun _ h => ⟨fun c => (h.1 c).2.2, h.2⟩) (Kernel2Ideal.KV.run (F := Bits) m g)

end Cert.Kernel2Ideal.KV

namespace Cert.Kernel3Ideal.KV

theorem defs₀_same : (Kernel3.defs₀ (F := Bits)) = Kernel3Ideal.defs₀ (F := Bits) := by
  unfold Kernel3.defs₀ Kernel3Ideal.defs₀
  refine congrArg Defs.onTc ?_
  funext l x
  match l, x with
  | 0, (t, s) => rfl

theorem defs_same : (Kernel3.defs (F := Bits)) = Kernel3Ideal.defs (F := Bits) := by
  unfold Kernel3.defs
  rw [defs₀_same]
  rfl

/-- Every run of the program over machine words ends, with the arguments unchanged and every counter at zero. -/
theorem frameBits (m : (ℓ : Loc Kernel3.nD Kernel3.τ Kernel3.sig) → Buf (Elt Bits) ℓ) (g : Dev Kernel3.nD → PrngReg) :
    θ_run (Kernel3.defs (F := Bits)) (onTc (τ := Kernel3.τ) (Kernel3.main (F := Bits))) ⟨m, fun _ => 0, g⟩ (fun r => (∀ c : Dev Kernel3.nD,
      r.2.mem ((c.tc : Thread Kernel3.nD Kernel3.τ).loc Kernel3.main_arg0) = m ((c.tc : Thread Kernel3.nD Kernel3.τ).loc Kernel3.main_arg0)
      ∧ r.2.mem ((c.tc : Thread Kernel3.nD Kernel3.τ).loc Kernel3.main_arg1) = m ((c.tc : Thread Kernel3.nD Kernel3.τ).loc Kernel3.main_arg1)
      ∧ r.2.mem ((c.tc : Thread Kernel3.nD Kernel3.τ).loc Kernel3.main_arg2) = m ((c.tc : Thread Kernel3.nD Kernel3.τ).loc Kernel3.main_arg2)
      ∧ r.2.mem ((c.tc : Thread Kernel3.nD Kernel3.τ).loc Kernel3.main_arg3) = m ((c.tc : Thread Kernel3.nD Kernel3.τ).loc Kernel3.main_arg3)
      ∧ r.2.mem ((c.tc : Thread Kernel3.nD Kernel3.τ).loc Kernel3.main_arg4) = m ((c.tc : Thread Kernel3.nD Kernel3.τ).loc Kernel3.main_arg4))
      ∧ r.2.sem = fun _ => 0) := by
  rw [defs_same]
  exact (θ_run (Kernel3Ideal.defs (F := Bits)) _ _).mono (fun _ h => ⟨fun c => (h.1 c).2.2, h.2⟩) (Kernel3Ideal.KV.run (F := Bits) m g)

end Cert.Kernel3Ideal.KV

namespace Cert.Kernel4Ideal.KV

theorem defs₀_same : (Kernel4.defs₀ (F := Bits)) = Kernel4Ideal.defs₀ (F := Bits) := by
  unfold Kernel4.defs₀ Kernel4Ideal.defs₀
  refine congrArg Defs.onTc ?_
  funext l x
  match l, x with
  | 0, (t, s) => rfl

theorem defs_same : (Kernel4.defs (F := Bits)) = Kernel4Ideal.defs (F := Bits) := by
  unfold Kernel4.defs
  rw [defs₀_same]
  rfl

/-- Every run of the program over machine words ends, with the arguments unchanged and every counter at zero. -/
theorem frameBits (m : (ℓ : Loc Kernel4.nD Kernel4.τ Kernel4.sig) → Buf (Elt Bits) ℓ) (g : Dev Kernel4.nD → PrngReg) :
    θ_run (Kernel4.defs (F := Bits)) (onTc (τ := Kernel4.τ) (Kernel4.main (F := Bits))) ⟨m, fun _ => 0, g⟩ (fun r => (∀ c : Dev Kernel4.nD,
      r.2.mem ((c.tc : Thread Kernel4.nD Kernel4.τ).loc Kernel4.main_arg0) = m ((c.tc : Thread Kernel4.nD Kernel4.τ).loc Kernel4.main_arg0)
      ∧ r.2.mem ((c.tc : Thread Kernel4.nD Kernel4.τ).loc Kernel4.main_arg1) = m ((c.tc : Thread Kernel4.nD Kernel4.τ).loc Kernel4.main_arg1)
      ∧ r.2.mem ((c.tc : Thread Kernel4.nD Kernel4.τ).loc Kernel4.main_arg2) = m ((c.tc : Thread Kernel4.nD Kernel4.τ).loc Kernel4.main_arg2)
      ∧ r.2.mem ((c.tc : Thread Kernel4.nD Kernel4.τ).loc Kernel4.main_arg3) = m ((c.tc : Thread Kernel4.nD Kernel4.τ).loc Kernel4.main_arg3)
      ∧ r.2.mem ((c.tc : Thread Kernel4.nD Kernel4.τ).loc Kernel4.main_arg4) = m ((c.tc : Thread Kernel4.nD Kernel4.τ).loc Kernel4.main_arg4))
      ∧ r.2.sem = fun _ => 0) := by
  rw [defs_same]
  exact (θ_run (Kernel4Ideal.defs (F := Bits)) _ _).mono (fun _ h => ⟨fun c => (h.1 c).2.2, h.2⟩) (Kernel4Ideal.KV.run (F := Bits) m g)

end Cert.Kernel4Ideal.KV

namespace Cert.Kernel5Ideal.KV

theorem defs₀_same : (Kernel5.defs₀ (F := Bits)) = Kernel5Ideal.defs₀ (F := Bits) := by
  unfold Kernel5.defs₀ Kernel5Ideal.defs₀
  refine congrArg Defs.onTc ?_
  funext l x
  match l, x with
  | 0, (t, s) => rfl

theorem defs_same : (Kernel5.defs (F := Bits)) = Kernel5Ideal.defs (F := Bits) := by
  unfold Kernel5.defs
  rw [defs₀_same]
  rfl

/-- Every run of the program over machine words ends, with the arguments unchanged and every counter at zero. -/
theorem frameBits (m : (ℓ : Loc Kernel5.nD Kernel5.τ Kernel5.sig) → Buf (Elt Bits) ℓ) (g : Dev Kernel5.nD → PrngReg) :
    θ_run (Kernel5.defs (F := Bits)) (onTc (τ := Kernel5.τ) (Kernel5.main (F := Bits))) ⟨m, fun _ => 0, g⟩ (fun r => (∀ c : Dev Kernel5.nD,
      r.2.mem ((c.tc : Thread Kernel5.nD Kernel5.τ).loc Kernel5.main_arg0) = m ((c.tc : Thread Kernel5.nD Kernel5.τ).loc Kernel5.main_arg0)
      ∧ r.2.mem ((c.tc : Thread Kernel5.nD Kernel5.τ).loc Kernel5.main_arg1) = m ((c.tc : Thread Kernel5.nD Kernel5.τ).loc Kernel5.main_arg1)
      ∧ r.2.mem ((c.tc : Thread Kernel5.nD Kernel5.τ).loc Kernel5.main_arg2) = m ((c.tc : Thread Kernel5.nD Kernel5.τ).loc Kernel5.main_arg2)
      ∧ r.2.mem ((c.tc : Thread Kernel5.nD Kernel5.τ).loc Kernel5.main_arg3) = m ((c.tc : Thread Kernel5.nD Kernel5.τ).loc Kernel5.main_arg3))
      ∧ r.2.sem = fun _ => 0) := by
  rw [defs_same]
  exact (θ_run (Kernel5Ideal.defs (F := Bits)) _ _).mono (fun _ h => ⟨fun c => (h.1 c).2.2.2, h.2⟩) (Kernel5Ideal.KV.run (F := Bits) m g)

end Cert.Kernel5Ideal.KV

namespace Cert.Kernel6Ideal.KV

theorem defs₀_same : (Kernel6.defs₀ (F := Bits)) = Kernel6Ideal.defs₀ (F := Bits) := by
  unfold Kernel6.defs₀ Kernel6Ideal.defs₀
  refine congrArg Defs.onTc ?_
  funext l x
  match l, x with
  | 0, (t, s) => rfl

theorem defs_same : (Kernel6.defs (F := Bits)) = Kernel6Ideal.defs (F := Bits) := by
  unfold Kernel6.defs
  rw [defs₀_same]
  rfl

/-- Every run of the program over machine words ends, with the arguments unchanged and every counter at zero. -/
theorem frameBits (m : (ℓ : Loc Kernel6.nD Kernel6.τ Kernel6.sig) → Buf (Elt Bits) ℓ) (g : Dev Kernel6.nD → PrngReg) :
    θ_run (Kernel6.defs (F := Bits)) (onTc (τ := Kernel6.τ) (Kernel6.main (F := Bits))) ⟨m, fun _ => 0, g⟩ (fun r => (∀ c : Dev Kernel6.nD,
      r.2.mem ((c.tc : Thread Kernel6.nD Kernel6.τ).loc Kernel6.main_arg0) = m ((c.tc : Thread Kernel6.nD Kernel6.τ).loc Kernel6.main_arg0)
      ∧ r.2.mem ((c.tc : Thread Kernel6.nD Kernel6.τ).loc Kernel6.main_arg1) = m ((c.tc : Thread Kernel6.nD Kernel6.τ).loc Kernel6.main_arg1)
      ∧ r.2.mem ((c.tc : Thread Kernel6.nD Kernel6.τ).loc Kernel6.main_arg2) = m ((c.tc : Thread Kernel6.nD Kernel6.τ).loc Kernel6.main_arg2)
      ∧ r.2.mem ((c.tc : Thread Kernel6.nD Kernel6.τ).loc Kernel6.main_arg3) = m ((c.tc : Thread Kernel6.nD Kernel6.τ).loc Kernel6.main_arg3)
      ∧ r.2.mem ((c.tc : Thread Kernel6.nD Kernel6.τ).loc Kernel6.main_arg4) = m ((c.tc : Thread Kernel6.nD Kernel6.τ).loc Kernel6.main_arg4))
      ∧ r.2.sem = fun _ => 0) := by
  rw [defs_same]
  exact (θ_run (Kernel6Ideal.defs (F := Bits)) _ _).mono (fun _ h => ⟨fun c => (h.1 c).2.2, h.2⟩) (Kernel6Ideal.KV.run (F := Bits) m g)

end Cert.Kernel6Ideal.KV

namespace Cert.Kernel7Ideal.KV

theorem defs₀_same : (Kernel7.defs₀ (F := Bits)) = Kernel7Ideal.defs₀ (F := Bits) := by
  unfold Kernel7.defs₀ Kernel7Ideal.defs₀
  refine congrArg Defs.onTc ?_
  funext l x
  match l, x with
  | 0, (t, s) => rfl

theorem defs_same : (Kernel7.defs (F := Bits)) = Kernel7Ideal.defs (F := Bits) := by
  unfold Kernel7.defs
  rw [defs₀_same]
  rfl

/-- Every run of the program over machine words ends, with the arguments unchanged and every counter at zero. -/
theorem frameBits (m : (ℓ : Loc Kernel7.nD Kernel7.τ Kernel7.sig) → Buf (Elt Bits) ℓ) (g : Dev Kernel7.nD → PrngReg) :
    θ_run (Kernel7.defs (F := Bits)) (onTc (τ := Kernel7.τ) (Kernel7.main (F := Bits))) ⟨m, fun _ => 0, g⟩ (fun r => (∀ c : Dev Kernel7.nD,
      r.2.mem ((c.tc : Thread Kernel7.nD Kernel7.τ).loc Kernel7.main_arg0) = m ((c.tc : Thread Kernel7.nD Kernel7.τ).loc Kernel7.main_arg0)
      ∧ r.2.mem ((c.tc : Thread Kernel7.nD Kernel7.τ).loc Kernel7.main_arg1) = m ((c.tc : Thread Kernel7.nD Kernel7.τ).loc Kernel7.main_arg1)
      ∧ r.2.mem ((c.tc : Thread Kernel7.nD Kernel7.τ).loc Kernel7.main_arg2) = m ((c.tc : Thread Kernel7.nD Kernel7.τ).loc Kernel7.main_arg2)
      ∧ r.2.mem ((c.tc : Thread Kernel7.nD Kernel7.τ).loc Kernel7.main_arg3) = m ((c.tc : Thread Kernel7.nD Kernel7.τ).loc Kernel7.main_arg3)
      ∧ r.2.mem ((c.tc : Thread Kernel7.nD Kernel7.τ).loc Kernel7.main_arg4) = m ((c.tc : Thread Kernel7.nD Kernel7.τ).loc Kernel7.main_arg4)
      ∧ r.2.mem ((c.tc : Thread Kernel7.nD Kernel7.τ).loc Kernel7.main_arg5) = m ((c.tc : Thread Kernel7.nD Kernel7.τ).loc Kernel7.main_arg5))
      ∧ r.2.sem = fun _ => 0) := by
  rw [defs_same]
  exact (θ_run (Kernel7Ideal.defs (F := Bits)) _ _).mono (fun _ h => ⟨fun c => (h.1 c).2.2, h.2⟩) (Kernel7Ideal.KV.run (F := Bits) m g)

end Cert.Kernel7Ideal.KV

namespace Cert.Kernel8Ideal.KV

theorem defs₀_same : (Kernel8.defs₀ (F := Bits)) = Kernel8Ideal.defs₀ (F := Bits) := by
  unfold Kernel8.defs₀ Kernel8Ideal.defs₀
  refine congrArg Defs.onTc ?_
  funext l x
  match l, x with
  | 0, (t, s) => rfl

theorem defs_same : (Kernel8.defs (F := Bits)) = Kernel8Ideal.defs (F := Bits) := by
  unfold Kernel8.defs
  rw [defs₀_same]
  rfl

/-- Every run of the program over machine words ends, with the arguments unchanged and every counter at zero. -/
theorem frameBits (m : (ℓ : Loc Kernel8.nD Kernel8.τ Kernel8.sig) → Buf (Elt Bits) ℓ) (g : Dev Kernel8.nD → PrngReg) :
    θ_run (Kernel8.defs (F := Bits)) (onTc (τ := Kernel8.τ) (Kernel8.main (F := Bits))) ⟨m, fun _ => 0, g⟩ (fun r => (∀ c : Dev Kernel8.nD,
      r.2.mem ((c.tc : Thread Kernel8.nD Kernel8.τ).loc Kernel8.main_arg0) = m ((c.tc : Thread Kernel8.nD Kernel8.τ).loc Kernel8.main_arg0)
      ∧ r.2.mem ((c.tc : Thread Kernel8.nD Kernel8.τ).loc Kernel8.main_arg1) = m ((c.tc : Thread Kernel8.nD Kernel8.τ).loc Kernel8.main_arg1)
      ∧ r.2.mem ((c.tc : Thread Kernel8.nD Kernel8.τ).loc Kernel8.main_arg2) = m ((c.tc : Thread Kernel8.nD Kernel8.τ).loc Kernel8.main_arg2)
      ∧ r.2.mem ((c.tc : Thread Kernel8.nD Kernel8.τ).loc Kernel8.main_arg3) = m ((c.tc : Thread Kernel8.nD Kernel8.τ).loc Kernel8.main_arg3))
      ∧ r.2.sem = fun _ => 0) := by
  rw [defs_same]
  exact (θ_run (Kernel8Ideal.defs (F := Bits)) _ _).mono (fun _ h => ⟨fun c => (h.1 c).2.2, h.2⟩) (Kernel8Ideal.KV.run (F := Bits) m g)

end Cert.Kernel8Ideal.KV

namespace Cert.Reference2Ideal

/-- Every run of the reference ends, with the arguments unchanged and every counter at zero. -/
theorem frame0 (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run _ _ _).mono (fun _ h => ⟨fun c => (h c).2.2, sem_eq_zero_of_no_sems rfl _⟩) (Value.run m g)

end Cert.Reference2Ideal

namespace Cert.Reference3Ideal

/-- Every run of the reference ends, with the arguments unchanged and every counter at zero. -/
theorem frame0 (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run _ _ _).mono (fun _ h => ⟨fun c => (h c).2.2, sem_eq_zero_of_no_sems rfl _⟩) (Value.run m g)

end Cert.Reference3Ideal

namespace Cert.Reference4Ideal

/-- Every run of the reference ends, with the arguments unchanged and every counter at zero. -/
theorem frame0 (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run _ _ _).mono (fun _ h => ⟨fun c => (h c).2.2, sem_eq_zero_of_no_sems rfl _⟩) (Value.run m g)

end Cert.Reference4Ideal

namespace Cert.Reference5Ideal

/-- Every run of the reference ends, with the arguments unchanged and every counter at zero. -/
theorem frame0 (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run _ _ _).mono (fun _ h => ⟨fun c => (h c).2.2.2, sem_eq_zero_of_no_sems rfl _⟩) (Value.run m g)

end Cert.Reference5Ideal

namespace Cert.Reference6Ideal

/-- Every run of the reference ends, with the arguments unchanged and every counter at zero. -/
theorem frame0 (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run _ _ _).mono (fun _ h => ⟨fun c => (h c).2.2, sem_eq_zero_of_no_sems rfl _⟩) (Value.run m g)

end Cert.Reference6Ideal

namespace Cert.Reference7Ideal

/-- Every run of the reference ends, with the arguments unchanged and every counter at zero. -/
theorem frame0 (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run _ _ _).mono (fun _ h => ⟨fun c => (h c).2.2, sem_eq_zero_of_no_sems rfl _⟩) (Value.run m g)

end Cert.Reference7Ideal

namespace Cert.Reference8Ideal

/-- Every run of the reference ends, with the arguments unchanged and every counter at zero. -/
theorem frame0 (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run _ _ _).mono (fun _ h => ⟨fun c => (h c).2.2, sem_eq_zero_of_no_sems rfl _⟩) (Value.run m g)

end Cert.Reference8Ideal

namespace Cert.Reference9Ideal

/-- Every run of the reference ends, with the arguments unchanged and every counter at zero. -/
theorem frame0 (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun _ h => ⟨fun c => (h c).2, sem_eq_zero_of_no_sems rfl _⟩) (Value.run m g)

end Cert.Reference9Ideal

namespace Cert.Reference10Ideal

/-- Every run of the reference ends, with the arguments unchanged and every counter at zero. -/
theorem frame0 (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun _ h => ⟨fun c => (h c).2, sem_eq_zero_of_no_sems rfl _⟩) (Value.run m g)

end Cert.Reference10Ideal

namespace Cert.Reference11Ideal

/-- Every run of the reference ends, with the arguments unchanged and every counter at zero. -/
theorem frame0 (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run _ _ _).mono (fun _ h => ⟨fun c => (h c).2, sem_eq_zero_of_no_sems rfl _⟩) (Value.run m g)

end Cert.Reference11Ideal

end
-- ==== Proof.lean ====
/- The proof of the claims of the kernel's eleven calls. The runs and values of each call are in the modules imported here. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel2
public import proofs.«01_k».proof.Proof.Gen.Kernel2Ideal.Frame
public import proofs.«01_k».proof.Proof.Gen.Reference2Ideal.Read
public import proofs.«01_k».proof.Proof.Gen.Kernel3
public import proofs.«01_k».proof.Proof.Gen.Kernel3Ideal.Frame
public import proofs.«01_k».proof.Proof.Gen.Reference3Ideal.Read
public import proofs.«01_k».proof.Proof.Gen.Kernel4
public import proofs.«01_k».proof.Proof.Gen.Kernel4Ideal.Frame
public import proofs.«01_k».proof.Proof.Gen.Reference4Ideal.Read
public import proofs.«01_k».proof.Proof.Gen.Kernel5
public import proofs.«01_k».proof.Proof.Gen.Kernel5Ideal.Frame
public import proofs.«01_k».proof.Proof.Gen.Reference5Ideal.Read
public import proofs.«01_k».proof.Proof.Gen.Kernel6
public import proofs.«01_k».proof.Proof.Gen.Kernel6Ideal.Frame
public import proofs.«01_k».proof.Proof.Gen.Reference6Ideal.Read
public import proofs.«01_k».proof.Proof.Gen.Kernel7
public import proofs.«01_k».proof.Proof.Gen.Kernel7Ideal.Frame
public import proofs.«01_k».proof.Proof.Gen.Reference7Ideal.Read
public import proofs.«01_k».proof.Proof.Gen.Kernel8
public import proofs.«01_k».proof.Proof.Gen.Kernel8Ideal.Frame
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal.Frame
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal.Frame
public import proofs.«01_k».proof.Proof.Gen.Reference10Ideal.Read
public import proofs.«01_k».proof.Proof.Gen.Kernel11
public import proofs.«01_k».proof.Proof.Gen.Kernel11.Frame
public import proofs.«01_k».proof.Proof.Gen.Kernel11Ideal.Frame
public import proofs.«01_k».proof.Proof.Gen.Reference11Ideal.Read
public import proofs.«01_k».proof.Proof.Fin
public import proofs.«01_k».proof.Proof.KRun
public import proofs.«01_k».proof.Proof.KFinal
public import proofs.«01_k».proof.Proof.RVal
public import proofs.«01_k».proof.Proof.K2Run
public import proofs.«01_k».proof.Proof.K2Value
public import proofs.«01_k».proof.Proof.K3Run
public import proofs.«01_k».proof.Proof.K3Value
public import proofs.«01_k».proof.Proof.K4Run
public import proofs.«01_k».proof.Proof.K4Value
public import proofs.«01_k».proof.Proof.K5Run
public import proofs.«01_k».proof.Proof.K5Value
public import proofs.«01_k».proof.Proof.K6Run
public import proofs.«01_k».proof.Proof.K6Value
public import proofs.«01_k».proof.Proof.K7Run
public import proofs.«01_k».proof.Proof.K7Value
public import proofs.«01_k».proof.Proof.K8Run
public import proofs.«01_k».proof.Proof.K8Value
public import proofs.«01_k».proof.Proof.K9Value
public import proofs.«01_k».proof.Proof.K11Value
public import proofs.«01_k».proof.Proof.Same
public import Idealize.ShloMosaic.Adequacy
public import Idealize.ShloMosaic.Init
public import Idealize.ShloMosaic.Lib.Quiescent

@[expose] public section

noncomputable section

namespace Cert.Proof

open Idealize.ShloMosaic Idealize.SL.Sem Cert.Kernel

theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run _ _ _).mono (fun _ h => ⟨fun c => (h c).2, sem_eq_zero_of_no_sems rfl _⟩) (Cert.ReferenceIdeal.Value.run m g)

/-- The reference's result is the kernel's, of the same arguments. -/
theorem results_eq (m : (ℓ : Loc Cert.KernelIdeal.nD Cert.KernelIdeal.τ Cert.KernelIdeal.sig) → Buf (Elt Ideal) ℓ)
    (g : Dev Cert.KernelIdeal.nD → PrngReg)
    (m' : (ℓ : Loc Cert.ReferenceIdeal.nD Cert.ReferenceIdeal.τ Cert.ReferenceIdeal.sig) → Buf (Elt Ideal) ℓ)
    (hpre : Cert.Pre_KernelIdeal_finite m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.ReferenceIdeal.Value.res_main_v138 m' c = Cert.KernelIdeal.Gen.W3 m g c (Proc.devRef .tc Cert.KernelIdeal.main_v13) := by
  obtain ⟨r0, r1, r3⟩ := Cert.Pre_finite.fn_real _ _ _ _ (hpre c)
  have hK := Cert.KernelIdeal.KV.v13_eq m g c
    (fun b h s d => (Cert.KernelIdeal.KV.aq m c b s h d).toReal) (fun b h s d => (Cert.KernelIdeal.KV.ak m c b s h d).toReal)
    (fun h k => (Cert.KernelIdeal.KV.at' m c k h).toReal)
    (fun b s h d => r0 (ValueIdx.ix4 b s h d)) (fun b s h d => r1 (ValueIdx.ix4 b s h d)) (fun k h => r3 (ValueIdx.ix2 k h))
  rw [Cert.ReferenceIdeal.Read.val_main_v138_eq, h0, h1, h2, h3]
  refine Eq.trans ?_ hK.symm
  funext y
  exact Cert.ReferenceIdeal.RV.v138_at _ _ _ _
    (fun b h s d => (Cert.KernelIdeal.KV.aq m c b s h d).toReal) (fun b h s d => (Cert.KernelIdeal.KV.ak m c b s h d).toReal)
    (fun h k => (Cert.KernelIdeal.KV.at' m c k h).toReal)
    (fun b s h d => r0 (ValueIdx.ix4 b s h d)) (fun b s h d => r1 (ValueIdx.ix4 b s h d)) (fun k h => r3 (ValueIdx.ix2 k h)) y

theorem attention_value : Cert.algebraic_KernelIdeal_ReferenceIdeal_pre_finite := fun m g m' g' hpre hargs =>
  ⟨fun c => Cert.KernelIdeal.Gen.W3 m g c (Proc.devRef .tc Cert.KernelIdeal.main_v13), Cert.KernelIdeal.KV.run m g,
    (θ_run _ _ _).mono (fun _ h c => ⟨(h c).1.trans (results_eq m g m' hpre c (hargs c).1 (hargs c).2.1 (hargs c).2.2.1 (hargs c).2.2.2), (h c).2⟩)
      (Cert.ReferenceIdeal.Value.run m' g')⟩

/-- A function's value at equal arguments. -/
theorem same3 {α β γ δ : Type*} (f : α → β → γ → δ) {a a' : α} {b b' : β} {c c' : γ} (h : a = a') (i : b = b') (j : c = c') : f a b c = f a' b' c' := by rw [h, i, j]
theorem same4 {α β γ δ ε : Type*} (f : α → β → γ → δ → ε) {a a' : α} {b b' : β} {c c' : γ} {d d' : δ} (h : a = a') (i : b = b') (j : c = c') (k : d = d') : f a b c d = f a' b' c' d' := by rw [h, i, j, k]
theorem same2 {α β γ : Type*} (f : α → β → γ) {a a' : α} {b b' : β} (h : a = a') (i : b = b') : f a b = f a' b' := by rw [h, i]
theorem same6 {α β γ δ ε ζ η : Type*} (f : α → β → γ → δ → ε → ζ → η) {a a' : α} {b b' : β} {c c' : γ} {d d' : δ} {e e' : ε} {z z' : ζ} (h : a = a') (i : b = b') (j : c = c') (k : d = d') (l : e = e') (o : z = z') :
    f a b c d e z = f a' b' c' d' e' z' := by rw [h, i, j, k, l, o]

theorem up_value : Cert.algebraic_Kernel2Ideal_Reference2Ideal := fun m g m' g' _ hargs =>
  ⟨fun c => (Kernel2Ideal.KV.dat m c).arrAt 5 Kernel2Ideal.cfg0.N, fun c => (Kernel2Ideal.KV.dat m c).arrAt 6 Kernel2Ideal.cfg0.N,
    (θ_run _ _ _).mono (fun _ h => h.1) (Kernel2Ideal.KV.run m g),
    (θ_run _ _ _).mono (fun _ h c =>
      have a := hargs c
      ⟨(h c).1.trans ((Reference2Ideal.Read.val_main_v17_eq _ _ _ _).trans ((same4 (Reference2Ideal.Read.val_main_v17 (F := Ideal)) a.1 a.2.2.1 a.2.2.2.1 a.2.2.2.2).trans ((Kernel2Ideal.KV.ref_main _ _ _ _).trans (Kernel2Ideal.KV.main_eq m c).symm))),
        (h c).2.1.trans ((Reference2Ideal.Read.val_main_v35_eq _ _ _ _).trans ((same4 (Reference2Ideal.Read.val_main_v35 (F := Ideal)) a.2.1 a.2.2.1 a.2.2.2.1 a.2.2.2.2).trans ((Kernel2Ideal.KV.ref_side _ _ _ _).trans (Kernel2Ideal.KV.side_eq m c).symm))), (h c).2.2⟩)
      (Reference2Ideal.Value.run m' g')⟩

theorem down_value : Cert.algebraic_Kernel3Ideal_Reference3Ideal := fun m g m' g' _ hargs =>
  ⟨fun c => (Kernel3Ideal.KV.dat m c).arrAt 5 Kernel3Ideal.cfg0.N, fun c => (Kernel3Ideal.KV.dat m c).arrAt 6 Kernel3Ideal.cfg0.N,
    (θ_run _ _ _).mono (fun _ h => h.1) (Kernel3Ideal.KV.run m g),
    (θ_run _ _ _).mono (fun _ h c =>
      have a := hargs c
      ⟨(h c).1.trans ((Reference3Ideal.Read.val_main_v2_eq _ _ _).trans ((same3 (Reference3Ideal.Read.val_main_v2 (F := Ideal)) a.1 a.2.2.1 a.2.2.2.2).trans ((Kernel3Ideal.KV.ref_main _ _ _).trans (Kernel3Ideal.KV.main_eq m c).symm))),
        (h c).2.1.trans ((Reference3Ideal.Read.val_main_v5_eq _ _ _).trans ((same3 (Reference3Ideal.Read.val_main_v5 (F := Ideal)) a.2.1 a.2.2.2.1 a.2.2.2.2).trans ((Kernel3Ideal.KV.ref_side _ _ _).trans (Kernel3Ideal.KV.side_eq m c).symm))), (h c).2.2⟩)
      (Reference3Ideal.Value.run m' g')⟩

theorem glu_value : Cert.algebraic_Kernel4Ideal_Reference4Ideal := fun m g m' g' _ hargs =>
  ⟨fun c => (Kernel4Ideal.KV.dat m c).arrAt 7 Kernel4Ideal.cfg0.N, fun c => (Kernel4Ideal.KV.dat m c).arrAt 8 Kernel4Ideal.cfg0.N,
    (θ_run _ _ _).mono (fun _ h => h.1) (Kernel4Ideal.KV.run m g),
    (θ_run _ _ _).mono (fun _ h c =>
      have a := hargs c
      ⟨(h c).1.trans ((Reference4Ideal.Read.val_main_v25_eq _ _ _ _).trans ((same4 (Reference4Ideal.Read.val_main_v25 (F := Ideal)) a.1 a.2.2.1 a.2.2.2.1 a.2.2.2.2).trans ((Kernel4Ideal.KV.ref_main _ _ _ _).trans (Kernel4Ideal.KV.main_eq m c).symm))),
        (h c).2.1.trans ((Reference4Ideal.Read.val_main_v51_eq _ _ _ _).trans ((same4 (Reference4Ideal.Read.val_main_v51 (F := Ideal)) a.2.1 a.2.2.1 a.2.2.2.1 a.2.2.2.2).trans ((Kernel4Ideal.KV.ref_side _ _ _ _).trans (Kernel4Ideal.KV.side_eq m c).symm))), (h c).2.2⟩)
      (Reference4Ideal.Value.run m' g')⟩

theorem key_value : Cert.algebraic_Kernel5Ideal_Reference5Ideal := fun m g m' g' _ hargs =>
  ⟨fun c => (Kernel5Ideal.KV.dat m c).arrAt 4 Kernel5Ideal.cfg0.N, fun c => (Kernel5Ideal.KV.dat m c).arrAt 5 Kernel5Ideal.cfg0.N, fun c => (Kernel5Ideal.KV.dat m c).arrAt 6 Kernel5Ideal.cfg0.N,
    (θ_run _ _ _).mono (fun _ h => h.1) (Kernel5Ideal.KV.run m g),
    (θ_run _ _ _).mono (fun _ h c =>
      have a := hargs c
      ⟨(h c).1.trans ((Reference5Ideal.Read.val_main_v14_eq _ _ _).trans ((same3 (Reference5Ideal.Read.val_main_v14 (F := Ideal)) a.1 a.2.2.1 a.2.2.2).trans ((Kernel5Ideal.KV.ref_heads _ _ _).trans (Kernel5Ideal.KV.heads_eq m c).symm))),
        (h c).2.1.trans ((Reference5Ideal.Read.val_main_v15_eq _ _ _).trans ((same3 (Reference5Ideal.Read.val_main_v15 (F := Ideal)) a.1 a.2.2.1 a.2.2.2).trans ((Kernel5Ideal.KV.ref_main _ _ _).trans (Kernel5Ideal.KV.main_eq m c).symm))),
        (h c).2.2.1.trans ((Reference5Ideal.Read.val_main_v29_eq _ _ _).trans ((same3 (Reference5Ideal.Read.val_main_v29 (F := Ideal)) a.2.1 a.2.2.1 a.2.2.2).trans ((Kernel5Ideal.KV.ref_side _ _ _).trans (Kernel5Ideal.KV.side_eq m c).symm))), (h c).2.2.2⟩)
      (Reference5Ideal.Value.run m' g')⟩

theorem proj_value : Cert.algebraic_Kernel6Ideal_Reference6Ideal := fun m g m' g' _ hargs =>
  ⟨fun c => (Kernel6Ideal.KV.dat m c).arrAt 5 Kernel6Ideal.cfg0.N, fun c => (Kernel6Ideal.KV.dat m c).arrAt 6 Kernel6Ideal.cfg0.N,
    (θ_run _ _ _).mono (fun _ h => h.1) (Kernel6Ideal.KV.run m g),
    (θ_run _ _ _).mono (fun _ h c =>
      have a := hargs c
      ⟨(h c).1.trans ((Reference6Ideal.Read.val_main_v2_eq _ _ _).trans ((same3 (Reference6Ideal.Read.val_main_v2 (F := Ideal)) a.1 a.2.2.1 a.2.2.2.2).trans ((Kernel6Ideal.KV.ref_main _ _ _).trans (Kernel6Ideal.KV.main_eq m c).symm))),
        (h c).2.1.trans ((Reference6Ideal.Read.val_main_v5_eq _ _ _).trans ((same3 (Reference6Ideal.Read.val_main_v5 (F := Ideal)) a.2.1 a.2.2.2.1 a.2.2.2.2).trans ((Kernel6Ideal.KV.ref_side _ _ _).trans (Kernel6Ideal.KV.side_eq m c).symm))), (h c).2.2⟩)
      (Reference6Ideal.Value.run m' g')⟩

theorem convout_value : Cert.algebraic_Kernel7Ideal_Reference7Ideal := fun m g m' g' _ hargs =>
  ⟨fun c => (Kernel7Ideal.KV.dat m c).arrAt 6 Kernel7Ideal.cfg0.N, fun c => (Kernel7Ideal.KV.dat m c).arrAt 7 Kernel7Ideal.cfg0.N,
    (θ_run _ _ _).mono (fun _ h => h.1) (Kernel7Ideal.KV.run m g),
    (θ_run _ _ _).mono (fun _ h c =>
      have a := hargs c
      ⟨(h c).1.trans ((Reference7Ideal.Read.val_main_v5_eq _ _ _ _).trans ((same4 (Reference7Ideal.Read.val_main_v5 (F := Ideal)) a.1 a.2.2.1 a.2.2.2.2.1 a.2.2.2.2.2).trans ((Kernel7Ideal.KV.ref_main _ _ _ _).trans (Kernel7Ideal.KV.main_eq m c).symm))),
        (h c).2.1.trans ((Reference7Ideal.Read.val_main_v11_eq _ _ _ _).trans ((same4 (Reference7Ideal.Read.val_main_v11 (F := Ideal)) a.2.1 a.2.2.2.1 a.2.2.2.2.1 a.2.2.2.2.2).trans ((Kernel7Ideal.KV.ref_side _ _ _ _).trans (Kernel7Ideal.KV.side_eq m c).symm))), (h c).2.2⟩)
      (Reference7Ideal.Value.run m' g')⟩

theorem query_value : Cert.algebraic_Kernel8Ideal_Reference8Ideal := fun m g m' g' _ hargs =>
  ⟨fun c => (Kernel8Ideal.KV.dat m c).arrAt 4 Kernel8Ideal.cfg0.N, fun c => (Kernel8Ideal.KV.dat m c).arrAt 5 Kernel8Ideal.cfg0.N,
    (θ_run _ _ _).mono (fun _ h => h.1) (Kernel8Ideal.KV.run m g),
    (θ_run _ _ _).mono (fun _ h c =>
      have a := hargs c
      ⟨(h c).1.trans ((Reference8Ideal.Read.val_main_v13_eq _ _ _).trans ((same3 (Reference8Ideal.Read.val_main_v13 (F := Ideal)) a.1 a.2.2.1 a.2.2.2).trans ((Kernel8Ideal.KV.ref_main _ _ _).trans (Kernel8Ideal.KV.main_eq m c).symm))),
        (h c).2.1.trans ((Reference8Ideal.Read.val_main_v27_eq _ _ _).trans ((same3 (Reference8Ideal.Read.val_main_v27 (F := Ideal)) a.2.1 a.2.2.1 a.2.2.2).trans ((Kernel8Ideal.KV.ref_side _ _ _).trans (Kernel8Ideal.KV.side_eq m c).symm))), (h c).2.2⟩)
      (Reference8Ideal.Value.run m' g')⟩

theorem norm_value : Cert.algebraic_Kernel9Ideal_Reference9Ideal := fun m g m' g' _ hargs =>
  ⟨fun c => (Kernel9Ideal.Gen.dats m 0 c).arrAt 2 Kernel9Ideal.cfg0.N,
    (θ_run _ _ _).mono (fun _ h c => ⟨(h.2 c).1 2, h.1 c⟩) (θ_run_and (Kernel9Ideal.Gen.unchanged m g) (Kernel9Ideal.Gen.run_main m g)),
    (θ_run _ _ _).mono (fun _ h c =>
      have a := hargs c
      ⟨(h c).1.trans ((Reference9Ideal.Read.val_main_v12_eq _ _).trans ((same2 (Reference9Ideal.Read.val_main_v12 (F := Ideal)) a.1 a.2).trans ((Kernel9Ideal.KV.ref_main _ _).trans (Kernel9Ideal.KV.main_eq m c).symm))), (h c).2⟩)
      (Reference9Ideal.Value.run m' g')⟩

theorem norms_value : Cert.algebraic_Kernel10Ideal_Reference10Ideal := fun m g m' g' _ hargs =>
  ⟨fun c => (Kernel10Ideal.Gen.dats m 0 c).arrAt 2 Kernel10Ideal.cfg0.N,
    (θ_run _ _ _).mono (fun _ h c => ⟨(h.2 c).1 2, h.1 c⟩) (θ_run_and (Kernel10Ideal.Gen.unchanged m g) (Kernel10Ideal.Gen.run_main m g)),
    (θ_run _ _ _).mono (fun _ h c =>
      have a := hargs c
      ⟨(h c).1.trans ((Reference10Ideal.Read.val_main_v12_eq _ _).trans ((same2 (Reference10Ideal.Read.val_main_v12 (F := Ideal)) a.1 a.2).trans ((Kernel10Ideal.KV.ref_main _ _).trans (Kernel10Ideal.KV.main_eq m c).symm))), (h c).2⟩)
      (Reference10Ideal.Value.run m' g')⟩

theorem step_value : Cert.algebraic_Kernel11Ideal_Reference11Ideal := fun m g m' g' _ hargs =>
  ⟨fun c => (Kernel11Ideal.Gen.dats m 0 c).arrAt 6 Kernel11Ideal.cfg0.N,
    (θ_run _ _ _).mono (fun _ h c => ⟨(h.2 c).1 6, h.1 c⟩) (θ_run_and (Kernel11Ideal.Gen.unchanged m g) (Kernel11Ideal.Gen.run_main m g)),
    (θ_run _ _ _).mono (fun _ h c =>
      have a := hargs c
      ⟨(h c).1.trans ((Reference11Ideal.Read.val_main_v32_eq _ _).trans ((same6 (Reference11Ideal.Read.val_main_v32 (F := Ideal)) a.1 a.2.1 a.2.2.1 a.2.2.2.1 a.2.2.2.2.1 a.2.2.2.2.2).trans ((Kernel11Ideal.KV.ref_main _ _ _ _ _ _).trans (Kernel11Ideal.KV.main_eq m c).symm))), (h c).2⟩)
      (Reference11Ideal.Value.run m' g')⟩

theorem claim : Cert.Claim := ⟨Cert.Kernel.Gen.facts,
  Cert.KernelIdeal.Gen.facts,
  Cert.ReferenceIdeal.Gen.facts,
  Cert.Kernel2.Gen.facts,
  Cert.Kernel2Ideal.Gen.facts,
  Cert.Reference2Ideal.Gen.facts,
  Cert.Kernel3.Gen.facts,
  Cert.Kernel3Ideal.Gen.facts,
  Cert.Reference3Ideal.Gen.facts,
  Cert.Kernel4.Gen.facts,
  Cert.Kernel4Ideal.Gen.facts,
  Cert.Reference4Ideal.Gen.facts,
  Cert.Kernel5.Gen.facts,
  Cert.Kernel5Ideal.Gen.facts,
  Cert.Reference5Ideal.Gen.facts,
  Cert.Kernel6.Gen.facts,
  Cert.Kernel6Ideal.Gen.facts,
  Cert.Reference6Ideal.Gen.facts,
  Cert.Kernel7.Gen.facts,
  Cert.Kernel7Ideal.Gen.facts,
  Cert.Reference7Ideal.Gen.facts,
  Cert.Kernel8.Gen.facts,
  Cert.Kernel8Ideal.Gen.facts,
  Cert.Reference8Ideal.Gen.facts,
  Cert.Kernel9.Gen.facts,
  Cert.Kernel9Ideal.Gen.facts,
  Cert.Reference9Ideal.Gen.facts,
  Cert.Kernel10.Gen.facts,
  Cert.Kernel10Ideal.Gen.facts,
  Cert.Reference10Ideal.Gen.facts,
  Cert.Kernel11.Gen.facts,
  Cert.Kernel11Ideal.Gen.facts,
  Cert.Reference11Ideal.Gen.facts,
  Cert.Pre_finite.Gen.facts,
  fun m g _ => Cert.Kernel.Gen.frame m g,
  fun m g _ => Cert.KernelIdeal.Gen.frame m g,
  fun m g _ => Cert.KernelIdeal.Gen.frame m g,
  fun m g _ => reference_frame m g,
  fun m g _ => reference_frame m g,
  fun m g _ => Cert.Kernel2Ideal.KV.frameBits m g,
  fun m g _ => (θ_run _ _ _).mono (fun _ h => ⟨fun c => (h.1 c).2.2, h.2⟩) (Cert.Kernel2Ideal.KV.run m g),
  fun m g _ => Reference2Ideal.frame0 m g,
  fun m g _ => Cert.Kernel3Ideal.KV.frameBits m g,
  fun m g _ => (θ_run _ _ _).mono (fun _ h => ⟨fun c => (h.1 c).2.2, h.2⟩) (Cert.Kernel3Ideal.KV.run m g),
  fun m g _ => Reference3Ideal.frame0 m g,
  fun m g _ => Cert.Kernel4Ideal.KV.frameBits m g,
  fun m g _ => (θ_run _ _ _).mono (fun _ h => ⟨fun c => (h.1 c).2.2, h.2⟩) (Cert.Kernel4Ideal.KV.run m g),
  fun m g _ => Reference4Ideal.frame0 m g,
  fun m g _ => Cert.Kernel5Ideal.KV.frameBits m g,
  fun m g _ => (θ_run _ _ _).mono (fun _ h => ⟨fun c => (h.1 c).2.2.2, h.2⟩) (Cert.Kernel5Ideal.KV.run m g),
  fun m g _ => Reference5Ideal.frame0 m g,
  fun m g _ => Cert.Kernel6Ideal.KV.frameBits m g,
  fun m g _ => (θ_run _ _ _).mono (fun _ h => ⟨fun c => (h.1 c).2.2, h.2⟩) (Cert.Kernel6Ideal.KV.run m g),
  fun m g _ => Reference6Ideal.frame0 m g,
  fun m g _ => Cert.Kernel7Ideal.KV.frameBits m g,
  fun m g _ => (θ_run _ _ _).mono (fun _ h => ⟨fun c => (h.1 c).2.2, h.2⟩) (Cert.Kernel7Ideal.KV.run m g),
  fun m g _ => Reference7Ideal.frame0 m g,
  fun m g _ => Cert.Kernel8Ideal.KV.frameBits m g,
  fun m g _ => (θ_run _ _ _).mono (fun _ h => ⟨fun c => (h.1 c).2.2, h.2⟩) (Cert.Kernel8Ideal.KV.run m g),
  fun m g _ => Reference8Ideal.frame0 m g,
  fun m g _ => Cert.Kernel9.Gen.frame m g,
  fun m g _ => Cert.Kernel9Ideal.Gen.frame m g,
  fun m g _ => Reference9Ideal.frame0 m g,
  fun m g _ => Cert.Kernel10.Gen.frame m g,
  fun m g _ => Cert.Kernel10Ideal.Gen.frame m g,
  fun m g _ => Reference10Ideal.frame0 m g,
  fun m g _ => Cert.Kernel11.Gen.frame m g,
  fun m g _ => Cert.Kernel11Ideal.Gen.frame m g,
  fun m g _ => Reference11Ideal.frame0 m g,
  ⟨IdealRules.named_const.statement Cert.KernelIdeal.κ "log2e" .f32 0x3FB8AA3B#32 (((Real.log 2)⁻¹ : ℝ) : EReal) rfl,
   IdealRules.named_const.statement Cert.KernelIdeal.κ "mask" .f32 0xF149F2CA#32 ⊥ rfl⟩,
  attention_value,
  trivial,
  up_value,
  trivial,
  down_value,
  trivial,
  glu_value,
  trivial,
  key_value,
  trivial,
  proj_value,
  trivial,
  convout_value,
  trivial,
  query_value,
  trivial,
  norm_value,
  trivial,
  norms_value,
  trivial,
  step_value⟩

end Cert.Proof

end
